-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDwdown (m : (ℓ : Loc Cert.KernelDwdown.nD Cert.KernelDwdown.τ Cert.KernelDwdown.sig) → Buf (Elt Bits) ℓ) : Prop :=
  True

def Pre_KernelDwdownIdeal (m : (ℓ : Loc Cert.KernelDwdownIdeal.nD Cert.KernelDwdownIdeal.τ Cert.KernelDwdownIdeal.sig) → Buf (Elt Ideal) ℓ) : Prop :=
  True

def Pre_ReferenceDwdownIdeal (m : (ℓ : Loc Cert.ReferenceDwdownIdeal.nD Cert.ReferenceDwdownIdeal.τ Cert.ReferenceDwdownIdeal.sig) → Buf (Elt Ideal) ℓ) : Prop :=
  True

def Pre_KernelDwgate (m : (ℓ : Loc Cert.KernelDwgate.nD Cert.KernelDwgate.τ Cert.KernelDwgate.sig) → Buf (Elt Bits) ℓ) : Prop :=
  True

def Pre_KernelDwgateIdeal (m : (ℓ : Loc Cert.KernelDwgateIdeal.nD Cert.KernelDwgateIdeal.τ Cert.KernelDwgateIdeal.sig) → Buf (Elt Ideal) ℓ) : Prop :=
  True

def Pre_ReferenceDwgateIdeal (m : (ℓ : Loc Cert.ReferenceDwgateIdeal.nD Cert.ReferenceDwgateIdeal.τ Cert.ReferenceDwgateIdeal.sig) → Buf (Elt Ideal) ℓ) : Prop :=
  True

def Pre_KernelDwup (m : (ℓ : Loc Cert.KernelDwup.nD Cert.KernelDwup.τ Cert.KernelDwup.sig) → Buf (Elt Bits) ℓ) : Prop :=
  True

def Pre_KernelDwupIdeal (m : (ℓ : Loc Cert.KernelDwupIdeal.nD Cert.KernelDwupIdeal.τ Cert.KernelDwupIdeal.sig) → Buf (Elt Ideal) ℓ) : Prop :=
  True

def Pre_ReferenceDwupIdeal (m : (ℓ : Loc Cert.ReferenceDwupIdeal.nD Cert.ReferenceDwupIdeal.τ Cert.ReferenceDwupIdeal.sig) → Buf (Elt Ideal) ℓ) : Prop :=
  True

def Pre_KernelRetIn (m : (ℓ : Loc Cert.KernelRetIn.nD Cert.KernelRetIn.τ Cert.KernelRetIn.sig) → Buf (Elt Bits) ℓ) : Prop :=
  True

def Pre_KernelRetInIdeal (m : (ℓ : Loc Cert.KernelRetInIdeal.nD Cert.KernelRetInIdeal.τ Cert.KernelRetInIdeal.sig) → Buf (Elt Ideal) ℓ) : Prop :=
  True

def Pre_ReferenceRetInIdeal (m : (ℓ : Loc Cert.ReferenceRetInIdeal.nD Cert.ReferenceRetInIdeal.τ Cert.ReferenceRetInIdeal.sig) → Buf (Elt Ideal) ℓ) : Prop :=
  True

def Pre_KernelRetOut (m : (ℓ : Loc Cert.KernelRetOut.nD Cert.KernelRetOut.τ Cert.KernelRetOut.sig) → Buf (Elt Bits) ℓ) : Prop :=
  True

def Pre_KernelRetOutIdeal (m : (ℓ : Loc Cert.KernelRetOutIdeal.nD Cert.KernelRetOutIdeal.τ Cert.KernelRetOutIdeal.sig) → Buf (Elt Ideal) ℓ) : Prop :=
  True

def Pre_ReferenceRetOutIdeal (m : (ℓ : Loc Cert.ReferenceRetOutIdeal.nD Cert.ReferenceRetOutIdeal.τ Cert.ReferenceRetOutIdeal.sig) → Buf (Elt Ideal) ℓ) : Prop :=
  True

def Pre_KernelRetDgated (m : (ℓ : Loc Cert.KernelRetDgated.nD Cert.KernelRetDgated.τ Cert.KernelRetDgated.sig) → Buf (Elt Bits) ℓ) : Prop :=
  True

def Pre_KernelRetDgatedIdeal (m : (ℓ : Loc Cert.KernelRetDgatedIdeal.nD Cert.KernelRetDgatedIdeal.τ Cert.KernelRetDgatedIdeal.sig) → Buf (Elt Ideal) ℓ) : Prop :=
  True

def Pre_ReferenceRetDgatedIdeal (m : (ℓ : Loc Cert.ReferenceRetDgatedIdeal.nD Cert.ReferenceRetDgatedIdeal.τ Cert.ReferenceRetDgatedIdeal.sig) → Buf (Elt Ideal) ℓ) : Prop :=
  True

def Pre_KernelRetDx (m : (ℓ : Loc Cert.KernelRetDx.nD Cert.KernelRetDx.τ Cert.KernelRetDx.sig) → Buf (Elt Bits) ℓ) : Prop :=
  True

def Pre_KernelRetDxIdeal (m : (ℓ : Loc Cert.KernelRetDxIdeal.nD Cert.KernelRetDxIdeal.τ Cert.KernelRetDxIdeal.sig) → Buf (Elt Ideal) ℓ) : Prop :=
  True

def Pre_ReferenceRetDxIdeal (m : (ℓ : Loc Cert.ReferenceRetDxIdeal.nD Cert.ReferenceRetDxIdeal.τ Cert.ReferenceRetDxIdeal.sig) → Buf (Elt Ideal) ℓ) : Prop :=
  True

def Pre_KernelLruIn (m : (ℓ : Loc Cert.KernelLruIn.nD Cert.KernelLruIn.τ Cert.KernelLruIn.sig) → Buf (Elt Bits) ℓ) : Prop :=
  True

def Pre_KernelLruInIdeal (m : (ℓ : Loc Cert.KernelLruInIdeal.nD Cert.KernelLruInIdeal.τ Cert.KernelLruInIdeal.sig) → Buf (Elt Ideal) ℓ) : Prop :=
  True

def Pre_ReferenceLruInIdeal (m : (ℓ : Loc Cert.ReferenceLruInIdeal.nD Cert.ReferenceLruInIdeal.τ Cert.ReferenceLruInIdeal.sig) → Buf (Elt Ideal) ℓ) : Prop :=
  True

def Pre_KernelLruOut (m : (ℓ : Loc Cert.KernelLruOut.nD Cert.KernelLruOut.τ Cert.KernelLruOut.sig) → Buf (Elt Bits) ℓ) : Prop :=
  True

def Pre_KernelLruOutIdeal (m : (ℓ : Loc Cert.KernelLruOutIdeal.nD Cert.KernelLruOutIdeal.τ Cert.KernelLruOutIdeal.sig) → Buf (Elt Ideal) ℓ) : Prop :=
  True

def Pre_ReferenceLruOutIdeal (m : (ℓ : Loc Cert.ReferenceLruOutIdeal.nD Cert.ReferenceLruOutIdeal.τ Cert.ReferenceLruOutIdeal.sig) → Buf (Elt Ideal) ℓ) : Prop :=
  True

def Pre_KernelDmix (m : (ℓ : Loc Cert.KernelDmix.nD Cert.KernelDmix.τ Cert.KernelDmix.sig) → Buf (Elt Bits) ℓ) : Prop :=
  True

def Pre_KernelDmixIdeal (m : (ℓ : Loc Cert.KernelDmixIdeal.nD Cert.KernelDmixIdeal.τ Cert.KernelDmixIdeal.sig) → Buf (Elt Ideal) ℓ) : Prop :=
  True

def Pre_ReferenceDmixIdeal (m : (ℓ : Loc Cert.ReferenceDmixIdeal.nD Cert.ReferenceDmixIdeal.τ Cert.ReferenceDmixIdeal.sig) → Buf (Elt Ideal) ℓ) : Prop :=
  True

def Pre_KernelLruDx (m : (ℓ : Loc Cert.KernelLruDx.nD Cert.KernelLruDx.τ Cert.KernelLruDx.sig) → Buf (Elt Bits) ℓ) : Prop :=
  True

def Pre_KernelLruDxIdeal (m : (ℓ : Loc Cert.KernelLruDxIdeal.nD Cert.KernelLruDxIdeal.τ Cert.KernelLruDxIdeal.sig) → Buf (Elt Ideal) ℓ) : Prop :=
  True

def Pre_ReferenceLruDxIdeal (m : (ℓ : Loc Cert.ReferenceLruDxIdeal.nD Cert.ReferenceLruDxIdeal.τ Cert.ReferenceLruDxIdeal.sig) → Buf (Elt Ideal) ℓ) : Prop :=
  True

def Pre_KernelMlaIn (m : (ℓ : Loc Cert.KernelMlaIn.nD Cert.KernelMlaIn.τ Cert.KernelMlaIn.sig) → Buf (Elt Bits) ℓ) : Prop :=
  True

def Pre_KernelMlaInIdeal (m : (ℓ : Loc Cert.KernelMlaInIdeal.nD Cert.KernelMlaInIdeal.τ Cert.KernelMlaInIdeal.sig) → Buf (Elt Ideal) ℓ) : Prop :=
  True

def Pre_ReferenceMlaInIdeal (m : (ℓ : Loc Cert.ReferenceMlaInIdeal.nD Cert.ReferenceMlaInIdeal.τ Cert.ReferenceMlaInIdeal.sig) → Buf (Elt Ideal) ℓ) : Prop :=
  True

def Pre_KernelMlaUq (m : (ℓ : Loc Cert.KernelMlaUq.nD Cert.KernelMlaUq.τ Cert.KernelMlaUq.sig) → Buf (Elt Bits) ℓ) : Prop :=
  True

def Pre_KernelMlaUqIdeal (m : (ℓ : Loc Cert.KernelMlaUqIdeal.nD Cert.KernelMlaUqIdeal.τ Cert.KernelMlaUqIdeal.sig) → Buf (Elt Ideal) ℓ) : Prop :=
  True

def Pre_ReferenceMlaUqIdeal (m : (ℓ : Loc Cert.ReferenceMlaUqIdeal.nD Cert.ReferenceMlaUqIdeal.τ Cert.ReferenceMlaUqIdeal.sig) → Buf (Elt Ideal) ℓ) : Prop :=
  True

def Pre_KernelMlaUkv (m : (ℓ : Loc Cert.KernelMlaUkv.nD Cert.KernelMlaUkv.τ Cert.KernelMlaUkv.sig) → Buf (Elt Bits) ℓ) : Prop :=
  True

def Pre_KernelMlaUkvIdeal (m : (ℓ : Loc Cert.KernelMlaUkvIdeal.nD Cert.KernelMlaUkvIdeal.τ Cert.KernelMlaUkvIdeal.sig) → Buf (Elt Ideal) ℓ) : Prop :=
  True

def Pre_ReferenceMlaUkvIdeal (m : (ℓ : Loc Cert.ReferenceMlaUkvIdeal.nD Cert.ReferenceMlaUkvIdeal.τ Cert.ReferenceMlaUkvIdeal.sig) → Buf (Elt Ideal) ℓ) : Prop :=
  True

def Pre_KernelMlaOut (m : (ℓ : Loc Cert.KernelMlaOut.nD Cert.KernelMlaOut.τ Cert.KernelMlaOut.sig) → Buf (Elt Bits) ℓ) : Prop :=
  True

def Pre_KernelMlaOutIdeal (m : (ℓ : Loc Cert.KernelMlaOutIdeal.nD Cert.KernelMlaOutIdeal.τ Cert.KernelMlaOutIdeal.sig) → Buf (Elt Ideal) ℓ) : Prop :=
  True

def Pre_ReferenceMlaOutIdeal (m : (ℓ : Loc Cert.ReferenceMlaOutIdeal.nD Cert.ReferenceMlaOutIdeal.τ Cert.ReferenceMlaOutIdeal.sig) → Buf (Elt Ideal) ℓ) : Prop :=
  True

def Pre_KernelMlaDqn (m : (ℓ : Loc Cert.KernelMlaDqn.nD Cert.KernelMlaDqn.τ Cert.KernelMlaDqn.sig) → Buf (Elt Bits) ℓ) : Prop :=
  True

def Pre_KernelMlaDqnIdeal (m : (ℓ : Loc Cert.KernelMlaDqnIdeal.nD Cert.KernelMlaDqnIdeal.τ Cert.KernelMlaDqnIdeal.sig) → Buf (Elt Ideal) ℓ) : Prop :=
  True

def Pre_ReferenceMlaDqnIdeal (m : (ℓ : Loc Cert.ReferenceMlaDqnIdeal.nD Cert.ReferenceMlaDqnIdeal.τ Cert.ReferenceMlaDqnIdeal.sig) → Buf (Elt Ideal) ℓ) : Prop :=
  True

def Pre_KernelMlaDkvn (m : (ℓ : Loc Cert.KernelMlaDkvn.nD Cert.KernelMlaDkvn.τ Cert.KernelMlaDkvn.sig) → Buf (Elt Bits) ℓ) : Prop :=
  True

def Pre_KernelMlaDkvnIdeal (m : (ℓ : Loc Cert.KernelMlaDkvnIdeal.nD Cert.KernelMlaDkvnIdeal.τ Cert.KernelMlaDkvnIdeal.sig) → Buf (Elt Ideal) ℓ) : Prop :=
  True

def Pre_ReferenceMlaDkvnIdeal (m : (ℓ : Loc Cert.ReferenceMlaDkvnIdeal.nD Cert.ReferenceMlaDkvnIdeal.τ Cert.ReferenceMlaDkvnIdeal.sig) → Buf (Elt Ideal) ℓ) : Prop :=
  True

def Pre_KernelRetDwk (m : (ℓ : Loc Cert.KernelRetDwk.nD Cert.KernelRetDwk.τ Cert.KernelRetDwk.sig) → Buf (Elt Bits) ℓ) : Prop :=
  True

def Pre_KernelRetDwkIdeal (m : (ℓ : Loc Cert.KernelRetDwkIdeal.nD Cert.KernelRetDwkIdeal.τ Cert.KernelRetDwkIdeal.sig) → Buf (Elt Ideal) ℓ) : Prop :=
  True

def Pre_ReferenceRetDwkIdeal (m : (ℓ : Loc Cert.ReferenceRetDwkIdeal.nD Cert.ReferenceRetDwkIdeal.τ Cert.ReferenceRetDwkIdeal.sig) → Buf (Elt Ideal) ℓ) : Prop :=
  True

def Pre_KernelRetDwv (m : (ℓ : Loc Cert.KernelRetDwv.nD Cert.KernelRetDwv.τ Cert.KernelRetDwv.sig) → Buf (Elt Bits) ℓ) : Prop :=
  True

def Pre_KernelRetDwvIdeal (m : (ℓ : Loc Cert.KernelRetDwvIdeal.nD Cert.KernelRetDwvIdeal.τ Cert.KernelRetDwvIdeal.sig) → Buf (Elt Ideal) ℓ) : Prop :=
  True

def Pre_ReferenceRetDwvIdeal (m : (ℓ : Loc Cert.ReferenceRetDwvIdeal.nD Cert.ReferenceRetDwvIdeal.τ Cert.ReferenceRetDwvIdeal.sig) → Buf (Elt Ideal) ℓ) : Prop :=
  True

def Pre_KernelRetDwg (m : (ℓ : Loc Cert.KernelRetDwg.nD Cert.KernelRetDwg.τ Cert.KernelRetDwg.sig) → Buf (Elt Bits) ℓ) : Prop :=
  True

def Pre_KernelRetDwgIdeal (m : (ℓ : Loc Cert.KernelRetDwgIdeal.nD Cert.KernelRetDwgIdeal.τ Cert.KernelRetDwgIdeal.sig) → Buf (Elt Ideal) ℓ) : Prop :=
  True

def Pre_ReferenceRetDwgIdeal (m : (ℓ : Loc Cert.ReferenceRetDwgIdeal.nD Cert.ReferenceRetDwgIdeal.τ Cert.ReferenceRetDwgIdeal.sig) → Buf (Elt Ideal) ℓ) : Prop :=
  True

def Pre_KernelLruDwout (m : (ℓ : Loc Cert.KernelLruDwout.nD Cert.KernelLruDwout.τ Cert.KernelLruDwout.sig) → Buf (Elt Bits) ℓ) : Prop :=
  True

def Pre_KernelLruDwoutIdeal (m : (ℓ : Loc Cert.KernelLruDwoutIdeal.nD Cert.KernelLruDwoutIdeal.τ Cert.KernelLruDwoutIdeal.sig) → Buf (Elt Ideal) ℓ) : Prop :=
  True

def Pre_ReferenceLruDwoutIdeal (m : (ℓ : Loc Cert.ReferenceLruDwoutIdeal.nD Cert.ReferenceLruDwoutIdeal.τ Cert.ReferenceLruDwoutIdeal.sig) → Buf (Elt Ideal) ℓ) : Prop :=
  True

def Pre_KernelLruDwg (m : (ℓ : Loc Cert.KernelLruDwg.nD Cert.KernelLruDwg.τ Cert.KernelLruDwg.sig) → Buf (Elt Bits) ℓ) : Prop :=
  True

def Pre_KernelLruDwgIdeal (m : (ℓ : Loc Cert.KernelLruDwgIdeal.nD Cert.KernelLruDwgIdeal.τ Cert.KernelLruDwgIdeal.sig) → Buf (Elt Ideal) ℓ) : Prop :=
  True

def Pre_ReferenceLruDwgIdeal (m : (ℓ : Loc Cert.ReferenceLruDwgIdeal.nD Cert.ReferenceLruDwgIdeal.τ Cert.ReferenceLruDwgIdeal.sig) → Buf (Elt Ideal) ℓ) : Prop :=
  True

def Pre_KernelLruDwr (m : (ℓ : Loc Cert.KernelLruDwr.nD Cert.KernelLruDwr.τ Cert.KernelLruDwr.sig) → Buf (Elt Bits) ℓ) : Prop :=
  True

def Pre_KernelLruDwrIdeal (m : (ℓ : Loc Cert.KernelLruDwrIdeal.nD Cert.KernelLruDwrIdeal.τ Cert.KernelLruDwrIdeal.sig) → Buf (Elt Ideal) ℓ) : Prop :=
  True

def Pre_ReferenceLruDwrIdeal (m : (ℓ : Loc Cert.ReferenceLruDwrIdeal.nD Cert.ReferenceLruDwrIdeal.τ Cert.ReferenceLruDwrIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2))
      ∧ r.2.sem = fun _ => 0)

def quiescent_KernelDwdown [hKernelDwdown : Cert.KernelDwdown.Facts] : Prop :=
  ∀ (m : (ℓ : Loc Cert.KernelDwdown.nD Cert.KernelDwdown.τ Cert.KernelDwdown.sig) → Buf (Elt Bits) ℓ) (g : Dev Cert.KernelDwdown.nD → PrngReg), Pre_KernelDwdown m →
    θ_run (Cert.KernelDwdown.defs (F := Bits)) (onTc (τ := Cert.KernelDwdown.τ) (Cert.KernelDwdown.main (F := Bits))) ⟨m, fun _ => 0, g⟩ (fun r => (∀ c : Dev Cert.KernelDwdown.nD,
      r.2.mem ((c.tc : Thread Cert.KernelDwdown.nD Cert.KernelDwdown.τ).loc Cert.KernelDwdown.main_arg0) = m ((c.tc : Thread Cert.KernelDwdown.nD Cert.KernelDwdown.τ).loc Cert.KernelDwdown.main_arg0)
      ∧ r.2.mem ((c.tc : Thread Cert.KernelDwdown.nD Cert.KernelDwdown.τ).loc Cert.KernelDwdown.main_arg1) = m ((c.tc : Thread Cert.KernelDwdown.nD Cert.KernelDwdown.τ).loc Cert.KernelDwdown.main_arg1)
      ∧ r.2.mem ((c.tc : Thread Cert.KernelDwdown.nD Cert.KernelDwdown.τ).loc Cert.KernelDwdown.main_arg2) = m ((c.tc : Thread Cert.KernelDwdown.nD Cert.KernelDwdown.τ).loc Cert.KernelDwdown.main_arg2)
      ∧ r.2.mem ((c.tc : Thread Cert.KernelDwdown.nD Cert.KernelDwdown.τ).loc Cert.KernelDwdown.main_arg3) = m ((c.tc : Thread Cert.KernelDwdown.nD Cert.KernelDwdown.τ).loc Cert.KernelDwdown.main_arg3))
      ∧ r.2.sem = fun _ => 0)

def quiescent_KernelDwdownIdeal [hKernelDwdownIdeal : Cert.KernelDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg), Pre_KernelDwdownIdeal m →
    θ_run (Cert.KernelDwdownIdeal.defs (F := Ideal)) (onTc (τ := Cert.KernelDwdownIdeal.τ) (Cert.KernelDwdownIdeal.main (F := Ideal))) ⟨m, fun _ => 0, g⟩ (fun r => (∀ c : Dev Cert.KernelDwdownIdeal.nD,
      r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
      ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1)
      ∧ r.2.mem ((c.tc : Thread Cert.KernelDwdownIdeal.nD Cert.KernelDwdownIdeal.τ).loc Cert.KernelDwdownIdeal.main_arg2) = m ((c.tc : Thread Cert.KernelDwdownIdeal.nD Cert.KernelDwdownIdeal.τ).loc Cert.KernelDwdownIdeal.main_arg2)
      ∧ r.2.mem ((c.tc : Thread Cert.KernelDwdownIdeal.nD Cert.KernelDwdownIdeal.τ).loc Cert.KernelDwdownIdeal.main_arg3) = m ((c.tc : Thread Cert.KernelDwdownIdeal.nD Cert.KernelDwdownIdeal.τ).loc Cert.KernelDwdownIdeal.main_arg3))
      ∧ r.2.sem = fun _ => 0)

def quiescent_ReferenceDwdownIdeal [hReferenceDwdownIdeal : Cert.ReferenceDwdownIdeal.Facts] : Prop :=
  ∀ (m : (ℓ : Loc Cert.ReferenceDwdownIdeal.nD Cert.ReferenceDwdownIdeal.τ Cert.ReferenceDwdownIdeal.sig) → Buf (Elt Ideal) ℓ) (g : Dev Cert.ReferenceDwdownIdeal.nD → PrngReg), Pre_ReferenceDwdownIdeal m →
    θ_run (Cert.ReferenceDwdownIdeal.defs (F := Ideal)) (onTc (τ := Cert.ReferenceDwdownIdeal.τ) (Cert.ReferenceDwdownIdeal.main (F := Ideal))) ⟨m, fun _ => 0, g⟩ (fun r => (∀ c : Dev Cert.ReferenceDwdownIdeal.nD,
      r.2.mem ((c.tc : Thread Cert.ReferenceDwdownIdeal.nD Cert.ReferenceDwdownIdeal.τ).loc Cert.ReferenceDwdownIdeal.main_arg0) = m ((c.tc : Thread Cert.ReferenceDwdownIdeal.nD Cert.ReferenceDwdownIdeal.τ).loc Cert.ReferenceDwdownIdeal.main_arg0)
      ∧ r.2.mem ((c.tc : Thread Cert.ReferenceDwdownIdeal.nD Cert.ReferenceDwdownIdeal.τ).loc Cert.ReferenceDwdownIdeal.main_arg1) = m ((c.tc : Thread Cert.ReferenceDwdownIdeal.nD Cert.ReferenceDwdownIdeal.τ).loc Cert.ReferenceDwdownIdeal.main_arg1)
      ∧ r.2.mem ((c.tc : Thread Cert.ReferenceDwdownIdeal.nD Cert.ReferenceDwdownIdeal.τ).loc Cert.ReferenceDwdownIdeal.main_arg2) = m ((c.tc : Thread Cert.ReferenceDwdownIdeal.nD Cert.ReferenceDwdownIdeal.τ).loc Cert.ReferenceDwdownIdeal.main_arg2)
      ∧ r.2.mem ((c.tc : Thread Cert.ReferenceDwdownIdeal.nD Cert.ReferenceDwdownIdeal.τ).loc Cert.ReferenceDwdownIdeal.main_arg3) = m ((c.tc : Thread Cert.ReferenceDwdownIdeal.nD Cert.ReferenceDwdownIdeal.τ).loc Cert.ReferenceDwdownIdeal.main_arg3))
      ∧ r.2.sem = fun _ => 0)

def quiescent_KernelDwgate [hKernelDwgate : Cert.KernelDwgate.Facts] : Prop :=
  ∀ (m : (ℓ : Loc Cert.KernelDwgate.nD Cert.KernelDwgate.τ Cert.KernelDwgate.sig) → Buf (Elt Bits) ℓ) (g : Dev Cert.KernelDwgate.nD → PrngReg), Pre_KernelDwgate m →
    θ_run (Cert.KernelDwgate.defs (F := Bits)) (onTc (τ := Cert.KernelDwgate.τ) (Cert.KernelDwgate.main (F := Bits))) ⟨m, fun _ => 0, g⟩ (fun r => (∀ c : Dev Cert.KernelDwgate.nD,
      r.2.mem ((c.tc : Thread Cert.KernelDwgate.nD Cert.KernelDwgate.τ).loc Cert.KernelDwgate.main_arg0) = m ((c.tc : Thread Cert.KernelDwgate.nD Cert.KernelDwgate.τ).loc Cert.KernelDwgate.main_arg0)
      ∧ r.2.mem ((c.tc : Thread Cert.KernelDwgate.nD Cert.KernelDwgate.τ).loc Cert.KernelDwgate.main_arg1) = m ((c.tc : Thread Cert.KernelDwgate.nD Cert.KernelDwgate.τ).loc Cert.KernelDwgate.main_arg1)
      ∧ r.2.mem ((c.tc : Thread Cert.KernelDwgate.nD Cert.KernelDwgate.τ).loc Cert.KernelDwgate.main_arg2) = m ((c.tc : Thread Cert.KernelDwgate.nD Cert.KernelDwgate.τ).loc Cert.KernelDwgate.main_arg2)
      ∧ r.2.mem ((c.tc : Thread Cert.KernelDwgate.nD Cert.KernelDwgate.τ).loc Cert.KernelDwgate.main_arg3) = m ((c.tc : Thread Cert.KernelDwgate.nD Cert.KernelDwgate.τ).loc Cert.KernelDwgate.main_arg3))
      ∧ r.2.sem = fun _ => 0)

def quiescent_KernelDwgateIdeal [hKernelDwgateIdeal : Cert.KernelDwgateIdeal.Facts] : Prop :=
  ∀ (m : (ℓ : Loc Cert.KernelDwgateIdeal.nD Cert.KernelDwgateIdeal.τ Cert.KernelDwgateIdeal.sig) → Buf (Elt Ideal) ℓ) (g : Dev Cert.KernelDwgateIdeal.nD → PrngReg), Pre_KernelDwgateIdeal m →
    θ_run (Cert.KernelDwgateIdeal.defs (F := Ideal)) (onTc (τ := Cert.KernelDwgateIdeal.τ) (Cert.KernelDwgateIdeal.main (F := Ideal))) ⟨m, fun _ => 0, g⟩ (fun r => (∀ c : Dev Cert.KernelDwgateIdeal.nD,
      r.2.mem ((c.tc : Thread Cert.KernelDwgateIdeal.nD Cert.KernelDwgateIdeal.τ).loc Cert.KernelDwgateIdeal.main_arg0) = m ((c.tc : Thread Cert.KernelDwgateIdeal.nD Cert.KernelDwgateIdeal.τ).loc Cert.KernelDwgateIdeal.main_arg0)
      ∧ r.2.mem ((c.tc : Thread Cert.KernelDwgateIdeal.nD Cert.KernelDwgateIdeal.τ).loc Cert.KernelDwgateIdeal.main_arg1) = m ((c.tc : Thread Cert.KernelDwgateIdeal.nD Cert.KernelDwgateIdeal.τ).loc Cert.KernelDwgateIdeal.main_arg1)
      ∧ r.2.mem ((c.tc : Thread Cert.KernelDwgateIdeal.nD Cert.KernelDwgateIdeal.τ).loc Cert.KernelDwgateIdeal.main_arg2) = m ((c.tc : Thread Cert.KernelDwgateIdeal.nD Cert.KernelDwgateIdeal.τ).loc Cert.KernelDwgateIdeal.main_arg2)
      ∧ r.2.mem ((c.tc : Thread Cert.KernelDwgateIdeal.nD Cert.KernelDwgateIdeal.τ).loc Cert.KernelDwgateIdeal.main_arg3) = m ((c.tc : Thread Cert.KernelDwgateIdeal.nD Cert.KernelDwgateIdeal.τ).loc Cert.KernelDwgateIdeal.main_arg3))
      ∧ r.2.sem = fun _ => 0)

def quiescent_ReferenceDwgateIdeal [hReferenceDwgateIdeal : Cert.ReferenceDwgateIdeal.Facts] : Prop :=
  ∀ (m : (ℓ : Loc Cert.ReferenceDwgateIdeal.nD Cert.ReferenceDwgateIdeal.τ Cert.ReferenceDwgateIdeal.sig) → Buf (Elt Ideal) ℓ) (g : Dev Cert.ReferenceDwgateIdeal.nD → PrngReg), Pre_ReferenceDwgateIdeal m →
    θ_run (Cert.ReferenceDwgateIdeal.defs (F := Ideal)) (onTc (τ := Cert.ReferenceDwgateIdeal.τ) (Cert.ReferenceDwgateIdeal.main (F := Ideal))) ⟨m, fun _ => 0, g⟩ (fun r => (∀ c : Dev Cert.ReferenceDwgateIdeal.nD,
      r.2.mem ((c.tc : Thread Cert.ReferenceDwgateIdeal.nD Cert.ReferenceDwgateIdeal.τ).loc Cert.ReferenceDwgateIdeal.main_arg0) = m ((c.tc : Thread Cert.ReferenceDwgateIdeal.nD Cert.ReferenceDwgateIdeal.τ).loc Cert.ReferenceDwgateIdeal.main_arg0)
      ∧ r.2.mem ((c.tc : Thread Cert.ReferenceDwgateIdeal.nD Cert.ReferenceDwgateIdeal.τ).loc Cert.ReferenceDwgateIdeal.main_arg1) = m ((c.tc : Thread Cert.ReferenceDwgateIdeal.nD Cert.ReferenceDwgateIdeal.τ).loc Cert.ReferenceDwgateIdeal.main_arg1)
      ∧ r.2.mem ((c.tc : Thread Cert.ReferenceDwgateIdeal.nD Cert.ReferenceDwgateIdeal.τ).loc Cert.ReferenceDwgateIdeal.main_arg2) = m ((c.tc : Thread Cert.ReferenceDwgateIdeal.nD Cert.ReferenceDwgateIdeal.τ).loc Cert.ReferenceDwgateIdeal.main_arg2)
      ∧ r.2.mem ((c.tc : Thread Cert.ReferenceDwgateIdeal.nD Cert.ReferenceDwgateIdeal.τ).loc Cert.ReferenceDwgateIdeal.main_arg3) = m ((c.tc : Thread Cert.ReferenceDwgateIdeal.nD Cert.ReferenceDwgateIdeal.τ).loc Cert.ReferenceDwgateIdeal.main_arg3))
      ∧ r.2.sem = fun _ => 0)

def quiescent_KernelDwup [hKernelDwup : Cert.KernelDwup.Facts] : Prop :=
  ∀ (m : (ℓ : Loc Cert.KernelDwup.nD Cert.KernelDwup.τ Cert.KernelDwup.sig) → Buf (Elt Bits) ℓ) (g : Dev Cert.KernelDwup.nD → PrngReg), Pre_KernelDwup m →
    θ_run (Cert.KernelDwup.defs (F := Bits)) (onTc (τ := Cert.KernelDwup.τ) (Cert.KernelDwup.main (F := Bits))) ⟨m, fun _ => 0, g⟩ (fun r => (∀ c : Dev Cert.KernelDwup.nD,
      r.2.mem ((c.tc : Thread Cert.KernelDwup.nD Cert.KernelDwup.τ).loc Cert.KernelDwup.main_arg0) = m ((c.tc : Thread Cert.KernelDwup.nD Cert.KernelDwup.τ).loc Cert.KernelDwup.main_arg0)
      ∧ r.2.mem ((c.tc : Thread Cert.KernelDwup.nD Cert.KernelDwup.τ).loc Cert.KernelDwup.main_arg1) = m ((c.tc : Thread Cert.KernelDwup.nD Cert.KernelDwup.τ).loc Cert.KernelDwup.main_arg1)
      ∧ r.2.mem ((c.tc : Thread Cert.KernelDwup.nD Cert.KernelDwup.τ).loc Cert.KernelDwup.main_arg2) = m ((c.tc : Thread Cert.KernelDwup.nD Cert.KernelDwup.τ).loc Cert.KernelDwup.main_arg2)
      ∧ r.2.mem ((c.tc : Thread Cert.KernelDwup.nD Cert.KernelDwup.τ).loc Cert.KernelDwup.main_arg3) = m ((c.tc : Thread Cert.KernelDwup.nD Cert.KernelDwup.τ).loc Cert.KernelDwup.main_arg3))
      ∧ r.2.sem = fun _ => 0)

def quiescent_KernelDwupIdeal [hKernelDwupIdeal : Cert.KernelDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg), Pre_KernelDwupIdeal m →
    θ_run (Cert.KernelDwupIdeal.defs (F := Ideal)) (onTc (τ := Cert.KernelDwupIdeal.τ) (Cert.KernelDwupIdeal.main (F := Ideal))) ⟨m, fun _ => 0, g⟩ (fun r => (∀ c : Dev Cert.KernelDwupIdeal.nD,
      r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
      ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
      ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2)
      ∧ r.2.mem ((c.tc : Thread Cert.KernelDwupIdeal.nD Cert.KernelDwupIdeal.τ).loc Cert.KernelDwupIdeal.main_arg3) = m ((c.tc : Thread Cert.KernelDwupIdeal.nD Cert.KernelDwupIdeal.τ).loc Cert.KernelDwupIdeal.main_arg3))
      ∧ r.2.sem = fun _ => 0)

def quiescent_ReferenceDwupIdeal [hReferenceDwupIdeal : Cert.ReferenceDwupIdeal.Facts] : Prop :=
  ∀ (m : (ℓ : Loc Cert.ReferenceDwupIdeal.nD Cert.ReferenceDwupIdeal.τ Cert.ReferenceDwupIdeal.sig) → Buf (Elt Ideal) ℓ) (g : Dev Cert.ReferenceDwupIdeal.nD → PrngReg), Pre_ReferenceDwupIdeal m →
    θ_run (Cert.ReferenceDwupIdeal.defs (F := Ideal)) (onTc (τ := Cert.ReferenceDwupIdeal.τ) (Cert.ReferenceDwupIdeal.main (F := Ideal))) ⟨m, fun _ => 0, g⟩ (fun r => (∀ c : Dev Cert.ReferenceDwupIdeal.nD,
      r.2.mem ((c.tc : Thread Cert.ReferenceDwupIdeal.nD Cert.ReferenceDwupIdeal.τ).loc Cert.ReferenceDwupIdeal.main_arg0) = m ((c.tc : Thread Cert.ReferenceDwupIdeal.nD Cert.ReferenceDwupIdeal.τ).loc Cert.ReferenceDwupIdeal.main_arg0)
      ∧ r.2.mem ((c.tc : Thread Cert.ReferenceDwupIdeal.nD Cert.ReferenceDwupIdeal.τ).loc Cert.ReferenceDwupIdeal.main_arg1) = m ((c.tc : Thread Cert.ReferenceDwupIdeal.nD Cert.ReferenceDwupIdeal.τ).loc Cert.ReferenceDwupIdeal.main_arg1)
      ∧ r.2.mem ((c.tc : Thread Cert.ReferenceDwupIdeal.nD Cert.ReferenceDwupIdeal.τ).loc Cert.ReferenceDwupIdeal.main_arg2) = m ((c.tc : Thread Cert.ReferenceDwupIdeal.nD Cert.ReferenceDwupIdeal.τ).loc Cert.ReferenceDwupIdeal.main_arg2)
      ∧ r.2.mem ((c.tc : Thread Cert.ReferenceDwupIdeal.nD Cert.ReferenceDwupIdeal.τ).loc Cert.ReferenceDwupIdeal.main_arg3) = m ((c.tc : Thread Cert.ReferenceDwupIdeal.nD Cert.ReferenceDwupIdeal.τ).loc Cert.ReferenceDwupIdeal.main_arg3))
      ∧ r.2.sem = fun _ => 0)

def quiescent_KernelRetIn [hKernelRetIn : Cert.KernelRetIn.Facts] : Prop :=
  ∀ (m : (ℓ : Loc Cert.KernelRetIn.nD Cert.KernelRetIn.τ Cert.KernelRetIn.sig) → Buf (Elt Bits) ℓ) (g : Dev Cert.KernelRetIn.nD → PrngReg), Pre_KernelRetIn m →
    θ_run (Cert.KernelRetIn.defs (F := Bits)) (onTc (τ := Cert.KernelRetIn.τ) (Cert.KernelRetIn.main (F := Bits))) ⟨m, fun _ => 0, g⟩ (fun r => (∀ c : Dev Cert.KernelRetIn.nD,
      r.2.mem ((c.tc : Thread Cert.KernelRetIn.nD Cert.KernelRetIn.τ).loc Cert.KernelRetIn.main_arg0) = m ((c.tc : Thread Cert.KernelRetIn.nD Cert.KernelRetIn.τ).loc Cert.KernelRetIn.main_arg0)
      ∧ r.2.mem ((c.tc : Thread Cert.KernelRetIn.nD Cert.KernelRetIn.τ).loc Cert.KernelRetIn.main_arg1) = m ((c.tc : Thread Cert.KernelRetIn.nD Cert.KernelRetIn.τ).loc Cert.KernelRetIn.main_arg1))
      ∧ r.2.sem = fun _ => 0)

def quiescent_KernelRetInIdeal [hKernelRetInIdeal : Cert.KernelRetInIdeal.Facts] : Prop :=
  ∀ (m : (ℓ : Loc Cert.KernelRetInIdeal.nD Cert.KernelRetInIdeal.τ Cert.KernelRetInIdeal.sig) → Buf (Elt Ideal) ℓ) (g : Dev Cert.KernelRetInIdeal.nD → PrngReg), Pre_KernelRetInIdeal m →
    θ_run (Cert.KernelRetInIdeal.defs (F := Ideal)) (onTc (τ := Cert.KernelRetInIdeal.τ) (Cert.KernelRetInIdeal.main (F := Ideal))) ⟨m, fun _ => 0, g⟩ (fun r => (∀ c : Dev Cert.KernelRetInIdeal.nD,
      r.2.mem ((c.tc : Thread Cert.KernelRetInIdeal.nD Cert.KernelRetInIdeal.τ).loc Cert.KernelRetInIdeal.main_arg0) = m ((c.tc : Thread Cert.KernelRetInIdeal.nD Cert.KernelRetInIdeal.τ).loc Cert.KernelRetInIdeal.main_arg0)
      ∧ r.2.mem ((c.tc : Thread Cert.KernelRetInIdeal.nD Cert.KernelRetInIdeal.τ).loc Cert.KernelRetInIdeal.main_arg1) = m ((c.tc : Thread Cert.KernelRetInIdeal.nD Cert.KernelRetInIdeal.τ).loc Cert.KernelRetInIdeal.main_arg1))
      ∧ r.2.sem = fun _ => 0)

def quiescent_ReferenceRetInIdeal [hReferenceRetInIdeal : Cert.ReferenceRetInIdeal.Facts] : Prop :=
  ∀ (m : (ℓ : Loc Cert.ReferenceRetInIdeal.nD Cert.ReferenceRetInIdeal.τ Cert.ReferenceRetInIdeal.sig) → Buf (Elt Ideal) ℓ) (g : Dev Cert.ReferenceRetInIdeal.nD → PrngReg), Pre_ReferenceRetInIdeal m →
    θ_run (Cert.ReferenceRetInIdeal.defs (F := Ideal)) (onTc (τ := Cert.ReferenceRetInIdeal.τ) (Cert.ReferenceRetInIdeal.main (F := Ideal))) ⟨m, fun _ => 0, g⟩ (fun r => (∀ c : Dev Cert.ReferenceRetInIdeal.nD,
      r.2.mem ((c.tc : Thread Cert.ReferenceRetInIdeal.nD Cert.ReferenceRetInIdeal.τ).loc Cert.ReferenceRetInIdeal.main_arg0) = m ((c.tc : Thread Cert.ReferenceRetInIdeal.nD Cert.ReferenceRetInIdeal.τ).loc Cert.ReferenceRetInIdeal.main_arg0)
      ∧ r.2.mem ((c.tc : Thread Cert.ReferenceRetInIdeal.nD Cert.ReferenceRetInIdeal.τ).loc Cert.ReferenceRetInIdeal.main_arg1) = m ((c.tc : Thread Cert.ReferenceRetInIdeal.nD Cert.ReferenceRetInIdeal.τ).loc Cert.ReferenceRetInIdeal.main_arg1))
      ∧ r.2.sem = fun _ => 0)

def quiescent_KernelRetOut [hKernelRetOut : Cert.KernelRetOut.Facts] : Prop :=
  ∀ (m : (ℓ : Loc Cert.KernelRetOut.nD Cert.KernelRetOut.τ Cert.KernelRetOut.sig) → Buf (Elt Bits) ℓ) (g : Dev Cert.KernelRetOut.nD → PrngReg), Pre_KernelRetOut m →
    θ_run (Cert.KernelRetOut.defs (F := Bits)) (onTc (τ := Cert.KernelRetOut.τ) (Cert.KernelRetOut.main (F := Bits))) ⟨m, fun _ => 0, g⟩ (fun r => (∀ c : Dev Cert.KernelRetOut.nD,
      r.2.mem ((c.tc : Thread Cert.KernelRetOut.nD Cert.KernelRetOut.τ).loc Cert.KernelRetOut.main_arg0) = m ((c.tc : Thread Cert.KernelRetOut.nD Cert.KernelRetOut.τ).loc Cert.KernelRetOut.main_arg0)
      ∧ r.2.mem ((c.tc : Thread Cert.KernelRetOut.nD Cert.KernelRetOut.τ).loc Cert.KernelRetOut.main_arg1) = m ((c.tc : Thread Cert.KernelRetOut.nD Cert.KernelRetOut.τ).loc Cert.KernelRetOut.main_arg1))
      ∧ r.2.sem = fun _ => 0)

def quiescent_KernelRetOutIdeal [hKernelRetOutIdeal : Cert.KernelRetOutIdeal.Facts] : Prop :=
  ∀ (m : (ℓ : Loc Cert.KernelRetOutIdeal.nD Cert.KernelRetOutIdeal.τ Cert.KernelRetOutIdeal.sig) → Buf (Elt Ideal) ℓ) (g : Dev Cert.KernelRetOutIdeal.nD → PrngReg), Pre_KernelRetOutIdeal m →
    θ_run (Cert.KernelRetOutIdeal.defs (F := Ideal)) (onTc (τ := Cert.KernelRetOutIdeal.τ) (Cert.KernelRetOutIdeal.main (F := Ideal))) ⟨m, fun _ => 0, g⟩ (fun r => (∀ c : Dev Cert.KernelRetOutIdeal.nD,
      r.2.mem ((c.tc : Thread Cert.KernelRetOutIdeal.nD Cert.KernelRetOutIdeal.τ).loc Cert.KernelRetOutIdeal.main_arg0) = m ((c.tc : Thread Cert.KernelRetOutIdeal.nD Cert.KernelRetOutIdeal.τ).loc Cert.KernelRetOutIdeal.main_arg0)
      ∧ r.2.mem ((c.tc : Thread Cert.KernelRetOutIdeal.nD Cert.KernelRetOutIdeal.τ).loc Cert.KernelRetOutIdeal.main_arg1) = m ((c.tc : Thread Cert.KernelRetOutIdeal.nD Cert.KernelRetOutIdeal.τ).loc Cert.KernelRetOutIdeal.main_arg1))
      ∧ r.2.sem = fun _ => 0)

def quiescent_ReferenceRetOutIdeal [hReferenceRetOutIdeal : Cert.ReferenceRetOutIdeal.Facts] : Prop :=
  ∀ (m : (ℓ : Loc Cert.ReferenceRetOutIdeal.nD Cert.ReferenceRetOutIdeal.τ Cert.ReferenceRetOutIdeal.sig) → Buf (Elt Ideal) ℓ) (g : Dev Cert.ReferenceRetOutIdeal.nD → PrngReg), Pre_ReferenceRetOutIdeal m →
    θ_run (Cert.ReferenceRetOutIdeal.defs (F := Ideal)) (onTc (τ := Cert.ReferenceRetOutIdeal.τ) (Cert.ReferenceRetOutIdeal.main (F := Ideal))) ⟨m, fun _ => 0, g⟩ (fun r => (∀ c : Dev Cert.ReferenceRetOutIdeal.nD,
      r.2.mem ((c.tc : Thread Cert.ReferenceRetOutIdeal.nD Cert.ReferenceRetOutIdeal.τ).loc Cert.ReferenceRetOutIdeal.main_arg0) = m ((c.tc : Thread Cert.ReferenceRetOutIdeal.nD Cert.ReferenceRetOutIdeal.τ).loc Cert.ReferenceRetOutIdeal.main_arg0)
      ∧ r.2.mem ((c.tc : Thread Cert.ReferenceRetOutIdeal.nD Cert.ReferenceRetOutIdeal.τ).loc Cert.ReferenceRetOutIdeal.main_arg1) = m ((c.tc : Thread Cert.ReferenceRetOutIdeal.nD Cert.ReferenceRetOutIdeal.τ).loc Cert.ReferenceRetOutIdeal.main_arg1))
      ∧ r.2.sem = fun _ => 0)

def quiescent_KernelRetDgated [hKernelRetDgated : Cert.KernelRetDgated.Facts] : Prop :=
  ∀ (m : (ℓ : Loc Cert.KernelRetDgated.nD Cert.KernelRetDgated.τ Cert.KernelRetDgated.sig) → Buf (Elt Bits) ℓ) (g : Dev Cert.KernelRetDgated.nD → PrngReg), Pre_KernelRetDgated m →
    θ_run (Cert.KernelRetDgated.defs (F := Bits)) (onTc (τ := Cert.KernelRetDgated.τ) (Cert.KernelRetDgated.main (F := Bits))) ⟨m, fun _ => 0, g⟩ (fun r => (∀ c : Dev Cert.KernelRetDgated.nD,
      r.2.mem ((c.tc : Thread Cert.KernelRetDgated.nD Cert.KernelRetDgated.τ).loc Cert.KernelRetDgated.main_arg0) = m ((c.tc : Thread Cert.KernelRetDgated.nD Cert.KernelRetDgated.τ).loc Cert.KernelRetDgated.main_arg0)
      ∧ r.2.mem ((c.tc : Thread Cert.KernelRetDgated.nD Cert.KernelRetDgated.τ).loc Cert.KernelRetDgated.main_arg1) = m ((c.tc : Thread Cert.KernelRetDgated.nD Cert.KernelRetDgated.τ).loc Cert.KernelRetDgated.main_arg1))
      ∧ r.2.sem = fun _ => 0)

def quiescent_KernelRetDgatedIdeal [hKernelRetDgatedIdeal : Cert.KernelRetDgatedIdeal.Facts] : Prop :=
  ∀ (m : (ℓ : Loc Cert.KernelRetDgatedIdeal.nD Cert.KernelRetDgatedIdeal.τ Cert.KernelRetDgatedIdeal.sig) → Buf (Elt Ideal) ℓ) (g : Dev Cert.KernelRetDgatedIdeal.nD → PrngReg), Pre_KernelRetDgatedIdeal m →
    θ_run (Cert.KernelRetDgatedIdeal.defs (F := Ideal)) (onTc (τ := Cert.KernelRetDgatedIdeal.τ) (Cert.KernelRetDgatedIdeal.main (F := Ideal))) ⟨m, fun _ => 0, g⟩ (fun r => (∀ c : Dev Cert.KernelRetDgatedIdeal.nD,
      r.2.mem ((c.tc : Thread Cert.KernelRetDgatedIdeal.nD Cert.KernelRetDgatedIdeal.τ).loc Cert.KernelRetDgatedIdeal.main_arg0) = m ((c.tc : Thread Cert.KernelRetDgatedIdeal.nD Cert.KernelRetDgatedIdeal.τ).loc Cert.KernelRetDgatedIdeal.main_arg0)
      ∧ r.2.mem ((c.tc : Thread Cert.KernelRetDgatedIdeal.nD Cert.KernelRetDgatedIdeal.τ).loc Cert.KernelRetDgatedIdeal.main_arg1) = m ((c.tc : Thread Cert.KernelRetDgatedIdeal.nD Cert.KernelRetDgatedIdeal.τ).loc Cert.KernelRetDgatedIdeal.main_arg1))
      ∧ r.2.sem = fun _ => 0)

def quiescent_ReferenceRetDgatedIdeal [hReferenceRetDgatedIdeal : Cert.ReferenceRetDgatedIdeal.Facts] : Prop :=
  ∀ (m : (ℓ : Loc Cert.ReferenceRetDgatedIdeal.nD Cert.ReferenceRetDgatedIdeal.τ Cert.ReferenceRetDgatedIdeal.sig) → Buf (Elt Ideal) ℓ) (g : Dev Cert.ReferenceRetDgatedIdeal.nD → PrngReg), Pre_ReferenceRetDgatedIdeal m →
    θ_run (Cert.ReferenceRetDgatedIdeal.defs (F := Ideal)) (onTc (τ := Cert.ReferenceRetDgatedIdeal.τ) (Cert.ReferenceRetDgatedIdeal.main (F := Ideal))) ⟨m, fun _ => 0, g⟩ (fun r => (∀ c : Dev Cert.ReferenceRetDgatedIdeal.nD,
      r.2.mem ((c.tc : Thread Cert.ReferenceRetDgatedIdeal.nD Cert.ReferenceRetDgatedIdeal.τ).loc Cert.ReferenceRetDgatedIdeal.main_arg0) = m ((c.tc : Thread Cert.ReferenceRetDgatedIdeal.nD Cert.ReferenceRetDgatedIdeal.τ).loc Cert.ReferenceRetDgatedIdeal.main_arg0)
      ∧ r.2.mem ((c.tc : Thread Cert.ReferenceRetDgatedIdeal.nD Cert.ReferenceRetDgatedIdeal.τ).loc Cert.ReferenceRetDgatedIdeal.main_arg1) = m ((c.tc : Thread Cert.ReferenceRetDgatedIdeal.nD Cert.ReferenceRetDgatedIdeal.τ).loc Cert.ReferenceRetDgatedIdeal.main_arg1))
      ∧ r.2.sem = fun _ => 0)

def quiescent_KernelRetDx [hKernelRetDx : Cert.KernelRetDx.Facts] : Prop :=
  ∀ (m : (ℓ : Loc Cert.KernelRetDx.nD Cert.KernelRetDx.τ Cert.KernelRetDx.sig) → Buf (Elt Bits) ℓ) (g : Dev Cert.KernelRetDx.nD → PrngReg), Pre_KernelRetDx m →
    θ_run (Cert.KernelRetDx.defs (F := Bits)) (onTc (τ := Cert.KernelRetDx.τ) (Cert.KernelRetDx.main (F := Bits))) ⟨m, fun _ => 0, g⟩ (fun r => (∀ c : Dev Cert.KernelRetDx.nD,
      r.2.mem ((c.tc : Thread Cert.KernelRetDx.nD Cert.KernelRetDx.τ).loc Cert.KernelRetDx.main_arg0) = m ((c.tc : Thread Cert.KernelRetDx.nD Cert.KernelRetDx.τ).loc Cert.KernelRetDx.main_arg0)
      ∧ r.2.mem ((c.tc : Thread Cert.KernelRetDx.nD Cert.KernelRetDx.τ).loc Cert.KernelRetDx.main_arg1) = m ((c.tc : Thread Cert.KernelRetDx.nD Cert.KernelRetDx.τ).loc Cert.KernelRetDx.main_arg1)
      ∧ r.2.mem ((c.tc : Thread Cert.KernelRetDx.nD Cert.KernelRetDx.τ).loc Cert.KernelRetDx.main_arg2) = m ((c.tc : Thread Cert.KernelRetDx.nD Cert.KernelRetDx.τ).loc Cert.KernelRetDx.main_arg2)
      ∧ r.2.mem ((c.tc : Thread Cert.KernelRetDx.nD Cert.KernelRetDx.τ).loc Cert.KernelRetDx.main_arg3) = m ((c.tc : Thread Cert.KernelRetDx.nD Cert.KernelRetDx.τ).loc Cert.KernelRetDx.main_arg3)
      ∧ r.2.mem ((c.tc : Thread Cert.KernelRetDx.nD Cert.KernelRetDx.τ).loc Cert.KernelRetDx.main_arg4) = m ((c.tc : Thread Cert.KernelRetDx.nD Cert.KernelRetDx.τ).loc Cert.KernelRetDx.main_arg4))
      ∧ r.2.sem = fun _ => 0)

def quiescent_KernelRetDxIdeal [hKernelRetDxIdeal : Cert.KernelRetDxIdeal.Facts] : Prop :=
  ∀ (m : (ℓ : Loc Cert.KernelRetDxIdeal.nD Cert.KernelRetDxIdeal.τ Cert.KernelRetDxIdeal.sig) → Buf (Elt Ideal) ℓ) (g : Dev Cert.KernelRetDxIdeal.nD → PrngReg), Pre_KernelRetDxIdeal m →
    θ_run (Cert.KernelRetDxIdeal.defs (F := Ideal)) (onTc (τ := Cert.KernelRetDxIdeal.τ) (Cert.KernelRetDxIdeal.main (F := Ideal))) ⟨m, fun _ => 0, g⟩ (fun r => (∀ c : Dev Cert.KernelRetDxIdeal.nD,
      r.2.mem ((c.tc : Thread Cert.KernelRetDxIdeal.nD Cert.KernelRetDxIdeal.τ).loc Cert.KernelRetDxIdeal.main_arg0) = m ((c.tc : Thread Cert.KernelRetDxIdeal.nD Cert.KernelRetDxIdeal.τ).loc Cert.KernelRetDxIdeal.main_arg0)
      ∧ r.2.mem ((c.tc : Thread Cert.KernelRetDxIdeal.nD Cert.KernelRetDxIdeal.τ).loc Cert.KernelRetDxIdeal.main_arg1) = m ((c.tc : Thread Cert.KernelRetDxIdeal.nD Cert.KernelRetDxIdeal.τ).loc Cert.KernelRetDxIdeal.main_arg1)
      ∧ r.2.mem ((c.tc : Thread Cert.KernelRetDxIdeal.nD Cert.KernelRetDxIdeal.τ).loc Cert.KernelRetDxIdeal.main_arg2) = m ((c.tc : Thread Cert.KernelRetDxIdeal.nD Cert.KernelRetDxIdeal.τ).loc Cert.KernelRetDxIdeal.main_arg2)
      ∧ r.2.mem ((c.tc : Thread Cert.KernelRetDxIdeal.nD Cert.KernelRetDxIdeal.τ).loc Cert.KernelRetDxIdeal.main_arg3) = m ((c.tc : Thread Cert.KernelRetDxIdeal.nD Cert.KernelRetDxIdeal.τ).loc Cert.KernelRetDxIdeal.main_arg3)
      ∧ r.2.mem ((c.tc : Thread Cert.KernelRetDxIdeal.nD Cert.KernelRetDxIdeal.τ).loc Cert.KernelRetDxIdeal.main_arg4) = m ((c.tc : Thread Cert.KernelRetDxIdeal.nD Cert.KernelRetDxIdeal.τ).loc Cert.KernelRetDxIdeal.main_arg4))
      ∧ r.2.sem = fun _ => 0)

def quiescent_ReferenceRetDxIdeal [hReferenceRetDxIdeal : Cert.ReferenceRetDxIdeal.Facts] : Prop :=
  ∀ (m : (ℓ : Loc Cert.ReferenceRetDxIdeal.nD Cert.ReferenceRetDxIdeal.τ Cert.ReferenceRetDxIdeal.sig) → Buf (Elt Ideal) ℓ) (g : Dev Cert.ReferenceRetDxIdeal.nD → PrngReg), Pre_ReferenceRetDxIdeal m →
    θ_run (Cert.ReferenceRetDxIdeal.defs (F := Ideal)) (onTc (τ := Cert.ReferenceRetDxIdeal.τ) (Cert.ReferenceRetDxIdeal.main (F := Ideal))) ⟨m, fun _ => 0, g⟩ (fun r => (∀ c : Dev Cert.ReferenceRetDxIdeal.nD,
      r.2.mem ((c.tc : Thread Cert.ReferenceRetDxIdeal.nD Cert.ReferenceRetDxIdeal.τ).loc Cert.ReferenceRetDxIdeal.main_arg0) = m ((c.tc : Thread Cert.ReferenceRetDxIdeal.nD Cert.ReferenceRetDxIdeal.τ).loc Cert.ReferenceRetDxIdeal.main_arg0)
      ∧ r.2.mem ((c.tc : Thread Cert.ReferenceRetDxIdeal.nD Cert.ReferenceRetDxIdeal.τ).loc Cert.ReferenceRetDxIdeal.main_arg1) = m ((c.tc : Thread Cert.ReferenceRetDxIdeal.nD Cert.ReferenceRetDxIdeal.τ).loc Cert.ReferenceRetDxIdeal.main_arg1)
      ∧ r.2.mem ((c.tc : Thread Cert.ReferenceRetDxIdeal.nD Cert.ReferenceRetDxIdeal.τ).loc Cert.ReferenceRetDxIdeal.main_arg2) = m ((c.tc : Thread Cert.ReferenceRetDxIdeal.nD Cert.ReferenceRetDxIdeal.τ).loc Cert.ReferenceRetDxIdeal.main_arg2)
      ∧ r.2.mem ((c.tc : Thread Cert.ReferenceRetDxIdeal.nD Cert.ReferenceRetDxIdeal.τ).loc Cert.ReferenceRetDxIdeal.main_arg3) = m ((c.tc : Thread Cert.ReferenceRetDxIdeal.nD Cert.ReferenceRetDxIdeal.τ).loc Cert.ReferenceRetDxIdeal.main_arg3)
      ∧ r.2.mem ((c.tc : Thread Cert.ReferenceRetDxIdeal.nD Cert.ReferenceRetDxIdeal.τ).loc Cert.ReferenceRetDxIdeal.main_arg4) = m ((c.tc : Thread Cert.ReferenceRetDxIdeal.nD Cert.ReferenceRetDxIdeal.τ).loc Cert.ReferenceRetDxIdeal.main_arg4))
      ∧ r.2.sem = fun _ => 0)

def quiescent_KernelLruIn [hKernelLruIn : Cert.KernelLruIn.Facts] : Prop :=
  ∀ (m : (ℓ : Loc Cert.KernelLruIn.nD Cert.KernelLruIn.τ Cert.KernelLruIn.sig) → Buf (Elt Bits) ℓ) (g : Dev Cert.KernelLruIn.nD → PrngReg), Pre_KernelLruIn m →
    θ_run (Cert.KernelLruIn.defs (F := Bits)) (onTc (τ := Cert.KernelLruIn.τ) (Cert.KernelLruIn.main (F := Bits))) ⟨m, fun _ => 0, g⟩ (fun r => (∀ c : Dev Cert.KernelLruIn.nD,
      r.2.mem ((c.tc : Thread Cert.KernelLruIn.nD Cert.KernelLruIn.τ).loc Cert.KernelLruIn.main_arg0) = m ((c.tc : Thread Cert.KernelLruIn.nD Cert.KernelLruIn.τ).loc Cert.KernelLruIn.main_arg0)
      ∧ r.2.mem ((c.tc : Thread Cert.KernelLruIn.nD Cert.KernelLruIn.τ).loc Cert.KernelLruIn.main_arg1) = m ((c.tc : Thread Cert.KernelLruIn.nD Cert.KernelLruIn.τ).loc Cert.KernelLruIn.main_arg1))
      ∧ r.2.sem = fun _ => 0)

def quiescent_KernelLruInIdeal [hKernelLruInIdeal : Cert.KernelLruInIdeal.Facts] : Prop :=
  ∀ (m : (ℓ : Loc Cert.KernelLruInIdeal.nD Cert.KernelLruInIdeal.τ Cert.KernelLruInIdeal.sig) → Buf (Elt Ideal) ℓ) (g : Dev Cert.KernelLruInIdeal.nD → PrngReg), Pre_KernelLruInIdeal m →
    θ_run (Cert.KernelLruInIdeal.defs (F := Ideal)) (onTc (τ := Cert.KernelLruInIdeal.τ) (Cert.KernelLruInIdeal.main (F := Ideal))) ⟨m, fun _ => 0, g⟩ (fun r => (∀ c : Dev Cert.KernelLruInIdeal.nD,
      r.2.mem ((c.tc : Thread Cert.KernelLruInIdeal.nD Cert.KernelLruInIdeal.τ).loc Cert.KernelLruInIdeal.main_arg0) = m ((c.tc : Thread Cert.KernelLruInIdeal.nD Cert.KernelLruInIdeal.τ).loc Cert.KernelLruInIdeal.main_arg0)
      ∧ r.2.mem ((c.tc : Thread Cert.KernelLruInIdeal.nD Cert.KernelLruInIdeal.τ).loc Cert.KernelLruInIdeal.main_arg1) = m ((c.tc : Thread Cert.KernelLruInIdeal.nD Cert.KernelLruInIdeal.τ).loc Cert.KernelLruInIdeal.main_arg1))
      ∧ r.2.sem = fun _ => 0)

def quiescent_ReferenceLruInIdeal [hReferenceLruInIdeal : Cert.ReferenceLruInIdeal.Facts] : Prop :=
  ∀ (m : (ℓ : Loc Cert.ReferenceLruInIdeal.nD Cert.ReferenceLruInIdeal.τ Cert.ReferenceLruInIdeal.sig) → Buf (Elt Ideal) ℓ) (g : Dev Cert.ReferenceLruInIdeal.nD → PrngReg), Pre_ReferenceLruInIdeal m →
    θ_run (Cert.ReferenceLruInIdeal.defs (F := Ideal)) (onTc (τ := Cert.ReferenceLruInIdeal.τ) (Cert.ReferenceLruInIdeal.main (F := Ideal))) ⟨m, fun _ => 0, g⟩ (fun r => (∀ c : Dev Cert.ReferenceLruInIdeal.nD,
      r.2.mem ((c.tc : Thread Cert.ReferenceLruInIdeal.nD Cert.ReferenceLruInIdeal.τ).loc Cert.ReferenceLruInIdeal.main_arg0) = m ((c.tc : Thread Cert.ReferenceLruInIdeal.nD Cert.ReferenceLruInIdeal.τ).loc Cert.ReferenceLruInIdeal.main_arg0)
      ∧ r.2.mem ((c.tc : Thread Cert.ReferenceLruInIdeal.nD Cert.ReferenceLruInIdeal.τ).loc Cert.ReferenceLruInIdeal.main_arg1) = m ((c.tc : Thread Cert.ReferenceLruInIdeal.nD Cert.ReferenceLruInIdeal.τ).loc Cert.ReferenceLruInIdeal.main_arg1))
      ∧ r.2.sem = fun _ => 0)

def quiescent_KernelLruOut [hKernelLruOut : Cert.KernelLruOut.Facts] : Prop :=
  ∀ (m : (ℓ : Loc Cert.KernelLruOut.nD Cert.KernelLruOut.τ Cert.KernelLruOut.sig) → Buf (Elt Bits) ℓ) (g : Dev Cert.KernelLruOut.nD → PrngReg), Pre_KernelLruOut m →
    θ_run (Cert.KernelLruOut.defs (F := Bits)) (onTc (τ := Cert.KernelLruOut.τ) (Cert.KernelLruOut.main (F := Bits))) ⟨m, fun _ => 0, g⟩ (fun r => (∀ c : Dev Cert.KernelLruOut.nD,
      r.2.mem ((c.tc : Thread Cert.KernelLruOut.nD Cert.KernelLruOut.τ).loc Cert.KernelLruOut.main_arg0) = m ((c.tc : Thread Cert.KernelLruOut.nD Cert.KernelLruOut.τ).loc Cert.KernelLruOut.main_arg0)
      ∧ r.2.mem ((c.tc : Thread Cert.KernelLruOut.nD Cert.KernelLruOut.τ).loc Cert.KernelLruOut.main_arg1) = m ((c.tc : Thread Cert.KernelLruOut.nD Cert.KernelLruOut.τ).loc Cert.KernelLruOut.main_arg1))
      ∧ r.2.sem = fun _ => 0)

def quiescent_KernelLruOutIdeal [hKernelLruOutIdeal : Cert.KernelLruOutIdeal.Facts] : Prop :=
  ∀ (m : (ℓ : Loc Cert.KernelLruOutIdeal.nD Cert.KernelLruOutIdeal.τ Cert.KernelLruOutIdeal.sig) → Buf (Elt Ideal) ℓ) (g : Dev Cert.KernelLruOutIdeal.nD → PrngReg), Pre_KernelLruOutIdeal m →
    θ_run (Cert.KernelLruOutIdeal.defs (F := Ideal)) (onTc (τ := Cert.KernelLruOutIdeal.τ) (Cert.KernelLruOutIdeal.main (F := Ideal))) ⟨m, fun _ => 0, g⟩ (fun r => (∀ c : Dev Cert.KernelLruOutIdeal.nD,
      r.2.mem ((c.tc : Thread Cert.KernelLruOutIdeal.nD Cert.KernelLruOutIdeal.τ).loc Cert.KernelLruOutIdeal.main_arg0) = m ((c.tc : Thread Cert.KernelLruOutIdeal.nD Cert.KernelLruOutIdeal.τ).loc Cert.KernelLruOutIdeal.main_arg0)
      ∧ r.2.mem ((c.tc : Thread Cert.KernelLruOutIdeal.nD Cert.KernelLruOutIdeal.τ).loc Cert.KernelLruOutIdeal.main_arg1) = m ((c.tc : Thread Cert.KernelLruOutIdeal.nD Cert.KernelLruOutIdeal.τ).loc Cert.KernelLruOutIdeal.main_arg1))
      ∧ r.2.sem = fun _ => 0)

def quiescent_ReferenceLruOutIdeal [hReferenceLruOutIdeal : Cert.ReferenceLruOutIdeal.Facts] : Prop :=
  ∀ (m : (ℓ : Loc Cert.ReferenceLruOutIdeal.nD Cert.ReferenceLruOutIdeal.τ Cert.ReferenceLruOutIdeal.sig) → Buf (Elt Ideal) ℓ) (g : Dev Cert.ReferenceLruOutIdeal.nD → PrngReg), Pre_ReferenceLruOutIdeal m →
    θ_run (Cert.ReferenceLruOutIdeal.defs (F := Ideal)) (onTc (τ := Cert.ReferenceLruOutIdeal.τ) (Cert.ReferenceLruOutIdeal.main (F := Ideal))) ⟨m, fun _ => 0, g⟩ (fun r => (∀ c : Dev Cert.ReferenceLruOutIdeal.nD,
      r.2.mem ((c.tc : Thread Cert.ReferenceLruOutIdeal.nD Cert.ReferenceLruOutIdeal.τ).loc Cert.ReferenceLruOutIdeal.main_arg0) = m ((c.tc : Thread Cert.ReferenceLruOutIdeal.nD Cert.ReferenceLruOutIdeal.τ).loc Cert.ReferenceLruOutIdeal.main_arg0)
      ∧ r.2.mem ((c.tc : Thread Cert.ReferenceLruOutIdeal.nD Cert.ReferenceLruOutIdeal.τ).loc Cert.ReferenceLruOutIdeal.main_arg1) = m ((c.tc : Thread Cert.ReferenceLruOutIdeal.nD Cert.ReferenceLruOutIdeal.τ).loc Cert.ReferenceLruOutIdeal.main_arg1))
      ∧ r.2.sem = fun _ => 0)

def quiescent_KernelDmix [hKernelDmix : Cert.KernelDmix.Facts] : Prop :=
  ∀ (m : (ℓ : Loc Cert.KernelDmix.nD Cert.KernelDmix.τ Cert.KernelDmix.sig) → Buf (Elt Bits) ℓ) (g : Dev Cert.KernelDmix.nD → PrngReg), Pre_KernelDmix m →
    θ_run (Cert.KernelDmix.defs (F := Bits)) (onTc (τ := Cert.KernelDmix.τ) (Cert.KernelDmix.main (F := Bits))) ⟨m, fun _ => 0, g⟩ (fun r => (∀ c : Dev Cert.KernelDmix.nD,
      r.2.mem ((c.tc : Thread Cert.KernelDmix.nD Cert.KernelDmix.τ).loc Cert.KernelDmix.main_arg0) = m ((c.tc : Thread Cert.KernelDmix.nD Cert.KernelDmix.τ).loc Cert.KernelDmix.main_arg0)
      ∧ r.2.mem ((c.tc : Thread Cert.KernelDmix.nD Cert.KernelDmix.τ).loc Cert.KernelDmix.main_arg1) = m ((c.tc : Thread Cert.KernelDmix.nD Cert.KernelDmix.τ).loc Cert.KernelDmix.main_arg1))
      ∧ r.2.sem = fun _ => 0)

def quiescent_KernelDmixIdeal [hKernelDmixIdeal : Cert.KernelDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg), Pre_KernelDmixIdeal m →
    θ_run (Cert.KernelDmixIdeal.defs (F := Ideal)) (onTc (τ := Cert.KernelDmixIdeal.τ) (Cert.KernelDmixIdeal.main (F := Ideal))) ⟨m, fun _ => 0, g⟩ (fun r => (∀ c : Dev Cert.KernelDmixIdeal.nD,
      r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
      ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1))
      ∧ r.2.sem = fun _ => 0)

def quiescent_ReferenceDmixIdeal [hReferenceDmixIdeal : Cert.ReferenceDmixIdeal.Facts] : Prop :=
  ∀ (m : (ℓ : Loc Cert.ReferenceDmixIdeal.nD Cert.ReferenceDmixIdeal.τ Cert.ReferenceDmixIdeal.sig) → Buf (Elt Ideal) ℓ) (g : Dev Cert.ReferenceDmixIdeal.nD → PrngReg), Pre_ReferenceDmixIdeal m →
    θ_run (Cert.ReferenceDmixIdeal.defs (F := Ideal)) (onTc (τ := Cert.ReferenceDmixIdeal.τ) (Cert.ReferenceDmixIdeal.main (F := Ideal))) ⟨m, fun _ => 0, g⟩ (fun r => (∀ c : Dev Cert.ReferenceDmixIdeal.nD,
      r.2.mem ((c.tc : Thread Cert.ReferenceDmixIdeal.nD Cert.ReferenceDmixIdeal.τ).loc Cert.ReferenceDmixIdeal.main_arg0) = m ((c.tc : Thread Cert.ReferenceDmixIdeal.nD Cert.ReferenceDmixIdeal.τ).loc Cert.ReferenceDmixIdeal.main_arg0)
      ∧ r.2.mem ((c.tc : Thread Cert.ReferenceDmixIdeal.nD Cert.ReferenceDmixIdeal.τ).loc Cert.ReferenceDmixIdeal.main_arg1) = m ((c.tc : Thread Cert.ReferenceDmixIdeal.nD Cert.ReferenceDmixIdeal.τ).loc Cert.ReferenceDmixIdeal.main_arg1))
      ∧ r.2.sem = fun _ => 0)

def quiescent_KernelLruDx [hKernelLruDx : Cert.KernelLruDx.Facts] : Prop :=
  ∀ (m : (ℓ : Loc Cert.KernelLruDx.nD Cert.KernelLruDx.τ Cert.KernelLruDx.sig) → Buf (Elt Bits) ℓ) (g : Dev Cert.KernelLruDx.nD → PrngReg), Pre_KernelLruDx m →
    θ_run (Cert.KernelLruDx.defs (F := Bits)) (onTc (τ := Cert.KernelLruDx.τ) (Cert.KernelLruDx.main (F := Bits))) ⟨m, fun _ => 0, g⟩ (fun r => (∀ c : Dev Cert.KernelLruDx.nD,
      r.2.mem ((c.tc : Thread Cert.KernelLruDx.nD Cert.KernelLruDx.τ).loc Cert.KernelLruDx.main_arg0) = m ((c.tc : Thread Cert.KernelLruDx.nD Cert.KernelLruDx.τ).loc Cert.KernelLruDx.main_arg0)
      ∧ r.2.mem ((c.tc : Thread Cert.KernelLruDx.nD Cert.KernelLruDx.τ).loc Cert.KernelLruDx.main_arg1) = m ((c.tc : Thread Cert.KernelLruDx.nD Cert.KernelLruDx.τ).loc Cert.KernelLruDx.main_arg1)
      ∧ r.2.mem ((c.tc : Thread Cert.KernelLruDx.nD Cert.KernelLruDx.τ).loc Cert.KernelLruDx.main_arg2) = m ((c.tc : Thread Cert.KernelLruDx.nD Cert.KernelLruDx.τ).loc Cert.KernelLruDx.main_arg2))
      ∧ r.2.sem = fun _ => 0)

def quiescent_KernelLruDxIdeal [hKernelLruDxIdeal : Cert.KernelLruDxIdeal.Facts] : Prop :=
  ∀ (m : (ℓ : Loc Cert.KernelLruDxIdeal.nD Cert.KernelLruDxIdeal.τ Cert.KernelLruDxIdeal.sig) → Buf (Elt Ideal) ℓ) (g : Dev Cert.KernelLruDxIdeal.nD → PrngReg), Pre_KernelLruDxIdeal m →
    θ_run (Cert.KernelLruDxIdeal.defs (F := Ideal)) (onTc (τ := Cert.KernelLruDxIdeal.τ) (Cert.KernelLruDxIdeal.main (F := Ideal))) ⟨m, fun _ => 0, g⟩ (fun r => (∀ c : Dev Cert.KernelLruDxIdeal.nD,
      r.2.mem ((c.tc : Thread Cert.KernelLruDxIdeal.nD Cert.KernelLruDxIdeal.τ).loc Cert.KernelLruDxIdeal.main_arg0) = m ((c.tc : Thread Cert.KernelLruDxIdeal.nD Cert.KernelLruDxIdeal.τ).loc Cert.KernelLruDxIdeal.main_arg0)
      ∧ r.2.mem ((c.tc : Thread Cert.KernelLruDxIdeal.nD Cert.KernelLruDxIdeal.τ).loc Cert.KernelLruDxIdeal.main_arg1) = m ((c.tc : Thread Cert.KernelLruDxIdeal.nD Cert.KernelLruDxIdeal.τ).loc Cert.KernelLruDxIdeal.main_arg1)
      ∧ r.2.mem ((c.tc : Thread Cert.KernelLruDxIdeal.nD Cert.KernelLruDxIdeal.τ).loc Cert.KernelLruDxIdeal.main_arg2) = m ((c.tc : Thread Cert.KernelLruDxIdeal.nD Cert.KernelLruDxIdeal.τ).loc Cert.KernelLruDxIdeal.main_arg2))
      ∧ r.2.sem = fun _ => 0)

def quiescent_ReferenceLruDxIdeal [hReferenceLruDxIdeal : Cert.ReferenceLruDxIdeal.Facts] : Prop :=
  ∀ (m : (ℓ : Loc Cert.ReferenceLruDxIdeal.nD Cert.ReferenceLruDxIdeal.τ Cert.ReferenceLruDxIdeal.sig) → Buf (Elt Ideal) ℓ) (g : Dev Cert.ReferenceLruDxIdeal.nD → PrngReg), Pre_ReferenceLruDxIdeal m →
    θ_run (Cert.ReferenceLruDxIdeal.defs (F := Ideal)) (onTc (τ := Cert.ReferenceLruDxIdeal.τ) (Cert.ReferenceLruDxIdeal.main (F := Ideal))) ⟨m, fun _ => 0, g⟩ (fun r => (∀ c : Dev Cert.ReferenceLruDxIdeal.nD,
      r.2.mem ((c.tc : Thread Cert.ReferenceLruDxIdeal.nD Cert.ReferenceLruDxIdeal.τ).loc Cert.ReferenceLruDxIdeal.main_arg0) = m ((c.tc : Thread Cert.ReferenceLruDxIdeal.nD Cert.ReferenceLruDxIdeal.τ).loc Cert.ReferenceLruDxIdeal.main_arg0)
      ∧ r.2.mem ((c.tc : Thread Cert.ReferenceLruDxIdeal.nD Cert.ReferenceLruDxIdeal.τ).loc Cert.ReferenceLruDxIdeal.main_arg1) = m ((c.tc : Thread Cert.ReferenceLruDxIdeal.nD Cert.ReferenceLruDxIdeal.τ).loc Cert.ReferenceLruDxIdeal.main_arg1)
      ∧ r.2.mem ((c.tc : Thread Cert.ReferenceLruDxIdeal.nD Cert.ReferenceLruDxIdeal.τ).loc Cert.ReferenceLruDxIdeal.main_arg2) = m ((c.tc : Thread Cert.ReferenceLruDxIdeal.nD Cert.ReferenceLruDxIdeal.τ).loc Cert.ReferenceLruDxIdeal.main_arg2))
      ∧ r.2.sem = fun _ => 0)

def quiescent_KernelMlaIn [hKernelMlaIn : Cert.KernelMlaIn.Facts] : Prop :=
  ∀ (m : (ℓ : Loc Cert.KernelMlaIn.nD Cert.KernelMlaIn.τ Cert.KernelMlaIn.sig) → Buf (Elt Bits) ℓ) (g : Dev Cert.KernelMlaIn.nD → PrngReg), Pre_KernelMlaIn m →
    θ_run (Cert.KernelMlaIn.defs (F := Bits)) (onTc (τ := Cert.KernelMlaIn.τ) (Cert.KernelMlaIn.main (F := Bits))) ⟨m, fun _ => 0, g⟩ (fun r => (∀ c : Dev Cert.KernelMlaIn.nD,
      r.2.mem ((c.tc : Thread Cert.KernelMlaIn.nD Cert.KernelMlaIn.τ).loc Cert.KernelMlaIn.main_arg0) = m ((c.tc : Thread Cert.KernelMlaIn.nD Cert.KernelMlaIn.τ).loc Cert.KernelMlaIn.main_arg0)
      ∧ r.2.mem ((c.tc : Thread Cert.KernelMlaIn.nD Cert.KernelMlaIn.τ).loc Cert.KernelMlaIn.main_arg1) = m ((c.tc : Thread Cert.KernelMlaIn.nD Cert.KernelMlaIn.τ).loc Cert.KernelMlaIn.main_arg1))
      ∧ r.2.sem = fun _ => 0)

def quiescent_KernelMlaInIdeal [hKernelMlaInIdeal : Cert.KernelMlaInIdeal.Facts] : Prop :=
  ∀ (m : (ℓ : Loc Cert.KernelMlaInIdeal.nD Cert.KernelMlaInIdeal.τ Cert.KernelMlaInIdeal.sig) → Buf (Elt Ideal) ℓ) (g : Dev Cert.KernelMlaInIdeal.nD → PrngReg), Pre_KernelMlaInIdeal m →
    θ_run (Cert.KernelMlaInIdeal.defs (F := Ideal)) (onTc (τ := Cert.KernelMlaInIdeal.τ) (Cert.KernelMlaInIdeal.main (F := Ideal))) ⟨m, fun _ => 0, g⟩ (fun r => (∀ c : Dev Cert.KernelMlaInIdeal.nD,
      r.2.mem ((c.tc : Thread Cert.KernelMlaInIdeal.nD Cert.KernelMlaInIdeal.τ).loc Cert.KernelMlaInIdeal.main_arg0) = m ((c.tc : Thread Cert.KernelMlaInIdeal.nD Cert.KernelMlaInIdeal.τ).loc Cert.KernelMlaInIdeal.main_arg0)
      ∧ r.2.mem ((c.tc : Thread Cert.KernelMlaInIdeal.nD Cert.KernelMlaInIdeal.τ).loc Cert.KernelMlaInIdeal.main_arg1) = m ((c.tc : Thread Cert.KernelMlaInIdeal.nD Cert.KernelMlaInIdeal.τ).loc Cert.KernelMlaInIdeal.main_arg1))
      ∧ r.2.sem = fun _ => 0)

def quiescent_ReferenceMlaInIdeal [hReferenceMlaInIdeal : Cert.ReferenceMlaInIdeal.Facts] : Prop :=
  ∀ (m : (ℓ : Loc Cert.ReferenceMlaInIdeal.nD Cert.ReferenceMlaInIdeal.τ Cert.ReferenceMlaInIdeal.sig) → Buf (Elt Ideal) ℓ) (g : Dev Cert.ReferenceMlaInIdeal.nD → PrngReg), Pre_ReferenceMlaInIdeal m →
    θ_run (Cert.ReferenceMlaInIdeal.defs (F := Ideal)) (onTc (τ := Cert.ReferenceMlaInIdeal.τ) (Cert.ReferenceMlaInIdeal.main (F := Ideal))) ⟨m, fun _ => 0, g⟩ (fun r => (∀ c : Dev Cert.ReferenceMlaInIdeal.nD,
      r.2.mem ((c.tc : Thread Cert.ReferenceMlaInIdeal.nD Cert.ReferenceMlaInIdeal.τ).loc Cert.ReferenceMlaInIdeal.main_arg0) = m ((c.tc : Thread Cert.ReferenceMlaInIdeal.nD Cert.ReferenceMlaInIdeal.τ).loc Cert.ReferenceMlaInIdeal.main_arg0)
      ∧ r.2.mem ((c.tc : Thread Cert.ReferenceMlaInIdeal.nD Cert.ReferenceMlaInIdeal.τ).loc Cert.ReferenceMlaInIdeal.main_arg1) = m ((c.tc : Thread Cert.ReferenceMlaInIdeal.nD Cert.ReferenceMlaInIdeal.τ).loc Cert.ReferenceMlaInIdeal.main_arg1))
      ∧ r.2.sem = fun _ => 0)

def quiescent_KernelMlaUq [hKernelMlaUq : Cert.KernelMlaUq.Facts] : Prop :=
  ∀ (m : (ℓ : Loc Cert.KernelMlaUq.nD Cert.KernelMlaUq.τ Cert.KernelMlaUq.sig) → Buf (Elt Bits) ℓ) (g : Dev Cert.KernelMlaUq.nD → PrngReg), Pre_KernelMlaUq m →
    θ_run (Cert.KernelMlaUq.defs (F := Bits)) (onTc (τ := Cert.KernelMlaUq.τ) (Cert.KernelMlaUq.main (F := Bits))) ⟨m, fun _ => 0, g⟩ (fun r => (∀ c : Dev Cert.KernelMlaUq.nD,
      r.2.mem ((c.tc : Thread Cert.KernelMlaUq.nD Cert.KernelMlaUq.τ).loc Cert.KernelMlaUq.main_arg0) = m ((c.tc : Thread Cert.KernelMlaUq.nD Cert.KernelMlaUq.τ).loc Cert.KernelMlaUq.main_arg0)
      ∧ r.2.mem ((c.tc : Thread Cert.KernelMlaUq.nD Cert.KernelMlaUq.τ).loc Cert.KernelMlaUq.main_arg1) = m ((c.tc : Thread Cert.KernelMlaUq.nD Cert.KernelMlaUq.τ).loc Cert.KernelMlaUq.main_arg1))
      ∧ r.2.sem = fun _ => 0)

def quiescent_KernelMlaUqIdeal [hKernelMlaUqIdeal : Cert.KernelMlaUqIdeal.Facts] : Prop :=
  ∀ (m : (ℓ : Loc Cert.KernelMlaUqIdeal.nD Cert.KernelMlaUqIdeal.τ Cert.KernelMlaUqIdeal.sig) → Buf (Elt Ideal) ℓ) (g : Dev Cert.KernelMlaUqIdeal.nD → PrngReg), Pre_KernelMlaUqIdeal m →
    θ_run (Cert.KernelMlaUqIdeal.defs (F := Ideal)) (onTc (τ := Cert.KernelMlaUqIdeal.τ) (Cert.KernelMlaUqIdeal.main (F := Ideal))) ⟨m, fun _ => 0, g⟩ (fun r => (∀ c : Dev Cert.KernelMlaUqIdeal.nD,
      r.2.mem ((c.tc : Thread Cert.KernelMlaUqIdeal.nD Cert.KernelMlaUqIdeal.τ).loc Cert.KernelMlaUqIdeal.main_arg0) = m ((c.tc : Thread Cert.KernelMlaUqIdeal.nD Cert.KernelMlaUqIdeal.τ).loc Cert.KernelMlaUqIdeal.main_arg0)
      ∧ r.2.mem ((c.tc : Thread Cert.KernelMlaUqIdeal.nD Cert.KernelMlaUqIdeal.τ).loc Cert.KernelMlaUqIdeal.main_arg1) = m ((c.tc : Thread Cert.KernelMlaUqIdeal.nD Cert.KernelMlaUqIdeal.τ).loc Cert.KernelMlaUqIdeal.main_arg1))
      ∧ r.2.sem = fun _ => 0)

def quiescent_ReferenceMlaUqIdeal [hReferenceMlaUqIdeal : Cert.ReferenceMlaUqIdeal.Facts] : Prop :=
  ∀ (m : (ℓ : Loc Cert.ReferenceMlaUqIdeal.nD Cert.ReferenceMlaUqIdeal.τ Cert.ReferenceMlaUqIdeal.sig) → Buf (Elt Ideal) ℓ) (g : Dev Cert.ReferenceMlaUqIdeal.nD → PrngReg), Pre_ReferenceMlaUqIdeal m →
    θ_run (Cert.ReferenceMlaUqIdeal.defs (F := Ideal)) (onTc (τ := Cert.ReferenceMlaUqIdeal.τ) (Cert.ReferenceMlaUqIdeal.main (F := Ideal))) ⟨m, fun _ => 0, g⟩ (fun r => (∀ c : Dev Cert.ReferenceMlaUqIdeal.nD,
      r.2.mem ((c.tc : Thread Cert.ReferenceMlaUqIdeal.nD Cert.ReferenceMlaUqIdeal.τ).loc Cert.ReferenceMlaUqIdeal.main_arg0) = m ((c.tc : Thread Cert.ReferenceMlaUqIdeal.nD Cert.ReferenceMlaUqIdeal.τ).loc Cert.ReferenceMlaUqIdeal.main_arg0)
      ∧ r.2.mem ((c.tc : Thread Cert.ReferenceMlaUqIdeal.nD Cert.ReferenceMlaUqIdeal.τ).loc Cert.ReferenceMlaUqIdeal.main_arg1) = m ((c.tc : Thread Cert.ReferenceMlaUqIdeal.nD Cert.ReferenceMlaUqIdeal.τ).loc Cert.ReferenceMlaUqIdeal.main_arg1))
      ∧ r.2.sem = fun _ => 0)

def quiescent_KernelMlaUkv [hKernelMlaUkv : Cert.KernelMlaUkv.Facts] : Prop :=
  ∀ (m : (ℓ : Loc Cert.KernelMlaUkv.nD Cert.KernelMlaUkv.τ Cert.KernelMlaUkv.sig) → Buf (Elt Bits) ℓ) (g : Dev Cert.KernelMlaUkv.nD → PrngReg), Pre_KernelMlaUkv m →
    θ_run (Cert.KernelMlaUkv.defs (F := Bits)) (onTc (τ := Cert.KernelMlaUkv.τ) (Cert.KernelMlaUkv.main (F := Bits))) ⟨m, fun _ => 0, g⟩ (fun r => (∀ c : Dev Cert.KernelMlaUkv.nD,
      r.2.mem ((c.tc : Thread Cert.KernelMlaUkv.nD Cert.KernelMlaUkv.τ).loc Cert.KernelMlaUkv.main_arg0) = m ((c.tc : Thread Cert.KernelMlaUkv.nD Cert.KernelMlaUkv.τ).loc Cert.KernelMlaUkv.main_arg0)
      ∧ r.2.mem ((c.tc : Thread Cert.KernelMlaUkv.nD Cert.KernelMlaUkv.τ).loc Cert.KernelMlaUkv.main_arg1) = m ((c.tc : Thread Cert.KernelMlaUkv.nD Cert.KernelMlaUkv.τ).loc Cert.KernelMlaUkv.main_arg1))
      ∧ r.2.sem = fun _ => 0)

def quiescent_KernelMlaUkvIdeal [hKernelMlaUkvIdeal : Cert.KernelMlaUkvIdeal.Facts] : Prop :=
  ∀ (m : (ℓ : Loc Cert.KernelMlaUkvIdeal.nD Cert.KernelMlaUkvIdeal.τ Cert.KernelMlaUkvIdeal.sig) → Buf (Elt Ideal) ℓ) (g : Dev Cert.KernelMlaUkvIdeal.nD → PrngReg), Pre_KernelMlaUkvIdeal m →
    θ_run (Cert.KernelMlaUkvIdeal.defs (F := Ideal)) (onTc (τ := Cert.KernelMlaUkvIdeal.τ) (Cert.KernelMlaUkvIdeal.main (F := Ideal))) ⟨m, fun _ => 0, g⟩ (fun r => (∀ c : Dev Cert.KernelMlaUkvIdeal.nD,
      r.2.mem ((c.tc : Thread Cert.KernelMlaUkvIdeal.nD Cert.KernelMlaUkvIdeal.τ).loc Cert.KernelMlaUkvIdeal.main_arg0) = m ((c.tc : Thread Cert.KernelMlaUkvIdeal.nD Cert.KernelMlaUkvIdeal.τ).loc Cert.KernelMlaUkvIdeal.main_arg0)
      ∧ r.2.mem ((c.tc : Thread Cert.KernelMlaUkvIdeal.nD Cert.KernelMlaUkvIdeal.τ).loc Cert.KernelMlaUkvIdeal.main_arg1) = m ((c.tc : Thread Cert.KernelMlaUkvIdeal.nD Cert.KernelMlaUkvIdeal.τ).loc Cert.KernelMlaUkvIdeal.main_arg1))
      ∧ r.2.sem = fun _ => 0)

def quiescent_ReferenceMlaUkvIdeal [hReferenceMlaUkvIdeal : Cert.ReferenceMlaUkvIdeal.Facts] : Prop :=
  ∀ (m : (ℓ : Loc Cert.ReferenceMlaUkvIdeal.nD Cert.ReferenceMlaUkvIdeal.τ Cert.ReferenceMlaUkvIdeal.sig) → Buf (Elt Ideal) ℓ) (g : Dev Cert.ReferenceMlaUkvIdeal.nD → PrngReg), Pre_ReferenceMlaUkvIdeal m →
    θ_run (Cert.ReferenceMlaUkvIdeal.defs (F := Ideal)) (onTc (τ := Cert.ReferenceMlaUkvIdeal.τ) (Cert.ReferenceMlaUkvIdeal.main (F := Ideal))) ⟨m, fun _ => 0, g⟩ (fun r => (∀ c : Dev Cert.ReferenceMlaUkvIdeal.nD,
      r.2.mem ((c.tc : Thread Cert.ReferenceMlaUkvIdeal.nD Cert.ReferenceMlaUkvIdeal.τ).loc Cert.ReferenceMlaUkvIdeal.main_arg0) = m ((c.tc : Thread Cert.ReferenceMlaUkvIdeal.nD Cert.ReferenceMlaUkvIdeal.τ).loc Cert.ReferenceMlaUkvIdeal.main_arg0)
      ∧ r.2.mem ((c.tc : Thread Cert.ReferenceMlaUkvIdeal.nD Cert.ReferenceMlaUkvIdeal.τ).loc Cert.ReferenceMlaUkvIdeal.main_arg1) = m ((c.tc : Thread Cert.ReferenceMlaUkvIdeal.nD Cert.ReferenceMlaUkvIdeal.τ).loc Cert.ReferenceMlaUkvIdeal.main_arg1))
      ∧ r.2.sem = fun _ => 0)

def quiescent_KernelMlaOut [hKernelMlaOut : Cert.KernelMlaOut.Facts] : Prop :=
  ∀ (m : (ℓ : Loc Cert.KernelMlaOut.nD Cert.KernelMlaOut.τ Cert.KernelMlaOut.sig) → Buf (Elt Bits) ℓ) (g : Dev Cert.KernelMlaOut.nD → PrngReg), Pre_KernelMlaOut m →
    θ_run (Cert.KernelMlaOut.defs (F := Bits)) (onTc (τ := Cert.KernelMlaOut.τ) (Cert.KernelMlaOut.main (F := Bits))) ⟨m, fun _ => 0, g⟩ (fun r => (∀ c : Dev Cert.KernelMlaOut.nD,
      r.2.mem ((c.tc : Thread Cert.KernelMlaOut.nD Cert.KernelMlaOut.τ).loc Cert.KernelMlaOut.main_arg0) = m ((c.tc : Thread Cert.KernelMlaOut.nD Cert.KernelMlaOut.τ).loc Cert.KernelMlaOut.main_arg0)
      ∧ r.2.mem ((c.tc : Thread Cert.KernelMlaOut.nD Cert.KernelMlaOut.τ).loc Cert.KernelMlaOut.main_arg1) = m ((c.tc : Thread Cert.KernelMlaOut.nD Cert.KernelMlaOut.τ).loc Cert.KernelMlaOut.main_arg1))
      ∧ r.2.sem = fun _ => 0)

def quiescent_KernelMlaOutIdeal [hKernelMlaOutIdeal : Cert.KernelMlaOutIdeal.Facts] : Prop :=
  ∀ (m : (ℓ : Loc Cert.KernelMlaOutIdeal.nD Cert.KernelMlaOutIdeal.τ Cert.KernelMlaOutIdeal.sig) → Buf (Elt Ideal) ℓ) (g : Dev Cert.KernelMlaOutIdeal.nD → PrngReg), Pre_KernelMlaOutIdeal m →
    θ_run (Cert.KernelMlaOutIdeal.defs (F := Ideal)) (onTc (τ := Cert.KernelMlaOutIdeal.τ) (Cert.KernelMlaOutIdeal.main (F := Ideal))) ⟨m, fun _ => 0, g⟩ (fun r => (∀ c : Dev Cert.KernelMlaOutIdeal.nD,
      r.2.mem ((c.tc : Thread Cert.KernelMlaOutIdeal.nD Cert.KernelMlaOutIdeal.τ).loc Cert.KernelMlaOutIdeal.main_arg0) = m ((c.tc : Thread Cert.KernelMlaOutIdeal.nD Cert.KernelMlaOutIdeal.τ).loc Cert.KernelMlaOutIdeal.main_arg0)
      ∧ r.2.mem ((c.tc : Thread Cert.KernelMlaOutIdeal.nD Cert.KernelMlaOutIdeal.τ).loc Cert.KernelMlaOutIdeal.main_arg1) = m ((c.tc : Thread Cert.KernelMlaOutIdeal.nD Cert.KernelMlaOutIdeal.τ).loc Cert.KernelMlaOutIdeal.main_arg1))
      ∧ r.2.sem = fun _ => 0)

def quiescent_ReferenceMlaOutIdeal [hReferenceMlaOutIdeal : Cert.ReferenceMlaOutIdeal.Facts] : Prop :=
  ∀ (m : (ℓ : Loc Cert.ReferenceMlaOutIdeal.nD Cert.ReferenceMlaOutIdeal.τ Cert.ReferenceMlaOutIdeal.sig) → Buf (Elt Ideal) ℓ) (g : Dev Cert.ReferenceMlaOutIdeal.nD → PrngReg), Pre_ReferenceMlaOutIdeal m →
    θ_run (Cert.ReferenceMlaOutIdeal.defs (F := Ideal)) (onTc (τ := Cert.ReferenceMlaOutIdeal.τ) (Cert.ReferenceMlaOutIdeal.main (F := Ideal))) ⟨m, fun _ => 0, g⟩ (fun r => (∀ c : Dev Cert.ReferenceMlaOutIdeal.nD,
      r.2.mem ((c.tc : Thread Cert.ReferenceMlaOutIdeal.nD Cert.ReferenceMlaOutIdeal.τ).loc Cert.ReferenceMlaOutIdeal.main_arg0) = m ((c.tc : Thread Cert.ReferenceMlaOutIdeal.nD Cert.ReferenceMlaOutIdeal.τ).loc Cert.ReferenceMlaOutIdeal.main_arg0)
      ∧ r.2.mem ((c.tc : Thread Cert.ReferenceMlaOutIdeal.nD Cert.ReferenceMlaOutIdeal.τ).loc Cert.ReferenceMlaOutIdeal.main_arg1) = m ((c.tc : Thread Cert.ReferenceMlaOutIdeal.nD Cert.ReferenceMlaOutIdeal.τ).loc Cert.ReferenceMlaOutIdeal.main_arg1))
      ∧ r.2.sem = fun _ => 0)

def quiescent_KernelMlaDqn [hKernelMlaDqn : Cert.KernelMlaDqn.Facts] : Prop :=
  ∀ (m : (ℓ : Loc Cert.KernelMlaDqn.nD Cert.KernelMlaDqn.τ Cert.KernelMlaDqn.sig) → Buf (Elt Bits) ℓ) (g : Dev Cert.KernelMlaDqn.nD → PrngReg), Pre_KernelMlaDqn m →
    θ_run (Cert.KernelMlaDqn.defs (F := Bits)) (onTc (τ := Cert.KernelMlaDqn.τ) (Cert.KernelMlaDqn.main (F := Bits))) ⟨m, fun _ => 0, g⟩ (fun r => (∀ c : Dev Cert.KernelMlaDqn.nD,
      r.2.mem ((c.tc : Thread Cert.KernelMlaDqn.nD Cert.KernelMlaDqn.τ).loc Cert.KernelMlaDqn.main_arg0) = m ((c.tc : Thread Cert.KernelMlaDqn.nD Cert.KernelMlaDqn.τ).loc Cert.KernelMlaDqn.main_arg0)
      ∧ r.2.mem ((c.tc : Thread Cert.KernelMlaDqn.nD Cert.KernelMlaDqn.τ).loc Cert.KernelMlaDqn.main_arg1) = m ((c.tc : Thread Cert.KernelMlaDqn.nD Cert.KernelMlaDqn.τ).loc Cert.KernelMlaDqn.main_arg1))
      ∧ r.2.sem = fun _ => 0)

def quiescent_KernelMlaDqnIdeal [hKernelMlaDqnIdeal : Cert.KernelMlaDqnIdeal.Facts] : Prop :=
  ∀ (m : (ℓ : Loc Cert.KernelMlaDqnIdeal.nD Cert.KernelMlaDqnIdeal.τ Cert.KernelMlaDqnIdeal.sig) → Buf (Elt Ideal) ℓ) (g : Dev Cert.KernelMlaDqnIdeal.nD → PrngReg), Pre_KernelMlaDqnIdeal m →
    θ_run (Cert.KernelMlaDqnIdeal.defs (F := Ideal)) (onTc (τ := Cert.KernelMlaDqnIdeal.τ) (Cert.KernelMlaDqnIdeal.main (F := Ideal))) ⟨m, fun _ => 0, g⟩ (fun r => (∀ c : Dev Cert.KernelMlaDqnIdeal.nD,
      r.2.mem ((c.tc : Thread Cert.KernelMlaDqnIdeal.nD Cert.KernelMlaDqnIdeal.τ).loc Cert.KernelMlaDqnIdeal.main_arg0) = m ((c.tc : Thread Cert.KernelMlaDqnIdeal.nD Cert.KernelMlaDqnIdeal.τ).loc Cert.KernelMlaDqnIdeal.main_arg0)
      ∧ r.2.mem ((c.tc : Thread Cert.KernelMlaDqnIdeal.nD Cert.KernelMlaDqnIdeal.τ).loc Cert.KernelMlaDqnIdeal.main_arg1) = m ((c.tc : Thread Cert.KernelMlaDqnIdeal.nD Cert.KernelMlaDqnIdeal.τ).loc Cert.KernelMlaDqnIdeal.main_arg1))
      ∧ r.2.sem = fun _ => 0)

def quiescent_ReferenceMlaDqnIdeal [hReferenceMlaDqnIdeal : Cert.ReferenceMlaDqnIdeal.Facts] : Prop :=
  ∀ (m : (ℓ : Loc Cert.ReferenceMlaDqnIdeal.nD Cert.ReferenceMlaDqnIdeal.τ Cert.ReferenceMlaDqnIdeal.sig) → Buf (Elt Ideal) ℓ) (g : Dev Cert.ReferenceMlaDqnIdeal.nD → PrngReg), Pre_ReferenceMlaDqnIdeal m →
    θ_run (Cert.ReferenceMlaDqnIdeal.defs (F := Ideal)) (onTc (τ := Cert.ReferenceMlaDqnIdeal.τ) (Cert.ReferenceMlaDqnIdeal.main (F := Ideal))) ⟨m, fun _ => 0, g⟩ (fun r => (∀ c : Dev Cert.ReferenceMlaDqnIdeal.nD,
      r.2.mem ((c.tc : Thread Cert.ReferenceMlaDqnIdeal.nD Cert.ReferenceMlaDqnIdeal.τ).loc Cert.ReferenceMlaDqnIdeal.main_arg0) = m ((c.tc : Thread Cert.ReferenceMlaDqnIdeal.nD Cert.ReferenceMlaDqnIdeal.τ).loc Cert.ReferenceMlaDqnIdeal.main_arg0)
      ∧ r.2.mem ((c.tc : Thread Cert.ReferenceMlaDqnIdeal.nD Cert.ReferenceMlaDqnIdeal.τ).loc Cert.ReferenceMlaDqnIdeal.main_arg1) = m ((c.tc : Thread Cert.ReferenceMlaDqnIdeal.nD Cert.ReferenceMlaDqnIdeal.τ).loc Cert.ReferenceMlaDqnIdeal.main_arg1))
      ∧ r.2.sem = fun _ => 0)

def quiescent_KernelMlaDkvn [hKernelMlaDkvn : Cert.KernelMlaDkvn.Facts] : Prop :=
  ∀ (m : (ℓ : Loc Cert.KernelMlaDkvn.nD Cert.KernelMlaDkvn.τ Cert.KernelMlaDkvn.sig) → Buf (Elt Bits) ℓ) (g : Dev Cert.KernelMlaDkvn.nD → PrngReg), Pre_KernelMlaDkvn m →
    θ_run (Cert.KernelMlaDkvn.defs (F := Bits)) (onTc (τ := Cert.KernelMlaDkvn.τ) (Cert.KernelMlaDkvn.main (F := Bits))) ⟨m, fun _ => 0, g⟩ (fun r => (∀ c : Dev Cert.KernelMlaDkvn.nD,
      r.2.mem ((c.tc : Thread Cert.KernelMlaDkvn.nD Cert.KernelMlaDkvn.τ).loc Cert.KernelMlaDkvn.main_arg0) = m ((c.tc : Thread Cert.KernelMlaDkvn.nD Cert.KernelMlaDkvn.τ).loc Cert.KernelMlaDkvn.main_arg0)
      ∧ r.2.mem ((c.tc : Thread Cert.KernelMlaDkvn.nD Cert.KernelMlaDkvn.τ).loc Cert.KernelMlaDkvn.main_arg1) = m ((c.tc : Thread Cert.KernelMlaDkvn.nD Cert.KernelMlaDkvn.τ).loc Cert.KernelMlaDkvn.main_arg1))
      ∧ r.2.sem = fun _ => 0)

def quiescent_KernelMlaDkvnIdeal [hKernelMlaDkvnIdeal : Cert.KernelMlaDkvnIdeal.Facts] : Prop :=
  ∀ (m : (ℓ : Loc Cert.KernelMlaDkvnIdeal.nD Cert.KernelMlaDkvnIdeal.τ Cert.KernelMlaDkvnIdeal.sig) → Buf (Elt Ideal) ℓ) (g : Dev Cert.KernelMlaDkvnIdeal.nD → PrngReg), Pre_KernelMlaDkvnIdeal m →
    θ_run (Cert.KernelMlaDkvnIdeal.defs (F := Ideal)) (onTc (τ := Cert.KernelMlaDkvnIdeal.τ) (Cert.KernelMlaDkvnIdeal.main (F := Ideal))) ⟨m, fun _ => 0, g⟩ (fun r => (∀ c : Dev Cert.KernelMlaDkvnIdeal.nD,
      r.2.mem ((c.tc : Thread Cert.KernelMlaDkvnIdeal.nD Cert.KernelMlaDkvnIdeal.τ).loc Cert.KernelMlaDkvnIdeal.main_arg0) = m ((c.tc : Thread Cert.KernelMlaDkvnIdeal.nD Cert.KernelMlaDkvnIdeal.τ).loc Cert.KernelMlaDkvnIdeal.main_arg0)
      ∧ r.2.mem ((c.tc : Thread Cert.KernelMlaDkvnIdeal.nD Cert.KernelMlaDkvnIdeal.τ).loc Cert.KernelMlaDkvnIdeal.main_arg1) = m ((c.tc : Thread Cert.KernelMlaDkvnIdeal.nD Cert.KernelMlaDkvnIdeal.τ).loc Cert.KernelMlaDkvnIdeal.main_arg1))
      ∧ r.2.sem = fun _ => 0)

def quiescent_ReferenceMlaDkvnIdeal [hReferenceMlaDkvnIdeal : Cert.ReferenceMlaDkvnIdeal.Facts] : Prop :=
  ∀ (m : (ℓ : Loc Cert.ReferenceMlaDkvnIdeal.nD Cert.ReferenceMlaDkvnIdeal.τ Cert.ReferenceMlaDkvnIdeal.sig) → Buf (Elt Ideal) ℓ) (g : Dev Cert.ReferenceMlaDkvnIdeal.nD → PrngReg), Pre_ReferenceMlaDkvnIdeal m →
    θ_run (Cert.ReferenceMlaDkvnIdeal.defs (F := Ideal)) (onTc (τ := Cert.ReferenceMlaDkvnIdeal.τ) (Cert.ReferenceMlaDkvnIdeal.main (F := Ideal))) ⟨m, fun _ => 0, g⟩ (fun r => (∀ c : Dev Cert.ReferenceMlaDkvnIdeal.nD,
      r.2.mem ((c.tc : Thread Cert.ReferenceMlaDkvnIdeal.nD Cert.ReferenceMlaDkvnIdeal.τ).loc Cert.ReferenceMlaDkvnIdeal.main_arg0) = m ((c.tc : Thread Cert.ReferenceMlaDkvnIdeal.nD Cert.ReferenceMlaDkvnIdeal.τ).loc Cert.ReferenceMlaDkvnIdeal.main_arg0)
      ∧ r.2.mem ((c.tc : Thread Cert.ReferenceMlaDkvnIdeal.nD Cert.ReferenceMlaDkvnIdeal.τ).loc Cert.ReferenceMlaDkvnIdeal.main_arg1) = m ((c.tc : Thread Cert.ReferenceMlaDkvnIdeal.nD Cert.ReferenceMlaDkvnIdeal.τ).loc Cert.ReferenceMlaDkvnIdeal.main_arg1))
      ∧ r.2.sem = fun _ => 0)

def quiescent_KernelRetDwk [hKernelRetDwk : Cert.KernelRetDwk.Facts] : Prop :=
  ∀ (m : (ℓ : Loc Cert.KernelRetDwk.nD Cert.KernelRetDwk.τ Cert.KernelRetDwk.sig) → Buf (Elt Bits) ℓ) (g : Dev Cert.KernelRetDwk.nD → PrngReg), Pre_KernelRetDwk m →
    θ_run (Cert.KernelRetDwk.defs (F := Bits)) (onTc (τ := Cert.KernelRetDwk.τ) (Cert.KernelRetDwk.main (F := Bits))) ⟨m, fun _ => 0, g⟩ (fun r => (∀ c : Dev Cert.KernelRetDwk.nD,
      r.2.mem ((c.tc : Thread Cert.KernelRetDwk.nD Cert.KernelRetDwk.τ).loc Cert.KernelRetDwk.main_arg0) = m ((c.tc : Thread Cert.KernelRetDwk.nD Cert.KernelRetDwk.τ).loc Cert.KernelRetDwk.main_arg0)
      ∧ r.2.mem ((c.tc : Thread Cert.KernelRetDwk.nD Cert.KernelRetDwk.τ).loc Cert.KernelRetDwk.main_arg1) = m ((c.tc : Thread Cert.KernelRetDwk.nD Cert.KernelRetDwk.τ).loc Cert.KernelRetDwk.main_arg1)
      ∧ r.2.mem ((c.tc : Thread Cert.KernelRetDwk.nD Cert.KernelRetDwk.τ).loc Cert.KernelRetDwk.main_arg2) = m ((c.tc : Thread Cert.KernelRetDwk.nD Cert.KernelRetDwk.τ).loc Cert.KernelRetDwk.main_arg2)
      ∧ r.2.mem ((c.tc : Thread Cert.KernelRetDwk.nD Cert.KernelRetDwk.τ).loc Cert.KernelRetDwk.main_arg3) = m ((c.tc : Thread Cert.KernelRetDwk.nD Cert.KernelRetDwk.τ).loc Cert.KernelRetDwk.main_arg3))
      ∧ r.2.sem = fun _ => 0)

def quiescent_KernelRetDwkIdeal [hKernelRetDwkIdeal : Cert.KernelRetDwkIdeal.Facts] : Prop :=
  ∀ (m : (ℓ : Loc Cert.KernelRetDwkIdeal.nD Cert.KernelRetDwkIdeal.τ Cert.KernelRetDwkIdeal.sig) → Buf (Elt Ideal) ℓ) (g : Dev Cert.KernelRetDwkIdeal.nD → PrngReg), Pre_KernelRetDwkIdeal m →
    θ_run (Cert.KernelRetDwkIdeal.defs (F := Ideal)) (onTc (τ := Cert.KernelRetDwkIdeal.τ) (Cert.KernelRetDwkIdeal.main (F := Ideal))) ⟨m, fun _ => 0, g⟩ (fun r => (∀ c : Dev Cert.KernelRetDwkIdeal.nD,
      r.2.mem ((c.tc : Thread Cert.KernelRetDwkIdeal.nD Cert.KernelRetDwkIdeal.τ).loc Cert.KernelRetDwkIdeal.main_arg0) = m ((c.tc : Thread Cert.KernelRetDwkIdeal.nD Cert.KernelRetDwkIdeal.τ).loc Cert.KernelRetDwkIdeal.main_arg0)
      ∧ r.2.mem ((c.tc : Thread Cert.KernelRetDwkIdeal.nD Cert.KernelRetDwkIdeal.τ).loc Cert.KernelRetDwkIdeal.main_arg1) = m ((c.tc : Thread Cert.KernelRetDwkIdeal.nD Cert.KernelRetDwkIdeal.τ).loc Cert.KernelRetDwkIdeal.main_arg1)
      ∧ r.2.mem ((c.tc : Thread Cert.KernelRetDwkIdeal.nD Cert.KernelRetDwkIdeal.τ).loc Cert.KernelRetDwkIdeal.main_arg2) = m ((c.tc : Thread Cert.KernelRetDwkIdeal.nD Cert.KernelRetDwkIdeal.τ).loc Cert.KernelRetDwkIdeal.main_arg2)
      ∧ r.2.mem ((c.tc : Thread Cert.KernelRetDwkIdeal.nD Cert.KernelRetDwkIdeal.τ).loc Cert.KernelRetDwkIdeal.main_arg3) = m ((c.tc : Thread Cert.KernelRetDwkIdeal.nD Cert.KernelRetDwkIdeal.τ).loc Cert.KernelRetDwkIdeal.main_arg3))
      ∧ r.2.sem = fun _ => 0)

def quiescent_ReferenceRetDwkIdeal [hReferenceRetDwkIdeal : Cert.ReferenceRetDwkIdeal.Facts] : Prop :=
  ∀ (m : (ℓ : Loc Cert.ReferenceRetDwkIdeal.nD Cert.ReferenceRetDwkIdeal.τ Cert.ReferenceRetDwkIdeal.sig) → Buf (Elt Ideal) ℓ) (g : Dev Cert.ReferenceRetDwkIdeal.nD → PrngReg), Pre_ReferenceRetDwkIdeal m →
    θ_run (Cert.ReferenceRetDwkIdeal.defs (F := Ideal)) (onTc (τ := Cert.ReferenceRetDwkIdeal.τ) (Cert.ReferenceRetDwkIdeal.main (F := Ideal))) ⟨m, fun _ => 0, g⟩ (fun r => (∀ c : Dev Cert.ReferenceRetDwkIdeal.nD,
      r.2.mem ((c.tc : Thread Cert.ReferenceRetDwkIdeal.nD Cert.ReferenceRetDwkIdeal.τ).loc Cert.ReferenceRetDwkIdeal.main_arg0) = m ((c.tc : Thread Cert.ReferenceRetDwkIdeal.nD Cert.ReferenceRetDwkIdeal.τ).loc Cert.ReferenceRetDwkIdeal.main_arg0)
      ∧ r.2.mem ((c.tc : Thread Cert.ReferenceRetDwkIdeal.nD Cert.ReferenceRetDwkIdeal.τ).loc Cert.ReferenceRetDwkIdeal.main_arg1) = m ((c.tc : Thread Cert.ReferenceRetDwkIdeal.nD Cert.ReferenceRetDwkIdeal.τ).loc Cert.ReferenceRetDwkIdeal.main_arg1)
      ∧ r.2.mem ((c.tc : Thread Cert.ReferenceRetDwkIdeal.nD Cert.ReferenceRetDwkIdeal.τ).loc Cert.ReferenceRetDwkIdeal.main_arg2) = m ((c.tc : Thread Cert.ReferenceRetDwkIdeal.nD Cert.ReferenceRetDwkIdeal.τ).loc Cert.ReferenceRetDwkIdeal.main_arg2)
      ∧ r.2.mem ((c.tc : Thread Cert.ReferenceRetDwkIdeal.nD Cert.ReferenceRetDwkIdeal.τ).loc Cert.ReferenceRetDwkIdeal.main_arg3) = m ((c.tc : Thread Cert.ReferenceRetDwkIdeal.nD Cert.ReferenceRetDwkIdeal.τ).loc Cert.ReferenceRetDwkIdeal.main_arg3))
      ∧ r.2.sem = fun _ => 0)

def quiescent_KernelRetDwv [hKernelRetDwv : Cert.KernelRetDwv.Facts] : Prop :=
  ∀ (m : (ℓ : Loc Cert.KernelRetDwv.nD Cert.KernelRetDwv.τ Cert.KernelRetDwv.sig) → Buf (Elt Bits) ℓ) (g : Dev Cert.KernelRetDwv.nD → PrngReg), Pre_KernelRetDwv m →
    θ_run (Cert.KernelRetDwv.defs (F := Bits)) (onTc (τ := Cert.KernelRetDwv.τ) (Cert.KernelRetDwv.main (F := Bits))) ⟨m, fun _ => 0, g⟩ (fun r => (∀ c : Dev Cert.KernelRetDwv.nD,
      r.2.mem ((c.tc : Thread Cert.KernelRetDwv.nD Cert.KernelRetDwv.τ).loc Cert.KernelRetDwv.main_arg0) = m ((c.tc : Thread Cert.KernelRetDwv.nD Cert.KernelRetDwv.τ).loc Cert.KernelRetDwv.main_arg0)
      ∧ r.2.mem ((c.tc : Thread Cert.KernelRetDwv.nD Cert.KernelRetDwv.τ).loc Cert.KernelRetDwv.main_arg1) = m ((c.tc : Thread Cert.KernelRetDwv.nD Cert.KernelRetDwv.τ).loc Cert.KernelRetDwv.main_arg1)
      ∧ r.2.mem ((c.tc : Thread Cert.KernelRetDwv.nD Cert.KernelRetDwv.τ).loc Cert.KernelRetDwv.main_arg2) = m ((c.tc : Thread Cert.KernelRetDwv.nD Cert.KernelRetDwv.τ).loc Cert.KernelRetDwv.main_arg2)
      ∧ r.2.mem ((c.tc : Thread Cert.KernelRetDwv.nD Cert.KernelRetDwv.τ).loc Cert.KernelRetDwv.main_arg3) = m ((c.tc : Thread Cert.KernelRetDwv.nD Cert.KernelRetDwv.τ).loc Cert.KernelRetDwv.main_arg3))
      ∧ r.2.sem = fun _ => 0)

def quiescent_KernelRetDwvIdeal [hKernelRetDwvIdeal : Cert.KernelRetDwvIdeal.Facts] : Prop :=
  ∀ (m : (ℓ : Loc Cert.KernelRetDwvIdeal.nD Cert.KernelRetDwvIdeal.τ Cert.KernelRetDwvIdeal.sig) → Buf (Elt Ideal) ℓ) (g : Dev Cert.KernelRetDwvIdeal.nD → PrngReg), Pre_KernelRetDwvIdeal m →
    θ_run (Cert.KernelRetDwvIdeal.defs (F := Ideal)) (onTc (τ := Cert.KernelRetDwvIdeal.τ) (Cert.KernelRetDwvIdeal.main (F := Ideal))) ⟨m, fun _ => 0, g⟩ (fun r => (∀ c : Dev Cert.KernelRetDwvIdeal.nD,
      r.2.mem ((c.tc : Thread Cert.KernelRetDwvIdeal.nD Cert.KernelRetDwvIdeal.τ).loc Cert.KernelRetDwvIdeal.main_arg0) = m ((c.tc : Thread Cert.KernelRetDwvIdeal.nD Cert.KernelRetDwvIdeal.τ).loc Cert.KernelRetDwvIdeal.main_arg0)
      ∧ r.2.mem ((c.tc : Thread Cert.KernelRetDwvIdeal.nD Cert.KernelRetDwvIdeal.τ).loc Cert.KernelRetDwvIdeal.main_arg1) = m ((c.tc : Thread Cert.KernelRetDwvIdeal.nD Cert.KernelRetDwvIdeal.τ).loc Cert.KernelRetDwvIdeal.main_arg1)
      ∧ r.2.mem ((c.tc : Thread Cert.KernelRetDwvIdeal.nD Cert.KernelRetDwvIdeal.τ).loc Cert.KernelRetDwvIdeal.main_arg2) = m ((c.tc : Thread Cert.KernelRetDwvIdeal.nD Cert.KernelRetDwvIdeal.τ).loc Cert.KernelRetDwvIdeal.main_arg2)
      ∧ r.2.mem ((c.tc : Thread Cert.KernelRetDwvIdeal.nD Cert.KernelRetDwvIdeal.τ).loc Cert.KernelRetDwvIdeal.main_arg3) = m ((c.tc : Thread Cert.KernelRetDwvIdeal.nD Cert.KernelRetDwvIdeal.τ).loc Cert.KernelRetDwvIdeal.main_arg3))
      ∧ r.2.sem = fun _ => 0)

def quiescent_ReferenceRetDwvIdeal [hReferenceRetDwvIdeal : Cert.ReferenceRetDwvIdeal.Facts] : Prop :=
  ∀ (m : (ℓ : Loc Cert.ReferenceRetDwvIdeal.nD Cert.ReferenceRetDwvIdeal.τ Cert.ReferenceRetDwvIdeal.sig) → Buf (Elt Ideal) ℓ) (g : Dev Cert.ReferenceRetDwvIdeal.nD → PrngReg), Pre_ReferenceRetDwvIdeal m →
    θ_run (Cert.ReferenceRetDwvIdeal.defs (F := Ideal)) (onTc (τ := Cert.ReferenceRetDwvIdeal.τ) (Cert.ReferenceRetDwvIdeal.main (F := Ideal))) ⟨m, fun _ => 0, g⟩ (fun r => (∀ c : Dev Cert.ReferenceRetDwvIdeal.nD,
      r.2.mem ((c.tc : Thread Cert.ReferenceRetDwvIdeal.nD Cert.ReferenceRetDwvIdeal.τ).loc Cert.ReferenceRetDwvIdeal.main_arg0) = m ((c.tc : Thread Cert.ReferenceRetDwvIdeal.nD Cert.ReferenceRetDwvIdeal.τ).loc Cert.ReferenceRetDwvIdeal.main_arg0)
      ∧ r.2.mem ((c.tc : Thread Cert.ReferenceRetDwvIdeal.nD Cert.ReferenceRetDwvIdeal.τ).loc Cert.ReferenceRetDwvIdeal.main_arg1) = m ((c.tc : Thread Cert.ReferenceRetDwvIdeal.nD Cert.ReferenceRetDwvIdeal.τ).loc Cert.ReferenceRetDwvIdeal.main_arg1)
      ∧ r.2.mem ((c.tc : Thread Cert.ReferenceRetDwvIdeal.nD Cert.ReferenceRetDwvIdeal.τ).loc Cert.ReferenceRetDwvIdeal.main_arg2) = m ((c.tc : Thread Cert.ReferenceRetDwvIdeal.nD Cert.ReferenceRetDwvIdeal.τ).loc Cert.ReferenceRetDwvIdeal.main_arg2)
      ∧ r.2.mem ((c.tc : Thread Cert.ReferenceRetDwvIdeal.nD Cert.ReferenceRetDwvIdeal.τ).loc Cert.ReferenceRetDwvIdeal.main_arg3) = m ((c.tc : Thread Cert.ReferenceRetDwvIdeal.nD Cert.ReferenceRetDwvIdeal.τ).loc Cert.ReferenceRetDwvIdeal.main_arg3))
      ∧ r.2.sem = fun _ => 0)

def quiescent_KernelRetDwg [hKernelRetDwg : Cert.KernelRetDwg.Facts] : Prop :=
  ∀ (m : (ℓ : Loc Cert.KernelRetDwg.nD Cert.KernelRetDwg.τ Cert.KernelRetDwg.sig) → Buf (Elt Bits) ℓ) (g : Dev Cert.KernelRetDwg.nD → PrngReg), Pre_KernelRetDwg m →
    θ_run (Cert.KernelRetDwg.defs (F := Bits)) (onTc (τ := Cert.KernelRetDwg.τ) (Cert.KernelRetDwg.main (F := Bits))) ⟨m, fun _ => 0, g⟩ (fun r => (∀ c : Dev Cert.KernelRetDwg.nD,
      r.2.mem ((c.tc : Thread Cert.KernelRetDwg.nD Cert.KernelRetDwg.τ).loc Cert.KernelRetDwg.main_arg0) = m ((c.tc : Thread Cert.KernelRetDwg.nD Cert.KernelRetDwg.τ).loc Cert.KernelRetDwg.main_arg0)
      ∧ r.2.mem ((c.tc : Thread Cert.KernelRetDwg.nD Cert.KernelRetDwg.τ).loc Cert.KernelRetDwg.main_arg1) = m ((c.tc : Thread Cert.KernelRetDwg.nD Cert.KernelRetDwg.τ).loc Cert.KernelRetDwg.main_arg1)
      ∧ r.2.mem ((c.tc : Thread Cert.KernelRetDwg.nD Cert.KernelRetDwg.τ).loc Cert.KernelRetDwg.main_arg2) = m ((c.tc : Thread Cert.KernelRetDwg.nD Cert.KernelRetDwg.τ).loc Cert.KernelRetDwg.main_arg2)
      ∧ r.2.mem ((c.tc : Thread Cert.KernelRetDwg.nD Cert.KernelRetDwg.τ).loc Cert.KernelRetDwg.main_arg3) = m ((c.tc : Thread Cert.KernelRetDwg.nD Cert.KernelRetDwg.τ).loc Cert.KernelRetDwg.main_arg3))
      ∧ r.2.sem = fun _ => 0)

def quiescent_KernelRetDwgIdeal [hKernelRetDwgIdeal : Cert.KernelRetDwgIdeal.Facts] : Prop :=
  ∀ (m : (ℓ : Loc Cert.KernelRetDwgIdeal.nD Cert.KernelRetDwgIdeal.τ Cert.KernelRetDwgIdeal.sig) → Buf (Elt Ideal) ℓ) (g : Dev Cert.KernelRetDwgIdeal.nD → PrngReg), Pre_KernelRetDwgIdeal m →
    θ_run (Cert.KernelRetDwgIdeal.defs (F := Ideal)) (onTc (τ := Cert.KernelRetDwgIdeal.τ) (Cert.KernelRetDwgIdeal.main (F := Ideal))) ⟨m, fun _ => 0, g⟩ (fun r => (∀ c : Dev Cert.KernelRetDwgIdeal.nD,
      r.2.mem ((c.tc : Thread Cert.KernelRetDwgIdeal.nD Cert.KernelRetDwgIdeal.τ).loc Cert.KernelRetDwgIdeal.main_arg0) = m ((c.tc : Thread Cert.KernelRetDwgIdeal.nD Cert.KernelRetDwgIdeal.τ).loc Cert.KernelRetDwgIdeal.main_arg0)
      ∧ r.2.mem ((c.tc : Thread Cert.KernelRetDwgIdeal.nD Cert.KernelRetDwgIdeal.τ).loc Cert.KernelRetDwgIdeal.main_arg1) = m ((c.tc : Thread Cert.KernelRetDwgIdeal.nD Cert.KernelRetDwgIdeal.τ).loc Cert.KernelRetDwgIdeal.main_arg1)
      ∧ r.2.mem ((c.tc : Thread Cert.KernelRetDwgIdeal.nD Cert.KernelRetDwgIdeal.τ).loc Cert.KernelRetDwgIdeal.main_arg2) = m ((c.tc : Thread Cert.KernelRetDwgIdeal.nD Cert.KernelRetDwgIdeal.τ).loc Cert.KernelRetDwgIdeal.main_arg2)
      ∧ r.2.mem ((c.tc : Thread Cert.KernelRetDwgIdeal.nD Cert.KernelRetDwgIdeal.τ).loc Cert.KernelRetDwgIdeal.main_arg3) = m ((c.tc : Thread Cert.KernelRetDwgIdeal.nD Cert.KernelRetDwgIdeal.τ).loc Cert.KernelRetDwgIdeal.main_arg3))
      ∧ r.2.sem = fun _ => 0)

def quiescent_ReferenceRetDwgIdeal [hReferenceRetDwgIdeal : Cert.ReferenceRetDwgIdeal.Facts] : Prop :=
  ∀ (m : (ℓ : Loc Cert.ReferenceRetDwgIdeal.nD Cert.ReferenceRetDwgIdeal.τ Cert.ReferenceRetDwgIdeal.sig) → Buf (Elt Ideal) ℓ) (g : Dev Cert.ReferenceRetDwgIdeal.nD → PrngReg), Pre_ReferenceRetDwgIdeal m →
    θ_run (Cert.ReferenceRetDwgIdeal.defs (F := Ideal)) (onTc (τ := Cert.ReferenceRetDwgIdeal.τ) (Cert.ReferenceRetDwgIdeal.main (F := Ideal))) ⟨m, fun _ => 0, g⟩ (fun r => (∀ c : Dev Cert.ReferenceRetDwgIdeal.nD,
      r.2.mem ((c.tc : Thread Cert.ReferenceRetDwgIdeal.nD Cert.ReferenceRetDwgIdeal.τ).loc Cert.ReferenceRetDwgIdeal.main_arg0) = m ((c.tc : Thread Cert.ReferenceRetDwgIdeal.nD Cert.ReferenceRetDwgIdeal.τ).loc Cert.ReferenceRetDwgIdeal.main_arg0)
      ∧ r.2.mem ((c.tc : Thread Cert.ReferenceRetDwgIdeal.nD Cert.ReferenceRetDwgIdeal.τ).loc Cert.ReferenceRetDwgIdeal.main_arg1) = m ((c.tc : Thread Cert.ReferenceRetDwgIdeal.nD Cert.ReferenceRetDwgIdeal.τ).loc Cert.ReferenceRetDwgIdeal.main_arg1)
      ∧ r.2.mem ((c.tc : Thread Cert.ReferenceRetDwgIdeal.nD Cert.ReferenceRetDwgIdeal.τ).loc Cert.ReferenceRetDwgIdeal.main_arg2) = m ((c.tc : Thread Cert.ReferenceRetDwgIdeal.nD Cert.ReferenceRetDwgIdeal.τ).loc Cert.ReferenceRetDwgIdeal.main_arg2)
      ∧ r.2.mem ((c.tc : Thread Cert.ReferenceRetDwgIdeal.nD Cert.ReferenceRetDwgIdeal.τ).loc Cert.ReferenceRetDwgIdeal.main_arg3) = m ((c.tc : Thread Cert.ReferenceRetDwgIdeal.nD Cert.ReferenceRetDwgIdeal.τ).loc Cert.ReferenceRetDwgIdeal.main_arg3))
      ∧ r.2.sem = fun _ => 0)

def quiescent_KernelLruDwout [hKernelLruDwout : Cert.KernelLruDwout.Facts] : Prop :=
  ∀ (m : (ℓ : Loc Cert.KernelLruDwout.nD Cert.KernelLruDwout.τ Cert.KernelLruDwout.sig) → Buf (Elt Bits) ℓ) (g : Dev Cert.KernelLruDwout.nD → PrngReg), Pre_KernelLruDwout m →
    θ_run (Cert.KernelLruDwout.defs (F := Bits)) (onTc (τ := Cert.KernelLruDwout.τ) (Cert.KernelLruDwout.main (F := Bits))) ⟨m, fun _ => 0, g⟩ (fun r => (∀ c : Dev Cert.KernelLruDwout.nD,
      r.2.mem ((c.tc : Thread Cert.KernelLruDwout.nD Cert.KernelLruDwout.τ).loc Cert.KernelLruDwout.main_arg0) = m ((c.tc : Thread Cert.KernelLruDwout.nD Cert.KernelLruDwout.τ).loc Cert.KernelLruDwout.main_arg0)
      ∧ r.2.mem ((c.tc : Thread Cert.KernelLruDwout.nD Cert.KernelLruDwout.τ).loc Cert.KernelLruDwout.main_arg1) = m ((c.tc : Thread Cert.KernelLruDwout.nD Cert.KernelLruDwout.τ).loc Cert.KernelLruDwout.main_arg1)
      ∧ r.2.mem ((c.tc : Thread Cert.KernelLruDwout.nD Cert.KernelLruDwout.τ).loc Cert.KernelLruDwout.main_arg2) = m ((c.tc : Thread Cert.KernelLruDwout.nD Cert.KernelLruDwout.τ).loc Cert.KernelLruDwout.main_arg2)
      ∧ r.2.mem ((c.tc : Thread Cert.KernelLruDwout.nD Cert.KernelLruDwout.τ).loc Cert.KernelLruDwout.main_arg3) = m ((c.tc : Thread Cert.KernelLruDwout.nD Cert.KernelLruDwout.τ).loc Cert.KernelLruDwout.main_arg3))
      ∧ r.2.sem = fun _ => 0)

def quiescent_KernelLruDwoutIdeal [hKernelLruDwoutIdeal : Cert.KernelLruDwoutIdeal.Facts] : Prop :=
  ∀ (m : (ℓ : Loc Cert.KernelLruDwoutIdeal.nD Cert.KernelLruDwoutIdeal.τ Cert.KernelLruDwoutIdeal.sig) → Buf (Elt Ideal) ℓ) (g : Dev Cert.KernelLruDwoutIdeal.nD → PrngReg), Pre_KernelLruDwoutIdeal m →
    θ_run (Cert.KernelLruDwoutIdeal.defs (F := Ideal)) (onTc (τ := Cert.KernelLruDwoutIdeal.τ) (Cert.KernelLruDwoutIdeal.main (F := Ideal))) ⟨m, fun _ => 0, g⟩ (fun r => (∀ c : Dev Cert.KernelLruDwoutIdeal.nD,
      r.2.mem ((c.tc : Thread Cert.KernelLruDwoutIdeal.nD Cert.KernelLruDwoutIdeal.τ).loc Cert.KernelLruDwoutIdeal.main_arg0) = m ((c.tc : Thread Cert.KernelLruDwoutIdeal.nD Cert.KernelLruDwoutIdeal.τ).loc Cert.KernelLruDwoutIdeal.main_arg0)
      ∧ r.2.mem ((c.tc : Thread Cert.KernelLruDwoutIdeal.nD Cert.KernelLruDwoutIdeal.τ).loc Cert.KernelLruDwoutIdeal.main_arg1) = m ((c.tc : Thread Cert.KernelLruDwoutIdeal.nD Cert.KernelLruDwoutIdeal.τ).loc Cert.KernelLruDwoutIdeal.main_arg1)
      ∧ r.2.mem ((c.tc : Thread Cert.KernelLruDwoutIdeal.nD Cert.KernelLruDwoutIdeal.τ).loc Cert.KernelLruDwoutIdeal.main_arg2) = m ((c.tc : Thread Cert.KernelLruDwoutIdeal.nD Cert.KernelLruDwoutIdeal.τ).loc Cert.KernelLruDwoutIdeal.main_arg2)
      ∧ r.2.mem ((c.tc : Thread Cert.KernelLruDwoutIdeal.nD Cert.KernelLruDwoutIdeal.τ).loc Cert.KernelLruDwoutIdeal.main_arg3) = m ((c.tc : Thread Cert.KernelLruDwoutIdeal.nD Cert.KernelLruDwoutIdeal.τ).loc Cert.KernelLruDwoutIdeal.main_arg3))
      ∧ r.2.sem = fun _ => 0)

def quiescent_ReferenceLruDwoutIdeal [hReferenceLruDwoutIdeal : Cert.ReferenceLruDwoutIdeal.Facts] : Prop :=
  ∀ (m : (ℓ : Loc Cert.ReferenceLruDwoutIdeal.nD Cert.ReferenceLruDwoutIdeal.τ Cert.ReferenceLruDwoutIdeal.sig) → Buf (Elt Ideal) ℓ) (g : Dev Cert.ReferenceLruDwoutIdeal.nD → PrngReg), Pre_ReferenceLruDwoutIdeal m →
    θ_run (Cert.ReferenceLruDwoutIdeal.defs (F := Ideal)) (onTc (τ := Cert.ReferenceLruDwoutIdeal.τ) (Cert.ReferenceLruDwoutIdeal.main (F := Ideal))) ⟨m, fun _ => 0, g⟩ (fun r => (∀ c : Dev Cert.ReferenceLruDwoutIdeal.nD,
      r.2.mem ((c.tc : Thread Cert.ReferenceLruDwoutIdeal.nD Cert.ReferenceLruDwoutIdeal.τ).loc Cert.ReferenceLruDwoutIdeal.main_arg0) = m ((c.tc : Thread Cert.ReferenceLruDwoutIdeal.nD Cert.ReferenceLruDwoutIdeal.τ).loc Cert.ReferenceLruDwoutIdeal.main_arg0)
      ∧ r.2.mem ((c.tc : Thread Cert.ReferenceLruDwoutIdeal.nD Cert.ReferenceLruDwoutIdeal.τ).loc Cert.ReferenceLruDwoutIdeal.main_arg1) = m ((c.tc : Thread Cert.ReferenceLruDwoutIdeal.nD Cert.ReferenceLruDwoutIdeal.τ).loc Cert.ReferenceLruDwoutIdeal.main_arg1)
      ∧ r.2.mem ((c.tc : Thread Cert.ReferenceLruDwoutIdeal.nD Cert.ReferenceLruDwoutIdeal.τ).loc Cert.ReferenceLruDwoutIdeal.main_arg2) = m ((c.tc : Thread Cert.ReferenceLruDwoutIdeal.nD Cert.ReferenceLruDwoutIdeal.τ).loc Cert.ReferenceLruDwoutIdeal.main_arg2)
      ∧ r.2.mem ((c.tc : Thread Cert.ReferenceLruDwoutIdeal.nD Cert.ReferenceLruDwoutIdeal.τ).loc Cert.ReferenceLruDwoutIdeal.main_arg3) = m ((c.tc : Thread Cert.ReferenceLruDwoutIdeal.nD Cert.ReferenceLruDwoutIdeal.τ).loc Cert.ReferenceLruDwoutIdeal.main_arg3))
      ∧ r.2.sem = fun _ => 0)

def quiescent_KernelLruDwg [hKernelLruDwg : Cert.KernelLruDwg.Facts] : Prop :=
  ∀ (m : (ℓ : Loc Cert.KernelLruDwg.nD Cert.KernelLruDwg.τ Cert.KernelLruDwg.sig) → Buf (Elt Bits) ℓ) (g : Dev Cert.KernelLruDwg.nD → PrngReg), Pre_KernelLruDwg m →
    θ_run (Cert.KernelLruDwg.defs (F := Bits)) (onTc (τ := Cert.KernelLruDwg.τ) (Cert.KernelLruDwg.main (F := Bits))) ⟨m, fun _ => 0, g⟩ (fun r => (∀ c : Dev Cert.KernelLruDwg.nD,
      r.2.mem ((c.tc : Thread Cert.KernelLruDwg.nD Cert.KernelLruDwg.τ).loc Cert.KernelLruDwg.main_arg0) = m ((c.tc : Thread Cert.KernelLruDwg.nD Cert.KernelLruDwg.τ).loc Cert.KernelLruDwg.main_arg0)
      ∧ r.2.mem ((c.tc : Thread Cert.KernelLruDwg.nD Cert.KernelLruDwg.τ).loc Cert.KernelLruDwg.main_arg1) = m ((c.tc : Thread Cert.KernelLruDwg.nD Cert.KernelLruDwg.τ).loc Cert.KernelLruDwg.main_arg1)
      ∧ r.2.mem ((c.tc : Thread Cert.KernelLruDwg.nD Cert.KernelLruDwg.τ).loc Cert.KernelLruDwg.main_arg2) = m ((c.tc : Thread Cert.KernelLruDwg.nD Cert.KernelLruDwg.τ).loc Cert.KernelLruDwg.main_arg2)
      ∧ r.2.mem ((c.tc : Thread Cert.KernelLruDwg.nD Cert.KernelLruDwg.τ).loc Cert.KernelLruDwg.main_arg3) = m ((c.tc : Thread Cert.KernelLruDwg.nD Cert.KernelLruDwg.τ).loc Cert.KernelLruDwg.main_arg3))
      ∧ r.2.sem = fun _ => 0)

def quiescent_KernelLruDwgIdeal [hKernelLruDwgIdeal : Cert.KernelLruDwgIdeal.Facts] : Prop :=
  ∀ (m : (ℓ : Loc Cert.KernelLruDwgIdeal.nD Cert.KernelLruDwgIdeal.τ Cert.KernelLruDwgIdeal.sig) → Buf (Elt Ideal) ℓ) (g : Dev Cert.KernelLruDwgIdeal.nD → PrngReg), Pre_KernelLruDwgIdeal m →
    θ_run (Cert.KernelLruDwgIdeal.defs (F := Ideal)) (onTc (τ := Cert.KernelLruDwgIdeal.τ) (Cert.KernelLruDwgIdeal.main (F := Ideal))) ⟨m, fun _ => 0, g⟩ (fun r => (∀ c : Dev Cert.KernelLruDwgIdeal.nD,
      r.2.mem ((c.tc : Thread Cert.KernelLruDwgIdeal.nD Cert.KernelLruDwgIdeal.τ).loc Cert.KernelLruDwgIdeal.main_arg0) = m ((c.tc : Thread Cert.KernelLruDwgIdeal.nD Cert.KernelLruDwgIdeal.τ).loc Cert.KernelLruDwgIdeal.main_arg0)
      ∧ r.2.mem ((c.tc : Thread Cert.KernelLruDwgIdeal.nD Cert.KernelLruDwgIdeal.τ).loc Cert.KernelLruDwgIdeal.main_arg1) = m ((c.tc : Thread Cert.KernelLruDwgIdeal.nD Cert.KernelLruDwgIdeal.τ).loc Cert.KernelLruDwgIdeal.main_arg1)
      ∧ r.2.mem ((c.tc : Thread Cert.KernelLruDwgIdeal.nD Cert.KernelLruDwgIdeal.τ).loc Cert.KernelLruDwgIdeal.main_arg2) = m ((c.tc : Thread Cert.KernelLruDwgIdeal.nD Cert.KernelLruDwgIdeal.τ).loc Cert.KernelLruDwgIdeal.main_arg2)
      ∧ r.2.mem ((c.tc : Thread Cert.KernelLruDwgIdeal.nD Cert.KernelLruDwgIdeal.τ).loc Cert.KernelLruDwgIdeal.main_arg3) = m ((c.tc : Thread Cert.KernelLruDwgIdeal.nD Cert.KernelLruDwgIdeal.τ).loc Cert.KernelLruDwgIdeal.main_arg3))
      ∧ r.2.sem = fun _ => 0)

def quiescent_ReferenceLruDwgIdeal [hReferenceLruDwgIdeal : Cert.ReferenceLruDwgIdeal.Facts] : Prop :=
  ∀ (m : (ℓ : Loc Cert.ReferenceLruDwgIdeal.nD Cert.ReferenceLruDwgIdeal.τ Cert.ReferenceLruDwgIdeal.sig) → Buf (Elt Ideal) ℓ) (g : Dev Cert.ReferenceLruDwgIdeal.nD → PrngReg), Pre_ReferenceLruDwgIdeal m →
    θ_run (Cert.ReferenceLruDwgIdeal.defs (F := Ideal)) (onTc (τ := Cert.ReferenceLruDwgIdeal.τ) (Cert.ReferenceLruDwgIdeal.main (F := Ideal))) ⟨m, fun _ => 0, g⟩ (fun r => (∀ c : Dev Cert.ReferenceLruDwgIdeal.nD,
      r.2.mem ((c.tc : Thread Cert.ReferenceLruDwgIdeal.nD Cert.ReferenceLruDwgIdeal.τ).loc Cert.ReferenceLruDwgIdeal.main_arg0) = m ((c.tc : Thread Cert.ReferenceLruDwgIdeal.nD Cert.ReferenceLruDwgIdeal.τ).loc Cert.ReferenceLruDwgIdeal.main_arg0)
      ∧ r.2.mem ((c.tc : Thread Cert.ReferenceLruDwgIdeal.nD Cert.ReferenceLruDwgIdeal.τ).loc Cert.ReferenceLruDwgIdeal.main_arg1) = m ((c.tc : Thread Cert.ReferenceLruDwgIdeal.nD Cert.ReferenceLruDwgIdeal.τ).loc Cert.ReferenceLruDwgIdeal.main_arg1)
      ∧ r.2.mem ((c.tc : Thread Cert.ReferenceLruDwgIdeal.nD Cert.ReferenceLruDwgIdeal.τ).loc Cert.ReferenceLruDwgIdeal.main_arg2) = m ((c.tc : Thread Cert.ReferenceLruDwgIdeal.nD Cert.ReferenceLruDwgIdeal.τ).loc Cert.ReferenceLruDwgIdeal.main_arg2)
      ∧ r.2.mem ((c.tc : Thread Cert.ReferenceLruDwgIdeal.nD Cert.ReferenceLruDwgIdeal.τ).loc Cert.ReferenceLruDwgIdeal.main_arg3) = m ((c.tc : Thread Cert.ReferenceLruDwgIdeal.nD Cert.ReferenceLruDwgIdeal.τ).loc Cert.ReferenceLruDwgIdeal.main_arg3))
      ∧ r.2.sem = fun _ => 0)

def quiescent_KernelLruDwr [hKernelLruDwr : Cert.KernelLruDwr.Facts] : Prop :=
  ∀ (m : (ℓ : Loc Cert.KernelLruDwr.nD Cert.KernelLruDwr.τ Cert.KernelLruDwr.sig) → Buf (Elt Bits) ℓ) (g : Dev Cert.KernelLruDwr.nD → PrngReg), Pre_KernelLruDwr m →
    θ_run (Cert.KernelLruDwr.defs (F := Bits)) (onTc (τ := Cert.KernelLruDwr.τ) (Cert.KernelLruDwr.main (F := Bits))) ⟨m, fun _ => 0, g⟩ (fun r => (∀ c : Dev Cert.KernelLruDwr.nD,
      r.2.mem ((c.tc : Thread Cert.KernelLruDwr.nD Cert.KernelLruDwr.τ).loc Cert.KernelLruDwr.main_arg0) = m ((c.tc : Thread Cert.KernelLruDwr.nD Cert.KernelLruDwr.τ).loc Cert.KernelLruDwr.main_arg0)
      ∧ r.2.mem ((c.tc : Thread Cert.KernelLruDwr.nD Cert.KernelLruDwr.τ).loc Cert.KernelLruDwr.main_arg1) = m ((c.tc : Thread Cert.KernelLruDwr.nD Cert.KernelLruDwr.τ).loc Cert.KernelLruDwr.main_arg1)
      ∧ r.2.mem ((c.tc : Thread Cert.KernelLruDwr.nD Cert.KernelLruDwr.τ).loc Cert.KernelLruDwr.main_arg2) = m ((c.tc : Thread Cert.KernelLruDwr.nD Cert.KernelLruDwr.τ).loc Cert.KernelLruDwr.main_arg2)
      ∧ r.2.mem ((c.tc : Thread Cert.KernelLruDwr.nD Cert.KernelLruDwr.τ).loc Cert.KernelLruDwr.main_arg3) = m ((c.tc : Thread Cert.KernelLruDwr.nD Cert.KernelLruDwr.τ).loc Cert.KernelLruDwr.main_arg3))
      ∧ r.2.sem = fun _ => 0)

def quiescent_KernelLruDwrIdeal [hKernelLruDwrIdeal : Cert.KernelLruDwrIdeal.Facts] : Prop :=
  ∀ (m : (ℓ : Loc Cert.KernelLruDwrIdeal.nD Cert.KernelLruDwrIdeal.τ Cert.KernelLruDwrIdeal.sig) → Buf (Elt Ideal) ℓ) (g : Dev Cert.KernelLruDwrIdeal.nD → PrngReg), Pre_KernelLruDwrIdeal m →
    θ_run (Cert.KernelLruDwrIdeal.defs (F := Ideal)) (onTc (τ := Cert.KernelLruDwrIdeal.τ) (Cert.KernelLruDwrIdeal.main (F := Ideal))) ⟨m, fun _ => 0, g⟩ (fun r => (∀ c : Dev Cert.KernelLruDwrIdeal.nD,
      r.2.mem ((c.tc : Thread Cert.KernelLruDwrIdeal.nD Cert.KernelLruDwrIdeal.τ).loc Cert.KernelLruDwrIdeal.main_arg0) = m ((c.tc : Thread Cert.KernelLruDwrIdeal.nD Cert.KernelLruDwrIdeal.τ).loc Cert.KernelLruDwrIdeal.main_arg0)
      ∧ r.2.mem ((c.tc : Thread Cert.KernelLruDwrIdeal.nD Cert.KernelLruDwrIdeal.τ).loc Cert.KernelLruDwrIdeal.main_arg1) = m ((c.tc : Thread Cert.KernelLruDwrIdeal.nD Cert.KernelLruDwrIdeal.τ).loc Cert.KernelLruDwrIdeal.main_arg1)
      ∧ r.2.mem ((c.tc : Thread Cert.KernelLruDwrIdeal.nD Cert.KernelLruDwrIdeal.τ).loc Cert.KernelLruDwrIdeal.main_arg2) = m ((c.tc : Thread Cert.KernelLruDwrIdeal.nD Cert.KernelLruDwrIdeal.τ).loc Cert.KernelLruDwrIdeal.main_arg2)
      ∧ r.2.mem ((c.tc : Thread Cert.KernelLruDwrIdeal.nD Cert.KernelLruDwrIdeal.τ).loc Cert.KernelLruDwrIdeal.main_arg3) = m ((c.tc : Thread Cert.KernelLruDwrIdeal.nD Cert.KernelLruDwrIdeal.τ).loc Cert.KernelLruDwrIdeal.main_arg3))
      ∧ r.2.sem = fun _ => 0)

def quiescent_ReferenceLruDwrIdeal [hReferenceLruDwrIdeal : Cert.ReferenceLruDwrIdeal.Facts] : Prop :=
  ∀ (m : (ℓ : Loc Cert.ReferenceLruDwrIdeal.nD Cert.ReferenceLruDwrIdeal.τ Cert.ReferenceLruDwrIdeal.sig) → Buf (Elt Ideal) ℓ) (g : Dev Cert.ReferenceLruDwrIdeal.nD → PrngReg), Pre_ReferenceLruDwrIdeal m →
    θ_run (Cert.ReferenceLruDwrIdeal.defs (F := Ideal)) (onTc (τ := Cert.ReferenceLruDwrIdeal.τ) (Cert.ReferenceLruDwrIdeal.main (F := Ideal))) ⟨m, fun _ => 0, g⟩ (fun r => (∀ c : Dev Cert.ReferenceLruDwrIdeal.nD,
      r.2.mem ((c.tc : Thread Cert.ReferenceLruDwrIdeal.nD Cert.ReferenceLruDwrIdeal.τ).loc Cert.ReferenceLruDwrIdeal.main_arg0) = m ((c.tc : Thread Cert.ReferenceLruDwrIdeal.nD Cert.ReferenceLruDwrIdeal.τ).loc Cert.ReferenceLruDwrIdeal.main_arg0)
      ∧ r.2.mem ((c.tc : Thread Cert.ReferenceLruDwrIdeal.nD Cert.ReferenceLruDwrIdeal.τ).loc Cert.ReferenceLruDwrIdeal.main_arg1) = m ((c.tc : Thread Cert.ReferenceLruDwrIdeal.nD Cert.ReferenceLruDwrIdeal.τ).loc Cert.ReferenceLruDwrIdeal.main_arg1)
      ∧ r.2.mem ((c.tc : Thread Cert.ReferenceLruDwrIdeal.nD Cert.ReferenceLruDwrIdeal.τ).loc Cert.ReferenceLruDwrIdeal.main_arg2) = m ((c.tc : Thread Cert.ReferenceLruDwrIdeal.nD Cert.ReferenceLruDwrIdeal.τ).loc Cert.ReferenceLruDwrIdeal.main_arg2)
      ∧ r.2.mem ((c.tc : Thread Cert.ReferenceLruDwrIdeal.nD Cert.ReferenceLruDwrIdeal.τ).loc Cert.ReferenceLruDwrIdeal.main_arg3) = m ((c.tc : Thread Cert.ReferenceLruDwrIdeal.nD Cert.ReferenceLruDwrIdeal.τ).loc Cert.ReferenceLruDwrIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)) (v2 : (c : Dev Cert.KernelIdeal.nD) → Buf (Elt Ideal) ((c.tc : Thread Cert.KernelIdeal.nD Cert.KernelIdeal.τ).loc Cert.KernelIdeal.main_v74_0)) (v3 : (c : Dev Cert.KernelIdeal.nD) → Buf (Elt Ideal) ((c.tc : Thread Cert.KernelIdeal.nD Cert.KernelIdeal.τ).loc Cert.KernelIdeal.main_v74_1)) (v4 : (c : Dev Cert.KernelIdeal.nD) → Buf (Elt Ideal) ((c.tc : Thread Cert.KernelIdeal.nD Cert.KernelIdeal.τ).loc Cert.KernelIdeal.main_v74_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_v74_0) = v2 c
          ∧ r.2.mem ((c.tc : Thread Cert.KernelIdeal.nD Cert.KernelIdeal.τ).loc Cert.KernelIdeal.main_v74_1) = v3 c
          ∧ r.2.mem ((c.tc : Thread Cert.KernelIdeal.nD Cert.KernelIdeal.τ).loc Cert.KernelIdeal.main_v74_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_v234) = v2 c
          ∧ r.2.mem ((c.tc : Thread Cert.ReferenceIdeal.nD Cert.ReferenceIdeal.τ).loc Cert.ReferenceIdeal.main_v236) = v3 c
          ∧ r.2.mem ((c.tc : Thread Cert.ReferenceIdeal.nD Cert.ReferenceIdeal.τ).loc Cert.ReferenceIdeal.main_v238) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)) →
    ∃ (v0 : (c : Dev Cert.KernelDaIdeal.nD) → Buf (Elt Ideal) ((c.tc : Thread Cert.KernelDaIdeal.nD Cert.KernelDaIdeal.τ).loc Cert.KernelDaIdeal.main_v0)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v0) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v4) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)) →
    ∃ (v0 : (c : Dev Cert.KernelDxIdeal.nD) → Buf (Elt Ideal) ((c.tc : Thread Cert.KernelDxIdeal.nD Cert.KernelDxIdeal.τ).loc Cert.KernelDxIdeal.main_v0)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v5) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2))

def preserves_KernelDwdown_KernelDwdownIdeal : Prop :=
  True

def algebraic_KernelDwdownIdeal_ReferenceDwdownIdeal [hKernelDwdownIdeal : Cert.KernelDwdownIdeal.Facts] [hReferenceDwdownIdeal : Cert.ReferenceDwdownIdeal.Facts] : Prop :=
  ∀ (m : (ℓ : Loc Cert.KernelDwdownIdeal.nD Cert.KernelDwdownIdeal.τ Cert.KernelDwdownIdeal.sig) → Buf (Elt Ideal) ℓ) (g : Dev Cert.KernelDwdownIdeal.nD → PrngReg)
    (m' : (ℓ : Loc Cert.ReferenceDwdownIdeal.nD Cert.ReferenceDwdownIdeal.τ Cert.ReferenceDwdownIdeal.sig) → Buf (Elt Ideal) ℓ) (g' : Dev Cert.ReferenceDwdownIdeal.nD → PrngReg), Pre_KernelDwdownIdeal m →
    (∀ c : Dev Cert.KernelDwdownIdeal.nD,
      m' ((c.tc : Thread Cert.ReferenceDwdownIdeal.nD Cert.ReferenceDwdownIdeal.τ).loc Cert.ReferenceDwdownIdeal.main_arg0) = m ((c.tc : Thread Cert.KernelDwdownIdeal.nD Cert.KernelDwdownIdeal.τ).loc Cert.KernelDwdownIdeal.main_arg0)
      ∧ m' ((c.tc : Thread Cert.ReferenceDwdownIdeal.nD Cert.ReferenceDwdownIdeal.τ).loc Cert.ReferenceDwdownIdeal.main_arg1) = m ((c.tc : Thread Cert.KernelDwdownIdeal.nD Cert.KernelDwdownIdeal.τ).loc Cert.KernelDwdownIdeal.main_arg1)
      ∧ m' ((c.tc : Thread Cert.ReferenceDwdownIdeal.nD Cert.ReferenceDwdownIdeal.τ).loc Cert.ReferenceDwdownIdeal.main_arg2) = m ((c.tc : Thread Cert.KernelDwdownIdeal.nD Cert.KernelDwdownIdeal.τ).loc Cert.KernelDwdownIdeal.main_arg2)
      ∧ m' ((c.tc : Thread Cert.ReferenceDwdownIdeal.nD Cert.ReferenceDwdownIdeal.τ).loc Cert.ReferenceDwdownIdeal.main_arg3) = m ((c.tc : Thread Cert.KernelDwdownIdeal.nD Cert.KernelDwdownIdeal.τ).loc Cert.KernelDwdownIdeal.main_arg3)) →
    ∃ (v0 : (c : Dev Cert.KernelDwdownIdeal.nD) → Buf (Elt Ideal) ((c.tc : Thread Cert.KernelDwdownIdeal.nD Cert.KernelDwdownIdeal.τ).loc Cert.KernelDwdownIdeal.main_v0_0)) (v1 : (c : Dev Cert.KernelDwdownIdeal.nD) → Buf (Elt Ideal) ((c.tc : Thread Cert.KernelDwdownIdeal.nD Cert.KernelDwdownIdeal.τ).loc Cert.KernelDwdownIdeal.main_v0_1)),
      θ_run (Cert.KernelDwdownIdeal.defs (F := Ideal)) (onTc (τ := Cert.KernelDwdownIdeal.τ) (Cert.KernelDwdownIdeal.main (F := Ideal))) ⟨m, fun _ => 0, g⟩ (fun r => ∀ c : Dev Cert.KernelDwdownIdeal.nD,
          r.2.mem ((c.tc : Thread Cert.KernelDwdownIdeal.nD Cert.KernelDwdownIdeal.τ).loc Cert.KernelDwdownIdeal.main_v0_0) = v0 c
          ∧ r.2.mem ((c.tc : Thread Cert.KernelDwdownIdeal.nD Cert.KernelDwdownIdeal.τ).loc Cert.KernelDwdownIdeal.main_v0_1) = v1 c
          ∧ r.2.mem ((c.tc : Thread Cert.KernelDwdownIdeal.nD Cert.KernelDwdownIdeal.τ).loc Cert.KernelDwdownIdeal.main_arg0) = m ((c.tc : Thread Cert.KernelDwdownIdeal.nD Cert.KernelDwdownIdeal.τ).loc Cert.KernelDwdownIdeal.main_arg0)
          ∧ r.2.mem ((c.tc : Thread Cert.KernelDwdownIdeal.nD Cert.KernelDwdownIdeal.τ).loc Cert.KernelDwdownIdeal.main_arg1) = m ((c.tc : Thread Cert.KernelDwdownIdeal.nD Cert.KernelDwdownIdeal.τ).loc Cert.KernelDwdownIdeal.main_arg1)
          ∧ r.2.mem ((c.tc : Thread Cert.KernelDwdownIdeal.nD Cert.KernelDwdownIdeal.τ).loc Cert.KernelDwdownIdeal.main_arg2) = m ((c.tc : Thread Cert.KernelDwdownIdeal.nD Cert.KernelDwdownIdeal.τ).loc Cert.KernelDwdownIdeal.main_arg2)
          ∧ r.2.mem ((c.tc : Thread Cert.KernelDwdownIdeal.nD Cert.KernelDwdownIdeal.τ).loc Cert.KernelDwdownIdeal.main_arg3) = m ((c.tc : Thread Cert.KernelDwdownIdeal.nD Cert.KernelDwdownIdeal.τ).loc Cert.KernelDwdownIdeal.main_arg3))
      ∧ θ_run (Cert.ReferenceDwdownIdeal.defs (F := Ideal)) (onTc (τ := Cert.ReferenceDwdownIdeal.τ) (Cert.ReferenceDwdownIdeal.main (F := Ideal))) ⟨m', fun _ => 0, g'⟩ (fun r => ∀ c : Dev Cert.ReferenceDwdownIdeal.nD,
          r.2.mem ((c.tc : Thread Cert.ReferenceDwdownIdeal.nD Cert.ReferenceDwdownIdeal.τ).loc Cert.ReferenceDwdownIdeal.main_v8) = v0 c
          ∧ r.2.mem ((c.tc : Thread Cert.ReferenceDwdownIdeal.nD Cert.ReferenceDwdownIdeal.τ).loc Cert.ReferenceDwdownIdeal.main_v11) = v1 c
          ∧ r.2.mem ((c.tc : Thread Cert.ReferenceDwdownIdeal.nD Cert.ReferenceDwdownIdeal.τ).loc Cert.ReferenceDwdownIdeal.main_arg0) = m' ((c.tc : Thread Cert.ReferenceDwdownIdeal.nD Cert.ReferenceDwdownIdeal.τ).loc Cert.ReferenceDwdownIdeal.main_arg0)
          ∧ r.2.mem ((c.tc : Thread Cert.ReferenceDwdownIdeal.nD Cert.ReferenceDwdownIdeal.τ).loc Cert.ReferenceDwdownIdeal.main_arg1) = m' ((c.tc : Thread Cert.ReferenceDwdownIdeal.nD Cert.ReferenceDwdownIdeal.τ).loc Cert.ReferenceDwdownIdeal.main_arg1)
          ∧ r.2.mem ((c.tc : Thread Cert.ReferenceDwdownIdeal.nD Cert.ReferenceDwdownIdeal.τ).loc Cert.ReferenceDwdownIdeal.main_arg2) = m' ((c.tc : Thread Cert.ReferenceDwdownIdeal.nD Cert.ReferenceDwdownIdeal.τ).loc Cert.ReferenceDwdownIdeal.main_arg2)
          ∧ r.2.mem ((c.tc : Thread Cert.ReferenceDwdownIdeal.nD Cert.ReferenceDwdownIdeal.τ).loc Cert.ReferenceDwdownIdeal.main_arg3) = m' ((c.tc : Thread Cert.ReferenceDwdownIdeal.nD Cert.ReferenceDwdownIdeal.τ).loc Cert.ReferenceDwdownIdeal.main_arg3))

def preserves_KernelDwgate_KernelDwgateIdeal : Prop :=
  True

def algebraic_KernelDwgateIdeal_ReferenceDwgateIdeal [hKernelDwgateIdeal : Cert.KernelDwgateIdeal.Facts] [hReferenceDwgateIdeal : Cert.ReferenceDwgateIdeal.Facts] : Prop :=
  ∀ (m : (ℓ : Loc Cert.KernelDwgateIdeal.nD Cert.KernelDwgateIdeal.τ Cert.KernelDwgateIdeal.sig) → Buf (Elt Ideal) ℓ) (g : Dev Cert.KernelDwgateIdeal.nD → PrngReg)
    (m' : (ℓ : Loc Cert.ReferenceDwgateIdeal.nD Cert.ReferenceDwgateIdeal.τ Cert.ReferenceDwgateIdeal.sig) → Buf (Elt Ideal) ℓ) (g' : Dev Cert.ReferenceDwgateIdeal.nD → PrngReg), Pre_KernelDwgateIdeal m →
    (∀ c : Dev Cert.KernelDwgateIdeal.nD,
      m' ((c.tc : Thread Cert.ReferenceDwgateIdeal.nD Cert.ReferenceDwgateIdeal.τ).loc Cert.ReferenceDwgateIdeal.main_arg0) = m ((c.tc : Thread Cert.KernelDwgateIdeal.nD Cert.KernelDwgateIdeal.τ).loc Cert.KernelDwgateIdeal.main_arg0)
      ∧ m' ((c.tc : Thread Cert.ReferenceDwgateIdeal.nD Cert.ReferenceDwgateIdeal.τ).loc Cert.ReferenceDwgateIdeal.main_arg1) = m ((c.tc : Thread Cert.KernelDwgateIdeal.nD Cert.KernelDwgateIdeal.τ).loc Cert.KernelDwgateIdeal.main_arg1)
      ∧ m' ((c.tc : Thread Cert.ReferenceDwgateIdeal.nD Cert.ReferenceDwgateIdeal.τ).loc Cert.ReferenceDwgateIdeal.main_arg2) = m ((c.tc : Thread Cert.KernelDwgateIdeal.nD Cert.KernelDwgateIdeal.τ).loc Cert.KernelDwgateIdeal.main_arg2)
      ∧ m' ((c.tc : Thread Cert.ReferenceDwgateIdeal.nD Cert.ReferenceDwgateIdeal.τ).loc Cert.ReferenceDwgateIdeal.main_arg3) = m ((c.tc : Thread Cert.KernelDwgateIdeal.nD Cert.KernelDwgateIdeal.τ).loc Cert.KernelDwgateIdeal.main_arg3)) →
    ∃ (v0 : (c : Dev Cert.KernelDwgateIdeal.nD) → Buf (Elt Ideal) ((c.tc : Thread Cert.KernelDwgateIdeal.nD Cert.KernelDwgateIdeal.τ).loc Cert.KernelDwgateIdeal.main_v0_0)) (v1 : (c : Dev Cert.KernelDwgateIdeal.nD) → Buf (Elt Ideal) ((c.tc : Thread Cert.KernelDwgateIdeal.nD Cert.KernelDwgateIdeal.τ).loc Cert.KernelDwgateIdeal.main_v0_1)),
      θ_run (Cert.KernelDwgateIdeal.defs (F := Ideal)) (onTc (τ := Cert.KernelDwgateIdeal.τ) (Cert.KernelDwgateIdeal.main (F := Ideal))) ⟨m, fun _ => 0, g⟩ (fun r => ∀ c : Dev Cert.KernelDwgateIdeal.nD,
          r.2.mem ((c.tc : Thread Cert.KernelDwgateIdeal.nD Cert.KernelDwgateIdeal.τ).loc Cert.KernelDwgateIdeal.main_v0_0) = v0 c
          ∧ r.2.mem ((c.tc : Thread Cert.KernelDwgateIdeal.nD Cert.KernelDwgateIdeal.τ).loc Cert.KernelDwgateIdeal.main_v0_1) = v1 c
          ∧ r.2.mem ((c.tc : Thread Cert.KernelDwgateIdeal.nD Cert.KernelDwgateIdeal.τ).loc Cert.KernelDwgateIdeal.main_arg0) = m ((c.tc : Thread Cert.KernelDwgateIdeal.nD Cert.KernelDwgateIdeal.τ).loc Cert.KernelDwgateIdeal.main_arg0)
          ∧ r.2.mem ((c.tc : Thread Cert.KernelDwgateIdeal.nD Cert.KernelDwgateIdeal.τ).loc Cert.KernelDwgateIdeal.main_arg1) = m ((c.tc : Thread Cert.KernelDwgateIdeal.nD Cert.KernelDwgateIdeal.τ).loc Cert.KernelDwgateIdeal.main_arg1)
          ∧ r.2.mem ((c.tc : Thread Cert.KernelDwgateIdeal.nD Cert.KernelDwgateIdeal.τ).loc Cert.KernelDwgateIdeal.main_arg2) = m ((c.tc : Thread Cert.KernelDwgateIdeal.nD Cert.KernelDwgateIdeal.τ).loc Cert.KernelDwgateIdeal.main_arg2)
          ∧ r.2.mem ((c.tc : Thread Cert.KernelDwgateIdeal.nD Cert.KernelDwgateIdeal.τ).loc Cert.KernelDwgateIdeal.main_arg3) = m ((c.tc : Thread Cert.KernelDwgateIdeal.nD Cert.KernelDwgateIdeal.τ).loc Cert.KernelDwgateIdeal.main_arg3))
      ∧ θ_run (Cert.ReferenceDwgateIdeal.defs (F := Ideal)) (onTc (τ := Cert.ReferenceDwgateIdeal.τ) (Cert.ReferenceDwgateIdeal.main (F := Ideal))) ⟨m', fun _ => 0, g'⟩ (fun r => ∀ c : Dev Cert.ReferenceDwgateIdeal.nD,
          r.2.mem ((c.tc : Thread Cert.ReferenceDwgateIdeal.nD Cert.ReferenceDwgateIdeal.τ).loc Cert.ReferenceDwgateIdeal.main_v11) = v0 c
          ∧ r.2.mem ((c.tc : Thread Cert.ReferenceDwgateIdeal.nD Cert.ReferenceDwgateIdeal.τ).loc Cert.ReferenceDwgateIdeal.main_v17) = v1 c
          ∧ r.2.mem ((c.tc : Thread Cert.ReferenceDwgateIdeal.nD Cert.ReferenceDwgateIdeal.τ).loc Cert.ReferenceDwgateIdeal.main_arg0) = m' ((c.tc : Thread Cert.ReferenceDwgateIdeal.nD Cert.ReferenceDwgateIdeal.τ).loc Cert.ReferenceDwgateIdeal.main_arg0)
          ∧ r.2.mem ((c.tc : Thread Cert.ReferenceDwgateIdeal.nD Cert.ReferenceDwgateIdeal.τ).loc Cert.ReferenceDwgateIdeal.main_arg1) = m' ((c.tc : Thread Cert.ReferenceDwgateIdeal.nD Cert.ReferenceDwgateIdeal.τ).loc Cert.ReferenceDwgateIdeal.main_arg1)
          ∧ r.2.mem ((c.tc : Thread Cert.ReferenceDwgateIdeal.nD Cert.ReferenceDwgateIdeal.τ).loc Cert.ReferenceDwgateIdeal.main_arg2) = m' ((c.tc : Thread Cert.ReferenceDwgateIdeal.nD Cert.ReferenceDwgateIdeal.τ).loc Cert.ReferenceDwgateIdeal.main_arg2)
          ∧ r.2.mem ((c.tc : Thread Cert.ReferenceDwgateIdeal.nD Cert.ReferenceDwgateIdeal.τ).loc Cert.ReferenceDwgateIdeal.main_arg3) = m' ((c.tc : Thread Cert.ReferenceDwgateIdeal.nD Cert.ReferenceDwgateIdeal.τ).loc Cert.ReferenceDwgateIdeal.main_arg3))

def preserves_KernelDwup_KernelDwupIdeal : Prop :=
  True

def algebraic_KernelDwupIdeal_ReferenceDwupIdeal [hKernelDwupIdeal : Cert.KernelDwupIdeal.Facts] [hReferenceDwupIdeal : Cert.ReferenceDwupIdeal.Facts] : Prop :=
  ∀ (m : (ℓ : Loc Cert.KernelDwupIdeal.nD Cert.KernelDwupIdeal.τ Cert.KernelDwupIdeal.sig) → Buf (Elt Ideal) ℓ) (g : Dev Cert.KernelDwupIdeal.nD → PrngReg)
    (m' : (ℓ : Loc Cert.ReferenceDwupIdeal.nD Cert.ReferenceDwupIdeal.τ Cert.ReferenceDwupIdeal.sig) → Buf (Elt Ideal) ℓ) (g' : Dev Cert.ReferenceDwupIdeal.nD → PrngReg), Pre_KernelDwupIdeal m →
    (∀ c : Dev Cert.KernelDwupIdeal.nD,
      m' ((c.tc : Thread Cert.ReferenceDwupIdeal.nD Cert.ReferenceDwupIdeal.τ).loc Cert.ReferenceDwupIdeal.main_arg0) = m ((c.tc : Thread Cert.KernelDwupIdeal.nD Cert.KernelDwupIdeal.τ).loc Cert.KernelDwupIdeal.main_arg0)
      ∧ m' ((c.tc : Thread Cert.ReferenceDwupIdeal.nD Cert.ReferenceDwupIdeal.τ).loc Cert.ReferenceDwupIdeal.main_arg1) = m ((c.tc : Thread Cert.KernelDwupIdeal.nD Cert.KernelDwupIdeal.τ).loc Cert.KernelDwupIdeal.main_arg1)
      ∧ m' ((c.tc : Thread Cert.ReferenceDwupIdeal.nD Cert.ReferenceDwupIdeal.τ).loc Cert.ReferenceDwupIdeal.main_arg2) = m ((c.tc : Thread Cert.KernelDwupIdeal.nD Cert.KernelDwupIdeal.τ).loc Cert.KernelDwupIdeal.main_arg2)
      ∧ m' ((c.tc : Thread Cert.ReferenceDwupIdeal.nD Cert.ReferenceDwupIdeal.τ).loc Cert.ReferenceDwupIdeal.main_arg3) = m ((c.tc : Thread Cert.KernelDwupIdeal.nD Cert.KernelDwupIdeal.τ).loc Cert.KernelDwupIdeal.main_arg3)) →
    ∃ (v0 : (c : Dev Cert.KernelDwupIdeal.nD) → Buf (Elt Ideal) ((c.tc : Thread Cert.KernelDwupIdeal.nD Cert.KernelDwupIdeal.τ).loc Cert.KernelDwupIdeal.main_v0_0)) (v1 : (c : Dev Cert.KernelDwupIdeal.nD) → Buf (Elt Ideal) ((c.tc : Thread Cert.KernelDwupIdeal.nD Cert.KernelDwupIdeal.τ).loc Cert.KernelDwupIdeal.main_v0_1)),
      θ_run (Cert.KernelDwupIdeal.defs (F := Ideal)) (onTc (τ := Cert.KernelDwupIdeal.τ) (Cert.KernelDwupIdeal.main (F := Ideal))) ⟨m, fun _ => 0, g⟩ (fun r => ∀ c : Dev Cert.KernelDwupIdeal.nD,
          r.2.mem ((c.tc : Thread Cert.KernelDwupIdeal.nD Cert.KernelDwupIdeal.τ).loc Cert.KernelDwupIdeal.main_v0_0) = v0 c
          ∧ r.2.mem ((c.tc : Thread Cert.KernelDwupIdeal.nD Cert.KernelDwupIdeal.τ).loc Cert.KernelDwupIdeal.main_v0_1) = v1 c
          ∧ r.2.mem ((c.tc : Thread Cert.KernelDwupIdeal.nD Cert.KernelDwupIdeal.τ).loc Cert.KernelDwupIdeal.main_arg0) = m ((c.tc : Thread Cert.KernelDwupIdeal.nD Cert.KernelDwupIdeal.τ).loc Cert.KernelDwupIdeal.main_arg0)
          ∧ r.2.mem ((c.tc : Thread Cert.KernelDwupIdeal.nD Cert.KernelDwupIdeal.τ).loc Cert.KernelDwupIdeal.main_arg1) = m ((c.tc : Thread Cert.KernelDwupIdeal.nD Cert.KernelDwupIdeal.τ).loc Cert.KernelDwupIdeal.main_arg1)
          ∧ r.2.mem ((c.tc : Thread Cert.KernelDwupIdeal.nD Cert.KernelDwupIdeal.τ).loc Cert.KernelDwupIdeal.main_arg2) = m ((c.tc : Thread Cert.KernelDwupIdeal.nD Cert.KernelDwupIdeal.τ).loc Cert.KernelDwupIdeal.main_arg2)
          ∧ r.2.mem ((c.tc : Thread Cert.KernelDwupIdeal.nD Cert.KernelDwupIdeal.τ).loc Cert.KernelDwupIdeal.main_arg3) = m ((c.tc : Thread Cert.KernelDwupIdeal.nD Cert.KernelDwupIdeal.τ).loc Cert.KernelDwupIdeal.main_arg3))
      ∧ θ_run (Cert.ReferenceDwupIdeal.defs (F := Ideal)) (onTc (τ := Cert.ReferenceDwupIdeal.τ) (Cert.ReferenceDwupIdeal.main (F := Ideal))) ⟨m', fun _ => 0, g'⟩ (fun r => ∀ c : Dev Cert.ReferenceDwupIdeal.nD,
          r.2.mem ((c.tc : Thread Cert.ReferenceDwupIdeal.nD Cert.ReferenceDwupIdeal.τ).loc Cert.ReferenceDwupIdeal.main_v11) = v0 c
          ∧ r.2.mem ((c.tc : Thread Cert.ReferenceDwupIdeal.nD Cert.ReferenceDwupIdeal.τ).loc Cert.ReferenceDwupIdeal.main_v17) = v1 c
          ∧ r.2.mem ((c.tc : Thread Cert.ReferenceDwupIdeal.nD Cert.ReferenceDwupIdeal.τ).loc Cert.ReferenceDwupIdeal.main_arg0) = m' ((c.tc : Thread Cert.ReferenceDwupIdeal.nD Cert.ReferenceDwupIdeal.τ).loc Cert.ReferenceDwupIdeal.main_arg0)
          ∧ r.2.mem ((c.tc : Thread Cert.ReferenceDwupIdeal.nD Cert.ReferenceDwupIdeal.τ).loc Cert.ReferenceDwupIdeal.main_arg1) = m' ((c.tc : Thread Cert.ReferenceDwupIdeal.nD Cert.ReferenceDwupIdeal.τ).loc Cert.ReferenceDwupIdeal.main_arg1)
          ∧ r.2.mem ((c.tc : Thread Cert.ReferenceDwupIdeal.nD Cert.ReferenceDwupIdeal.τ).loc Cert.ReferenceDwupIdeal.main_arg2) = m' ((c.tc : Thread Cert.ReferenceDwupIdeal.nD Cert.ReferenceDwupIdeal.τ).loc Cert.ReferenceDwupIdeal.main_arg2)
          ∧ r.2.mem ((c.tc : Thread Cert.ReferenceDwupIdeal.nD Cert.ReferenceDwupIdeal.τ).loc Cert.ReferenceDwupIdeal.main_arg3) = m' ((c.tc : Thread Cert.ReferenceDwupIdeal.nD Cert.ReferenceDwupIdeal.τ).loc Cert.ReferenceDwupIdeal.main_arg3))

def preserves_KernelRetIn_KernelRetInIdeal : Prop :=
  True

def algebraic_KernelRetInIdeal_ReferenceRetInIdeal [hKernelRetInIdeal : Cert.KernelRetInIdeal.Facts] [hReferenceRetInIdeal : Cert.ReferenceRetInIdeal.Facts] : Prop :=
  ∀ (m : (ℓ : Loc Cert.KernelRetInIdeal.nD Cert.KernelRetInIdeal.τ Cert.KernelRetInIdeal.sig) → Buf (Elt Ideal) ℓ) (g : Dev Cert.KernelRetInIdeal.nD → PrngReg)
    (m' : (ℓ : Loc Cert.ReferenceRetInIdeal.nD Cert.ReferenceRetInIdeal.τ Cert.ReferenceRetInIdeal.sig) → Buf (Elt Ideal) ℓ) (g' : Dev Cert.ReferenceRetInIdeal.nD → PrngReg), Pre_KernelRetInIdeal m →
    (∀ c : Dev Cert.KernelRetInIdeal.nD,
      m' ((c.tc : Thread Cert.ReferenceRetInIdeal.nD Cert.ReferenceRetInIdeal.τ).loc Cert.ReferenceRetInIdeal.main_arg0) = m ((c.tc : Thread Cert.KernelRetInIdeal.nD Cert.KernelRetInIdeal.τ).loc Cert.KernelRetInIdeal.main_arg0)
      ∧ m' ((c.tc : Thread Cert.ReferenceRetInIdeal.nD Cert.ReferenceRetInIdeal.τ).loc Cert.ReferenceRetInIdeal.main_arg1) = m ((c.tc : Thread Cert.KernelRetInIdeal.nD Cert.KernelRetInIdeal.τ).loc Cert.KernelRetInIdeal.main_arg1)) →
    ∃ (v0 : (c : Dev Cert.KernelRetInIdeal.nD) → Buf (Elt Ideal) ((c.tc : Thread Cert.KernelRetInIdeal.nD Cert.KernelRetInIdeal.τ).loc Cert.KernelRetInIdeal.main_v0)),
      θ_run (Cert.KernelRetInIdeal.defs (F := Ideal)) (onTc (τ := Cert.KernelRetInIdeal.τ) (Cert.KernelRetInIdeal.main (F := Ideal))) ⟨m, fun _ => 0, g⟩ (fun r => ∀ c : Dev Cert.KernelRetInIdeal.nD,
          r.2.mem ((c.tc : Thread Cert.KernelRetInIdeal.nD Cert.KernelRetInIdeal.τ).loc Cert.KernelRetInIdeal.main_v0) = v0 c
          ∧ r.2.mem ((c.tc : Thread Cert.KernelRetInIdeal.nD Cert.KernelRetInIdeal.τ).loc Cert.KernelRetInIdeal.main_arg0) = m ((c.tc : Thread Cert.KernelRetInIdeal.nD Cert.KernelRetInIdeal.τ).loc Cert.KernelRetInIdeal.main_arg0)
          ∧ r.2.mem ((c.tc : Thread Cert.KernelRetInIdeal.nD Cert.KernelRetInIdeal.τ).loc Cert.KernelRetInIdeal.main_arg1) = m ((c.tc : Thread Cert.KernelRetInIdeal.nD Cert.KernelRetInIdeal.τ).loc Cert.KernelRetInIdeal.main_arg1))
      ∧ θ_run (Cert.ReferenceRetInIdeal.defs (F := Ideal)) (onTc (τ := Cert.ReferenceRetInIdeal.τ) (Cert.ReferenceRetInIdeal.main (F := Ideal))) ⟨m', fun _ => 0, g'⟩ (fun r => ∀ c : Dev Cert.ReferenceRetInIdeal.nD,
          r.2.mem ((c.tc : Thread Cert.ReferenceRetInIdeal.nD Cert.ReferenceRetInIdeal.τ).loc Cert.ReferenceRetInIdeal.main_v1) = v0 c
          ∧ r.2.mem ((c.tc : Thread Cert.ReferenceRetInIdeal.nD Cert.ReferenceRetInIdeal.τ).loc Cert.ReferenceRetInIdeal.main_arg0) = m' ((c.tc : Thread Cert.ReferenceRetInIdeal.nD Cert.ReferenceRetInIdeal.τ).loc Cert.ReferenceRetInIdeal.main_arg0)
          ∧ r.2.mem ((c.tc : Thread Cert.ReferenceRetInIdeal.nD Cert.ReferenceRetInIdeal.τ).loc Cert.ReferenceRetInIdeal.main_arg1) = m' ((c.tc : Thread Cert.ReferenceRetInIdeal.nD Cert.ReferenceRetInIdeal.τ).loc Cert.ReferenceRetInIdeal.main_arg1))

def preserves_KernelRetOut_KernelRetOutIdeal : Prop :=
  True

def algebraic_KernelRetOutIdeal_ReferenceRetOutIdeal [hKernelRetOutIdeal : Cert.KernelRetOutIdeal.Facts] [hReferenceRetOutIdeal : Cert.ReferenceRetOutIdeal.Facts] : Prop :=
  ∀ (m : (ℓ : Loc Cert.KernelRetOutIdeal.nD Cert.KernelRetOutIdeal.τ Cert.KernelRetOutIdeal.sig) → Buf (Elt Ideal) ℓ) (g : Dev Cert.KernelRetOutIdeal.nD → PrngReg)
    (m' : (ℓ : Loc Cert.ReferenceRetOutIdeal.nD Cert.ReferenceRetOutIdeal.τ Cert.ReferenceRetOutIdeal.sig) → Buf (Elt Ideal) ℓ) (g' : Dev Cert.ReferenceRetOutIdeal.nD → PrngReg), Pre_KernelRetOutIdeal m →
    (∀ c : Dev Cert.KernelRetOutIdeal.nD,
      m' ((c.tc : Thread Cert.ReferenceRetOutIdeal.nD Cert.ReferenceRetOutIdeal.τ).loc Cert.ReferenceRetOutIdeal.main_arg0) = m ((c.tc : Thread Cert.KernelRetOutIdeal.nD Cert.KernelRetOutIdeal.τ).loc Cert.KernelRetOutIdeal.main_arg0)
      ∧ m' ((c.tc : Thread Cert.ReferenceRetOutIdeal.nD Cert.ReferenceRetOutIdeal.τ).loc Cert.ReferenceRetOutIdeal.main_arg1) = m ((c.tc : Thread Cert.KernelRetOutIdeal.nD Cert.KernelRetOutIdeal.τ).loc Cert.KernelRetOutIdeal.main_arg1)) →
    ∃ (v0 : (c : Dev Cert.KernelRetOutIdeal.nD) → Buf (Elt Ideal) ((c.tc : Thread Cert.KernelRetOutIdeal.nD Cert.KernelRetOutIdeal.τ).loc Cert.KernelRetOutIdeal.main_v0)),
      θ_run (Cert.KernelRetOutIdeal.defs (F := Ideal)) (onTc (τ := Cert.KernelRetOutIdeal.τ) (Cert.KernelRetOutIdeal.main (F := Ideal))) ⟨m, fun _ => 0, g⟩ (fun r => ∀ c : Dev Cert.KernelRetOutIdeal.nD,
          r.2.mem ((c.tc : Thread Cert.KernelRetOutIdeal.nD Cert.KernelRetOutIdeal.τ).loc Cert.KernelRetOutIdeal.main_v0) = v0 c
          ∧ r.2.mem ((c.tc : Thread Cert.KernelRetOutIdeal.nD Cert.KernelRetOutIdeal.τ).loc Cert.KernelRetOutIdeal.main_arg0) = m ((c.tc : Thread Cert.KernelRetOutIdeal.nD Cert.KernelRetOutIdeal.τ).loc Cert.KernelRetOutIdeal.main_arg0)
          ∧ r.2.mem ((c.tc : Thread Cert.KernelRetOutIdeal.nD Cert.KernelRetOutIdeal.τ).loc Cert.KernelRetOutIdeal.main_arg1) = m ((c.tc : Thread Cert.KernelRetOutIdeal.nD Cert.KernelRetOutIdeal.τ).loc Cert.KernelRetOutIdeal.main_arg1))
      ∧ θ_run (Cert.ReferenceRetOutIdeal.defs (F := Ideal)) (onTc (τ := Cert.ReferenceRetOutIdeal.τ) (Cert.ReferenceRetOutIdeal.main (F := Ideal))) ⟨m', fun _ => 0, g'⟩ (fun r => ∀ c : Dev Cert.ReferenceRetOutIdeal.nD,
          r.2.mem ((c.tc : Thread Cert.ReferenceRetOutIdeal.nD Cert.ReferenceRetOutIdeal.τ).loc Cert.ReferenceRetOutIdeal.main_v2) = v0 c
          ∧ r.2.mem ((c.tc : Thread Cert.ReferenceRetOutIdeal.nD Cert.ReferenceRetOutIdeal.τ).loc Cert.ReferenceRetOutIdeal.main_arg0) = m' ((c.tc : Thread Cert.ReferenceRetOutIdeal.nD Cert.ReferenceRetOutIdeal.τ).loc Cert.ReferenceRetOutIdeal.main_arg0)
          ∧ r.2.mem ((c.tc : Thread Cert.ReferenceRetOutIdeal.nD Cert.ReferenceRetOutIdeal.τ).loc Cert.ReferenceRetOutIdeal.main_arg1) = m' ((c.tc : Thread Cert.ReferenceRetOutIdeal.nD Cert.ReferenceRetOutIdeal.τ).loc Cert.ReferenceRetOutIdeal.main_arg1))

def preserves_KernelRetDgated_KernelRetDgatedIdeal : Prop :=
  True

def algebraic_KernelRetDgatedIdeal_ReferenceRetDgatedIdeal [hKernelRetDgatedIdeal : Cert.KernelRetDgatedIdeal.Facts] [hReferenceRetDgatedIdeal : Cert.ReferenceRetDgatedIdeal.Facts] : Prop :=
  ∀ (m : (ℓ : Loc Cert.KernelRetDgatedIdeal.nD Cert.KernelRetDgatedIdeal.τ Cert.KernelRetDgatedIdeal.sig) → Buf (Elt Ideal) ℓ) (g : Dev Cert.KernelRetDgatedIdeal.nD → PrngReg)
    (m' : (ℓ : Loc Cert.ReferenceRetDgatedIdeal.nD Cert.ReferenceRetDgatedIdeal.τ Cert.ReferenceRetDgatedIdeal.sig) → Buf (Elt Ideal) ℓ) (g' : Dev Cert.ReferenceRetDgatedIdeal.nD → PrngReg), Pre_KernelRetDgatedIdeal m →
    (∀ c : Dev Cert.KernelRetDgatedIdeal.nD,
      m' ((c.tc : Thread Cert.ReferenceRetDgatedIdeal.nD Cert.ReferenceRetDgatedIdeal.τ).loc Cert.ReferenceRetDgatedIdeal.main_arg0) = m ((c.tc : Thread Cert.KernelRetDgatedIdeal.nD Cert.KernelRetDgatedIdeal.τ).loc Cert.KernelRetDgatedIdeal.main_arg0)
      ∧ m' ((c.tc : Thread Cert.ReferenceRetDgatedIdeal.nD Cert.ReferenceRetDgatedIdeal.τ).loc Cert.ReferenceRetDgatedIdeal.main_arg1) = m ((c.tc : Thread Cert.KernelRetDgatedIdeal.nD Cert.KernelRetDgatedIdeal.τ).loc Cert.KernelRetDgatedIdeal.main_arg1)) →
    ∃ (v0 : (c : Dev Cert.KernelRetDgatedIdeal.nD) → Buf (Elt Ideal) ((c.tc : Thread Cert.KernelRetDgatedIdeal.nD Cert.KernelRetDgatedIdeal.τ).loc Cert.KernelRetDgatedIdeal.main_v0)),
      θ_run (Cert.KernelRetDgatedIdeal.defs (F := Ideal)) (onTc (τ := Cert.KernelRetDgatedIdeal.τ) (Cert.KernelRetDgatedIdeal.main (F := Ideal))) ⟨m, fun _ => 0, g⟩ (fun r => ∀ c : Dev Cert.KernelRetDgatedIdeal.nD,
          r.2.mem ((c.tc : Thread Cert.KernelRetDgatedIdeal.nD Cert.KernelRetDgatedIdeal.τ).loc Cert.KernelRetDgatedIdeal.main_v0) = v0 c
          ∧ r.2.mem ((c.tc : Thread Cert.KernelRetDgatedIdeal.nD Cert.KernelRetDgatedIdeal.τ).loc Cert.KernelRetDgatedIdeal.main_arg0) = m ((c.tc : Thread Cert.KernelRetDgatedIdeal.nD Cert.KernelRetDgatedIdeal.τ).loc Cert.KernelRetDgatedIdeal.main_arg0)
          ∧ r.2.mem ((c.tc : Thread Cert.KernelRetDgatedIdeal.nD Cert.KernelRetDgatedIdeal.τ).loc Cert.KernelRetDgatedIdeal.main_arg1) = m ((c.tc : Thread Cert.KernelRetDgatedIdeal.nD Cert.KernelRetDgatedIdeal.τ).loc Cert.KernelRetDgatedIdeal.main_arg1))
      ∧ θ_run (Cert.ReferenceRetDgatedIdeal.defs (F := Ideal)) (onTc (τ := Cert.ReferenceRetDgatedIdeal.τ) (Cert.ReferenceRetDgatedIdeal.main (F := Ideal))) ⟨m', fun _ => 0, g'⟩ (fun r => ∀ c : Dev Cert.ReferenceRetDgatedIdeal.nD,
          r.2.mem ((c.tc : Thread Cert.ReferenceRetDgatedIdeal.nD Cert.ReferenceRetDgatedIdeal.τ).loc Cert.ReferenceRetDgatedIdeal.main_v3) = v0 c
          ∧ r.2.mem ((c.tc : Thread Cert.ReferenceRetDgatedIdeal.nD Cert.ReferenceRetDgatedIdeal.τ).loc Cert.ReferenceRetDgatedIdeal.main_arg0) = m' ((c.tc : Thread Cert.ReferenceRetDgatedIdeal.nD Cert.ReferenceRetDgatedIdeal.τ).loc Cert.ReferenceRetDgatedIdeal.main_arg0)
          ∧ r.2.mem ((c.tc : Thread Cert.ReferenceRetDgatedIdeal.nD Cert.ReferenceRetDgatedIdeal.τ).loc Cert.ReferenceRetDgatedIdeal.main_arg1) = m' ((c.tc : Thread Cert.ReferenceRetDgatedIdeal.nD Cert.ReferenceRetDgatedIdeal.τ).loc Cert.ReferenceRetDgatedIdeal.main_arg1))

def preserves_KernelRetDx_KernelRetDxIdeal : Prop :=
  True

def algebraic_KernelRetDxIdeal_ReferenceRetDxIdeal [hKernelRetDxIdeal : Cert.KernelRetDxIdeal.Facts] [hReferenceRetDxIdeal : Cert.ReferenceRetDxIdeal.Facts] : Prop :=
  ∀ (m : (ℓ : Loc Cert.KernelRetDxIdeal.nD Cert.KernelRetDxIdeal.τ Cert.KernelRetDxIdeal.sig) → Buf (Elt Ideal) ℓ) (g : Dev Cert.KernelRetDxIdeal.nD → PrngReg)
    (m' : (ℓ : Loc Cert.ReferenceRetDxIdeal.nD Cert.ReferenceRetDxIdeal.τ Cert.ReferenceRetDxIdeal.sig) → Buf (Elt Ideal) ℓ) (g' : Dev Cert.ReferenceRetDxIdeal.nD → PrngReg), Pre_KernelRetDxIdeal m →
    (∀ c : Dev Cert.KernelRetDxIdeal.nD,
      m' ((c.tc : Thread Cert.ReferenceRetDxIdeal.nD Cert.ReferenceRetDxIdeal.τ).loc Cert.ReferenceRetDxIdeal.main_arg0) = m ((c.tc : Thread Cert.KernelRetDxIdeal.nD Cert.KernelRetDxIdeal.τ).loc Cert.KernelRetDxIdeal.main_arg0)
      ∧ m' ((c.tc : Thread Cert.ReferenceRetDxIdeal.nD Cert.ReferenceRetDxIdeal.τ).loc Cert.ReferenceRetDxIdeal.main_arg1) = m ((c.tc : Thread Cert.KernelRetDxIdeal.nD Cert.KernelRetDxIdeal.τ).loc Cert.KernelRetDxIdeal.main_arg1)
      ∧ m' ((c.tc : Thread Cert.ReferenceRetDxIdeal.nD Cert.ReferenceRetDxIdeal.τ).loc Cert.ReferenceRetDxIdeal.main_arg2) = m ((c.tc : Thread Cert.KernelRetDxIdeal.nD Cert.KernelRetDxIdeal.τ).loc Cert.KernelRetDxIdeal.main_arg2)
      ∧ m' ((c.tc : Thread Cert.ReferenceRetDxIdeal.nD Cert.ReferenceRetDxIdeal.τ).loc Cert.ReferenceRetDxIdeal.main_arg3) = m ((c.tc : Thread Cert.KernelRetDxIdeal.nD Cert.KernelRetDxIdeal.τ).loc Cert.KernelRetDxIdeal.main_arg3)
      ∧ m' ((c.tc : Thread Cert.ReferenceRetDxIdeal.nD Cert.ReferenceRetDxIdeal.τ).loc Cert.ReferenceRetDxIdeal.main_arg4) = m ((c.tc : Thread Cert.KernelRetDxIdeal.nD Cert.KernelRetDxIdeal.τ).loc Cert.KernelRetDxIdeal.main_arg4)) →
    ∃ (v0 : (c : Dev Cert.KernelRetDxIdeal.nD) → Buf (Elt Ideal) ((c.tc : Thread Cert.KernelRetDxIdeal.nD Cert.KernelRetDxIdeal.τ).loc Cert.KernelRetDxIdeal.main_v0)),
      θ_run (Cert.KernelRetDxIdeal.defs (F := Ideal)) (onTc (τ := Cert.KernelRetDxIdeal.τ) (Cert.KernelRetDxIdeal.main (F := Ideal))) ⟨m, fun _ => 0, g⟩ (fun r => ∀ c : Dev Cert.KernelRetDxIdeal.nD,
          r.2.mem ((c.tc : Thread Cert.KernelRetDxIdeal.nD Cert.KernelRetDxIdeal.τ).loc Cert.KernelRetDxIdeal.main_v0) = v0 c
          ∧ r.2.mem ((c.tc : Thread Cert.KernelRetDxIdeal.nD Cert.KernelRetDxIdeal.τ).loc Cert.KernelRetDxIdeal.main_arg0) = m ((c.tc : Thread Cert.KernelRetDxIdeal.nD Cert.KernelRetDxIdeal.τ).loc Cert.KernelRetDxIdeal.main_arg0)
          ∧ r.2.mem ((c.tc : Thread Cert.KernelRetDxIdeal.nD Cert.KernelRetDxIdeal.τ).loc Cert.KernelRetDxIdeal.main_arg1) = m ((c.tc : Thread Cert.KernelRetDxIdeal.nD Cert.KernelRetDxIdeal.τ).loc Cert.KernelRetDxIdeal.main_arg1)
          ∧ r.2.mem ((c.tc : Thread Cert.KernelRetDxIdeal.nD Cert.KernelRetDxIdeal.τ).loc Cert.KernelRetDxIdeal.main_arg2) = m ((c.tc : Thread Cert.KernelRetDxIdeal.nD Cert.KernelRetDxIdeal.τ).loc Cert.KernelRetDxIdeal.main_arg2)
          ∧ r.2.mem ((c.tc : Thread Cert.KernelRetDxIdeal.nD Cert.KernelRetDxIdeal.τ).loc Cert.KernelRetDxIdeal.main_arg3) = m ((c.tc : Thread Cert.KernelRetDxIdeal.nD Cert.KernelRetDxIdeal.τ).loc Cert.KernelRetDxIdeal.main_arg3)
          ∧ r.2.mem ((c.tc : Thread Cert.KernelRetDxIdeal.nD Cert.KernelRetDxIdeal.τ).loc Cert.KernelRetDxIdeal.main_arg4) = m ((c.tc : Thread Cert.KernelRetDxIdeal.nD Cert.KernelRetDxIdeal.τ).loc Cert.KernelRetDxIdeal.main_arg4))
      ∧ θ_run (Cert.ReferenceRetDxIdeal.defs (F := Ideal)) (onTc (τ := Cert.ReferenceRetDxIdeal.τ) (Cert.ReferenceRetDxIdeal.main (F := Ideal))) ⟨m', fun _ => 0, g'⟩ (fun r => ∀ c : Dev Cert.ReferenceRetDxIdeal.nD,
          r.2.mem ((c.tc : Thread Cert.ReferenceRetDxIdeal.nD Cert.ReferenceRetDxIdeal.τ).loc Cert.ReferenceRetDxIdeal.main_v5) = v0 c
          ∧ r.2.mem ((c.tc : Thread Cert.ReferenceRetDxIdeal.nD Cert.ReferenceRetDxIdeal.τ).loc Cert.ReferenceRetDxIdeal.main_arg0) = m' ((c.tc : Thread Cert.ReferenceRetDxIdeal.nD Cert.ReferenceRetDxIdeal.τ).loc Cert.ReferenceRetDxIdeal.main_arg0)
          ∧ r.2.mem ((c.tc : Thread Cert.ReferenceRetDxIdeal.nD Cert.ReferenceRetDxIdeal.τ).loc Cert.ReferenceRetDxIdeal.main_arg1) = m' ((c.tc : Thread Cert.ReferenceRetDxIdeal.nD Cert.ReferenceRetDxIdeal.τ).loc Cert.ReferenceRetDxIdeal.main_arg1)
          ∧ r.2.mem ((c.tc : Thread Cert.ReferenceRetDxIdeal.nD Cert.ReferenceRetDxIdeal.τ).loc Cert.ReferenceRetDxIdeal.main_arg2) = m' ((c.tc : Thread Cert.ReferenceRetDxIdeal.nD Cert.ReferenceRetDxIdeal.τ).loc Cert.ReferenceRetDxIdeal.main_arg2)
          ∧ r.2.mem ((c.tc : Thread Cert.ReferenceRetDxIdeal.nD Cert.ReferenceRetDxIdeal.τ).loc Cert.ReferenceRetDxIdeal.main_arg3) = m' ((c.tc : Thread Cert.ReferenceRetDxIdeal.nD Cert.ReferenceRetDxIdeal.τ).loc Cert.ReferenceRetDxIdeal.main_arg3)
          ∧ r.2.mem ((c.tc : Thread Cert.ReferenceRetDxIdeal.nD Cert.ReferenceRetDxIdeal.τ).loc Cert.ReferenceRetDxIdeal.main_arg4) = m' ((c.tc : Thread Cert.ReferenceRetDxIdeal.nD Cert.ReferenceRetDxIdeal.τ).loc Cert.ReferenceRetDxIdeal.main_arg4))

def preserves_KernelLruIn_KernelLruInIdeal : Prop :=
  True

def algebraic_KernelLruInIdeal_ReferenceLruInIdeal [hKernelLruInIdeal : Cert.KernelLruInIdeal.Facts] [hReferenceLruInIdeal : Cert.ReferenceLruInIdeal.Facts] : Prop :=
  ∀ (m : (ℓ : Loc Cert.KernelLruInIdeal.nD Cert.KernelLruInIdeal.τ Cert.KernelLruInIdeal.sig) → Buf (Elt Ideal) ℓ) (g : Dev Cert.KernelLruInIdeal.nD → PrngReg)
    (m' : (ℓ : Loc Cert.ReferenceLruInIdeal.nD Cert.ReferenceLruInIdeal.τ Cert.ReferenceLruInIdeal.sig) → Buf (Elt Ideal) ℓ) (g' : Dev Cert.ReferenceLruInIdeal.nD → PrngReg), Pre_KernelLruInIdeal m →
    (∀ c : Dev Cert.KernelLruInIdeal.nD,
      m' ((c.tc : Thread Cert.ReferenceLruInIdeal.nD Cert.ReferenceLruInIdeal.τ).loc Cert.ReferenceLruInIdeal.main_arg0) = m ((c.tc : Thread Cert.KernelLruInIdeal.nD Cert.KernelLruInIdeal.τ).loc Cert.KernelLruInIdeal.main_arg0)
      ∧ m' ((c.tc : Thread Cert.ReferenceLruInIdeal.nD Cert.ReferenceLruInIdeal.τ).loc Cert.ReferenceLruInIdeal.main_arg1) = m ((c.tc : Thread Cert.KernelLruInIdeal.nD Cert.KernelLruInIdeal.τ).loc Cert.KernelLruInIdeal.main_arg1)) →
    ∃ (v0 : (c : Dev Cert.KernelLruInIdeal.nD) → Buf (Elt Ideal) ((c.tc : Thread Cert.KernelLruInIdeal.nD Cert.KernelLruInIdeal.τ).loc Cert.KernelLruInIdeal.main_v0)),
      θ_run (Cert.KernelLruInIdeal.defs (F := Ideal)) (onTc (τ := Cert.KernelLruInIdeal.τ) (Cert.KernelLruInIdeal.main (F := Ideal))) ⟨m, fun _ => 0, g⟩ (fun r => ∀ c : Dev Cert.KernelLruInIdeal.nD,
          r.2.mem ((c.tc : Thread Cert.KernelLruInIdeal.nD Cert.KernelLruInIdeal.τ).loc Cert.KernelLruInIdeal.main_v0) = v0 c
          ∧ r.2.mem ((c.tc : Thread Cert.KernelLruInIdeal.nD Cert.KernelLruInIdeal.τ).loc Cert.KernelLruInIdeal.main_arg0) = m ((c.tc : Thread Cert.KernelLruInIdeal.nD Cert.KernelLruInIdeal.τ).loc Cert.KernelLruInIdeal.main_arg0)
          ∧ r.2.mem ((c.tc : Thread Cert.KernelLruInIdeal.nD Cert.KernelLruInIdeal.τ).loc Cert.KernelLruInIdeal.main_arg1) = m ((c.tc : Thread Cert.KernelLruInIdeal.nD Cert.KernelLruInIdeal.τ).loc Cert.KernelLruInIdeal.main_arg1))
      ∧ θ_run (Cert.ReferenceLruInIdeal.defs (F := Ideal)) (onTc (τ := Cert.ReferenceLruInIdeal.τ) (Cert.ReferenceLruInIdeal.main (F := Ideal))) ⟨m', fun _ => 0, g'⟩ (fun r => ∀ c : Dev Cert.ReferenceLruInIdeal.nD,
          r.2.mem ((c.tc : Thread Cert.ReferenceLruInIdeal.nD Cert.ReferenceLruInIdeal.τ).loc Cert.ReferenceLruInIdeal.main_v1) = v0 c
          ∧ r.2.mem ((c.tc : Thread Cert.ReferenceLruInIdeal.nD Cert.ReferenceLruInIdeal.τ).loc Cert.ReferenceLruInIdeal.main_arg0) = m' ((c.tc : Thread Cert.ReferenceLruInIdeal.nD Cert.ReferenceLruInIdeal.τ).loc Cert.ReferenceLruInIdeal.main_arg0)
          ∧ r.2.mem ((c.tc : Thread Cert.ReferenceLruInIdeal.nD Cert.ReferenceLruInIdeal.τ).loc Cert.ReferenceLruInIdeal.main_arg1) = m' ((c.tc : Thread Cert.ReferenceLruInIdeal.nD Cert.ReferenceLruInIdeal.τ).loc Cert.ReferenceLruInIdeal.main_arg1))

def preserves_KernelLruOut_KernelLruOutIdeal : Prop :=
  True

def algebraic_KernelLruOutIdeal_ReferenceLruOutIdeal [hKernelLruOutIdeal : Cert.KernelLruOutIdeal.Facts] [hReferenceLruOutIdeal : Cert.ReferenceLruOutIdeal.Facts] : Prop :=
  ∀ (m : (ℓ : Loc Cert.KernelLruOutIdeal.nD Cert.KernelLruOutIdeal.τ Cert.KernelLruOutIdeal.sig) → Buf (Elt Ideal) ℓ) (g : Dev Cert.KernelLruOutIdeal.nD → PrngReg)
    (m' : (ℓ : Loc Cert.ReferenceLruOutIdeal.nD Cert.ReferenceLruOutIdeal.τ Cert.ReferenceLruOutIdeal.sig) → Buf (Elt Ideal) ℓ) (g' : Dev Cert.ReferenceLruOutIdeal.nD → PrngReg), Pre_KernelLruOutIdeal m →
    (∀ c : Dev Cert.KernelLruOutIdeal.nD,
      m' ((c.tc : Thread Cert.ReferenceLruOutIdeal.nD Cert.ReferenceLruOutIdeal.τ).loc Cert.ReferenceLruOutIdeal.main_arg0) = m ((c.tc : Thread Cert.KernelLruOutIdeal.nD Cert.KernelLruOutIdeal.τ).loc Cert.KernelLruOutIdeal.main_arg0)
      ∧ m' ((c.tc : Thread Cert.ReferenceLruOutIdeal.nD Cert.ReferenceLruOutIdeal.τ).loc Cert.ReferenceLruOutIdeal.main_arg1) = m ((c.tc : Thread Cert.KernelLruOutIdeal.nD Cert.KernelLruOutIdeal.τ).loc Cert.KernelLruOutIdeal.main_arg1)) →
    ∃ (v0 : (c : Dev Cert.KernelLruOutIdeal.nD) → Buf (Elt Ideal) ((c.tc : Thread Cert.KernelLruOutIdeal.nD Cert.KernelLruOutIdeal.τ).loc Cert.KernelLruOutIdeal.main_v0)),
      θ_run (Cert.KernelLruOutIdeal.defs (F := Ideal)) (onTc (τ := Cert.KernelLruOutIdeal.τ) (Cert.KernelLruOutIdeal.main (F := Ideal))) ⟨m, fun _ => 0, g⟩ (fun r => ∀ c : Dev Cert.KernelLruOutIdeal.nD,
          r.2.mem ((c.tc : Thread Cert.KernelLruOutIdeal.nD Cert.KernelLruOutIdeal.τ).loc Cert.KernelLruOutIdeal.main_v0) = v0 c
          ∧ r.2.mem ((c.tc : Thread Cert.KernelLruOutIdeal.nD Cert.KernelLruOutIdeal.τ).loc Cert.KernelLruOutIdeal.main_arg0) = m ((c.tc : Thread Cert.KernelLruOutIdeal.nD Cert.KernelLruOutIdeal.τ).loc Cert.KernelLruOutIdeal.main_arg0)
          ∧ r.2.mem ((c.tc : Thread Cert.KernelLruOutIdeal.nD Cert.KernelLruOutIdeal.τ).loc Cert.KernelLruOutIdeal.main_arg1) = m ((c.tc : Thread Cert.KernelLruOutIdeal.nD Cert.KernelLruOutIdeal.τ).loc Cert.KernelLruOutIdeal.main_arg1))
      ∧ θ_run (Cert.ReferenceLruOutIdeal.defs (F := Ideal)) (onTc (τ := Cert.ReferenceLruOutIdeal.τ) (Cert.ReferenceLruOutIdeal.main (F := Ideal))) ⟨m', fun _ => 0, g'⟩ (fun r => ∀ c : Dev Cert.ReferenceLruOutIdeal.nD,
          r.2.mem ((c.tc : Thread Cert.ReferenceLruOutIdeal.nD Cert.ReferenceLruOutIdeal.τ).loc Cert.ReferenceLruOutIdeal.main_v2) = v0 c
          ∧ r.2.mem ((c.tc : Thread Cert.ReferenceLruOutIdeal.nD Cert.ReferenceLruOutIdeal.τ).loc Cert.ReferenceLruOutIdeal.main_arg0) = m' ((c.tc : Thread Cert.ReferenceLruOutIdeal.nD Cert.ReferenceLruOutIdeal.τ).loc Cert.ReferenceLruOutIdeal.main_arg0)
          ∧ r.2.mem ((c.tc : Thread Cert.ReferenceLruOutIdeal.nD Cert.ReferenceLruOutIdeal.τ).loc Cert.ReferenceLruOutIdeal.main_arg1) = m' ((c.tc : Thread Cert.ReferenceLruOutIdeal.nD Cert.ReferenceLruOutIdeal.τ).loc Cert.ReferenceLruOutIdeal.main_arg1))

def preserves_KernelDmix_KernelDmixIdeal : Prop :=
  True

def algebraic_KernelDmixIdeal_ReferenceDmixIdeal [hKernelDmixIdeal : Cert.KernelDmixIdeal.Facts] [hReferenceDmixIdeal : Cert.ReferenceDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg)
    (m' : (ℓ : Loc Cert.ReferenceDmixIdeal.nD Cert.ReferenceDmixIdeal.τ Cert.ReferenceDmixIdeal.sig) → Buf (Elt Ideal) ℓ) (g' : Dev Cert.ReferenceDmixIdeal.nD → PrngReg), Pre_KernelDmixIdeal m →
    (∀ c : Dev Cert.KernelDmixIdeal.nD,
      m' ((c.tc : Thread Cert.ReferenceDmixIdeal.nD Cert.ReferenceDmixIdeal.τ).loc Cert.ReferenceDmixIdeal.main_arg0) = m ((c.tc : Thread Cert.KernelDmixIdeal.nD Cert.KernelDmixIdeal.τ).loc Cert.KernelDmixIdeal.main_arg0)
      ∧ m' ((c.tc : Thread Cert.ReferenceDmixIdeal.nD Cert.ReferenceDmixIdeal.τ).loc Cert.ReferenceDmixIdeal.main_arg1) = m ((c.tc : Thread Cert.KernelDmixIdeal.nD Cert.KernelDmixIdeal.τ).loc Cert.KernelDmixIdeal.main_arg1)) →
    ∃ (v0 : (c : Dev Cert.KernelDmixIdeal.nD) → Buf (Elt Ideal) ((c.tc : Thread Cert.KernelDmixIdeal.nD Cert.KernelDmixIdeal.τ).loc Cert.KernelDmixIdeal.main_v0)),
      θ_run (Cert.KernelDmixIdeal.defs (F := Ideal)) (onTc (τ := Cert.KernelDmixIdeal.τ) (Cert.KernelDmixIdeal.main (F := Ideal))) ⟨m, fun _ => 0, g⟩ (fun r => ∀ c : Dev Cert.KernelDmixIdeal.nD,
          r.2.mem ((c.tc : Thread Cert.KernelDmixIdeal.nD Cert.KernelDmixIdeal.τ).loc Cert.KernelDmixIdeal.main_v0) = v0 c
          ∧ r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
          ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1))
      ∧ θ_run (Cert.ReferenceDmixIdeal.defs (F := Ideal)) (onTc (τ := Cert.ReferenceDmixIdeal.τ) (Cert.ReferenceDmixIdeal.main (F := Ideal))) ⟨m', fun _ => 0, g'⟩ (fun r => ∀ c : Dev Cert.ReferenceDmixIdeal.nD,
          r.2.mem ((c.tc : Thread Cert.ReferenceDmixIdeal.nD Cert.ReferenceDmixIdeal.τ).loc Cert.ReferenceDmixIdeal.main_v3) = v0 c
          ∧ r.2.mem ((c.tc : Thread Cert.ReferenceDmixIdeal.nD Cert.ReferenceDmixIdeal.τ).loc Cert.ReferenceDmixIdeal.main_arg0) = m' ((c.tc : Thread Cert.ReferenceDmixIdeal.nD Cert.ReferenceDmixIdeal.τ).loc Cert.ReferenceDmixIdeal.main_arg0)
          ∧ r.2.mem ((c.tc : Thread Cert.ReferenceDmixIdeal.nD Cert.ReferenceDmixIdeal.τ).loc Cert.ReferenceDmixIdeal.main_arg1) = m' ((c.tc : Thread Cert.ReferenceDmixIdeal.nD Cert.ReferenceDmixIdeal.τ).loc Cert.ReferenceDmixIdeal.main_arg1))

def preserves_KernelLruDx_KernelLruDxIdeal : Prop :=
  True

def algebraic_KernelLruDxIdeal_ReferenceLruDxIdeal [hKernelLruDxIdeal : Cert.KernelLruDxIdeal.Facts] [hReferenceLruDxIdeal : Cert.ReferenceLruDxIdeal.Facts] : Prop :=
  ∀ (m : (ℓ : Loc Cert.KernelLruDxIdeal.nD Cert.KernelLruDxIdeal.τ Cert.KernelLruDxIdeal.sig) → Buf (Elt Ideal) ℓ) (g : Dev Cert.KernelLruDxIdeal.nD → PrngReg)
    (m' : (ℓ : Loc Cert.ReferenceLruDxIdeal.nD Cert.ReferenceLruDxIdeal.τ Cert.ReferenceLruDxIdeal.sig) → Buf (Elt Ideal) ℓ) (g' : Dev Cert.ReferenceLruDxIdeal.nD → PrngReg), Pre_KernelLruDxIdeal m →
    (∀ c : Dev Cert.KernelLruDxIdeal.nD,
      m' ((c.tc : Thread Cert.ReferenceLruDxIdeal.nD Cert.ReferenceLruDxIdeal.τ).loc Cert.ReferenceLruDxIdeal.main_arg0) = m ((c.tc : Thread Cert.KernelLruDxIdeal.nD Cert.KernelLruDxIdeal.τ).loc Cert.KernelLruDxIdeal.main_arg0)
      ∧ m' ((c.tc : Thread Cert.ReferenceLruDxIdeal.nD Cert.ReferenceLruDxIdeal.τ).loc Cert.ReferenceLruDxIdeal.main_arg1) = m ((c.tc : Thread Cert.KernelLruDxIdeal.nD Cert.KernelLruDxIdeal.τ).loc Cert.KernelLruDxIdeal.main_arg1)
      ∧ m' ((c.tc : Thread Cert.ReferenceLruDxIdeal.nD Cert.ReferenceLruDxIdeal.τ).loc Cert.ReferenceLruDxIdeal.main_arg2) = m ((c.tc : Thread Cert.KernelLruDxIdeal.nD Cert.KernelLruDxIdeal.τ).loc Cert.KernelLruDxIdeal.main_arg2)) →
    ∃ (v0 : (c : Dev Cert.KernelLruDxIdeal.nD) → Buf (Elt Ideal) ((c.tc : Thread Cert.KernelLruDxIdeal.nD Cert.KernelLruDxIdeal.τ).loc Cert.KernelLruDxIdeal.main_v0)),
      θ_run (Cert.KernelLruDxIdeal.defs (F := Ideal)) (onTc (τ := Cert.KernelLruDxIdeal.τ) (Cert.KernelLruDxIdeal.main (F := Ideal))) ⟨m, fun _ => 0, g⟩ (fun r => ∀ c : Dev Cert.KernelLruDxIdeal.nD,
          r.2.mem ((c.tc : Thread Cert.KernelLruDxIdeal.nD Cert.KernelLruDxIdeal.τ).loc Cert.KernelLruDxIdeal.main_v0) = v0 c
          ∧ r.2.mem ((c.tc : Thread Cert.KernelLruDxIdeal.nD Cert.KernelLruDxIdeal.τ).loc Cert.KernelLruDxIdeal.main_arg0) = m ((c.tc : Thread Cert.KernelLruDxIdeal.nD Cert.KernelLruDxIdeal.τ).loc Cert.KernelLruDxIdeal.main_arg0)
          ∧ r.2.mem ((c.tc : Thread Cert.KernelLruDxIdeal.nD Cert.KernelLruDxIdeal.τ).loc Cert.KernelLruDxIdeal.main_arg1) = m ((c.tc : Thread Cert.KernelLruDxIdeal.nD Cert.KernelLruDxIdeal.τ).loc Cert.KernelLruDxIdeal.main_arg1)
          ∧ r.2.mem ((c.tc : Thread Cert.KernelLruDxIdeal.nD Cert.KernelLruDxIdeal.τ).loc Cert.KernelLruDxIdeal.main_arg2) = m ((c.tc : Thread Cert.KernelLruDxIdeal.nD Cert.KernelLruDxIdeal.τ).loc Cert.KernelLruDxIdeal.main_arg2))
      ∧ θ_run (Cert.ReferenceLruDxIdeal.defs (F := Ideal)) (onTc (τ := Cert.ReferenceLruDxIdeal.τ) (Cert.ReferenceLruDxIdeal.main (F := Ideal))) ⟨m', fun _ => 0, g'⟩ (fun r => ∀ c : Dev Cert.ReferenceLruDxIdeal.nD,
          r.2.mem ((c.tc : Thread Cert.ReferenceLruDxIdeal.nD Cert.ReferenceLruDxIdeal.τ).loc Cert.ReferenceLruDxIdeal.main_v5) = v0 c
          ∧ r.2.mem ((c.tc : Thread Cert.ReferenceLruDxIdeal.nD Cert.ReferenceLruDxIdeal.τ).loc Cert.ReferenceLruDxIdeal.main_arg0) = m' ((c.tc : Thread Cert.ReferenceLruDxIdeal.nD Cert.ReferenceLruDxIdeal.τ).loc Cert.ReferenceLruDxIdeal.main_arg0)
          ∧ r.2.mem ((c.tc : Thread Cert.ReferenceLruDxIdeal.nD Cert.ReferenceLruDxIdeal.τ).loc Cert.ReferenceLruDxIdeal.main_arg1) = m' ((c.tc : Thread Cert.ReferenceLruDxIdeal.nD Cert.ReferenceLruDxIdeal.τ).loc Cert.ReferenceLruDxIdeal.main_arg1)
          ∧ r.2.mem ((c.tc : Thread Cert.ReferenceLruDxIdeal.nD Cert.ReferenceLruDxIdeal.τ).loc Cert.ReferenceLruDxIdeal.main_arg2) = m' ((c.tc : Thread Cert.ReferenceLruDxIdeal.nD Cert.ReferenceLruDxIdeal.τ).loc Cert.ReferenceLruDxIdeal.main_arg2))

def preserves_KernelMlaIn_KernelMlaInIdeal : Prop :=
  True

def algebraic_KernelMlaInIdeal_ReferenceMlaInIdeal [hKernelMlaInIdeal : Cert.KernelMlaInIdeal.Facts] [hReferenceMlaInIdeal : Cert.ReferenceMlaInIdeal.Facts] : Prop :=
  ∀ (m : (ℓ : Loc Cert.KernelMlaInIdeal.nD Cert.KernelMlaInIdeal.τ Cert.KernelMlaInIdeal.sig) → Buf (Elt Ideal) ℓ) (g : Dev Cert.KernelMlaInIdeal.nD → PrngReg)
    (m' : (ℓ : Loc Cert.ReferenceMlaInIdeal.nD Cert.ReferenceMlaInIdeal.τ Cert.ReferenceMlaInIdeal.sig) → Buf (Elt Ideal) ℓ) (g' : Dev Cert.ReferenceMlaInIdeal.nD → PrngReg), Pre_KernelMlaInIdeal m →
    (∀ c : Dev Cert.KernelMlaInIdeal.nD,
      m' ((c.tc : Thread Cert.ReferenceMlaInIdeal.nD Cert.ReferenceMlaInIdeal.τ).loc Cert.ReferenceMlaInIdeal.main_arg0) = m ((c.tc : Thread Cert.KernelMlaInIdeal.nD Cert.KernelMlaInIdeal.τ).loc Cert.KernelMlaInIdeal.main_arg0)
      ∧ m' ((c.tc : Thread Cert.ReferenceMlaInIdeal.nD Cert.ReferenceMlaInIdeal.τ).loc Cert.ReferenceMlaInIdeal.main_arg1) = m ((c.tc : Thread Cert.KernelMlaInIdeal.nD Cert.KernelMlaInIdeal.τ).loc Cert.KernelMlaInIdeal.main_arg1)) →
    ∃ (v0 : (c : Dev Cert.KernelMlaInIdeal.nD) → Buf (Elt Ideal) ((c.tc : Thread Cert.KernelMlaInIdeal.nD Cert.KernelMlaInIdeal.τ).loc Cert.KernelMlaInIdeal.main_v0)),
      θ_run (Cert.KernelMlaInIdeal.defs (F := Ideal)) (onTc (τ := Cert.KernelMlaInIdeal.τ) (Cert.KernelMlaInIdeal.main (F := Ideal))) ⟨m, fun _ => 0, g⟩ (fun r => ∀ c : Dev Cert.KernelMlaInIdeal.nD,
          r.2.mem ((c.tc : Thread Cert.KernelMlaInIdeal.nD Cert.KernelMlaInIdeal.τ).loc Cert.KernelMlaInIdeal.main_v0) = v0 c
          ∧ r.2.mem ((c.tc : Thread Cert.KernelMlaInIdeal.nD Cert.KernelMlaInIdeal.τ).loc Cert.KernelMlaInIdeal.main_arg0) = m ((c.tc : Thread Cert.KernelMlaInIdeal.nD Cert.KernelMlaInIdeal.τ).loc Cert.KernelMlaInIdeal.main_arg0)
          ∧ r.2.mem ((c.tc : Thread Cert.KernelMlaInIdeal.nD Cert.KernelMlaInIdeal.τ).loc Cert.KernelMlaInIdeal.main_arg1) = m ((c.tc : Thread Cert.KernelMlaInIdeal.nD Cert.KernelMlaInIdeal.τ).loc Cert.KernelMlaInIdeal.main_arg1))
      ∧ θ_run (Cert.ReferenceMlaInIdeal.defs (F := Ideal)) (onTc (τ := Cert.ReferenceMlaInIdeal.τ) (Cert.ReferenceMlaInIdeal.main (F := Ideal))) ⟨m', fun _ => 0, g'⟩ (fun r => ∀ c : Dev Cert.ReferenceMlaInIdeal.nD,
          r.2.mem ((c.tc : Thread Cert.ReferenceMlaInIdeal.nD Cert.ReferenceMlaInIdeal.τ).loc Cert.ReferenceMlaInIdeal.main_v1) = v0 c
          ∧ r.2.mem ((c.tc : Thread Cert.ReferenceMlaInIdeal.nD Cert.ReferenceMlaInIdeal.τ).loc Cert.ReferenceMlaInIdeal.main_arg0) = m' ((c.tc : Thread Cert.ReferenceMlaInIdeal.nD Cert.ReferenceMlaInIdeal.τ).loc Cert.ReferenceMlaInIdeal.main_arg0)
          ∧ r.2.mem ((c.tc : Thread Cert.ReferenceMlaInIdeal.nD Cert.ReferenceMlaInIdeal.τ).loc Cert.ReferenceMlaInIdeal.main_arg1) = m' ((c.tc : Thread Cert.ReferenceMlaInIdeal.nD Cert.ReferenceMlaInIdeal.τ).loc Cert.ReferenceMlaInIdeal.main_arg1))

def preserves_KernelMlaUq_KernelMlaUqIdeal : Prop :=
  True

def algebraic_KernelMlaUqIdeal_ReferenceMlaUqIdeal [hKernelMlaUqIdeal : Cert.KernelMlaUqIdeal.Facts] [hReferenceMlaUqIdeal : Cert.ReferenceMlaUqIdeal.Facts] : Prop :=
  ∀ (m : (ℓ : Loc Cert.KernelMlaUqIdeal.nD Cert.KernelMlaUqIdeal.τ Cert.KernelMlaUqIdeal.sig) → Buf (Elt Ideal) ℓ) (g : Dev Cert.KernelMlaUqIdeal.nD → PrngReg)
    (m' : (ℓ : Loc Cert.ReferenceMlaUqIdeal.nD Cert.ReferenceMlaUqIdeal.τ Cert.ReferenceMlaUqIdeal.sig) → Buf (Elt Ideal) ℓ) (g' : Dev Cert.ReferenceMlaUqIdeal.nD → PrngReg), Pre_KernelMlaUqIdeal m →
    (∀ c : Dev Cert.KernelMlaUqIdeal.nD,
      m' ((c.tc : Thread Cert.ReferenceMlaUqIdeal.nD Cert.ReferenceMlaUqIdeal.τ).loc Cert.ReferenceMlaUqIdeal.main_arg0) = m ((c.tc : Thread Cert.KernelMlaUqIdeal.nD Cert.KernelMlaUqIdeal.τ).loc Cert.KernelMlaUqIdeal.main_arg0)
      ∧ m' ((c.tc : Thread Cert.ReferenceMlaUqIdeal.nD Cert.ReferenceMlaUqIdeal.τ).loc Cert.ReferenceMlaUqIdeal.main_arg1) = m ((c.tc : Thread Cert.KernelMlaUqIdeal.nD Cert.KernelMlaUqIdeal.τ).loc Cert.KernelMlaUqIdeal.main_arg1)) →
    ∃ (v0 : (c : Dev Cert.KernelMlaUqIdeal.nD) → Buf (Elt Ideal) ((c.tc : Thread Cert.KernelMlaUqIdeal.nD Cert.KernelMlaUqIdeal.τ).loc Cert.KernelMlaUqIdeal.main_v0)),
      θ_run (Cert.KernelMlaUqIdeal.defs (F := Ideal)) (onTc (τ := Cert.KernelMlaUqIdeal.τ) (Cert.KernelMlaUqIdeal.main (F := Ideal))) ⟨m, fun _ => 0, g⟩ (fun r => ∀ c : Dev Cert.KernelMlaUqIdeal.nD,
          r.2.mem ((c.tc : Thread Cert.KernelMlaUqIdeal.nD Cert.KernelMlaUqIdeal.τ).loc Cert.KernelMlaUqIdeal.main_v0) = v0 c
          ∧ r.2.mem ((c.tc : Thread Cert.KernelMlaUqIdeal.nD Cert.KernelMlaUqIdeal.τ).loc Cert.KernelMlaUqIdeal.main_arg0) = m ((c.tc : Thread Cert.KernelMlaUqIdeal.nD Cert.KernelMlaUqIdeal.τ).loc Cert.KernelMlaUqIdeal.main_arg0)
          ∧ r.2.mem ((c.tc : Thread Cert.KernelMlaUqIdeal.nD Cert.KernelMlaUqIdeal.τ).loc Cert.KernelMlaUqIdeal.main_arg1) = m ((c.tc : Thread Cert.KernelMlaUqIdeal.nD Cert.KernelMlaUqIdeal.τ).loc Cert.KernelMlaUqIdeal.main_arg1))
      ∧ θ_run (Cert.ReferenceMlaUqIdeal.defs (F := Ideal)) (onTc (τ := Cert.ReferenceMlaUqIdeal.τ) (Cert.ReferenceMlaUqIdeal.main (F := Ideal))) ⟨m', fun _ => 0, g'⟩ (fun r => ∀ c : Dev Cert.ReferenceMlaUqIdeal.nD,
          r.2.mem ((c.tc : Thread Cert.ReferenceMlaUqIdeal.nD Cert.ReferenceMlaUqIdeal.τ).loc Cert.ReferenceMlaUqIdeal.main_v2) = v0 c
          ∧ r.2.mem ((c.tc : Thread Cert.ReferenceMlaUqIdeal.nD Cert.ReferenceMlaUqIdeal.τ).loc Cert.ReferenceMlaUqIdeal.main_arg0) = m' ((c.tc : Thread Cert.ReferenceMlaUqIdeal.nD Cert.ReferenceMlaUqIdeal.τ).loc Cert.ReferenceMlaUqIdeal.main_arg0)
          ∧ r.2.mem ((c.tc : Thread Cert.ReferenceMlaUqIdeal.nD Cert.ReferenceMlaUqIdeal.τ).loc Cert.ReferenceMlaUqIdeal.main_arg1) = m' ((c.tc : Thread Cert.ReferenceMlaUqIdeal.nD Cert.ReferenceMlaUqIdeal.τ).loc Cert.ReferenceMlaUqIdeal.main_arg1))

def preserves_KernelMlaUkv_KernelMlaUkvIdeal : Prop :=
  True

def algebraic_KernelMlaUkvIdeal_ReferenceMlaUkvIdeal [hKernelMlaUkvIdeal : Cert.KernelMlaUkvIdeal.Facts] [hReferenceMlaUkvIdeal : Cert.ReferenceMlaUkvIdeal.Facts] : Prop :=
  ∀ (m : (ℓ : Loc Cert.KernelMlaUkvIdeal.nD Cert.KernelMlaUkvIdeal.τ Cert.KernelMlaUkvIdeal.sig) → Buf (Elt Ideal) ℓ) (g : Dev Cert.KernelMlaUkvIdeal.nD → PrngReg)
    (m' : (ℓ : Loc Cert.ReferenceMlaUkvIdeal.nD Cert.ReferenceMlaUkvIdeal.τ Cert.ReferenceMlaUkvIdeal.sig) → Buf (Elt Ideal) ℓ) (g' : Dev Cert.ReferenceMlaUkvIdeal.nD → PrngReg), Pre_KernelMlaUkvIdeal m →
    (∀ c : Dev Cert.KernelMlaUkvIdeal.nD,
      m' ((c.tc : Thread Cert.ReferenceMlaUkvIdeal.nD Cert.ReferenceMlaUkvIdeal.τ).loc Cert.ReferenceMlaUkvIdeal.main_arg0) = m ((c.tc : Thread Cert.KernelMlaUkvIdeal.nD Cert.KernelMlaUkvIdeal.τ).loc Cert.KernelMlaUkvIdeal.main_arg0)
      ∧ m' ((c.tc : Thread Cert.ReferenceMlaUkvIdeal.nD Cert.ReferenceMlaUkvIdeal.τ).loc Cert.ReferenceMlaUkvIdeal.main_arg1) = m ((c.tc : Thread Cert.KernelMlaUkvIdeal.nD Cert.KernelMlaUkvIdeal.τ).loc Cert.KernelMlaUkvIdeal.main_arg1)) →
    ∃ (v0 : (c : Dev Cert.KernelMlaUkvIdeal.nD) → Buf (Elt Ideal) ((c.tc : Thread Cert.KernelMlaUkvIdeal.nD Cert.KernelMlaUkvIdeal.τ).loc Cert.KernelMlaUkvIdeal.main_v0)),
      θ_run (Cert.KernelMlaUkvIdeal.defs (F := Ideal)) (onTc (τ := Cert.KernelMlaUkvIdeal.τ) (Cert.KernelMlaUkvIdeal.main (F := Ideal))) ⟨m, fun _ => 0, g⟩ (fun r => ∀ c : Dev Cert.KernelMlaUkvIdeal.nD,
          r.2.mem ((c.tc : Thread Cert.KernelMlaUkvIdeal.nD Cert.KernelMlaUkvIdeal.τ).loc Cert.KernelMlaUkvIdeal.main_v0) = v0 c
          ∧ r.2.mem ((c.tc : Thread Cert.KernelMlaUkvIdeal.nD Cert.KernelMlaUkvIdeal.τ).loc Cert.KernelMlaUkvIdeal.main_arg0) = m ((c.tc : Thread Cert.KernelMlaUkvIdeal.nD Cert.KernelMlaUkvIdeal.τ).loc Cert.KernelMlaUkvIdeal.main_arg0)
          ∧ r.2.mem ((c.tc : Thread Cert.KernelMlaUkvIdeal.nD Cert.KernelMlaUkvIdeal.τ).loc Cert.KernelMlaUkvIdeal.main_arg1) = m ((c.tc : Thread Cert.KernelMlaUkvIdeal.nD Cert.KernelMlaUkvIdeal.τ).loc Cert.KernelMlaUkvIdeal.main_arg1))
      ∧ θ_run (Cert.ReferenceMlaUkvIdeal.defs (F := Ideal)) (onTc (τ := Cert.ReferenceMlaUkvIdeal.τ) (Cert.ReferenceMlaUkvIdeal.main (F := Ideal))) ⟨m', fun _ => 0, g'⟩ (fun r => ∀ c : Dev Cert.ReferenceMlaUkvIdeal.nD,
          r.2.mem ((c.tc : Thread Cert.ReferenceMlaUkvIdeal.nD Cert.ReferenceMlaUkvIdeal.τ).loc Cert.ReferenceMlaUkvIdeal.main_v2) = v0 c
          ∧ r.2.mem ((c.tc : Thread Cert.ReferenceMlaUkvIdeal.nD Cert.ReferenceMlaUkvIdeal.τ).loc Cert.ReferenceMlaUkvIdeal.main_arg0) = m' ((c.tc : Thread Cert.ReferenceMlaUkvIdeal.nD Cert.ReferenceMlaUkvIdeal.τ).loc Cert.ReferenceMlaUkvIdeal.main_arg0)
          ∧ r.2.mem ((c.tc : Thread Cert.ReferenceMlaUkvIdeal.nD Cert.ReferenceMlaUkvIdeal.τ).loc Cert.ReferenceMlaUkvIdeal.main_arg1) = m' ((c.tc : Thread Cert.ReferenceMlaUkvIdeal.nD Cert.ReferenceMlaUkvIdeal.τ).loc Cert.ReferenceMlaUkvIdeal.main_arg1))

def preserves_KernelMlaOut_KernelMlaOutIdeal : Prop :=
  True

def algebraic_KernelMlaOutIdeal_ReferenceMlaOutIdeal [hKernelMlaOutIdeal : Cert.KernelMlaOutIdeal.Facts] [hReferenceMlaOutIdeal : Cert.ReferenceMlaOutIdeal.Facts] : Prop :=
  ∀ (m : (ℓ : Loc Cert.KernelMlaOutIdeal.nD Cert.KernelMlaOutIdeal.τ Cert.KernelMlaOutIdeal.sig) → Buf (Elt Ideal) ℓ) (g : Dev Cert.KernelMlaOutIdeal.nD → PrngReg)
    (m' : (ℓ : Loc Cert.ReferenceMlaOutIdeal.nD Cert.ReferenceMlaOutIdeal.τ Cert.ReferenceMlaOutIdeal.sig) → Buf (Elt Ideal) ℓ) (g' : Dev Cert.ReferenceMlaOutIdeal.nD → PrngReg), Pre_KernelMlaOutIdeal m →
    (∀ c : Dev Cert.KernelMlaOutIdeal.nD,
      m' ((c.tc : Thread Cert.ReferenceMlaOutIdeal.nD Cert.ReferenceMlaOutIdeal.τ).loc Cert.ReferenceMlaOutIdeal.main_arg0) = m ((c.tc : Thread Cert.KernelMlaOutIdeal.nD Cert.KernelMlaOutIdeal.τ).loc Cert.KernelMlaOutIdeal.main_arg0)
      ∧ m' ((c.tc : Thread Cert.ReferenceMlaOutIdeal.nD Cert.ReferenceMlaOutIdeal.τ).loc Cert.ReferenceMlaOutIdeal.main_arg1) = m ((c.tc : Thread Cert.KernelMlaOutIdeal.nD Cert.KernelMlaOutIdeal.τ).loc Cert.KernelMlaOutIdeal.main_arg1)) →
    ∃ (v0 : (c : Dev Cert.KernelMlaOutIdeal.nD) → Buf (Elt Ideal) ((c.tc : Thread Cert.KernelMlaOutIdeal.nD Cert.KernelMlaOutIdeal.τ).loc Cert.KernelMlaOutIdeal.main_v0)),
      θ_run (Cert.KernelMlaOutIdeal.defs (F := Ideal)) (onTc (τ := Cert.KernelMlaOutIdeal.τ) (Cert.KernelMlaOutIdeal.main (F := Ideal))) ⟨m, fun _ => 0, g⟩ (fun r => ∀ c : Dev Cert.KernelMlaOutIdeal.nD,
          r.2.mem ((c.tc : Thread Cert.KernelMlaOutIdeal.nD Cert.KernelMlaOutIdeal.τ).loc Cert.KernelMlaOutIdeal.main_v0) = v0 c
          ∧ r.2.mem ((c.tc : Thread Cert.KernelMlaOutIdeal.nD Cert.KernelMlaOutIdeal.τ).loc Cert.KernelMlaOutIdeal.main_arg0) = m ((c.tc : Thread Cert.KernelMlaOutIdeal.nD Cert.KernelMlaOutIdeal.τ).loc Cert.KernelMlaOutIdeal.main_arg0)
          ∧ r.2.mem ((c.tc : Thread Cert.KernelMlaOutIdeal.nD Cert.KernelMlaOutIdeal.τ).loc Cert.KernelMlaOutIdeal.main_arg1) = m ((c.tc : Thread Cert.KernelMlaOutIdeal.nD Cert.KernelMlaOutIdeal.τ).loc Cert.KernelMlaOutIdeal.main_arg1))
      ∧ θ_run (Cert.ReferenceMlaOutIdeal.defs (F := Ideal)) (onTc (τ := Cert.ReferenceMlaOutIdeal.τ) (Cert.ReferenceMlaOutIdeal.main (F := Ideal))) ⟨m', fun _ => 0, g'⟩ (fun r => ∀ c : Dev Cert.ReferenceMlaOutIdeal.nD,
          r.2.mem ((c.tc : Thread Cert.ReferenceMlaOutIdeal.nD Cert.ReferenceMlaOutIdeal.τ).loc Cert.ReferenceMlaOutIdeal.main_v1) = v0 c
          ∧ r.2.mem ((c.tc : Thread Cert.ReferenceMlaOutIdeal.nD Cert.ReferenceMlaOutIdeal.τ).loc Cert.ReferenceMlaOutIdeal.main_arg0) = m' ((c.tc : Thread Cert.ReferenceMlaOutIdeal.nD Cert.ReferenceMlaOutIdeal.τ).loc Cert.ReferenceMlaOutIdeal.main_arg0)
          ∧ r.2.mem ((c.tc : Thread Cert.ReferenceMlaOutIdeal.nD Cert.ReferenceMlaOutIdeal.τ).loc Cert.ReferenceMlaOutIdeal.main_arg1) = m' ((c.tc : Thread Cert.ReferenceMlaOutIdeal.nD Cert.ReferenceMlaOutIdeal.τ).loc Cert.ReferenceMlaOutIdeal.main_arg1))

def preserves_KernelMlaDqn_KernelMlaDqnIdeal : Prop :=
  True

def algebraic_KernelMlaDqnIdeal_ReferenceMlaDqnIdeal [hKernelMlaDqnIdeal : Cert.KernelMlaDqnIdeal.Facts] [hReferenceMlaDqnIdeal : Cert.ReferenceMlaDqnIdeal.Facts] : Prop :=
  ∀ (m : (ℓ : Loc Cert.KernelMlaDqnIdeal.nD Cert.KernelMlaDqnIdeal.τ Cert.KernelMlaDqnIdeal.sig) → Buf (Elt Ideal) ℓ) (g : Dev Cert.KernelMlaDqnIdeal.nD → PrngReg)
    (m' : (ℓ : Loc Cert.ReferenceMlaDqnIdeal.nD Cert.ReferenceMlaDqnIdeal.τ Cert.ReferenceMlaDqnIdeal.sig) → Buf (Elt Ideal) ℓ) (g' : Dev Cert.ReferenceMlaDqnIdeal.nD → PrngReg), Pre_KernelMlaDqnIdeal m →
    (∀ c : Dev Cert.KernelMlaDqnIdeal.nD,
      m' ((c.tc : Thread Cert.ReferenceMlaDqnIdeal.nD Cert.ReferenceMlaDqnIdeal.τ).loc Cert.ReferenceMlaDqnIdeal.main_arg0) = m ((c.tc : Thread Cert.KernelMlaDqnIdeal.nD Cert.KernelMlaDqnIdeal.τ).loc Cert.KernelMlaDqnIdeal.main_arg0)
      ∧ m' ((c.tc : Thread Cert.ReferenceMlaDqnIdeal.nD Cert.ReferenceMlaDqnIdeal.τ).loc Cert.ReferenceMlaDqnIdeal.main_arg1) = m ((c.tc : Thread Cert.KernelMlaDqnIdeal.nD Cert.KernelMlaDqnIdeal.τ).loc Cert.KernelMlaDqnIdeal.main_arg1)) →
    ∃ (v0 : (c : Dev Cert.KernelMlaDqnIdeal.nD) → Buf (Elt Ideal) ((c.tc : Thread Cert.KernelMlaDqnIdeal.nD Cert.KernelMlaDqnIdeal.τ).loc Cert.KernelMlaDqnIdeal.main_v0)),
      θ_run (Cert.KernelMlaDqnIdeal.defs (F := Ideal)) (onTc (τ := Cert.KernelMlaDqnIdeal.τ) (Cert.KernelMlaDqnIdeal.main (F := Ideal))) ⟨m, fun _ => 0, g⟩ (fun r => ∀ c : Dev Cert.KernelMlaDqnIdeal.nD,
          r.2.mem ((c.tc : Thread Cert.KernelMlaDqnIdeal.nD Cert.KernelMlaDqnIdeal.τ).loc Cert.KernelMlaDqnIdeal.main_v0) = v0 c
          ∧ r.2.mem ((c.tc : Thread Cert.KernelMlaDqnIdeal.nD Cert.KernelMlaDqnIdeal.τ).loc Cert.KernelMlaDqnIdeal.main_arg0) = m ((c.tc : Thread Cert.KernelMlaDqnIdeal.nD Cert.KernelMlaDqnIdeal.τ).loc Cert.KernelMlaDqnIdeal.main_arg0)
          ∧ r.2.mem ((c.tc : Thread Cert.KernelMlaDqnIdeal.nD Cert.KernelMlaDqnIdeal.τ).loc Cert.KernelMlaDqnIdeal.main_arg1) = m ((c.tc : Thread Cert.KernelMlaDqnIdeal.nD Cert.KernelMlaDqnIdeal.τ).loc Cert.KernelMlaDqnIdeal.main_arg1))
      ∧ θ_run (Cert.ReferenceMlaDqnIdeal.defs (F := Ideal)) (onTc (τ := Cert.ReferenceMlaDqnIdeal.τ) (Cert.ReferenceMlaDqnIdeal.main (F := Ideal))) ⟨m', fun _ => 0, g'⟩ (fun r => ∀ c : Dev Cert.ReferenceMlaDqnIdeal.nD,
          r.2.mem ((c.tc : Thread Cert.ReferenceMlaDqnIdeal.nD Cert.ReferenceMlaDqnIdeal.τ).loc Cert.ReferenceMlaDqnIdeal.main_v4) = v0 c
          ∧ r.2.mem ((c.tc : Thread Cert.ReferenceMlaDqnIdeal.nD Cert.ReferenceMlaDqnIdeal.τ).loc Cert.ReferenceMlaDqnIdeal.main_arg0) = m' ((c.tc : Thread Cert.ReferenceMlaDqnIdeal.nD Cert.ReferenceMlaDqnIdeal.τ).loc Cert.ReferenceMlaDqnIdeal.main_arg0)
          ∧ r.2.mem ((c.tc : Thread Cert.ReferenceMlaDqnIdeal.nD Cert.ReferenceMlaDqnIdeal.τ).loc Cert.ReferenceMlaDqnIdeal.main_arg1) = m' ((c.tc : Thread Cert.ReferenceMlaDqnIdeal.nD Cert.ReferenceMlaDqnIdeal.τ).loc Cert.ReferenceMlaDqnIdeal.main_arg1))

def preserves_KernelMlaDkvn_KernelMlaDkvnIdeal : Prop :=
  True

def algebraic_KernelMlaDkvnIdeal_ReferenceMlaDkvnIdeal [hKernelMlaDkvnIdeal : Cert.KernelMlaDkvnIdeal.Facts] [hReferenceMlaDkvnIdeal : Cert.ReferenceMlaDkvnIdeal.Facts] : Prop :=
  ∀ (m : (ℓ : Loc Cert.KernelMlaDkvnIdeal.nD Cert.KernelMlaDkvnIdeal.τ Cert.KernelMlaDkvnIdeal.sig) → Buf (Elt Ideal) ℓ) (g : Dev Cert.KernelMlaDkvnIdeal.nD → PrngReg)
    (m' : (ℓ : Loc Cert.ReferenceMlaDkvnIdeal.nD Cert.ReferenceMlaDkvnIdeal.τ Cert.ReferenceMlaDkvnIdeal.sig) → Buf (Elt Ideal) ℓ) (g' : Dev Cert.ReferenceMlaDkvnIdeal.nD → PrngReg), Pre_KernelMlaDkvnIdeal m →
    (∀ c : Dev Cert.KernelMlaDkvnIdeal.nD,
      m' ((c.tc : Thread Cert.ReferenceMlaDkvnIdeal.nD Cert.ReferenceMlaDkvnIdeal.τ).loc Cert.ReferenceMlaDkvnIdeal.main_arg0) = m ((c.tc : Thread Cert.KernelMlaDkvnIdeal.nD Cert.KernelMlaDkvnIdeal.τ).loc Cert.KernelMlaDkvnIdeal.main_arg0)
      ∧ m' ((c.tc : Thread Cert.ReferenceMlaDkvnIdeal.nD Cert.ReferenceMlaDkvnIdeal.τ).loc Cert.ReferenceMlaDkvnIdeal.main_arg1) = m ((c.tc : Thread Cert.KernelMlaDkvnIdeal.nD Cert.KernelMlaDkvnIdeal.τ).loc Cert.KernelMlaDkvnIdeal.main_arg1)) →
    ∃ (v0 : (c : Dev Cert.KernelMlaDkvnIdeal.nD) → Buf (Elt Ideal) ((c.tc : Thread Cert.KernelMlaDkvnIdeal.nD Cert.KernelMlaDkvnIdeal.τ).loc Cert.KernelMlaDkvnIdeal.main_v0)),
      θ_run (Cert.KernelMlaDkvnIdeal.defs (F := Ideal)) (onTc (τ := Cert.KernelMlaDkvnIdeal.τ) (Cert.KernelMlaDkvnIdeal.main (F := Ideal))) ⟨m, fun _ => 0, g⟩ (fun r => ∀ c : Dev Cert.KernelMlaDkvnIdeal.nD,
          r.2.mem ((c.tc : Thread Cert.KernelMlaDkvnIdeal.nD Cert.KernelMlaDkvnIdeal.τ).loc Cert.KernelMlaDkvnIdeal.main_v0) = v0 c
          ∧ r.2.mem ((c.tc : Thread Cert.KernelMlaDkvnIdeal.nD Cert.KernelMlaDkvnIdeal.τ).loc Cert.KernelMlaDkvnIdeal.main_arg0) = m ((c.tc : Thread Cert.KernelMlaDkvnIdeal.nD Cert.KernelMlaDkvnIdeal.τ).loc Cert.KernelMlaDkvnIdeal.main_arg0)
          ∧ r.2.mem ((c.tc : Thread Cert.KernelMlaDkvnIdeal.nD Cert.KernelMlaDkvnIdeal.τ).loc Cert.KernelMlaDkvnIdeal.main_arg1) = m ((c.tc : Thread Cert.KernelMlaDkvnIdeal.nD Cert.KernelMlaDkvnIdeal.τ).loc Cert.KernelMlaDkvnIdeal.main_arg1))
      ∧ θ_run (Cert.ReferenceMlaDkvnIdeal.defs (F := Ideal)) (onTc (τ := Cert.ReferenceMlaDkvnIdeal.τ) (Cert.ReferenceMlaDkvnIdeal.main (F := Ideal))) ⟨m', fun _ => 0, g'⟩ (fun r => ∀ c : Dev Cert.ReferenceMlaDkvnIdeal.nD,
          r.2.mem ((c.tc : Thread Cert.ReferenceMlaDkvnIdeal.nD Cert.ReferenceMlaDkvnIdeal.τ).loc Cert.ReferenceMlaDkvnIdeal.main_v4) = v0 c
          ∧ r.2.mem ((c.tc : Thread Cert.ReferenceMlaDkvnIdeal.nD Cert.ReferenceMlaDkvnIdeal.τ).loc Cert.ReferenceMlaDkvnIdeal.main_arg0) = m' ((c.tc : Thread Cert.ReferenceMlaDkvnIdeal.nD Cert.ReferenceMlaDkvnIdeal.τ).loc Cert.ReferenceMlaDkvnIdeal.main_arg0)
          ∧ r.2.mem ((c.tc : Thread Cert.ReferenceMlaDkvnIdeal.nD Cert.ReferenceMlaDkvnIdeal.τ).loc Cert.ReferenceMlaDkvnIdeal.main_arg1) = m' ((c.tc : Thread Cert.ReferenceMlaDkvnIdeal.nD Cert.ReferenceMlaDkvnIdeal.τ).loc Cert.ReferenceMlaDkvnIdeal.main_arg1))

def preserves_KernelRetDwk_KernelRetDwkIdeal : Prop :=
  True

def algebraic_KernelRetDwkIdeal_ReferenceRetDwkIdeal [hKernelRetDwkIdeal : Cert.KernelRetDwkIdeal.Facts] [hReferenceRetDwkIdeal : Cert.ReferenceRetDwkIdeal.Facts] : Prop :=
  ∀ (m : (ℓ : Loc Cert.KernelRetDwkIdeal.nD Cert.KernelRetDwkIdeal.τ Cert.KernelRetDwkIdeal.sig) → Buf (Elt Ideal) ℓ) (g : Dev Cert.KernelRetDwkIdeal.nD → PrngReg)
    (m' : (ℓ : Loc Cert.ReferenceRetDwkIdeal.nD Cert.ReferenceRetDwkIdeal.τ Cert.ReferenceRetDwkIdeal.sig) → Buf (Elt Ideal) ℓ) (g' : Dev Cert.ReferenceRetDwkIdeal.nD → PrngReg), Pre_KernelRetDwkIdeal m →
    (∀ c : Dev Cert.KernelRetDwkIdeal.nD,
      m' ((c.tc : Thread Cert.ReferenceRetDwkIdeal.nD Cert.ReferenceRetDwkIdeal.τ).loc Cert.ReferenceRetDwkIdeal.main_arg0) = m ((c.tc : Thread Cert.KernelRetDwkIdeal.nD Cert.KernelRetDwkIdeal.τ).loc Cert.KernelRetDwkIdeal.main_arg0)
      ∧ m' ((c.tc : Thread Cert.ReferenceRetDwkIdeal.nD Cert.ReferenceRetDwkIdeal.τ).loc Cert.ReferenceRetDwkIdeal.main_arg1) = m ((c.tc : Thread Cert.KernelRetDwkIdeal.nD Cert.KernelRetDwkIdeal.τ).loc Cert.KernelRetDwkIdeal.main_arg1)
      ∧ m' ((c.tc : Thread Cert.ReferenceRetDwkIdeal.nD Cert.ReferenceRetDwkIdeal.τ).loc Cert.ReferenceRetDwkIdeal.main_arg2) = m ((c.tc : Thread Cert.KernelRetDwkIdeal.nD Cert.KernelRetDwkIdeal.τ).loc Cert.KernelRetDwkIdeal.main_arg2)
      ∧ m' ((c.tc : Thread Cert.ReferenceRetDwkIdeal.nD Cert.ReferenceRetDwkIdeal.τ).loc Cert.ReferenceRetDwkIdeal.main_arg3) = m ((c.tc : Thread Cert.KernelRetDwkIdeal.nD Cert.KernelRetDwkIdeal.τ).loc Cert.KernelRetDwkIdeal.main_arg3)) →
    ∃ (v0 : (c : Dev Cert.KernelRetDwkIdeal.nD) → Buf (Elt Ideal) ((c.tc : Thread Cert.KernelRetDwkIdeal.nD Cert.KernelRetDwkIdeal.τ).loc Cert.KernelRetDwkIdeal.main_v0_0)) (v1 : (c : Dev Cert.KernelRetDwkIdeal.nD) → Buf (Elt Ideal) ((c.tc : Thread Cert.KernelRetDwkIdeal.nD Cert.KernelRetDwkIdeal.τ).loc Cert.KernelRetDwkIdeal.main_v0_1)),
      θ_run (Cert.KernelRetDwkIdeal.defs (F := Ideal)) (onTc (τ := Cert.KernelRetDwkIdeal.τ) (Cert.KernelRetDwkIdeal.main (F := Ideal))) ⟨m, fun _ => 0, g⟩ (fun r => ∀ c : Dev Cert.KernelRetDwkIdeal.nD,
          r.2.mem ((c.tc : Thread Cert.KernelRetDwkIdeal.nD Cert.KernelRetDwkIdeal.τ).loc Cert.KernelRetDwkIdeal.main_v0_0) = v0 c
          ∧ r.2.mem ((c.tc : Thread Cert.KernelRetDwkIdeal.nD Cert.KernelRetDwkIdeal.τ).loc Cert.KernelRetDwkIdeal.main_v0_1) = v1 c
          ∧ r.2.mem ((c.tc : Thread Cert.KernelRetDwkIdeal.nD Cert.KernelRetDwkIdeal.τ).loc Cert.KernelRetDwkIdeal.main_arg0) = m ((c.tc : Thread Cert.KernelRetDwkIdeal.nD Cert.KernelRetDwkIdeal.τ).loc Cert.KernelRetDwkIdeal.main_arg0)
          ∧ r.2.mem ((c.tc : Thread Cert.KernelRetDwkIdeal.nD Cert.KernelRetDwkIdeal.τ).loc Cert.KernelRetDwkIdeal.main_arg1) = m ((c.tc : Thread Cert.KernelRetDwkIdeal.nD Cert.KernelRetDwkIdeal.τ).loc Cert.KernelRetDwkIdeal.main_arg1)
          ∧ r.2.mem ((c.tc : Thread Cert.KernelRetDwkIdeal.nD Cert.KernelRetDwkIdeal.τ).loc Cert.KernelRetDwkIdeal.main_arg2) = m ((c.tc : Thread Cert.KernelRetDwkIdeal.nD Cert.KernelRetDwkIdeal.τ).loc Cert.KernelRetDwkIdeal.main_arg2)
          ∧ r.2.mem ((c.tc : Thread Cert.KernelRetDwkIdeal.nD Cert.KernelRetDwkIdeal.τ).loc Cert.KernelRetDwkIdeal.main_arg3) = m ((c.tc : Thread Cert.KernelRetDwkIdeal.nD Cert.KernelRetDwkIdeal.τ).loc Cert.KernelRetDwkIdeal.main_arg3))
      ∧ θ_run (Cert.ReferenceRetDwkIdeal.defs (F := Ideal)) (onTc (τ := Cert.ReferenceRetDwkIdeal.τ) (Cert.ReferenceRetDwkIdeal.main (F := Ideal))) ⟨m', fun _ => 0, g'⟩ (fun r => ∀ c : Dev Cert.ReferenceRetDwkIdeal.nD,
          r.2.mem ((c.tc : Thread Cert.ReferenceRetDwkIdeal.nD Cert.ReferenceRetDwkIdeal.τ).loc Cert.ReferenceRetDwkIdeal.main_v12) = v0 c
          ∧ r.2.mem ((c.tc : Thread Cert.ReferenceRetDwkIdeal.nD Cert.ReferenceRetDwkIdeal.τ).loc Cert.ReferenceRetDwkIdeal.main_v21) = v1 c
          ∧ r.2.mem ((c.tc : Thread Cert.ReferenceRetDwkIdeal.nD Cert.ReferenceRetDwkIdeal.τ).loc Cert.ReferenceRetDwkIdeal.main_arg0) = m' ((c.tc : Thread Cert.ReferenceRetDwkIdeal.nD Cert.ReferenceRetDwkIdeal.τ).loc Cert.ReferenceRetDwkIdeal.main_arg0)
          ∧ r.2.mem ((c.tc : Thread Cert.ReferenceRetDwkIdeal.nD Cert.ReferenceRetDwkIdeal.τ).loc Cert.ReferenceRetDwkIdeal.main_arg1) = m' ((c.tc : Thread Cert.ReferenceRetDwkIdeal.nD Cert.ReferenceRetDwkIdeal.τ).loc Cert.ReferenceRetDwkIdeal.main_arg1)
          ∧ r.2.mem ((c.tc : Thread Cert.ReferenceRetDwkIdeal.nD Cert.ReferenceRetDwkIdeal.τ).loc Cert.ReferenceRetDwkIdeal.main_arg2) = m' ((c.tc : Thread Cert.ReferenceRetDwkIdeal.nD Cert.ReferenceRetDwkIdeal.τ).loc Cert.ReferenceRetDwkIdeal.main_arg2)
          ∧ r.2.mem ((c.tc : Thread Cert.ReferenceRetDwkIdeal.nD Cert.ReferenceRetDwkIdeal.τ).loc Cert.ReferenceRetDwkIdeal.main_arg3) = m' ((c.tc : Thread Cert.ReferenceRetDwkIdeal.nD Cert.ReferenceRetDwkIdeal.τ).loc Cert.ReferenceRetDwkIdeal.main_arg3))

def preserves_KernelRetDwv_KernelRetDwvIdeal : Prop :=
  True

def algebraic_KernelRetDwvIdeal_ReferenceRetDwvIdeal [hKernelRetDwvIdeal : Cert.KernelRetDwvIdeal.Facts] [hReferenceRetDwvIdeal : Cert.ReferenceRetDwvIdeal.Facts] : Prop :=
  ∀ (m : (ℓ : Loc Cert.KernelRetDwvIdeal.nD Cert.KernelRetDwvIdeal.τ Cert.KernelRetDwvIdeal.sig) → Buf (Elt Ideal) ℓ) (g : Dev Cert.KernelRetDwvIdeal.nD → PrngReg)
    (m' : (ℓ : Loc Cert.ReferenceRetDwvIdeal.nD Cert.ReferenceRetDwvIdeal.τ Cert.ReferenceRetDwvIdeal.sig) → Buf (Elt Ideal) ℓ) (g' : Dev Cert.ReferenceRetDwvIdeal.nD → PrngReg), Pre_KernelRetDwvIdeal m →
    (∀ c : Dev Cert.KernelRetDwvIdeal.nD,
      m' ((c.tc : Thread Cert.ReferenceRetDwvIdeal.nD Cert.ReferenceRetDwvIdeal.τ).loc Cert.ReferenceRetDwvIdeal.main_arg0) = m ((c.tc : Thread Cert.KernelRetDwvIdeal.nD Cert.KernelRetDwvIdeal.τ).loc Cert.KernelRetDwvIdeal.main_arg0)
      ∧ m' ((c.tc : Thread Cert.ReferenceRetDwvIdeal.nD Cert.ReferenceRetDwvIdeal.τ).loc Cert.ReferenceRetDwvIdeal.main_arg1) = m ((c.tc : Thread Cert.KernelRetDwvIdeal.nD Cert.KernelRetDwvIdeal.τ).loc Cert.KernelRetDwvIdeal.main_arg1)
      ∧ m' ((c.tc : Thread Cert.ReferenceRetDwvIdeal.nD Cert.ReferenceRetDwvIdeal.τ).loc Cert.ReferenceRetDwvIdeal.main_arg2) = m ((c.tc : Thread Cert.KernelRetDwvIdeal.nD Cert.KernelRetDwvIdeal.τ).loc Cert.KernelRetDwvIdeal.main_arg2)
      ∧ m' ((c.tc : Thread Cert.ReferenceRetDwvIdeal.nD Cert.ReferenceRetDwvIdeal.τ).loc Cert.ReferenceRetDwvIdeal.main_arg3) = m ((c.tc : Thread Cert.KernelRetDwvIdeal.nD Cert.KernelRetDwvIdeal.τ).loc Cert.KernelRetDwvIdeal.main_arg3)) →
    ∃ (v0 : (c : Dev Cert.KernelRetDwvIdeal.nD) → Buf (Elt Ideal) ((c.tc : Thread Cert.KernelRetDwvIdeal.nD Cert.KernelRetDwvIdeal.τ).loc Cert.KernelRetDwvIdeal.main_v0_0)) (v1 : (c : Dev Cert.KernelRetDwvIdeal.nD) → Buf (Elt Ideal) ((c.tc : Thread Cert.KernelRetDwvIdeal.nD Cert.KernelRetDwvIdeal.τ).loc Cert.KernelRetDwvIdeal.main_v0_1)),
      θ_run (Cert.KernelRetDwvIdeal.defs (F := Ideal)) (onTc (τ := Cert.KernelRetDwvIdeal.τ) (Cert.KernelRetDwvIdeal.main (F := Ideal))) ⟨m, fun _ => 0, g⟩ (fun r => ∀ c : Dev Cert.KernelRetDwvIdeal.nD,
          r.2.mem ((c.tc : Thread Cert.KernelRetDwvIdeal.nD Cert.KernelRetDwvIdeal.τ).loc Cert.KernelRetDwvIdeal.main_v0_0) = v0 c
          ∧ r.2.mem ((c.tc : Thread Cert.KernelRetDwvIdeal.nD Cert.KernelRetDwvIdeal.τ).loc Cert.KernelRetDwvIdeal.main_v0_1) = v1 c
          ∧ r.2.mem ((c.tc : Thread Cert.KernelRetDwvIdeal.nD Cert.KernelRetDwvIdeal.τ).loc Cert.KernelRetDwvIdeal.main_arg0) = m ((c.tc : Thread Cert.KernelRetDwvIdeal.nD Cert.KernelRetDwvIdeal.τ).loc Cert.KernelRetDwvIdeal.main_arg0)
          ∧ r.2.mem ((c.tc : Thread Cert.KernelRetDwvIdeal.nD Cert.KernelRetDwvIdeal.τ).loc Cert.KernelRetDwvIdeal.main_arg1) = m ((c.tc : Thread Cert.KernelRetDwvIdeal.nD Cert.KernelRetDwvIdeal.τ).loc Cert.KernelRetDwvIdeal.main_arg1)
          ∧ r.2.mem ((c.tc : Thread Cert.KernelRetDwvIdeal.nD Cert.KernelRetDwvIdeal.τ).loc Cert.KernelRetDwvIdeal.main_arg2) = m ((c.tc : Thread Cert.KernelRetDwvIdeal.nD Cert.KernelRetDwvIdeal.τ).loc Cert.KernelRetDwvIdeal.main_arg2)
          ∧ r.2.mem ((c.tc : Thread Cert.KernelRetDwvIdeal.nD Cert.KernelRetDwvIdeal.τ).loc Cert.KernelRetDwvIdeal.main_arg3) = m ((c.tc : Thread Cert.KernelRetDwvIdeal.nD Cert.KernelRetDwvIdeal.τ).loc Cert.KernelRetDwvIdeal.main_arg3))
      ∧ θ_run (Cert.ReferenceRetDwvIdeal.defs (F := Ideal)) (onTc (τ := Cert.ReferenceRetDwvIdeal.τ) (Cert.ReferenceRetDwvIdeal.main (F := Ideal))) ⟨m', fun _ => 0, g'⟩ (fun r => ∀ c : Dev Cert.ReferenceRetDwvIdeal.nD,
          r.2.mem ((c.tc : Thread Cert.ReferenceRetDwvIdeal.nD Cert.ReferenceRetDwvIdeal.τ).loc Cert.ReferenceRetDwvIdeal.main_v12) = v0 c
          ∧ r.2.mem ((c.tc : Thread Cert.ReferenceRetDwvIdeal.nD Cert.ReferenceRetDwvIdeal.τ).loc Cert.ReferenceRetDwvIdeal.main_v21) = v1 c
          ∧ r.2.mem ((c.tc : Thread Cert.ReferenceRetDwvIdeal.nD Cert.ReferenceRetDwvIdeal.τ).loc Cert.ReferenceRetDwvIdeal.main_arg0) = m' ((c.tc : Thread Cert.ReferenceRetDwvIdeal.nD Cert.ReferenceRetDwvIdeal.τ).loc Cert.ReferenceRetDwvIdeal.main_arg0)
          ∧ r.2.mem ((c.tc : Thread Cert.ReferenceRetDwvIdeal.nD Cert.ReferenceRetDwvIdeal.τ).loc Cert.ReferenceRetDwvIdeal.main_arg1) = m' ((c.tc : Thread Cert.ReferenceRetDwvIdeal.nD Cert.ReferenceRetDwvIdeal.τ).loc Cert.ReferenceRetDwvIdeal.main_arg1)
          ∧ r.2.mem ((c.tc : Thread Cert.ReferenceRetDwvIdeal.nD Cert.ReferenceRetDwvIdeal.τ).loc Cert.ReferenceRetDwvIdeal.main_arg2) = m' ((c.tc : Thread Cert.ReferenceRetDwvIdeal.nD Cert.ReferenceRetDwvIdeal.τ).loc Cert.ReferenceRetDwvIdeal.main_arg2)
          ∧ r.2.mem ((c.tc : Thread Cert.ReferenceRetDwvIdeal.nD Cert.ReferenceRetDwvIdeal.τ).loc Cert.ReferenceRetDwvIdeal.main_arg3) = m' ((c.tc : Thread Cert.ReferenceRetDwvIdeal.nD Cert.ReferenceRetDwvIdeal.τ).loc Cert.ReferenceRetDwvIdeal.main_arg3))

def preserves_KernelRetDwg_KernelRetDwgIdeal : Prop :=
  True

def algebraic_KernelRetDwgIdeal_ReferenceRetDwgIdeal [hKernelRetDwgIdeal : Cert.KernelRetDwgIdeal.Facts] [hReferenceRetDwgIdeal : Cert.ReferenceRetDwgIdeal.Facts] : Prop :=
  ∀ (m : (ℓ : Loc Cert.KernelRetDwgIdeal.nD Cert.KernelRetDwgIdeal.τ Cert.KernelRetDwgIdeal.sig) → Buf (Elt Ideal) ℓ) (g : Dev Cert.KernelRetDwgIdeal.nD → PrngReg)
    (m' : (ℓ : Loc Cert.ReferenceRetDwgIdeal.nD Cert.ReferenceRetDwgIdeal.τ Cert.ReferenceRetDwgIdeal.sig) → Buf (Elt Ideal) ℓ) (g' : Dev Cert.ReferenceRetDwgIdeal.nD → PrngReg), Pre_KernelRetDwgIdeal m →
    (∀ c : Dev Cert.KernelRetDwgIdeal.nD,
      m' ((c.tc : Thread Cert.ReferenceRetDwgIdeal.nD Cert.ReferenceRetDwgIdeal.τ).loc Cert.ReferenceRetDwgIdeal.main_arg0) = m ((c.tc : Thread Cert.KernelRetDwgIdeal.nD Cert.KernelRetDwgIdeal.τ).loc Cert.KernelRetDwgIdeal.main_arg0)
      ∧ m' ((c.tc : Thread Cert.ReferenceRetDwgIdeal.nD Cert.ReferenceRetDwgIdeal.τ).loc Cert.ReferenceRetDwgIdeal.main_arg1) = m ((c.tc : Thread Cert.KernelRetDwgIdeal.nD Cert.KernelRetDwgIdeal.τ).loc Cert.KernelRetDwgIdeal.main_arg1)
      ∧ m' ((c.tc : Thread Cert.ReferenceRetDwgIdeal.nD Cert.ReferenceRetDwgIdeal.τ).loc Cert.ReferenceRetDwgIdeal.main_arg2) = m ((c.tc : Thread Cert.KernelRetDwgIdeal.nD Cert.KernelRetDwgIdeal.τ).loc Cert.KernelRetDwgIdeal.main_arg2)
      ∧ m' ((c.tc : Thread Cert.ReferenceRetDwgIdeal.nD Cert.ReferenceRetDwgIdeal.τ).loc Cert.ReferenceRetDwgIdeal.main_arg3) = m ((c.tc : Thread Cert.KernelRetDwgIdeal.nD Cert.KernelRetDwgIdeal.τ).loc Cert.KernelRetDwgIdeal.main_arg3)) →
    ∃ (v0 : (c : Dev Cert.KernelRetDwgIdeal.nD) → Buf (Elt Ideal) ((c.tc : Thread Cert.KernelRetDwgIdeal.nD Cert.KernelRetDwgIdeal.τ).loc Cert.KernelRetDwgIdeal.main_v0_0)) (v1 : (c : Dev Cert.KernelRetDwgIdeal.nD) → Buf (Elt Ideal) ((c.tc : Thread Cert.KernelRetDwgIdeal.nD Cert.KernelRetDwgIdeal.τ).loc Cert.KernelRetDwgIdeal.main_v0_1)),
      θ_run (Cert.KernelRetDwgIdeal.defs (F := Ideal)) (onTc (τ := Cert.KernelRetDwgIdeal.τ) (Cert.KernelRetDwgIdeal.main (F := Ideal))) ⟨m, fun _ => 0, g⟩ (fun r => ∀ c : Dev Cert.KernelRetDwgIdeal.nD,
          r.2.mem ((c.tc : Thread Cert.KernelRetDwgIdeal.nD Cert.KernelRetDwgIdeal.τ).loc Cert.KernelRetDwgIdeal.main_v0_0) = v0 c
          ∧ r.2.mem ((c.tc : Thread Cert.KernelRetDwgIdeal.nD Cert.KernelRetDwgIdeal.τ).loc Cert.KernelRetDwgIdeal.main_v0_1) = v1 c
          ∧ r.2.mem ((c.tc : Thread Cert.KernelRetDwgIdeal.nD Cert.KernelRetDwgIdeal.τ).loc Cert.KernelRetDwgIdeal.main_arg0) = m ((c.tc : Thread Cert.KernelRetDwgIdeal.nD Cert.KernelRetDwgIdeal.τ).loc Cert.KernelRetDwgIdeal.main_arg0)
          ∧ r.2.mem ((c.tc : Thread Cert.KernelRetDwgIdeal.nD Cert.KernelRetDwgIdeal.τ).loc Cert.KernelRetDwgIdeal.main_arg1) = m ((c.tc : Thread Cert.KernelRetDwgIdeal.nD Cert.KernelRetDwgIdeal.τ).loc Cert.KernelRetDwgIdeal.main_arg1)
          ∧ r.2.mem ((c.tc : Thread Cert.KernelRetDwgIdeal.nD Cert.KernelRetDwgIdeal.τ).loc Cert.KernelRetDwgIdeal.main_arg2) = m ((c.tc : Thread Cert.KernelRetDwgIdeal.nD Cert.KernelRetDwgIdeal.τ).loc Cert.KernelRetDwgIdeal.main_arg2)
          ∧ r.2.mem ((c.tc : Thread Cert.KernelRetDwgIdeal.nD Cert.KernelRetDwgIdeal.τ).loc Cert.KernelRetDwgIdeal.main_arg3) = m ((c.tc : Thread Cert.KernelRetDwgIdeal.nD Cert.KernelRetDwgIdeal.τ).loc Cert.KernelRetDwgIdeal.main_arg3))
      ∧ θ_run (Cert.ReferenceRetDwgIdeal.defs (F := Ideal)) (onTc (τ := Cert.ReferenceRetDwgIdeal.τ) (Cert.ReferenceRetDwgIdeal.main (F := Ideal))) ⟨m', fun _ => 0, g'⟩ (fun r => ∀ c : Dev Cert.ReferenceRetDwgIdeal.nD,
          r.2.mem ((c.tc : Thread Cert.ReferenceRetDwgIdeal.nD Cert.ReferenceRetDwgIdeal.τ).loc Cert.ReferenceRetDwgIdeal.main_v12) = v0 c
          ∧ r.2.mem ((c.tc : Thread Cert.ReferenceRetDwgIdeal.nD Cert.ReferenceRetDwgIdeal.τ).loc Cert.ReferenceRetDwgIdeal.main_v21) = v1 c
          ∧ r.2.mem ((c.tc : Thread Cert.ReferenceRetDwgIdeal.nD Cert.ReferenceRetDwgIdeal.τ).loc Cert.ReferenceRetDwgIdeal.main_arg0) = m' ((c.tc : Thread Cert.ReferenceRetDwgIdeal.nD Cert.ReferenceRetDwgIdeal.τ).loc Cert.ReferenceRetDwgIdeal.main_arg0)
          ∧ r.2.mem ((c.tc : Thread Cert.ReferenceRetDwgIdeal.nD Cert.ReferenceRetDwgIdeal.τ).loc Cert.ReferenceRetDwgIdeal.main_arg1) = m' ((c.tc : Thread Cert.ReferenceRetDwgIdeal.nD Cert.ReferenceRetDwgIdeal.τ).loc Cert.ReferenceRetDwgIdeal.main_arg1)
          ∧ r.2.mem ((c.tc : Thread Cert.ReferenceRetDwgIdeal.nD Cert.ReferenceRetDwgIdeal.τ).loc Cert.ReferenceRetDwgIdeal.main_arg2) = m' ((c.tc : Thread Cert.ReferenceRetDwgIdeal.nD Cert.ReferenceRetDwgIdeal.τ).loc Cert.ReferenceRetDwgIdeal.main_arg2)
          ∧ r.2.mem ((c.tc : Thread Cert.ReferenceRetDwgIdeal.nD Cert.ReferenceRetDwgIdeal.τ).loc Cert.ReferenceRetDwgIdeal.main_arg3) = m' ((c.tc : Thread Cert.ReferenceRetDwgIdeal.nD Cert.ReferenceRetDwgIdeal.τ).loc Cert.ReferenceRetDwgIdeal.main_arg3))

def preserves_KernelLruDwout_KernelLruDwoutIdeal : Prop :=
  True

def algebraic_KernelLruDwoutIdeal_ReferenceLruDwoutIdeal [hKernelLruDwoutIdeal : Cert.KernelLruDwoutIdeal.Facts] [hReferenceLruDwoutIdeal : Cert.ReferenceLruDwoutIdeal.Facts] : Prop :=
  ∀ (m : (ℓ : Loc Cert.KernelLruDwoutIdeal.nD Cert.KernelLruDwoutIdeal.τ Cert.KernelLruDwoutIdeal.sig) → Buf (Elt Ideal) ℓ) (g : Dev Cert.KernelLruDwoutIdeal.nD → PrngReg)
    (m' : (ℓ : Loc Cert.ReferenceLruDwoutIdeal.nD Cert.ReferenceLruDwoutIdeal.τ Cert.ReferenceLruDwoutIdeal.sig) → Buf (Elt Ideal) ℓ) (g' : Dev Cert.ReferenceLruDwoutIdeal.nD → PrngReg), Pre_KernelLruDwoutIdeal m →
    (∀ c : Dev Cert.KernelLruDwoutIdeal.nD,
      m' ((c.tc : Thread Cert.ReferenceLruDwoutIdeal.nD Cert.ReferenceLruDwoutIdeal.τ).loc Cert.ReferenceLruDwoutIdeal.main_arg0) = m ((c.tc : Thread Cert.KernelLruDwoutIdeal.nD Cert.KernelLruDwoutIdeal.τ).loc Cert.KernelLruDwoutIdeal.main_arg0)
      ∧ m' ((c.tc : Thread Cert.ReferenceLruDwoutIdeal.nD Cert.ReferenceLruDwoutIdeal.τ).loc Cert.ReferenceLruDwoutIdeal.main_arg1) = m ((c.tc : Thread Cert.KernelLruDwoutIdeal.nD Cert.KernelLruDwoutIdeal.τ).loc Cert.KernelLruDwoutIdeal.main_arg1)
      ∧ m' ((c.tc : Thread Cert.ReferenceLruDwoutIdeal.nD Cert.ReferenceLruDwoutIdeal.τ).loc Cert.ReferenceLruDwoutIdeal.main_arg2) = m ((c.tc : Thread Cert.KernelLruDwoutIdeal.nD Cert.KernelLruDwoutIdeal.τ).loc Cert.KernelLruDwoutIdeal.main_arg2)
      ∧ m' ((c.tc : Thread Cert.ReferenceLruDwoutIdeal.nD Cert.ReferenceLruDwoutIdeal.τ).loc Cert.ReferenceLruDwoutIdeal.main_arg3) = m ((c.tc : Thread Cert.KernelLruDwoutIdeal.nD Cert.KernelLruDwoutIdeal.τ).loc Cert.KernelLruDwoutIdeal.main_arg3)) →
    ∃ (v0 : (c : Dev Cert.KernelLruDwoutIdeal.nD) → Buf (Elt Ideal) ((c.tc : Thread Cert.KernelLruDwoutIdeal.nD Cert.KernelLruDwoutIdeal.τ).loc Cert.KernelLruDwoutIdeal.main_v0_0)) (v1 : (c : Dev Cert.KernelLruDwoutIdeal.nD) → Buf (Elt Ideal) ((c.tc : Thread Cert.KernelLruDwoutIdeal.nD Cert.KernelLruDwoutIdeal.τ).loc Cert.KernelLruDwoutIdeal.main_v0_1)),
      θ_run (Cert.KernelLruDwoutIdeal.defs (F := Ideal)) (onTc (τ := Cert.KernelLruDwoutIdeal.τ) (Cert.KernelLruDwoutIdeal.main (F := Ideal))) ⟨m, fun _ => 0, g⟩ (fun r => ∀ c : Dev Cert.KernelLruDwoutIdeal.nD,
          r.2.mem ((c.tc : Thread Cert.KernelLruDwoutIdeal.nD Cert.KernelLruDwoutIdeal.τ).loc Cert.KernelLruDwoutIdeal.main_v0_0) = v0 c
          ∧ r.2.mem ((c.tc : Thread Cert.KernelLruDwoutIdeal.nD Cert.KernelLruDwoutIdeal.τ).loc Cert.KernelLruDwoutIdeal.main_v0_1) = v1 c
          ∧ r.2.mem ((c.tc : Thread Cert.KernelLruDwoutIdeal.nD Cert.KernelLruDwoutIdeal.τ).loc Cert.KernelLruDwoutIdeal.main_arg0) = m ((c.tc : Thread Cert.KernelLruDwoutIdeal.nD Cert.KernelLruDwoutIdeal.τ).loc Cert.KernelLruDwoutIdeal.main_arg0)
          ∧ r.2.mem ((c.tc : Thread Cert.KernelLruDwoutIdeal.nD Cert.KernelLruDwoutIdeal.τ).loc Cert.KernelLruDwoutIdeal.main_arg1) = m ((c.tc : Thread Cert.KernelLruDwoutIdeal.nD Cert.KernelLruDwoutIdeal.τ).loc Cert.KernelLruDwoutIdeal.main_arg1)
          ∧ r.2.mem ((c.tc : Thread Cert.KernelLruDwoutIdeal.nD Cert.KernelLruDwoutIdeal.τ).loc Cert.KernelLruDwoutIdeal.main_arg2) = m ((c.tc : Thread Cert.KernelLruDwoutIdeal.nD Cert.KernelLruDwoutIdeal.τ).loc Cert.KernelLruDwoutIdeal.main_arg2)
          ∧ r.2.mem ((c.tc : Thread Cert.KernelLruDwoutIdeal.nD Cert.KernelLruDwoutIdeal.τ).loc Cert.KernelLruDwoutIdeal.main_arg3) = m ((c.tc : Thread Cert.KernelLruDwoutIdeal.nD Cert.KernelLruDwoutIdeal.τ).loc Cert.KernelLruDwoutIdeal.main_arg3))
      ∧ θ_run (Cert.ReferenceLruDwoutIdeal.defs (F := Ideal)) (onTc (τ := Cert.ReferenceLruDwoutIdeal.τ) (Cert.ReferenceLruDwoutIdeal.main (F := Ideal))) ⟨m', fun _ => 0, g'⟩ (fun r => ∀ c : Dev Cert.ReferenceLruDwoutIdeal.nD,
          r.2.mem ((c.tc : Thread Cert.ReferenceLruDwoutIdeal.nD Cert.ReferenceLruDwoutIdeal.τ).loc Cert.ReferenceLruDwoutIdeal.main_v11) = v0 c
          ∧ r.2.mem ((c.tc : Thread Cert.ReferenceLruDwoutIdeal.nD Cert.ReferenceLruDwoutIdeal.τ).loc Cert.ReferenceLruDwoutIdeal.main_v19) = v1 c
          ∧ r.2.mem ((c.tc : Thread Cert.ReferenceLruDwoutIdeal.nD Cert.ReferenceLruDwoutIdeal.τ).loc Cert.ReferenceLruDwoutIdeal.main_arg0) = m' ((c.tc : Thread Cert.ReferenceLruDwoutIdeal.nD Cert.ReferenceLruDwoutIdeal.τ).loc Cert.ReferenceLruDwoutIdeal.main_arg0)
          ∧ r.2.mem ((c.tc : Thread Cert.ReferenceLruDwoutIdeal.nD Cert.ReferenceLruDwoutIdeal.τ).loc Cert.ReferenceLruDwoutIdeal.main_arg1) = m' ((c.tc : Thread Cert.ReferenceLruDwoutIdeal.nD Cert.ReferenceLruDwoutIdeal.τ).loc Cert.ReferenceLruDwoutIdeal.main_arg1)
          ∧ r.2.mem ((c.tc : Thread Cert.ReferenceLruDwoutIdeal.nD Cert.ReferenceLruDwoutIdeal.τ).loc Cert.ReferenceLruDwoutIdeal.main_arg2) = m' ((c.tc : Thread Cert.ReferenceLruDwoutIdeal.nD Cert.ReferenceLruDwoutIdeal.τ).loc Cert.ReferenceLruDwoutIdeal.main_arg2)
          ∧ r.2.mem ((c.tc : Thread Cert.ReferenceLruDwoutIdeal.nD Cert.ReferenceLruDwoutIdeal.τ).loc Cert.ReferenceLruDwoutIdeal.main_arg3) = m' ((c.tc : Thread Cert.ReferenceLruDwoutIdeal.nD Cert.ReferenceLruDwoutIdeal.τ).loc Cert.ReferenceLruDwoutIdeal.main_arg3))

def preserves_KernelLruDwg_KernelLruDwgIdeal : Prop :=
  True

def algebraic_KernelLruDwgIdeal_ReferenceLruDwgIdeal [hKernelLruDwgIdeal : Cert.KernelLruDwgIdeal.Facts] [hReferenceLruDwgIdeal : Cert.ReferenceLruDwgIdeal.Facts] : Prop :=
  ∀ (m : (ℓ : Loc Cert.KernelLruDwgIdeal.nD Cert.KernelLruDwgIdeal.τ Cert.KernelLruDwgIdeal.sig) → Buf (Elt Ideal) ℓ) (g : Dev Cert.KernelLruDwgIdeal.nD → PrngReg)
    (m' : (ℓ : Loc Cert.ReferenceLruDwgIdeal.nD Cert.ReferenceLruDwgIdeal.τ Cert.ReferenceLruDwgIdeal.sig) → Buf (Elt Ideal) ℓ) (g' : Dev Cert.ReferenceLruDwgIdeal.nD → PrngReg), Pre_KernelLruDwgIdeal m →
    (∀ c : Dev Cert.KernelLruDwgIdeal.nD,
      m' ((c.tc : Thread Cert.ReferenceLruDwgIdeal.nD Cert.ReferenceLruDwgIdeal.τ).loc Cert.ReferenceLruDwgIdeal.main_arg0) = m ((c.tc : Thread Cert.KernelLruDwgIdeal.nD Cert.KernelLruDwgIdeal.τ).loc Cert.KernelLruDwgIdeal.main_arg0)
      ∧ m' ((c.tc : Thread Cert.ReferenceLruDwgIdeal.nD Cert.ReferenceLruDwgIdeal.τ).loc Cert.ReferenceLruDwgIdeal.main_arg1) = m ((c.tc : Thread Cert.KernelLruDwgIdeal.nD Cert.KernelLruDwgIdeal.τ).loc Cert.KernelLruDwgIdeal.main_arg1)
      ∧ m' ((c.tc : Thread Cert.ReferenceLruDwgIdeal.nD Cert.ReferenceLruDwgIdeal.τ).loc Cert.ReferenceLruDwgIdeal.main_arg2) = m ((c.tc : Thread Cert.KernelLruDwgIdeal.nD Cert.KernelLruDwgIdeal.τ).loc Cert.KernelLruDwgIdeal.main_arg2)
      ∧ m' ((c.tc : Thread Cert.ReferenceLruDwgIdeal.nD Cert.ReferenceLruDwgIdeal.τ).loc Cert.ReferenceLruDwgIdeal.main_arg3) = m ((c.tc : Thread Cert.KernelLruDwgIdeal.nD Cert.KernelLruDwgIdeal.τ).loc Cert.KernelLruDwgIdeal.main_arg3)) →
    ∃ (v0 : (c : Dev Cert.KernelLruDwgIdeal.nD) → Buf (Elt Ideal) ((c.tc : Thread Cert.KernelLruDwgIdeal.nD Cert.KernelLruDwgIdeal.τ).loc Cert.KernelLruDwgIdeal.main_v0_0)) (v1 : (c : Dev Cert.KernelLruDwgIdeal.nD) → Buf (Elt Ideal) ((c.tc : Thread Cert.KernelLruDwgIdeal.nD Cert.KernelLruDwgIdeal.τ).loc Cert.KernelLruDwgIdeal.main_v0_1)),
      θ_run (Cert.KernelLruDwgIdeal.defs (F := Ideal)) (onTc (τ := Cert.KernelLruDwgIdeal.τ) (Cert.KernelLruDwgIdeal.main (F := Ideal))) ⟨m, fun _ => 0, g⟩ (fun r => ∀ c : Dev Cert.KernelLruDwgIdeal.nD,
          r.2.mem ((c.tc : Thread Cert.KernelLruDwgIdeal.nD Cert.KernelLruDwgIdeal.τ).loc Cert.KernelLruDwgIdeal.main_v0_0) = v0 c
          ∧ r.2.mem ((c.tc : Thread Cert.KernelLruDwgIdeal.nD Cert.KernelLruDwgIdeal.τ).loc Cert.KernelLruDwgIdeal.main_v0_1) = v1 c
          ∧ r.2.mem ((c.tc : Thread Cert.KernelLruDwgIdeal.nD Cert.KernelLruDwgIdeal.τ).loc Cert.KernelLruDwgIdeal.main_arg0) = m ((c.tc : Thread Cert.KernelLruDwgIdeal.nD Cert.KernelLruDwgIdeal.τ).loc Cert.KernelLruDwgIdeal.main_arg0)
          ∧ r.2.mem ((c.tc : Thread Cert.KernelLruDwgIdeal.nD Cert.KernelLruDwgIdeal.τ).loc Cert.KernelLruDwgIdeal.main_arg1) = m ((c.tc : Thread Cert.KernelLruDwgIdeal.nD Cert.KernelLruDwgIdeal.τ).loc Cert.KernelLruDwgIdeal.main_arg1)
          ∧ r.2.mem ((c.tc : Thread Cert.KernelLruDwgIdeal.nD Cert.KernelLruDwgIdeal.τ).loc Cert.KernelLruDwgIdeal.main_arg2) = m ((c.tc : Thread Cert.KernelLruDwgIdeal.nD Cert.KernelLruDwgIdeal.τ).loc Cert.KernelLruDwgIdeal.main_arg2)
          ∧ r.2.mem ((c.tc : Thread Cert.KernelLruDwgIdeal.nD Cert.KernelLruDwgIdeal.τ).loc Cert.KernelLruDwgIdeal.main_arg3) = m ((c.tc : Thread Cert.KernelLruDwgIdeal.nD Cert.KernelLruDwgIdeal.τ).loc Cert.KernelLruDwgIdeal.main_arg3))
      ∧ θ_run (Cert.ReferenceLruDwgIdeal.defs (F := Ideal)) (onTc (τ := Cert.ReferenceLruDwgIdeal.τ) (Cert.ReferenceLruDwgIdeal.main (F := Ideal))) ⟨m', fun _ => 0, g'⟩ (fun r => ∀ c : Dev Cert.ReferenceLruDwgIdeal.nD,
          r.2.mem ((c.tc : Thread Cert.ReferenceLruDwgIdeal.nD Cert.ReferenceLruDwgIdeal.τ).loc Cert.ReferenceLruDwgIdeal.main_v12) = v0 c
          ∧ r.2.mem ((c.tc : Thread Cert.ReferenceLruDwgIdeal.nD Cert.ReferenceLruDwgIdeal.τ).loc Cert.ReferenceLruDwgIdeal.main_v21) = v1 c
          ∧ r.2.mem ((c.tc : Thread Cert.ReferenceLruDwgIdeal.nD Cert.ReferenceLruDwgIdeal.τ).loc Cert.ReferenceLruDwgIdeal.main_arg0) = m' ((c.tc : Thread Cert.ReferenceLruDwgIdeal.nD Cert.ReferenceLruDwgIdeal.τ).loc Cert.ReferenceLruDwgIdeal.main_arg0)
          ∧ r.2.mem ((c.tc : Thread Cert.ReferenceLruDwgIdeal.nD Cert.ReferenceLruDwgIdeal.τ).loc Cert.ReferenceLruDwgIdeal.main_arg1) = m' ((c.tc : Thread Cert.ReferenceLruDwgIdeal.nD Cert.ReferenceLruDwgIdeal.τ).loc Cert.ReferenceLruDwgIdeal.main_arg1)
          ∧ r.2.mem ((c.tc : Thread Cert.ReferenceLruDwgIdeal.nD Cert.ReferenceLruDwgIdeal.τ).loc Cert.ReferenceLruDwgIdeal.main_arg2) = m' ((c.tc : Thread Cert.ReferenceLruDwgIdeal.nD Cert.ReferenceLruDwgIdeal.τ).loc Cert.ReferenceLruDwgIdeal.main_arg2)
          ∧ r.2.mem ((c.tc : Thread Cert.ReferenceLruDwgIdeal.nD Cert.ReferenceLruDwgIdeal.τ).loc Cert.ReferenceLruDwgIdeal.main_arg3) = m' ((c.tc : Thread Cert.ReferenceLruDwgIdeal.nD Cert.ReferenceLruDwgIdeal.τ).loc Cert.ReferenceLruDwgIdeal.main_arg3))

def preserves_KernelLruDwr_KernelLruDwrIdeal : Prop :=
  True

def algebraic_KernelLruDwrIdeal_ReferenceLruDwrIdeal [hKernelLruDwrIdeal : Cert.KernelLruDwrIdeal.Facts] [hReferenceLruDwrIdeal : Cert.ReferenceLruDwrIdeal.Facts] : Prop :=
  ∀ (m : (ℓ : Loc Cert.KernelLruDwrIdeal.nD Cert.KernelLruDwrIdeal.τ Cert.KernelLruDwrIdeal.sig) → Buf (Elt Ideal) ℓ) (g : Dev Cert.KernelLruDwrIdeal.nD → PrngReg)
    (m' : (ℓ : Loc Cert.ReferenceLruDwrIdeal.nD Cert.ReferenceLruDwrIdeal.τ Cert.ReferenceLruDwrIdeal.sig) → Buf (Elt Ideal) ℓ) (g' : Dev Cert.ReferenceLruDwrIdeal.nD → PrngReg), Pre_KernelLruDwrIdeal m →
    (∀ c : Dev Cert.KernelLruDwrIdeal.nD,
      m' ((c.tc : Thread Cert.ReferenceLruDwrIdeal.nD Cert.ReferenceLruDwrIdeal.τ).loc Cert.ReferenceLruDwrIdeal.main_arg0) = m ((c.tc : Thread Cert.KernelLruDwrIdeal.nD Cert.KernelLruDwrIdeal.τ).loc Cert.KernelLruDwrIdeal.main_arg0)
      ∧ m' ((c.tc : Thread Cert.ReferenceLruDwrIdeal.nD Cert.ReferenceLruDwrIdeal.τ).loc Cert.ReferenceLruDwrIdeal.main_arg1) = m ((c.tc : Thread Cert.KernelLruDwrIdeal.nD Cert.KernelLruDwrIdeal.τ).loc Cert.KernelLruDwrIdeal.main_arg1)
      ∧ m' ((c.tc : Thread Cert.ReferenceLruDwrIdeal.nD Cert.ReferenceLruDwrIdeal.τ).loc Cert.ReferenceLruDwrIdeal.main_arg2) = m ((c.tc : Thread Cert.KernelLruDwrIdeal.nD Cert.KernelLruDwrIdeal.τ).loc Cert.KernelLruDwrIdeal.main_arg2)
      ∧ m' ((c.tc : Thread Cert.ReferenceLruDwrIdeal.nD Cert.ReferenceLruDwrIdeal.τ).loc Cert.ReferenceLruDwrIdeal.main_arg3) = m ((c.tc : Thread Cert.KernelLruDwrIdeal.nD Cert.KernelLruDwrIdeal.τ).loc Cert.KernelLruDwrIdeal.main_arg3)) →
    ∃ (v0 : (c : Dev Cert.KernelLruDwrIdeal.nD) → Buf (Elt Ideal) ((c.tc : Thread Cert.KernelLruDwrIdeal.nD Cert.KernelLruDwrIdeal.τ).loc Cert.KernelLruDwrIdeal.main_v0_0)) (v1 : (c : Dev Cert.KernelLruDwrIdeal.nD) → Buf (Elt Ideal) ((c.tc : Thread Cert.KernelLruDwrIdeal.nD Cert.KernelLruDwrIdeal.τ).loc Cert.KernelLruDwrIdeal.main_v0_1)),
      θ_run (Cert.KernelLruDwrIdeal.defs (F := Ideal)) (onTc (τ := Cert.KernelLruDwrIdeal.τ) (Cert.KernelLruDwrIdeal.main (F := Ideal))) ⟨m, fun _ => 0, g⟩ (fun r => ∀ c : Dev Cert.KernelLruDwrIdeal.nD,
          r.2.mem ((c.tc : Thread Cert.KernelLruDwrIdeal.nD Cert.KernelLruDwrIdeal.τ).loc Cert.KernelLruDwrIdeal.main_v0_0) = v0 c
          ∧ r.2.mem ((c.tc : Thread Cert.KernelLruDwrIdeal.nD Cert.KernelLruDwrIdeal.τ).loc Cert.KernelLruDwrIdeal.main_v0_1) = v1 c
          ∧ r.2.mem ((c.tc : Thread Cert.KernelLruDwrIdeal.nD Cert.KernelLruDwrIdeal.τ).loc Cert.KernelLruDwrIdeal.main_arg0) = m ((c.tc : Thread Cert.KernelLruDwrIdeal.nD Cert.KernelLruDwrIdeal.τ).loc Cert.KernelLruDwrIdeal.main_arg0)
          ∧ r.2.mem ((c.tc : Thread Cert.KernelLruDwrIdeal.nD Cert.KernelLruDwrIdeal.τ).loc Cert.KernelLruDwrIdeal.main_arg1) = m ((c.tc : Thread Cert.KernelLruDwrIdeal.nD Cert.KernelLruDwrIdeal.τ).loc Cert.KernelLruDwrIdeal.main_arg1)
          ∧ r.2.mem ((c.tc : Thread Cert.KernelLruDwrIdeal.nD Cert.KernelLruDwrIdeal.τ).loc Cert.KernelLruDwrIdeal.main_arg2) = m ((c.tc : Thread Cert.KernelLruDwrIdeal.nD Cert.KernelLruDwrIdeal.τ).loc Cert.KernelLruDwrIdeal.main_arg2)
          ∧ r.2.mem ((c.tc : Thread Cert.KernelLruDwrIdeal.nD Cert.KernelLruDwrIdeal.τ).loc Cert.KernelLruDwrIdeal.main_arg3) = m ((c.tc : Thread Cert.KernelLruDwrIdeal.nD Cert.KernelLruDwrIdeal.τ).loc Cert.KernelLruDwrIdeal.main_arg3))
      ∧ θ_run (Cert.ReferenceLruDwrIdeal.defs (F := Ideal)) (onTc (τ := Cert.ReferenceLruDwrIdeal.τ) (Cert.ReferenceLruDwrIdeal.main (F := Ideal))) ⟨m', fun _ => 0, g'⟩ (fun r => ∀ c : Dev Cert.ReferenceLruDwrIdeal.nD,
          r.2.mem ((c.tc : Thread Cert.ReferenceLruDwrIdeal.nD Cert.ReferenceLruDwrIdeal.τ).loc Cert.ReferenceLruDwrIdeal.main_v12) = v0 c
          ∧ r.2.mem ((c.tc : Thread Cert.ReferenceLruDwrIdeal.nD Cert.ReferenceLruDwrIdeal.τ).loc Cert.ReferenceLruDwrIdeal.main_v21) = v1 c
          ∧ r.2.mem ((c.tc : Thread Cert.ReferenceLruDwrIdeal.nD Cert.ReferenceLruDwrIdeal.τ).loc Cert.ReferenceLruDwrIdeal.main_arg0) = m' ((c.tc : Thread Cert.ReferenceLruDwrIdeal.nD Cert.ReferenceLruDwrIdeal.τ).loc Cert.ReferenceLruDwrIdeal.main_arg0)
          ∧ r.2.mem ((c.tc : Thread Cert.ReferenceLruDwrIdeal.nD Cert.ReferenceLruDwrIdeal.τ).loc Cert.ReferenceLruDwrIdeal.main_arg1) = m' ((c.tc : Thread Cert.ReferenceLruDwrIdeal.nD Cert.ReferenceLruDwrIdeal.τ).loc Cert.ReferenceLruDwrIdeal.main_arg1)
          ∧ r.2.mem ((c.tc : Thread Cert.ReferenceLruDwrIdeal.nD Cert.ReferenceLruDwrIdeal.τ).loc Cert.ReferenceLruDwrIdeal.main_arg2) = m' ((c.tc : Thread Cert.ReferenceLruDwrIdeal.nD Cert.ReferenceLruDwrIdeal.τ).loc Cert.ReferenceLruDwrIdeal.main_arg2)
          ∧ r.2.mem ((c.tc : Thread Cert.ReferenceLruDwrIdeal.nD Cert.ReferenceLruDwrIdeal.τ).loc Cert.ReferenceLruDwrIdeal.main_arg3) = m' ((c.tc : Thread Cert.ReferenceLruDwrIdeal.nD Cert.ReferenceLruDwrIdeal.τ).loc Cert.ReferenceLruDwrIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDa : Cert.KernelDa.Facts) (hKernelDaIdeal : Cert.KernelDaIdeal.Facts) (hReferenceDaIdeal : Cert.ReferenceDaIdeal.Facts) (hKernelDx : Cert.KernelDx.Facts) (hKernelDxIdeal : Cert.KernelDxIdeal.Facts) (hReferenceDxIdeal : Cert.ReferenceDxIdeal.Facts) (hKernelDwdown : Cert.KernelDwdown.Facts) (hKernelDwdownIdeal : Cert.KernelDwdownIdeal.Facts) (hReferenceDwdownIdeal : Cert.ReferenceDwdownIdeal.Facts) (hKernelDwgate : Cert.KernelDwgate.Facts) (hKernelDwgateIdeal : Cert.KernelDwgateIdeal.Facts) (hReferenceDwgateIdeal : Cert.ReferenceDwgateIdeal.Facts) (hKernelDwup : Cert.KernelDwup.Facts) (hKernelDwupIdeal : Cert.KernelDwupIdeal.Facts) (hReferenceDwupIdeal : Cert.ReferenceDwupIdeal.Facts) (hKernelRetIn : Cert.KernelRetIn.Facts) (hKernelRetInIdeal : Cert.KernelRetInIdeal.Facts) (hReferenceRetInIdeal : Cert.ReferenceRetInIdeal.Facts) (hKernelRetOut : Cert.KernelRetOut.Facts) (hKernelRetOutIdeal : Cert.KernelRetOutIdeal.Facts) (hReferenceRetOutIdeal : Cert.ReferenceRetOutIdeal.Facts) (hKernelRetDgated : Cert.KernelRetDgated.Facts) (hKernelRetDgatedIdeal : Cert.KernelRetDgatedIdeal.Facts) (hReferenceRetDgatedIdeal : Cert.ReferenceRetDgatedIdeal.Facts) (hKernelRetDx : Cert.KernelRetDx.Facts) (hKernelRetDxIdeal : Cert.KernelRetDxIdeal.Facts) (hReferenceRetDxIdeal : Cert.ReferenceRetDxIdeal.Facts) (hKernelLruIn : Cert.KernelLruIn.Facts) (hKernelLruInIdeal : Cert.KernelLruInIdeal.Facts) (hReferenceLruInIdeal : Cert.ReferenceLruInIdeal.Facts) (hKernelLruOut : Cert.KernelLruOut.Facts) (hKernelLruOutIdeal : Cert.KernelLruOutIdeal.Facts) (hReferenceLruOutIdeal : Cert.ReferenceLruOutIdeal.Facts) (hKernelDmix : Cert.KernelDmix.Facts) (hKernelDmixIdeal : Cert.KernelDmixIdeal.Facts) (hReferenceDmixIdeal : Cert.ReferenceDmixIdeal.Facts) (hKernelLruDx : Cert.KernelLruDx.Facts) (hKernelLruDxIdeal : Cert.KernelLruDxIdeal.Facts) (hReferenceLruDxIdeal : Cert.ReferenceLruDxIdeal.Facts) (hKernelMlaIn : Cert.KernelMlaIn.Facts) (hKernelMlaInIdeal : Cert.KernelMlaInIdeal.Facts) (hReferenceMlaInIdeal : Cert.ReferenceMlaInIdeal.Facts) (hKernelMlaUq : Cert.KernelMlaUq.Facts) (hKernelMlaUqIdeal : Cert.KernelMlaUqIdeal.Facts) (hReferenceMlaUqIdeal : Cert.ReferenceMlaUqIdeal.Facts) (hKernelMlaUkv : Cert.KernelMlaUkv.Facts) (hKernelMlaUkvIdeal : Cert.KernelMlaUkvIdeal.Facts) (hReferenceMlaUkvIdeal : Cert.ReferenceMlaUkvIdeal.Facts) (hKernelMlaOut : Cert.KernelMlaOut.Facts) (hKernelMlaOutIdeal : Cert.KernelMlaOutIdeal.Facts) (hReferenceMlaOutIdeal : Cert.ReferenceMlaOutIdeal.Facts) (hKernelMlaDqn : Cert.KernelMlaDqn.Facts) (hKernelMlaDqnIdeal : Cert.KernelMlaDqnIdeal.Facts) (hReferenceMlaDqnIdeal : Cert.ReferenceMlaDqnIdeal.Facts) (hKernelMlaDkvn : Cert.KernelMlaDkvn.Facts) (hKernelMlaDkvnIdeal : Cert.KernelMlaDkvnIdeal.Facts) (hReferenceMlaDkvnIdeal : Cert.ReferenceMlaDkvnIdeal.Facts) (hKernelRetDwk : Cert.KernelRetDwk.Facts) (hKernelRetDwkIdeal : Cert.KernelRetDwkIdeal.Facts) (hReferenceRetDwkIdeal : Cert.ReferenceRetDwkIdeal.Facts) (hKernelRetDwv : Cert.KernelRetDwv.Facts) (hKernelRetDwvIdeal : Cert.KernelRetDwvIdeal.Facts) (hReferenceRetDwvIdeal : Cert.ReferenceRetDwvIdeal.Facts) (hKernelRetDwg : Cert.KernelRetDwg.Facts) (hKernelRetDwgIdeal : Cert.KernelRetDwgIdeal.Facts) (hReferenceRetDwgIdeal : Cert.ReferenceRetDwgIdeal.Facts) (hKernelLruDwout : Cert.KernelLruDwout.Facts) (hKernelLruDwoutIdeal : Cert.KernelLruDwoutIdeal.Facts) (hReferenceLruDwoutIdeal : Cert.ReferenceLruDwoutIdeal.Facts) (hKernelLruDwg : Cert.KernelLruDwg.Facts) (hKernelLruDwgIdeal : Cert.KernelLruDwgIdeal.Facts) (hReferenceLruDwgIdeal : Cert.ReferenceLruDwgIdeal.Facts) (hKernelLruDwr : Cert.KernelLruDwr.Facts) (hKernelLruDwrIdeal : Cert.KernelLruDwrIdeal.Facts) (hReferenceLruDwrIdeal : Cert.ReferenceLruDwrIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDwdown (hKernelDwdown := hKernelDwdown)
    ∧ quiescent_KernelDwdownIdeal (hKernelDwdownIdeal := hKernelDwdownIdeal)
    ∧ quiescent_ReferenceDwdownIdeal (hReferenceDwdownIdeal := hReferenceDwdownIdeal)
    ∧ quiescent_KernelDwgate (hKernelDwgate := hKernelDwgate)
    ∧ quiescent_KernelDwgateIdeal (hKernelDwgateIdeal := hKernelDwgateIdeal)
    ∧ quiescent_ReferenceDwgateIdeal (hReferenceDwgateIdeal := hReferenceDwgateIdeal)
    ∧ quiescent_KernelDwup (hKernelDwup := hKernelDwup)
    ∧ quiescent_KernelDwupIdeal (hKernelDwupIdeal := hKernelDwupIdeal)
    ∧ quiescent_ReferenceDwupIdeal (hReferenceDwupIdeal := hReferenceDwupIdeal)
    ∧ quiescent_KernelRetIn (hKernelRetIn := hKernelRetIn)
    ∧ quiescent_KernelRetInIdeal (hKernelRetInIdeal := hKernelRetInIdeal)
    ∧ quiescent_ReferenceRetInIdeal (hReferenceRetInIdeal := hReferenceRetInIdeal)
    ∧ quiescent_KernelRetOut (hKernelRetOut := hKernelRetOut)
    ∧ quiescent_KernelRetOutIdeal (hKernelRetOutIdeal := hKernelRetOutIdeal)
    ∧ quiescent_ReferenceRetOutIdeal (hReferenceRetOutIdeal := hReferenceRetOutIdeal)
    ∧ quiescent_KernelRetDgated (hKernelRetDgated := hKernelRetDgated)
    ∧ quiescent_KernelRetDgatedIdeal (hKernelRetDgatedIdeal := hKernelRetDgatedIdeal)
    ∧ quiescent_ReferenceRetDgatedIdeal (hReferenceRetDgatedIdeal := hReferenceRetDgatedIdeal)
    ∧ quiescent_KernelRetDx (hKernelRetDx := hKernelRetDx)
    ∧ quiescent_KernelRetDxIdeal (hKernelRetDxIdeal := hKernelRetDxIdeal)
    ∧ quiescent_ReferenceRetDxIdeal (hReferenceRetDxIdeal := hReferenceRetDxIdeal)
    ∧ quiescent_KernelLruIn (hKernelLruIn := hKernelLruIn)
    ∧ quiescent_KernelLruInIdeal (hKernelLruInIdeal := hKernelLruInIdeal)
    ∧ quiescent_ReferenceLruInIdeal (hReferenceLruInIdeal := hReferenceLruInIdeal)
    ∧ quiescent_KernelLruOut (hKernelLruOut := hKernelLruOut)
    ∧ quiescent_KernelLruOutIdeal (hKernelLruOutIdeal := hKernelLruOutIdeal)
    ∧ quiescent_ReferenceLruOutIdeal (hReferenceLruOutIdeal := hReferenceLruOutIdeal)
    ∧ quiescent_KernelDmix (hKernelDmix := hKernelDmix)
    ∧ quiescent_KernelDmixIdeal (hKernelDmixIdeal := hKernelDmixIdeal)
    ∧ quiescent_ReferenceDmixIdeal (hReferenceDmixIdeal := hReferenceDmixIdeal)
    ∧ quiescent_KernelLruDx (hKernelLruDx := hKernelLruDx)
    ∧ quiescent_KernelLruDxIdeal (hKernelLruDxIdeal := hKernelLruDxIdeal)
    ∧ quiescent_ReferenceLruDxIdeal (hReferenceLruDxIdeal := hReferenceLruDxIdeal)
    ∧ quiescent_KernelMlaIn (hKernelMlaIn := hKernelMlaIn)
    ∧ quiescent_KernelMlaInIdeal (hKernelMlaInIdeal := hKernelMlaInIdeal)
    ∧ quiescent_ReferenceMlaInIdeal (hReferenceMlaInIdeal := hReferenceMlaInIdeal)
    ∧ quiescent_KernelMlaUq (hKernelMlaUq := hKernelMlaUq)
    ∧ quiescent_KernelMlaUqIdeal (hKernelMlaUqIdeal := hKernelMlaUqIdeal)
    ∧ quiescent_ReferenceMlaUqIdeal (hReferenceMlaUqIdeal := hReferenceMlaUqIdeal)
    ∧ quiescent_KernelMlaUkv (hKernelMlaUkv := hKernelMlaUkv)
    ∧ quiescent_KernelMlaUkvIdeal (hKernelMlaUkvIdeal := hKernelMlaUkvIdeal)
    ∧ quiescent_ReferenceMlaUkvIdeal (hReferenceMlaUkvIdeal := hReferenceMlaUkvIdeal)
    ∧ quiescent_KernelMlaOut (hKernelMlaOut := hKernelMlaOut)
    ∧ quiescent_KernelMlaOutIdeal (hKernelMlaOutIdeal := hKernelMlaOutIdeal)
    ∧ quiescent_ReferenceMlaOutIdeal (hReferenceMlaOutIdeal := hReferenceMlaOutIdeal)
    ∧ quiescent_KernelMlaDqn (hKernelMlaDqn := hKernelMlaDqn)
    ∧ quiescent_KernelMlaDqnIdeal (hKernelMlaDqnIdeal := hKernelMlaDqnIdeal)
    ∧ quiescent_ReferenceMlaDqnIdeal (hReferenceMlaDqnIdeal := hReferenceMlaDqnIdeal)
    ∧ quiescent_KernelMlaDkvn (hKernelMlaDkvn := hKernelMlaDkvn)
    ∧ quiescent_KernelMlaDkvnIdeal (hKernelMlaDkvnIdeal := hKernelMlaDkvnIdeal)
    ∧ quiescent_ReferenceMlaDkvnIdeal (hReferenceMlaDkvnIdeal := hReferenceMlaDkvnIdeal)
    ∧ quiescent_KernelRetDwk (hKernelRetDwk := hKernelRetDwk)
    ∧ quiescent_KernelRetDwkIdeal (hKernelRetDwkIdeal := hKernelRetDwkIdeal)
    ∧ quiescent_ReferenceRetDwkIdeal (hReferenceRetDwkIdeal := hReferenceRetDwkIdeal)
    ∧ quiescent_KernelRetDwv (hKernelRetDwv := hKernelRetDwv)
    ∧ quiescent_KernelRetDwvIdeal (hKernelRetDwvIdeal := hKernelRetDwvIdeal)
    ∧ quiescent_ReferenceRetDwvIdeal (hReferenceRetDwvIdeal := hReferenceRetDwvIdeal)
    ∧ quiescent_KernelRetDwg (hKernelRetDwg := hKernelRetDwg)
    ∧ quiescent_KernelRetDwgIdeal (hKernelRetDwgIdeal := hKernelRetDwgIdeal)
    ∧ quiescent_ReferenceRetDwgIdeal (hReferenceRetDwgIdeal := hReferenceRetDwgIdeal)
    ∧ quiescent_KernelLruDwout (hKernelLruDwout := hKernelLruDwout)
    ∧ quiescent_KernelLruDwoutIdeal (hKernelLruDwoutIdeal := hKernelLruDwoutIdeal)
    ∧ quiescent_ReferenceLruDwoutIdeal (hReferenceLruDwoutIdeal := hReferenceLruDwoutIdeal)
    ∧ quiescent_KernelLruDwg (hKernelLruDwg := hKernelLruDwg)
    ∧ quiescent_KernelLruDwgIdeal (hKernelLruDwgIdeal := hKernelLruDwgIdeal)
    ∧ quiescent_ReferenceLruDwgIdeal (hReferenceLruDwgIdeal := hReferenceLruDwgIdeal)
    ∧ quiescent_KernelLruDwr (hKernelLruDwr := hKernelLruDwr)
    ∧ quiescent_KernelLruDwrIdeal (hKernelLruDwrIdeal := hKernelLruDwrIdeal)
    ∧ quiescent_ReferenceLruDwrIdeal (hReferenceLruDwrIdeal := hReferenceLruDwrIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDa_KernelDaIdeal
    ∧ algebraic_KernelDaIdeal_ReferenceDaIdeal (hKernelDaIdeal := hKernelDaIdeal) (hReferenceDaIdeal := hReferenceDaIdeal)
    ∧ preserves_KernelDx_KernelDxIdeal
    ∧ algebraic_KernelDxIdeal_ReferenceDxIdeal (hKernelDxIdeal := hKernelDxIdeal) (hReferenceDxIdeal := hReferenceDxIdeal)
    ∧ preserves_KernelDwdown_KernelDwdownIdeal
    ∧ algebraic_KernelDwdownIdeal_ReferenceDwdownIdeal (hKernelDwdownIdeal := hKernelDwdownIdeal) (hReferenceDwdownIdeal := hReferenceDwdownIdeal)
    ∧ preserves_KernelDwgate_KernelDwgateIdeal
    ∧ algebraic_KernelDwgateIdeal_ReferenceDwgateIdeal (hKernelDwgateIdeal := hKernelDwgateIdeal) (hReferenceDwgateIdeal := hReferenceDwgateIdeal)
    ∧ preserves_KernelDwup_KernelDwupIdeal
    ∧ algebraic_KernelDwupIdeal_ReferenceDwupIdeal (hKernelDwupIdeal := hKernelDwupIdeal) (hReferenceDwupIdeal := hReferenceDwupIdeal)
    ∧ preserves_KernelRetIn_KernelRetInIdeal
    ∧ algebraic_KernelRetInIdeal_ReferenceRetInIdeal (hKernelRetInIdeal := hKernelRetInIdeal) (hReferenceRetInIdeal := hReferenceRetInIdeal)
    ∧ preserves_KernelRetOut_KernelRetOutIdeal
    ∧ algebraic_KernelRetOutIdeal_ReferenceRetOutIdeal (hKernelRetOutIdeal := hKernelRetOutIdeal) (hReferenceRetOutIdeal := hReferenceRetOutIdeal)
    ∧ preserves_KernelRetDgated_KernelRetDgatedIdeal
    ∧ algebraic_KernelRetDgatedIdeal_ReferenceRetDgatedIdeal (hKernelRetDgatedIdeal := hKernelRetDgatedIdeal) (hReferenceRetDgatedIdeal := hReferenceRetDgatedIdeal)
    ∧ preserves_KernelRetDx_KernelRetDxIdeal
    ∧ algebraic_KernelRetDxIdeal_ReferenceRetDxIdeal (hKernelRetDxIdeal := hKernelRetDxIdeal) (hReferenceRetDxIdeal := hReferenceRetDxIdeal)
    ∧ preserves_KernelLruIn_KernelLruInIdeal
    ∧ algebraic_KernelLruInIdeal_ReferenceLruInIdeal (hKernelLruInIdeal := hKernelLruInIdeal) (hReferenceLruInIdeal := hReferenceLruInIdeal)
    ∧ preserves_KernelLruOut_KernelLruOutIdeal
    ∧ algebraic_KernelLruOutIdeal_ReferenceLruOutIdeal (hKernelLruOutIdeal := hKernelLruOutIdeal) (hReferenceLruOutIdeal := hReferenceLruOutIdeal)
    ∧ preserves_KernelDmix_KernelDmixIdeal
    ∧ algebraic_KernelDmixIdeal_ReferenceDmixIdeal (hKernelDmixIdeal := hKernelDmixIdeal) (hReferenceDmixIdeal := hReferenceDmixIdeal)
    ∧ preserves_KernelLruDx_KernelLruDxIdeal
    ∧ algebraic_KernelLruDxIdeal_ReferenceLruDxIdeal (hKernelLruDxIdeal := hKernelLruDxIdeal) (hReferenceLruDxIdeal := hReferenceLruDxIdeal)
    ∧ preserves_KernelMlaIn_KernelMlaInIdeal
    ∧ algebraic_KernelMlaInIdeal_ReferenceMlaInIdeal (hKernelMlaInIdeal := hKernelMlaInIdeal) (hReferenceMlaInIdeal := hReferenceMlaInIdeal)
    ∧ preserves_KernelMlaUq_KernelMlaUqIdeal
    ∧ algebraic_KernelMlaUqIdeal_ReferenceMlaUqIdeal (hKernelMlaUqIdeal := hKernelMlaUqIdeal) (hReferenceMlaUqIdeal := hReferenceMlaUqIdeal)
    ∧ preserves_KernelMlaUkv_KernelMlaUkvIdeal
    ∧ algebraic_KernelMlaUkvIdeal_ReferenceMlaUkvIdeal (hKernelMlaUkvIdeal := hKernelMlaUkvIdeal) (hReferenceMlaUkvIdeal := hReferenceMlaUkvIdeal)
    ∧ preserves_KernelMlaOut_KernelMlaOutIdeal
    ∧ algebraic_KernelMlaOutIdeal_ReferenceMlaOutIdeal (hKernelMlaOutIdeal := hKernelMlaOutIdeal) (hReferenceMlaOutIdeal := hReferenceMlaOutIdeal)
    ∧ preserves_KernelMlaDqn_KernelMlaDqnIdeal
    ∧ algebraic_KernelMlaDqnIdeal_ReferenceMlaDqnIdeal (hKernelMlaDqnIdeal := hKernelMlaDqnIdeal) (hReferenceMlaDqnIdeal := hReferenceMlaDqnIdeal)
    ∧ preserves_KernelMlaDkvn_KernelMlaDkvnIdeal
    ∧ algebraic_KernelMlaDkvnIdeal_ReferenceMlaDkvnIdeal (hKernelMlaDkvnIdeal := hKernelMlaDkvnIdeal) (hReferenceMlaDkvnIdeal := hReferenceMlaDkvnIdeal)
    ∧ preserves_KernelRetDwk_KernelRetDwkIdeal
    ∧ algebraic_KernelRetDwkIdeal_ReferenceRetDwkIdeal (hKernelRetDwkIdeal := hKernelRetDwkIdeal) (hReferenceRetDwkIdeal := hReferenceRetDwkIdeal)
    ∧ preserves_KernelRetDwv_KernelRetDwvIdeal
    ∧ algebraic_KernelRetDwvIdeal_ReferenceRetDwvIdeal (hKernelRetDwvIdeal := hKernelRetDwvIdeal) (hReferenceRetDwvIdeal := hReferenceRetDwvIdeal)
    ∧ preserves_KernelRetDwg_KernelRetDwgIdeal
    ∧ algebraic_KernelRetDwgIdeal_ReferenceRetDwgIdeal (hKernelRetDwgIdeal := hKernelRetDwgIdeal) (hReferenceRetDwgIdeal := hReferenceRetDwgIdeal)
    ∧ preserves_KernelLruDwout_KernelLruDwoutIdeal
    ∧ algebraic_KernelLruDwoutIdeal_ReferenceLruDwoutIdeal (hKernelLruDwoutIdeal := hKernelLruDwoutIdeal) (hReferenceLruDwoutIdeal := hReferenceLruDwoutIdeal)
    ∧ preserves_KernelLruDwg_KernelLruDwgIdeal
    ∧ algebraic_KernelLruDwgIdeal_ReferenceLruDwgIdeal (hKernelLruDwgIdeal := hKernelLruDwgIdeal) (hReferenceLruDwgIdeal := hReferenceLruDwgIdeal)
    ∧ preserves_KernelLruDwr_KernelLruDwrIdeal
    ∧ algebraic_KernelLruDwrIdeal_ReferenceLruDwrIdeal (hKernelLruDwrIdeal := hKernelLruDwrIdeal) (hReferenceLruDwrIdeal := hReferenceLruDwrIdeal)
-- ==== Pre_finite.lean ====
abbrev S16384x6144 : Shape := ⟨2, ![16384, 6144]⟩
abbrev S2048 : Shape := ⟨1, ![2048]⟩
abbrev S16384 : Shape := ⟨1, ![16384]⟩
abbrev S16384x2048 : Shape := ⟨2, ![16384, 2048]⟩
abbrev S_ : Shape := ⟨0, ![]⟩

class Facts : Prop where
  bcast_S_S16384x6144 : S_.BroadcastsInDim S16384x6144 (![] : Fin 0 → Fin S16384x6144.rank)
  reducesTo_S16384x6144_S_d0_1 : S16384x6144.ReducesTo [0, 1] S_
  h_S_ : 0 < S_.numel
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x6144 .f32) (main_arg1 : FVec F S2048 .f32) (main_arg2 : IVec S16384 32) (main_arg3 : FVec F S16384x2048 .bf16) : IVec S_ 1 :=
  let main_v0 : FVec F S16384x6144 .f32 := Host.absf main_arg0
  let main_cst : FVec F S_ .f32 := constant S_ .f32 0x7F800000#32
  let main_v1 : FVec F S16384x6144 .f32 := broadcastInDim S16384x6144 ![] bcast_S_S16384x6144 main_cst
  let main_v2 : IVec S16384x6144 1 := cmpf .olt main_v0 main_v1
  let main_c : IVec S_ 1 := constantI S_ 1 1#1
  let main_v3 : IVec S_ 1 := (fun x v => Host.reduce IntOp.andi x v reducesTo_S16384x6144_S_d0_1 h_S_) main_v2 main_c
  let main_v4 : FVec F S16384x2048 .f32 := (extf .f32 · bitsLt_bf16_f32) main_arg3
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_c_1 : IVec S_ 1 := constantI S_ 1 1#1
  let main_v8 : IVec S_ 1 := (fun x v => Host.reduce IntOp.andi x v reducesTo_S16384x2048_S_d0_1 h_S_) main_v7 main_c_1
  let main_v9 : IVec S_ 1 := andi main_v3 main_v8
  main_v9
-- ==== Kernel.lean ====
abbrev S16384x6144 : Shape := ⟨2, ![16384, 6144]⟩
abbrev S2048 : Shape := ⟨1, ![2048]⟩
abbrev S16384 : Shape := ⟨1, ![16384]⟩
abbrev S16384x2048 : Shape := ⟨2, ![16384, 2048]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩
abbrev S4 : Shape := ⟨1, ![4]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S4x1x1 : Shape := ⟨3, ![4, 1, 1]⟩
abbrev S1x512x512 : Shape := ⟨3, ![1, 512, 512]⟩
abbrev S4x512x512 : Shape := ⟨3, ![4, 512, 512]⟩
abbrev S4x1 : Shape := ⟨2, ![4, 1]⟩
abbrev S4x512 : Shape := ⟨2, ![4, 512]⟩
abbrev S4x512x1 : Shape := ⟨3, ![4, 512, 1]⟩
abbrev S4x512x256 : Shape := ⟨3, ![4, 512, 256]⟩
abbrev S4x1x512 : Shape := ⟨3, ![4, 1, 512]⟩
abbrev S1x2048 : Shape := ⟨2, ![1, 2048]⟩
abbrev S4x32x256x512 : Shape := ⟨4, ![4, 32, 256, 512]⟩
abbrev S512x256 : Shape := ⟨2, ![512, 256]⟩
abbrev S512x128 : Shape := ⟨2, ![512, 128]⟩
abbrev S1x512x256 : Shape := ⟨3, ![1, 512, 256]⟩
abbrev S1x1x512 : Shape := ⟨3, ![1, 1, 512]⟩
abbrev S1x1x256x512 : Shape := ⟨4, ![1, 1, 256, 512]⟩
abbrev S256x512 : Shape := ⟨2, ![256, 512]⟩
abbrev S16384x1024 : Shape := ⟨2, ![16384, 1024]⟩

abbrev nBuf : Space → Nat
  | .hbm => 113
  | .vmem => 58
  | .smem => 0
  | _ => 0

abbrev bufTy : (tb : Table) → Fin (tcTables nBuf tb) → BufTy
  | .hbm, ⟨0, _⟩ => ⟨S16384x6144, .f32⟩
  | .hbm, ⟨1, _⟩ => ⟨S2048, .f32⟩
  | .hbm, ⟨2, _⟩ => ⟨S16384, .i32⟩
  | .hbm, ⟨3, _⟩ => ⟨S16384x2048, .bf16⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S16384, .f32⟩
  | .hbm, ⟨19, _⟩ => ⟨S16384x1, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S512, .f32⟩
  | .hbm, ⟨35, _⟩ => ⟨S512, .i32⟩
  | .hbm, ⟨36, _⟩ => ⟨S_, .i32⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S512, .i1⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S1x512, .i32⟩
  | .hbm, ⟨55, _⟩ => ⟨S512x1, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S4x1x1, .f32⟩
  | .hbm, ⟨60, _⟩ => ⟨S512x1, .f32⟩
  | .hbm, ⟨61, _⟩ => ⟨S1x512, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S512x512, .f32⟩
  | .hbm, ⟨66, _⟩ => ⟨S1x512x512, .f32⟩
  | .hbm, ⟨67, _⟩ => ⟨S4x512x512, .f32⟩
  | .hbm, ⟨68, _⟩ => ⟨S4x512x512, .f32⟩
  | .hbm, ⟨69, _⟩ => ⟨S4x512x512, .f32⟩
  | .hbm, ⟨70, _⟩ => ⟨S4x512x512, .f32⟩
  | .hbm, ⟨71, _⟩ => ⟨S_, .f32⟩
  | .hbm, ⟨72, _⟩ => ⟨S_, .f32⟩
  | .hbm, ⟨73, _⟩ => ⟨S4x512x512, .i1⟩
  | .hbm, ⟨74, _⟩ => ⟨S4x512x512, .f32⟩
  | .hbm, ⟨75, _⟩ => ⟨S4x512x512, .f32⟩
  | .hbm, ⟨76, _⟩ => ⟨S4x1, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S1x512, .f32⟩
  | .hbm, ⟨81, _⟩ => ⟨S4x512, .f32⟩
  | .hbm, ⟨82, _⟩ => ⟨S4x512, .f32⟩
  | .hbm, ⟨83, _⟩ => ⟨S4x512, .f32⟩
  | .hbm, ⟨84, _⟩ => ⟨S4x512, .f32⟩
  | .hbm, ⟨85, _⟩ => ⟨S4x512x1, .f32⟩
  | .hbm, ⟨86, _⟩ => ⟨S4x512x256, .f32⟩
  | .hbm, ⟨87, _⟩ => ⟨S4x1, .f32⟩
  | .hbm, ⟨88, _⟩ => ⟨S_, .f32⟩
  | .hbm, ⟨89, _⟩ => ⟨S512, .f32⟩
  | .hbm, ⟨90, _⟩ => ⟨S512, .f32⟩
  | .hbm, ⟨91, _⟩ => ⟨S1x512, .f32⟩
  | .hbm, ⟨92, _⟩ => ⟨S4x512, .f32⟩
  | .hbm, ⟨93, _⟩ => ⟨S4x512, .f32⟩
  | .hbm, ⟨94, _⟩ => ⟨S4x512, .f32⟩
  | .hbm, ⟨95, _⟩ => ⟨S4x512, .f32⟩
  | .hbm, ⟨96, _⟩ => ⟨S4x512x1, .f32⟩
  | .hbm, ⟨97, _⟩ => ⟨S4x512x256, .f32⟩
  | .hbm, ⟨98, _⟩ => ⟨S_, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S4x1x1, .f32⟩
  | .hbm, ⟨103, _⟩ => ⟨S4x1x512, .f32⟩
  | .hbm, ⟨104, _⟩ => ⟨S16384x128, .f32⟩
  | .hbm, ⟨105, _⟩ => ⟨S16384x128, .f32⟩
  | .hbm, ⟨106, _⟩ => ⟨S1x2048, .f32⟩
  | .hbm, ⟨107, _⟩ => ⟨S16384x2048, .bf16⟩
  | .hbm, ⟨108, _⟩ => ⟨S16384x2048, .f32⟩
  | .hbm, ⟨109, _⟩ => ⟨S4x32x256x512, .bf16⟩
  | .hbm, ⟨110, _⟩ => ⟨S16384x1024, .bf16⟩
  | .hbm, ⟨111, _⟩ => ⟨S16384x1024, .bf16⟩
  | .hbm, ⟨112, _⟩ => ⟨S16384x2048, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x1x512, .f32⟩
  | .local _ .vmem, ⟨21, _⟩ => ⟨S1x1x512, .f32⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S1x1x256x512, .bf16⟩
  | .local _ .vmem, ⟨27, _⟩ => ⟨S1x1x256x512, .bf16⟩
  | .local _ .vmem, ⟨28, _⟩ => ⟨S256x512, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x512, .f32⟩
  | .local _ .vmem, ⟨34, _⟩ => ⟨S512x512, .f32⟩
  | .local _ .vmem, ⟨35, _⟩ => ⟨S512x512, .bf16⟩
  | .local _ .vmem, ⟨36, _⟩ => ⟨S512x512, .bf16⟩
  | .local _ .vmem, ⟨37, _⟩ => ⟨S1x1x256x512, .bf16⟩
  | .local _ .vmem, ⟨38, _⟩ => ⟨S1x1x256x512, .bf16⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S1x512x512, .f32⟩
  | .local _ .vmem, ⟨44, _⟩ => ⟨S1x512x512, .f32⟩
  | .local _ .vmem, ⟨45, _⟩ => ⟨S1x512x256, .f32⟩
  | .local _ .vmem, ⟨46, _⟩ => ⟨S1x512x256, .f32⟩
  | .local _ .vmem, ⟨47, _⟩ => ⟨S1x512x256, .f32⟩
  | .local _ .vmem, ⟨48, _⟩ => ⟨S1x512x256, .f32⟩
  | .local _ .vmem, ⟨49, _⟩ => ⟨S1x1x512, .f32⟩
  | .local _ .vmem, ⟨50, _⟩ => ⟨S1x1x512, .f32⟩
  | .local _ .vmem, ⟨51, _⟩ => ⟨S512x256, .bf16⟩
  | .local _ .vmem, ⟨52, _⟩ => ⟨S512x256, .bf16⟩
  | .local _ .vmem, ⟨53, _⟩ => ⟨S512x256, .bf16⟩
  | .local _ .vmem, ⟨54, _⟩ => ⟨S512x256, .bf16⟩
  | .local _ .vmem, ⟨55, _⟩ => ⟨S512x512, .bf16⟩
  | .local _ .vmem, ⟨56, _⟩ => ⟨S512x512, .bf16⟩
  | .local _ .vmem, ⟨57, _⟩ => ⟨S256x512, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_8 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73_0 : Ref sig .tc := ⟨.hbm, 107, rfl⟩
abbrev main_v73_1 : Ref sig .tc := ⟨.hbm, 108, rfl⟩
abbrev main_v73_2 : Ref sig .tc := ⟨.hbm, 109, rfl⟩
abbrev main_v74_0 : Ref sig .tc := ⟨.hbm, 110, rfl⟩
abbrev main_v74_1 : Ref sig .tc := ⟨.hbm, 111, rfl⟩
abbrev main_v74_2 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg7_1 : Ref sig .tc := ⟨.vmem, 44, rfl⟩
abbrev cc1_stg8_0 : Ref sig .tc := ⟨.vmem, 45, rfl⟩
abbrev cc1_stg8_1 : Ref sig .tc := ⟨.vmem, 46, rfl⟩
abbrev cc1_stg9_0 : Ref sig .tc := ⟨.vmem, 47, rfl⟩
abbrev cc1_stg9_1 : Ref sig .tc := ⟨.vmem, 48, rfl⟩
abbrev cc1_stg10_0 : Ref sig .tc := ⟨.vmem, 49, rfl⟩
abbrev cc1_stg10_1 : Ref sig .tc := ⟨.vmem, 50, rfl⟩
abbrev cc1_stg11_0 : Ref sig .tc := ⟨.vmem, 51, rfl⟩
abbrev cc1_stg11_1 : Ref sig .tc := ⟨.vmem, 52, rfl⟩
abbrev cc1_stg12_0 : Ref sig .tc := ⟨.vmem, 53, rfl⟩
abbrev cc1_stg12_1 : Ref sig .tc := ⟨.vmem, 54, rfl⟩
abbrev cc1_stg13_0 : Ref sig .tc := ⟨.vmem, 55, rfl⟩
abbrev cc1_stg13_1 : Ref sig .tc := ⟨.vmem, 56, rfl⟩
abbrev cc1_scratch0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem10_1 : DmaSem sig := 49
abbrev cc1_sem11_0 : DmaSem sig := 50
abbrev cc1_sem11_1 : DmaSem sig := 51
abbrev cc1_sem12_0 : DmaSem sig := 52
abbrev cc1_sem12_1 : DmaSem sig := 53
abbrev cc1_sem13_0 : DmaSem sig := 54
abbrev cc1_sem13_1 : DmaSem sig := 55

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_4 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_12 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_13 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S512x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S16384x6144 : Shape := ⟨2, ![16384, 6144]⟩
abbrev S2048 : Shape := ⟨1, ![2048]⟩
abbrev S16384 : Shape := ⟨1, ![16384]⟩
abbrev S16384x2048 : Shape := ⟨2, ![16384, 2048]⟩
abbrev S16384x1024 : Shape := ⟨2, ![16384, 1024]⟩
abbrev S1x16384x1024 : Shape := ⟨3, ![1, 16384, 1024]⟩
abbrev S1x16384x2048 : Shape := ⟨3, ![1, 16384, 2048]⟩
abbrev S1x16384 : Shape := ⟨2, ![1, 16384]⟩
abbrev S1x16384x4x256 : Shape := ⟨4, ![1, 16384, 4, 256]⟩
abbrev S128 : Shape := ⟨1, ![128]⟩
abbrev S_ : Shape := ⟨0, ![]⟩
abbrev S1x16384x1x1 : Shape := ⟨4, ![1, 16384, 1, 1]⟩
abbrev S1x1x1x128 : Shape := ⟨4, ![1, 1, 1, 128]⟩
abbrev S1x16384x1x128 : Shape := ⟨4, ![1, 16384, 1, 128]⟩
abbrev S1x16384x4x128 : Shape := ⟨4, ![1, 16384, 4, 128]⟩
abbrev S1x16384x4x512 : Shape := ⟨4, ![1, 16384, 4, 512]⟩
abbrev S1x256x64x4x256 : Shape := ⟨5, ![1, 256, 64, 4, 256]⟩
abbrev S1x256x64x4x512 : Shape := ⟨5, ![1, 256, 64, 4, 512]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x256x4x64x64 : Shape := ⟨5, ![1, 256, 4, 64, 64]⟩
abbrev S1x1x4x64x64 : Shape := ⟨5, ![1, 1, 4, 64, 64]⟩
abbrev S1x256x4x512x64 : Shape := ⟨5, ![1, 256, 4, 512, 64]⟩
abbrev S1x4 : Shape := ⟨2, ![1, 4]⟩
abbrev S64x4 : Shape := ⟨2, ![64, 4]⟩
abbrev S1x4x256x512 : Shape := ⟨4, ![1, 4, 256, 512]⟩
abbrev S256x1x64x4x256 : Shape := ⟨5, ![256, 1, 64, 4, 256]⟩
abbrev S256x1x64x4x512 : Shape := ⟨5, ![256, 1, 64, 4, 512]⟩
abbrev S1x64x4x1 : Shape := ⟨4, ![1, 64, 4, 1]⟩
abbrev S1x4x1x1 : Shape := ⟨4, ![1, 4, 1, 1]⟩
abbrev S256x1x4x256x512 : Shape := ⟨5, ![256, 1, 4, 256, 512]⟩
abbrev S1x1x64x4x256 : Shape := ⟨5, ![1, 1, 64, 4, 256]⟩
abbrev S1x64x4x256 : Shape := ⟨4, ![1, 64, 4, 256]⟩
abbrev S1x1x64x4x512 : Shape := ⟨5, ![1, 1, 64, 4, 512]⟩
abbrev S1x64x4x512 : Shape := ⟨4, ![1, 64, 4, 512]⟩
abbrev S1x4x512x64 : Shape := ⟨4, ![1, 4, 512, 64]⟩
abbrev S1x1x4x256x512 : Shape := ⟨5, ![1, 1, 4, 256, 512]⟩
abbrev S1x16384x4 : Shape := ⟨3, ![1, 16384, 4]⟩
abbrev S1x16384x4x1 : Shape := ⟨4, ![1, 16384, 4, 1]⟩
abbrev S1x1x2048 : Shape := ⟨3, ![1, 1, 2048]⟩
abbrev S1x4x256x64 : Shape := ⟨4, ![1, 4, 256, 64]⟩
abbrev S1x4x64x256 : Shape := ⟨4, ![1, 4, 64, 256]⟩
abbrev S1x4x512x256 : Shape := ⟨4, ![1, 4, 512, 256]⟩
abbrev S1x256x4x64x256 : Shape := ⟨5, ![1, 256, 4, 64, 256]⟩

abbrev nBuf : Space → Nat
  | .hbm => 430
  | .vmem => 0
  | .smem => 0
  | _ => 0

abbrev hbmTy0_0 (i : Nat) : BufTy := match i % 128 with
  | 0 => ⟨S16384x6144, .f32⟩
  | 1 => ⟨S2048, .f32⟩
  | 2 => ⟨S16384, .i32⟩
  | 3 => ⟨S16384x2048, .bf16⟩
  | 4 => ⟨S16384x1024, .f32⟩
  | 5 => ⟨S1x16384x1024, .f32⟩
  | 6 => ⟨S16384x1024, .f32⟩
  | 7 => ⟨S1x16384x1024, .f32⟩
  | 8 => ⟨S16384x2048, .f32⟩
  | 9 => ⟨S1x16384x2048, .f32⟩
  | 10 => ⟨S1x16384, .i32⟩
  | 11 => ⟨S1x16384x4x256, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S1x16384, .f32⟩
  | 27 => ⟨S1x16384x1x1, .f32⟩
  | 28 => ⟨S1x1x1x128, .f32⟩
  | 29 => ⟨S1x16384x1x128, .f32⟩
  | 30 => ⟨S1x16384x1x128, .f32⟩
  | 31 => ⟨S1x16384x1x128, .f32⟩
  | 32 => ⟨S1x16384x1x128, .f32⟩
  | 33 => ⟨S1x16384x1x128, .f32⟩
  | 34 => ⟨S1x16384x4x128, .f32⟩
  | 35 => ⟨S1x16384x4x128, .f32⟩
  | 36 => ⟨S1x16384x4x128, .f32⟩
  | 37 => ⟨S1x16384x4x128, .f32⟩
  | 38 => ⟨S1x16384x4x128, .f32⟩
  | 39 => ⟨S1x16384x4x128, .f32⟩
  | 40 => ⟨S1x16384x4x128, .f32⟩
  | 41 => ⟨S1x16384x4x128, .f32⟩
  | 42 => ⟨S1x16384x4x128, .f32⟩
  | 43 => ⟨S1x16384x4x128, .f32⟩
  | 44 => ⟨S1x16384x4x128, .f32⟩
  | 45 => ⟨S1x16384x4x128, .f32⟩
  | 46 => ⟨S1x16384x4x256, .f32⟩
  | 47 => ⟨S1x16384x4x256, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S128, .f32⟩
  | 55 => ⟨S128, .f32⟩
  | 56 => ⟨S_, .f32⟩
  | 57 => ⟨S128, .f32⟩
  | 58 => ⟨S128, .f32⟩
  | 59 => ⟨S_, .f32⟩
  | 60 => ⟨S128, .f32⟩
  | 61 => ⟨S128, .f32⟩
  | 62 => ⟨S1x16384, .f32⟩
  | 63 => ⟨S1x16384x1x1, .f32⟩
  | 64 => ⟨S1x1x1x128, .f32⟩
  | 65 => ⟨S1x16384x1x128, .f32⟩
  | 66 => ⟨S1x16384x1x128, .f32⟩
  | 67 => ⟨S1x16384x1x128, .f32⟩
  | 68 => ⟨S1x16384x1x128, .f32⟩
  | 69 => ⟨S1x16384x1x128, .f32⟩
  | 70 => ⟨S1x16384x4x128, .f32⟩
  | 71 => ⟨S1x16384x4x128, .f32⟩
  | 72 => ⟨S1x16384x4x128, .f32⟩
  | 73 => ⟨S1x16384x4x128, .f32⟩
  | 74 => ⟨S1x16384x4x128, .f32⟩
  | 75 => ⟨S1x16384x4x128, .f32⟩
  | 76 => ⟨S1x16384x4x128, .f32⟩
  | 77 => ⟨S1x16384x4x128, .f32⟩
  | 78 => ⟨S1x16384x4x128, .f32⟩
  | 79 => ⟨S1x16384x4x128, .f32⟩
  | 80 => ⟨S1x16384x4x128, .f32⟩
  | 81 => ⟨S1x16384x4x128, .f32⟩
  | 82 => ⟨S1x16384x4x256, .f32⟩
  | 83 => ⟨S_, .f32⟩
  | 84 => ⟨S1x16384x4x256, .f32⟩
  | 85 => ⟨S1x16384x4x256, .f32⟩
  | 86 => ⟨S1x16384x4x512, .f32⟩
  | 87 => ⟨S1x256x64x4x256, .f32⟩
  | 88 => ⟨S1x256x64x4x256, .f32⟩
  | 89 => ⟨S1x256x64x4x512, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S4, .f32⟩
  | 99 => ⟨S4, .f32⟩
  | 100 => ⟨S64, .f32⟩
  | 101 => ⟨S64x1, .f32⟩
  | 102 => ⟨S1x64, .f32⟩
  | 103 => ⟨S64x64, .f32⟩
  | 104 => ⟨S64x64, .f32⟩
  | 105 => ⟨S64x64, .f32⟩
  | 106 => ⟨S64x64, .f32⟩
  | 107 => ⟨S4x1x1, .f32⟩
  | 108 => ⟨S1x64x64, .f32⟩
  | 109 => ⟨S4x64x64, .f32⟩
  | 110 => ⟨S4x64x64, .f32⟩
  | 111 => ⟨S4x64x64, .f32⟩
  | 112 => ⟨S4x64x64, .f32⟩
  | 113 => ⟨S1x256x4x64x64, .f32⟩
  | 114 => ⟨S1x1x4x64x64, .f32⟩
  | 115 => ⟨S1x256x4x64x64, .f32⟩
  | 116 => ⟨S1x256x4x64x64, .f32⟩
  | 117 => ⟨S1x256x4x512x64, .f32⟩
  | 118 => ⟨S1x256x64x4x512, .f32⟩
  | 119 => ⟨S1x4, .f32⟩
  | 120 => ⟨S_, .f32⟩
  | 121 => ⟨S64, .f32⟩
  | 122 => ⟨S64, .f32⟩
  | 123 => ⟨S64x1, .f32⟩
  | 124 => ⟨S64x4, .f32⟩
  | 125 => ⟨S64x4, .f32⟩
  | 126 => ⟨S64x4, .f32⟩
  | 127 => ⟨S64x4, .f32⟩
  | _ => ⟨S16384x6144, .f32⟩

abbrev hbmTy0_1 (i : Nat) : BufTy := match i % 128 with
  | 0 => ⟨S1x4, .f32⟩
  | 1 => ⟨S_, .f32⟩
  | 2 => ⟨S64, .f32⟩
  | 3 => ⟨S64, .f32⟩
  | 4 => ⟨S64x1, .f32⟩
  | 5 => ⟨S64x4, .f32⟩
  | 6 => ⟨S64x4, .f32⟩
  | 7 => ⟨S64x4, .f32⟩
  | 8 => ⟨S64x4, .f32⟩
  | 9 => ⟨S_, .f32⟩
  | 10 => ⟨S4, .f32⟩
  | 11 => ⟨S4, .f32⟩
  | 12 => ⟨S4, .f32⟩
  | 13 => ⟨S_, .f32⟩
  | 14 => ⟨S1x4x256x512, .f32⟩
  | 15 => ⟨S256x1x64x4x256, .f32⟩
  | 16 => ⟨S256x1x64x4x256, .f32⟩
  | 17 => ⟨S256x1x64x4x512, .f32⟩
  | 18 => ⟨S1x64x4x1, .f32⟩
  | 19 => ⟨S1x4x1x1, .f32⟩
  | 20 => ⟨S1x64x4x1, .f32⟩
  | 21 => ⟨S_, .f32⟩
  | 22 => ⟨S256x1x64x4x512, .f32⟩
  | 23 => ⟨S_, .f32⟩
  | 24 => ⟨S256x1x4x256x512, .f32⟩
  | 25 => ⟨S_, .f32⟩
  | 26 => ⟨S256x1x64x4x256, .f32⟩
  | 27 => ⟨S_, .i32⟩
  | 28 => ⟨S256x1x64x4x256, .f32⟩
  | 29 => ⟨S256x1x64x4x256, .f32⟩
  | 30 => ⟨S256x1x64x4x512, .f32⟩
  | 31 => ⟨S1x4x1x1, .f32⟩
  | 32 => ⟨S1x64x4x1, .f32⟩
  | 33 => ⟨S1x64x4x1, .f32⟩
  | 34 => ⟨S_, .i32⟩
  | 35 => ⟨S1x4x256x512, .f32⟩
  | 36 => ⟨S256x1x64x4x512, .f32⟩
  | 37 => ⟨S256x1x4x256x512, .f32⟩
  | 38 => ⟨S256x1x64x4x256, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x1x64x4x256, .f32⟩
  | 46 => ⟨S1x64x4x256, .f32⟩
  | 47 => ⟨S_, .i32⟩
  | 48 => ⟨S_, .i32⟩
  | 49 => ⟨S_, .i32⟩
  | 50 => ⟨S_, .i32⟩
  | 51 => ⟨S1x1x64x4x256, .f32⟩
  | 52 => ⟨S1x64x4x256, .f32⟩
  | 53 => ⟨S_, .i32⟩
  | 54 => ⟨S_, .i32⟩
  | 55 => ⟨S_, .i32⟩
  | 56 => ⟨S_, .i32⟩
  | 57 => ⟨S1x1x64x4x512, .f32⟩
  | 58 => ⟨S1x64x4x512, .f32⟩
  | 59 => ⟨S1x4x512x64, .f32⟩
  | 60 => ⟨S1x64x4x512, .f32⟩
  | 61 => ⟨S1x64x4x512, .f32⟩
  | 62 => ⟨S1x64x4x512, .f32⟩
  | 63 => ⟨S1x4x256x512, .f32⟩
  | 64 => ⟨S1x4x256x512, .f32⟩
  | 65 => ⟨S1x64x4x256, .f32⟩
  | 66 => ⟨S1x64x4x256, .f32⟩
  | 67 => ⟨S1x4x256x512, .f32⟩
  | 68 => ⟨S1x4x256x512, .f32⟩
  | 69 => ⟨S1x1x64x4x512, .f32⟩
  | 70 => ⟨S_, .i32⟩
  | 71 => ⟨S_, .i32⟩
  | 72 => ⟨S_, .i32⟩
  | 73 => ⟨S_, .i32⟩
  | 74 => ⟨S256x1x64x4x512, .f32⟩
  | 75 => ⟨S1x1x4x256x512, .f32⟩
  | 76 => ⟨S_, .i32⟩
  | 77 => ⟨S_, .i32⟩
  | 78 => ⟨S_, .i32⟩
  | 79 => ⟨S_, .i32⟩
  | 80 => ⟨S256x1x4x256x512, .f32⟩
  | 81 => ⟨S1x1x64x4x256, .f32⟩
  | 82 => ⟨S_, .i32⟩
  | 83 => ⟨S_, .i32⟩
  | 84 => ⟨S_, .i32⟩
  | 85 => ⟨S_, .i32⟩
  | 86 => ⟨S256x1x64x4x256, .f32⟩
  | 87 => ⟨S_, .i32⟩
  | 88 => ⟨S_, .i32⟩
  | 89 => ⟨S1x256x64x4x512, .f32⟩
  | 90 => ⟨S1x256x64x4x512, .f32⟩
  | 91 => ⟨S1x16384x2048, .f32⟩
  | 92 => ⟨S16384x2048, .f32⟩
  | 93 => ⟨S1x16384x2048, .f32⟩
  | 94 => ⟨S1x16384x4x512, .f32⟩
  | 95 => ⟨S_, .f32⟩
  | 96 => ⟨S1x16384x4, .f32⟩
  | 97 => ⟨S1x16384x4x1, .f32⟩
  | 98 => ⟨S_, .f32⟩
  | 99 => ⟨S1x16384x4x1, .f32⟩
  | 100 => ⟨S1x16384x4x1, .f32⟩
  | 101 => ⟨S1x16384x4x512, .f32⟩
  | 102 => ⟨S1x16384x4x512, .f32⟩
  | 103 => ⟨S1x16384x4x512, .f32⟩
  | 104 => ⟨S_, .f32⟩
  | 105 => ⟨S1x16384x4, .f32⟩
  | 106 => ⟨S1x16384x4x1, .f32⟩
  | 107 => ⟨S_, .f32⟩
  | 108 => ⟨S1x16384x4x1, .f32⟩
  | 109 => ⟨S1x16384x4x1, .f32⟩
  | 110 => ⟨S1x16384x4x512, .f32⟩
  | 111 => ⟨S1x16384x4x512, .f32⟩
  | 112 => ⟨S_, .f32⟩
  | 113 => ⟨S1x16384x4x1, .f32⟩
  | 114 => ⟨S1x16384x4x1, .f32⟩
  | 115 => ⟨S1x16384x4x1, .f32⟩
  | 116 => ⟨S1x16384x4x512, .f32⟩
  | 117 => ⟨S1x16384x4x512, .f32⟩
  | 118 => ⟨S1x16384x2048, .f32⟩
  | 119 => ⟨S1x1x2048, .f32⟩
  | 120 => ⟨S1x16384x2048, .f32⟩
  | 121 => ⟨S1x16384x2048, .f32⟩
  | 122 => ⟨S1x16384x2048, .f32⟩
  | 123 => ⟨S1x16384x2048, .f32⟩
  | 124 => ⟨S_, .f32⟩
  | 125 => ⟨S1x16384x2048, .f32⟩
  | 126 => ⟨S1x16384x2048, .f32⟩
  | 127 => ⟨S_, .f32⟩
  | _ => ⟨S16384x6144, .f32⟩

abbrev hbmTy0_2 (i : Nat) : BufTy := match i % 128 with
  | 0 => ⟨S1x16384x2048, .f32⟩
  | 1 => ⟨S1x16384x2048, .f32⟩
  | 2 => ⟨S1x16384x2048, .f32⟩
  | 3 => ⟨S1x16384x2048, .f32⟩
  | 4 => ⟨S1x16384x2048, .bf16⟩
  | 5 => ⟨S16384x2048, .f32⟩
  | 6 => ⟨S1x16384x2048, .f32⟩
  | 7 => ⟨S_, .f32⟩
  | 8 => ⟨S1x4x256x512, .f32⟩
  | 9 => ⟨S1x256x64x4x512, .f32⟩
  | 10 => ⟨S256x1x64x4x512, .f32⟩
  | 11 => ⟨S_, .f32⟩
  | 12 => ⟨S1x4x256x512, .f32⟩
  | 13 => ⟨S_, .f32⟩
  | 14 => ⟨S256x1x64x4x256, .f32⟩
  | 15 => ⟨S_, .f32⟩
  | 16 => ⟨S256x1x64x4x256, .f32⟩
  | 17 => ⟨S_, .f32⟩
  | 18 => ⟨S256x1x64x4x512, .f32⟩
  | 19 => ⟨S_, .i32⟩
  | 20 => ⟨S256x1x64x4x512, .f32⟩
  | 21 => ⟨S256x1x64x4x256, .f32⟩
  | 22 => ⟨S256x1x4x256x512, .f32⟩
  | 23 => ⟨S256x1x64x4x512, .f32⟩
  | 24 => ⟨S256x1x64x4x256, .f32⟩
  | 25 => ⟨S1x64x4x1, .f32⟩
  | 26 => ⟨S1x4x1x1, .f32⟩
  | 27 => ⟨S1x64x4x1, .f32⟩
  | 28 => ⟨S_, .i32⟩
  | 29 => ⟨S1x4x256x512, .f32⟩
  | 30 => ⟨S256x1x64x4x256, .f32⟩
  | 31 => ⟨S256x1x64x4x256, .f32⟩
  | 32 => ⟨S256x1x64x4x512, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S1x1x64x4x512, .f32⟩
  | 44 => ⟨S1x64x4x512, .f32⟩
  | 45 => ⟨S_, .i32⟩
  | 46 => ⟨S_, .i32⟩
  | 47 => ⟨S_, .i32⟩
  | 48 => ⟨S_, .i32⟩
  | 49 => ⟨S1x1x64x4x256, .f32⟩
  | 50 => ⟨S1x64x4x256, .f32⟩
  | 51 => ⟨S_, .i32⟩
  | 52 => ⟨S_, .i32⟩
  | 53 => ⟨S_, .i32⟩
  | 54 => ⟨S_, .i32⟩
  | 55 => ⟨S1x1x4x256x512, .f32⟩
  | 56 => ⟨S1x4x256x512, .f32⟩
  | 57 => ⟨S_, .i32⟩
  | 58 => ⟨S_, .i32⟩
  | 59 => ⟨S_, .i32⟩
  | 60 => ⟨S_, .i32⟩
  | 61 => ⟨S1x1x64x4x512, .f32⟩
  | 62 => ⟨S1x64x4x512, .f32⟩
  | 63 => ⟨S_, .i32⟩
  | 64 => ⟨S_, .i32⟩
  | 65 => ⟨S_, .i32⟩
  | 66 => ⟨S_, .i32⟩
  | 67 => ⟨S1x1x64x4x256, .f32⟩
  | 68 => ⟨S1x64x4x256, .f32⟩
  | 69 => ⟨S1x4x512x64, .f32⟩
  | 70 => ⟨S1x64x4x512, .f32⟩
  | 71 => ⟨S1x4x256x64, .f32⟩
  | 72 => ⟨S1x64x4x256, .f32⟩
  | 73 => ⟨S1x64x4x256, .f32⟩
  | 74 => ⟨S1x64x4x256, .f32⟩
  | 75 => ⟨S1x4x256x512, .f32⟩
  | 76 => ⟨S1x4x256x512, .f32⟩
  | 77 => ⟨S1x64x4x512, .f32⟩
  | 78 => ⟨S1x64x4x512, .f32⟩
  | 79 => ⟨S1x4x512x64, .f32⟩
  | 80 => ⟨S1x4x64x256, .f32⟩
  | 81 => ⟨S1x64x4x256, .f32⟩
  | 82 => ⟨S1x4x512x256, .f32⟩
  | 83 => ⟨S1x4x256x512, .f32⟩
  | 84 => ⟨S1x4x256x512, .f32⟩
  | 85 => ⟨S1x1x64x4x256, .f32⟩
  | 86 => ⟨S_, .i32⟩
  | 87 => ⟨S_, .i32⟩
  | 88 => ⟨S_, .i32⟩
  | 89 => ⟨S_, .i32⟩
  | 90 => ⟨S256x1x64x4x256, .f32⟩
  | 91 => ⟨S1x1x64x4x256, .f32⟩
  | 92 => ⟨S_, .i32⟩
  | 93 => ⟨S_, .i32⟩
  | 94 => ⟨S_, .i32⟩
  | 95 => ⟨S_, .i32⟩
  | 96 => ⟨S256x1x64x4x256, .f32⟩
  | 97 => ⟨S1x1x64x4x512, .f32⟩
  | 98 => ⟨S_, .i32⟩
  | 99 => ⟨S_, .i32⟩
  | 100 => ⟨S_, .i32⟩
  | 101 => ⟨S_, .i32⟩
  | 102 => ⟨S256x1x64x4x512, .f32⟩
  | 103 => ⟨S_, .i32⟩
  | 104 => ⟨S_, .i32⟩
  | 105 => ⟨S1x256x64x4x512, .f32⟩
  | 106 => ⟨S1x256x64x4x256, .f32⟩
  | 107 => ⟨S1x256x64x4x256, .f32⟩
  | 108 => ⟨S1x256x4x512x64, .f32⟩
  | 109 => ⟨S1x256x4x64x64, .f32⟩
  | 110 => ⟨S1x256x4x512x64, .f32⟩
  | 111 => ⟨S1x256x64x4x512, .f32⟩
  | 112 => ⟨S1x256x64x4x512, .f32⟩
  | 113 => ⟨S1x256x4x64x64, .f32⟩
  | 114 => ⟨S1x256x4x64x64, .f32⟩
  | 115 => ⟨S1x256x4x64x256, .f32⟩
  | 116 => ⟨S1x256x64x4x256, .f32⟩
  | 117 => ⟨S1x256x64x4x256, .f32⟩
  | 118 => ⟨S1x256x4x64x256, .f32⟩
  | 119 => ⟨S1x256x64x4x256, .f32⟩
  | 120 => ⟨S1x256x64x4x256, .f32⟩
  | 121 => ⟨S1x16384x4x512, .f32⟩
  | 122 => ⟨S1x16384x4x256, .f32⟩
  | 123 => ⟨S1x16384x4x256, .f32⟩
  | 124 => ⟨S1x16384x2048, .f32⟩
  | 125 => ⟨S_, .f32⟩
  | 126 => ⟨S1x16384x4x256, .f32⟩
  | 127 => ⟨S1x16384x4x256, .f32⟩
  | _ => ⟨S16384x6144, .f32⟩

abbrev hbmTy0_3 (i : Nat) : BufTy := match i % 128 with
  | 0 => ⟨S1x16384x4x128, .f32⟩
  | 1 => ⟨S1x16384x4x128, .f32⟩
  | 2 => ⟨S1x16384x4x128, .f32⟩
  | 3 => ⟨S1x16384x4x128, .f32⟩
  | 4 => ⟨S1x16384x4x128, .f32⟩
  | 5 => ⟨S1x16384x4x128, .f32⟩
  | 6 => ⟨S1x16384x4x128, .f32⟩
  | 7 => ⟨S1x16384x4x128, .f32⟩
  | 8 => ⟨S1x16384x4x128, .f32⟩
  | 9 => ⟨S1x16384x4x128, .f32⟩
  | 10 => ⟨S1x16384x4x128, .f32⟩
  | 11 => ⟨S1x16384x4x128, .f32⟩
  | 12 => ⟨S1x16384x4x128, .f32⟩
  | 13 => ⟨S_, .f32⟩
  | 14 => ⟨S1x16384x4x256, .f32⟩
  | 15 => ⟨S_, .f32⟩
  | 16 => ⟨S1x16384x4x256, .f32⟩
  | 17 => ⟨S1x16384x4x256, .f32⟩
  | 18 => ⟨S1x16384x1024, .f32⟩
  | 19 => ⟨S1x16384x4x128, .f32⟩
  | 20 => ⟨S1x16384x4x128, .f32⟩
  | 21 => ⟨S1x16384x4x128, .f32⟩
  | 22 => ⟨S1x16384x4x128, .f32⟩
  | 23 => ⟨S1x16384x4x128, .f32⟩
  | 24 => ⟨S1x16384x4x128, .f32⟩
  | 25 => ⟨S1x16384x4x128, .f32⟩
  | 26 => ⟨S1x16384x4x128, .f32⟩
  | 27 => ⟨S1x16384x4x128, .f32⟩
  | 28 => ⟨S1x16384x4x128, .f32⟩
  | 29 => ⟨S1x16384x4x128, .f32⟩
  | 30 => ⟨S1x16384x4x128, .f32⟩
  | 31 => ⟨S1x16384x4x128, .f32⟩
  | 32 => ⟨S_, .f32⟩
  | 33 => ⟨S1x16384x4x256, .f32⟩
  | 34 => ⟨S_, .f32⟩
  | 35 => ⟨S1x16384x4x256, .f32⟩
  | 36 => ⟨S1x16384x4x256, .f32⟩
  | 37 => ⟨S1x16384x1024, .f32⟩
  | 38 => ⟨S16384x2048, .bf16⟩
  | 39 => ⟨S16384x2048, .f32⟩
  | 40 => ⟨S16384x1024, .f32⟩
  | 41 => ⟨S16384x1024, .bf16⟩
  | 42 => ⟨S16384x1024, .f32⟩
  | 43 => ⟨S16384x1024, .bf16⟩
  | 44 => ⟨S16384x2048, .f32⟩
  | 45 => ⟨S16384x2048, .bf16⟩
  | _ => ⟨S16384x6144, .f32⟩

abbrev hbmTy (i : Nat) : BufTy := match i / 128 with
  | 0 => hbmTy0_0 i
  | 1 => hbmTy0_1 i
  | 2 => hbmTy0_2 i
  | 3 => hbmTy0_3 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_8 : Ref sig .tc := ⟨.hbm, 91, rfl⟩
abbrev main_v78 : Ref sig .tc := ⟨.hbm, 92, rfl⟩
abbrev main_v79 : Ref sig .tc := ⟨.hbm, 93, rfl⟩
abbrev main_cst_9 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_10 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_11 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_cst_12 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_cst_13 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_cst_14 : Ref sig .tc := ⟨.hbm, 149, rfl⟩
abbrev main_v130 : Ref sig .tc := ⟨.hbm, 150, rfl⟩
abbrev main_cst_15 : Ref sig .tc := ⟨.hbm, 151, rfl⟩
abbrev main_v131 : Ref sig .tc := ⟨.hbm, 152, rfl⟩
abbrev main_cst_16 : Ref sig .tc := ⟨.hbm, 153, rfl⟩
abbrev main_v132 : Ref sig .tc := ⟨.hbm, 154, rfl⟩
abbrev main_c : Ref sig .tc := ⟨.hbm, 155, rfl⟩
abbrev main_v133_0 : Ref sig .tc := ⟨.hbm, 156, rfl⟩
abbrev main_v133_1 : Ref sig .tc := ⟨.hbm, 157, rfl⟩
abbrev main_v133_2 : Ref sig .tc := ⟨.hbm, 158, rfl⟩
abbrev main_v133_3 : Ref sig .tc := ⟨.hbm, 159, rfl⟩
abbrev main_v133_4 : Ref sig .tc := ⟨.hbm, 160, rfl⟩
abbrev main_v133_5 : Ref sig .tc := ⟨.hbm, 161, rfl⟩
abbrev main_v133_6 : Ref sig .tc := ⟨.hbm, 162, rfl⟩
abbrev main_v133_7 : Ref sig .tc := ⟨.hbm, 163, rfl⟩
abbrev main_v133_8 : Ref sig .tc := ⟨.hbm, 164, rfl⟩
abbrev main_v133_9 : Ref sig .tc := ⟨.hbm, 165, rfl⟩
abbrev main_v133_10 : Ref sig .tc := ⟨.hbm, 166, rfl⟩
abbrev main_while0c_c_43 : Ref sig .tc := ⟨.hbm, 167, rfl⟩
abbrev main_while0c_v239 : Ref sig .tc := ⟨.hbm, 168, rfl⟩
abbrev main_while0b_call0_c : Ref sig .tc := ⟨.hbm, 169, rfl⟩
abbrev main_while0b_call0_c_0 : Ref sig .tc := ⟨.hbm, 170, rfl⟩
abbrev main_while0b_call0_c_1 : Ref sig .tc := ⟨.hbm, 171, rfl⟩
abbrev main_while0b_call0_c_2 : Ref sig .tc := ⟨.hbm, 172, rfl⟩
abbrev main_while0b_call0_v0 : Ref sig .tc := ⟨.hbm, 173, rfl⟩
abbrev main_while0b_v239 : Ref sig .tc := ⟨.hbm, 174, rfl⟩
abbrev main_while0b_call1_c : Ref sig .tc := ⟨.hbm, 175, rfl⟩
abbrev main_while0b_call1_c_0 : Ref sig .tc := ⟨.hbm, 176, rfl⟩
abbrev main_while0b_call1_c_1 : Ref sig .tc := ⟨.hbm, 177, rfl⟩
abbrev main_while0b_call1_c_2 : Ref sig .tc := ⟨.hbm, 178, rfl⟩
abbrev main_while0b_call1_v0 : Ref sig .tc := ⟨.hbm, 179, rfl⟩
abbrev main_while0b_v240 : Ref sig .tc := ⟨.hbm, 180, rfl⟩
abbrev main_while0b_call2_c : Ref sig .tc := ⟨.hbm, 181, rfl⟩
abbrev main_while0b_call2_c_0 : Ref sig .tc := ⟨.hbm, 182, rfl⟩
abbrev main_while0b_call2_c_1 : Ref sig .tc := ⟨.hbm, 183, rfl⟩
abbrev main_while0b_call2_c_2 : Ref sig .tc := ⟨.hbm, 184, rfl⟩
abbrev main_while0b_call2_v0 : Ref sig .tc := ⟨.hbm, 185, rfl⟩
abbrev main_while0b_v241 : Ref sig .tc := ⟨.hbm, 186, rfl⟩
abbrev main_while0b_v242 : Ref sig .tc := ⟨.hbm, 187, rfl⟩
abbrev main_while0b_v243 : Ref sig .tc := ⟨.hbm, 188, rfl⟩
abbrev main_while0b_v244 : Ref sig .tc := ⟨.hbm, 189, rfl⟩
abbrev main_while0b_v245 : Ref sig .tc := ⟨.hbm, 190, rfl⟩
abbrev main_while0b_v246 : Ref sig .tc := ⟨.hbm, 191, rfl⟩
abbrev main_while0b_v247 : Ref sig .tc := ⟨.hbm, 192, rfl⟩
abbrev main_while0b_v248 : Ref sig .tc := ⟨.hbm, 193, rfl⟩
abbrev main_while0b_v249 : Ref sig .tc := ⟨.hbm, 194, rfl⟩
abbrev main_while0b_v250 : Ref sig .tc := ⟨.hbm, 195, rfl⟩
abbrev main_while0b_v251 : Ref sig .tc := ⟨.hbm, 196, rfl⟩
abbrev main_while0b_call3_v0 : Ref sig .tc := ⟨.hbm, 197, rfl⟩
abbrev main_while0b_call3_c : Ref sig .tc := ⟨.hbm, 198, rfl⟩
abbrev main_while0b_call3_c_0 : Ref sig .tc := ⟨.hbm, 199, rfl⟩
abbrev main_while0b_call3_c_1 : Ref sig .tc := ⟨.hbm, 200, rfl⟩
abbrev main_while0b_call3_c_2 : Ref sig .tc := ⟨.hbm, 201, rfl⟩
abbrev main_while0b_v252 : Ref sig .tc := ⟨.hbm, 202, rfl⟩
abbrev main_while0b_call4_v0 : Ref sig .tc := ⟨.hbm, 203, rfl⟩
abbrev main_while0b_call4_c : Ref sig .tc := ⟨.hbm, 204, rfl⟩
abbrev main_while0b_call4_c_0 : Ref sig .tc := ⟨.hbm, 205, rfl⟩
abbrev main_while0b_call4_c_1 : Ref sig .tc := ⟨.hbm, 206, rfl⟩
abbrev main_while0b_call4_c_2 : Ref sig .tc := ⟨.hbm, 207, rfl⟩
abbrev main_while0b_v253 : Ref sig .tc := ⟨.hbm, 208, rfl⟩
abbrev main_while0b_call5_v0 : Ref sig .tc := ⟨.hbm, 209, rfl⟩
abbrev main_while0b_call5_c : Ref sig .tc := ⟨.hbm, 210, rfl⟩
abbrev main_while0b_call5_c_0 : Ref sig .tc := ⟨.hbm, 211, rfl⟩
abbrev main_while0b_call5_c_1 : Ref sig .tc := ⟨.hbm, 212, rfl⟩
abbrev main_while0b_call5_c_2 : Ref sig .tc := ⟨.hbm, 213, rfl⟩
abbrev main_while0b_v254 : Ref sig .tc := ⟨.hbm, 214, rfl⟩
abbrev main_while0b_c_43 : Ref sig .tc := ⟨.hbm, 215, rfl⟩
abbrev main_while0b_v255 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_cst_17 : Ref sig .tc := ⟨.hbm, 223, rfl⟩
abbrev main_v140 : Ref sig .tc := ⟨.hbm, 224, rfl⟩
abbrev main_v141 : Ref sig .tc := ⟨.hbm, 225, rfl⟩
abbrev main_cst_18 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_cst_19 : Ref sig .tc := ⟨.hbm, 232, rfl⟩
abbrev main_v147 : Ref sig .tc := ⟨.hbm, 233, rfl⟩
abbrev main_v148 : Ref sig .tc := ⟨.hbm, 234, rfl⟩
abbrev main_cst_20 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_cst_21 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_call6_v0 : Ref sig .tc := ⟨.hbm, 250, rfl⟩
abbrev main_call6_v1 : Ref sig .tc := ⟨.hbm, 251, rfl⟩
abbrev main_call6_cst : Ref sig .tc := ⟨.hbm, 252, rfl⟩
abbrev main_call6_v2 : Ref sig .tc := ⟨.hbm, 253, rfl⟩
abbrev main_call6_v3 : Ref sig .tc := ⟨.hbm, 254, rfl⟩
abbrev main_call6_cst_0 : Ref sig .tc := ⟨.hbm, 255, rfl⟩
abbrev main_call6_v4 : Ref sig .tc := ⟨.hbm, 256, rfl⟩
abbrev main_call6_v5 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_cst_22 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_cst_23 : Ref sig .tc := ⟨.hbm, 267, rfl⟩
abbrev main_v170 : Ref sig .tc := ⟨.hbm, 268, rfl⟩
abbrev main_cst_24 : Ref sig .tc := ⟨.hbm, 269, rfl⟩
abbrev main_v171 : Ref sig .tc := ⟨.hbm, 270, rfl⟩
abbrev main_cst_25 : Ref sig .tc := ⟨.hbm, 271, rfl⟩
abbrev main_v172 : Ref sig .tc := ⟨.hbm, 272, rfl⟩
abbrev main_cst_26 : Ref sig .tc := ⟨.hbm, 273, rfl⟩
abbrev main_v173 : Ref sig .tc := ⟨.hbm, 274, rfl⟩
abbrev main_c_27 : Ref sig .tc := ⟨.hbm, 275, rfl⟩
abbrev main_v174_0 : Ref sig .tc := ⟨.hbm, 276, rfl⟩
abbrev main_v174_1 : Ref sig .tc := ⟨.hbm, 277, rfl⟩
abbrev main_v174_2 : Ref sig .tc := ⟨.hbm, 278, rfl⟩
abbrev main_v174_3 : Ref sig .tc := ⟨.hbm, 279, rfl⟩
abbrev main_v174_4 : Ref sig .tc := ⟨.hbm, 280, rfl⟩
abbrev main_v174_5 : Ref sig .tc := ⟨.hbm, 281, rfl⟩
abbrev main_v174_6 : Ref sig .tc := ⟨.hbm, 282, rfl⟩
abbrev main_v174_7 : Ref sig .tc := ⟨.hbm, 283, rfl⟩
abbrev main_v174_8 : Ref sig .tc := ⟨.hbm, 284, rfl⟩
abbrev main_v174_9 : Ref sig .tc := ⟨.hbm, 285, rfl⟩
abbrev main_v174_10 : Ref sig .tc := ⟨.hbm, 286, rfl⟩
abbrev main_v174_11 : Ref sig .tc := ⟨.hbm, 287, rfl⟩
abbrev main_v174_12 : Ref sig .tc := ⟨.hbm, 288, rfl⟩
abbrev main_while1c_c_45 : Ref sig .tc := ⟨.hbm, 289, rfl⟩
abbrev main_while1c_v239 : Ref sig .tc := ⟨.hbm, 290, rfl⟩
abbrev main_while1b_c_45 : Ref sig .tc := ⟨.hbm, 291, rfl⟩
abbrev main_while1b_v239 : Ref sig .tc := ⟨.hbm, 292, rfl⟩
abbrev main_while1b_c_46 : Ref sig .tc := ⟨.hbm, 293, rfl⟩
abbrev main_while1b_v240 : Ref sig .tc := ⟨.hbm, 294, rfl⟩
abbrev main_while1b_call7_c : Ref sig .tc := ⟨.hbm, 295, rfl⟩
abbrev main_while1b_call7_c_0 : Ref sig .tc := ⟨.hbm, 296, rfl⟩
abbrev main_while1b_call7_c_1 : Ref sig .tc := ⟨.hbm, 297, rfl⟩
abbrev main_while1b_call7_c_2 : Ref sig .tc := ⟨.hbm, 298, rfl⟩
abbrev main_while1b_call7_v0 : Ref sig .tc := ⟨.hbm, 299, rfl⟩
abbrev main_while1b_v241 : Ref sig .tc := ⟨.hbm, 300, rfl⟩
abbrev main_while1b_call8_c : Ref sig .tc := ⟨.hbm, 301, rfl⟩
abbrev main_while1b_call8_c_0 : Ref sig .tc := ⟨.hbm, 302, rfl⟩
abbrev main_while1b_call8_c_1 : Ref sig .tc := ⟨.hbm, 303, rfl⟩
abbrev main_while1b_call8_c_2 : Ref sig .tc := ⟨.hbm, 304, rfl⟩
abbrev main_while1b_call8_v0 : Ref sig .tc := ⟨.hbm, 305, rfl⟩
abbrev main_while1b_v242 : Ref sig .tc := ⟨.hbm, 306, rfl⟩
abbrev main_while1b_call9_c : Ref sig .tc := ⟨.hbm, 307, rfl⟩
abbrev main_while1b_call9_c_0 : Ref sig .tc := ⟨.hbm, 308, rfl⟩
abbrev main_while1b_call9_c_1 : Ref sig .tc := ⟨.hbm, 309, rfl⟩
abbrev main_while1b_call9_c_2 : Ref sig .tc := ⟨.hbm, 310, rfl⟩
abbrev main_while1b_call9_v0 : Ref sig .tc := ⟨.hbm, 311, rfl⟩
abbrev main_while1b_v243 : Ref sig .tc := ⟨.hbm, 312, rfl⟩
abbrev main_while1b_call10_c : Ref sig .tc := ⟨.hbm, 313, rfl⟩
abbrev main_while1b_call10_c_0 : Ref sig .tc := ⟨.hbm, 314, rfl⟩
abbrev main_while1b_call10_c_1 : Ref sig .tc := ⟨.hbm, 315, rfl⟩
abbrev main_while1b_call10_c_2 : Ref sig .tc := ⟨.hbm, 316, rfl⟩
abbrev main_while1b_call10_v0 : Ref sig .tc := ⟨.hbm, 317, rfl⟩
abbrev main_while1b_v244 : Ref sig .tc := ⟨.hbm, 318, rfl⟩
abbrev main_while1b_call11_c : Ref sig .tc := ⟨.hbm, 319, rfl⟩
abbrev main_while1b_call11_c_0 : Ref sig .tc := ⟨.hbm, 320, rfl⟩
abbrev main_while1b_call11_c_1 : Ref sig .tc := ⟨.hbm, 321, rfl⟩
abbrev main_while1b_call11_c_2 : Ref sig .tc := ⟨.hbm, 322, rfl⟩
abbrev main_while1b_call11_v0 : Ref sig .tc := ⟨.hbm, 323, rfl⟩
abbrev main_while1b_v245 : Ref sig .tc := ⟨.hbm, 324, rfl⟩
abbrev main_while1b_v246 : Ref sig .tc := ⟨.hbm, 325, rfl⟩
abbrev main_while1b_v247 : Ref sig .tc := ⟨.hbm, 326, rfl⟩
abbrev main_while1b_v248 : Ref sig .tc := ⟨.hbm, 327, rfl⟩
abbrev main_while1b_v249 : Ref sig .tc := ⟨.hbm, 328, rfl⟩
abbrev main_while1b_v250 : Ref sig .tc := ⟨.hbm, 329, rfl⟩
abbrev main_while1b_v251 : Ref sig .tc := ⟨.hbm, 330, rfl⟩
abbrev main_while1b_v252 : Ref sig .tc := ⟨.hbm, 331, rfl⟩
abbrev main_while1b_v253 : Ref sig .tc := ⟨.hbm, 332, rfl⟩
abbrev main_while1b_v254 : Ref sig .tc := ⟨.hbm, 333, rfl⟩
abbrev main_while1b_v255 : Ref sig .tc := ⟨.hbm, 334, rfl⟩
abbrev main_while1b_v256 : Ref sig .tc := ⟨.hbm, 335, rfl⟩
abbrev main_while1b_v257 : Ref sig .tc := ⟨.hbm, 336, rfl⟩
abbrev main_while1b_v258 : Ref sig .tc := ⟨.hbm, 337, rfl⟩
abbrev main_while1b_v259 : Ref sig .tc := ⟨.hbm, 338, rfl⟩
abbrev main_while1b_v260 : Ref sig .tc := ⟨.hbm, 339, rfl⟩
abbrev main_while1b_v261 : Ref sig .tc := ⟨.hbm, 340, rfl⟩
abbrev main_while1b_call12_v0 : Ref sig .tc := ⟨.hbm, 341, rfl⟩
abbrev main_while1b_call12_c : Ref sig .tc := ⟨.hbm, 342, rfl⟩
abbrev main_while1b_call12_c_0 : Ref sig .tc := ⟨.hbm, 343, rfl⟩
abbrev main_while1b_call12_c_1 : Ref sig .tc := ⟨.hbm, 344, rfl⟩
abbrev main_while1b_call12_c_2 : Ref sig .tc := ⟨.hbm, 345, rfl⟩
abbrev main_while1b_v262 : Ref sig .tc := ⟨.hbm, 346, rfl⟩
abbrev main_while1b_call13_v0 : Ref sig .tc := ⟨.hbm, 347, rfl⟩
abbrev main_while1b_call13_c : Ref sig .tc := ⟨.hbm, 348, rfl⟩
abbrev main_while1b_call13_c_0 : Ref sig .tc := ⟨.hbm, 349, rfl⟩
abbrev main_while1b_call13_c_1 : Ref sig .tc := ⟨.hbm, 350, rfl⟩
abbrev main_while1b_call13_c_2 : Ref sig .tc := ⟨.hbm, 351, rfl⟩
abbrev main_while1b_v263 : Ref sig .tc := ⟨.hbm, 352, rfl⟩
abbrev main_while1b_call14_v0 : Ref sig .tc := ⟨.hbm, 353, rfl⟩
abbrev main_while1b_call14_c : Ref sig .tc := ⟨.hbm, 354, rfl⟩
abbrev main_while1b_call14_c_0 : Ref sig .tc := ⟨.hbm, 355, rfl⟩
abbrev main_while1b_call14_c_1 : Ref sig .tc := ⟨.hbm, 356, rfl⟩
abbrev main_while1b_call14_c_2 : Ref sig .tc := ⟨.hbm, 357, rfl⟩
abbrev main_while1b_v264 : Ref sig .tc := ⟨.hbm, 358, rfl⟩
abbrev main_while1b_c_47 : Ref sig .tc := ⟨.hbm, 359, rfl⟩
abbrev main_while1b_v265 : Ref sig .tc := ⟨.hbm, 360, rfl⟩
abbrev main_v175 : Ref sig .tc := ⟨.hbm, 361, rfl⟩
abbrev main_v176 : Ref sig .tc := ⟨.hbm, 362, rfl⟩
abbrev main_v177 : Ref sig .tc := ⟨.hbm, 363, rfl⟩
abbrev main_v178 : Ref sig .tc := ⟨.hbm, 364, rfl⟩
abbrev main_v179 : Ref sig .tc := ⟨.hbm, 365, rfl⟩
abbrev main_v180 : Ref sig .tc := ⟨.hbm, 366, rfl⟩
abbrev main_v181 : Ref sig .tc := ⟨.hbm, 367, rfl⟩
abbrev main_v182 : Ref sig .tc := ⟨.hbm, 368, rfl⟩
abbrev main_v183 : Ref sig .tc := ⟨.hbm, 369, rfl⟩
abbrev main_v184 : Ref sig .tc := ⟨.hbm, 370, rfl⟩
abbrev main_v185 : Ref sig .tc := ⟨.hbm, 371, rfl⟩
abbrev main_v186 : Ref sig .tc := ⟨.hbm, 372, rfl⟩
abbrev main_v187 : Ref sig .tc := ⟨.hbm, 373, rfl⟩
abbrev main_v188 : Ref sig .tc := ⟨.hbm, 374, rfl⟩
abbrev main_v189 : Ref sig .tc := ⟨.hbm, 375, rfl⟩
abbrev main_v190 : Ref sig .tc := ⟨.hbm, 376, rfl⟩
abbrev main_v191 : Ref sig .tc := ⟨.hbm, 377, rfl⟩
abbrev main_v192 : Ref sig .tc := ⟨.hbm, 378, rfl⟩
abbrev main_v193 : Ref sig .tc := ⟨.hbm, 379, rfl⟩
abbrev main_v194 : Ref sig .tc := ⟨.hbm, 380, rfl⟩
abbrev main_cst_28 : Ref sig .tc := ⟨.hbm, 381, rfl⟩
abbrev main_v195 : Ref sig .tc := ⟨.hbm, 382, rfl⟩
abbrev main_v196 : Ref sig .tc := ⟨.hbm, 383, rfl⟩
abbrev main_v197 : Ref sig .tc := ⟨.hbm, 384, rfl⟩
abbrev main_v198 : Ref sig .tc := ⟨.hbm, 385, rfl⟩
abbrev main_v199 : Ref sig .tc := ⟨.hbm, 386, rfl⟩
abbrev main_v200 : Ref sig .tc := ⟨.hbm, 387, rfl⟩
abbrev main_v201 : Ref sig .tc := ⟨.hbm, 388, rfl⟩
abbrev main_v202 : Ref sig .tc := ⟨.hbm, 389, rfl⟩
abbrev main_v203 : Ref sig .tc := ⟨.hbm, 390, rfl⟩
abbrev main_v204 : Ref sig .tc := ⟨.hbm, 391, rfl⟩
abbrev main_v205 : Ref sig .tc := ⟨.hbm, 392, rfl⟩
abbrev main_v206 : Ref sig .tc := ⟨.hbm, 393, rfl⟩
abbrev main_v207 : Ref sig .tc := ⟨.hbm, 394, rfl⟩
abbrev main_v208 : Ref sig .tc := ⟨.hbm, 395, rfl⟩
abbrev main_v209 : Ref sig .tc := ⟨.hbm, 396, rfl⟩
abbrev main_cst_29 : Ref sig .tc := ⟨.hbm, 397, rfl⟩
abbrev main_v210 : Ref sig .tc := ⟨.hbm, 398, rfl⟩
abbrev main_cst_30 : Ref sig .tc := ⟨.hbm, 399, rfl⟩
abbrev main_v211 : Ref sig .tc := ⟨.hbm, 400, rfl⟩
abbrev main_v212 : Ref sig .tc := ⟨.hbm, 401, rfl⟩
abbrev main_v213 : Ref sig .tc := ⟨.hbm, 402, rfl⟩
abbrev main_v214 : Ref sig .tc := ⟨.hbm, 403, rfl⟩
abbrev main_v215 : Ref sig .tc := ⟨.hbm, 404, rfl⟩
abbrev main_v216 : Ref sig .tc := ⟨.hbm, 405, rfl⟩
abbrev main_v217 : Ref sig .tc := ⟨.hbm, 406, rfl⟩
abbrev main_v218 : Ref sig .tc := ⟨.hbm, 407, rfl⟩
abbrev main_v219 : Ref sig .tc := ⟨.hbm, 408, rfl⟩
abbrev main_v220 : Ref sig .tc := ⟨.hbm, 409, rfl⟩
abbrev main_v221 : Ref sig .tc := ⟨.hbm, 410, rfl⟩
abbrev main_v222 : Ref sig .tc := ⟨.hbm, 411, rfl⟩
abbrev main_v223 : Ref sig .tc := ⟨.hbm, 412, rfl⟩
abbrev main_v224 : Ref sig .tc := ⟨.hbm, 413, rfl⟩
abbrev main_v225 : Ref sig .tc := ⟨.hbm, 414, rfl⟩
abbrev main_v226 : Ref sig .tc := ⟨.hbm, 415, rfl⟩
abbrev main_cst_31 : Ref sig .tc := ⟨.hbm, 416, rfl⟩
abbrev main_v227 : Ref sig .tc := ⟨.hbm, 417, rfl⟩
abbrev main_cst_32 : Ref sig .tc := ⟨.hbm, 418, rfl⟩
abbrev main_v228 : Ref sig .tc := ⟨.hbm, 419, rfl⟩
abbrev main_v229 : Ref sig .tc := ⟨.hbm, 420, rfl⟩
abbrev main_v230 : Ref sig .tc := ⟨.hbm, 421, rfl⟩
abbrev main_v231 : Ref sig .tc := ⟨.hbm, 422, rfl⟩
abbrev main_v232 : Ref sig .tc := ⟨.hbm, 423, rfl⟩
abbrev main_v233 : Ref sig .tc := ⟨.hbm, 424, rfl⟩
abbrev main_v234 : Ref sig .tc := ⟨.hbm, 425, rfl⟩
abbrev main_v235 : Ref sig .tc := ⟨.hbm, 426, rfl⟩
abbrev main_v236 : Ref sig .tc := ⟨.hbm, 427, rfl⟩
abbrev main_v237 : Ref sig .tc := ⟨.hbm, 428, rfl⟩
abbrev main_v238 : Ref sig .tc := ⟨.hbm, 429, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== KernelUp.lean ====
abbrev S16384x1024 : Shape := ⟨2, ![16384, 1024]⟩
abbrev S1024x5632 : Shape := ⟨2, ![1024, 5632]⟩
abbrev S16384x5632 : Shape := ⟨2, ![16384, 5632]⟩
abbrev S512x1024 : Shape := ⟨2, ![512, 1024]⟩
abbrev S512x5632 : Shape := ⟨2, ![512, 5632]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S512x5632, .bf16⟩
  | .local _ .vmem, ⟨4, _⟩ => ⟨S512x5632, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S1024x5632, .f32⟩
  | .hbm, ⟨3, _⟩ => ⟨S16384x5632, .f32⟩
  | .hbm, ⟨4, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x2816, .f32⟩
  | .hbm, ⟨3, _⟩ => ⟨S2816x1024, .f32⟩
  | .hbm, ⟨4, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDa.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDaIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | .hbm, ⟨7, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDx.lean ====
abbrev S16384x2816 : Shape := ⟨2, ![16384, 2816]⟩
abbrev S1024x5632 : Shape := ⟨2, ![1024, 5632]⟩
abbrev S16384x1024 : Shape := ⟨2, ![16384, 1024]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDxIdeal.lean ====
abbrev S16384x2816 : Shape := ⟨2, ![16384, 2816]⟩
abbrev S1024x5632 : Shape := ⟨2, ![1024, 5632]⟩
abbrev S_ : Shape := ⟨0, ![]⟩
abbrev S16384x1024 : Shape := ⟨2, ![16384, 1024]⟩
abbrev S16384x5632 : Shape := ⟨2, ![16384, 5632]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S_, .f32⟩
  | .hbm, ⟨4, _⟩ => ⟨S16384x1024, .f32⟩
  | .hbm, ⟨5, _⟩ => ⟨S16384x5632, .bf16⟩
  | .hbm, ⟨6, _⟩ => ⟨S16384x5632, .f32⟩
  | .hbm, ⟨7, _⟩ => ⟨S1024x5632, .f32⟩
  | .hbm, ⟨8, _⟩ => ⟨S16384x5632, .f32⟩
  | .hbm, ⟨9, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDwdown.lean ====
abbrev S16384x2816 : Shape := ⟨2, ![16384, 2816]⟩
abbrev S16384x1024 : Shape := ⟨2, ![16384, 1024]⟩
abbrev S4x2816x1024 : Shape := ⟨3, ![4, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S4x2816x1024, .f32⟩
  | .hbm, ⟨3, _⟩ => ⟨S4x2816x1024, .bf16⟩
  | .hbm, ⟨4, _⟩ => ⟨S4x2816x1024, .f32⟩
  | .hbm, ⟨5, _⟩ => ⟨S4x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1x1408x1024, .bf16⟩
  | .local _ .vmem, ⟨7, _⟩ => ⟨S1x1408x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDwdownIdeal.lean ====
abbrev S16384x2816 : Shape := ⟨2, ![16384, 2816]⟩
abbrev S16384x1024 : Shape := ⟨2, ![16384, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S3x2816x1024 : Shape := ⟨3, ![3, 2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S4x2816x1024, .f32⟩
  | .hbm, ⟨3, _⟩ => ⟨S4x2816x1024, .bf16⟩
  | .hbm, ⟨4, _⟩ => ⟨S_, .f32⟩
  | .hbm, ⟨5, _⟩ => ⟨S2816x1024, .f32⟩
  | .hbm, ⟨6, _⟩ => ⟨S16384x2816, .f32⟩
  | .hbm, ⟨7, _⟩ => ⟨S16384x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .f32⟩
  | .hbm, ⟨12, _⟩ => ⟨S3x2816x1024, .f32⟩
  | .hbm, ⟨13, _⟩ => ⟨S4x2816x1024, .f32⟩
  | .hbm, ⟨14, _⟩ => ⟨S1x2816x1024, .bf16⟩
  | .hbm, ⟨15, _⟩ => ⟨S3x2816x1024, .bf16⟩
  | .hbm, ⟨16, _⟩ => ⟨S4x2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelDwgate.lean ====
abbrev S16384x1024 : Shape := ⟨2, ![16384, 1024]⟩
abbrev S16384x2816 : Shape := ⟨2, ![16384, 2816]⟩
abbrev S4x1024x5632 : Shape := ⟨3, ![4, 1024, 5632]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S4x1024x5632, .f32⟩
  | .hbm, ⟨3, _⟩ => ⟨S4x1024x5632, .bf16⟩
  | .hbm, ⟨4, _⟩ => ⟨S4x1024x5632, .f32⟩
  | .hbm, ⟨5, _⟩ => ⟨S4x1024x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDwgateIdeal.lean ====
abbrev S16384x1024 : Shape := ⟨2, ![16384, 1024]⟩
abbrev S16384x2816 : Shape := ⟨2, ![16384, 2816]⟩
abbrev S4x1024x5632 : Shape := ⟨3, ![4, 1024, 5632]⟩
abbrev S_ : Shape := ⟨0, ![]⟩
abbrev S1024x2816 : Shape := ⟨2, ![1024, 2816]⟩
abbrev S2816x1024 : Shape := ⟨2, ![2816, 1024]⟩
abbrev S1x1024x2816 : Shape := ⟨3, ![1, 1024, 2816]⟩
abbrev S1024x5632 : Shape := ⟨2, ![1024, 5632]⟩
abbrev S1x1024x5632 : Shape := ⟨3, ![1, 1024, 5632]⟩
abbrev S3x1024x5632 : Shape := ⟨3, ![3, 1024, 5632]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S4x1024x5632, .f32⟩
  | .hbm, ⟨3, _⟩ => ⟨S4x1024x5632, .bf16⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S16384x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S1x1024x2816, .f32⟩
  | .hbm, ⟨12, _⟩ => ⟨S1024x2816, .f32⟩
  | .hbm, ⟨13, _⟩ => ⟨S1024x5632, .f32⟩
  | .hbm, ⟨14, _⟩ => ⟨S1x1024x5632, .f32⟩
  | .hbm, ⟨15, _⟩ => ⟨S3x1024x5632, .f32⟩
  | .hbm, ⟨16, _⟩ => ⟨S4x1024x5632, .f32⟩
  | .hbm, ⟨17, _⟩ => ⟨S1x1024x2816, .bf16⟩
  | .hbm, ⟨18, _⟩ => ⟨S1024x2816, .bf16⟩
  | .hbm, ⟨19, _⟩ => ⟨S1024x5632, .bf16⟩
  | .hbm, ⟨20, _⟩ => ⟨S1x1024x5632, .bf16⟩
  | .hbm, ⟨21, _⟩ => ⟨S3x1024x5632, .bf16⟩
  | .hbm, ⟨22, _⟩ => ⟨S4x1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== KernelDwup.lean ====
abbrev S16384x1024 : Shape := ⟨2, ![16384, 1024]⟩
abbrev S16384x2816 : Shape := ⟨2, ![16384, 2816]⟩
abbrev S4x1024x5632 : Shape := ⟨3, ![4, 1024, 5632]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S4x1024x5632, .f32⟩
  | .hbm, ⟨3, _⟩ => ⟨S4x1024x5632, .bf16⟩
  | .hbm, ⟨4, _⟩ => ⟨S4x1024x5632, .f32⟩
  | .hbm, ⟨5, _⟩ => ⟨S4x1024x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDwupIdeal.lean ====
abbrev S16384x1024 : Shape := ⟨2, ![16384, 1024]⟩
abbrev S16384x2816 : Shape := ⟨2, ![16384, 2816]⟩
abbrev S4x1024x5632 : Shape := ⟨3, ![4, 1024, 5632]⟩
abbrev S_ : Shape := ⟨0, ![]⟩
abbrev S1024x2816 : Shape := ⟨2, ![1024, 2816]⟩
abbrev S2816x1024 : Shape := ⟨2, ![2816, 1024]⟩
abbrev S1x1024x2816 : Shape := ⟨3, ![1, 1024, 2816]⟩
abbrev S1024x5632 : Shape := ⟨2, ![1024, 5632]⟩
abbrev S1x1024x5632 : Shape := ⟨3, ![1, 1024, 5632]⟩
abbrev S3x1024x5632 : Shape := ⟨3, ![3, 1024, 5632]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S4x1024x5632, .f32⟩
  | .hbm, ⟨3, _⟩ => ⟨S4x1024x5632, .bf16⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S16384x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S1x1024x2816, .f32⟩
  | .hbm, ⟨12, _⟩ => ⟨S1024x2816, .f32⟩
  | .hbm, ⟨13, _⟩ => ⟨S1024x5632, .f32⟩
  | .hbm, ⟨14, _⟩ => ⟨S1x1024x5632, .f32⟩
  | .hbm, ⟨15, _⟩ => ⟨S3x1024x5632, .f32⟩
  | .hbm, ⟨16, _⟩ => ⟨S4x1024x5632, .f32⟩
  | .hbm, ⟨17, _⟩ => ⟨S1x1024x2816, .bf16⟩
  | .hbm, ⟨18, _⟩ => ⟨S1024x2816, .bf16⟩
  | .hbm, ⟨19, _⟩ => ⟨S1024x5632, .bf16⟩
  | .hbm, ⟨20, _⟩ => ⟨S1x1024x5632, .bf16⟩
  | .hbm, ⟨21, _⟩ => ⟨S3x1024x5632, .bf16⟩
  | .hbm, ⟨22, _⟩ => ⟨S4x1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== KernelRetIn.lean ====
abbrev S16384x1024 : Shape := ⟨2, ![16384, 1024]⟩
abbrev S1024x6144 : Shape := ⟨2, ![1024, 6144]⟩
abbrev S16384x6144 : Shape := ⟨2, ![16384, 6144]⟩
abbrev S256x1024 : Shape := ⟨2, ![256, 1024]⟩
abbrev S256x6144 : Shape := ⟨2, ![256, 6144]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x6144, .bf16⟩
  | .hbm, ⟨2, _⟩ => ⟨S16384x6144, .f32⟩
  | .local _ .vmem, ⟨0, _⟩ => ⟨S256x1024, .f32⟩
  | .local _ .vmem, ⟨1, _⟩ => ⟨S256x1024, .f32⟩
  | .local _ .vmem, ⟨2, _⟩ => ⟨S1024x6144, .bf16⟩
  | .local _ .vmem, ⟨3, _⟩ => ⟨S256x6144, .f32⟩
  | .local _ .vmem, ⟨4, _⟩ => ⟨S256x6144, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRetInIdeal.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6144, .bf16⟩
  | .hbm, ⟨2, _⟩ => ⟨S1024x6144, .f32⟩
  | .hbm, ⟨3, _⟩ => ⟨S16384x6144, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelRetOut.lean ====
abbrev S16384x2048 : Shape := ⟨2, ![16384, 2048]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRetOutIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x2048, .f32⟩
  | .hbm, ⟨3, _⟩ => ⟨S2048x1024, .f32⟩
  | .hbm, ⟨4, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelRetDgated.lean ====
abbrev S16384x1024 : Shape := ⟨2, ![16384, 1024]⟩
abbrev S2048x1024 : Shape := ⟨2, ![2048, 1024]⟩
abbrev S16384x2048 : Shape := ⟨2, ![16384, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2048x1024, .bf16⟩
  | .hbm, ⟨2, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRetDgatedIdeal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .bf16⟩
  | .hbm, ⟨2, _⟩ => ⟨S_, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelRetDx.lean ====
abbrev S16384x1024 : Shape := ⟨2, ![16384, 1024]⟩
abbrev S16384x2048 : Shape := ⟨2, ![16384, 2048]⟩
abbrev S1024x6144 : Shape := ⟨2, ![1024, 6144]⟩
abbrev S512x1024 : Shape := ⟨2, ![512, 1024]⟩
abbrev S512x2048 : Shape := ⟨2, ![512, 2048]⟩
abbrev S512x512 : Shape := ⟨2, ![512, 512]⟩

abbrev nBuf : Space → Nat
  | .hbm => 6
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x2048, .bf16⟩
  | .hbm, ⟨4, _⟩ => ⟨S1024x6144, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x512, .f32⟩
  | .local _ .vmem, ⟨17, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceRetDxIdeal.lean ====
abbrev S16384x1024 : Shape := ⟨2, ![16384, 1024]⟩
abbrev S16384x2048 : Shape := ⟨2, ![16384, 2048]⟩
abbrev S1024x6144 : Shape := ⟨2, ![1024, 6144]⟩
abbrev S16384x6144 : Shape := ⟨2, ![16384, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x2048, .bf16⟩
  | .hbm, ⟨4, _⟩ => ⟨S1024x6144, .bf16⟩
  | .hbm, ⟨5, _⟩ => ⟨S16384x6144, .bf16⟩
  | .hbm, ⟨6, _⟩ => ⟨S_, .f32⟩
  | .hbm, ⟨7, _⟩ => ⟨S16384x1024, .f32⟩
  | .hbm, ⟨8, _⟩ => ⟨S1024x6144, .f32⟩
  | .hbm, ⟨9, _⟩ => ⟨S16384x6144, .f32⟩
  | .hbm, ⟨10, _⟩ => ⟨S16384x6144, .f32⟩
  | .hbm, ⟨11, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== KernelLruIn.lean ====
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2048, .bf16⟩
  | .hbm, ⟨2, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLruInIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .bf16⟩
  | .hbm, ⟨2, _⟩ => ⟨S1024x2048, .f32⟩
  | .hbm, ⟨3, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelLruOut.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLruOutIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDmix.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDmixIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelLruDx.lean ====
abbrev S16384x1024 : Shape := ⟨2, ![16384, 1024]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceLruDxIdeal.lean ====
abbrev S16384x1024 : Shape := ⟨2, ![16384, 1024]⟩
abbrev S1024x2048 : Shape := ⟨2, ![1024, 2048]⟩
abbrev S16384x2048 : Shape := ⟨2, ![16384, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .bf16⟩
  | .hbm, ⟨3, _⟩ => ⟨S16384x2048, .bf16⟩
  | .hbm, ⟨4, _⟩ => ⟨S_, .f32⟩
  | .hbm, ⟨5, _⟩ => ⟨S16384x1024, .f32⟩
  | .hbm, ⟨6, _⟩ => ⟨S1024x2048, .f32⟩
  | .hbm, ⟨7, _⟩ => ⟨S16384x2048, .f32⟩
  | .hbm, ⟨8, _⟩ => ⟨S16384x2048, .f32⟩
  | .hbm, ⟨9, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelMlaIn.lean ====
abbrev S16384x1024 : Shape := ⟨2, ![16384, 1024]⟩
abbrev S1024x1152 : Shape := ⟨2, ![1024, 1152]⟩
abbrev S16384x1152 : Shape := ⟨2, ![16384, 1152]⟩
abbrev S512x1024 : Shape := ⟨2, ![512, 1024]⟩
abbrev S512x1152 : Shape := ⟨2, ![512, 1152]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1152, .bf16⟩
  | .hbm, ⟨2, _⟩ => ⟨S16384x1152, .f32⟩
  | .local _ .vmem, ⟨0, _⟩ => ⟨S512x1024, .f32⟩
  | .local _ .vmem, ⟨1, _⟩ => ⟨S512x1024, .f32⟩
  | .local _ .vmem, ⟨2, _⟩ => ⟨S1024x1152, .bf16⟩
  | .local _ .vmem, ⟨3, _⟩ => ⟨S512x1152, .f32⟩
  | .local _ .vmem, ⟨4, _⟩ => ⟨S512x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaInIdeal.lean ====
abbrev S16384x1024 : Shape := ⟨2, ![16384, 1024]⟩
abbrev S1024x1152 : Shape := ⟨2, ![1024, 1152]⟩
abbrev S16384x1152 : Shape := ⟨2, ![16384, 1152]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1152, .bf16⟩
  | .hbm, ⟨2, _⟩ => ⟨S1024x1152, .f32⟩
  | .hbm, ⟨3, _⟩ => ⟨S16384x1152, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMlaUq.lean ====
abbrev S16384x768 : Shape := ⟨2, ![16384, 768]⟩
abbrev S768x2048 : Shape := ⟨2, ![768, 2048]⟩
abbrev S16384x2048 : Shape := ⟨2, ![16384, 2048]⟩
abbrev S512x768 : Shape := ⟨2, ![512, 768]⟩
abbrev S768x1024 : Shape := ⟨2, ![768, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x768, .bf16⟩
  | .hbm, ⟨1, _⟩ => ⟨S768x2048, .bf16⟩
  | .hbm, ⟨2, _⟩ => ⟨S16384x2048, .f32⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S768x1024, .bf16⟩
  | .local _ .vmem, ⟨4, _⟩ => ⟨S512x1024, .f32⟩
  | .local _ .vmem, ⟨5, _⟩ => ⟨S512x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaUqIdeal.lean ====
abbrev S16384x768 : Shape := ⟨2, ![16384, 768]⟩
abbrev S768x2048 : Shape := ⟨2, ![768, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x2048, .bf16⟩
  | .hbm, ⟨2, _⟩ => ⟨S16384x768, .f32⟩
  | .hbm, ⟨3, _⟩ => ⟨S768x2048, .f32⟩
  | .hbm, ⟨4, _⟩ => ⟨S16384x2048, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMlaUkv.lean ====
abbrev S16384x256 : Shape := ⟨2, ![16384, 256]⟩
abbrev S256x3072 : Shape := ⟨2, ![256, 3072]⟩
abbrev S16384x3072 : Shape := ⟨2, ![16384, 3072]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S256x3072, .bf16⟩
  | .hbm, ⟨2, _⟩ => ⟨S16384x3072, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaUkvIdeal.lean ====
abbrev S16384x256 : Shape := ⟨2, ![16384, 256]⟩
abbrev S256x3072 : Shape := ⟨2, ![256, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x3072, .bf16⟩
  | .hbm, ⟨2, _⟩ => ⟨S16384x256, .f32⟩
  | .hbm, ⟨3, _⟩ => ⟨S256x3072, .f32⟩
  | .hbm, ⟨4, _⟩ => ⟨S16384x3072, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMlaOut.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaOutIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMlaDqn.lean ====
abbrev S16384x2048 : Shape := ⟨2, ![16384, 2048]⟩
abbrev S768x2048 : Shape := ⟨2, ![768, 2048]⟩
abbrev S16384x768 : Shape := ⟨2, ![16384, 768]⟩
abbrev S512x2048 : Shape := ⟨2, ![512, 2048]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S768x2048, .bf16⟩
  | .hbm, ⟨2, _⟩ => ⟨S16384x768, .f32⟩
  | .local _ .vmem, ⟨0, _⟩ => ⟨S512x2048, .bf16⟩
  | .local _ .vmem, ⟨1, _⟩ => ⟨S512x2048, .bf16⟩
  | .local _ .vmem, ⟨2, _⟩ => ⟨S768x2048, .bf16⟩
  | .local _ .vmem, ⟨3, _⟩ => ⟨S512x768, .f32⟩
  | .local _ .vmem, ⟨4, _⟩ => ⟨S512x768, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaDqnIdeal.lean ====
abbrev S16384x2048 : Shape := ⟨2, ![16384, 2048]⟩
abbrev S768x2048 : Shape := ⟨2, ![768, 2048]⟩
abbrev S_ : Shape := ⟨0, ![]⟩
abbrev S16384x768 : Shape := ⟨2, ![16384, 768]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S768x2048, .bf16⟩
  | .hbm, ⟨2, _⟩ => ⟨S_, .f32⟩
  | .hbm, ⟨3, _⟩ => ⟨S16384x768, .f32⟩
  | .hbm, ⟨4, _⟩ => ⟨S768x2048, .f32⟩
  | .hbm, ⟨5, _⟩ => ⟨S16384x2048, .f32⟩
  | .hbm, ⟨6, _⟩ => ⟨S16384x2048, .f32⟩
  | .hbm, ⟨7, _⟩ => ⟨S16384x768, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMlaDkvn.lean ====
abbrev S16384x3072 : Shape := ⟨2, ![16384, 3072]⟩
abbrev S256x3072 : Shape := ⟨2, ![256, 3072]⟩
abbrev S16384x256 : Shape := ⟨2, ![16384, 256]⟩
abbrev S512x3072 : Shape := ⟨2, ![512, 3072]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x3072, .bf16⟩
  | .hbm, ⟨1, _⟩ => ⟨S256x3072, .bf16⟩
  | .hbm, ⟨2, _⟩ => ⟨S16384x256, .f32⟩
  | .local _ .vmem, ⟨0, _⟩ => ⟨S512x3072, .bf16⟩
  | .local _ .vmem, ⟨1, _⟩ => ⟨S512x3072, .bf16⟩
  | .local _ .vmem, ⟨2, _⟩ => ⟨S256x3072, .bf16⟩
  | .local _ .vmem, ⟨3, _⟩ => ⟨S512x256, .f32⟩
  | .local _ .vmem, ⟨4, _⟩ => ⟨S512x256, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMlaDkvnIdeal.lean ====
abbrev S16384x3072 : Shape := ⟨2, ![16384, 3072]⟩
abbrev S256x3072 : Shape := ⟨2, ![256, 3072]⟩
abbrev S_ : Shape := ⟨0, ![]⟩
abbrev S16384x256 : Shape := ⟨2, ![16384, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S256x3072, .bf16⟩
  | .hbm, ⟨2, _⟩ => ⟨S_, .f32⟩
  | .hbm, ⟨3, _⟩ => ⟨S16384x256, .f32⟩
  | .hbm, ⟨4, _⟩ => ⟨S256x3072, .f32⟩
  | .hbm, ⟨5, _⟩ => ⟨S16384x3072, .f32⟩
  | .hbm, ⟨6, _⟩ => ⟨S16384x3072, .f32⟩
  | .hbm, ⟨7, _⟩ => ⟨S16384x256, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelRetDwk.lean ====
abbrev S16384x1024 : Shape := ⟨2, ![16384, 1024]⟩
abbrev S1x1024x6144 : Shape := ⟨3, ![1, 1024, 6144]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x6144, .f32⟩
  | .hbm, ⟨3, _⟩ => ⟨S1x1024x6144, .bf16⟩
  | .hbm, ⟨4, _⟩ => ⟨S1x1024x6144, .f32⟩
  | .hbm, ⟨5, _⟩ => ⟨S1x1024x6144, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![c0_i32_0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![c0_i32_0.toNat, v0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceRetDwkIdeal.lean ====
abbrev S16384x1024 : Shape := ⟨2, ![16384, 1024]⟩
abbrev S1x1024x6144 : Shape := ⟨3, ![1, 1024, 6144]⟩
abbrev S_ : Shape := ⟨0, ![]⟩
abbrev S1024x1024 : Shape := ⟨2, ![1024, 1024]⟩
abbrev S1x1024x1024 : Shape := ⟨3, ![1, 1024, 1024]⟩
abbrev S1x1024x4096 : Shape := ⟨3, ![1, 1024, 4096]⟩
abbrev S1024x4096 : Shape := ⟨2, ![1024, 4096]⟩
abbrev S1024x6144 : Shape := ⟨2, ![1024, 6144]⟩
abbrev S0x1024x6144 : Shape := ⟨3, ![0, 1024, 6144]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x6144, .f32⟩
  | .hbm, ⟨3, _⟩ => ⟨S1x1024x6144, .bf16⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x4096, .f32⟩
  | .hbm, ⟨13, _⟩ => ⟨S1024x4096, .f32⟩
  | .hbm, ⟨14, _⟩ => ⟨S1024x6144, .f32⟩
  | .hbm, ⟨15, _⟩ => ⟨S1x1024x6144, .f32⟩
  | .hbm, ⟨16, _⟩ => ⟨S0x1024x6144, .f32⟩
  | .hbm, ⟨17, _⟩ => ⟨S1x1024x6144, .f32⟩
  | .hbm, ⟨18, _⟩ => ⟨S1024x1024, .bf16⟩
  | .hbm, ⟨19, _⟩ => ⟨S1x1024x1024, .bf16⟩
  | .hbm, ⟨20, _⟩ => ⟨S1024x1024, .bf16⟩
  | .hbm, ⟨21, _⟩ => ⟨S1x1024x4096, .bf16⟩
  | .hbm, ⟨22, _⟩ => ⟨S1024x4096, .bf16⟩
  | .hbm, ⟨23, _⟩ => ⟨S1024x6144, .bf16⟩
  | .hbm, ⟨24, _⟩ => ⟨S1x1024x6144, .bf16⟩
  | .hbm, ⟨25, _⟩ => ⟨S0x1024x6144, .bf16⟩
  | .hbm, ⟨26, _⟩ => ⟨S1x1024x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== KernelRetDwv.lean ====
abbrev S16384x1024 : Shape := ⟨2, ![16384, 1024]⟩
abbrev S16384x2048 : Shape := ⟨2, ![16384, 2048]⟩
abbrev S1x1024x6144 : Shape := ⟨3, ![1, 1024, 6144]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S1x1024x6144, .f32⟩
  | .hbm, ⟨3, _⟩ => ⟨S1x1024x6144, .bf16⟩
  | .hbm, ⟨4, _⟩ => ⟨S1x1024x6144, .f32⟩
  | .hbm, ⟨5, _⟩ => ⟨S1x1024x6144, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.addi arg1 c2_i32
  let c0_i32_0 : BitVec 32 := 0#32
  let c0_i32_1 : BitVec 32 := 0#32
  ![c0_i32_0.toNat, v0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceRetDwvIdeal.lean ====
abbrev S16384x1024 : Shape := ⟨2, ![16384, 1024]⟩
abbrev S16384x2048 : Shape := ⟨2, ![16384, 2048]⟩
abbrev S1x1024x6144 : Shape := ⟨3, ![1, 1024, 6144]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩
abbrev S1024x6144 : Shape := ⟨2, ![1024, 6144]⟩
abbrev S0x1024x6144 : Shape := ⟨3, ![0, 1024, 6144]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S1x1024x6144, .f32⟩
  | .hbm, ⟨3, _⟩ => ⟨S1x1024x6144, .bf16⟩
  | .hbm, ⟨4, _⟩ => ⟨S_, .f32⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S2048x1024, .f32⟩
  | .hbm, ⟨9, _⟩ => ⟨S1024x2048, .f32⟩
  | .hbm, ⟨10, _⟩ => ⟨S1x1024x2048, .f32⟩
  | .hbm, ⟨11, _⟩ => ⟨S1024x2048, .f32⟩
  | .hbm, ⟨12, _⟩ => ⟨S1x1024x2048, .f32⟩
  | .hbm, ⟨13, _⟩ => ⟨S1024x2048, .f32⟩
  | .hbm, ⟨14, _⟩ => ⟨S1024x6144, .f32⟩
  | .hbm, ⟨15, _⟩ => ⟨S1x1024x6144, .f32⟩
  | .hbm, ⟨16, _⟩ => ⟨S0x1024x6144, .f32⟩
  | .hbm, ⟨17, _⟩ => ⟨S1x1024x6144, .f32⟩
  | .hbm, ⟨18, _⟩ => ⟨S1024x2048, .bf16⟩
  | .hbm, ⟨19, _⟩ => ⟨S1x1024x2048, .bf16⟩
  | .hbm, ⟨20, _⟩ => ⟨S1024x2048, .bf16⟩
  | .hbm, ⟨21, _⟩ => ⟨S1x1024x2048, .bf16⟩
  | .hbm, ⟨22, _⟩ => ⟨S1024x2048, .bf16⟩
  | .hbm, ⟨23, _⟩ => ⟨S1024x6144, .bf16⟩
  | .hbm, ⟨24, _⟩ => ⟨S1x1024x6144, .bf16⟩
  | .hbm, ⟨25, _⟩ => ⟨S0x1024x6144, .bf16⟩
  | .hbm, ⟨26, _⟩ => ⟨S1x1024x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== KernelRetDwg.lean ====
abbrev S16384x1024 : Shape := ⟨2, ![16384, 1024]⟩
abbrev S16384x2048 : Shape := ⟨2, ![16384, 2048]⟩
abbrev S1x1024x6144 : Shape := ⟨3, ![1, 1024, 6144]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S1x1024x6144, .f32⟩
  | .hbm, ⟨3, _⟩ => ⟨S1x1024x6144, .bf16⟩
  | .hbm, ⟨4, _⟩ => ⟨S1x1024x6144, .f32⟩
  | .hbm, ⟨5, _⟩ => ⟨S1x1024x6144, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c4_i32 : BitVec 32 := 4#32
  let v1 : BitVec 32 := Scalar.addi arg1 c4_i32
  let c0_i32_0 : BitVec 32 := 0#32
  let c0_i32_1 : BitVec 32 := 0#32
  ![c0_i32_0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c4_i32 : BitVec 32 := 4#32
  let v1 : BitVec 32 := Scalar.addi arg1 c4_i32
  let c0_i32_0 : BitVec 32 := 0#32
  let c0_i32_1 : BitVec 32 := 0#32
  ![c0_i32_0.toNat, v0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceRetDwgIdeal.lean ====
abbrev S16384x1024 : Shape := ⟨2, ![16384, 1024]⟩
abbrev S16384x2048 : Shape := ⟨2, ![16384, 2048]⟩
abbrev S1x1024x6144 : Shape := ⟨3, ![1, 1024, 6144]⟩
abbrev S_ : Shape := ⟨0, ![]⟩
abbrev S1024x2048 : Shape := ⟨2, ![1024, 2048]⟩
abbrev S2048x1024 : Shape := ⟨2, ![2048, 1024]⟩
abbrev S1x1024x4096 : Shape := ⟨3, ![1, 1024, 4096]⟩
abbrev S1024x4096 : Shape := ⟨2, ![1024, 4096]⟩
abbrev S1x1024x0 : Shape := ⟨3, ![1, 1024, 0]⟩
abbrev S1024x0 : Shape := ⟨2, ![1024, 0]⟩
abbrev S1024x6144 : Shape := ⟨2, ![1024, 6144]⟩
abbrev S0x1024x6144 : Shape := ⟨3, ![0, 1024, 6144]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S1x1024x6144, .f32⟩
  | .hbm, ⟨3, _⟩ => ⟨S1x1024x6144, .bf16⟩
  | .hbm, ⟨4, _⟩ => ⟨S_, .f32⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S2048x1024, .f32⟩
  | .hbm, ⟨9, _⟩ => ⟨S1024x2048, .f32⟩
  | .hbm, ⟨10, _⟩ => ⟨S1x1024x4096, .f32⟩
  | .hbm, ⟨11, _⟩ => ⟨S1024x4096, .f32⟩
  | .hbm, ⟨12, _⟩ => ⟨S1x1024x0, .f32⟩
  | .hbm, ⟨13, _⟩ => ⟨S1024x0, .f32⟩
  | .hbm, ⟨14, _⟩ => ⟨S1024x6144, .f32⟩
  | .hbm, ⟨15, _⟩ => ⟨S1x1024x6144, .f32⟩
  | .hbm, ⟨16, _⟩ => ⟨S0x1024x6144, .f32⟩
  | .hbm, ⟨17, _⟩ => ⟨S1x1024x6144, .f32⟩
  | .hbm, ⟨18, _⟩ => ⟨S1024x2048, .bf16⟩
  | .hbm, ⟨19, _⟩ => ⟨S1x1024x4096, .bf16⟩
  | .hbm, ⟨20, _⟩ => ⟨S1024x4096, .bf16⟩
  | .hbm, ⟨21, _⟩ => ⟨S1x1024x0, .bf16⟩
  | .hbm, ⟨22, _⟩ => ⟨S1024x0, .bf16⟩
  | .hbm, ⟨23, _⟩ => ⟨S1024x6144, .bf16⟩
  | .hbm, ⟨24, _⟩ => ⟨S1x1024x6144, .bf16⟩
  | .hbm, ⟨25, _⟩ => ⟨S0x1024x6144, .bf16⟩
  | .hbm, ⟨26, _⟩ => ⟨S1x1024x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== KernelLruDwout.lean ====
abbrev S16384x1024 : Shape := ⟨2, ![16384, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1024x1024, .f32⟩
  | .hbm, ⟨3, _⟩ => ⟨S2x1024x1024, .bf16⟩
  | .hbm, ⟨4, _⟩ => ⟨S2x1024x1024, .f32⟩
  | .hbm, ⟨5, _⟩ => ⟨S2x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x1024, .f32⟩
  | .local _ .vmem, ⟨5, _⟩ => ⟨S1x1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceLruDwoutIdeal.lean ====
abbrev S16384x1024 : Shape := ⟨2, ![16384, 1024]⟩
abbrev S2x1024x1024 : Shape := ⟨3, ![2, 1024, 1024]⟩
abbrev S_ : Shape := ⟨0, ![]⟩
abbrev S1024x1024 : Shape := ⟨2, ![1024, 1024]⟩
abbrev S1x1024x0 : Shape := ⟨3, ![1, 1024, 0]⟩
abbrev S1024x0 : Shape := ⟨2, ![1024, 0]⟩
abbrev S1x1024x1024 : Shape := ⟨3, ![1, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1024x1024, .f32⟩
  | .hbm, ⟨3, _⟩ => ⟨S2x1024x1024, .bf16⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1024x0, .f32⟩
  | .hbm, ⟨11, _⟩ => ⟨S1024x0, .f32⟩
  | .hbm, ⟨12, _⟩ => ⟨S1x1024x0, .f32⟩
  | .hbm, ⟨13, _⟩ => ⟨S1024x0, .f32⟩
  | .hbm, ⟨14, _⟩ => ⟨S1x1024x1024, .f32⟩
  | .hbm, ⟨15, _⟩ => ⟨S1x1024x1024, .f32⟩
  | .hbm, ⟨16, _⟩ => ⟨S2x1024x1024, .f32⟩
  | .hbm, ⟨17, _⟩ => ⟨S1024x1024, .bf16⟩
  | .hbm, ⟨18, _⟩ => ⟨S1x1024x0, .bf16⟩
  | .hbm, ⟨19, _⟩ => ⟨S1024x0, .bf16⟩
  | .hbm, ⟨20, _⟩ => ⟨S1x1024x0, .bf16⟩
  | .hbm, ⟨21, _⟩ => ⟨S1024x0, .bf16⟩
  | .hbm, ⟨22, _⟩ => ⟨S1x1024x1024, .bf16⟩
  | .hbm, ⟨23, _⟩ => ⟨S1x1024x1024, .bf16⟩
  | .hbm, ⟨24, _⟩ => ⟨S2x1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== KernelLruDwg.lean ====
abbrev S16384x1024 : Shape := ⟨2, ![16384, 1024]⟩
abbrev S2x1024x2048 : Shape := ⟨3, ![2, 1024, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x2048, .f32⟩
  | .hbm, ⟨3, _⟩ => ⟨S2x1024x2048, .bf16⟩
  | .hbm, ⟨4, _⟩ => ⟨S2x1024x2048, .f32⟩
  | .hbm, ⟨5, _⟩ => ⟨S2x1024x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  let c0_i32_2 : BitVec 32 := 0#32
  ![c0_i32_1.toNat, v0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceLruDwgIdeal.lean ====
abbrev S16384x1024 : Shape := ⟨2, ![16384, 1024]⟩
abbrev S2x1024x2048 : Shape := ⟨3, ![2, 1024, 2048]⟩
abbrev S_ : Shape := ⟨0, ![]⟩
abbrev S1024x1024 : Shape := ⟨2, ![1024, 1024]⟩
abbrev S1x1024x0 : Shape := ⟨3, ![1, 1024, 0]⟩
abbrev S1024x0 : Shape := ⟨2, ![1024, 0]⟩
abbrev S1x1024x1024 : Shape := ⟨3, ![1, 1024, 1024]⟩
abbrev S1024x2048 : Shape := ⟨2, ![1024, 2048]⟩
abbrev S1x1024x2048 : Shape := ⟨3, ![1, 1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x2048, .f32⟩
  | .hbm, ⟨3, _⟩ => ⟨S2x1024x2048, .bf16⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1024x0, .f32⟩
  | .hbm, ⟨11, _⟩ => ⟨S1024x0, .f32⟩
  | .hbm, ⟨12, _⟩ => ⟨S1x1024x1024, .f32⟩
  | .hbm, ⟨13, _⟩ => ⟨S1024x1024, .f32⟩
  | .hbm, ⟨14, _⟩ => ⟨S1024x2048, .f32⟩
  | .hbm, ⟨15, _⟩ => ⟨S1x1024x2048, .f32⟩
  | .hbm, ⟨16, _⟩ => ⟨S1x1024x2048, .f32⟩
  | .hbm, ⟨17, _⟩ => ⟨S2x1024x2048, .f32⟩
  | .hbm, ⟨18, _⟩ => ⟨S1024x1024, .bf16⟩
  | .hbm, ⟨19, _⟩ => ⟨S1x1024x0, .bf16⟩
  | .hbm, ⟨20, _⟩ => ⟨S1024x0, .bf16⟩
  | .hbm, ⟨21, _⟩ => ⟨S1x1024x1024, .bf16⟩
  | .hbm, ⟨22, _⟩ => ⟨S1024x1024, .bf16⟩
  | .hbm, ⟨23, _⟩ => ⟨S1024x2048, .bf16⟩
  | .hbm, ⟨24, _⟩ => ⟨S1x1024x2048, .bf16⟩
  | .hbm, ⟨25, _⟩ => ⟨S1x1024x2048, .bf16⟩
  | .hbm, ⟨26, _⟩ => ⟨S2x1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== KernelLruDwr.lean ====
abbrev S16384x1024 : Shape := ⟨2, ![16384, 1024]⟩
abbrev S2x1024x2048 : Shape := ⟨3, ![2, 1024, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x2048, .f32⟩
  | .hbm, ⟨3, _⟩ => ⟨S2x1024x2048, .bf16⟩
  | .hbm, ⟨4, _⟩ => ⟨S2x1024x2048, .f32⟩
  | .hbm, ⟨5, _⟩ => ⟨S2x1024x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S1x1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![c0_i32_0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c1_i32 : BitVec 32 := 1#32
  let v1 : BitVec 32 := Scalar.addi arg1 c1_i32
  let c0_i32_0 : BitVec 32 := 0#32
  let c0_i32_1 : BitVec 32 := 0#32
  ![c0_i32_0.toNat, v0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceLruDwrIdeal.lean ====
abbrev S16384x1024 : Shape := ⟨2, ![16384, 1024]⟩
abbrev S2x1024x2048 : Shape := ⟨3, ![2, 1024, 2048]⟩
abbrev S_ : Shape := ⟨0, ![]⟩
abbrev S1024x1024 : Shape := ⟨2, ![1024, 1024]⟩
abbrev S1x1024x1024 : Shape := ⟨3, ![1, 1024, 1024]⟩
abbrev S1x1024x0 : Shape := ⟨3, ![1, 1024, 0]⟩
abbrev S1024x0 : Shape := ⟨2, ![1024, 0]⟩
abbrev S1024x2048 : Shape := ⟨2, ![1024, 2048]⟩
abbrev S1x1024x2048 : Shape := ⟨3, ![1, 1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x1024x2048, .f32⟩
  | .hbm, ⟨3, _⟩ => ⟨S2x1024x2048, .bf16⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1x1024x0, .f32⟩
  | .hbm, ⟨13, _⟩ => ⟨S1024x0, .f32⟩
  | .hbm, ⟨14, _⟩ => ⟨S1024x2048, .f32⟩
  | .hbm, ⟨15, _⟩ => ⟨S1x1024x2048, .f32⟩
  | .hbm, ⟨16, _⟩ => ⟨S1x1024x2048, .f32⟩
  | .hbm, ⟨17, _⟩ => ⟨S2x1024x2048, .f32⟩
  | .hbm, ⟨18, _⟩ => ⟨S1024x1024, .bf16⟩
  | .hbm, ⟨19, _⟩ => ⟨S1x1024x1024, .bf16⟩
  | .hbm, ⟨20, _⟩ => ⟨S1024x1024, .bf16⟩
  | .hbm, ⟨21, _⟩ => ⟨S1x1024x0, .bf16⟩
  | .hbm, ⟨22, _⟩ => ⟨S1024x0, .bf16⟩
  | .hbm, ⟨23, _⟩ => ⟨S1024x2048, .bf16⟩
  | .hbm, ⟨24, _⟩ => ⟨S1x1024x2048, .bf16⟩
  | .hbm, ⟨25, _⟩ => ⟨S1x1024x2048, .bf16⟩
  | .hbm, ⟨26, _⟩ => ⟨S2x1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Proof.Line.lean ====
module

public import Idealize.ShloMosaic.Lib.Pipeline.Regions
public import Idealize.ShloMosaic.Lib.StableHlo.RunRead
public import Idealize.ShloMosaic.Lib.Pipeline.Frame

/-! # Reading a line of host operations one operation at a time -/

@[expose] public section

set_option maxRecDepth 16384

noncomputable section

namespace Cert.Line

open Idealize.ShloMosaic Idealize.ShloMosaic.StableHlo

/-! ## One operation of a line, read where the line ends

In a line in which every reference is written at most once, the contents of an operation's result after the whole line
are the operation's function of its operands, each read after the line where an earlier operation wrote it (`inA`) and
before the line where none has written it yet (`inV`). -/

section Line

variable {τ : Topo} {sig : RefSig} {Val : EltTy → Type} {ops : List (HloOp τ sig Val)} {Ws : List (Ref sig .tc)}

theorem drop_map (hW : ops.map HloOp.writes = Ws.map fun w => {Proc.devRef (τ := τ) .tc w}) (i : ℕ) :
    (ops.drop i).map HloOp.writes = (Ws.drop i).map fun w => {Proc.devRef (τ := τ) .tc w} := by
  rw [List.map_drop, hW, List.map_drop]

theorem take_map (hW : ops.map HloOp.writes = Ws.map fun w => {Proc.devRef (τ := τ) .tc w}) (i : ℕ) :
    (ops.take i).map HloOp.writes = (Ws.take i).map fun w => {Proc.devRef (τ := τ) .tc w} := by
  rw [List.map_take, hW, List.map_take]

theorem inA (hW : ops.map HloOp.writes = Ws.map fun w => {Proc.devRef (τ := τ) .tc w}) (i : ℕ) {x : Ref sig .tc}
    (V : Valuation τ sig Val) (hx : x ∉ Ws.drop i := by decide +kernel) :
    after (ops.take i) V (Proc.devRef .tc x) = after ops V (Proc.devRef .tc x) := by
  conv_rhs => rw [← List.take_append_drop i ops, after_append]
  exact (after_unwritten _ (drop_map hW i) hx _).symm

theorem inV (hW : ops.map HloOp.writes = Ws.map fun w => {Proc.devRef (τ := τ) .tc w}) (i : ℕ) {x : Ref sig .tc}
    (V : Valuation τ sig Val) (hx : x ∉ Ws.take i := by decide +kernel) :
    after (ops.take i) V (Proc.devRef .tc x) = V (Proc.devRef .tc x) :=
  after_unwritten _ (take_map hW i) hx V

theorem atOp (hW : ops.map HloOp.writes = Ws.map fun w => {Proc.devRef (τ := τ) .tc w}) (i : ℕ) {op : HloOp τ sig Val}
    (hop : ops[i]? = some op) {y : Ref sig .tc} (hy : y ∉ Ws.drop (i + 1)) (V : Valuation τ sig Val) :
    after ops V (Proc.devRef .tc y) = op.result (after (ops.take i) V) (Proc.devRef .tc y) := by
  obtain ⟨hi, e⟩ := List.getElem?_eq_some_iff.mp hop
  have hd : ops.drop i = op :: ops.drop (i + 1) := by rw [List.drop_eq_getElem_cons hi, e]
  exact after_last_write (Ws.drop (i + 1)) hd (drop_map hW (i + 1)) hy V

variable (hW : ops.map HloOp.writes = Ws.map fun w => {Proc.devRef (τ := τ) .tc w}) (i : ℕ)
include hW

theorem eq0 {y : Ref sig .tc} {v : y.ty.Contents Val} {hy} (hop : ops[i]? = some (nullary y v hy))
    (V : Valuation τ sig Val)
    (h : y ∉ Ws.drop (i + 1) := by decide +kernel) : after ops V (Proc.devRef .tc y) = v :=
  (atOp hW i hop h V).trans (nullary_result y v hy _)

theorem eq1 {x y : Ref sig .tc} {f : x.ty.Contents Val → y.ty.Contents Val} {hx hy}
    (hop : ops[i]? = some (unary x y f hx hy)) {V : Valuation τ sig Val} {a}
    (ha : after (ops.take i) V (Proc.devRef .tc x) = a)
    (h : y ∉ Ws.drop (i + 1) := by decide +kernel) : after ops V (Proc.devRef .tc y) = f a :=
  ((atOp hW i hop h V).trans (unary_result x y f hx hy _)).trans (congrArg f ha)

theorem eq2 {x x' y : Ref sig .tc} {f : x.ty.Contents Val → x'.ty.Contents Val → y.ty.Contents Val} {hx hx' hy}
    (hop : ops[i]? = some (binary x x' y f hx hx' hy)) {V : Valuation τ sig Val} {a b}
    (ha : after (ops.take i) V (Proc.devRef .tc x) = a) (hb : after (ops.take i) V (Proc.devRef .tc x') = b)
    (h : y ∉ Ws.drop (i + 1) := by decide +kernel) :
    after ops V (Proc.devRef .tc y) = f a b :=
  ((atOp hW i hop h V).trans (binary_result x x' y f hx hx' hy _)).trans (congrArg₂ f ha hb)

theorem eq3 {x x' x'' y : Ref sig .tc}
    {f : x.ty.Contents Val → x'.ty.Contents Val → x''.ty.Contents Val → y.ty.Contents Val} {hx hx' hx'' hy}
    (hop : ops[i]? = some (ternary x x' x'' y f hx hx' hx'' hy)) {V : Valuation τ sig Val} {a b d}
    (ha : after (ops.take i) V (Proc.devRef .tc x) = a) (hb : after (ops.take i) V (Proc.devRef .tc x') = b)
    (hd : after (ops.take i) V (Proc.devRef .tc x'') = d)
    (h : y ∉ Ws.drop (i + 1) := by decide +kernel) : after ops V (Proc.devRef .tc y) = f a b d := by
  rw [(atOp hW i hop h V).trans (ternary_result x x' x'' y f hx hx' hx'' hy _), ha, hb, hd]

theorem eqR {x y : Ref sig .tc} {he hn hx hy} (hop : ops[i]? = some (reshape x y he hn hx hy))
    {V : Valuation τ sig Val} {a} (ha : after (ops.take i) V (Proc.devRef .tc x) = a)
    (h : y ∉ Ws.drop (i + 1) := by decide +kernel) :
    after ops V (Proc.devRef .tc y) = fun j => he ▸ shapeCast y.ty.shape a hn j := by
  rw [(atOp hW i hop h V).trans (reshape_result x y he hn hx hy _), ha]

theorem eqUI {x y : Ref sig .tc} {n : ℕ} {ix : Fin n → Ref sig .tc} {T : BufTy}
    {f : x.ty.Contents Val → (Fin n → T.Contents Val) → y.ty.Contents Val} {hT hx hix hy}
    (hop : ops[i]? = some (unaryIndexed x ix T y f hT hx hix hy)) {V : Valuation τ sig Val} {a}
    {v : Fin n → T.Contents Val} (ha : after (ops.take i) V (Proc.devRef .tc x) = a)
    (hv : ∀ k, cast (congrArg (fun U : BufTy => U.Contents Val) (hT k)) (after (ops.take i) V (Proc.devRef .tc (ix k))) = v k)
    (h : y ∉ Ws.drop (i + 1) := by decide +kernel) :
    after ops V (Proc.devRef .tc y) = f a v := by
  rw [(atOp hW i hop h V).trans (unaryIndexed_result x ix T y f hT hx hix hy _), ha, funext hv]

theorem eqBI {x x' y : Ref sig .tc} {n : ℕ} {ix : Fin n → Ref sig .tc} {T : BufTy}
    {f : x.ty.Contents Val → x'.ty.Contents Val → (Fin n → T.Contents Val) → y.ty.Contents Val} {hT hx hx' hix hy}
    (hop : ops[i]? = some (binaryIndexed x x' ix T y f hT hx hx' hix hy)) {V : Valuation τ sig Val} {a b}
    {v : Fin n → T.Contents Val} (ha : after (ops.take i) V (Proc.devRef .tc x) = a)
    (hb : after (ops.take i) V (Proc.devRef .tc x') = b)
    (hv : ∀ k, cast (congrArg (fun U : BufTy => U.Contents Val) (hT k)) (after (ops.take i) V (Proc.devRef .tc (ix k))) = v k)
    (h : y ∉ Ws.drop (i + 1) := by decide +kernel) :
    after ops V (Proc.devRef .tc y) = f a b v := by
  rw [(atOp hW i hop h V).trans (binaryIndexed_result x x' ix T y f hT hx hx' hix hy _), ha, hb, funext hv]

end Line

end Cert.Line
-- ==== Proof.KerEqs.lean ====
module

public import proofs.«01_k».proof.Proof.Gen.KernelIdeal.Regions
public import proofs.«01_k».proof.Proof.Line

/-! # The equations of the kernel's host tables -/

@[expose] public section

set_option maxRecDepth 16384

noncomputable section

namespace Cert.KernelIdeal.Ret

open Idealize.ShloMosaic Idealize.ShloMosaic.StableHlo
open Idealize.ShloMosaic.TcCoe
open Cert.KernelIdeal.Gen Cert.Line

variable {F : FTy → Type} [FloatOps F] (W V : Valuation τ sig (Elt F))

abbrev h0_Ws : List (Ref sig .tc) := [main_v0, main_cst, main_v1, main_v2, main_cst_0, main_v3, main_v4, main_v5, main_cst_1, main_v6, main_v7, main_cst_2, main_v8, main_v9, main_v10, main_v11, main_v12, main_v13, main_v14, main_v15, main_v16, main_cst_3, main_v17, main_v18, main_cst_4, main_v19, main_v20, main_v21, main_v22, main_v23, main_v24, main_v25, main_c]
attribute [local irreducible] after

theorem h0_map : (hostOps0 : List (HloOp τ sig (Elt F))).map HloOp.writes = h0_Ws.map fun w => {Proc.devRef (τ := τ) .tc w} := rfl
abbrev h1_Ws : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v26]
theorem h1_map : (hostOps0_1 : List (HloOp τ sig (Elt F))).map HloOp.writes = h1_Ws.map fun w => {Proc.devRef (τ := τ) .tc w} := rfl
abbrev h2_Ws : List (Ref sig .tc) := [main_v27, main_v28, main_v29, main_v30, main_v31, main_v32, main_v33, main_v34, main_v35, main_v36, main_v37, main_v38, main_v39, main_v40, main_v41, main_v42, main_v43, main_cst_5]
theorem h2_map : (hostOps0_2 : List (HloOp τ sig (Elt F))).map HloOp.writes = h2_Ws.map fun w => {Proc.devRef (τ := τ) .tc w} := rfl
abbrev h3_Ws : List (Ref sig .tc) := [main_call1_v0, main_call1_v1, main_call1_v2, main_v44]
theorem h3_map : (hostOps0_3 : List (HloOp τ sig (Elt F))).map HloOp.writes = h3_Ws.map fun w => {Proc.devRef (τ := τ) .tc w} := rfl
abbrev h4_Ws : List (Ref sig .tc) := [main_v45, main_cst_6, main_v46, main_v47, main_v48, main_v49, main_v50, main_v51, main_v52, main_v53, main_v54, main_v55, main_cst_7, main_v56, main_v57, main_v58, main_v59, main_v60, main_v61, main_v62, main_v63, main_v64, main_cst_8, main_v65, main_v66, main_v67, main_v68, main_v69, main_v70, main_v71, main_v72]
theorem h4_map : (hostOps0_4 : List (HloOp τ sig (Elt F))).map HloOp.writes = h4_Ws.map fun w => {Proc.devRef (τ := τ) .tc w} := rfl
def g_v0 : FVec F S128 .f32 := W (Proc.devRef .tc main_v0)
def g_cst : FVec F S_ .f32 := W (Proc.devRef .tc main_cst)
def g_v1 : FVec F S128 .f32 := W (Proc.devRef .tc main_v1)
def g_v2 : FVec F S128 .f32 := W (Proc.devRef .tc main_v2)
def g_cst_0 : FVec F S_ .f32 := W (Proc.devRef .tc main_cst_0)
def g_v3 : FVec F S128 .f32 := W (Proc.devRef .tc main_v3)
def g_v4 : FVec F S128 .f32 := W (Proc.devRef .tc main_v4)
def g_v5 : FVec F S128 .f32 := W (Proc.devRef .tc main_v5)
def g_cst_1 : FVec F S_ .f32 := W (Proc.devRef .tc main_cst_1)
def g_v6 : FVec F S128 .f32 := W (Proc.devRef .tc main_v6)
def g_v7 : FVec F S128 .f32 := W (Proc.devRef .tc main_v7)
def g_cst_2 : FVec F S_ .f32 := W (Proc.devRef .tc main_cst_2)
def g_v8 : FVec F S128 .f32 := W (Proc.devRef .tc main_v8)
def g_v9 : FVec F S128 .f32 := W (Proc.devRef .tc main_v9)
def g_v10 : FVec F S16384 .f32 := W (Proc.devRef .tc main_v10)
def g_arg2 : IVec S16384 32 := W (Proc.devRef .tc main_arg2)
def g_v11 : FVec F S16384x1 .f32 := W (Proc.devRef .tc main_v11)
def g_v12 : FVec F S1x128 .f32 := W (Proc.devRef .tc main_v12)
def g_v13 : FVec F S16384x128 .f32 := W (Proc.devRef .tc main_v13)
def g_v14 : FVec F S16384x128 .f32 := W (Proc.devRef .tc main_v14)
def g_v15 : FVec F S16384x128 .f32 := W (Proc.devRef .tc main_v15)
def g_v16 : FVec F S4 .f32 := W (Proc.devRef .tc main_v16)
def g_cst_3 : FVec F S_ .f32 := W (Proc.devRef .tc main_cst_3)
def g_v17 : FVec F S4 .f32 := W (Proc.devRef .tc main_v17)
def g_v18 : FVec F S4 .f32 := W (Proc.devRef .tc main_v18)
def g_cst_4 : FVec F S_ .f32 := W (Proc.devRef .tc main_cst_4)
def g_v19 : FVec F S4 .f32 := W (Proc.devRef .tc main_v19)
def g_v20 : FVec F S4 .f32 := W (Proc.devRef .tc main_v20)
def g_v21 : FVec F S4 .f32 := W (Proc.devRef .tc main_v21)
def g_v22 : FVec F S4 .f32 := W (Proc.devRef .tc main_v22)
def g_v23 : FVec F S4 .f32 := W (Proc.devRef .tc main_v23)
def g_v24 : FVec F S512 .f32 := W (Proc.devRef .tc main_v24)
def g_v25 : IVec S512 32 := W (Proc.devRef .tc main_v25)
def g_c : IVec S_ 32 := W (Proc.devRef .tc main_c)
def g_call0_v0 : IVec S_ 32 := W (Proc.devRef .tc main_call0_v0)
def g_call0_v1 : IVec S512 32 := W (Proc.devRef .tc main_call0_v1)
def g_call0_v2 : IVec S512 32 := W (Proc.devRef .tc main_call0_v2)
def g_call0_v3 : IVec S512 32 := W (Proc.devRef .tc main_call0_v3)
def g_call0_v4 : IVec S_ 32 := W (Proc.devRef .tc main_call0_v4)
def g_call0_v5 : IVec S512 32 := W (Proc.devRef .tc main_call0_v5)
def g_call0_v6 : IVec S512 1 := W (Proc.devRef .tc main_call0_v6)
def g_call0_v7 : IVec S512 32 := W (Proc.devRef .tc main_call0_v7)
def g_call0_v8 : IVec S512 32 := W (Proc.devRef .tc main_call0_v8)
def g_call0_c : IVec S_ 32 := W (Proc.devRef .tc main_call0_c)
def g_call0_v9 : IVec S512 32 := W (Proc.devRef .tc main_call0_v9)
def g_call0_v10 : IVec S512 1 := W (Proc.devRef .tc main_call0_v10)
def g_call0_v11 : IVec S512 1 := W (Proc.devRef .tc main_call0_v11)
def g_call0_c_0 : IVec S_ 32 := W (Proc.devRef .tc main_call0_c_0)
def g_call0_v12 : IVec S512 32 := W (Proc.devRef .tc main_call0_v12)
def g_call0_v13 : IVec S512 32 := W (Proc.devRef .tc main_call0_v13)
def g_v26 : IVec S512 32 := W (Proc.devRef .tc main_v26)
def g_v27 : IVec S1x512 32 := W (Proc.devRef .tc main_v27)
def g_v28 : IVec S512x1 32 := W (Proc.devRef .tc main_v28)
def g_v29 : IVec S512x512 32 := W (Proc.devRef .tc main_v29)
def g_v30 : IVec S512x512 32 := W (Proc.devRef .tc main_v30)
def g_v31 : IVec S512x512 1 := W (Proc.devRef .tc main_v31)
def g_v32 : FVec F S4x1x1 .f32 := W (Proc.devRef .tc main_v32)
def g_v33 : FVec F S512x1 .f32 := W (Proc.devRef .tc main_v33)
def g_v34 : FVec F S1x512 .f32 := W (Proc.devRef .tc main_v34)
def g_v35 : FVec F S512x512 .f32 := W (Proc.devRef .tc main_v35)
def g_v36 : FVec F S512x512 .f32 := W (Proc.devRef .tc main_v36)
def g_v37 : FVec F S512x512 .f32 := W (Proc.devRef .tc main_v37)
def g_v38 : FVec F S512x512 .f32 := W (Proc.devRef .tc main_v38)
def g_v39 : FVec F S1x512x512 .f32 := W (Proc.devRef .tc main_v39)
def g_v40 : FVec F S4x512x512 .f32 := W (Proc.devRef .tc main_v40)
def g_v41 : FVec F S4x512x512 .f32 := W (Proc.devRef .tc main_v41)
def g_v42 : FVec F S4x512x512 .f32 := W (Proc.devRef .tc main_v42)
def g_v43 : FVec F S4x512x512 .f32 := W (Proc.devRef .tc main_v43)
def g_cst_5 : FVec F S_ .f32 := W (Proc.devRef .tc main_cst_5)
def g_call1_v0 : FVec F S_ .f32 := W (Proc.devRef .tc main_call1_v0)
def g_call1_v1 : IVec S4x512x512 1 := W (Proc.devRef .tc main_call1_v1)
def g_call1_v2 : FVec F S4x512x512 .f32 := W (Proc.devRef .tc main_call1_v2)
def g_v44 : FVec F S4x512x512 .f32 := W (Proc.devRef .tc main_v44)
def g_v45 : FVec F S4x1 .f32 := W (Proc.devRef .tc main_v45)
def g_cst_6 : FVec F S_ .f32 := W (Proc.devRef .tc main_cst_6)
def g_v46 : FVec F S512 .f32 := W (Proc.devRef .tc main_v46)
def g_v47 : FVec F S512 .f32 := W (Proc.devRef .tc main_v47)
def g_v48 : FVec F S1x512 .f32 := W (Proc.devRef .tc main_v48)
def g_v49 : FVec F S4x512 .f32 := W (Proc.devRef .tc main_v49)
def g_v50 : FVec F S4x512 .f32 := W (Proc.devRef .tc main_v50)
def g_v51 : FVec F S4x512 .f32 := W (Proc.devRef .tc main_v51)
def g_v52 : FVec F S4x512 .f32 := W (Proc.devRef .tc main_v52)
def g_v53 : FVec F S4x512x1 .f32 := W (Proc.devRef .tc main_v53)
def g_v54 : FVec F S4x512x256 .f32 := W (Proc.devRef .tc main_v54)
def g_v55 : FVec F S4x1 .f32 := W (Proc.devRef .tc main_v55)
def g_cst_7 : FVec F S_ .f32 := W (Proc.devRef .tc main_cst_7)
def g_v56 : FVec F S512 .f32 := W (Proc.devRef .tc main_v56)
def g_v57 : FVec F S512 .f32 := W (Proc.devRef .tc main_v57)
def g_v58 : FVec F S1x512 .f32 := W (Proc.devRef .tc main_v58)
def g_v59 : FVec F S4x512 .f32 := W (Proc.devRef .tc main_v59)
def g_v60 : FVec F S4x512 .f32 := W (Proc.devRef .tc main_v60)
def g_v61 : FVec F S4x512 .f32 := W (Proc.devRef .tc main_v61)
def g_v62 : FVec F S4x512 .f32 := W (Proc.devRef .tc main_v62)
def g_v63 : FVec F S4x512x1 .f32 := W (Proc.devRef .tc main_v63)
def g_v64 : FVec F S4x512x256 .f32 := W (Proc.devRef .tc main_v64)
def g_cst_8 : FVec F S_ .f32 := W (Proc.devRef .tc main_cst_8)
def g_v65 : FVec F S4 .f32 := W (Proc.devRef .tc main_v65)
def g_v66 : FVec F S4 .f32 := W (Proc.devRef .tc main_v66)
def g_v67 : FVec F S4 .f32 := W (Proc.devRef .tc main_v67)
def g_v68 : FVec F S4x1x1 .f32 := W (Proc.devRef .tc main_v68)
def g_v69 : FVec F S4x1x512 .f32 := W (Proc.devRef .tc main_v69)
def g_v70 : FVec F S16384x128 .f32 := W (Proc.devRef .tc main_v70)
def g_v71 : FVec F S16384x128 .f32 := W (Proc.devRef .tc main_v71)
def g_v72 : FVec F S1x2048 .f32 := W (Proc.devRef .tc main_v72)
def g_arg1 : FVec F S2048 .f32 := W (Proc.devRef .tc main_arg1)

theorem h0_v0 : g_v0 (after hostOps0 V)
    = sitofp .f32 (iotaInDim S128 32 0) :=
  eq0 h0_map 0 rfl V

theorem h0_cst : g_cst (after hostOps0 V)
    = constant S_ .f32 0x40000000#32 :=
  eq0 h0_map 1 rfl V

theorem h0_v1 : g_v1 (after hostOps0 V)
    = broadcastInDim S128 ![] bcast_S_S128 (g_cst (after hostOps0 V)) :=
  eq1 h0_map 2 rfl (inA h0_map 2 V)

theorem h0_v2 : g_v2 (after hostOps0 V)
    = mulf (g_v1 (after hostOps0 V)) (g_v0 (after hostOps0 V)) :=
  eq2 h0_map 3 rfl (inA h0_map 3 V) (inA h0_map 3 V)

theorem h0_cst_0 : g_cst_0 (after hostOps0 V)
    = constant S_ .f32 0x00000000#32 :=
  eq0 h0_map 4 rfl V

theorem h0_v3 : g_v3 (after hostOps0 V)
    = broadcastInDim S128 ![] bcast_S_S128 (g_cst_0 (after hostOps0 V)) :=
  eq1 h0_map 5 rfl (inA h0_map 5 V)

theorem h0_v4 : g_v4 (after hostOps0 V)
    = addf (g_v3 (after hostOps0 V)) (g_v2 (after hostOps0 V)) :=
  eq2 h0_map 6 rfl (inA h0_map 6 V) (inA h0_map 6 V)

theorem h0_v5 : g_v5 (after hostOps0 V)
    = Host.negf (g_v4 (after hostOps0 V)) :=
  eq1 h0_map 7 rfl (inA h0_map 7 V)

theorem h0_cst_1 : g_cst_1 (after hostOps0 V)
    = constant S_ .f32 0x43800000#32 :=
  eq0 h0_map 8 rfl V

theorem h0_v6 : g_v6 (after hostOps0 V)
    = broadcastInDim S128 ![] bcast_S_S128 (g_cst_1 (after hostOps0 V)) :=
  eq1 h0_map 9 rfl (inA h0_map 9 V)

theorem h0_v7 : g_v7 (after hostOps0 V)
    = Host.divf (g_v5 (after hostOps0 V)) (g_v6 (after hostOps0 V)) :=
  eq2 h0_map 10 rfl (inA h0_map 10 V) (inA h0_map 10 V)

theorem h0_cst_2 : g_cst_2 (after hostOps0 V)
    = constant S_ .f32 0x461C4000#32 :=
  eq0 h0_map 11 rfl V

theorem h0_v8 : g_v8 (after hostOps0 V)
    = broadcastInDim S128 ![] bcast_S_S128 (g_cst_2 (after hostOps0 V)) :=
  eq1 h0_map 12 rfl (inA h0_map 12 V)

theorem h0_v9 : g_v9 (after hostOps0 V)
    = Host.powf (g_v8 (after hostOps0 V)) (g_v7 (after hostOps0 V)) :=
  eq2 h0_map 13 rfl (inA h0_map 13 V) (inA h0_map 13 V)

theorem h0_v10 : g_v10 (after hostOps0 V)
    = sitofp .f32 (g_arg2 V) :=
  eq1 h0_map 14 rfl (inV h0_map 14 V)

theorem h0_v11 : g_v11 (after hostOps0 V)
    = broadcastInDim S16384x1 ![0] bcast_S16384_S16384x1_0 (g_v10 (after hostOps0 V)) :=
  eq1 h0_map 15 rfl (inA h0_map 15 V)

theorem h0_v12 : g_v12 (after hostOps0 V)
    = broadcastInDim S1x128 ![1] bcast_S128_S1x128_1 (g_v9 (after hostOps0 V)) :=
  eq1 h0_map 16 rfl (inA h0_map 16 V)

theorem h0_v13 : g_v13 (after hostOps0 V)
    = broadcastInDim S16384x128 ![0, 1] bcast_S16384x1_S16384x128_0_1 (g_v11 (after hostOps0 V)) :=
  eq1 h0_map 17 rfl (inA h0_map 17 V)

theorem h0_v14 : g_v14 (after hostOps0 V)
    = broadcastInDim S16384x128 ![0, 1] bcast_S1x128_S16384x128_0_1 (g_v12 (after hostOps0 V)) :=
  eq1 h0_map 18 rfl (inA h0_map 18 V)

theorem h0_v15 : g_v15 (after hostOps0 V)
    = mulf (g_v13 (after hostOps0 V)) (g_v14 (after hostOps0 V)) :=
  eq2 h0_map 19 rfl (inA h0_map 19 V) (inA h0_map 19 V)

theorem h0_v16 : g_v16 (after hostOps0 V)
    = sitofp .f32 (iotaInDim S4 32 0) :=
  eq0 h0_map 20 rfl V

theorem h0_cst_3 : g_cst_3 (after hostOps0 V)
    = constant S_ .f32 0xC0A00000#32 :=
  eq0 h0_map 21 rfl V

theorem h0_v17 : g_v17 (after hostOps0 V)
    = broadcastInDim S4 ![] bcast_S_S4 (g_cst_3 (after hostOps0 V)) :=
  eq1 h0_map 22 rfl (inA h0_map 22 V)

theorem h0_v18 : g_v18 (after hostOps0 V)
    = subf (g_v17 (after hostOps0 V)) (g_v16 (after hostOps0 V)) :=
  eq2 h0_map 23 rfl (inA h0_map 23 V) (inA h0_map 23 V)

theorem h0_cst_4 : g_cst_4 (after hostOps0 V)
    = constant S_ .f32 0x3F317218#32 :=
  eq0 h0_map 24 rfl V

theorem h0_v19 : g_v19 (after hostOps0 V)
    = broadcastInDim S4 ![] bcast_S_S4 (g_cst_4 (after hostOps0 V)) :=
  eq1 h0_map 25 rfl (inA h0_map 25 V)

theorem h0_v20 : g_v20 (after hostOps0 V)
    = mulf (g_v19 (after hostOps0 V)) (g_v18 (after hostOps0 V)) :=
  eq2 h0_map 26 rfl (inA h0_map 26 V) (inA h0_map 26 V)

theorem h0_v21 : g_v21 (after hostOps0 V)
    = Host.exp (g_v20 (after hostOps0 V)) :=
  eq1 h0_map 27 rfl (inA h0_map 27 V)

theorem h0_v22 : g_v22 (after hostOps0 V)
    = Host.negf (g_v21 (after hostOps0 V)) :=
  eq1 h0_map 28 rfl (inA h0_map 28 V)

theorem h0_v23 : g_v23 (after hostOps0 V)
    = Host.log1p (g_v22 (after hostOps0 V)) :=
  eq1 h0_map 29 rfl (inA h0_map 29 V)

theorem h0_v24 : g_v24 (after hostOps0 V)
    = sitofp .f32 (iotaInDim S512 32 0) :=
  eq0 h0_map 30 rfl V

theorem h0_v25 : g_v25 (after hostOps0 V)
    = iotaInDim S512 32 0 :=
  eq0 h0_map 31 rfl V

theorem h0_c : g_c (after hostOps0 V)
    = constantI S_ 32 64#32 :=
  eq0 h0_map 32 rfl V

theorem h1_call0_v0 : g_call0_v0 (after hostOps0_1 V)
    = (g_c V) :=
  eq1 h1_map 0 rfl (inV h1_map 0 V)

theorem h1_call0_v1 : g_call0_v1 (after hostOps0_1 V)
    = broadcastInDim S512 ![] bcast_S_S512 (g_call0_v0 (after hostOps0_1 V)) :=
  eq1 h1_map 1 rfl (inA h1_map 1 V)

theorem h1_call0_v2 : g_call0_v2 (after hostOps0_1 V)
    = Host.divsi (g_v25 V) (g_call0_v1 (after hostOps0_1 V)) :=
  eq2 h1_map 2 rfl (inV h1_map 2 V) (inA h1_map 2 V)

theorem h1_call0_v3 : g_call0_v3 (after hostOps0_1 V)
    = signi (g_v25 V) :=
  eq1 h1_map 3 rfl (inV h1_map 3 V)

theorem h1_call0_v4 : g_call0_v4 (after hostOps0_1 V)
    = signi (g_call0_v0 (after hostOps0_1 V)) :=
  eq1 h1_map 4 rfl (inA h1_map 4 V)

theorem h1_call0_v5 : g_call0_v5 (after hostOps0_1 V)
    = broadcastInDim S512 ![] bcast_S_S512 (g_call0_v4 (after hostOps0_1 V)) :=
  eq1 h1_map 5 rfl (inA h1_map 5 V)

theorem h1_call0_v6 : g_call0_v6 (after hostOps0_1 V)
    = cmpi .ne (g_call0_v3 (after hostOps0_1 V)) (g_call0_v5 (after hostOps0_1 V)) :=
  eq2 h1_map 6 rfl (inA h1_map 6 V) (inA h1_map 6 V)

theorem h1_call0_v7 : g_call0_v7 (after hostOps0_1 V)
    = broadcastInDim S512 ![] bcast_S_S512 (g_call0_v0 (after hostOps0_1 V)) :=
  eq1 h1_map 7 rfl (inA h1_map 7 V)

theorem h1_call0_v8 : g_call0_v8 (after hostOps0_1 V)
    = Host.remsi (g_v25 V) (g_call0_v7 (after hostOps0_1 V)) :=
  eq2 h1_map 8 rfl (inV h1_map 8 V) (inA h1_map 8 V)

theorem h1_call0_c : g_call0_c (after hostOps0_1 V)
    = constantI S_ 32 0#32 :=
  eq0 h1_map 9 rfl V

theorem h1_call0_v9 : g_call0_v9 (after hostOps0_1 V)
    = broadcastInDim S512 ![] bcast_S_S512 (g_call0_c (after hostOps0_1 V)) :=
  eq1 h1_map 10 rfl (inA h1_map 10 V)

theorem h1_call0_v10 : g_call0_v10 (after hostOps0_1 V)
    = cmpi .ne (g_call0_v8 (after hostOps0_1 V)) (g_call0_v9 (after hostOps0_1 V)) :=
  eq2 h1_map 11 rfl (inA h1_map 11 V) (inA h1_map 11 V)

theorem h1_call0_v11 : g_call0_v11 (after hostOps0_1 V)
    = andi (g_call0_v6 (after hostOps0_1 V)) (g_call0_v10 (after hostOps0_1 V)) :=
  eq2 h1_map 12 rfl (inA h1_map 12 V) (inA h1_map 12 V)

theorem h1_call0_c_0 : g_call0_c_0 (after hostOps0_1 V)
    = constantI S_ 32 1#32 :=
  eq0 h1_map 13 rfl V

theorem h1_call0_v12 : g_call0_v12 (after hostOps0_1 V)
    = broadcastInDim S512 ![] bcast_S_S512 (g_call0_c_0 (after hostOps0_1 V)) :=
  eq1 h1_map 14 rfl (inA h1_map 14 V)

theorem h1_call0_v13 : g_call0_v13 (after hostOps0_1 V)
    = subi (g_call0_v2 (after hostOps0_1 V)) (g_call0_v12 (after hostOps0_1 V)) :=
  eq2 h1_map 15 rfl (inA h1_map 15 V) (inA h1_map 15 V)

theorem h1_v26 : g_v26 (after hostOps0_1 V)
    = select (g_call0_v11 (after hostOps0_1 V)) (g_call0_v13 (after hostOps0_1 V)) (g_call0_v2 (after hostOps0_1 V)) :=
  eq3 h1_map 16 rfl (inA h1_map 16 V) (inA h1_map 16 V) (inA h1_map 16 V)

theorem h2_v27 : g_v27 (after hostOps0_2 V)
    = broadcastInDim S1x512 ![1] bcast_S512_S1x512_1 (g_v26 V) :=
  eq1 h2_map 0 rfl (inV h2_map 0 V)

theorem h2_v28 : g_v28 (after hostOps0_2 V)
    = broadcastInDim S512x1 ![0] bcast_S512_S512x1_0 (g_v26 V) :=
  eq1 h2_map 1 rfl (inV h2_map 1 V)

theorem h2_v29 : g_v29 (after hostOps0_2 V)
    = broadcastInDim S512x512 ![0, 1] bcast_S1x512_S512x512_0_1 (g_v27 (after hostOps0_2 V)) :=
  eq1 h2_map 2 rfl (inA h2_map 2 V)

theorem h2_v30 : g_v30 (after hostOps0_2 V)
    = broadcastInDim S512x512 ![0, 1] bcast_S512x1_S512x512_0_1 (g_v28 (after hostOps0_2 V)) :=
  eq1 h2_map 3 rfl (inA h2_map 3 V)

theorem h2_v31 : g_v31 (after hostOps0_2 V)
    = cmpi .sle (g_v29 (after hostOps0_2 V)) (g_v30 (after hostOps0_2 V)) :=
  eq2 h2_map 4 rfl (inA h2_map 4 V) (inA h2_map 4 V)

theorem h2_v32 : g_v32 (after hostOps0_2 V)
    = broadcastInDim S4x1x1 ![0] bcast_S4_S4x1x1_0 (g_v23 V) :=
  eq1 h2_map 5 rfl (inV h2_map 5 V)

theorem h2_v33 : g_v33 (after hostOps0_2 V)
    = broadcastInDim S512x1 ![0] bcast_S512_S512x1_0 (g_v24 V) :=
  eq1 h2_map 6 rfl (inV h2_map 6 V)

theorem h2_v34 : g_v34 (after hostOps0_2 V)
    = broadcastInDim S1x512 ![1] bcast_S512_S1x512_1 (g_v24 V) :=
  eq1 h2_map 7 rfl (inV h2_map 7 V)

theorem h2_v35 : g_v35 (after hostOps0_2 V)
    = broadcastInDim S512x512 ![0, 1] bcast_S512x1_S512x512_0_1 (g_v33 (after hostOps0_2 V)) :=
  eq1 h2_map 8 rfl (inA h2_map 8 V)

theorem h2_v36 : g_v36 (after hostOps0_2 V)
    = broadcastInDim S512x512 ![0, 1] bcast_S1x512_S512x512_0_1 (g_v34 (after hostOps0_2 V)) :=
  eq1 h2_map 9 rfl (inA h2_map 9 V)

theorem h2_v37 : g_v37 (after hostOps0_2 V)
    = subf (g_v35 (after hostOps0_2 V)) (g_v36 (after hostOps0_2 V)) :=
  eq2 h2_map 10 rfl (inA h2_map 10 V) (inA h2_map 10 V)

theorem h2_v38 : g_v38 (after hostOps0_2 V)
    = Host.absf (g_v37 (after hostOps0_2 V)) :=
  eq1 h2_map 11 rfl (inA h2_map 11 V)

theorem h2_v39 : g_v39 (after hostOps0_2 V)
    = broadcastInDim S1x512x512 ![1, 2] bcast_S512x512_S1x512x512_1_2 (g_v38 (after hostOps0_2 V)) :=
  eq1 h2_map 12 rfl (inA h2_map 12 V)

theorem h2_v40 : g_v40 (after hostOps0_2 V)
    = broadcastInDim S4x512x512 ![0, 1, 2] bcast_S4x1x1_S4x512x512_0_1_2 (g_v32 (after hostOps0_2 V)) :=
  eq1 h2_map 13 rfl (inA h2_map 13 V)

theorem h2_v41 : g_v41 (after hostOps0_2 V)
    = broadcastInDim S4x512x512 ![0, 1, 2] bcast_S1x512x512_S4x512x512_0_1_2 (g_v39 (after hostOps0_2 V)) :=
  eq1 h2_map 14 rfl (inA h2_map 14 V)

theorem h2_v42 : g_v42 (after hostOps0_2 V)
    = mulf (g_v40 (after hostOps0_2 V)) (g_v41 (after hostOps0_2 V)) :=
  eq2 h2_map 15 rfl (inA h2_map 15 V) (inA h2_map 15 V)

theorem h2_v43 : g_v43 (after hostOps0_2 V)
    = Host.exp (g_v42 (after hostOps0_2 V)) :=
  eq1 h2_map 16 rfl (inA h2_map 16 V)

theorem h2_cst_5 : g_cst_5 (after hostOps0_2 V)
    = constant S_ .f32 0x00000000#32 :=
  eq0 h2_map 17 rfl V

theorem h3_call1_v0 : g_call1_v0 (after hostOps0_3 V)
    = (g_cst_5 V) :=
  eq1 h3_map 0 rfl (inV h3_map 0 V)

theorem h3_call1_v1 : g_call1_v1 (after hostOps0_3 V)
    = broadcastInDim S4x512x512 ![1, 2] bcast_S512x512_S4x512x512_1_2 (g_v31 V) :=
  eq1 h3_map 1 rfl (inV h3_map 1 V)

theorem h3_call1_v2 : g_call1_v2 (after hostOps0_3 V)
    = broadcastInDim S4x512x512 ![] bcast_S_S4x512x512 (g_call1_v0 (after hostOps0_3 V)) :=
  eq1 h3_map 2 rfl (inA h3_map 2 V)

theorem h3_v44 : g_v44 (after hostOps0_3 V)
    = select (g_call1_v1 (after hostOps0_3 V)) (g_v43 V) (g_call1_v2 (after hostOps0_3 V)) :=
  eq3 h3_map 3 rfl (inA h3_map 3 V) (inV h3_map 3 V) (inA h3_map 3 V)

theorem h4_v45 : g_v45 (after hostOps0_4 V)
    = broadcastInDim S4x1 ![0] bcast_S4_S4x1_0 (g_v23 V) :=
  eq1 h4_map 0 rfl (inV h4_map 0 V)

theorem h4_cst_6 : g_cst_6 (after hostOps0_4 V)
    = constant S_ .f32 0x3F800000#32 :=
  eq0 h4_map 1 rfl V

theorem h4_v46 : g_v46 (after hostOps0_4 V)
    = broadcastInDim S512 ![] bcast_S_S512 (g_cst_6 (after hostOps0_4 V)) :=
  eq1 h4_map 2 rfl (inA h4_map 2 V)

theorem h4_v47 : g_v47 (after hostOps0_4 V)
    = addf (g_v24 V) (g_v46 (after hostOps0_4 V)) :=
  eq2 h4_map 3 rfl (inV h4_map 3 V) (inA h4_map 3 V)

theorem h4_v48 : g_v48 (after hostOps0_4 V)
    = broadcastInDim S1x512 ![1] bcast_S512_S1x512_1 (g_v47 (after hostOps0_4 V)) :=
  eq1 h4_map 4 rfl (inA h4_map 4 V)

theorem h4_v49 : g_v49 (after hostOps0_4 V)
    = broadcastInDim S4x512 ![0, 1] bcast_S4x1_S4x512_0_1 (g_v45 (after hostOps0_4 V)) :=
  eq1 h4_map 5 rfl (inA h4_map 5 V)

theorem h4_v50 : g_v50 (after hostOps0_4 V)
    = broadcastInDim S4x512 ![0, 1] bcast_S1x512_S4x512_0_1 (g_v48 (after hostOps0_4 V)) :=
  eq1 h4_map 6 rfl (inA h4_map 6 V)

theorem h4_v51 : g_v51 (after hostOps0_4 V)
    = mulf (g_v49 (after hostOps0_4 V)) (g_v50 (after hostOps0_4 V)) :=
  eq2 h4_map 7 rfl (inA h4_map 7 V) (inA h4_map 7 V)

theorem h4_v52 : g_v52 (after hostOps0_4 V)
    = Host.exp (g_v51 (after hostOps0_4 V)) :=
  eq1 h4_map 8 rfl (inA h4_map 8 V)

theorem h4_v53 : g_v53 (after hostOps0_4 V)
    = broadcastInDim S4x512x1 ![0, 1] bcast_S4x512_S4x512x1_0_1 (g_v52 (after hostOps0_4 V)) :=
  eq1 h4_map 9 rfl (inA h4_map 9 V)

theorem h4_v54 : g_v54 (after hostOps0_4 V)
    = broadcastInDim S4x512x256 ![0, 1, 2] bcast_S4x512x1_S4x512x256_0_1_2 (g_v53 (after hostOps0_4 V)) :=
  eq1 h4_map 10 rfl (inA h4_map 10 V)

theorem h4_v55 : g_v55 (after hostOps0_4 V)
    = broadcastInDim S4x1 ![0] bcast_S4_S4x1_0 (g_v23 V) :=
  eq1 h4_map 11 rfl (inV h4_map 11 V)

theorem h4_cst_7 : g_cst_7 (after hostOps0_4 V)
    = constant S_ .f32 0x43FF8000#32 :=
  eq0 h4_map 12 rfl V

theorem h4_v56 : g_v56 (after hostOps0_4 V)
    = broadcastInDim S512 ![] bcast_S_S512 (g_cst_7 (after hostOps0_4 V)) :=
  eq1 h4_map 13 rfl (inA h4_map 13 V)

theorem h4_v57 : g_v57 (after hostOps0_4 V)
    = subf (g_v56 (after hostOps0_4 V)) (g_v24 V) :=
  eq2 h4_map 14 rfl (inA h4_map 14 V) (inV h4_map 14 V)

theorem h4_v58 : g_v58 (after hostOps0_4 V)
    = broadcastInDim S1x512 ![1] bcast_S512_S1x512_1 (g_v57 (after hostOps0_4 V)) :=
  eq1 h4_map 15 rfl (inA h4_map 15 V)

theorem h4_v59 : g_v59 (after hostOps0_4 V)
    = broadcastInDim S4x512 ![0, 1] bcast_S4x1_S4x512_0_1 (g_v55 (after hostOps0_4 V)) :=
  eq1 h4_map 16 rfl (inA h4_map 16 V)

theorem h4_v60 : g_v60 (after hostOps0_4 V)
    = broadcastInDim S4x512 ![0, 1] bcast_S1x512_S4x512_0_1 (g_v58 (after hostOps0_4 V)) :=
  eq1 h4_map 17 rfl (inA h4_map 17 V)

theorem h4_v61 : g_v61 (after hostOps0_4 V)
    = mulf (g_v59 (after hostOps0_4 V)) (g_v60 (after hostOps0_4 V)) :=
  eq2 h4_map 18 rfl (inA h4_map 18 V) (inA h4_map 18 V)

theorem h4_v62 : g_v62 (after hostOps0_4 V)
    = Host.exp (g_v61 (after hostOps0_4 V)) :=
  eq1 h4_map 19 rfl (inA h4_map 19 V)

theorem h4_v63 : g_v63 (after hostOps0_4 V)
    = broadcastInDim S4x512x1 ![0, 1] bcast_S4x512_S4x512x1_0_1 (g_v62 (after hostOps0_4 V)) :=
  eq1 h4_map 20 rfl (inA h4_map 20 V)

theorem h4_v64 : g_v64 (after hostOps0_4 V)
    = broadcastInDim S4x512x256 ![0, 1, 2] bcast_S4x512x1_S4x512x256_0_1_2 (g_v63 (after hostOps0_4 V)) :=
  eq1 h4_map 21 rfl (inA h4_map 21 V)

theorem h4_cst_8 : g_cst_8 (after hostOps0_4 V)
    = constant S_ .f32 0x44000000#32 :=
  eq0 h4_map 22 rfl V

theorem h4_v65 : g_v65 (after hostOps0_4 V)
    = broadcastInDim S4 ![] bcast_S_S4 (g_cst_8 (after hostOps0_4 V)) :=
  eq1 h4_map 23 rfl (inA h4_map 23 V)

theorem h4_v66 : g_v66 (after hostOps0_4 V)
    = mulf (g_v23 V) (g_v65 (after hostOps0_4 V)) :=
  eq2 h4_map 24 rfl (inV h4_map 24 V) (inA h4_map 24 V)

theorem h4_v67 : g_v67 (after hostOps0_4 V)
    = Host.exp (g_v66 (after hostOps0_4 V)) :=
  eq1 h4_map 25 rfl (inA h4_map 25 V)

theorem h4_v68 : g_v68 (after hostOps0_4 V)
    = broadcastInDim S4x1x1 ![0] bcast_S4_S4x1x1_0 (g_v67 (after hostOps0_4 V)) :=
  eq1 h4_map 26 rfl (inA h4_map 26 V)

theorem h4_v69 : g_v69 (after hostOps0_4 V)
    = broadcastInDim S4x1x512 ![0, 1, 2] bcast_S4x1x1_S4x1x512_0_1_2 (g_v68 (after hostOps0_4 V)) :=
  eq1 h4_map 27 rfl (inA h4_map 27 V)

theorem h4_v70 : g_v70 (after hostOps0_4 V)
    = Host.cos (g_v15 V) :=
  eq1 h4_map 28 rfl (inV h4_map 28 V)

theorem h4_v71 : g_v71 (after hostOps0_4 V)
    = Host.sin (g_v15 V) :=
  eq1 h4_map 29 rfl (inV h4_map 29 V)

theorem h4_v72 : g_v72 (after hostOps0_4 V)
    = shapeCast S1x2048 (g_arg1 V) shapeCasts_S2048_S1x2048 :=
  eqR h4_map 30 rfl (inV h4_map 30 V)

end Cert.KernelIdeal.Ret
-- ==== Proof.KerFwd.lean ====
/-
The forward retention kernel at one grid point: what it leaves in its blocks and in the state it carries, as functions of the blocks it reads.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.ValueKit
public import Idealize.ShloMosaic.Lib.VecWindow
public import Idealize.ShloMosaic.Lib.Tactic

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The gated rows one block of the forward pass leaves, from its blocks `x0 … x10` and the state `s` before it. -/
def gated0 (x0 : Vec F S512x256 .f32) (x1 : Vec F S512x256 .f32) (x2 : Vec F S512x512 .f32) (x3 : Vec F S512x512 .f32) (x4 : Vec F S1x512 .f32) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S512x512 .bf16 :=
  k0_pay1 (k0_pay14 (k0_pay5 x5 x6 x0) (k0_pay7 x2) (k0_pay8 x5 x6 x0) (k0_pay9 x5 x6 x1) (k0_pay10 s) x7 x8) (k0_pay15 (k0_pay5 x5 x6 x0) (k0_pay7 x2) (k0_pay8 x5 x6 x0) (k0_pay9 x5 x6 x1) (k0_pay10 s) x7 x8) x3 x4

/-- The rows of y one block leaves. -/
def y0 (x0 : Vec F S512x256 .f32) (x1 : Vec F S512x256 .f32) (x2 : Vec F S512x512 .f32) (x3 : Vec F S512x512 .f32) (x4 : Vec F S1x512 .f32) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S512x512 .f32 :=
  k0_pay12 (k0_pay5 x5 x6 x0) (k0_pay7 x2) (k0_pay8 x5 x6 x0) (k0_pay9 x5 x6 x1) (k0_pay10 s) x7 x8

/-- The state before the block, as it is stored. -/
def state0 (x0 : Vec F S512x256 .f32) (x1 : Vec F S512x256 .f32) (x2 : Vec F S512x512 .f32) (x3 : Vec F S512x512 .f32) (x4 : Vec F S1x512 .f32) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S1x1x256x512 .bf16 :=
  k0_pay11 s

/-- The state after the block. -/
def next0 (x0 : Vec F S512x256 .f32) (x1 : Vec F S512x256 .f32) (x2 : Vec F S512x512 .f32) (x3 : Vec F S512x512 .f32) (x4 : Vec F S1x512 .f32) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S256x512 .f32 :=
  k0_pay13 (k0_pay6 x5 x6 x1) (k0_pay7 x2) s x10 x9

/-- The first point of a head: the body clears the state it carries. -/
abbrev first0 (i : grid0.Coords) : Prop := (Scalar.cmpi .ne (Scalar.extui (Scalar.cmpi .eq (BitVec.ofNat 32 (i 1).val) 0#32)) 0#32) = 1#1

theorem first0_iff : ∀ t : Fin cfg0.N, first0 (grid0.coords t) ↔ t.val % 32 = 0 := by decide +kernel

set_option maxHeartbeats 2000000 in
/-- One run of the body, at the first point of a head: the state is cleared first. -/
theorem body0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x1x512 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1x1x256x512 .bf16) (harg15 : arg15.IsWhole) (arg16 : Memref sig .tc .vmem S256x512 .f32) (harg16 : arg16.IsWhole) (hc : first0 i) (x0 : Vec F S512x256 .f32) (x1 : Vec F S512x256 .f32) (x2 : Vec F S512x512 .f32) (x3 : Vec F S512x512 .f32) (x4 : Vec F S1x512 .f32) (x5 : Vec F S512x128 .f32) (x6 : Vec F S512x128 .f32) (x7 : Vec F S1x512x512 .f32) (x8 : Vec F S1x512x256 .f32) (x9 : Vec F S1x512x256 .f32) (x10 : Vec F S1x1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (gated0 x0 x1 x2 x3 x4 x5 x6 x7 x8 x9 x10 (k0_pay2 (F := F))) ∗ owns (c : Thread nD τ) arg14 fullShare (y0 x0 x1 x2 x3 x4 x5 x6 x7 x8 x9 x10 (k0_pay2 (F := F))) ∗ owns (c : Thread nD τ) arg15 fullShare (state0 x0 x1 x2 x3 x4 x5 x6 x7 x8 x9 x10 (k0_pay2 (F := F))) ∗ owns (c : Thread nD τ) arg16 fullShare (next0 x0 x1 x2 x3 x4 x5 x6 x7 x8 x9 x10 (k0_pay2 (F := F)))) -∗ K ⟨⟩))
      ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ret_fwd_eq_skeleton]; unfold cc0_ret_fwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; rw [View.read_writes_full]; unfold gated0; frame_out
  isplitl [H12]
  · iexists _; isplitr; swap; · iexact H12
    ipureintro; rw [View.read_writes_full]; unfold y0; frame_out
  isplitl [H13]
  · iexists _; isplitr; swap; · iexact H13
    ipureintro; rw [View.read_writes_full]; unfold state0; frame_out
  iexists _; isplitr; swap; · iexact HS0
  ipureintro; rw [View.read_writes_full]; unfold next0; frame_out
set_option maxHeartbeats 2000000 in
/-- One run of the body, at a later point of a head, from the state the point before left. -/
theorem body0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x1x512 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1x1x256x512 .bf16) (harg15 : arg15.IsWhole) (arg16 : Memref sig .tc .vmem S256x512 .f32) (harg16 : arg16.IsWhole) (hc : ¬ first0 i) (x0 : Vec F S512x256 .f32) (x1 : Vec F S512x256 .f32) (x2 : Vec F S512x512 .f32) (x3 : Vec F S512x512 .f32) (x4 : Vec F S1x512 .f32) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (gated0 x0 x1 x2 x3 x4 x5 x6 x7 x8 x9 x10 s) ∗ owns (c : Thread nD τ) arg14 fullShare (y0 x0 x1 x2 x3 x4 x5 x6 x7 x8 x9 x10 s) ∗ owns (c : Thread nD τ) arg15 fullShare (state0 x0 x1 x2 x3 x4 x5 x6 x7 x8 x9 x10 s) ∗ owns (c : Thread nD τ) arg16 fullShare (next0 x0 x1 x2 x3 x4 x5 x6 x7 x8 x9 x10 s)) -∗ K ⟨⟩))
      ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ret_fwd_eq_skeleton]; unfold cc0_ret_fwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; rw [View.read_writes_full]; unfold gated0; frame_out
  isplitl [H12]
  · iexists _; isplitr; swap; · iexact H12
    ipureintro; rw [View.read_writes_full]; unfold y0; frame_out
  isplitl [H13]
  · iexists _; isplitr; swap; · iexact H13
    ipureintro; rw [View.read_writes_full]; unfold state0; frame_out
  iexists _; isplitr; swap; · iexact HS0
  ipureintro; rw [View.read_writes_full]; unfold next0; frame_out
end Cert.KernelIdeal.Ret

end
-- ==== Proof.KerFwdData.lean ====
/-
The forward call over any contents of its arrays: the state carried from block to block, and the body at every point.
-/
module

public import proofs.«01_k».proof.Proof.KerFwd

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array's contents `V` at the call's entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state carried after point `n`: one more block over the state of the point before, over zero at a head's first. -/
def carry0 (c : Dev nD) : (n : ℕ) → n < cfg0.N → Vec F S256x512 .f32
  | 0, h => next0 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (iblk0 V c 7 ⟨0, h⟩) (iblk0 V c 8 ⟨0, h⟩) (iblk0 V c 9 ⟨0, h⟩) (iblk0 V c 10 ⟨0, h⟩) (k0_pay2 (F := F))
  | n + 1, h => next0 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (iblk0 V c 7 ⟨n + 1, h⟩) (iblk0 V c 8 ⟨n + 1, h⟩) (iblk0 V c 9 ⟨n + 1, h⟩) (iblk0 V c 10 ⟨n + 1, h⟩) (if (n + 1) % 32 = 0 then (k0_pay2 (F := F)) else carry0 c n (Nat.lt_of_succ_lt h))

/-- The state the body finds at point `t`. -/
def found0 (c : Dev nD) (t : Fin cfg0.N) : Vec F S256x512 .f32 :=
  if t.val % 32 = 0 then (k0_pay2 (F := F)) else carry0 V c (t.val - 1) (lt_of_le_of_lt (Nat.sub_le _ _) t.isLt)

theorem carry0_eq (c : Dev nD) (t : Fin cfg0.N) : carry0 V c t.val t.isLt = next0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t) := by
  obtain ⟨n, hn⟩ := t
  cases n with
  | zero => unfold found0; rw [if_pos (Nat.zero_mod _)]; rfl
  | succ n => rfl

/-- The state's buffer. -/
abbrev scr0 : Memref sig .tc .vmem S256x512 .f32 := Memref.whole cc0_scratch0

/-- The other scoped buffers, at any contents. -/
abbrev rest0 (c : Dev nD) : sProp 𝕄 := Pipeline.scopedRestBut (Ix := Unit) (Name := ℕ) (U := UR sig nD τ) (Lvl := ℕ) (Val := Elt F) spec0 c [cc0_scratch0]

theorem any0_eq (c : Dev nD) : (Pipeline.ΦA spec0 c : sProp 𝕄)
    = iprop(iprop((∃ d, owns (c : Thread nD τ) scr0 fullShare d) ∗ rest0 (F := F) c) ∗ (∃ r, prngReg c r)) := by
  unfold Pipeline.ΦA; rw [scopedRest0_split]; simp only [scr0, owns_whole]; try rfl

/-- What holds between the points: the carried state at its value, once there is one. -/
def inv0 (c : Dev nD) : (n : ℕ) → n ≤ cfg0.N → sProp 𝕄
  | 0, _ => Pipeline.ΦA spec0 c
  | n + 1, h => iprop(iprop(owns (c : Thread nD τ) scr0 fullShare (carry0 V c n h) ∗ rest0 (F := F) c) ∗ (∃ r, prngReg c r))

theorem inv0_pos (c : Dev nD) (n : ℕ) (h : n ≤ cfg0.N) (hz : n ≠ 0) :
    inv0 V c n h = iprop(iprop(owns (c : Thread nD τ) scr0 fullShare (carry0 V c (n - 1) (by omega)) ∗ rest0 (F := F) c) ∗ (∃ r, prngReg c r)) := by
  cases n with
  | zero => exact absurd rfl hz
  | succ n => rfl

theorem inv0_any (c : Dev nD) (n : ℕ) (h : n ≤ cfg0.N) : inv0 V c n h ⊢ (Pipeline.ΦA spec0 c : sProp 𝕄) := by
  cases n with
  | zero => exact .rfl
  | succ n =>
    rw [any0_eq]; unfold inv0
    iintro ⟨⟨HS, HR⟩, Hg⟩
    isplitl [HS HR]
    · isplitl [HS]
      · iexists _; iexact HS
      iexact HR
    iexact Hg

/-- The proof data of the call: its arrays as `V` gives them, each buffer after the body at the value computed, the carried state between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => gated0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t)
    | ⟨12, _⟩ => y0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t)
    | ⟨13, _⟩ => state0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t)
  Φ t := inv0 V c t.val (Nat.le_of_lt_succ t.isLt)
  q w := Pipeline.shareOf spec0 w
  owed _ := 0

theorem A0_eq (c : Dev nD) (w : Fin cfg0.W) : (dat0 V c).A w = V c (Pipeline.arrRef spec0 w) := by dsimp only [dat0]

theorem inv0_castSucc (c : Dev nD) (t : Fin cfg0.N) : (dat0 V c).Φ t.castSucc = inv0 V c t.val (Nat.le_of_lt t.isLt) := by
  dsimp only [dat0]; exact Pipeline.Dat.Φ_castSucc (inv0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = gated0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t) := by dsimp only [dat0]
theorem after0_12 (c : Dev nD) (t : Fin cfg0.N) : (dat0 V c).after 12 t = y0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t) := by dsimp only [dat0]
theorem after0_13 (c : Dev nD) (t : Fin cfg0.N) : (dat0 V c).after 13 t = state0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (found0 V c t) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A0_eq]; try rfl) t d).trans
    (by unfold Dat.fetched Dat.blockOf iblk0; rw [A0_eq]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A0_eq]; try rfl) t d).trans
    (by unfold Dat.fetched Dat.blockOf iblk0; rw [A0_eq]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A0_eq]; try rfl) t d).trans
    (by unfold Dat.fetched Dat.blockOf iblk0; rw [A0_eq]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A0_eq]; try rfl) t d).trans
    (by unfold Dat.fetched Dat.blockOf iblk0; rw [A0_eq]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A0_eq]; try rfl) t d).trans
    (by unfold Dat.fetched Dat.blockOf iblk0; rw [A0_eq]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A0_eq]; try rfl) t d).trans
    (by unfold Dat.fetched Dat.blockOf iblk0; rw [A0_eq]; try rfl)

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 4000000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6, before0_7, before0_8, before0_9, before0_10]
  rw [show (dat0 V c).owesAt () t.succ = (dat0 V c).owesAt () t.castSucc from rfl,
    after0_0, after0_1, after0_2, after0_3, after0_4, after0_5, after0_6, after0_7, after0_8, after0_9, after0_10, after0_11, after0_12, after0_13]
  rw [show (dat0 V c).Φ t.succ = iprop(iprop(owns (c : Thread nD τ) scr0 fullShare (carry0 V c t.val t.isLt) ∗ rest0 (F := F) c) ∗ (∃ r, prngReg c r)) from rfl,
    carry0_eq, inv0_castSucc]
  by_cases h0 : t.val % 32 = 0
  · rw [show found0 V c t = (k0_pay2 (F := F)) from if_pos h0]
    refine (sep_mono_left (inv0_any V c _ _)).trans ?_
    rw [any0_eq]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (body0_A c (grid0.coords t) _ _ _ _ _ _ _ _ _ _ _ _ _ _ _ _ _ _ _ _ _ _ _ _ _ _ _ _ _ _ ((first0_iff t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · have hz : t.val ≠ 0 := fun e => h0 (by rw [e])
    rw [inv0_pos V c _ _ hz, show found0 V c t = carry0 V c (t.val - 1) (lt_of_le_of_lt (Nat.sub_le _ _) t.isLt) from if_neg h0]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (body0_B c (grid0.coords t) _ _ _ _ _ _ _ _ _ _ _ _ _ _ _ _ _ _ _ _ _ _ _ _ _ _ _ _ _ _ (fun h => h0 ((first0_iff t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

theorem row0 (t : Fin cfg0.N) : defs₀ (F := F) .tc cfg0.body (cfg0.bodyArgs t (cfg0.slots t)) = bodyAt0 t := by
  unfold defs₀; rw [Defs.onTc_tc]

theorem oblig0 (c : Dev nD) : BodyObligation (dat0 V c) (defs₀ (F := F)) Variants.none () Set.univ := fun t => by
  rw [bigSep_W0, bigSep_W0, row0]
  exact triple_restated (sound0 V c t) rfl .rfl fun _ => .rfl

theorem into0 (c : Dev nD) : Pipeline.ΦA spec0 c ⊢ (dat0 V c).Φ 0 := by
  rw [show (dat0 V c).Φ 0 = inv0 V c 0 (Nat.zero_le _) from rfl]; exact .rfl

theorem outof0 (c : Dev nD) : (dat0 V c).Φ (Fin.last cfg0.N) ⊢ Pipeline.ΦA spec0 c := by
  rw [show (dat0 V c).Φ (Fin.last cfg0.N) = inv0 V c cfg0.N le_rfl from rfl]; exact inv0_any V c _ _

end

end Cert.KernelIdeal.Ret

end
-- ==== Proof.KerBwd.lean ====
/-
The backward retention kernel at one grid point: what it leaves in its blocks and in the state gradient it carries.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.ValueKit
public import Idealize.ShloMosaic.Lib.VecWindow
public import Idealize.ShloMosaic.Lib.Tactic

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The gradient of q one block of the backward pass leaves. -/
def dq1 (x0 : Vec F S512x256 .f32) (x1 : Vec F S512x256 .f32) (x2 : Vec F S512x512 .f32) (x3 : Vec F S512x512 .bf16) (x4 : Vec F S1x1x256x512 .bf16) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S512x256 .bf16 :=
  k1_pay4 (k1_pay20 (k1_pay11 x2) (k1_pay13 x5 x6 x1) x3 (k1_pay14 x4) x7 x8) x5 x6

/-- The gradient of k one block leaves. -/
def dk1 (x0 : Vec F S512x256 .f32) (x1 : Vec F S512x256 .f32) (x2 : Vec F S512x512 .f32) (x3 : Vec F S512x512 .bf16) (x4 : Vec F S1x1x256x512 .bf16) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S512x256 .bf16 :=
  k1_pay5 (k1_pay21 (k1_pay11 x2) (k1_pay12 x5 x6 x0) x3 x7 x9 s) x5 x6

/-- The gradient of v one block leaves. -/
def dv1 (x0 : Vec F S512x256 .f32) (x1 : Vec F S512x256 .f32) (x2 : Vec F S512x512 .f32) (x3 : Vec F S512x512 .bf16) (x4 : Vec F S1x1x256x512 .bf16) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S512x512 .bf16 :=
  k1_pay22 (k1_pay10 x5 x6 x1) (k1_pay12 x5 x6 x0) (k1_pay13 x5 x6 x1) x3 x7 x9 s

/-- The gradient of the state before the block, carried to the next point. -/
def next1 (x0 : Vec F S512x256 .f32) (x1 : Vec F S512x256 .f32) (x2 : Vec F S512x512 .f32) (x3 : Vec F S512x512 .bf16) (x4 : Vec F S1x1x256x512 .bf16) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) : Vec F S256x512 .f32 :=
  k1_pay1 (k1_pay23 s x10) (k1_pay24 (k1_pay9 x5 x6 x0) x3 x8)

/-- The first point of a head: the body clears the state it carries. -/
abbrev first1 (i : grid1.Coords) : Prop := (Scalar.cmpi .ne (Scalar.extui (Scalar.cmpi .eq (BitVec.ofNat 32 (i 1).val) 0#32)) 0#32) = 1#1

theorem first1_iff : ∀ t : Fin cfg1.N, first1 (grid1.coords t) ↔ t.val % 32 = 0 := by decide +kernel

set_option maxHeartbeats 2000000 in
/-- One run of the body, at the first point of a head: the state is cleared first. -/
theorem body1_A (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x1x256x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x512 .bf16) (harg15 : arg15.IsWhole) (arg16 : Memref sig .tc .vmem S256x512 .f32) (harg16 : arg16.IsWhole) (hc : first1 i) (x0 : Vec F S512x256 .f32) (x1 : Vec F S512x256 .f32) (x2 : Vec F S512x512 .f32) (x3 : Vec F S512x512 .bf16) (x4 : Vec F S1x1x256x512 .bf16) (x5 : Vec F S512x128 .f32) (x6 : Vec F S512x128 .f32) (x7 : Vec F S1x512x512 .f32) (x8 : Vec F S1x512x256 .f32) (x9 : Vec F S1x512x256 .f32) (x10 : Vec F S1x1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (dq1 x0 x1 x2 x3 x4 x5 x6 x7 x8 x9 x10 (k1_pay6 (F := F))) ∗ owns (c : Thread nD τ) arg14 fullShare (dk1 x0 x1 x2 x3 x4 x5 x6 x7 x8 x9 x10 (k1_pay6 (F := F))) ∗ owns (c : Thread nD τ) arg15 fullShare (dv1 x0 x1 x2 x3 x4 x5 x6 x7 x8 x9 x10 (k1_pay6 (F := F))) ∗ owns (c : Thread nD τ) arg16 fullShare (next1 x0 x1 x2 x3 x4 x5 x6 x7 x8 x9 x10 (k1_pay6 (F := F)))) -∗ K ⟨⟩))
      ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_ret_bwd_eq_skeleton]; unfold cc1_ret_bwd_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; rw [View.read_writes_full]; unfold dq1; frame_out
  isplitl [H12]
  · iexists _; isplitr; swap; · iexact H12
    ipureintro; rw [View.read_writes_full]; unfold dk1; frame_out
  isplitl [H13]
  · iexists _; isplitr; swap; · iexact H13
    ipureintro; rw [View.read_writes_full]; unfold dv1; frame_out
  iexists _; isplitr; swap; · iexact HS0
  ipureintro; rw [View.read_writes_full]; unfold next1; frame_out
set_option maxHeartbeats 2000000 in
/-- One run of the body, at a later point of a head, from the state the point before left. -/
theorem body1_B (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x512 .bf16) (harg5 : arg5.IsWhole) (arg6 : Memref sig .tc .vmem S1x1x256x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x256 .f32) (harg10 : arg10.IsWhole) (arg11 : Memref sig .tc .vmem S1x512x256 .f32) (harg11 : arg11.IsWhole) (arg12 : Memref sig .tc .vmem S1x1x512 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x512 .bf16) (harg15 : arg15.IsWhole) (arg16 : Memref sig .tc .vmem S256x512 .f32) (harg16 : arg16.IsWhole) (hc : ¬ first1 i) (x0 : Vec F S512x256 .f32) (x1 : Vec F S512x256 .f32) (x2 : Vec F S512x512 .f32) (x3 : Vec F S512x512 .bf16) (x4 : Vec F S1x1x256x512 .bf16) (x5 : Vec F S512x128 .f32) (x6 : Vec F S512x128 .f32) (x7 : Vec F S1x512x512 .f32) (x8 : Vec F S1x512x256 .f32) (x9 : Vec F S1x512x256 .f32) (x10 : Vec F S1x1x512 .f32) (s : Vec F S256x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (dq1 x0 x1 x2 x3 x4 x5 x6 x7 x8 x9 x10 s) ∗ owns (c : Thread nD τ) arg14 fullShare (dk1 x0 x1 x2 x3 x4 x5 x6 x7 x8 x9 x10 s) ∗ owns (c : Thread nD τ) arg15 fullShare (dv1 x0 x1 x2 x3 x4 x5 x6 x7 x8 x9 x10 s) ∗ owns (c : Thread nD τ) arg16 fullShare (next1 x0 x1 x2 x3 x4 x5 x6 x7 x8 x9 x10 s)) -∗ K ⟨⟩))
      ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_ret_bwd_eq_skeleton]; unfold cc1_ret_bwd_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; rw [View.read_writes_full]; unfold dq1; frame_out
  isplitl [H12]
  · iexists _; isplitr; swap; · iexact H12
    ipureintro; rw [View.read_writes_full]; unfold dk1; frame_out
  isplitl [H13]
  · iexists _; isplitr; swap; · iexact H13
    ipureintro; rw [View.read_writes_full]; unfold dv1; frame_out
  iexists _; isplitr; swap; · iexact HS0
  ipureintro; rw [View.read_writes_full]; unfold next1; frame_out
end Cert.KernelIdeal.Ret

end
-- ==== Proof.Retention.lean ====
module

public import Mathlib.Analysis.SpecialFunctions.Exp
public import Mathlib.Algebra.BigOperators.Intervals

/-! # Retention over the real numbers, scanned in blocks

The decay between two rows is `exp (g * |i - j|)` where row `j`'s chunk of 64 is not after row `i`'s, and zero
otherwise. Attending every row to every row with that decay (`attend`), and the transposed sum (`spread`), are what a scan
over blocks of `B` rows computes from the sum inside a block and a state carried from block to block, whatever `B` is, as
long as 64 divides it: the reference scans blocks of 64 rows, the kernels blocks of 512. -/

@[expose] public section

noncomputable section

namespace Cert.Retention

open Finset

/-- The decay from row `j` to row `i` at rate `g`. -/
def decay (g : ℝ) (i j : ℕ) : ℝ := if j / 64 ≤ i / 64 then Real.exp (g * |(i : ℝ) - j|) else 0

/-- Row `i` attends to all rows: the product of `q i` with each `k j`, decayed, weighs `v j`. -/
def attend (g : ℝ) (T D : ℕ) (q k v : ℕ → ℕ → ℝ) (i e : ℕ) : ℝ :=
  ∑ j ∈ range T, (∑ d ∈ range D, q i d * k j d) * decay g i j * v j e

/-- The transposed sum: what row `j` gathers from all rows that attend to it. -/
def spread (g : ℝ) (T D : ℕ) (q k u : ℕ → ℕ → ℝ) (j e : ℕ) : ℝ :=
  ∑ i ∈ range T, (∑ d ∈ range D, q i d * k j d) * decay g i j * u i e

/-- The state before block `n` of the forward scan, of the summands `f`. -/
def state (B : ℕ) (g : ℝ) (f : ℕ → ℝ) : ℕ → ℝ
  | 0 => 0
  | n + 1 => state B g f n * Real.exp (g * B) + ∑ j ∈ range B, f (B * n + j) * Real.exp (g * ((B : ℝ) - 1 - j))

/-- The state after `n` blocks of the reverse scan over `N` blocks, of the summands `f`. -/
def back (B N : ℕ) (g : ℝ) (f : ℕ → ℝ) : ℕ → ℝ
  | 0 => 0
  | n + 1 => back B N g f n * Real.exp (g * B) + ∑ i ∈ range B, f (B * (N - 1 - n) + i) * Real.exp (g * ((i : ℝ) + 1))

theorem state_eq (B : ℕ) (g : ℝ) (f : ℕ → ℝ) : ∀ n, state B g f n
    = ∑ j ∈ range (B * n), f j * Real.exp (g * ((B * n : ℕ) - 1 - (j : ℝ)))
  | 0 => by simp [state]
  | n + 1 => by
    rw [state, state_eq B g f n, Nat.mul_succ, Finset.sum_range_add, Finset.sum_mul]
    congr 1
    · refine Finset.sum_congr rfl fun j _ => ?_
      rw [mul_assoc, ← Real.exp_add]; congr 2; push_cast; ring
    · refine Finset.sum_congr rfl fun j _ => ?_
      congr 2; push_cast; ring

theorem back_eq (B N : ℕ) (g : ℝ) (f : ℕ → ℝ) : ∀ n, n ≤ N → back B N g f n
    = ∑ i ∈ range (B * n), f (B * (N - n) + i) * Real.exp (g * ((i : ℝ) + 1))
  | 0, _ => by simp [back]
  | n + 1, h => by
    rw [back, back_eq B N g f n (by omega), Nat.mul_succ, Nat.add_comm (B * n) B, Finset.sum_range_add, Finset.sum_mul,
      add_comm]
    have e : N - 1 - n = N - (n + 1) := by omega
    rw [e]
    congr 1
    refine Finset.sum_congr rfl fun i _ => ?_
    have e' : B * (N - n) + i = B * (N - (n + 1)) + (B + i) := by
      rw [show N - n = N - (n + 1) + 1 by omega, Nat.mul_succ]; omega
    rw [e', mul_assoc, ← Real.exp_add]; congr 2; push_cast; ring

theorem decay_add (g : ℝ) {B : ℕ} (hB : 64 ∣ B) (n r x : ℕ) : decay g (B * n + r) (B * n + x) = decay g r x := by
  obtain ⟨b, rfl⟩ := hB
  have e : ∀ r, (64 * b * n + r) / 64 = b * n + r / 64 := fun r => by rw [Nat.mul_assoc]; omega
  unfold decay
  rw [e, e]
  have : ((64 * b * n + r : ℕ) : ℝ) - (64 * b * n + x : ℕ) = (r : ℝ) - x := by push_cast; ring
  rw [this]
  simp only [Nat.add_le_add_iff_left]

theorem decay_before (g : ℝ) (i j : ℕ) (h : j ≤ i) : decay g i j = Real.exp (g * ((i : ℝ) - j)) := by
  unfold decay
  rw [if_pos (Nat.div_le_div_right h), abs_of_nonneg (sub_nonneg.mpr (Nat.cast_le.mpr h))]

theorem decay_after (g : ℝ) {B : ℕ} (hB : 64 ∣ B) (n r j : ℕ) (hr : r < B) (h : B * n + B ≤ j) : decay g (B * n + r) j = 0 := by
  obtain ⟨b, rfl⟩ := hB
  unfold decay
  rw [if_neg]
  have h1 : (64 * b * n + r) / 64 < b * n + b := by
    rw [Nat.div_lt_iff_lt_mul (by norm_num)]; nlinarith
  have h2 : b * n + b ≤ j / 64 := by
    rw [Nat.le_div_iff_mul_le (by norm_num)]; nlinarith
  omega

/-- Attending with the state carried from the blocks before. -/
theorem attend_block (g : ℝ) {B N : ℕ} (hB : 64 ∣ B) (D : ℕ) (q k v : ℕ → ℕ → ℝ) {n r : ℕ} (hn : n < N) (hr : r < B) (e : ℕ) :
    (∑ x ∈ range B, (∑ d ∈ range D, q (B * n + r) d * k (B * n + x) d) * decay g r x * v (B * n + x) e)
      + Real.exp (g * ((r : ℝ) + 1)) * (∑ d ∈ range D, q (B * n + r) d * state B g (fun j => k j d * v j e) n)
    = attend g (B * N) D q k v (B * n + r) e := by
  obtain ⟨m, rfl⟩ : ∃ m, N = n + 1 + m := ⟨N - (n + 1), by omega⟩
  unfold attend
  rw [Nat.mul_add, Nat.mul_succ, Finset.sum_range_add, Finset.sum_range_add]
  have h3 : (∑ x ∈ range (B * m), (∑ d ∈ range D, q (B * n + r) d * k (B * n + B + x) d)
      * decay g (B * n + r) (B * n + B + x) * v (B * n + B + x) e) = 0 :=
    Finset.sum_eq_zero fun x _ => by rw [decay_after g hB n r _ hr (by omega)]; ring
  rw [h3, add_zero, add_comm]
  congr 1
  · simp only [state_eq, Finset.mul_sum, Finset.sum_mul]
    rw [Finset.sum_comm]
    refine Finset.sum_congr rfl fun j hj => Finset.sum_congr rfl fun d _ => ?_
    have hj' : j < B * n := Finset.mem_range.mp hj
    rw [decay_before g _ _ (by omega)]
    have : Real.exp (g * (((B * n + r : ℕ) : ℝ) - j)) = Real.exp (g * ((r : ℝ) + 1)) * Real.exp (g * ((B * n : ℕ) - 1 - (j : ℝ))) := by
      rw [← Real.exp_add]; congr 1; push_cast; ring
    rw [this]; ring
  · exact Finset.sum_congr rfl fun x _ => by rw [decay_add g hB]

/-- Gathering with the state carried from the blocks after. -/
theorem spread_block (g : ℝ) {B N : ℕ} (hB : 64 ∣ B) (D : ℕ) (q k u : ℕ → ℕ → ℝ) {n x : ℕ} (hn : n < N) (hx : x < B) (e : ℕ) :
    (∑ i ∈ range B, (∑ d ∈ range D, q (B * n + i) d * k (B * n + x) d) * decay g i x * u (B * n + i) e)
      + Real.exp (g * ((B : ℝ) - 1 - x)) * (∑ d ∈ range D, k (B * n + x) d * back B N g (fun i => q i d * u i e) (N - 1 - n))
    = spread g (B * N) D q k u (B * n + x) e := by
  obtain ⟨m, rfl⟩ : ∃ m, N = n + 1 + m := ⟨N - (n + 1), by omega⟩
  unfold spread
  rw [Nat.mul_add, Nat.mul_succ, Finset.sum_range_add, Finset.sum_range_add]
  have h1 : (∑ i ∈ range (B * n), (∑ d ∈ range D, q i d * k (B * n + x) d) * decay g i (B * n + x) * u i e) = 0 := by
    refine Finset.sum_eq_zero fun i hi => ?_
    have hi' : i < B * n := Finset.mem_range.mp hi
    obtain ⟨n', rfl⟩ : ∃ n', n = n' + 1 := ⟨n - 1, by rcases n with _ | n; · simp at hi'
                                                      · simp⟩
    have hB0 : 0 < B := by omega
    have hd : decay g i (B * (n' + 1) + x) = 0 := by
      have := decay_after g hB (i / B) (i % B) (B * (n' + 1) + x) (Nat.mod_lt _ hB0) (by
        have : i / B < n' + 1 := (Nat.div_lt_iff_lt_mul hB0).mpr (by rw [Nat.mul_comm]; exact hi')
        have h' : B * (i / B) + B ≤ B * (n' + 1) := by rw [← Nat.mul_succ]; exact Nat.mul_le_mul_left _ this
        omega)
      rwa [Nat.div_add_mod] at this
    rw [hd]; ring
  rw [h1, zero_add]
  congr 1
  · exact Finset.sum_congr rfl fun i _ => by rw [decay_add g hB]
  · have e1 : n + 1 + m - 1 - n = m := by omega
    have e2 : n + 1 + m - m = n + 1 := by omega
    rw [e1]
    simp only [back_eq B (n + 1 + m) g _ m (by omega), e2, Finset.mul_sum, Finset.sum_mul]
    rw [Finset.sum_comm]
    refine Finset.sum_congr rfl fun i _ => Finset.sum_congr rfl fun d _ => ?_
    rw [decay_before g _ _ (by omega), Nat.mul_succ]
    have : Real.exp (g * (((B * n + B + i : ℕ) : ℝ) - (B * n + x : ℕ)))
        = Real.exp (g * ((B : ℝ) - 1 - x)) * Real.exp (g * ((i : ℝ) + 1)) := by
      rw [← Real.exp_add]; congr 1; push_cast; ring
    rw [this]; ring

/-- Turning a row's two halves by the angles whose cosines and sines are `c` and `s`, and turning it back. -/
def rope (p c s : ℕ → ℝ) (d : ℕ) : ℝ :=
  if d < 128 then p d * c d - p (128 + d) * s d else p (d - 128) * s (d - 128) + p (128 + (d - 128)) * c (d - 128)
def unrope (p c s : ℕ → ℝ) (d : ℕ) : ℝ :=
  if d < 128 then p d * c d + p (128 + d) * s d else p (128 + (d - 128)) * c (d - 128) - p (d - 128) * s (d - 128)

/-! ## The retention of a row of projections

`P` holds the projections, a row's queries at columns 0 to 1023, its keys at 1024 to 2047, its values at 2048 to 4095 and its
gate after them, of four heads each; `U` the gradient of the output; `C` and `S` the cosines and sines of the rows; `g` the
logarithms of the heads' decays. -/

variable (P U C S : ℕ → ℕ → ℝ) (g : ℕ → ℝ) (h : ℕ)

def query (i d : ℕ) : ℝ := rope (fun d => P i (256 * h + d)) (C i) (S i) d
def key (i d : ℕ) : ℝ := rope (fun d => P i (1024 + 256 * h + d)) (C i) (S i) d * (1 / 16)
def value (i e : ℕ) : ℝ := P i (2048 + 512 * h + e)
def grad (i e : ℕ) : ℝ := U i (512 * h + e)

/-- The output, and the gradients of the projected queries, keys and values. -/
def out (i e : ℕ) : ℝ := attend (g h) 16384 256 (query P C S h) (key P C S h) (value P h) i e
def gradQ (i d : ℕ) : ℝ := unrope (attend (g h) 16384 512 (grad U h) (value P h) (key P C S h) i) (C i) (S i) d
def gradK (i d : ℕ) : ℝ :=
  unrope (fun d => spread (g h) 16384 512 (grad U h) (value P h) (query P C S h) i d * (1 / 16)) (C i) (S i) d
def gradV (i e : ℕ) : ℝ := spread (g h) 16384 256 (query P C S h) (key P C S h) (grad U h) i e

end Cert.Retention
-- ==== Proof.Tables.lean ====
module

public import proofs.«01_k».proof.Proof.Retention
public import Idealize.ShloMosaic.Lib.Pointwise

/-! # The tables of retention as real numbers: the heads' rates, the rows' angles, the constants -/

@[expose] public section

noncomputable section

namespace Cert.Retention

open Idealize.ShloMosaic

theorem csum {n : ℕ} (f : Fin n → ℝ) : (∑ x, ((f x : ℝ) : EReal)) = ((∑ x, f x : ℝ) : EReal) := by
  induction n with
  | zero => simp
  | succ n ih => rw [Fin.sum_univ_succ, Fin.sum_univ_succ, ih, EReal.coe_add]

theorem sixteenth : (Ideal.ofBits .f32 0x3D800000#32 : Ideal .f32) = ((1 / 16 : ℝ) : EReal) := by
  simp [Ideal.ofBits, Ideal.ieee, -EReal.coe_mul]; norm_num
theorem c_2 : (Ideal.ofBits .f32 0x40000000#32 : Ideal .f32) = ((2 : ℝ) : EReal) := by
  simp [Ideal.ofBits, Ideal.ieee, -EReal.coe_mul]; norm_num
theorem c_256 : (Ideal.ofBits .f32 0x43800000#32 : Ideal .f32) = ((256 : ℝ) : EReal) := by
  simp [Ideal.ofBits, Ideal.ieee, -EReal.coe_mul]; norm_num
theorem c_10000 : (Ideal.ofBits .f32 0x461C4000#32 : Ideal .f32) = ((10000 : ℝ) : EReal) := by
  simp [Ideal.ofBits, Ideal.ieee, -EReal.coe_mul]; norm_num
theorem c_511 : (Ideal.ofBits .f32 0x43FF8000#32 : Ideal .f32) = (((512 : ℕ) - 1 : ℝ) : EReal) := by
  rw [show ((512 : ℕ) : ℝ) - 1 = 511 by norm_num]
  simp [Ideal.ofBits, Ideal.ieee, -EReal.coe_mul]; norm_num
theorem c_512 : (Ideal.ofBits .f32 0x44000000#32 : Ideal .f32) = (((512 : ℕ) : ℝ) : EReal) := by
  simp [Ideal.ofBits, Ideal.ieee, -EReal.coe_mul]; norm_num
theorem c_63 : (Ideal.ofBits .f32 0x427C0000#32 : Ideal .f32) = (((64 : ℕ) - 1 : ℝ) : EReal) := by
  rw [show ((64 : ℕ) : ℝ) - 1 = 63 by norm_num]
  simp [Ideal.ofBits, Ideal.ieee, -EReal.coe_mul]; norm_num
theorem c_64 : (Ideal.ofBits .f32 0x42800000#32 : Ideal .f32) = (((64 : ℕ) : ℝ) : EReal) := by
  simp [Ideal.ofBits, Ideal.ieee, -EReal.coe_mul]; norm_num
theorem c_m5 : (Ideal.ofBits .f32 0xC0A00000#32 : Ideal .f32) = ((-5 : ℝ) : EReal) := by
  simp [Ideal.ofBits, Ideal.ieee, -EReal.coe_mul]; norm_num
theorem c_ln2 : (Ideal.ofBits .f32 0x3F317218#32 : Ideal .f32) = ((11629080 / 16777216 : ℝ) : EReal) := by
  simp [Ideal.ofBits, Ideal.ieee, -EReal.coe_mul]; norm_num
/-- The small number added to a variance. -/
def eps : ℝ := 10995116 / 1099511627776
theorem c_eps : (Ideal.ofBits .f32 0x3727C5AC#32 : Ideal .f32) = ((eps : ℝ) : EReal) := by
  simp [Ideal.ofBits, Ideal.ieee, -EReal.coe_mul, eps]; norm_num

theorem word_real (n : ℕ) (h : n < 2 ^ 31) : (FloatOps.sitofp .f32 (BitVec.ofNat 32 n) : Ideal .f32) = ((n : ℝ) : EReal) := by
  show ((((BitVec.ofNat 32 n).toInt : ℤ) : ℝ) : EReal) = _
  have e : (BitVec.ofNat 32 n).toNat = n := by rw [BitVec.toNat_ofNat]; omega
  rw [BitVec.toInt_eq_toNat_of_lt (by rw [e]; omega), e]; simp

theorem abs_real (a : ℝ) : (FloatOps.absf (((a : ℝ) : EReal) : Ideal .f32) : Ideal .f32) = ((|a| : ℝ) : EReal) := by
  show max (a : EReal) (-(a : EReal)) = _
  rw [← EReal.coe_neg, abs_eq_max_neg]
  exact (EReal.coe_strictMono.monotone.map_max).symm

theorem one_real : (1 : EReal) = ((1 : ℝ) : EReal) := rfl

/-- The logarithm of head `h`'s decay. -/
def rate (h : ℕ) : ℝ := Real.log (1 + -Real.exp (11629080 / 16777216 * (-5 - h)))

theorem rate_eq (h : ℕ) (hh : h < 4) : Ideal.log1p (-Ideal.exp (Ideal.ofBits .f32 0x3F317218#32 *
    (Ideal.ofBits .f32 0xC0A00000#32 - (FloatOps.sitofp .f32 (BitVec.ofNat 32 h) : Ideal .f32)))) = ((rate h : ℝ) : EReal) := by
  have hlt : Real.exp (11629080 / 16777216 * (-5 - (h : ℝ))) < 1 := by
    rw [Real.exp_lt_one_iff]
    have : (0 : ℝ) ≤ h := Nat.cast_nonneg h
    nlinarith
  rw [word_real h (by omega), c_ln2, c_m5, ← EReal.coe_sub, ← EReal.coe_mul, Ideal.exp_coe, ← EReal.coe_neg]
  unfold Ideal.log1p
  rw [one_real, ← EReal.coe_add, Ideal.log_coe, if_neg (by linarith)]
  rfl

/-- The angle that position `p` turns coordinate `d` by. -/
def angle (p : ℤ) (d : ℕ) : ℝ := p * Real.rpow 10000 (-(2 * d) * (1 / 256))

theorem angle_eq (p : BitVec 32) (d : ℕ) (hd : d < 128) : (FloatOps.sitofp .f32 p : Ideal .f32) *
    Ideal.pow (Ideal.ofBits .f32 0x461C4000#32) (Ideal.div (-(Ideal.ofBits .f32 0x40000000#32 * (FloatOps.sitofp .f32 (BitVec.ofNat 32 d) : Ideal .f32)))
      (Ideal.ofBits .f32 0x43800000#32)) = ((angle p.toInt d : ℝ) : EReal) := by
  rw [word_real d (by omega), c_10000, c_2, c_256, ← EReal.coe_mul, ← EReal.coe_neg, Ideal.div_coe (by norm_num), ← EReal.coe_mul,
    Ideal.pow_coe_coe]
  show (((p.toInt : ℤ) : ℝ) : EReal) * _ = _
  rw [← EReal.coe_mul]; rfl

/-- The cosines and sines of the angles at given positions. -/
def cosine (pos : ℕ → ℤ) (i d : ℕ) : ℝ := Real.cos (angle (pos i) d)
def sine (pos : ℕ → ℤ) (i d : ℕ) : ℝ := Real.sin (angle (pos i) d)

end Cert.Retention
-- ==== Proof.KerBlock.lean ====
module

public import proofs.«01_k».proof.Proof.KerFwd
public import proofs.«01_k».proof.Proof.KerBwd
public import proofs.«01_k».proof.Proof.Tables
public import Idealize.ShloMosaic.Lib.Pointwise

/-! # What one block of the two calls computes, over the real numbers -/

@[expose] public section

set_option maxRecDepth 16384

noncomputable section

namespace Cert.KernelIdeal.Ret

open Idealize.ShloMosaic Cert.KernelIdeal.Gen Cert.Retention Finset

section
variable (x0 : Vec Ideal S512x256 .f32) (x5 x6 : Vec Ideal S512x128 .f32) (p c s : ℕ → ℕ → ℝ)
  (h0 : ∀ (r : Fin 512) (d : Fin 256), x0 (ix2 r d) = ((p r d : ℝ) : EReal))
  (h5 : ∀ (r : Fin 512) (d : Fin 128), x5 (ix2 r d) = ((c r d : ℝ) : EReal))
  (h6 : ∀ (r : Fin 512) (d : Fin 128), x6 (ix2 r d) = ((s r d : ℝ) : EReal))
include h0 h5 h6

theorem rope0 (r : Fin 512) (d : Fin 256) : k0_pay5 x5 x6 x0 (ix2 r d) = ((rope (p r) (c r) (s r) d : ℝ) : EReal) := by
  unfold_payloads; pointwise []; unfold rope; simp only [h0, h5, h6]
  split <;> norm_cast
theorem rope0b (r : Fin 512) (d : Fin 256) : k0_pay8 x5 x6 x0 (ix2 r d) = ((rope (p r) (c r) (s r) d : ℝ) : EReal) := by
  rw [← rope0 x0 x5 x6 p c s h0 h5 h6 r d]; rfl
theorem ropek0 (r : Fin 512) (d : Fin 256) : k0_pay6 x5 x6 x0 (ix2 r d) = ((rope (p r) (c r) (s r) d * (1 / 16) : ℝ) : EReal) := by
  unfold_payloads; pointwise []; unfold rope; simp only [h0, h5, h6, sixteenth]
  split <;> norm_cast
theorem ropek0b (r : Fin 512) (d : Fin 256) : k0_pay9 x5 x6 x0 (ix2 r d) = ((rope (p r) (c r) (s r) d * (1 / 16) : ℝ) : EReal) := by
  rw [← ropek0 x0 x5 x6 p c s h0 h5 h6 r d]; rfl
theorem rope1 (r : Fin 512) (d : Fin 256) : k1_pay9 x5 x6 x0 (ix2 r d) = ((rope (p r) (c r) (s r) d : ℝ) : EReal) := by
  unfold_payloads; pointwise []; unfold rope; simp only [h0, h5, h6]
  split <;> norm_cast
theorem rope1b (r : Fin 512) (d : Fin 256) : k1_pay12 x5 x6 x0 (ix2 r d) = ((rope (p r) (c r) (s r) d : ℝ) : EReal) := by
  rw [← rope1 x0 x5 x6 p c s h0 h5 h6 r d]; rfl
theorem ropek1 (r : Fin 512) (d : Fin 256) : k1_pay10 x5 x6 x0 (ix2 r d) = ((rope (p r) (c r) (s r) d * (1 / 16) : ℝ) : EReal) := by
  unfold_payloads; pointwise []; unfold rope; simp only [h0, h5, h6, sixteenth]
  split <;> norm_cast
theorem ropek1b (r : Fin 512) (d : Fin 256) : k1_pay13 x5 x6 x0 (ix2 r d) = ((rope (p r) (c r) (s r) d * (1 / 16) : ℝ) : EReal) := by
  rw [← ropek1 x0 x5 x6 p c s h0 h5 h6 r d]; rfl
theorem unropeq (r : Fin 512) (d : Fin 256) : k1_pay4 x0 x5 x6 (ix2 r d) = ((unrope (p r) (c r) (s r) d : ℝ) : EReal) := by
  unfold_payloads; pointwise []; unfold unrope; simp only [h0, h5, h6]
  split <;> norm_cast
theorem unropek (r : Fin 512) (d : Fin 256) : k1_pay5 x0 x5 x6 (ix2 r d)
    = ((unrope (fun d => p r d * (1 / 16)) (c r) (s r) d : ℝ) : EReal) := by
  unfold_payloads; pointwise []; unfold unrope; simp only [h0, h5, h6, sixteenth]
  split <;> norm_cast
end

section
variable (a a' : Vec Ideal S512x256 .f32) (qb kb : Vec Ideal S512x256 .bf16) (vb yb : Vec Ideal S512x512 .bf16)
  (x7 : Vec Ideal S1x512x512 .f32) (x8 x9 : Vec Ideal S1x512x256 .f32) (x10 : Vec Ideal S1x1x512 .f32)
  (sb : Vec Ideal S256x512 .bf16) (s : Vec Ideal S256x512 .f32)
  (g : ℝ) (q k v u t : ℕ → ℕ → ℝ)
  (ha : ∀ (r : Fin 512) (d : Fin 256), a (ix2 r d) = ((q r d : ℝ) : EReal))
  (ha' : ∀ (r : Fin 512) (d : Fin 256), a' (ix2 r d) = ((k r d : ℝ) : EReal))
  (hq : ∀ (r : Fin 512) (d : Fin 256), qb (ix2 r d) = ((q r d : ℝ) : EReal))
  (hk : ∀ (r : Fin 512) (d : Fin 256), kb (ix2 r d) = ((k r d : ℝ) : EReal))
  (hv : ∀ (r : Fin 512) (d : Fin 512), vb (ix2 r d) = ((v r d : ℝ) : EReal))
  (hy : ∀ (r : Fin 512) (d : Fin 512), yb (ix2 r d) = ((u r d : ℝ) : EReal))
  (h7 : ∀ (i j : Fin 512), x7 (ix3 0 i j) = ((decay g i j : ℝ) : EReal))
  (h8 : ∀ (r : Fin 512) (d : Fin 256), x8 (ix3 0 r d) = ((Real.exp (g * ((r : ℕ) + 1)) : ℝ) : EReal))
  (h9 : ∀ (r : Fin 512) (d : Fin 256), x9 (ix3 0 r d) = ((Real.exp (g * ((512 : ℕ) - 1 - (r : ℕ))) : ℝ) : EReal))
  (h10 : ∀ (e : Fin 512), x10 (ix3 0 0 e) = ((Real.exp (g * (512 : ℕ)) : ℝ) : EReal))
  (hs : ∀ (d : Fin 256) (e : Fin 512), s (ix2 d e) = ((t d e : ℝ) : EReal))
  (hsb : ∀ (d : Fin 256) (e : Fin 512), sb (ix2 d e) = ((t d e : ℝ) : EReal))

include ha hq hk hv h7 h8 hsb in
theorem y_block (r e : Fin 512) : k0_pay12 a vb qb kb sb x7 x8 (ix2 r e)
    = (((∑ x ∈ range 512, (∑ d ∈ range 256, q r d * k x d) * decay g r x * v x e)
      + Real.exp (g * ((r : ℕ) + 1)) * (∑ d ∈ range 256, q r d * t d e) : ℝ) : EReal) := by
  unfold_payloads; pointwise []
  simp only [ha, hq, hk, hv, h7, h8, hsb, ← EReal.coe_mul, csum, ← EReal.coe_add]
  refine congrArg _ ?_
  simp only [Finset.sum_range, Finset.mul_sum]
  congr 1
  exact Finset.sum_congr rfl fun _ _ => by ring

include ha' hv h9 h10 hs in
theorem next_block (d : Fin 256) (e : Fin 512) : k0_pay13 a' vb s x10 x9 (ix2 d e)
    = ((t d e * Real.exp (g * (512 : ℕ))
      + ∑ x ∈ range 512, (k x d * v x e) * Real.exp (g * (((512 : ℕ) : ℝ) - 1 - x)) : ℝ) : EReal) := by
  unfold_payloads; pointwise []
  simp only [ha', hv, h9, h10, hs, ← EReal.coe_mul, csum, ← EReal.coe_add]
  refine congrArg _ ?_
  simp only [Finset.sum_range]
  congr 1
  exact Finset.sum_congr rfl fun _ _ => by ring

include hk hv hy h7 h8 hsb in
theorem dq_block (r : Fin 512) (d : Fin 256) : k1_pay20 vb kb yb sb x7 x8 (ix2 r d)
    = (((∑ x ∈ range 512, (∑ e ∈ range 512, u r e * v x e) * decay g r x * k x d)
      + Real.exp (g * ((r : ℕ) + 1)) * (∑ e ∈ range 512, u r e * t d e) : ℝ) : EReal) := by
  unfold_payloads; pointwise []
  simp only [hk, hv, hy, h7, h8, hsb, ← EReal.coe_mul, csum, ← EReal.coe_add]
  refine congrArg _ ?_
  simp only [Finset.sum_range]

include hq hv hy h7 h9 hs in
theorem dk_block (r : Fin 512) (d : Fin 256) : k1_pay21 vb qb yb x7 x9 s (ix2 r d)
    = (((∑ i ∈ range 512, (∑ e ∈ range 512, u i e * v r e) * decay g i r * q i d)
      + Real.exp (g * (((512 : ℕ) : ℝ) - 1 - (r : ℕ))) * (∑ e ∈ range 512, v r e * t d e) : ℝ) : EReal) := by
  unfold_payloads; pointwise []
  simp only [hq, hv, hy, h7, h9, hs, ← EReal.coe_mul, csum, ← EReal.coe_add]
  refine congrArg _ ?_
  simp only [Finset.sum_range]

include ha' hq hk hy h7 h9 hs in
theorem dv_block (r e : Fin 512) : k1_pay22 a' qb kb yb x7 x9 s (ix2 r e)
    = (((∑ i ∈ range 512, (∑ d ∈ range 256, q i d * k r d) * decay g i r * u i e)
      + Real.exp (g * (((512 : ℕ) : ℝ) - 1 - (r : ℕ))) * (∑ d ∈ range 256, k r d * t d e) : ℝ) : EReal) := by
  unfold_payloads; pointwise []
  simp only [ha', hq, hk, hy, h7, h9, hs, ← EReal.coe_mul, csum, ← EReal.coe_add]
  refine congrArg _ ?_
  simp only [Finset.sum_range, Finset.mul_sum]
  congr 1
  exact Finset.sum_congr rfl fun _ _ => by ring

include ha hy h8 h10 hs in
theorem back_block (d : Fin 256) (e : Fin 512) : k1_pay1 (k1_pay23 s x10) (k1_pay24 a yb x8) (ix2 d e)
    = ((t d e * Real.exp (g * (512 : ℕ))
      + ∑ x ∈ range 512, (q x d * u x e) * Real.exp (g * ((x : ℝ) + 1)) : ℝ) : EReal) := by
  unfold_payloads; pointwise []
  simp only [ha, hy, h8, h10, hs, ← EReal.coe_mul, csum, ← EReal.coe_add]
  refine congrArg _ ?_
  simp only [Finset.sum_range]
  congr 1
  exact Finset.sum_congr rfl fun _ _ => by ring
end

end Cert.KernelIdeal.Ret
-- ==== Proof.KerFwdVal.lean ====
module

public import proofs.«01_k».proof.Proof.KerFwdData
public import proofs.«01_k».proof.Proof.KerBlock
public import Idealize.ShloMosaic.Lib.Pipeline.ValueKit

/-! # The blocks of the forward call -/

@[expose] public section

set_option maxRecDepth 16384

noncomputable section

namespace Cert.KernelIdeal.Ret

open Idealize.ShloMosaic Cert.KernelIdeal.Gen Idealize.ShloMosaic.TcCoe Cert.Retention
open Idealize.ShloMosaic.Pipeline (Dat)

theorem idx0 : ∀ t : Fin cfg0.N, win0_0.index t = ![t.val % 32, t.val / 32]
    ∧ win0_1.index t = ![t.val % 32, 4 + t.val / 32]
    ∧ win0_2.index t = ![t.val % 32, 4 + t.val / 32]
    ∧ win0_3.index t = ![t.val % 32, 8 + t.val / 32]
    ∧ win0_4.index t = ![0, t.val / 32]
    ∧ win0_5.index t = ![t.val % 32, 0]
    ∧ win0_6.index t = ![t.val % 32, 0]
    ∧ win0_7.index t = ![t.val / 32, 0, 0]
    ∧ win0_8.index t = ![t.val / 32, 0, 0]
    ∧ win0_9.index t = ![t.val / 32, 0, 0]
    ∧ win0_10.index t = ![t.val / 32, 0, 0]
    ∧ win0_11.index t = ![t.val % 32, t.val / 32]
    ∧ win0_12.index t = ![t.val % 32, t.val / 32]
    ∧ win0_13.index t = ![t.val / 32, t.val % 32, 0, 0] := by decide +kernel

theorem lt0 (t : Fin cfg0.N) : t.val < 128 := lt_of_lt_of_eq t.isLt (by decide +kernel)

section
variable {F : FTy → Type} [FloatOps F] (V : (c : Dev nD) → (b : Ref sig .tc) → Buf (Elt F) ((c : Thread nD τ).loc b))
theorem blk0_0 (c : Dev nD) (t : Fin cfg0.N) (r : Fin 512) (d : Fin 256) : iblk0 V c 0 t (ix2 r d) = V c main_arg0 (ix2 ⟨512 * (t.val % 32) + r, by omega⟩ ⟨256 * (t.val / 32) + d, by have := lt0 t; omega⟩) := by
  blk_ext [iblk0, idx0 t]
theorem blk0_1 (c : Dev nD) (t : Fin cfg0.N) (r : Fin 512) (d : Fin 256) : iblk0 V c 1 t (ix2 r d) = V c main_arg0 (ix2 ⟨512 * (t.val % 32) + r, by omega⟩ ⟨1024 + 256 * (t.val / 32) + d, by have := lt0 t; omega⟩) := by
  blk_ext [iblk0, idx0 t]
theorem blk0_2 (c : Dev nD) (t : Fin cfg0.N) (r : Fin 512) (e : Fin 512) : iblk0 V c 2 t (ix2 r e) = V c main_arg0 (ix2 ⟨512 * (t.val % 32) + r, by omega⟩ ⟨2048 + 512 * (t.val / 32) + e, by have := lt0 t; omega⟩) := by
  blk_ext [iblk0, idx0 t]
theorem blk0_3 (c : Dev nD) (t : Fin cfg0.N) (r : Fin 512) (e : Fin 512) : iblk0 V c 3 t (ix2 r e) = V c main_arg0 (ix2 ⟨512 * (t.val % 32) + r, by omega⟩ ⟨4096 + 512 * (t.val / 32) + e, by have := lt0 t; omega⟩) := by
  blk_ext [iblk0, idx0 t]
theorem blk0_4 (c : Dev nD) (t : Fin cfg0.N) (e : Fin 512) : iblk0 V c 4 t (ix2 0 e) = V c main_v72 (ix2 0 ⟨512 * (t.val / 32) + e, by have := lt0 t; omega⟩) := by
  blk_ext [iblk0, idx0 t]
theorem blk0_5 (c : Dev nD) (t : Fin cfg0.N) (r : Fin 512) (d : Fin 128) : iblk0 V c 5 t (ix2 r d) = V c main_v70 (ix2 ⟨512 * (t.val % 32) + r, by omega⟩ d) := by
  blk_ext [iblk0, idx0 t]
theorem blk0_6 (c : Dev nD) (t : Fin cfg0.N) (r : Fin 512) (d : Fin 128) : iblk0 V c 6 t (ix2 r d) = V c main_v71 (ix2 ⟨512 * (t.val % 32) + r, by omega⟩ d) := by
  blk_ext [iblk0, idx0 t]
theorem blk0_7 (c : Dev nD) (t : Fin cfg0.N) (i : Fin 512) (j : Fin 512) : iblk0 V c 7 t (ix3 0 i j) = V c main_v44 (ix3 ⟨t.val / 32, by have := lt0 t; omega⟩ i j) := by
  blk_ext [iblk0, idx0 t]
theorem blk0_8 (c : Dev nD) (t : Fin cfg0.N) (r : Fin 512) (d : Fin 256) : iblk0 V c 8 t (ix3 0 r d) = V c main_v54 (ix3 ⟨t.val / 32, by have := lt0 t; omega⟩ r d) := by
  blk_ext [iblk0, idx0 t]
theorem blk0_9 (c : Dev nD) (t : Fin cfg0.N) (r : Fin 512) (d : Fin 256) : iblk0 V c 9 t (ix3 0 r d) = V c main_v64 (ix3 ⟨t.val / 32, by have := lt0 t; omega⟩ r d) := by
  blk_ext [iblk0, idx0 t]
theorem blk0_10 (c : Dev nD) (t : Fin cfg0.N) (e : Fin 512) : iblk0 V c 10 t (ix3 0 0 e) = V c main_v69 (ix3 ⟨t.val / 32, by have := lt0 t; omega⟩ 0 e) := by
  blk_ext [iblk0, idx0 t]
end

variable (V : (c : Dev nD) → (b : Ref sig .tc) → Buf (Elt Ideal) ((c : Thread nD τ).loc b)) (c : Dev nD)
  (P U C S : ℕ → ℕ → ℝ) (g : ℕ → ℝ)

/-- The arrays the calls read hold the projections `P`, the cosines `C`, the sines `S` and the tables of the rates `g`. -/
structure Reads : Prop where
  proj : ∀ (i : Fin 16384) (j : Fin 6144), V c main_arg0 (ix2 i j) = ((P i j : ℝ) : EReal)
  cos : ∀ (i : Fin 16384) (d : Fin 128), V c main_v70 (ix2 i d) = ((C i d : ℝ) : EReal)
  sin : ∀ (i : Fin 16384) (d : Fin 128), V c main_v71 (ix2 i d) = ((S i d : ℝ) : EReal)
  dm : ∀ (h : Fin 4) (i j : Fin 512), V c main_v44 (ix3 h i j) = ((decay (g h) i j : ℝ) : EReal)
  xi : ∀ (h : Fin 4) (r : Fin 512) (d : Fin 256), V c main_v54 (ix3 h r d) = ((Real.exp (g h * ((r : ℕ) + 1)) : ℝ) : EReal)
  zeta : ∀ (h : Fin 4) (r : Fin 512) (d : Fin 256), V c main_v64 (ix3 h r d) = ((Real.exp (g h * ((512 : ℕ) - 1 - (r : ℕ))) : ℝ) : EReal)
  gt : ∀ (h : Fin 4) (e : Fin 512), V c main_v69 (ix3 h 0 e) = ((Real.exp (g h * (512 : ℕ)) : ℝ) : EReal)

variable {V c P C S g} (H : Reads V c P C S g) (t : Fin cfg0.N)
include H

theorem q_0 (r : Fin 512) (d : Fin 256) : iblk0 V c 0 t (ix2 r d) = ((P (512 * (t.val % 32) + r) (256 * (t.val / 32) + d) : ℝ) : EReal) := by
  rw [blk0_0, H.proj]
theorem k_0 (r : Fin 512) (d : Fin 256) : iblk0 V c 1 t (ix2 r d) = ((P (512 * (t.val % 32) + r) (1024 + 256 * (t.val / 32) + d) : ℝ) : EReal) := by
  rw [blk0_1, H.proj]
theorem v_0 (r e : Fin 512) : k0_pay7 (iblk0 V c 2 t) (ix2 r e) = ((value P (t.val / 32) (512 * (t.val % 32) + r) e : ℝ) : EReal) := by
  rw [show k0_pay7 (iblk0 V c 2 t) (ix2 r e) = iblk0 V c 2 t (ix2 r e) from by unfold_payloads; pointwise [], blk0_2, H.proj]; rfl
theorem c_0 (r : Fin 512) (d : Fin 128) : iblk0 V c 5 t (ix2 r d) = ((C (512 * (t.val % 32) + r) d : ℝ) : EReal) := by
  rw [blk0_5, H.cos]
theorem s_0 (r : Fin 512) (d : Fin 128) : iblk0 V c 6 t (ix2 r d) = ((S (512 * (t.val % 32) + r) d : ℝ) : EReal) := by
  rw [blk0_6, H.sin]
theorem dm_0 (i j : Fin 512) : iblk0 V c 7 t (ix3 0 i j) = ((decay (g (t.val / 32)) i j : ℝ) : EReal) := by
  rw [blk0_7, H.dm]
theorem xi_0 (r : Fin 512) (d : Fin 256) : iblk0 V c 8 t (ix3 0 r d) = ((Real.exp (g (t.val / 32) * ((r : ℕ) + 1)) : ℝ) : EReal) := by
  rw [blk0_8, H.xi]
theorem zeta_0 (r : Fin 512) (d : Fin 256) : iblk0 V c 9 t (ix3 0 r d) = ((Real.exp (g (t.val / 32) * ((512 : ℕ) - 1 - (r : ℕ))) : ℝ) : EReal) := by
  rw [blk0_9, H.zeta]
theorem gt_0 (e : Fin 512) : iblk0 V c 10 t (ix3 0 0 e) = ((Real.exp (g (t.val / 32) * (512 : ℕ)) : ℝ) : EReal) := by
  rw [blk0_10, H.gt]
theorem qr_0 (r : Fin 512) (d : Fin 256) : k0_pay5 (iblk0 V c 5 t) (iblk0 V c 6 t) (iblk0 V c 0 t) (ix2 r d) = ((query P C S (t.val / 32) (512 * (t.val % 32) + r) d : ℝ) : EReal) := by
  exact rope0 _ _ _ (fun r d => P (512 * (t.val % 32) + r) (256 * (t.val / 32) + d)) (fun r d => C (512 * (t.val % 32) + r) d) (fun r d => S (512 * (t.val % 32) + r) d) (q_0 H t) (c_0 H t) (s_0 H t) r d
theorem qb_0 (r : Fin 512) (d : Fin 256) : k0_pay8 (iblk0 V c 5 t) (iblk0 V c 6 t) (iblk0 V c 0 t) (ix2 r d) = ((query P C S (t.val / 32) (512 * (t.val % 32) + r) d : ℝ) : EReal) := by
  exact rope0b _ _ _ (fun r d => P (512 * (t.val % 32) + r) (256 * (t.val / 32) + d)) (fun r d => C (512 * (t.val % 32) + r) d) (fun r d => S (512 * (t.val % 32) + r) d) (q_0 H t) (c_0 H t) (s_0 H t) r d
theorem kr_0 (r : Fin 512) (d : Fin 256) : k0_pay6 (iblk0 V c 5 t) (iblk0 V c 6 t) (iblk0 V c 1 t) (ix2 r d) = ((key P C S (t.val / 32) (512 * (t.val % 32) + r) d : ℝ) : EReal) := by
  exact ropek0 _ _ _ (fun r d => P (512 * (t.val % 32) + r) (1024 + 256 * (t.val / 32) + d)) (fun r d => C (512 * (t.val % 32) + r) d) (fun r d => S (512 * (t.val % 32) + r) d) (k_0 H t) (c_0 H t) (s_0 H t) r d
theorem kb_0 (r : Fin 512) (d : Fin 256) : k0_pay9 (iblk0 V c 5 t) (iblk0 V c 6 t) (iblk0 V c 1 t) (ix2 r d) = ((key P C S (t.val / 32) (512 * (t.val % 32) + r) d : ℝ) : EReal) := by
  exact ropek0b _ _ _ (fun r d => P (512 * (t.val % 32) + r) (1024 + 256 * (t.val / 32) + d)) (fun r d => C (512 * (t.val % 32) + r) d) (fun r d => S (512 * (t.val % 32) + r) d) (k_0 H t) (c_0 H t) (s_0 H t) r d

theorem carry0_val (n : ℕ) : ∀ (hn : n < cfg0.N) (d : Fin 256) (e : Fin 512), carry0 V c n hn (ix2 d e)
    = ((state 512 (g (n / 32)) (fun j => key P C S (n / 32) j d * value P (n / 32) j e) (n % 32 + 1) : ℝ) : EReal) := by
  induction n using Nat.strong_induction_on with
  | _ n ih =>
    intro hn d e
    have key : ∀ (d : Fin 256) (e : Fin 512), found0 V c ⟨n, hn⟩ (ix2 d e)
        = ((state 512 (g (n / 32)) (fun j => key P C S (n / 32) j d * value P (n / 32) j e) (n % 32) : ℝ) : EReal) := fun d e => by
      unfold found0
      split
      · rename_i h0
        have h0' : n % 32 = 0 := h0
        rw [h0']; unfold_payloads; pointwise []; simp [state, Ideal.ofBits_zero_f32]
      · rename_i h0
        have h0' : ¬ n % 32 = 0 := h0
        rw [ih (n - 1) (by omega)]
        rw [show (n - 1) / 32 = n / 32 by omega, show (n - 1) % 32 + 1 = n % 32 by omega]
    rw [carry0_eq V c ⟨n, hn⟩]
    unfold next0
    exact next_block _ _ _ _ _ (g (n / 32)) (fun r d => Cert.Retention.key P C S (n / 32) (512 * (n % 32) + r) d)
      (fun r e => value P (n / 32) (512 * (n % 32) + r) e)
      (fun d e => state 512 (g (n / 32)) (fun j => Cert.Retention.key P C S (n / 32) j d * value P (n / 32) j e) (n % 32))
      (kr_0 H ⟨n, hn⟩) (v_0 H ⟨n, hn⟩) (zeta_0 H ⟨n, hn⟩) (gt_0 H ⟨n, hn⟩) key d e

/-- The state a block finds. -/
theorem found0_val (d : Fin 256) (e : Fin 512) : found0 V c t (ix2 d e)
    = ((state 512 (g (t.val / 32)) (fun j => key P C S (t.val / 32) j d * value P (t.val / 32) j e) (t.val % 32) : ℝ) : EReal) := by
  unfold found0
  split
  · rename_i h0
    rw [h0]; unfold_payloads; pointwise []; simp [state, Ideal.ofBits_zero_f32]
  · rename_i h0
    rw [carry0_val H (t.val - 1)]
    rw [show (t.val - 1) / 32 = t.val / 32 by omega, show (t.val - 1) % 32 + 1 = t.val % 32 by omega]

/-- The rows of the output a block leaves. -/
theorem y0_val (r e : Fin 512) : (dat0 V c).after 12 t (ix2 r e) = ((out P C S g (t.val / 32) (512 * (t.val % 32) + r) e : ℝ) : EReal) := by
  rw [after0_12]; unfold y0
  refine (y_block _ _ _ _ _ _ _ (g (t.val / 32)) (fun r d => query P C S (t.val / 32) (512 * (t.val % 32) + r) d)
    (fun r d => key P C S (t.val / 32) (512 * (t.val % 32) + r) d) (fun r e => value P (t.val / 32) (512 * (t.val % 32) + r) e)
    (fun d e => state 512 (g (t.val / 32)) (fun j => key P C S (t.val / 32) j d * value P (t.val / 32) j e) (t.val % 32))
    (qr_0 H t) (qb_0 H t) (kb_0 H t) (v_0 H t) (dm_0 H t) (xi_0 H t) (fun d e => ?_) r e).trans ?_
  · rw [← found0_val H t d e]; rfl
  · exact congrArg _ (attend_block (g (t.val / 32)) (B := 512) (N := 32) (by norm_num) 256 (query P C S (t.val / 32))
      (key P C S (t.val / 32)) (value P (t.val / 32)) (Nat.mod_lt _ (by norm_num)) r.isLt e)

theorem state0_val (d : Fin 256) (e : Fin 512) : (dat0 V c).after 13 t (ix4 0 0 d e)
    = ((state 512 (g (t.val / 32)) (fun j => key P C S (t.val / 32) j d * value P (t.val / 32) j e) (t.val % 32) : ℝ) : EReal) := by
  rw [after0_13, ← found0_val H t d e]; unfold state0; unfold_payloads; pointwise []

/-- The output and the states after the forward call. -/
theorem y0_arr : (dat0 V c).arrAt 12 cfg0.N
    = fun i => ((out P C S g ((i 1).val / 512) (i 0).val ((i 1).val % 512) : ℝ) : EReal) := by
  refine (dat0 V c).arrAt_eq_of_covers 12 _ (by decide +kernel) fun t hf y => ?_
  idx_vars y
  blk_simp [idx0 t]
  rw [y0_val H t y0 y1, show (t.val / 32 * 512 + y1.val) / 512 = t.val / 32 by omega, show (t.val / 32 * 512 + y1.val) % 512 = y1 by omega,
    Nat.mul_comm (t.val % 32)]

theorem state0_arr : (dat0 V c).arrAt 13 cfg0.N
    = fun i => ((state 512 (g (i 0).val) (fun j => key P C S (i 0).val j (i 2).val * value P (i 0).val j (i 3).val) (i 1).val : ℝ) : EReal) := by
  refine (dat0 V c).arrAt_eq_of_covers 13 _ (by decide +kernel) fun t hf y => ?_
  idx_vars y
  blk_simp [idx0 t]
  rw [Subsingleton.elim y0 0, Subsingleton.elim y1 0, state0_val H t y2 y3]

end Cert.KernelIdeal.Ret
-- ==== Proof.KerBwdData.lean ====
/-
The backward call over any contents of its arrays: the state gradient carried from block to block, and the body at every point.
-/
module

public import proofs.«01_k».proof.Proof.KerBwd

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array's contents `V` at the call's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state carried after point `n`: one more block over the state of the point before, over zero at a head's first. -/
def carry1 (c : Dev nD) : (n : ℕ) → n < cfg1.N → Vec F S256x512 .f32
  | 0, h => next1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩) (iblk1 V c 9 ⟨0, h⟩) (iblk1 V c 10 ⟨0, h⟩) (k1_pay6 (F := F))
  | n + 1, h => next1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (iblk1 V c 9 ⟨n + 1, h⟩) (iblk1 V c 10 ⟨n + 1, h⟩) (if (n + 1) % 32 = 0 then (k1_pay6 (F := F)) else carry1 c n (Nat.lt_of_succ_lt h))

/-- The state the body finds at point `t`. -/
def found1 (c : Dev nD) (t : Fin cfg1.N) : Vec F S256x512 .f32 :=
  if t.val % 32 = 0 then (k1_pay6 (F := F)) else carry1 V c (t.val - 1) (lt_of_le_of_lt (Nat.sub_le _ _) t.isLt)

theorem carry1_eq (c : Dev nD) (t : Fin cfg1.N) : carry1 V c t.val t.isLt = next1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t) := by
  obtain ⟨n, hn⟩ := t
  cases n with
  | zero => unfold found1; rw [if_pos (Nat.zero_mod _)]; rfl
  | succ n => rfl

/-- The state's buffer. -/
abbrev scr1 : Memref sig .tc .vmem S256x512 .f32 := Memref.whole cc1_scratch0

/-- The other scoped buffers, at any contents. -/
abbrev rest1 (c : Dev nD) : sProp 𝕄 := Pipeline.scopedRestBut (Ix := Unit) (Name := ℕ) (U := UR sig nD τ) (Lvl := ℕ) (Val := Elt F) spec1 c [cc1_scratch0]

theorem any1_eq (c : Dev nD) : (Pipeline.ΦA spec1 c : sProp 𝕄)
    = iprop(iprop((∃ d, owns (c : Thread nD τ) scr1 fullShare d) ∗ rest1 (F := F) c) ∗ (∃ r, prngReg c r)) := by
  unfold Pipeline.ΦA; rw [scopedRest1_split]; simp only [scr1, owns_whole]; try rfl

/-- What holds between the points: the carried state at its value, once there is one. -/
def inv1 (c : Dev nD) : (n : ℕ) → n ≤ cfg1.N → sProp 𝕄
  | 0, _ => Pipeline.ΦA spec1 c
  | n + 1, h => iprop(iprop(owns (c : Thread nD τ) scr1 fullShare (carry1 V c n h) ∗ rest1 (F := F) c) ∗ (∃ r, prngReg c r))

theorem inv1_pos (c : Dev nD) (n : ℕ) (h : n ≤ cfg1.N) (hz : n ≠ 0) :
    inv1 V c n h = iprop(iprop(owns (c : Thread nD τ) scr1 fullShare (carry1 V c (n - 1) (by omega)) ∗ rest1 (F := F) c) ∗ (∃ r, prngReg c r)) := by
  cases n with
  | zero => exact absurd rfl hz
  | succ n => rfl

theorem inv1_any (c : Dev nD) (n : ℕ) (h : n ≤ cfg1.N) : inv1 V c n h ⊢ (Pipeline.ΦA spec1 c : sProp 𝕄) := by
  cases n with
  | zero => exact .rfl
  | succ n =>
    rw [any1_eq]; unfold inv1
    iintro ⟨⟨HS, HR⟩, Hg⟩
    isplitl [HS HR]
    · isplitl [HS]
      · iexists _; iexact HS
      iexact HR
    iexact Hg

/-- The proof data of the call: its arrays as `V` gives them, each buffer after the body at the value computed, the carried state between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => dq1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t)
    | ⟨12, _⟩ => dk1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t)
    | ⟨13, _⟩ => dv1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t)
  Φ t := inv1 V c t.val (Nat.le_of_lt_succ t.isLt)
  q w := Pipeline.shareOf spec1 w
  owed _ := 0

theorem A1_eq (c : Dev nD) (w : Fin cfg1.W) : (dat1 V c).A w = V c (Pipeline.arrRef spec1 w) := by dsimp only [dat1]

theorem inv1_castSucc (c : Dev nD) (t : Fin cfg1.N) : (dat1 V c).Φ t.castSucc = inv1 V c t.val (Nat.le_of_lt t.isLt) := by
  dsimp only [dat1]; exact Pipeline.Dat.Φ_castSucc (inv1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = dq1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t) := by dsimp only [dat1]
theorem after1_12 (c : Dev nD) (t : Fin cfg1.N) : (dat1 V c).after 12 t = dk1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t) := by dsimp only [dat1]
theorem after1_13 (c : Dev nD) (t : Fin cfg1.N) : (dat1 V c).after 13 t = dv1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (found1 V c t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A1_eq]; try rfl) t d).trans
    (by unfold Dat.fetched Dat.blockOf iblk1; rw [A1_eq]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A1_eq]; try rfl) t d).trans
    (by unfold Dat.fetched Dat.blockOf iblk1; rw [A1_eq]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A1_eq]; try rfl) t d).trans
    (by unfold Dat.fetched Dat.blockOf iblk1; rw [A1_eq]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A1_eq]; try rfl) t d).trans
    (by unfold Dat.fetched Dat.blockOf iblk1; rw [A1_eq]; try rfl)

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 4000000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8, before1_9, before1_10]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = iprop(iprop(owns (c : Thread nD τ) scr1 fullShare (carry1 V c t.val t.isLt) ∗ rest1 (F := F) c) ∗ (∃ r, prngReg c r)) from rfl,
    carry1_eq, inv1_castSucc]
  by_cases h0 : t.val % 32 = 0
  · rw [show found1 V c t = (k1_pay6 (F := F)) from if_pos h0]
    refine (sep_mono_left (inv1_any V c _ _)).trans ?_
    rw [any1_eq]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (body1_A c (grid1.coords t) _ _ _ _ _ _ _ _ _ _ _ _ _ _ _ _ _ _ _ _ _ _ _ _ _ _ _ _ _ _ ((first1_iff t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · have hz : t.val ≠ 0 := fun e => h0 (by rw [e])
    rw [inv1_pos V c _ _ hz, show found1 V c t = carry1 V c (t.val - 1) (lt_of_le_of_lt (Nat.sub_le _ _) t.isLt) from if_neg h0]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (body1_B c (grid1.coords t) _ _ _ _ _ _ _ _ _ _ _ _ _ _ _ _ _ _ _ _ _ _ _ _ _ _ _ _ _ _ (fun h => h0 ((first1_iff t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

theorem row1 (t : Fin cfg1.N) : defs₀ (F := F) .tc cfg1.body (cfg1.bodyArgs t (cfg1.slots t)) = bodyAt1 t := by
  unfold defs₀; rw [Defs.onTc_tc]

theorem oblig1 (c : Dev nD) : BodyObligation (dat1 V c) (defs₀ (F := F)) Variants.none () Set.univ := fun t => by
  rw [bigSep_W1, bigSep_W1, row1]
  exact triple_restated (sound1 V c t) rfl .rfl fun _ => .rfl

theorem into1 (c : Dev nD) : Pipeline.ΦA spec1 c ⊢ (dat1 V c).Φ 0 := by
  rw [show (dat1 V c).Φ 0 = inv1 V c 0 (Nat.zero_le _) from rfl]; exact .rfl

theorem outof1 (c : Dev nD) : (dat1 V c).Φ (Fin.last cfg1.N) ⊢ Pipeline.ΦA spec1 c := by
  rw [show (dat1 V c).Φ (Fin.last cfg1.N) = inv1 V c cfg1.N le_rfl from rfl]; exact inv1_any V c _ _

end

end Cert.KernelIdeal.Ret

end
-- ==== Proof.KerRun.lean ====
/-
The program's run: the host operations, the forward call, the backward call; every execution ends with every buffer at `Out1`.
-/
module

public import proofs.«01_k».proof.Proof.KerFwdData
public import proofs.«01_k».proof.Proof.KerBwdData
public import proofs.«01_k».proof.Proof.Gen.KernelIdeal.Regions
public import Idealize.ShloMosaic.Lib.Pipeline.RegionsLoop
public import Idealize.ShloMosaic.Lib.Pipeline.FrameSuffix
public import Idealize.ShloMosaic.Lib.Ring
public import Idealize.ShloMosaic.Lib.WordCmp
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the steps of the program -/

/-- The contents the forward call is entered with, at the TensorCore's references. -/
abbrev In0 : (c : Dev nD) → (b : Ref sig .tc) → Buf (Elt F) ((c : Thread nD τ).loc b) := fun c b => V5 m c b

/-- The contents after call 0: its arrays at what its points leave, every other buffer as it was. -/
def Out0 (c : Dev nD) : Valuation τ sig (Elt F) :=
  Pipeline.withArrays spec0 c (V5 m c) fun w => (dat0 (In0 m) c).arrAt w cfg0.N

theorem Out0_arr (c : Dev nD) (w : Fin cfg0.W) :
    Out0 m c (Proc.devRef .tc (Pipeline.arrRef spec0 w)) = (dat0 (In0 m) c).arrAt w cfg0.N := by
  unfold Out0; exact (dat0 (In0 m) c).withArrays_arrAt launch₀0.sharedIn _ (A0_eq (In0 m) c) w

theorem Out0_ne (c : Dev nD) (b : Ref sig .tc) (hb : ∀ w, Pipeline.arrRef spec0 w ≠ b) :
    Out0 m c (Proc.devRef .tc b) = V5 m c (Proc.devRef .tc b) := by
  unfold Out0; exact Pipeline.withArrays_of_ne spec0 c _ _ b hb

/-- A buffer that is no result of call 0 keeps its contents. -/
theorem Out0_of (c : Dev nD) (r : Ref sig .tc) (h : ∀ w : Fin cfg0.W, Pipeline.arrRef spec0 w = r → (cfg0.win w).isOut = false) :
    Out0 m c (Proc.devRef .tc r) = V5 m c (Proc.devRef .tc r) := by
  by_cases hw : ∃ w : Fin cfg0.W, Pipeline.arrRef spec0 w = r
  · obtain ⟨w, rfl⟩ := hw
    exact (Out0_arr m c w).trans (((dat0 (In0 m) c).arrAt_in w (h w rfl) _).trans (A0_eq (In0 m) c w))
  · exact Out0_ne m c r fun w e => hw ⟨w, e⟩

/-- The contents the backward call is entered with. -/
abbrev In1 : (c : Dev nD) → (b : Ref sig .tc) → Buf (Elt F) ((c : Thread nD τ).loc b) := fun c b => Out0 m c b

/-- The contents after call 1: its arrays at what its points leave, every other buffer as it was. -/
def Out1 (c : Dev nD) : Valuation τ sig (Elt F) :=
  Pipeline.withArrays spec1 c (Out0 m c) fun w => (dat1 (In1 m) c).arrAt w cfg1.N

theorem Out1_arr (c : Dev nD) (w : Fin cfg1.W) :
    Out1 m c (Proc.devRef .tc (Pipeline.arrRef spec1 w)) = (dat1 (In1 m) c).arrAt w cfg1.N := by
  unfold Out1; exact (dat1 (In1 m) c).withArrays_arrAt launch₀1.sharedIn _ (A1_eq (In1 m) c) w

theorem Out1_ne (c : Dev nD) (b : Ref sig .tc) (hb : ∀ w, Pipeline.arrRef spec1 w ≠ b) :
    Out1 m c (Proc.devRef .tc b) = Out0 m c (Proc.devRef .tc b) := by
  unfold Out1; exact Pipeline.withArrays_of_ne spec1 c _ _ b hb

/-- A buffer that is no result of call 1 keeps its contents. -/
theorem Out1_of (c : Dev nD) (r : Ref sig .tc) (h : ∀ w : Fin cfg1.W, Pipeline.arrRef spec1 w = r → (cfg1.win w).isOut = false) :
    Out1 m c (Proc.devRef .tc r) = Out0 m c (Proc.devRef .tc r) := by
  by_cases hw : ∃ w : Fin cfg1.W, Pipeline.arrRef spec1 w = r
  · obtain ⟨w, rfl⟩ := hw
    exact (Out1_arr m c w).trans (((dat1 (In1 m) c).arrAt_in w (h w rfl) _).trans (A1_eq (In1 m) c w))
  · exact Out1_ne m c r fun w e => hw ⟨w, e⟩

/-- The contents at the end, at the TensorCore's references. -/
abbrev In2 : (c : Dev nD) → (b : Ref sig .tc) → Buf (Elt F) ((c : Thread nD τ).loc b) := fun c b => Out1 m c b

theorem exit0 (c : Dev nD) (w : Fin cfg0.W) : (dat0 (In0 m) c).arrAt w cfg0.N = In1 m c (Pipeline.arrRef spec0 w) := (Out0_arr m c w).symm
theorem exit1 (c : Dev nD) (w : Fin cfg1.W) : (dat1 (In1 m) c).arrAt w cfg1.N = In2 m c (Pipeline.arrRef spec1 w) := (Out1_arr m c w).symm
theorem kept0 (c : Dev nD) : ∀ b, b ∉ Finset.univ.image (Pipeline.arrRef spec0) → In1 m c b = In0 m c b :=
  fun b hb => Out0_ne m c b fun w e => hb (Finset.mem_image.mpr ⟨w, Finset.mem_univ _, e⟩)
theorem kept1 (c : Dev nD) : ∀ b, b ∉ Finset.univ.image (Pipeline.arrRef spec1) → In2 m c b = In1 m c b :=
  fun b hb => Out1_ne m c b fun w e => hb (Finset.mem_image.mpr ⟨w, Finset.mem_univ _, e⟩)

/-! ## The arguments keep their contents -/

abbrev argRefs : List (Ref sig .tc) := [main_arg0, main_arg1, main_arg2, main_arg3]
theorem args_out0 : ∀ a ∈ argRefs, ∀ w : Fin cfg0.W, Pipeline.arrRef spec0 w = a → (cfg0.win w).isOut = false :=
  ListAll.forall_mem_of_all_decide (by decide +kernel)
theorem args_out1 : ∀ a ∈ argRefs, ∀ w : Fin cfg1.W, Pipeline.arrRef spec1 w = a → (cfg1.win w).isOut = false :=
  ListAll.forall_mem_of_all_decide (by decide +kernel)
theorem args_0 : ∀ a ∈ argRefs, a ∉ hostOps0_W := ListAll.forall_mem_of_all_decide (by decide +kernel)
theorem args_1 : ∀ a ∈ argRefs, a ∉ hostOps0_1_W := ListAll.forall_mem_of_all_decide (by decide +kernel)
theorem args_2 : ∀ a ∈ argRefs, a ∉ hostOps0_2_W := ListAll.forall_mem_of_all_decide (by decide +kernel)
theorem args_3 : ∀ a ∈ argRefs, a ∉ hostOps0_3_W := ListAll.forall_mem_of_all_decide (by decide +kernel)
theorem args_4 : ∀ a ∈ argRefs, a ∉ hostOps0_4_W := ListAll.forall_mem_of_all_decide (by decide +kernel)
theorem args_kept (c : Dev nD) (a : Ref sig .tc) (h : a ∈ argRefs) : Out1 m c (Proc.devRef .tc a) = m ((c : Thread nD τ).loc a) :=
  (Out1_of m c a (args_out1 a h)).trans <| (Out0_of m c a (args_out0 a h)).trans <| (V5_of m c a (args_4 a h)).trans <|
  (V4_of m c a (args_3 a h)).trans <| (V3_of m c a (args_2 a h)).trans <| (V2_of m c a (args_1 a h)).trans (V1_of m c a (args_0 a h))

/-! ## The steps of the program -/

/-- The proof data of the two calls, each over the contents it is entered with. -/
def dats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c

abbrev noVar : Variants := Variants.none
abbrev lab : GSem nD τ sig → Finset Unit := fun _ => ∅
abbrev lev : GSem nD τ sig → Unit → ℕ := fun _ _ => 0

/-- What rides along: the generator's register at some state, and nothing owed. -/
abbrev ride (c : Dev nD) : sProp 𝕄 := iprop((∃ r, prngReg c r) ∗ ∃ W, owes (c : Thread nD τ) (0 : CellTallies nD τ sig Unit) W)

/-- A stretch of host operations as a step, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar lab lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What holds at the end beside nothing being owed. -/
abbrev fin (c : Dev nD) : sProp 𝕄 := iprop(StableHlo.held (c : Thread nD τ) (Pipeline.ucRefs τ sig) (Out1 m c) ∗ ∃ r, prngReg c r)

set_option backward.isDefEq.respectTransparency.types false in
/-- Call 0 as a step. -/
def step0 : Pipeline.RegionSeg (pcfgs (F := F)) adm (dats m) () defs₀ noVar lab lev 0 where
  win := launch₀0.win
  block_pos := launch₀0.block_pos
  stage_whole := launch₀0.stage_whole
  K := PEmpty
  osem k := k.elim
  ho := Pipeline.OwnSemFacts.none _
  hbody c := (oblig0 (In0 m) c).loose
  hwaits := Pipeline.hwaits_of_owed_zero _ _ _ _ lab lev 0 fun _ _ => rfl
  pre c := iprop(StableHlo.held (c : Thread nD τ) (Pipeline.ucRefs τ sig) (V5 m c) ∗ ride c)
  post c := iprop(StableHlo.held (c : Thread nD τ) (Pipeline.ucRefs τ sig) (Out0 m c) ∗ ride c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs_shared (p := 0) (pcfgs (F := F)) adm (dats m) launch₀0.win launch₀0.sharedIn launch₀0.arr_whole c
      (fun _ _ => rfl) (In0 m c) (A0_eq (In0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (into0 (In0 m) c)
    unfold Pipeline.ΦA
    iintro ⟨Hp, -, Hr⟩
    isplitl [Hr]; · iexact Hr
    iexact Hp
  hout c := by
    rw [Pipeline.ownSems0_none]
    refine BIBase.Entails.trans (outof0 (In0 m) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (dats m) (fun _ _ => rfl)
      (In0 m c) (In1 m c) ((dats m 0 c).arrAt · cfg0.N) (exit0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a step. -/
def step1 : Pipeline.RegionSeg (pcfgs (F := F)) adm (dats m) () defs₀ noVar lab lev 1 where
  win := launch₀1.win
  block_pos := launch₀1.block_pos
  stage_whole := launch₀1.stage_whole
  K := PEmpty
  osem k := k.elim
  ho := Pipeline.OwnSemFacts.none _
  hbody c := (oblig1 (In1 m) c).loose
  hwaits := Pipeline.hwaits_of_owed_zero _ _ _ _ lab lev 1 fun _ _ => rfl
  pre c := iprop(StableHlo.held (c : Thread nD τ) (Pipeline.ucRefs τ sig) (Out0 m c) ∗ ride c)
  post c := iprop(fin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs_shared (p := 1) (pcfgs (F := F)) adm (dats m) launch₀1.win launch₀1.sharedIn launch₀1.arr_whole c
      (fun _ _ => rfl) (In1 m c) (A1_eq (In1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (into1 (In1 m) c)
    unfold Pipeline.ΦA
    iintro ⟨Hp, -, Hr⟩
    isplitl [Hr]; · iexact Hr
    iexact Hp
  hout c := by
    rw [Pipeline.ownSems0_none]
    refine BIBase.Entails.trans (outof1 (In1 m) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (dats m) (fun _ _ => rfl)
      (In1 m c) (In2 m c) ((dats m 1 c).arrAt · cfg1.N) (exit1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as its steps, in order. -/
abbrev steps : List (Pipeline.Seg (pcfgs (F := F)) adm (dats m) () defs₀ noVar lab lev) :=
  [ .host (stretch hostOps0 hostOps0_sub hostOps0_fresh (V0 m)),
    .host (stretch hostOps0_1 hostOps0_1_sub hostOps0_1_fresh (V1 m)),
    .host (stretch hostOps0_2 hostOps0_2_sub hostOps0_2_fresh (V2 m)),
    .host (stretch hostOps0_3 hostOps0_3_sub hostOps0_3_fresh (V3 m)),
    .host (stretch hostOps0_4 hostOps0_4_sub hostOps0_4_fresh (V4 m)),
    .region (step0 m),
    .region (step1 m) ]

theorem main_steps (c : Dev nD) : main (F := F) c = Pipeline.Seg.run (steps m) := (main_chain c).trans (by chain_rfl)

theorem none_unscoped : ∀ sm : SemLoc sig, sm.isScoped .tc = true := by decide

set_option backward.isDefEq.respectTransparency.types false in
/-- Every weakly fair execution ends with every buffer of the program at `Out1` and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = Out1 m c b) ∧ r.2.sem = fun _ => 0) :=
  Pipeline.θ_run_regions_kit_sems (pcfgs (F := F)) adm (dats m) () cellOf_inj emb₁ defs₀ noVar lab lev m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride c)) (Tₙ := fin m)
    (hch := ⟨fun _ => .rfl, fun _ => .rfl, fun _ => .rfl, fun _ => .rfl, fun _ => .rfl, fun _ => .rfl, fun _ => .rfl, fun _ => .rfl⟩)
    (hinit := by
      refine Pipeline.initEach lab lev fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Out1 m c b)
    (hfin := fun c s' => by
      iintro ⟨⟨Hh, -⟩, HSI⟩
      unfold StableHlo.held
      imodintro
      iapply (pointsTo_read_all (Pipeline.ucRefs τ sig) (fun b => (((c : Thread nD τ)).1, b)) (Out1 m c) s')
      isplitl [Hh] <;> iassumption)
    (hQ := fun s h hz => ⟨h, funext fun g => hz g (.inr (none_unscoped g.2))⟩)

/-- The frame: the arguments end as they were and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (args_kept m c main_arg0 (by decide)),
     (h.1 c _ (mem_uc main_arg1 (by decide))).trans (args_kept m c main_arg1 (by decide)),
     (h.1 c _ (mem_uc main_arg2 (by decide))).trans (args_kept m c main_arg2 (by decide)),
     (h.1 c _ (mem_uc main_arg3 (by decide))).trans (args_kept m c main_arg3 (by decide))⟩, h.2⟩) (run m ρ)

end Cert.KernelIdeal.Ret

end
-- ==== Proof.KerTab.lean ====
module

public import proofs.«01_k».proof.Proof.KerEqs
public import proofs.«01_k».proof.Proof.KerFwdVal
public import proofs.«01_k».proof.Proof.KerRun

/-! # The tables that the calls read, as the host operations leave them -/

@[expose] public section

set_option maxRecDepth 16384

noncomputable section

namespace Cert.KernelIdeal.Ret

open Idealize.ShloMosaic Cert.KernelIdeal.Gen Idealize.ShloMosaic.TcCoe Idealize.ShloMosaic.StableHlo Cert.Retention

section
variable (V : Valuation τ sig (Elt Ideal))

theorem v15_val (i : Fin 16384) (d : Fin 128) : g_v15 (after hostOps0 V) (ix2 i d) = ((angle (g_arg2 V (ix1 i)).toInt d : ℝ) : EReal) := by
  simp only [h0_v15, h0_v14, h0_v13, h0_v12, h0_v11, h0_v10, h0_v9, h0_v8, h0_cst_2, h0_v7, h0_v6, h0_cst_1, h0_v5, h0_v4, h0_v3, h0_cst_0, h0_v2, h0_v1, h0_cst, h0_v0]
  pointwise []
  exact angle_eq _ _ d.isLt

theorem v23_val (h : Fin 4) : g_v23 (after hostOps0 V) (ix1 h) = ((rate h : ℝ) : EReal) := by
  simp only [h0_v23, h0_v22, h0_v21, h0_v20, h0_v19, h0_cst_4, h0_v18, h0_v17, h0_cst_3, h0_v16]
  pointwise []
  exact rate_eq _ h.isLt

theorem v24_val (r : Fin 512) : g_v24 (after hostOps0 V) (ix1 r) = (((r : ℕ) : ℝ) : EReal) := by
  simp only [h0_v24]
  pointwise []
  exact word_real _ (by omega)

theorem v25_val (r : Fin 512) : g_v25 (after hostOps0 V) (ix1 r) = BitVec.ofNat 32 r := by
  simp only [h0_v25]
  pointwise []

theorem c_val : g_c (after hostOps0 V) ix0 = 64#32 := by
  simp only [h0_c]
  pointwise []

theorem chunks : ∀ h : Fin 512, Scalar.select
      (IntOp.andi
        (IntOp.cmpi CmpIPredicate.ne (if (BitVec.ofNat 32 h) = 0 then 0 else if (BitVec.ofNat 32 h).msb = true then -1 else (1 : BitVec 32))
          (if 64#32 = 0 then 0 else if (64#32).msb = true then -1 else 1))
        (IntOp.cmpi CmpIPredicate.ne (IntOp.remsi ArithUnit.host (BitVec.ofNat 32 h) 64#32) 0#32))
      (IntOp.subi (IntOp.divsi ArithUnit.host (BitVec.ofNat 32 h) 64#32) 1#32)
      (IntOp.divsi ArithUnit.host (BitVec.ofNat 32 h) 64#32) = BitVec.ofNat 32 (h / 64) := by decide +kernel

theorem v26_val (r : Fin 512) (h25 : g_v25 V (ix1 r) = BitVec.ofNat 32 r) (hc : g_c V ix0 = 64#32) :
    g_v26 (after hostOps0_1 V) (ix1 r) = BitVec.ofNat 32 (r / 64) := by
  simp only [h1_v26, h1_call0_v13, h1_call0_v12, h1_call0_c_0, h1_call0_v11, h1_call0_v10, h1_call0_v9, h1_call0_c, h1_call0_v8, h1_call0_v7, h1_call0_v6, h1_call0_v5, h1_call0_v4, h1_call0_v3, h1_call0_v2, h1_call0_v1, h1_call0_v0]
  pointwise []
  rw [h25, hc]
  exact chunks r

theorem before : ∀ a b : Fin 8, IntOp.cmpi CmpIPredicate.sle (BitVec.ofNat 32 a) (BitVec.ofNat 32 b) = if a.val ≤ b.val then 1#1 else 0#1 := by
  decide +kernel

theorem v31_val (i j : Fin 512) (h26 : ∀ r : Fin 512, g_v26 V (ix1 r) = BitVec.ofNat 32 (r / 64)) :
    g_v31 (after hostOps0_2 V) (ix2 i j) = if j.val / 64 ≤ i.val / 64 then 1#1 else 0#1 := by
  simp only [h2_v31, h2_v30, h2_v29, h2_v28, h2_v27]
  pointwise []
  rw [h26, h26]
  exact before ⟨j / 64, by omega⟩ ⟨i / 64, by omega⟩

theorem v43_val (h : Fin 4) (i j : Fin 512) (h23 : g_v23 V (ix1 h) = ((rate h : ℝ) : EReal))
    (h24 : ∀ r : Fin 512, g_v24 V (ix1 r) = (((r : ℕ) : ℝ) : EReal)) :
    g_v43 (after hostOps0_2 V) (ix3 h i j) = ((Real.exp (rate h * |(i : ℝ) - (j : ℕ)|) : ℝ) : EReal) := by
  simp only [h2_v43, h2_v42, h2_v41, h2_v40, h2_v39, h2_v38, h2_v37, h2_v36, h2_v35, h2_v34, h2_v33, h2_v32]
  pointwise []
  rw [h23, h24, h24, ← EReal.coe_sub, abs_real, ← EReal.coe_mul, Ideal.exp_coe]

theorem v44_val (h : Fin 4) (i j : Fin 512) (h31 : g_v31 V (ix2 i j) = if j.val / 64 ≤ i.val / 64 then 1#1 else 0#1)
    (h43 : g_v43 V (ix3 h i j) = ((Real.exp (rate h * |(i : ℝ) - (j : ℕ)|) : ℝ) : EReal)) (h5 : g_cst_5 V ix0 = 0) :
    g_v44 (after hostOps0_3 V) (ix3 h i j) = ((decay (rate h) i j : ℝ) : EReal) := by
  simp only [h3_v44, h3_call1_v2, h3_call1_v1, h3_call1_v0]
  pointwise []
  rw [h31, h43, h5]
  unfold decay
  split <;> simp [Scalar.select]

theorem cst5_val : g_cst_5 (after hostOps0_2 V) ix0 = 0 := by
  simp only [h2_cst_5]
  pointwise []

variable (h23 : ∀ h : Fin 4, g_v23 V (ix1 h) = ((rate h : ℝ) : EReal)) (h24 : ∀ r : Fin 512, g_v24 V (ix1 r) = (((r : ℕ) : ℝ) : EReal))

include h23 h24 in
theorem v54_val (h : Fin 4) (i : Fin 512) (d : Fin 256) : g_v54 (after hostOps0_4 V) (ix3 h i d)
    = ((Real.exp (rate h * ((i : ℕ) + 1)) : ℝ) : EReal) := by
  simp only [h4_v54, h4_v53, h4_v52, h4_v51, h4_v50, h4_v49, h4_v48, h4_v47, h4_v46, h4_cst_6, h4_v45]
  pointwise []
  rw [h23, h24, one_real, ← EReal.coe_add, ← EReal.coe_mul, Ideal.exp_coe]

include h23 h24 in
theorem v64_val (h : Fin 4) (i : Fin 512) (d : Fin 256) : g_v64 (after hostOps0_4 V) (ix3 h i d)
    = ((Real.exp (rate h * ((512 : ℕ) - 1 - (i : ℕ))) : ℝ) : EReal) := by
  simp only [h4_v64, h4_v63, h4_v62, h4_v61, h4_v60, h4_v59, h4_v58, h4_v57, h4_v56, h4_cst_7, h4_v55]
  pointwise []
  rw [h23, h24, c_511, ← EReal.coe_sub, ← EReal.coe_mul, Ideal.exp_coe]

include h23 in
theorem v69_val (h : Fin 4) (e : Fin 512) : g_v69 (after hostOps0_4 V) (ix3 h 0 e) = ((Real.exp (rate h * (512 : ℕ)) : ℝ) : EReal) := by
  simp only [h4_v69, h4_v68, h4_v67, h4_v66, h4_v65, h4_cst_8]
  pointwise []
  rw [h23, c_512, ← EReal.coe_mul, Ideal.exp_coe]

theorem v72_val (e : Fin 2048) : g_v72 (after hostOps0_4 V) (ix2 0 e) = g_arg1 V (ix1 e) := by
  simp only [h4_v72]
  pointwise []

theorem v70_val (i : Fin 16384) (d : Fin 128) (a : ℝ) (h : g_v15 V (ix2 i d) = (a : EReal)) :
    g_v70 (after hostOps0_4 V) (ix2 i d) = ((Real.cos a : ℝ) : EReal) := by
  simp only [h4_v70]
  pointwise []
  rw [h, Ideal.cos_coe]

theorem v71_val (i : Fin 16384) (d : Fin 128) (a : ℝ) (h : g_v15 V (ix2 i d) = (a : EReal)) :
    g_v71 (after hostOps0_4 V) (ix2 i d) = ((Real.sin a : ℝ) : EReal) := by
  simp only [h4_v71]
  pointwise []
  rw [h, Ideal.sin_coe]
end

variable (m : (ℓ : Loc nD τ sig) → Buf (Elt Ideal) ℓ) (c : Dev nD)
  (P : ℕ → ℕ → ℝ) (pos : ℕ → ℤ)
  (hP : ∀ (i : Fin 16384) (j : Fin 6144), m ((c : Thread nD τ).loc main_arg0) (ix2 i j) = ((P i j : ℝ) : EReal))
  (hpos : ∀ i : Fin 16384, (m ((c : Thread nD τ).loc main_arg2) (ix1 i)).toInt = pos i)

theorem at23 (h : Fin 4) : g_v23 (V4 m c) (ix1 h) = ((rate h : ℝ) : EReal) :=
  (congrFun ((V4_of m c main_v23 (by decide)).trans <| (V3_of m c main_v23 (by decide)).trans (V2_of m c main_v23 (by decide))) (ix1 h)).trans
    (v23_val (V0 m c) h)
theorem at24 (r : Fin 512) : g_v24 (V4 m c) (ix1 r) = (((r : ℕ) : ℝ) : EReal) :=
  (congrFun ((V4_of m c main_v24 (by decide)).trans <| (V3_of m c main_v24 (by decide)).trans (V2_of m c main_v24 (by decide))) (ix1 r)).trans
    (v24_val (V0 m c) r)
theorem at23' (h : Fin 4) : g_v23 (V2 m c) (ix1 h) = ((rate h : ℝ) : EReal) :=
  (congrFun (V2_of m c main_v23 (by decide)) (ix1 h)).trans (v23_val (V0 m c) h)
theorem at24' (r : Fin 512) : g_v24 (V2 m c) (ix1 r) = (((r : ℕ) : ℝ) : EReal) :=
  (congrFun (V2_of m c main_v24 (by decide)) (ix1 r)).trans (v24_val (V0 m c) r)
theorem at26 (r : Fin 512) : g_v26 (V2 m c) (ix1 r) = BitVec.ofNat 32 (r / 64) :=
  v26_val (V1 m c) r (v25_val (V0 m c) r) (c_val (V0 m c))
theorem at44 (h : Fin 4) (i j : Fin 512) : V5 m c main_v44 (ix3 h i j) = ((decay (rate h) i j : ℝ) : EReal) :=
  (congrFun (V5_of m c main_v44 (by decide)) (ix3 h i j)).trans
    (v44_val (V3 m c) h i j (v31_val (V2 m c) i j (at26 m c)) (v43_val (V2 m c) h i j (at23' m c h) (at24' m c)) (cst5_val (V2 m c)))
include hpos in
theorem at15 (i : Fin 16384) (d : Fin 128) : g_v15 (V4 m c) (ix2 i d) = ((angle (pos i) d : ℝ) : EReal) := by
  refine (congrFun ((V4_of m c main_v15 (by decide)).trans <| (V3_of m c main_v15 (by decide)).trans (V2_of m c main_v15 (by decide))) (ix2 i d)).trans
    ((v15_val (V0 m c) i d).trans ?_)
  rw [← hpos i]; rfl

theorem arg_at5 (a : Ref sig .tc) (h : a ∈ argRefs) : V5 m c a = m ((c : Thread nD τ).loc a) :=
  (V5_of m c a (args_4 a h)).trans <|
  (V4_of m c a (args_3 a h)).trans <| (V3_of m c a (args_2 a h)).trans <| (V2_of m c a (args_1 a h)).trans (V1_of m c a (args_0 a h))

include hP in
theorem at_arg0 (i : Fin 16384) (j : Fin 6144) : V5 m c main_arg0 (ix2 i j) = ((P i j : ℝ) : EReal) :=
  (congrFun (arg_at5 m c main_arg0 (by decide)) (ix2 i j)).trans (hP i j)
include hpos in
theorem at70 (i : Fin 16384) (d : Fin 128) : V5 m c main_v70 (ix2 i d) = ((Real.cos (angle (pos i) d) : ℝ) : EReal) :=
  v70_val (V4 m c) i d _ (at15 m c pos hpos i d)
include hpos in
theorem at71 (i : Fin 16384) (d : Fin 128) : V5 m c main_v71 (ix2 i d) = ((Real.sin (angle (pos i) d) : ℝ) : EReal) :=
  v71_val (V4 m c) i d _ (at15 m c pos hpos i d)
theorem at54 (h : Fin 4) (i : Fin 512) (d : Fin 256) : V5 m c main_v54 (ix3 h i d) = ((Real.exp (rate h * ((i : ℕ) + 1)) : ℝ) : EReal) :=
  v54_val (V4 m c) (at23 m c) (at24 m c) h i d
theorem at64 (h : Fin 4) (i : Fin 512) (d : Fin 256) : V5 m c main_v64 (ix3 h i d) = ((Real.exp (rate h * ((512 : ℕ) - 1 - (i : ℕ))) : ℝ) : EReal) :=
  v64_val (V4 m c) (at23 m c) (at24 m c) h i d
theorem at69 (h : Fin 4) (e : Fin 512) : V5 m c main_v69 (ix3 h 0 e) = ((Real.exp (rate h * (512 : ℕ)) : ℝ) : EReal) :=
  v69_val (V4 m c) (at23 m c) h e
theorem at72 (e : Fin 2048) : V5 m c main_v72 (ix2 0 e) = m ((c : Thread nD τ).loc main_arg1) (ix1 e) :=
  (v72_val (V4 m c) e).trans (congrFun ((V4_of m c main_arg1 (by decide)).trans <| (V3_of m c main_arg1 (by decide)).trans <|
    (V2_of m c main_arg1 (by decide)).trans (V1_of m c main_arg1 (by decide))) (ix1 e))

include hP hpos in
/-- What the forward call reads. -/
theorem reads0 : Reads (In0 m) c P (cosine pos) (sine pos) rate where
  proj := at_arg0 m c P hP
  cos := at70 m c pos hpos
  sin := at71 m c pos hpos
  dm := at44 m c
  xi := at54 m c
  zeta := at64 m c
  gt := at69 m c

end Cert.KernelIdeal.Ret
-- ==== Proof.KerBwdVal.lean ====
module

public import proofs.«01_k».proof.Proof.KerFwdVal
public import proofs.«01_k».proof.Proof.KerBwdData
public import Idealize.ShloMosaic.Lib.Pipeline.ValueKit

/-! # The blocks of the backward call -/

@[expose] public section

set_option maxRecDepth 16384

noncomputable section

namespace Cert.KernelIdeal.Ret

open Idealize.ShloMosaic Cert.KernelIdeal.Gen Idealize.ShloMosaic.TcCoe Cert.Retention
open Idealize.ShloMosaic.Pipeline (Dat)

theorem idx1 : ∀ t : Fin cfg1.N, win1_0.index t = ![31 - t.val % 32, t.val / 32]
    ∧ win1_1.index t = ![31 - t.val % 32, 4 + t.val / 32]
    ∧ win1_2.index t = ![31 - t.val % 32, 4 + t.val / 32]
    ∧ win1_3.index t = ![31 - t.val % 32, t.val / 32]
    ∧ win1_4.index t = ![t.val / 32, 31 - t.val % 32, 0, 0]
    ∧ win1_5.index t = ![31 - t.val % 32, 0]
    ∧ win1_6.index t = ![31 - t.val % 32, 0]
    ∧ win1_7.index t = ![t.val / 32, 0, 0]
    ∧ win1_8.index t = ![t.val / 32, 0, 0]
    ∧ win1_9.index t = ![t.val / 32, 0, 0]
    ∧ win1_10.index t = ![t.val / 32, 0, 0]
    ∧ win1_11.index t = ![31 - t.val % 32, t.val / 32]
    ∧ win1_12.index t = ![31 - t.val % 32, t.val / 32]
    ∧ win1_13.index t = ![31 - t.val % 32, t.val / 32] := by decide +kernel

theorem lt1 (t : Fin cfg1.N) : t.val < 128 := lt_of_lt_of_eq t.isLt (by decide +kernel)

section
variable {F : FTy → Type} [FloatOps F] (V : (c : Dev nD) → (b : Ref sig .tc) → Buf (Elt F) ((c : Thread nD τ).loc b))
theorem blk1_0 (c : Dev nD) (t : Fin cfg1.N) (r : Fin 512) (d : Fin 256) : iblk1 V c 0 t (ix2 r d) = V c main_arg0 (ix2 ⟨512 * (31 - t.val % 32) + r, by omega⟩ ⟨256 * (t.val / 32) + d, by have := lt1 t; omega⟩) := by
  blk_ext [iblk1, idx1 t]
theorem blk1_1 (c : Dev nD) (t : Fin cfg1.N) (r : Fin 512) (d : Fin 256) : iblk1 V c 1 t (ix2 r d) = V c main_arg0 (ix2 ⟨512 * (31 - t.val % 32) + r, by omega⟩ ⟨1024 + 256 * (t.val / 32) + d, by have := lt1 t; omega⟩) := by
  blk_ext [iblk1, idx1 t]
theorem blk1_2 (c : Dev nD) (t : Fin cfg1.N) (r : Fin 512) (e : Fin 512) : iblk1 V c 2 t (ix2 r e) = V c main_arg0 (ix2 ⟨512 * (31 - t.val % 32) + r, by omega⟩ ⟨2048 + 512 * (t.val / 32) + e, by have := lt1 t; omega⟩) := by
  blk_ext [iblk1, idx1 t]
theorem blk1_3 (c : Dev nD) (t : Fin cfg1.N) (r : Fin 512) (e : Fin 512) : iblk1 V c 3 t (ix2 r e) = V c main_arg3 (ix2 ⟨512 * (31 - t.val % 32) + r, by omega⟩ ⟨512 * (t.val / 32) + e, by have := lt1 t; omega⟩) := by
  blk_ext [iblk1, idx1 t]
theorem blk1_4 (c : Dev nD) (t : Fin cfg1.N) (d : Fin 256) (e : Fin 512) : iblk1 V c 4 t (ix4 0 0 d e) = V c main_v73_2 (ix4 ⟨t.val / 32, by have := lt1 t; omega⟩ ⟨31 - t.val % 32, by omega⟩ d e) := by
  blk_ext [iblk1, idx1 t]
theorem blk1_5 (c : Dev nD) (t : Fin cfg1.N) (r : Fin 512) (d : Fin 128) : iblk1 V c 5 t (ix2 r d) = V c main_v70 (ix2 ⟨512 * (31 - t.val % 32) + r, by omega⟩ d) := by
  blk_ext [iblk1, idx1 t]
theorem blk1_6 (c : Dev nD) (t : Fin cfg1.N) (r : Fin 512) (d : Fin 128) : iblk1 V c 6 t (ix2 r d) = V c main_v71 (ix2 ⟨512 * (31 - t.val % 32) + r, by omega⟩ d) := by
  blk_ext [iblk1, idx1 t]
theorem blk1_7 (c : Dev nD) (t : Fin cfg1.N) (i : Fin 512) (j : Fin 512) : iblk1 V c 7 t (ix3 0 i j) = V c main_v44 (ix3 ⟨t.val / 32, by have := lt1 t; omega⟩ i j) := by
  blk_ext [iblk1, idx1 t]
theorem blk1_8 (c : Dev nD) (t : Fin cfg1.N) (r : Fin 512) (d : Fin 256) : iblk1 V c 8 t (ix3 0 r d) = V c main_v54 (ix3 ⟨t.val / 32, by have := lt1 t; omega⟩ r d) := by
  blk_ext [iblk1, idx1 t]
theorem blk1_9 (c : Dev nD) (t : Fin cfg1.N) (r : Fin 512) (d : Fin 256) : iblk1 V c 9 t (ix3 0 r d) = V c main_v64 (ix3 ⟨t.val / 32, by have := lt1 t; omega⟩ r d) := by
  blk_ext [iblk1, idx1 t]
theorem blk1_10 (c : Dev nD) (t : Fin cfg1.N) (e : Fin 512) : iblk1 V c 10 t (ix3 0 0 e) = V c main_v69 (ix3 ⟨t.val / 32, by have := lt1 t; omega⟩ 0 e) := by
  blk_ext [iblk1, idx1 t]
end

variable (V : (c : Dev nD) → (b : Ref sig .tc) → Buf (Elt Ideal) ((c : Thread nD τ).loc b)) (c : Dev nD)
  (P U C S : ℕ → ℕ → ℝ) (g : ℕ → ℝ)

variable {V c P C S g} (H : Reads V c P C S g) (t : Fin cfg1.N)
include H

theorem q_1 (r : Fin 512) (d : Fin 256) : iblk1 V c 0 t (ix2 r d) = ((P (512 * (31 - t.val % 32) + r) (256 * (t.val / 32) + d) : ℝ) : EReal) := by
  rw [blk1_0, H.proj]
theorem k_1 (r : Fin 512) (d : Fin 256) : iblk1 V c 1 t (ix2 r d) = ((P (512 * (31 - t.val % 32) + r) (1024 + 256 * (t.val / 32) + d) : ℝ) : EReal) := by
  rw [blk1_1, H.proj]
theorem v_1 (r e : Fin 512) : k1_pay11 (iblk1 V c 2 t) (ix2 r e) = ((value P (t.val / 32) (512 * (31 - t.val % 32) + r) e : ℝ) : EReal) := by
  rw [show k1_pay11 (iblk1 V c 2 t) (ix2 r e) = iblk1 V c 2 t (ix2 r e) from by unfold_payloads; pointwise [], blk1_2, H.proj]; rfl
theorem c_1 (r : Fin 512) (d : Fin 128) : iblk1 V c 5 t (ix2 r d) = ((C (512 * (31 - t.val % 32) + r) d : ℝ) : EReal) := by
  rw [blk1_5, H.cos]
theorem s_1 (r : Fin 512) (d : Fin 128) : iblk1 V c 6 t (ix2 r d) = ((S (512 * (31 - t.val % 32) + r) d : ℝ) : EReal) := by
  rw [blk1_6, H.sin]
theorem dm_1 (i j : Fin 512) : iblk1 V c 7 t (ix3 0 i j) = ((decay (g (t.val / 32)) i j : ℝ) : EReal) := by
  rw [blk1_7, H.dm]
theorem xi_1 (r : Fin 512) (d : Fin 256) : iblk1 V c 8 t (ix3 0 r d) = ((Real.exp (g (t.val / 32) * ((r : ℕ) + 1)) : ℝ) : EReal) := by
  rw [blk1_8, H.xi]
theorem zeta_1 (r : Fin 512) (d : Fin 256) : iblk1 V c 9 t (ix3 0 r d) = ((Real.exp (g (t.val / 32) * ((512 : ℕ) - 1 - (r : ℕ))) : ℝ) : EReal) := by
  rw [blk1_9, H.zeta]
theorem gt_1 (e : Fin 512) : iblk1 V c 10 t (ix3 0 0 e) = ((Real.exp (g (t.val / 32) * (512 : ℕ)) : ℝ) : EReal) := by
  rw [blk1_10, H.gt]
theorem qr_1 (r : Fin 512) (d : Fin 256) : k1_pay9 (iblk1 V c 5 t) (iblk1 V c 6 t) (iblk1 V c 0 t) (ix2 r d) = ((query P C S (t.val / 32) (512 * (31 - t.val % 32) + r) d : ℝ) : EReal) := by
  exact rope1 _ _ _ (fun r d => P (512 * (31 - t.val % 32) + r) (256 * (t.val / 32) + d)) (fun r d => C (512 * (31 - t.val % 32) + r) d) (fun r d => S (512 * (31 - t.val % 32) + r) d) (q_1 H t) (c_1 H t) (s_1 H t) r d
theorem qb_1 (r : Fin 512) (d : Fin 256) : k1_pay12 (iblk1 V c 5 t) (iblk1 V c 6 t) (iblk1 V c 0 t) (ix2 r d) = ((query P C S (t.val / 32) (512 * (31 - t.val % 32) + r) d : ℝ) : EReal) := by
  exact rope1b _ _ _ (fun r d => P (512 * (31 - t.val % 32) + r) (256 * (t.val / 32) + d)) (fun r d => C (512 * (31 - t.val % 32) + r) d) (fun r d => S (512 * (31 - t.val % 32) + r) d) (q_1 H t) (c_1 H t) (s_1 H t) r d
theorem kr_1 (r : Fin 512) (d : Fin 256) : k1_pay10 (iblk1 V c 5 t) (iblk1 V c 6 t) (iblk1 V c 1 t) (ix2 r d) = ((key P C S (t.val / 32) (512 * (31 - t.val % 32) + r) d : ℝ) : EReal) := by
  exact ropek1 _ _ _ (fun r d => P (512 * (31 - t.val % 32) + r) (1024 + 256 * (t.val / 32) + d)) (fun r d => C (512 * (31 - t.val % 32) + r) d) (fun r d => S (512 * (31 - t.val % 32) + r) d) (k_1 H t) (c_1 H t) (s_1 H t) r d
theorem kb_1 (r : Fin 512) (d : Fin 256) : k1_pay13 (iblk1 V c 5 t) (iblk1 V c 6 t) (iblk1 V c 1 t) (ix2 r d) = ((key P C S (t.val / 32) (512 * (31 - t.val % 32) + r) d : ℝ) : EReal) := by
  exact ropek1b _ _ _ (fun r d => P (512 * (31 - t.val % 32) + r) (1024 + 256 * (t.val / 32) + d)) (fun r d => C (512 * (31 - t.val % 32) + r) d) (fun r d => S (512 * (31 - t.val % 32) + r) d) (k_1 H t) (c_1 H t) (s_1 H t) r d

variable (HU : ∀ (i : Fin 16384) (j : Fin 2048), V c main_arg3 (ix2 i j) = ((U i j : ℝ) : EReal))

omit H in
include HU in
theorem u_1 (r e : Fin 512) : iblk1 V c 3 t (ix2 r e) = ((grad U (t.val / 32) (512 * (31 - t.val % 32) + r) e : ℝ) : EReal) := by
  rw [blk1_3, HU]; rfl

include HU in
theorem carry1_val (n : ℕ) : ∀ (hn : n < cfg1.N) (d : Fin 256) (e : Fin 512), carry1 V c n hn (ix2 d e)
    = ((back 512 32 (g (n / 32)) (fun i => query P C S (n / 32) i d * grad U (n / 32) i e) (n % 32 + 1) : ℝ) : EReal) := by
  induction n using Nat.strong_induction_on with
  | _ n ih =>
    intro hn d e
    have key : ∀ (d : Fin 256) (e : Fin 512), found1 V c ⟨n, hn⟩ (ix2 d e)
        = ((back 512 32 (g (n / 32)) (fun i => query P C S (n / 32) i d * grad U (n / 32) i e) (n % 32) : ℝ) : EReal) := fun d e => by
      unfold found1
      split
      · rename_i h0
        have h0' : n % 32 = 0 := h0
        rw [h0']; unfold_payloads; pointwise []; simp [back, Ideal.ofBits_zero_f32]
      · rename_i h0
        have h0' : ¬ n % 32 = 0 := h0
        rw [ih (n - 1) (by omega)]
        rw [show (n - 1) / 32 = n / 32 by omega, show (n - 1) % 32 + 1 = n % 32 by omega]
    rw [carry1_eq V c ⟨n, hn⟩]
    unfold next1
    exact back_block _ _ _ _ _ (g (n / 32)) (fun r d => query P C S (n / 32) (512 * (31 - n % 32) + r) d)
      (fun r e => grad U (n / 32) (512 * (31 - n % 32) + r) e)
      (fun d e => back 512 32 (g (n / 32)) (fun i => query P C S (n / 32) i d * grad U (n / 32) i e) (n % 32))
      (qr_1 H ⟨n, hn⟩) (u_1 U ⟨n, hn⟩ HU) (xi_1 H ⟨n, hn⟩) (gt_1 H ⟨n, hn⟩) key d e

include HU in
/-- The state a block finds. -/
theorem found1_val (d : Fin 256) (e : Fin 512) : found1 V c t (ix2 d e)
    = ((back 512 32 (g (t.val / 32)) (fun i => query P C S (t.val / 32) i d * grad U (t.val / 32) i e) (t.val % 32) : ℝ) : EReal) := by
  unfold found1
  split
  · rename_i h0
    rw [h0]; unfold_payloads; pointwise []; simp [back, Ideal.ofBits_zero_f32]
  · rename_i h0
    rw [carry1_val U H HU (t.val - 1)]
    rw [show (t.val - 1) / 32 = t.val / 32 by omega, show (t.val - 1) % 32 + 1 = t.val % 32 by omega]

include HU in
/-- The rows of the gradient of the values a block leaves. -/
theorem dv1_val (r e : Fin 512) : (dat1 V c).after 13 t (ix2 r e) = ((gradV P U C S g (t.val / 32) (512 * (31 - t.val % 32) + r) e : ℝ) : EReal) := by
  rw [after1_13]; unfold dv1
  refine (dv_block _ _ _ _ _ _ _ (g (t.val / 32)) (fun r d => query P C S (t.val / 32) (512 * (31 - t.val % 32) + r) d)
    (fun r d => key P C S (t.val / 32) (512 * (31 - t.val % 32) + r) d) (fun r e => grad U (t.val / 32) (512 * (31 - t.val % 32) + r) e)
    (fun d e => back 512 32 (g (t.val / 32)) (fun i => query P C S (t.val / 32) i d * grad U (t.val / 32) i e) (t.val % 32))
    (kr_1 H t) (qb_1 H t) (kb_1 H t) (u_1 U t HU) (dm_1 H t) (zeta_1 H t) (found1_val U H t HU) r e).trans ?_
  have h := spread_block (g (t.val / 32)) (B := 512) (N := 32) (by norm_num) 256 (query P C S (t.val / 32))
      (key P C S (t.val / 32)) (grad U (t.val / 32)) (n := 31 - t.val % 32) (by omega) r.isLt e
  rw [show 32 - 1 - (31 - t.val % 32) = t.val % 32 by omega] at h
  exact congrArg _ h

include HU in
/-- The rows of the gradient of the keys a block leaves. -/
theorem dk1_val (r : Fin 512) (d : Fin 256) : (dat1 V c).after 12 t (ix2 r d) = ((gradK P U C S g (t.val / 32) (512 * (31 - t.val % 32) + r) d : ℝ) : EReal) := by
  rw [after1_12]; unfold dk1
  refine (unropek _ _ _ (fun r d => spread (g (t.val / 32)) 16384 512 (grad U (t.val / 32)) (value P (t.val / 32)) (query P C S (t.val / 32)) (512 * (31 - t.val % 32) + r) d)
    (fun r d => C (512 * (31 - t.val % 32) + r) d) (fun r d => S (512 * (31 - t.val % 32) + r) d) (fun r d => ?_) (c_1 H t) (s_1 H t) r d)
  refine (dk_block _ _ _ _ _ _ (g (t.val / 32)) (fun r d => query P C S (t.val / 32) (512 * (31 - t.val % 32) + r) d)
    (fun r e => value P (t.val / 32) (512 * (31 - t.val % 32) + r) e) (fun r e => grad U (t.val / 32) (512 * (31 - t.val % 32) + r) e)
    (fun d e => back 512 32 (g (t.val / 32)) (fun i => query P C S (t.val / 32) i d * grad U (t.val / 32) i e) (t.val % 32))
    (qb_1 H t) (v_1 H t) (u_1 U t HU) (dm_1 H t) (zeta_1 H t) (found1_val U H t HU) r d).trans ?_
  have h := spread_block (g (t.val / 32)) (B := 512) (N := 32) (by norm_num) 512 (grad U (t.val / 32))
      (value P (t.val / 32)) (query P C S (t.val / 32)) (n := 31 - t.val % 32) (by omega) r.isLt d
  rw [show 32 - 1 - (31 - t.val % 32) = t.val % 32 by omega] at h
  simp only [mul_comm (query P C S _ _ _)]
  exact congrArg _ h

variable (HS : ∀ (h : Fin 4) (n : Fin 32) (d : Fin 256) (e : Fin 512), V c main_v73_2 (ix4 h n d e)
  = ((state 512 (g h) (fun j => key P C S h j d * value P h j e) n : ℝ) : EReal))

include HU HS in
/-- The rows of the gradient of the queries a block leaves. -/
theorem dq1_val (r : Fin 512) (d : Fin 256) : (dat1 V c).after 11 t (ix2 r d) = ((gradQ P U C S g (t.val / 32) (512 * (31 - t.val % 32) + r) d : ℝ) : EReal) := by
  rw [after1_11]; unfold dq1
  refine (unropeq _ _ _ (fun r d => attend (g (t.val / 32)) 16384 512 (grad U (t.val / 32)) (value P (t.val / 32)) (key P C S (t.val / 32)) (512 * (31 - t.val % 32) + r) d)
    (fun r d => C (512 * (31 - t.val % 32) + r) d) (fun r d => S (512 * (31 - t.val % 32) + r) d) (fun r d => ?_) (c_1 H t) (s_1 H t) r d)
  refine (dq_block _ _ _ _ _ _ (g (t.val / 32)) (fun r d => key P C S (t.val / 32) (512 * (31 - t.val % 32) + r) d)
    (fun r e => value P (t.val / 32) (512 * (31 - t.val % 32) + r) e) (fun r e => grad U (t.val / 32) (512 * (31 - t.val % 32) + r) e)
    (fun d e => state 512 (g (t.val / 32)) (fun j => key P C S (t.val / 32) j d * value P (t.val / 32) j e) (31 - t.val % 32))
    (kb_1 H t) (v_1 H t) (u_1 U t HU) (dm_1 H t) (xi_1 H t) (fun d e => ?_) r d).trans ?_
  · rw [show k1_pay14 (iblk1 V c 4 t) (ix2 d e) = iblk1 V c 4 t (ix4 0 0 d e) from by unfold_payloads; pointwise [], blk1_4, HS]
  · have h := attend_block (g (t.val / 32)) (B := 512) (N := 32) (by norm_num) 512 (grad U (t.val / 32))
      (value P (t.val / 32)) (key P C S (t.val / 32)) (n := 31 - t.val % 32) (by omega) r.isLt d
    simp only [mul_comm (key P C S _ _ _)]
    exact congrArg _ h

include HU in
theorem dv1_arr : (dat1 V c).arrAt 13 cfg1.N
    = fun i => ((gradV P U C S g ((i 1).val / 512) (i 0).val ((i 1).val % 512) : ℝ) : EReal) := by
  refine (dat1 V c).arrAt_eq_of_covers 13 _ (by decide +kernel) fun t hf y => ?_
  idx_vars y
  blk_simp [idx1 t]
  rw [dv1_val U H t HU y0 y1, show (t.val / 32 * 512 + y1.val) / 512 = t.val / 32 by omega, show (t.val / 32 * 512 + y1.val) % 512 = y1 by omega,
    Nat.mul_comm (31 - t.val % 32)]

include HU in
theorem dk1_arr : (dat1 V c).arrAt 12 cfg1.N
    = fun i => ((gradK P U C S g ((i 1).val / 256) (i 0).val ((i 1).val % 256) : ℝ) : EReal) := by
  refine (dat1 V c).arrAt_eq_of_covers 12 _ (by decide +kernel) fun t hf y => ?_
  idx_vars y
  blk_simp [idx1 t]
  rw [dk1_val U H t HU y0 y1, show (t.val / 32 * 256 + y1.val) / 256 = t.val / 32 by omega, show (t.val / 32 * 256 + y1.val) % 256 = y1 by omega,
    Nat.mul_comm (31 - t.val % 32)]

include HU HS in
theorem dq1_arr : (dat1 V c).arrAt 11 cfg1.N
    = fun i => ((gradQ P U C S g ((i 1).val / 256) (i 0).val ((i 1).val % 256) : ℝ) : EReal) := by
  refine (dat1 V c).arrAt_eq_of_covers 11 _ (by decide +kernel) fun t hf y => ?_
  idx_vars y
  blk_simp [idx1 t]
  rw [dq1_val U H t HU HS y0 y1, show (t.val / 32 * 256 + y1.val) / 256 = t.val / 32 by omega, show (t.val / 32 * 256 + y1.val) % 256 = y1 by omega,
    Nat.mul_comm (31 - t.val % 32)]

end Cert.KernelIdeal.Ret
-- ==== Proof.Gate.lean ====
module

public import proofs.«01_k».proof.Proof.Tables

/-! # The normalised and gated output as real numbers -/

@[expose] public section

noncomputable section

namespace Cert.Retention

open Idealize.ShloMosaic

/-- A head's row less its mean, over the root of its variance. -/
def mean (y : ℕ → ℝ) : ℝ := (∑ x ∈ Finset.range 512, y x) * (1 / (512 : ℕ))
def variance (y : ℕ → ℝ) : ℝ := (∑ x ∈ Finset.range 512, (y x - mean y) * (y x - mean y)) * (1 / (512 : ℕ))
def norm (y : ℕ → ℝ) (e : ℕ) : ℝ := (y e - mean y) * (Real.sqrt (variance y + eps))⁻¹

/-- The gate `z` times its logistic, times the normalised row at `e` and its scale `a`. -/
def gated (z : ℝ) (y : ℕ → ℝ) (e : ℕ) (a : EReal) : EReal := ((z * (1 + Real.exp (-z))⁻¹ : ℝ) : EReal) * (((norm y e : ℝ) : EReal) * a)

theorem mean_congr {y y' : ℕ → ℝ} (h : ∀ x < 512, y x = y' x) : mean y = mean y' := by
  unfold mean
  rw [Finset.sum_congr rfl fun x hx => h x (Finset.mem_range.mp hx)]
theorem gated_congr (z : ℝ) {y y' : ℕ → ℝ} (h : ∀ x < 512, y x = y' x) {e : ℕ} (he : e < 512) (a : EReal) : gated z y e a = gated z y' e a := by
  unfold gated norm variance
  rw [mean_congr h, h e he, Finset.sum_congr rfl fun x hx => by rw [h x (Finset.mem_range.mp hx)]]

theorem eps_pos : 0 < eps := by unfold eps; norm_num

theorem variance_nonneg (y : ℕ → ℝ) : 0 ≤ variance y := by
  unfold variance
  exact mul_nonneg (Finset.sum_nonneg fun x _ => mul_self_nonneg _) (by positivity)

theorem mean_real (y : ℕ → ℝ) : Ideal.div (∑ x : Fin 512, (((y x : ℝ) : EReal) : Ideal .f32)) (Ideal.ofBits .f32 0x44000000#32) = ((mean y : ℝ) : EReal) := by
  rw [csum, c_512, Ideal.div_coe (by norm_num), ← EReal.coe_mul]
  unfold mean
  rw [Finset.sum_range]

theorem variance_real (y : ℕ → ℝ) : Ideal.div (∑ x : Fin 512, (((y x - mean y : ℝ) : EReal) : Ideal .f32) * ((y x - mean y : ℝ) : EReal))
    (Ideal.ofBits .f32 0x44000000#32) = ((variance y : ℝ) : EReal) := by
  simp only [← EReal.coe_mul]
  rw [csum (fun x : Fin 512 => (y x - mean y) * (y x - mean y)), c_512, Ideal.div_coe (by norm_num), ← EReal.coe_mul]
  unfold variance
  rw [Finset.sum_range]

theorem root_real (y : ℕ → ℝ) : Ideal.rsqrt ((((variance y : ℝ) : EReal) : Ideal .f32) + Ideal.ofBits .f32 0x3727C5AC#32)
    = (((Real.sqrt (variance y + eps))⁻¹ : ℝ) : EReal) := by
  have h : 0 < variance y + eps := add_pos_of_nonneg_of_pos (variance_nonneg y) eps_pos
  rw [c_eps, ← EReal.coe_add, Ideal.rsqrt_coe, if_neg (not_lt.mpr h.le), if_neg h.ne']

theorem silu_real (z : ℝ) : (((z : ℝ) : EReal) : Ideal .f32) * Ideal.div 1 (1 + Ideal.exp (-((z : ℝ) : EReal))) = ((z * (1 + Real.exp (-z))⁻¹ : ℝ) : EReal) := by
  have h : (1 + Real.exp (-z)) ≠ 0 := by positivity
  rw [← EReal.coe_neg, Ideal.exp_coe, one_real, ← EReal.coe_add, Ideal.div_coe h, ← EReal.coe_mul, ← EReal.coe_mul, one_mul, one_div]

end Cert.Retention
-- ==== Proof.KerGate.lean ====
module

public import proofs.«01_k».proof.Proof.KerTab
public import proofs.«01_k».proof.Proof.KerBwdVal
public import proofs.«01_k».proof.Proof.Gate

/-! # The gated rows the forward call leaves -/

@[expose] public section

set_option maxRecDepth 16384

noncomputable section

namespace Cert.KernelIdeal.Ret

open Idealize.ShloMosaic Cert.KernelIdeal.Gen Idealize.ShloMosaic.TcCoe Cert.Retention
open Idealize.ShloMosaic.Pipeline (Dat)

section
variable (a : Vec Ideal S512x256 .f32) (vb : Vec Ideal S512x512 .bf16) (qb kb : Vec Ideal S512x256 .bf16) (sb : Vec Ideal S256x512 .bf16)
  (x7 : Vec Ideal S1x512x512 .f32) (x8 : Vec Ideal S1x512x256 .f32) (y : ℕ → ℕ → ℝ)
  (hy : ∀ r e : Fin 512, k0_pay12 a vb qb kb sb x7 x8 (ix2 r e) = ((y r e : ℝ) : EReal))
include hy

theorem centre_block (r e : Fin 512) : k0_pay14 a vb qb kb sb x7 x8 (ix2 r e) = ((y r e - mean (y r) : ℝ) : EReal) := by
  unfold k0_pay14
  pointwise []
  simp only [hy]
  erw [mean_real (y r)]
  rw [← EReal.coe_sub]

theorem square_block (r : Fin 512) : k0_pay15 a vb qb kb sb x7 x8 (ix1 r)
    = ∑ x : Fin 512, (((y r x - mean (y r) : ℝ) : EReal) : Ideal .f32) * ((y r x - mean (y r) : ℝ) : EReal) := by
  unfold k0_pay15
  pointwise []
  simp only [centre_block a vb qb kb sb x7 x8 y hy]

/-- A gated block, from its rows of y, its gate `z` and its scale. -/
theorem gated_block (x3 : Vec Ideal S512x512 .f32) (x4 : Vec Ideal S1x512 .f32) (z : ℕ → ℕ → ℝ)
    (hz : ∀ r e : Fin 512, x3 (ix2 r e) = ((z r e : ℝ) : EReal)) (r e : Fin 512) :
    k0_pay1 (k0_pay14 a vb qb kb sb x7 x8) (k0_pay15 a vb qb kb sb x7 x8) x3 x4 (ix2 r e) = gated (z r e) (y r) e (x4 (ix2 0 e)) := by
  unfold k0_pay1
  pointwise []
  rw [square_block a vb qb kb sb x7 x8 y hy, centre_block a vb qb kb sb x7 x8 y hy, hz]
  unfold gated
  rw [← silu_real, variance_real, root_real, zero_sub, ← EReal.coe_mul]
  rfl
end

variable {V : (c : Dev nD) → (b : Ref sig .tc) → Buf (Elt Ideal) ((c : Thread nD τ).loc b)} {c : Dev nD}
  {P C S : ℕ → ℕ → ℝ} {g : ℕ → ℝ} (H : Reads V c P C S g) (t : Fin cfg0.N)
include H

theorem gated0_val (r e : Fin 512) : (dat0 V c).after 11 t (ix2 r e)
    = gated (P (512 * (t.val % 32) + r) (4096 + 512 * (t.val / 32) + e)) (out P C S g (t.val / 32) (512 * (t.val % 32) + r)) e
        (V c main_v72 (ix2 0 ⟨512 * (t.val / 32) + e, by have := lt0 t; omega⟩)) := by
  rw [after0_11]; unfold gated0
  refine (gated_block _ _ _ _ _ _ _ (fun r => out P C S g (t.val / 32) (512 * (t.val % 32) + r)) (fun r e => ?_) _ _
    (fun r e => P (512 * (t.val % 32) + r) (4096 + 512 * (t.val / 32) + e)) (fun r e => ?_) r e).trans ?_
  · rw [← y0_val H t r e, after0_12]; rfl
  · rw [blk0_3, H.proj]
  · rw [blk0_4]

theorem gated0_arr : (dat0 V c).arrAt 11 cfg0.N
    = fun i : S16384x2048.Idx => gated (P (i 0).val (4096 + (i 1).val)) (fun x => out P C S g ((i 1).val / 512) (i 0).val x) ((i 1).val % 512)
        (V c main_v72 (ix2 0 (i 1))) := by
  refine (dat0 V c).arrAt_eq_of_covers 11 _ (by decide +kernel) fun t hf y => ?_
  idx_vars y
  blk_simp [idx0 t]
  rw [gated0_val H t y0 y1, show (t.val / 32 * 512 + y1.val) / 512 = t.val / 32 by omega, show (t.val / 32 * 512 + y1.val) % 512 = y1 by omega,
    Nat.mul_comm (t.val % 32), Nat.mul_comm (t.val / 32), ← Nat.add_assoc 4096]
  refine congrArg _ (congrArg _ (congrArg (ix2 0) (Fin.ext ?_)))
  blk_simp [idx0 t]
  exact Nat.mul_comm 512 _ ▸ rfl

end Cert.KernelIdeal.Ret
-- ==== Proof.KerRes.lean ====
module

public import proofs.«01_k».proof.Proof.KerGate

/-! # The kernel's five results -/

@[expose] public section

set_option maxRecDepth 16384

noncomputable section

namespace Cert.KernelIdeal.Ret

open Idealize.ShloMosaic Cert.KernelIdeal.Gen Idealize.ShloMosaic.TcCoe Cert.Retention
open Idealize.ShloMosaic.Pipeline (Dat)

variable (m : (ℓ : Loc nD τ sig) → Buf (Elt Ideal) ℓ) (c : Dev nD) (P U : ℕ → ℕ → ℝ) (pos : ℕ → ℤ)
  (hP : ∀ (i : Fin 16384) (j : Fin 6144), m ((c : Thread nD τ).loc main_arg0) (ix2 i j) = ((P i j : ℝ) : EReal))
  (hpos : ∀ i : Fin 16384, (m ((c : Thread nD τ).loc main_arg2) (ix1 i)).toInt = pos i)
  (hU : ∀ (i : Fin 16384) (j : Fin 2048), m ((c : Thread nD τ).loc main_arg3) (ix2 i j) = ((U i j : ℝ) : EReal))

/-- The arrays the forward call only reads are as it found them. -/
theorem in1_of (r : Ref sig .tc) (h : ∀ w : Fin cfg0.W, Pipeline.arrRef spec0 w = r → (cfg0.win w).isOut = false) : In1 m c r = In0 m c r :=
  Out0_of m c r h

include hP hpos in
theorem reads1 : Reads (In1 m) c P (cosine pos) (sine pos) rate where
  proj i j := (congrFun (in1_of m c main_arg0 (by decide +kernel)) _).trans ((reads0 m c P pos hP hpos).proj i j)
  cos i j := (congrFun (in1_of m c main_v70 (by decide +kernel)) _).trans ((reads0 m c P pos hP hpos).cos i j)
  sin i j := (congrFun (in1_of m c main_v71 (by decide +kernel)) _).trans ((reads0 m c P pos hP hpos).sin i j)
  dm h i j := (congrFun (in1_of m c main_v44 (by decide +kernel)) _).trans ((reads0 m c P pos hP hpos).dm h i j)
  xi h i j := (congrFun (in1_of m c main_v54 (by decide +kernel)) _).trans ((reads0 m c P pos hP hpos).xi h i j)
  zeta h i j := (congrFun (in1_of m c main_v64 (by decide +kernel)) _).trans ((reads0 m c P pos hP hpos).zeta h i j)
  gt h i := (congrFun (in1_of m c main_v69 (by decide +kernel)) _).trans ((reads0 m c P pos hP hpos).gt h i)

include hU in
theorem in1_dy (i : Fin 16384) (j : Fin 2048) : In1 m c main_arg3 (ix2 i j) = ((U i j : ℝ) : EReal) :=
  (congrFun ((in1_of m c main_arg3 (by decide +kernel)).trans (arg_at5 m c main_arg3 (by decide))) (ix2 i j)).trans (hU i j)

include hP hpos in
theorem in1_states (h : Fin 4) (n : Fin 32) (d : Fin 256) (e : Fin 512) : In1 m c main_v73_2 (ix4 h n d e)
    = ((state 512 (rate h) (fun j => key P (cosine pos) (sine pos) h j d * value P h j e) n : ℝ) : EReal) :=
  congrFun ((Out0_arr m c 13).trans (state0_arr (reads0 m c P pos hP hpos))) (ix4 h n d e)

include hP hpos in
theorem out_y : Out1 m c (Proc.devRef .tc main_v73_1) = fun i : S16384x2048.Idx => ((out P (cosine pos) (sine pos) rate ((i 1).val / 512) (i 0).val ((i 1).val % 512) : ℝ) : EReal) :=
  (Out1_of m c main_v73_1 (by decide +kernel)).trans <| (Out0_arr m c 12).trans (y0_arr (reads0 m c P pos hP hpos))

include hP hpos in
theorem out_gated : Out1 m c (Proc.devRef .tc main_v73_0) = fun i : S16384x2048.Idx =>
    gated (P (i 0).val (4096 + (i 1).val)) (fun x => out P (cosine pos) (sine pos) rate ((i 1).val / 512) (i 0).val x) ((i 1).val % 512)
      (m ((c : Thread nD τ).loc main_arg1) (ix1 (i 1))) :=
  (Out1_of m c main_v73_0 (by decide +kernel)).trans <| (Out0_arr m c 11).trans <| (gated0_arr (reads0 m c P pos hP hpos)).trans <|
    funext fun i => congrArg _ (at72 m c (i 1))

include hP hpos hU in
theorem out_dq : Out1 m c (Proc.devRef .tc main_v74_0) = fun i : S16384x1024.Idx => ((gradQ P U (cosine pos) (sine pos) rate ((i 1).val / 256) (i 0).val ((i 1).val % 256) : ℝ) : EReal) :=
  (Out1_arr m c 11).trans (dq1_arr U (reads1 m c P pos hP hpos) (in1_dy m c U hU) (in1_states m c P pos hP hpos))
include hP hpos hU in
theorem out_dk : Out1 m c (Proc.devRef .tc main_v74_1) = fun i : S16384x1024.Idx => ((gradK P U (cosine pos) (sine pos) rate ((i 1).val / 256) (i 0).val ((i 1).val % 256) : ℝ) : EReal) :=
  (Out1_arr m c 12).trans (dk1_arr U (reads1 m c P pos hP hpos) (in1_dy m c U hU))
include hP hpos hU in
theorem out_dv : Out1 m c (Proc.devRef .tc main_v74_2) = fun i : S16384x2048.Idx => ((gradV P U (cosine pos) (sine pos) rate ((i 1).val / 512) (i 0).val ((i 1).val % 512) : ℝ) : EReal) :=
  (Out1_arr m c 13).trans (dv1_arr U (reads1 m c P pos hP hpos) (in1_dy m c U hU))

end Cert.KernelIdeal.Ret
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! # The reference's host operations, stretch by stretch

The program is three stretches of host operations around two counted loops of 256 trips each: the forward scan over
the 256 chunks and the reverse scan of its gradient. Each stretch is listed as the program prints it, in the pieces in
which the printed function is cut, and the printed function is the chain of the pieces. -/

@[expose] public section

set_option maxRecDepth 4096

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal.Gen

/-- An array of shape `s` with entries of the type `e`. -/
abbrev Arr (F : FTy → Type) (s : Shape) (e : EltTy) : Type := (⟨s, e⟩ : BufTy).Contents (Elt F)

variable {F : FTy → Type} [FloatOps F]

set_option maxHeartbeats 40000000 in
abbrev pre0 : List (HloOp τ sig (Elt F)) :=
  [ unary main_arg0 main_v0 ((extractStridedSlice S16384x1024 ![0, 0] · slices_S16384x6144_S16384x1024_0_0) : Arr F S16384x6144 .f32 → Arr F S16384x1024 .f32),
    unary main_v0 main_v1 (broadcastInDim S1x16384x1024 ![1, 2] bcast_S16384x1024_S1x16384x1024_1_2 : Arr F S16384x1024 .f32 → Arr F S1x16384x1024 .f32),
    unary main_arg0 main_v2 ((extractStridedSlice S16384x1024 ![0, 1024] · slices_S16384x6144_S16384x1024_0_1024) : Arr F S16384x6144 .f32 → Arr F S16384x1024 .f32),
    unary main_v2 main_v3 (broadcastInDim S1x16384x1024 ![1, 2] bcast_S16384x1024_S1x16384x1024_1_2 : Arr F S16384x1024 .f32 → Arr F S1x16384x1024 .f32),
    unary main_arg0 main_v4 ((extractStridedSlice S16384x2048 ![0, 2048] · slices_S16384x6144_S16384x2048_0_2048) : Arr F S16384x6144 .f32 → Arr F S16384x2048 .f32),
    unary main_v4 main_v5 (broadcastInDim S1x16384x2048 ![1, 2] bcast_S16384x2048_S1x16384x2048_1_2 : Arr F S16384x2048 .f32 → Arr F S1x16384x2048 .f32),
    unary main_arg2 main_v6 (broadcastInDim S1x16384 ![1] bcast_S16384_S1x16384_1 : Arr F S16384 .i32 → Arr F S1x16384 .i32),
    reshape main_v1 main_v7 (rfl : (.f32 : EltTy) = .f32) shapeCasts_S1x16384x1024_S1x16384x4x256,
    nullary main_v8 (sitofp .f32 (iotaInDim S128 32 0)),
    nullary main_cst (constant S_ .f32 0x40000000#32),
    unary main_cst main_v9 (broadcastInDim S128 ![] bcast_S_S128 : Arr F S_ .f32 → Arr F S128 .f32),
    binary main_v9 main_v8 main_v10 (mulf : Arr F S128 .f32 → Arr F S128 .f32 → Arr F S128 .f32),
    nullary main_cst_0 (constant S_ .f32 0x00000000#32),
    unary main_cst_0 main_v11 (broadcastInDim S128 ![] bcast_S_S128 : Arr F S_ .f32 → Arr F S128 .f32),
    binary main_v11 main_v10 main_v12 (addf : Arr F S128 .f32 → Arr F S128 .f32 → Arr F S128 .f32),
    unary main_v12 main_v13 (Host.negf : Arr F S128 .f32 → Arr F S128 .f32),
    nullary main_cst_1 (constant S_ .f32 0x43800000#32),
    unary main_cst_1 main_v14 (broadcastInDim S128 ![] bcast_S_S128 : Arr F S_ .f32 → Arr F S128 .f32),
    binary main_v13 main_v14 main_v15 (Host.divf : Arr F S128 .f32 → Arr F S128 .f32 → Arr F S128 .f32),
    nullary main_cst_2 (constant S_ .f32 0x461C4000#32),
    unary main_cst_2 main_v16 (broadcastInDim S128 ![] bcast_S_S128 : Arr F S_ .f32 → Arr F S128 .f32),
    binary main_v16 main_v15 main_v17 (Host.powf : Arr F S128 .f32 → Arr F S128 .f32 → Arr F S128 .f32),
    unary main_v6 main_v18 (sitofp .f32 : Arr F S1x16384 .i32 → Arr F S1x16384 .f32),
    unary main_v18 main_v19 (broadcastInDim S1x16384x1x1 ![0, 1] bcast_S1x16384_S1x16384x1x1_0_1 : Arr F S1x16384 .f32 → Arr F S1x16384x1x1 .f32),
    unary main_v17 main_v20 (broadcastInDim S1x1x1x128 ![3] bcast_S128_S1x1x1x128_3 : Arr F S128 .f32 → Arr F S1x1x1x128 .f32),
    unary main_v19 main_v21 (broadcastInDim S1x16384x1x128 ![0, 1, 2, 3] bcast_S1x16384x1x1_S1x16384x1x128_0_1_2_3 : Arr F S1x16384x1x1 .f32 → Arr F S1x16384x1x128 .f32),
    unary main_v20 main_v22 (broadcastInDim S1x16384x1x128 ![0, 1, 2, 3] bcast_S1x1x1x128_S1x16384x1x128_0_1_2_3 : Arr F S1x1x1x128 .f32 → Arr F S1x16384x1x128 .f32),
    binary main_v21 main_v22 main_v23 (mulf : Arr F S1x16384x1x128 .f32 → Arr F S1x16384x1x128 .f32 → Arr F S1x16384x1x128 .f32),
    unary main_v23 main_v24 (Host.cos : Arr F S1x16384x1x128 .f32 → Arr F S1x16384x1x128 .f32),
    unary main_v23 main_v25 (Host.sin : Arr F S1x16384x1x128 .f32 → Arr F S1x16384x1x128 .f32),
    unary main_v7 main_v26 ((extractStridedSlice S1x16384x4x128 ![0, 0, 0, 0] · slices_S1x16384x4x256_S1x16384x4x128_0_0_0_0) : Arr F S1x16384x4x256 .f32 → Arr F S1x16384x4x128 .f32),
    unary main_v7 main_v27 ((extractStridedSlice S1x16384x4x128 ![0, 0, 0, 128] · slices_S1x16384x4x256_S1x16384x4x128_0_0_0_128) : Arr F S1x16384x4x256 .f32 → Arr F S1x16384x4x128 .f32),
    unary main_v24 main_v28 (broadcastInDim S1x16384x4x128 ![0, 1, 2, 3] bcast_S1x16384x1x128_S1x16384x4x128_0_1_2_3 : Arr F S1x16384x1x128 .f32 → Arr F S1x16384x4x128 .f32),
    binary main_v26 main_v28 main_v29 (mulf : Arr F S1x16384x4x128 .f32 → Arr F S1x16384x4x128 .f32 → Arr F S1x16384x4x128 .f32),
    unary main_v25 main_v30 (broadcastInDim S1x16384x4x128 ![0, 1, 2, 3] bcast_S1x16384x1x128_S1x16384x4x128_0_1_2_3 : Arr F S1x16384x1x128 .f32 → Arr F S1x16384x4x128 .f32),
    binary main_v27 main_v30 main_v31 (mulf : Arr F S1x16384x4x128 .f32 → Arr F S1x16384x4x128 .f32 → Arr F S1x16384x4x128 .f32),
    binary main_v29 main_v31 main_v32 (subf : Arr F S1x16384x4x128 .f32 → Arr F S1x16384x4x128 .f32 → Arr F S1x16384x4x128 .f32),
    unary main_v25 main_v33 (broadcastInDim S1x16384x4x128 ![0, 1, 2, 3] bcast_S1x16384x1x128_S1x16384x4x128_0_1_2_3 : Arr F S1x16384x1x128 .f32 → Arr F S1x16384x4x128 .f32),
    binary main_v26 main_v33 main_v34 (mulf : Arr F S1x16384x4x128 .f32 → Arr F S1x16384x4x128 .f32 → Arr F S1x16384x4x128 .f32),
    unary main_v24 main_v35 (broadcastInDim S1x16384x4x128 ![0, 1, 2, 3] bcast_S1x16384x1x128_S1x16384x4x128_0_1_2_3 : Arr F S1x16384x1x128 .f32 → Arr F S1x16384x4x128 .f32),
    binary main_v27 main_v35 main_v36 (mulf : Arr F S1x16384x4x128 .f32 → Arr F S1x16384x4x128 .f32 → Arr F S1x16384x4x128 .f32),
    binary main_v34 main_v36 main_v37 (addf : Arr F S1x16384x4x128 .f32 → Arr F S1x16384x4x128 .f32 → Arr F S1x16384x4x128 .f32),
    binary main_v32 main_v37 main_v38 ((fun a b => concatenate S1x16384x4x256 3 [⟨S1x16384x4x128, a⟩, ⟨S1x16384x4x128, b⟩] concatenates_S1x16384x4x128_S1x16384x4x128_S1x16384x4x256_d3) : Arr F S1x16384x4x128 .f32 → Arr F S1x16384x4x128 .f32 → Arr F S1x16384x4x256 .f32),
    reshape main_v3 main_v39 (rfl : (.f32 : EltTy) = .f32) shapeCasts_S1x16384x1024_S1x16384x4x256,
    nullary main_v40 (sitofp .f32 (iotaInDim S128 32 0)),
    nullary main_cst_3 (constant S_ .f32 0x40000000#32),
    unary main_cst_3 main_v41 (broadcastInDim S128 ![] bcast_S_S128 : Arr F S_ .f32 → Arr F S128 .f32),
    binary main_v41 main_v40 main_v42 (mulf : Arr F S128 .f32 → Arr F S128 .f32 → Arr F S128 .f32),
    nullary main_cst_4 (constant S_ .f32 0x00000000#32),
    unary main_cst_4 main_v43 (broadcastInDim S128 ![] bcast_S_S128 : Arr F S_ .f32 → Arr F S128 .f32),
    binary main_v43 main_v42 main_v44 (addf : Arr F S128 .f32 → Arr F S128 .f32 → Arr F S128 .f32),
    unary main_v44 main_v45 (Host.negf : Arr F S128 .f32 → Arr F S128 .f32),
    nullary main_cst_5 (constant S_ .f32 0x43800000#32),
    unary main_cst_5 main_v46 (broadcastInDim S128 ![] bcast_S_S128 : Arr F S_ .f32 → Arr F S128 .f32),
    binary main_v45 main_v46 main_v47 (Host.divf : Arr F S128 .f32 → Arr F S128 .f32 → Arr F S128 .f32),
    nullary main_cst_6 (constant S_ .f32 0x461C4000#32),
    unary main_cst_6 main_v48 (broadcastInDim S128 ![] bcast_S_S128 : Arr F S_ .f32 → Arr F S128 .f32),
    binary main_v48 main_v47 main_v49 (Host.powf : Arr F S128 .f32 → Arr F S128 .f32 → Arr F S128 .f32),
    unary main_v6 main_v50 (sitofp .f32 : Arr F S1x16384 .i32 → Arr F S1x16384 .f32),
    unary main_v50 main_v51 (broadcastInDim S1x16384x1x1 ![0, 1] bcast_S1x16384_S1x16384x1x1_0_1 : Arr F S1x16384 .f32 → Arr F S1x16384x1x1 .f32) ]
theorem pre0_sub : (pre0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., reshape_bufs_sub .., nullary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., reshape_bufs_sub .., nullary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub ..⟩
theorem pre0_fresh : (pre0 : List (HloOp τ sig (Elt F))).Forall fun op => op.fresh = ∅ := forall_fresh_of_map rfl

set_option maxHeartbeats 40000000 in
abbrev pre1 : List (HloOp τ sig (Elt F)) :=
  [ unary main_v49 main_v52 (broadcastInDim S1x1x1x128 ![3] bcast_S128_S1x1x1x128_3 : Arr F S128 .f32 → Arr F S1x1x1x128 .f32),
    unary main_v51 main_v53 (broadcastInDim S1x16384x1x128 ![0, 1, 2, 3] bcast_S1x16384x1x1_S1x16384x1x128_0_1_2_3 : Arr F S1x16384x1x1 .f32 → Arr F S1x16384x1x128 .f32),
    unary main_v52 main_v54 (broadcastInDim S1x16384x1x128 ![0, 1, 2, 3] bcast_S1x1x1x128_S1x16384x1x128_0_1_2_3 : Arr F S1x1x1x128 .f32 → Arr F S1x16384x1x128 .f32),
    binary main_v53 main_v54 main_v55 (mulf : Arr F S1x16384x1x128 .f32 → Arr F S1x16384x1x128 .f32 → Arr F S1x16384x1x128 .f32),
    unary main_v55 main_v56 (Host.cos : Arr F S1x16384x1x128 .f32 → Arr F S1x16384x1x128 .f32),
    unary main_v55 main_v57 (Host.sin : Arr F S1x16384x1x128 .f32 → Arr F S1x16384x1x128 .f32),
    unary main_v39 main_v58 ((extractStridedSlice S1x16384x4x128 ![0, 0, 0, 0] · slices_S1x16384x4x256_S1x16384x4x128_0_0_0_0) : Arr F S1x16384x4x256 .f32 → Arr F S1x16384x4x128 .f32),
    unary main_v39 main_v59 ((extractStridedSlice S1x16384x4x128 ![0, 0, 0, 128] · slices_S1x16384x4x256_S1x16384x4x128_0_0_0_128) : Arr F S1x16384x4x256 .f32 → Arr F S1x16384x4x128 .f32),
    unary main_v56 main_v60 (broadcastInDim S1x16384x4x128 ![0, 1, 2, 3] bcast_S1x16384x1x128_S1x16384x4x128_0_1_2_3 : Arr F S1x16384x1x128 .f32 → Arr F S1x16384x4x128 .f32),
    binary main_v58 main_v60 main_v61 (mulf : Arr F S1x16384x4x128 .f32 → Arr F S1x16384x4x128 .f32 → Arr F S1x16384x4x128 .f32),
    unary main_v57 main_v62 (broadcastInDim S1x16384x4x128 ![0, 1, 2, 3] bcast_S1x16384x1x128_S1x16384x4x128_0_1_2_3 : Arr F S1x16384x1x128 .f32 → Arr F S1x16384x4x128 .f32),
    binary main_v59 main_v62 main_v63 (mulf : Arr F S1x16384x4x128 .f32 → Arr F S1x16384x4x128 .f32 → Arr F S1x16384x4x128 .f32),
    binary main_v61 main_v63 main_v64 (subf : Arr F S1x16384x4x128 .f32 → Arr F S1x16384x4x128 .f32 → Arr F S1x16384x4x128 .f32),
    unary main_v57 main_v65 (broadcastInDim S1x16384x4x128 ![0, 1, 2, 3] bcast_S1x16384x1x128_S1x16384x4x128_0_1_2_3 : Arr F S1x16384x1x128 .f32 → Arr F S1x16384x4x128 .f32),
    binary main_v58 main_v65 main_v66 (mulf : Arr F S1x16384x4x128 .f32 → Arr F S1x16384x4x128 .f32 → Arr F S1x16384x4x128 .f32),
    unary main_v56 main_v67 (broadcastInDim S1x16384x4x128 ![0, 1, 2, 3] bcast_S1x16384x1x128_S1x16384x4x128_0_1_2_3 : Arr F S1x16384x1x128 .f32 → Arr F S1x16384x4x128 .f32),
    binary main_v59 main_v67 main_v68 (mulf : Arr F S1x16384x4x128 .f32 → Arr F S1x16384x4x128 .f32 → Arr F S1x16384x4x128 .f32),
    binary main_v66 main_v68 main_v69 (addf : Arr F S1x16384x4x128 .f32 → Arr F S1x16384x4x128 .f32 → Arr F S1x16384x4x128 .f32),
    binary main_v64 main_v69 main_v70 ((fun a b => concatenate S1x16384x4x256 3 [⟨S1x16384x4x128, a⟩, ⟨S1x16384x4x128, b⟩] concatenates_S1x16384x4x128_S1x16384x4x128_S1x16384x4x256_d3) : Arr F S1x16384x4x128 .f32 → Arr F S1x16384x4x128 .f32 → Arr F S1x16384x4x256 .f32),
    nullary main_cst_7 (constant S_ .f32 0x3D800000#32),
    unary main_cst_7 main_v71 (broadcastInDim S1x16384x4x256 ![] bcast_S_S1x16384x4x256 : Arr F S_ .f32 → Arr F S1x16384x4x256 .f32),
    binary main_v70 main_v71 main_v72 (mulf : Arr F S1x16384x4x256 .f32 → Arr F S1x16384x4x256 .f32 → Arr F S1x16384x4x256 .f32),
    reshape main_v5 main_v73 (rfl : (.f32 : EltTy) = .f32) shapeCasts_S1x16384x2048_S1x16384x4x512,
    reshape main_v38 main_v74 (rfl : (.f32 : EltTy) = .f32) shapeCasts_S1x16384x4x256_S1x256x64x4x256,
    reshape main_v72 main_v75 (rfl : (.f32 : EltTy) = .f32) shapeCasts_S1x16384x4x256_S1x256x64x4x256,
    reshape main_v73 main_v76 (rfl : (.f32 : EltTy) = .f32) shapeCasts_S1x16384x4x512_S1x256x64x4x512,
    nullary main_v77 (sitofp .f32 (iotaInDim S4 32 0)),
    nullary main_cst_8 (constant S_ .f32 0xC0A00000#32),
    unary main_cst_8 main_v78 (broadcastInDim S4 ![] bcast_S_S4 : Arr F S_ .f32 → Arr F S4 .f32),
    binary main_v78 main_v77 main_v79 (subf : Arr F S4 .f32 → Arr F S4 .f32 → Arr F S4 .f32),
    nullary main_cst_9 (constant S_ .f32 0x3F317218#32),
    unary main_cst_9 main_v80 (broadcastInDim S4 ![] bcast_S_S4 : Arr F S_ .f32 → Arr F S4 .f32),
    binary main_v80 main_v79 main_v81 (mulf : Arr F S4 .f32 → Arr F S4 .f32 → Arr F S4 .f32),
    unary main_v81 main_v82 (Host.exp : Arr F S4 .f32 → Arr F S4 .f32),
    unary main_v82 main_v83 (Host.negf : Arr F S4 .f32 → Arr F S4 .f32),
    unary main_v83 main_v84 (Host.log1p : Arr F S4 .f32 → Arr F S4 .f32),
    nullary main_v85 (sitofp .f32 (iotaInDim S64 32 0)),
    unary main_v85 main_v86 (broadcastInDim S64x1 ![0] bcast_S64_S64x1_0 : Arr F S64 .f32 → Arr F S64x1 .f32),
    unary main_v85 main_v87 (broadcastInDim S1x64 ![1] bcast_S64_S1x64_1 : Arr F S64 .f32 → Arr F S1x64 .f32),
    unary main_v86 main_v88 (broadcastInDim S64x64 ![0, 1] bcast_S64x1_S64x64_0_1 : Arr F S64x1 .f32 → Arr F S64x64 .f32),
    unary main_v87 main_v89 (broadcastInDim S64x64 ![0, 1] bcast_S1x64_S64x64_0_1 : Arr F S1x64 .f32 → Arr F S64x64 .f32),
    binary main_v88 main_v89 main_v90 (subf : Arr F S64x64 .f32 → Arr F S64x64 .f32 → Arr F S64x64 .f32),
    unary main_v90 main_v91 (Host.absf : Arr F S64x64 .f32 → Arr F S64x64 .f32),
    unary main_v84 main_v92 (broadcastInDim S4x1x1 ![0] bcast_S4_S4x1x1_0 : Arr F S4 .f32 → Arr F S4x1x1 .f32),
    unary main_v91 main_v93 (broadcastInDim S1x64x64 ![1, 2] bcast_S64x64_S1x64x64_1_2 : Arr F S64x64 .f32 → Arr F S1x64x64 .f32),
    unary main_v92 main_v94 (broadcastInDim S4x64x64 ![0, 1, 2] bcast_S4x1x1_S4x64x64_0_1_2 : Arr F S4x1x1 .f32 → Arr F S4x64x64 .f32),
    unary main_v93 main_v95 (broadcastInDim S4x64x64 ![0, 1, 2] bcast_S1x64x64_S4x64x64_0_1_2 : Arr F S1x64x64 .f32 → Arr F S4x64x64 .f32),
    binary main_v94 main_v95 main_v96 (mulf : Arr F S4x64x64 .f32 → Arr F S4x64x64 .f32 → Arr F S4x64x64 .f32),
    unary main_v96 main_v97 (Host.exp : Arr F S4x64x64 .f32 → Arr F S4x64x64 .f32),
    binary main_v74 main_v75 main_v98 ((fun l r => Host.dotGeneral dot_S1x256x64x4x256_S1x256x64x4x256_S1x256x4x64x64_4_4_2_2_013_013 none l r) : Arr F S1x256x64x4x256 .f32 → Arr F S1x256x64x4x256 .f32 → Arr F S1x256x4x64x64 .f32),
    unary main_v97 main_v99 (broadcastInDim S1x1x4x64x64 ![2, 3, 4] bcast_S4x64x64_S1x1x4x64x64_2_3_4 : Arr F S4x64x64 .f32 → Arr F S1x1x4x64x64 .f32),
    unary main_v99 main_v100 (broadcastInDim S1x256x4x64x64 ![0, 1, 2, 3, 4] bcast_S1x1x4x64x64_S1x256x4x64x64_0_1_2_3_4 : Arr F S1x1x4x64x64 .f32 → Arr F S1x256x4x64x64 .f32),
    binary main_v98 main_v100 main_v101 (mulf : Arr F S1x256x4x64x64 .f32 → Arr F S1x256x4x64x64 .f32 → Arr F S1x256x4x64x64 .f32),
    binary main_v76 main_v101 main_v102 ((fun l r => Host.dotGeneral dot_S1x256x64x4x512_S1x256x4x64x64_S1x256x4x512x64_2_4_4_3_013_012 none l r) : Arr F S1x256x64x4x512 .f32 → Arr F S1x256x4x64x64 .f32 → Arr F S1x256x4x512x64 .f32),
    unary main_v102 main_v103 ((transpose S1x256x64x4x512 [0, 1, 4, 2, 3] · transposes_S1x256x4x512x64_S1x256x64x4x512_0_1_4_2_3) : Arr F S1x256x4x512x64 .f32 → Arr F S1x256x64x4x512 .f32),
    unary main_v84 main_v104 (broadcastInDim S1x4 ![1] bcast_S4_S1x4_1 : Arr F S4 .f32 → Arr F S1x4 .f32),
    nullary main_cst_10 (constant S_ .f32 0x3F800000#32),
    unary main_cst_10 main_v105 (broadcastInDim S64 ![] bcast_S_S64 : Arr F S_ .f32 → Arr F S64 .f32),
    binary main_v85 main_v105 main_v106 (addf : Arr F S64 .f32 → Arr F S64 .f32 → Arr F S64 .f32),
    unary main_v106 main_v107 (broadcastInDim S64x1 ![0] bcast_S64_S64x1_0 : Arr F S64 .f32 → Arr F S64x1 .f32) ]
theorem pre1_sub : (pre1 : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., binary_bufs_sub .., nullary_bufs_sub .., unary_bufs_sub .., binary_bufs_sub .., reshape_bufs_sub .., reshape_bufs_sub .., reshape_bufs_sub .., reshape_bufs_sub .., nullary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., unary_bufs_sub ..⟩
theorem pre1_fresh : (pre1 : List (HloOp τ sig (Elt F))).Forall fun op => op.fresh = ∅ := forall_fresh_of_map rfl

set_option maxHeartbeats 40000000 in
abbrev pre2 : List (HloOp τ sig (Elt F)) :=
  [ unary main_v104 main_v108 (broadcastInDim S64x4 ![0, 1] bcast_S1x4_S64x4_0_1 : Arr F S1x4 .f32 → Arr F S64x4 .f32),
    unary main_v107 main_v109 (broadcastInDim S64x4 ![0, 1] bcast_S64x1_S64x4_0_1 : Arr F S64x1 .f32 → Arr F S64x4 .f32),
    binary main_v108 main_v109 main_v110 (mulf : Arr F S64x4 .f32 → Arr F S64x4 .f32 → Arr F S64x4 .f32),
    unary main_v110 main_v111 (Host.exp : Arr F S64x4 .f32 → Arr F S64x4 .f32),
    unary main_v84 main_v112 (broadcastInDim S1x4 ![1] bcast_S4_S1x4_1 : Arr F S4 .f32 → Arr F S1x4 .f32),
    nullary main_cst_11 (constant S_ .f32 0x427C0000#32),
    unary main_cst_11 main_v113 (broadcastInDim S64 ![] bcast_S_S64 : Arr F S_ .f32 → Arr F S64 .f32),
    binary main_v113 main_v85 main_v114 (subf : Arr F S64 .f32 → Arr F S64 .f32 → Arr F S64 .f32),
    unary main_v114 main_v115 (broadcastInDim S64x1 ![0] bcast_S64_S64x1_0 : Arr F S64 .f32 → Arr F S64x1 .f32),
    unary main_v112 main_v116 (broadcastInDim S64x4 ![0, 1] bcast_S1x4_S64x4_0_1 : Arr F S1x4 .f32 → Arr F S64x4 .f32),
    unary main_v115 main_v117 (broadcastInDim S64x4 ![0, 1] bcast_S64x1_S64x4_0_1 : Arr F S64x1 .f32 → Arr F S64x4 .f32),
    binary main_v116 main_v117 main_v118 (mulf : Arr F S64x4 .f32 → Arr F S64x4 .f32 → Arr F S64x4 .f32),
    unary main_v118 main_v119 (Host.exp : Arr F S64x4 .f32 → Arr F S64x4 .f32),
    nullary main_cst_12 (constant S_ .f32 0x42800000#32),
    unary main_cst_12 main_v120 (broadcastInDim S4 ![] bcast_S_S4 : Arr F S_ .f32 → Arr F S4 .f32),
    binary main_v84 main_v120 main_v121 (mulf : Arr F S4 .f32 → Arr F S4 .f32 → Arr F S4 .f32),
    unary main_v121 main_v122 (Host.exp : Arr F S4 .f32 → Arr F S4 .f32),
    nullary main_cst_13 (constant S_ .f32 0x00000000#32),
    unary main_cst_13 main_v123 (broadcastInDim S1x4x256x512 ![] bcast_S_S1x4x256x512 : Arr F S_ .f32 → Arr F S1x4x256x512 .f32),
    unary main_v74 main_v124 ((transpose S256x1x64x4x256 [1, 0, 2, 3, 4] · transposes_S1x256x64x4x256_S256x1x64x4x256_1_0_2_3_4) : Arr F S1x256x64x4x256 .f32 → Arr F S256x1x64x4x256 .f32),
    unary main_v75 main_v125 ((transpose S256x1x64x4x256 [1, 0, 2, 3, 4] · transposes_S1x256x64x4x256_S256x1x64x4x256_1_0_2_3_4) : Arr F S1x256x64x4x256 .f32 → Arr F S256x1x64x4x256 .f32),
    unary main_v76 main_v126 ((transpose S256x1x64x4x512 [1, 0, 2, 3, 4] · transposes_S1x256x64x4x512_S256x1x64x4x512_1_0_2_3_4) : Arr F S1x256x64x4x512 .f32 → Arr F S256x1x64x4x512 .f32),
    unary main_v111 main_v127 (broadcastInDim S1x64x4x1 ![1, 2] bcast_S64x4_S1x64x4x1_1_2 : Arr F S64x4 .f32 → Arr F S1x64x4x1 .f32),
    unary main_v122 main_v128 (broadcastInDim S1x4x1x1 ![1] bcast_S4_S1x4x1x1_1 : Arr F S4 .f32 → Arr F S1x4x1x1 .f32),
    unary main_v119 main_v129 (broadcastInDim S1x64x4x1 ![1, 2] bcast_S64x4_S1x64x4x1_1_2 : Arr F S64x4 .f32 → Arr F S1x64x4x1 .f32),
    nullary main_cst_14 (constant S_ .f32 0x00000000#32),
    unary main_cst_14 main_v130 (broadcastInDim S256x1x64x4x512 ![] bcast_S_S256x1x64x4x512 : Arr F S_ .f32 → Arr F S256x1x64x4x512 .f32),
    nullary main_cst_15 (constant S_ .f32 0x00000000#32),
    unary main_cst_15 main_v131 (broadcastInDim S256x1x4x256x512 ![] bcast_S_S256x1x4x256x512 : Arr F S_ .f32 → Arr F S256x1x4x256x512 .f32),
    nullary main_cst_16 (constant S_ .f32 0x00000000#32),
    unary main_cst_16 main_v132 (broadcastInDim S256x1x64x4x256 ![] bcast_S_S256x1x64x4x256 : Arr F S_ .f32 → Arr F S256x1x64x4x256 .f32),
    nullary main_c (constantI S_ 32 0#32),
    unary main_v124 main_v133_0 id,
    unary main_v125 main_v133_1 id,
    unary main_v126 main_v133_2 id,
    unary main_v128 main_v133_3 id,
    unary main_v129 main_v133_4 id,
    unary main_v127 main_v133_5 id,
    unary main_c main_v133_6 id,
    unary main_v123 main_v133_7 id,
    unary main_v130 main_v133_8 id,
    unary main_v131 main_v133_9 id,
    unary main_v132 main_v133_10 id ]
theorem pre2_sub : (pre2 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem pre2_fresh : (pre2 : List (HloOp τ sig (Elt F))).Forall fun op => op.fresh = ∅ := forall_fresh_of_map rfl

set_option maxHeartbeats 40000000 in
abbrev mid0 : List (HloOp τ sig (Elt F)) :=
  [ unary main_v133_8 main_v134 ((transpose S1x256x64x4x512 [1, 0, 2, 3, 4] · transposes_S256x1x64x4x512_S1x256x64x4x512_1_0_2_3_4) : Arr F S256x1x64x4x512 .f32 → Arr F S1x256x64x4x512 .f32),
    binary main_v103 main_v134 main_v135 (addf : Arr F S1x256x64x4x512 .f32 → Arr F S1x256x64x4x512 .f32 → Arr F S1x256x64x4x512 .f32),
    reshape main_v135 main_v136 (rfl : (.f32 : EltTy) = .f32) shapeCasts_S1x256x64x4x512_S1x16384x2048,
    unary main_arg0 main_v137 ((extractStridedSlice S16384x2048 ![0, 4096] · slices_S16384x6144_S16384x2048_0_4096) : Arr F S16384x6144 .f32 → Arr F S16384x2048 .f32),
    unary main_v137 main_v138 (broadcastInDim S1x16384x2048 ![1, 2] bcast_S16384x2048_S1x16384x2048_1_2 : Arr F S16384x2048 .f32 → Arr F S1x16384x2048 .f32),
    reshape main_v136 main_v139 (rfl : (.f32 : EltTy) = .f32) shapeCasts_S1x16384x2048_S1x16384x4x512,
    nullary main_cst_17 (constant S_ .f32 0x00000000#32),
    binary main_v139 main_cst_17 main_v140 ((fun x v => Host.reduceAdd x v reducesTo_S1x16384x4x512_S1x16384x4_d3 h_S_) : Arr F S1x16384x4x512 .f32 → Arr F S_ .f32 → Arr F S1x16384x4 .f32),
    unary main_v140 main_v141 (broadcastInDim S1x16384x4x1 ![0, 1, 2] bcast_S1x16384x4_S1x16384x4x1_0_1_2 : Arr F S1x16384x4 .f32 → Arr F S1x16384x4x1 .f32),
    nullary main_cst_18 (constant S_ .f32 0x44000000#32),
    unary main_cst_18 main_v142 (broadcastInDim S1x16384x4x1 ![] bcast_S_S1x16384x4x1 : Arr F S_ .f32 → Arr F S1x16384x4x1 .f32),
    binary main_v141 main_v142 main_v143 (Host.divf : Arr F S1x16384x4x1 .f32 → Arr F S1x16384x4x1 .f32 → Arr F S1x16384x4x1 .f32),
    unary main_v143 main_v144 (broadcastInDim S1x16384x4x512 ![0, 1, 2, 3] bcast_S1x16384x4x1_S1x16384x4x512_0_1_2_3 : Arr F S1x16384x4x1 .f32 → Arr F S1x16384x4x512 .f32),
    binary main_v139 main_v144 main_v145 (subf : Arr F S1x16384x4x512 .f32 → Arr F S1x16384x4x512 .f32 → Arr F S1x16384x4x512 .f32),
    binary main_v145 main_v145 main_v146 (mulf : Arr F S1x16384x4x512 .f32 → Arr F S1x16384x4x512 .f32 → Arr F S1x16384x4x512 .f32),
    nullary main_cst_19 (constant S_ .f32 0x00000000#32) ]
theorem mid0_sub : (mid0 : List (HloOp τ sig (Elt F))).Forall fun op => op.bufs ⊆ tcRefs τ sig :=
  ⟨unary_bufs_sub .., binary_bufs_sub .., reshape_bufs_sub .., unary_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub ..⟩
theorem mid0_fresh : (mid0 : List (HloOp τ sig (Elt F))).Forall fun op => op.fresh = ∅ := forall_fresh_of_map rfl

set_option maxHeartbeats 40000000 in
abbrev mid1 : List (HloOp τ sig (Elt F)) :=
  [ binary main_v146 main_cst_19 main_v147 ((fun x v => Host.reduceAdd x v reducesTo_S1x16384x4x512_S1x16384x4_d3 h_S_) : Arr F S1x16384x4x512 .f32 → Arr F S_ .f32 → Arr F S1x16384x4 .f32),
    unary main_v147 main_v148 (broadcastInDim S1x16384x4x1 ![0, 1, 2] bcast_S1x16384x4_S1x16384x4x1_0_1_2 : Arr F S1x16384x4 .f32 → Arr F S1x16384x4x1 .f32),
    nullary main_cst_20 (constant S_ .f32 0x44000000#32),
    unary main_cst_20 main_v149 (broadcastInDim S1x16384x4x1 ![] bcast_S_S1x16384x4x1 : Arr F S_ .f32 → Arr F S1x16384x4x1 .f32),
    binary main_v148 main_v149 main_v150 (Host.divf : Arr F S1x16384x4x1 .f32 → Arr F S1x16384x4x1 .f32 → Arr F S1x16384x4x1 .f32),
    unary main_v143 main_v151 (broadcastInDim S1x16384x4x512 ![0, 1, 2, 3] bcast_S1x16384x4x1_S1x16384x4x512_0_1_2_3 : Arr F S1x16384x4x1 .f32 → Arr F S1x16384x4x512 .f32),
    binary main_v139 main_v151 main_v152 (subf : Arr F S1x16384x4x512 .f32 → Arr F S1x16384x4x512 .f32 → Arr F S1x16384x4x512 .f32),
    nullary main_cst_21 (constant S_ .f32 0x3727C5AC#32),
    unary main_cst_21 main_v153 (broadcastInDim S1x16384x4x1 ![] bcast_S_S1x16384x4x1 : Arr F S_ .f32 → Arr F S1x16384x4x1 .f32),
    binary main_v150 main_v153 main_v154 (addf : Arr F S1x16384x4x1 .f32 → Arr F S1x16384x4x1 .f32 → Arr F S1x16384x4x1 .f32),
    unary main_v154 main_v155 (Host.rsqrt : Arr F S1x16384x4x1 .f32 → Arr F S1x16384x4x1 .f32),
    unary main_v155 main_v156 (broadcastInDim S1x16384x4x512 ![0, 1, 2, 3] bcast_S1x16384x4x1_S1x16384x4x512_0_1_2_3 : Arr F S1x16384x4x1 .f32 → Arr F S1x16384x4x512 .f32),
    binary main_v152 main_v156 main_v157 (mulf : Arr F S1x16384x4x512 .f32 → Arr F S1x16384x4x512 .f32 → Arr F S1x16384x4x512 .f32),
    reshape main_v157 main_v158 (rfl : (.f32 : EltTy) = .f32) shapeCasts_S1x16384x4x512_S1x16384x2048,
    unary main_arg1 main_v159 (broadcastInDim S1x1x2048 ![2] bcast_S2048_S1x1x2048_2 : Arr F S2048 .f32 → Arr F S1x1x2048 .f32),
    unary main_v159 main_v160 (broadcastInDim S1x16384x2048 ![0, 1, 2] bcast_S1x1x2048_S1x16384x2048_0_1_2 : Arr F S1x1x2048 .f32 → Arr F S1x16384x2048 .f32),
    binary main_v158 main_v160 main_v161 (mulf : Arr F S1x16384x2048 .f32 → Arr F S1x16384x2048 .f32 → Arr F S1x16384x2048 .f32) ]
theorem mid1_sub : (mid1 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub ..⟩
theorem mid1_fresh : (mid1 : List (HloOp τ sig (Elt F))).Forall fun op => op.fresh = ∅ := forall_fresh_of_map rfl

set_option maxHeartbeats 40000000 in
abbrev mid2 : List (HloOp τ sig (Elt F)) :=
  [ TRef.unary (.of main_v138 : TRef sig ⟨S1x16384x2048, .f32⟩) (.of main_call6_v0 : TRef sig ⟨S1x16384x2048, .f32⟩) Host.negf,
    TRef.unary (.of main_call6_v0 : TRef sig ⟨S1x16384x2048, .f32⟩) (.of main_call6_v1 : TRef sig ⟨S1x16384x2048, .f32⟩) Host.exp,
    TRef.nullary (.of main_call6_cst : TRef sig ⟨S_, .f32⟩) (constant S_ .f32 0x3F800000#32),
    TRef.unary (.of main_call6_cst : TRef sig ⟨S_, .f32⟩) (.of main_call6_v2 : TRef sig ⟨S1x16384x2048, .f32⟩) (broadcastInDim S1x16384x2048 ![] bcast_S_S1x16384x2048),
    TRef.binary (.of main_call6_v2 : TRef sig ⟨S1x16384x2048, .f32⟩) (.of main_call6_v1 : TRef sig ⟨S1x16384x2048, .f32⟩) (.of main_call6_v3 : TRef sig ⟨S1x16384x2048, .f32⟩) addf,
    TRef.nullary (.of main_call6_cst_0 : TRef sig ⟨S_, .f32⟩) (constant S_ .f32 0x3F800000#32),
    TRef.unary (.of main_call6_cst_0 : TRef sig ⟨S_, .f32⟩) (.of main_call6_v4 : TRef sig ⟨S1x16384x2048, .f32⟩) (broadcastInDim S1x16384x2048 ![] bcast_S_S1x16384x2048),
    TRef.binary (.of main_call6_v4 : TRef sig ⟨S1x16384x2048, .f32⟩) (.of main_call6_v3 : TRef sig ⟨S1x16384x2048, .f32⟩) (.of main_call6_v5 : TRef sig ⟨S1x16384x2048, .f32⟩) Host.divf,
    TRef.binary (.of main_v138 : TRef sig ⟨S1x16384x2048, .f32⟩) (.of main_call6_v5 : TRef sig ⟨S1x16384x2048, .f32⟩) (.of main_v162 : TRef sig ⟨S1x16384x2048, .f32⟩) mulf ]
theorem mid2_sub : (mid2 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem mid2_fresh : (mid2 : List (HloOp τ sig (Elt F))).Forall fun op => op.fresh = ∅ := forall_fresh_of_map rfl

set_option maxHeartbeats 40000000 in
abbrev mid3 : List (HloOp τ sig (Elt F)) :=
  [ binary main_v162 main_v161 main_v163 (mulf : Arr F S1x16384x2048 .f32 → Arr F S1x16384x2048 .f32 → Arr F S1x16384x2048 .f32),
    unary main_v163 main_v164 ((truncf .bf16 · bitsLt_bf16_f32) : Arr F S1x16384x2048 .f32 → Arr F S1x16384x2048 .bf16),
    unary main_arg3 main_v165 ((extf .f32 · bitsLt_bf16_f32) : Arr F S16384x2048 .bf16 → Arr F S16384x2048 .f32),
    unary main_v165 main_v166 (broadcastInDim S1x16384x2048 ![1, 2] bcast_S16384x2048_S1x16384x2048_1_2 : Arr F S16384x2048 .f32 → Arr F S1x16384x2048 .f32),
    nullary main_cst_22 (constant S_ .f32 0x00000000#32),
    unary main_cst_22 main_v167 (broadcastInDim S1x4x256x512 ![] bcast_S_S1x4x256x512 : Arr F S_ .f32 → Arr F S1x4x256x512 .f32),
    reshape main_v166 main_v168 (rfl : (.f32 : EltTy) = .f32) shapeCasts_S1x16384x2048_S1x256x64x4x512,
    unary main_v168 main_v169 ((transpose S256x1x64x4x512 [1, 0, 2, 3, 4] · transposes_S1x256x64x4x512_S256x1x64x4x512_1_0_2_3_4) : Arr F S1x256x64x4x512 .f32 → Arr F S256x1x64x4x512 .f32),
    nullary main_cst_23 (constant S_ .f32 0x00000000#32),
    unary main_cst_23 main_v170 (broadcastInDim S1x4x256x512 ![] bcast_S_S1x4x256x512 : Arr F S_ .f32 → Arr F S1x4x256x512 .f32),
    nullary main_cst_24 (constant S_ .f32 0x00000000#32),
    unary main_cst_24 main_v171 (broadcastInDim S256x1x64x4x256 ![] bcast_S_S256x1x64x4x256 : Arr F S_ .f32 → Arr F S256x1x64x4x256 .f32),
    nullary main_cst_25 (constant S_ .f32 0x00000000#32),
    unary main_cst_25 main_v172 (broadcastInDim S256x1x64x4x256 ![] bcast_S_S256x1x64x4x256 : Arr F S_ .f32 → Arr F S256x1x64x4x256 .f32),
    nullary main_cst_26 (constant S_ .f32 0x00000000#32),
    unary main_cst_26 main_v173 (broadcastInDim S256x1x64x4x512 ![] bcast_S_S256x1x64x4x512 : Arr F S_ .f32 → Arr F S256x1x64x4x512 .f32),
    nullary main_c_27 (constantI S_ 32 0#32),
    unary main_v169 main_v174_0 id,
    unary main_v124 main_v174_1 id,
    unary main_v133_9 main_v174_2 id,
    unary main_v126 main_v174_3 id,
    unary main_v133_10 main_v174_4 id,
    unary main_v127 main_v174_5 id,
    unary main_v128 main_v174_6 id,
    unary main_v129 main_v174_7 id,
    unary main_c_27 main_v174_8 id,
    unary main_v170 main_v174_9 id,
    unary main_v171 main_v174_10 id,
    unary main_v172 main_v174_11 id,
    unary main_v173 main_v174_12 id ]
theorem mid3_sub : (mid3 : List (HloOp τ sig (Elt F))).Forall fun op => op.bufs ⊆ tcRefs τ sig :=
  ⟨binary_bufs_sub .., unary_bufs_sub .., unary_bufs_sub .., unary_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem mid3_fresh : (mid3 : List (HloOp τ sig (Elt F))).Forall fun op => op.fresh = ∅ := forall_fresh_of_map rfl

set_option maxHeartbeats 40000000 in
abbrev post0 : List (HloOp τ sig (Elt F)) :=
  [ unary main_v174_12 main_v175 ((transpose S1x256x64x4x512 [1, 0, 2, 3, 4] · transposes_S256x1x64x4x512_S1x256x64x4x512_1_0_2_3_4) : Arr F S256x1x64x4x512 .f32 → Arr F S1x256x64x4x512 .f32),
    unary main_v174_11 main_v176 ((transpose S1x256x64x4x256 [1, 0, 2, 3, 4] · transposes_S256x1x64x4x256_S1x256x64x4x256_1_0_2_3_4) : Arr F S256x1x64x4x256 .f32 → Arr F S1x256x64x4x256 .f32),
    unary main_v174_10 main_v177 ((transpose S1x256x64x4x256 [1, 0, 2, 3, 4] · transposes_S256x1x64x4x256_S1x256x64x4x256_1_0_2_3_4) : Arr F S256x1x64x4x256 .f32 → Arr F S1x256x64x4x256 .f32),
    unary main_v168 main_v178 ((transpose S1x256x4x512x64 [0, 1, 3, 4, 2] · transposes_S1x256x64x4x512_S1x256x4x512x64_0_1_3_4_2) : Arr F S1x256x64x4x512 .f32 → Arr F S1x256x4x512x64 .f32),
    binary main_v178 main_v76 main_v179 ((fun l r => Host.dotGeneral dot_S1x256x4x512x64_S1x256x64x4x512_S1x256x4x64x64_3_4_4_2_012_013 none l r) : Arr F S1x256x4x512x64 .f32 → Arr F S1x256x64x4x512 .f32 → Arr F S1x256x4x64x64 .f32),
    binary main_v178 main_v101 main_v180 ((fun l r => Host.dotGeneral dot_S1x256x4x512x64_S1x256x4x64x64_S1x256x4x512x64_4_3_3_4_012_012 none l r) : Arr F S1x256x4x512x64 .f32 → Arr F S1x256x4x64x64 .f32 → Arr F S1x256x4x512x64 .f32),
    unary main_v180 main_v181 ((transpose S1x256x64x4x512 [0, 1, 4, 2, 3] · transposes_S1x256x4x512x64_S1x256x64x4x512_0_1_4_2_3) : Arr F S1x256x4x512x64 .f32 → Arr F S1x256x64x4x512 .f32),
    binary main_v175 main_v181 main_v182 (addf : Arr F S1x256x64x4x512 .f32 → Arr F S1x256x64x4x512 .f32 → Arr F S1x256x64x4x512 .f32),
    unary main_v99 main_v183 (broadcastInDim S1x256x4x64x64 ![0, 1, 2, 3, 4] bcast_S1x1x4x64x64_S1x256x4x64x64_0_1_2_3_4 : Arr F S1x1x4x64x64 .f32 → Arr F S1x256x4x64x64 .f32),
    binary main_v179 main_v183 main_v184 (mulf : Arr F S1x256x4x64x64 .f32 → Arr F S1x256x4x64x64 .f32 → Arr F S1x256x4x64x64 .f32),
    binary main_v184 main_v74 main_v185 ((fun l r => Host.dotGeneral dot_S1x256x4x64x64_S1x256x64x4x256_S1x256x4x64x256_3_2_4_4_012_013 none l r) : Arr F S1x256x4x64x64 .f32 → Arr F S1x256x64x4x256 .f32 → Arr F S1x256x4x64x256 .f32) ]
theorem post0_sub : (post0 : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., binary_bufs_sub .., unary_bufs_sub .., binary_bufs_sub .., binary_bufs_sub ..⟩
theorem post0_fresh : (post0 : List (HloOp τ sig (Elt F))).Forall fun op => op.fresh = ∅ := forall_fresh_of_map rfl

set_option maxHeartbeats 40000000 in
abbrev post1 : List (HloOp τ sig (Elt F)) :=
  [ unary main_v185 main_v186 ((transpose S1x256x64x4x256 [0, 1, 3, 2, 4] · transposes_S1x256x4x64x256_S1x256x64x4x256_0_1_3_2_4) : Arr F S1x256x4x64x256 .f32 → Arr F S1x256x64x4x256 .f32),
    binary main_v176 main_v186 main_v187 (addf : Arr F S1x256x64x4x256 .f32 → Arr F S1x256x64x4x256 .f32 → Arr F S1x256x64x4x256 .f32),
    binary main_v184 main_v75 main_v188 ((fun l r => Host.dotGeneral dot_S1x256x4x64x64_S1x256x64x4x256_S1x256x4x64x256_4_2_3_4_012_013 none l r) : Arr F S1x256x4x64x64 .f32 → Arr F S1x256x64x4x256 .f32 → Arr F S1x256x4x64x256 .f32),
    unary main_v188 main_v189 ((transpose S1x256x64x4x256 [0, 1, 3, 2, 4] · transposes_S1x256x4x64x256_S1x256x64x4x256_0_1_3_2_4) : Arr F S1x256x4x64x256 .f32 → Arr F S1x256x64x4x256 .f32),
    binary main_v177 main_v189 main_v190 (addf : Arr F S1x256x64x4x256 .f32 → Arr F S1x256x64x4x256 .f32 → Arr F S1x256x64x4x256 .f32),
    reshape main_v182 main_v191 (rfl : (.f32 : EltTy) = .f32) shapeCasts_S1x256x64x4x512_S1x16384x4x512,
    reshape main_v187 main_v192 (rfl : (.f32 : EltTy) = .f32) shapeCasts_S1x256x64x4x256_S1x16384x4x256,
    reshape main_v190 main_v193 (rfl : (.f32 : EltTy) = .f32) shapeCasts_S1x256x64x4x256_S1x16384x4x256,
    reshape main_v191 main_v194 (rfl : (.f32 : EltTy) = .f32) shapeCasts_S1x16384x4x512_S1x16384x2048,
    nullary main_cst_28 (constant S_ .f32 0x3D800000#32),
    unary main_cst_28 main_v195 (broadcastInDim S1x16384x4x256 ![] bcast_S_S1x16384x4x256 : Arr F S_ .f32 → Arr F S1x16384x4x256 .f32),
    binary main_v192 main_v195 main_v196 (mulf : Arr F S1x16384x4x256 .f32 → Arr F S1x16384x4x256 .f32 → Arr F S1x16384x4x256 .f32),
    unary main_v196 main_v197 ((extractStridedSlice S1x16384x4x128 ![0, 0, 0, 0] · slices_S1x16384x4x256_S1x16384x4x128_0_0_0_0) : Arr F S1x16384x4x256 .f32 → Arr F S1x16384x4x128 .f32),
    unary main_v196 main_v198 ((extractStridedSlice S1x16384x4x128 ![0, 0, 0, 128] · slices_S1x16384x4x256_S1x16384x4x128_0_0_0_128) : Arr F S1x16384x4x256 .f32 → Arr F S1x16384x4x128 .f32),
    unary main_v56 main_v199 (broadcastInDim S1x16384x4x128 ![0, 1, 2, 3] bcast_S1x16384x1x128_S1x16384x4x128_0_1_2_3 : Arr F S1x16384x1x128 .f32 → Arr F S1x16384x4x128 .f32),
    binary main_v198 main_v199 main_v200 (mulf : Arr F S1x16384x4x128 .f32 → Arr F S1x16384x4x128 .f32 → Arr F S1x16384x4x128 .f32),
    unary main_v57 main_v201 (broadcastInDim S1x16384x4x128 ![0, 1, 2, 3] bcast_S1x16384x1x128_S1x16384x4x128_0_1_2_3 : Arr F S1x16384x1x128 .f32 → Arr F S1x16384x4x128 .f32),
    binary main_v198 main_v201 main_v202 (mulf : Arr F S1x16384x4x128 .f32 → Arr F S1x16384x4x128 .f32 → Arr F S1x16384x4x128 .f32),
    unary main_v197 main_v203 (Host.negf : Arr F S1x16384x4x128 .f32 → Arr F S1x16384x4x128 .f32),
    unary main_v57 main_v204 (broadcastInDim S1x16384x4x128 ![0, 1, 2, 3] bcast_S1x16384x1x128_S1x16384x4x128_0_1_2_3 : Arr F S1x16384x1x128 .f32 → Arr F S1x16384x4x128 .f32),
    binary main_v203 main_v204 main_v205 (mulf : Arr F S1x16384x4x128 .f32 → Arr F S1x16384x4x128 .f32 → Arr F S1x16384x4x128 .f32),
    binary main_v200 main_v205 main_v206 (addf : Arr F S1x16384x4x128 .f32 → Arr F S1x16384x4x128 .f32 → Arr F S1x16384x4x128 .f32),
    unary main_v56 main_v207 (broadcastInDim S1x16384x4x128 ![0, 1, 2, 3] bcast_S1x16384x1x128_S1x16384x4x128_0_1_2_3 : Arr F S1x16384x1x128 .f32 → Arr F S1x16384x4x128 .f32),
    binary main_v197 main_v207 main_v208 (mulf : Arr F S1x16384x4x128 .f32 → Arr F S1x16384x4x128 .f32 → Arr F S1x16384x4x128 .f32),
    binary main_v202 main_v208 main_v209 (addf : Arr F S1x16384x4x128 .f32 → Arr F S1x16384x4x128 .f32 → Arr F S1x16384x4x128 .f32),
    nullary main_cst_29 (constant S_ .f32 0x00000000#32),
    binary main_v206 main_cst_29 main_v210 ((fun x v => pad S1x16384x4x256 ![0, 0, 0, 128] ![0, 0, 0, 0] ![0, 0, 0, 0] x v pads_S1x16384x4x128_S1x16384x4x256_000_000_000_12800 h_S_) : Arr F S1x16384x4x128 .f32 → Arr F S_ .f32 → Arr F S1x16384x4x256 .f32),
    nullary main_cst_30 (constant S_ .f32 0x00000000#32),
    binary main_v209 main_cst_30 main_v211 ((fun x v => pad S1x16384x4x256 ![0, 0, 0, 0] ![0, 0, 0, 128] ![0, 0, 0, 0] x v pads_S1x16384x4x128_S1x16384x4x256_000_000_000_01280 h_S_) : Arr F S1x16384x4x128 .f32 → Arr F S_ .f32 → Arr F S1x16384x4x256 .f32),
    binary main_v210 main_v211 main_v212 (addf : Arr F S1x16384x4x256 .f32 → Arr F S1x16384x4x256 .f32 → Arr F S1x16384x4x256 .f32),
    reshape main_v212 main_v213 (rfl : (.f32 : EltTy) = .f32) shapeCasts_S1x16384x4x256_S1x16384x1024,
    unary main_v193 main_v214 ((extractStridedSlice S1x16384x4x128 ![0, 0, 0, 0] · slices_S1x16384x4x256_S1x16384x4x128_0_0_0_0) : Arr F S1x16384x4x256 .f32 → Arr F S1x16384x4x128 .f32),
    unary main_v193 main_v215 ((extractStridedSlice S1x16384x4x128 ![0, 0, 0, 128] · slices_S1x16384x4x256_S1x16384x4x128_0_0_0_128) : Arr F S1x16384x4x256 .f32 → Arr F S1x16384x4x128 .f32),
    unary main_v24 main_v216 (broadcastInDim S1x16384x4x128 ![0, 1, 2, 3] bcast_S1x16384x1x128_S1x16384x4x128_0_1_2_3 : Arr F S1x16384x1x128 .f32 → Arr F S1x16384x4x128 .f32),
    binary main_v215 main_v216 main_v217 (mulf : Arr F S1x16384x4x128 .f32 → Arr F S1x16384x4x128 .f32 → Arr F S1x16384x4x128 .f32),
    unary main_v25 main_v218 (broadcastInDim S1x16384x4x128 ![0, 1, 2, 3] bcast_S1x16384x1x128_S1x16384x4x128_0_1_2_3 : Arr F S1x16384x1x128 .f32 → Arr F S1x16384x4x128 .f32),
    binary main_v215 main_v218 main_v219 (mulf : Arr F S1x16384x4x128 .f32 → Arr F S1x16384x4x128 .f32 → Arr F S1x16384x4x128 .f32),
    unary main_v214 main_v220 (Host.negf : Arr F S1x16384x4x128 .f32 → Arr F S1x16384x4x128 .f32),
    unary main_v25 main_v221 (broadcastInDim S1x16384x4x128 ![0, 1, 2, 3] bcast_S1x16384x1x128_S1x16384x4x128_0_1_2_3 : Arr F S1x16384x1x128 .f32 → Arr F S1x16384x4x128 .f32),
    binary main_v220 main_v221 main_v222 (mulf : Arr F S1x16384x4x128 .f32 → Arr F S1x16384x4x128 .f32 → Arr F S1x16384x4x128 .f32),
    binary main_v217 main_v222 main_v223 (addf : Arr F S1x16384x4x128 .f32 → Arr F S1x16384x4x128 .f32 → Arr F S1x16384x4x128 .f32),
    unary main_v24 main_v224 (broadcastInDim S1x16384x4x128 ![0, 1, 2, 3] bcast_S1x16384x1x128_S1x16384x4x128_0_1_2_3 : Arr F S1x16384x1x128 .f32 → Arr F S1x16384x4x128 .f32),
    binary main_v214 main_v224 main_v225 (mulf : Arr F S1x16384x4x128 .f32 → Arr F S1x16384x4x128 .f32 → Arr F S1x16384x4x128 .f32),
    binary main_v219 main_v225 main_v226 (addf : Arr F S1x16384x4x128 .f32 → Arr F S1x16384x4x128 .f32 → Arr F S1x16384x4x128 .f32),
    nullary main_cst_31 (constant S_ .f32 0x00000000#32),
    binary main_v223 main_cst_31 main_v227 ((fun x v => pad S1x16384x4x256 ![0, 0, 0, 128] ![0, 0, 0, 0] ![0, 0, 0, 0] x v pads_S1x16384x4x128_S1x16384x4x256_000_000_000_12800 h_S_) : Arr F S1x16384x4x128 .f32 → Arr F S_ .f32 → Arr F S1x16384x4x256 .f32),
    nullary main_cst_32 (constant S_ .f32 0x00000000#32),
    binary main_v226 main_cst_32 main_v228 ((fun x v => pad S1x16384x4x256 ![0, 0, 0, 0] ![0, 0, 0, 128] ![0, 0, 0, 0] x v pads_S1x16384x4x128_S1x16384x4x256_000_000_000_01280 h_S_) : Arr F S1x16384x4x128 .f32 → Arr F S_ .f32 → Arr F S1x16384x4x256 .f32),
    binary main_v227 main_v228 main_v229 (addf : Arr F S1x16384x4x256 .f32 → Arr F S1x16384x4x256 .f32 → Arr F S1x16384x4x256 .f32),
    reshape main_v229 main_v230 (rfl : (.f32 : EltTy) = .f32) shapeCasts_S1x16384x4x256_S1x16384x1024,
    reshape main_v164 main_v231 (rfl : (.bf16 : EltTy) = .bf16) shapeCasts_S1x16384x2048_S16384x2048,
    reshape main_v136 main_v232 (rfl : (.f32 : EltTy) = .f32) shapeCasts_S1x16384x2048_S16384x2048,
    reshape main_v230 main_v233 (rfl : (.f32 : EltTy) = .f32) shapeCasts_S1x16384x1024_S16384x1024,
    unary main_v233 main_v234 ((truncf .bf16 · bitsLt_bf16_f32) : Arr F S16384x1024 .f32 → Arr F S16384x1024 .bf16),
    reshape main_v213 main_v235 (rfl : (.f32 : EltTy) = .f32) shapeCasts_S1x16384x1024_S16384x1024,
    unary main_v235 main_v236 ((truncf .bf16 · bitsLt_bf16_f32) : Arr F S16384x1024 .f32 → Arr F S16384x1024 .bf16),
    reshape main_v194 main_v237 (rfl : (.f32 : EltTy) = .f32) shapeCasts_S1x16384x2048_S16384x2048,
    unary main_v237 main_v238 ((truncf .bf16 · bitsLt_bf16_f32) : Arr F S16384x2048 .f32 → Arr F S16384x2048 .bf16) ]
theorem post1_sub : (post1 : List (HloOp τ sig (Elt F))).Forall fun op => op.bufs ⊆ tcRefs τ sig :=
  ⟨unary_bufs_sub .., binary_bufs_sub .., binary_bufs_sub .., unary_bufs_sub .., binary_bufs_sub .., reshape_bufs_sub .., reshape_bufs_sub .., reshape_bufs_sub .., reshape_bufs_sub .., nullary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub .., nullary_bufs_sub .., binary_bufs_sub .., nullary_bufs_sub .., binary_bufs_sub .., binary_bufs_sub .., reshape_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub .., nullary_bufs_sub .., binary_bufs_sub .., nullary_bufs_sub .., binary_bufs_sub .., binary_bufs_sub .., reshape_bufs_sub .., reshape_bufs_sub .., reshape_bufs_sub .., reshape_bufs_sub .., unary_bufs_sub .., reshape_bufs_sub .., unary_bufs_sub .., reshape_bufs_sub .., unary_bufs_sub ..⟩
theorem post1_fresh : (post1 : List (HloOp τ sig (Elt F))).Forall fun op => op.fresh = ∅ := forall_fresh_of_map rfl

set_option maxHeartbeats 40000000 in
abbrev bodyA0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.nullary (.of main_while0b_call0_c_2 : TRef sig ⟨S_, .i32⟩) (constantI S_ 32 0#32),
    TRef.unaryIndexed (.of main_v133_0 : TRef sig ⟨S256x1x64x4x256, .f32⟩) ![(.of main_v133_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩), (.of main_while0b_call0_c_2 : TRef sig ⟨S_, .i32⟩)] (.of main_while0b_call0_v0 : TRef sig ⟨S1x1x64x4x256, .f32⟩) (fun x i => Host.dynamicSlice S1x1x64x4x256 x (fun k => (i k (Shape.Idx.first h_S_)).toInt) sliceFits_S256x1x64x4x256_S1x1x64x4x256),
    TRef.reshape (.of main_while0b_call0_v0 : TRef sig ⟨S1x1x64x4x256, .f32⟩) (.of main_while0b_v239 : TRef sig ⟨S1x64x4x256, .f32⟩) (rfl : (.f32 : EltTy) = .f32) shapeCasts_S1x1x64x4x256_S1x64x4x256 ]
theorem bodyA0_sub : (bodyA0 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyA0_fresh : (bodyA0 : List (HloOp τ sig (Elt F))).Forall fun op => op.fresh = ∅ := forall_fresh_of_map rfl

set_option maxHeartbeats 40000000 in
abbrev bodyA1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.nullary (.of main_while0b_call1_c_2 : TRef sig ⟨S_, .i32⟩) (constantI S_ 32 0#32),
    TRef.unaryIndexed (.of main_v133_1 : TRef sig ⟨S256x1x64x4x256, .f32⟩) ![(.of main_v133_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩), (.of main_while0b_call1_c_2 : TRef sig ⟨S_, .i32⟩)] (.of main_while0b_call1_v0 : TRef sig ⟨S1x1x64x4x256, .f32⟩) (fun x i => Host.dynamicSlice S1x1x64x4x256 x (fun k => (i k (Shape.Idx.first h_S_)).toInt) sliceFits_S256x1x64x4x256_S1x1x64x4x256),
    TRef.reshape (.of main_while0b_call1_v0 : TRef sig ⟨S1x1x64x4x256, .f32⟩) (.of main_while0b_v240 : TRef sig ⟨S1x64x4x256, .f32⟩) (rfl : (.f32 : EltTy) = .f32) shapeCasts_S1x1x64x4x256_S1x64x4x256 ]
theorem bodyA1_sub : (bodyA1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyA1_fresh : (bodyA1 : List (HloOp τ sig (Elt F))).Forall fun op => op.fresh = ∅ := forall_fresh_of_map rfl

set_option maxHeartbeats 40000000 in
abbrev bodyA2 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v133_2 : TRef sig ⟨S256x1x64x4x512, .f32⟩) ![(.of main_v133_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x64x4x512, .f32⟩) (fun x i => Host.dynamicSlice S1x1x64x4x512 x (fun k => (i k (Shape.Idx.first h_S_)).toInt) sliceFits_S256x1x64x4x512_S1x1x64x4x512),
    TRef.reshape (.of main_while0b_call2_v0 : TRef sig ⟨S1x1x64x4x512, .f32⟩) (.of main_while0b_v241 : TRef sig ⟨S1x64x4x512, .f32⟩) (rfl : (.f32 : EltTy) = .f32) shapeCasts_S1x1x64x4x512_S1x64x4x512 ]
theorem bodyA2_sub : (bodyA2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyA2_fresh : (bodyA2 : List (HloOp τ sig (Elt F))).Forall fun op => op.fresh = ∅ := forall_fresh_of_map rfl

set_option maxHeartbeats 40000000 in
abbrev bodyA3 : List (HloOp τ sig (Elt F)) :=
  [ binary main_v133_7 main_while0b_v239 main_while0b_v242 ((fun l r => Host.dotGeneral dot_S1x4x256x512_S1x64x4x256_S1x4x512x64_2_3_3_1_01_02 none l r) : Arr F S1x4x256x512 .f32 → Arr F S1x64x4x256 .f32 → Arr F S1x4x512x64 .f32),
    unary main_while0b_v242 main_while0b_v243 ((transpose S1x64x4x512 [0, 3, 1, 2] · transposes_S1x4x512x64_S1x64x4x512_0_3_1_2) : Arr F S1x4x512x64 .f32 → Arr F S1x64x4x512 .f32),
    unary main_v133_5 main_while0b_v244 (broadcastInDim S1x64x4x512 ![0, 1, 2, 3] bcast_S1x64x4x1_S1x64x4x512_0_1_2_3 : Arr F S1x64x4x1 .f32 → Arr F S1x64x4x512 .f32),
    binary main_while0b_v243 main_while0b_v244 main_while0b_v245 (mulf : Arr F S1x64x4x512 .f32 → Arr F S1x64x4x512 .f32 → Arr F S1x64x4x512 .f32),
    unary main_v133_3 main_while0b_v246 (broadcastInDim S1x4x256x512 ![0, 1, 2, 3] bcast_S1x4x1x1_S1x4x256x512_0_1_2_3 : Arr F S1x4x1x1 .f32 → Arr F S1x4x256x512 .f32),
    binary main_v133_7 main_while0b_v246 main_while0b_v247 (mulf : Arr F S1x4x256x512 .f32 → Arr F S1x4x256x512 .f32 → Arr F S1x4x256x512 .f32),
    unary main_v133_4 main_while0b_v248 (broadcastInDim S1x64x4x256 ![0, 1, 2, 3] bcast_S1x64x4x1_S1x64x4x256_0_1_2_3 : Arr F S1x64x4x1 .f32 → Arr F S1x64x4x256 .f32),
    binary main_while0b_v240 main_while0b_v248 main_while0b_v249 (mulf : Arr F S1x64x4x256 .f32 → Arr F S1x64x4x256 .f32 → Arr F S1x64x4x256 .f32),
    binary main_while0b_v249 main_while0b_v241 main_while0b_v250 ((fun l r => Host.dotGeneral dot_S1x64x4x256_S1x64x4x512_S1x4x256x512_1_1_3_3_02_02 none l r) : Arr F S1x64x4x256 .f32 → Arr F S1x64x4x512 .f32 → Arr F S1x4x256x512 .f32),
    binary main_while0b_v247 main_while0b_v250 main_while0b_v251 (addf : Arr F S1x4x256x512 .f32 → Arr F S1x4x256x512 .f32 → Arr F S1x4x256x512 .f32) ]
theorem bodyA3_sub : (bodyA3 : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., binary_bufs_sub .., binary_bufs_sub .., binary_bufs_sub ..⟩
theorem bodyA3_fresh : (bodyA3 : List (HloOp τ sig (Elt F))).Forall fun op => op.fresh = ∅ := forall_fresh_of_map rfl

set_option maxHeartbeats 40000000 in
abbrev bodyA4 : List (HloOp τ sig (Elt F)) :=
  [ TRef.unary (.of main_while0b_v245 : TRef sig ⟨S1x64x4x512, .f32⟩) (.of main_while0b_call3_v0 : TRef sig ⟨S1x1x64x4x512, .f32⟩) (broadcastInDim S1x1x64x4x512 ![1, 2, 3, 4] bcast_S1x64x4x512_S1x1x64x4x512_1_2_3_4),
    TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.binaryIndexed (.of main_v133_8 : TRef sig ⟨S256x1x64x4x512, .f32⟩) (.of main_while0b_call3_v0 : TRef sig ⟨S1x1x64x4x512, .f32⟩) ![(.of main_v133_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_v252 : TRef sig ⟨S256x1x64x4x512, .f32⟩) (fun x u i => Host.dynamicUpdateSlice x u (fun k => (i k (Shape.Idx.first h_S_)).toInt) updateFits_S256x1x64x4x512_S1x1x64x4x512) ]
theorem bodyA4_sub : (bodyA4 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem bodyA4_fresh : (bodyA4 : List (HloOp τ sig (Elt F))).Forall fun op => op.fresh = ∅ := forall_fresh_of_map rfl

set_option maxHeartbeats 40000000 in
abbrev bodyA5 : List (HloOp τ sig (Elt F)) :=
  [ TRef.unary (.of main_v133_7 : TRef sig ⟨S1x4x256x512, .f32⟩) (.of main_while0b_call4_v0 : TRef sig ⟨S1x1x4x256x512, .f32⟩) (broadcastInDim S1x1x4x256x512 ![1, 2, 3, 4] bcast_S1x4x256x512_S1x1x4x256x512_1_2_3_4),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.binaryIndexed (.of main_v133_9 : TRef sig ⟨S256x1x4x256x512, .f32⟩) (.of main_while0b_call4_v0 : TRef sig ⟨S1x1x4x256x512, .f32⟩) ![(.of main_v133_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_v253 : TRef sig ⟨S256x1x4x256x512, .f32⟩) (fun x u i => Host.dynamicUpdateSlice x u (fun k => (i k (Shape.Idx.first h_S_)).toInt) updateFits_S256x1x4x256x512_S1x1x4x256x512) ]
theorem bodyA5_sub : (bodyA5 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem bodyA5_fresh : (bodyA5 : List (HloOp τ sig (Elt F))).Forall fun op => op.fresh = ∅ := forall_fresh_of_map rfl

set_option maxHeartbeats 40000000 in
abbrev bodyA6 : List (HloOp τ sig (Elt F)) :=
  [ TRef.unary (.of main_while0b_v249 : TRef sig ⟨S1x64x4x256, .f32⟩) (.of main_while0b_call5_v0 : TRef sig ⟨S1x1x64x4x256, .f32⟩) (broadcastInDim S1x1x64x4x256 ![1, 2, 3, 4] bcast_S1x64x4x256_S1x1x64x4x256_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v133_10 : TRef sig ⟨S256x1x64x4x256, .f32⟩) (.of main_while0b_call5_v0 : TRef sig ⟨S1x1x64x4x256, .f32⟩) ![(.of main_v133_6 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v254 : TRef sig ⟨S256x1x64x4x256, .f32⟩) (fun x u i => Host.dynamicUpdateSlice x u (fun k => (i k (Shape.Idx.first h_S_)).toInt) updateFits_S256x1x64x4x256_S1x1x64x4x256) ]
theorem bodyA6_sub : (bodyA6 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem bodyA6_fresh : (bodyA6 : List (HloOp τ sig (Elt F))).Forall fun op => op.fresh = ∅ := forall_fresh_of_map rfl

set_option maxHeartbeats 40000000 in
abbrev bodyA7 : List (HloOp τ sig (Elt F)) :=
  [ nullary main_while0b_c_43 (constantI S_ 32 1#32),
    binary main_v133_6 main_while0b_c_43 main_while0b_v255 (addi : Arr F S_ .i32 → Arr F S_ .i32 → Arr F S_ .i32),
    unary main_while0b_v255 main_v133_6 id,
    unary main_while0b_v251 main_v133_7 id,
    unary main_while0b_v252 main_v133_8 id,
    unary main_while0b_v253 main_v133_9 id,
    unary main_while0b_v254 main_v133_10 id ]
theorem bodyA7_sub : (bodyA7 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
theorem bodyA7_fresh : (bodyA7 : List (HloOp τ sig (Elt F))).Forall fun op => op.fresh = ∅ := forall_fresh_of_map rfl

set_option maxHeartbeats 40000000 in
abbrev bodyB0 : List (HloOp τ sig (Elt F)) :=
  [ nullary main_while1b_c_45 (constantI S_ 32 256#32),
    binary main_while1b_c_45 main_v174_8 main_while1b_v239 (subi : Arr F S_ .i32 → Arr F S_ .i32 → Arr F S_ .i32),
    nullary main_while1b_c_46 (constantI S_ 32 1#32),
    binary main_while1b_v239 main_while1b_c_46 main_while1b_v240 (subi : Arr F S_ .i32 → Arr F S_ .i32 → Arr F S_ .i32) ]
theorem bodyB0_sub : (bodyB0 : List (HloOp τ sig (Elt F))).Forall fun op => op.bufs ⊆ tcRefs τ sig :=
  ⟨nullary_bufs_sub .., binary_bufs_sub .., nullary_bufs_sub .., binary_bufs_sub ..⟩
theorem bodyB0_fresh : (bodyB0 : List (HloOp τ sig (Elt F))).Forall fun op => op.fresh = ∅ := forall_fresh_of_map rfl

set_option maxHeartbeats 40000000 in
abbrev bodyB1 : List (HloOp τ sig (Elt F)) :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.nullary (.of main_while1b_call7_c_2 : TRef sig ⟨S_, .i32⟩) (constantI S_ 32 0#32),
    TRef.unaryIndexed (.of main_v174_0 : TRef sig ⟨S256x1x64x4x512, .f32⟩) ![(.of main_while1b_v240 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩), (.of main_while1b_call7_c_2 : TRef sig ⟨S_, .i32⟩)] (.of main_while1b_call7_v0 : TRef sig ⟨S1x1x64x4x512, .f32⟩) (fun x i => Host.dynamicSlice S1x1x64x4x512 x (fun k => (i k (Shape.Idx.first h_S_)).toInt) sliceFits_S256x1x64x4x512_S1x1x64x4x512),
    TRef.reshape (.of main_while1b_call7_v0 : TRef sig ⟨S1x1x64x4x512, .f32⟩) (.of main_while1b_v241 : TRef sig ⟨S1x64x4x512, .f32⟩) (rfl : (.f32 : EltTy) = .f32) shapeCasts_S1x1x64x4x512_S1x64x4x512 ]
theorem bodyB1_sub : (bodyB1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyB1_fresh : (bodyB1 : List (HloOp τ sig (Elt F))).Forall fun op => op.fresh = ∅ := forall_fresh_of_map rfl

set_option maxHeartbeats 40000000 in
abbrev bodyB2 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v174_1 : TRef sig ⟨S256x1x64x4x256, .f32⟩) ![(.of main_while1b_v240 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x64x4x256, .f32⟩) (fun x i => Host.dynamicSlice S1x1x64x4x256 x (fun k => (i k (Shape.Idx.first h_S_)).toInt) sliceFits_S256x1x64x4x256_S1x1x64x4x256),
    TRef.reshape (.of main_while1b_call8_v0 : TRef sig ⟨S1x1x64x4x256, .f32⟩) (.of main_while1b_v242 : TRef sig ⟨S1x64x4x256, .f32⟩) (rfl : (.f32 : EltTy) = .f32) shapeCasts_S1x1x64x4x256_S1x64x4x256 ]
theorem bodyB2_sub : (bodyB2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyB2_fresh : (bodyB2 : List (HloOp τ sig (Elt F))).Forall fun op => op.fresh = ∅ := forall_fresh_of_map rfl

set_option maxHeartbeats 40000000 in
abbrev bodyB3 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v174_2 : TRef sig ⟨S256x1x4x256x512, .f32⟩) ![(.of main_while1b_v240 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x1x4x256x512, .f32⟩) (fun x i => Host.dynamicSlice S1x1x4x256x512 x (fun k => (i k (Shape.Idx.first h_S_)).toInt) sliceFits_S256x1x4x256x512_S1x1x4x256x512),
    TRef.reshape (.of main_while1b_call9_v0 : TRef sig ⟨S1x1x4x256x512, .f32⟩) (.of main_while1b_v243 : TRef sig ⟨S1x4x256x512, .f32⟩) (rfl : (.f32 : EltTy) = .f32) shapeCasts_S1x1x4x256x512_S1x4x256x512 ]
theorem bodyB3_sub : (bodyB3 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyB3_fresh : (bodyB3 : List (HloOp τ sig (Elt F))).Forall fun op => op.fresh = ∅ := forall_fresh_of_map rfl

set_option maxHeartbeats 40000000 in
abbrev bodyB4 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.unaryIndexed (.of main_v174_3 : TRef sig ⟨S256x1x64x4x512, .f32⟩) ![(.of main_while1b_v240 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_call10_v0 : TRef sig ⟨S1x1x64x4x512, .f32⟩) (fun x i => Host.dynamicSlice S1x1x64x4x512 x (fun k => (i k (Shape.Idx.first h_S_)).toInt) sliceFits_S256x1x64x4x512_S1x1x64x4x512),
    TRef.reshape (.of main_while1b_call10_v0 : TRef sig ⟨S1x1x64x4x512, .f32⟩) (.of main_while1b_v244 : TRef sig ⟨S1x64x4x512, .f32⟩) (rfl : (.f32 : EltTy) = .f32) shapeCasts_S1x1x64x4x512_S1x64x4x512 ]
theorem bodyB4_sub : (bodyB4 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyB4_fresh : (bodyB4 : List (HloOp τ sig (Elt F))).Forall fun op => op.fresh = ∅ := forall_fresh_of_map rfl

set_option maxHeartbeats 40000000 in
abbrev bodyB5 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.unaryIndexed (.of main_v174_4 : TRef sig ⟨S256x1x64x4x256, .f32⟩) ![(.of main_while1b_v240 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_call11_v0 : TRef sig ⟨S1x1x64x4x256, .f32⟩) (fun x i => Host.dynamicSlice S1x1x64x4x256 x (fun k => (i k (Shape.Idx.first h_S_)).toInt) sliceFits_S256x1x64x4x256_S1x1x64x4x256),
    TRef.reshape (.of main_while1b_call11_v0 : TRef sig ⟨S1x1x64x4x256, .f32⟩) (.of main_while1b_v245 : TRef sig ⟨S1x64x4x256, .f32⟩) (rfl : (.f32 : EltTy) = .f32) shapeCasts_S1x1x64x4x256_S1x64x4x256 ]
theorem bodyB5_sub : (bodyB5 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem bodyB5_fresh : (bodyB5 : List (HloOp τ sig (Elt F))).Forall fun op => op.fresh = ∅ := forall_fresh_of_map rfl

set_option maxHeartbeats 40000000 in
abbrev bodyB6 : List (HloOp τ sig (Elt F)) :=
  [ binary main_v174_9 main_while1b_v245 main_while1b_v246 ((fun l r => Host.dotGeneral dot_S1x4x256x512_S1x64x4x256_S1x4x512x64_2_3_3_1_01_02 none l r) : Arr F S1x4x256x512 .f32 → Arr F S1x64x4x256 .f32 → Arr F S1x4x512x64 .f32),
    unary main_while1b_v246 main_while1b_v247 ((transpose S1x64x4x512 [0, 3, 1, 2] · transposes_S1x4x512x64_S1x64x4x512_0_3_1_2) : Arr F S1x4x512x64 .f32 → Arr F S1x64x4x512 .f32),
    binary main_v174_9 main_while1b_v244 main_while1b_v248 ((fun l r => Host.dotGeneral dot_S1x4x256x512_S1x64x4x512_S1x4x256x64_3_3_2_1_01_02 none l r) : Arr F S1x4x256x512 .f32 → Arr F S1x64x4x512 .f32 → Arr F S1x4x256x64 .f32),
    unary main_while1b_v248 main_while1b_v249 ((transpose S1x64x4x256 [0, 3, 1, 2] · transposes_S1x4x256x64_S1x64x4x256_0_3_1_2) : Arr F S1x4x256x64 .f32 → Arr F S1x64x4x256 .f32),
    unary main_v174_7 main_while1b_v250 (broadcastInDim S1x64x4x256 ![0, 1, 2, 3] bcast_S1x64x4x1_S1x64x4x256_0_1_2_3 : Arr F S1x64x4x1 .f32 → Arr F S1x64x4x256 .f32),
    binary main_while1b_v249 main_while1b_v250 main_while1b_v251 (mulf : Arr F S1x64x4x256 .f32 → Arr F S1x64x4x256 .f32 → Arr F S1x64x4x256 .f32),
    unary main_v174_6 main_while1b_v252 (broadcastInDim S1x4x256x512 ![0, 1, 2, 3] bcast_S1x4x1x1_S1x4x256x512_0_1_2_3 : Arr F S1x4x1x1 .f32 → Arr F S1x4x256x512 .f32),
    binary main_v174_9 main_while1b_v252 main_while1b_v253 (mulf : Arr F S1x4x256x512 .f32 → Arr F S1x4x256x512 .f32 → Arr F S1x4x256x512 .f32),
    unary main_v174_5 main_while1b_v254 (broadcastInDim S1x64x4x512 ![0, 1, 2, 3] bcast_S1x64x4x1_S1x64x4x512_0_1_2_3 : Arr F S1x64x4x1 .f32 → Arr F S1x64x4x512 .f32),
    binary main_while1b_v241 main_while1b_v254 main_while1b_v255 (mulf : Arr F S1x64x4x512 .f32 → Arr F S1x64x4x512 .f32 → Arr F S1x64x4x512 .f32),
    unary main_while1b_v255 main_while1b_v256 ((transpose S1x4x512x64 [0, 2, 3, 1] · transposes_S1x64x4x512_S1x4x512x64_0_2_3_1) : Arr F S1x64x4x512 .f32 → Arr F S1x4x512x64 .f32),
    binary main_while1b_v256 main_while1b_v243 main_while1b_v257 ((fun l r => Host.dotGeneral dot_S1x4x512x64_S1x4x256x512_S1x4x64x256_2_3_3_2_01_01 none l r) : Arr F S1x4x512x64 .f32 → Arr F S1x4x256x512 .f32 → Arr F S1x4x64x256 .f32),
    unary main_while1b_v257 main_while1b_v258 ((transpose S1x64x4x256 [0, 2, 1, 3] · transposes_S1x4x64x256_S1x64x4x256_0_2_1_3) : Arr F S1x4x64x256 .f32 → Arr F S1x64x4x256 .f32),
    binary main_while1b_v256 main_while1b_v242 main_while1b_v259 ((fun l r => Host.dotGeneral dot_S1x4x512x64_S1x64x4x256_S1x4x512x256_3_1_2_3_01_02 none l r) : Arr F S1x4x512x64 .f32 → Arr F S1x64x4x256 .f32 → Arr F S1x4x512x256 .f32),
    unary main_while1b_v259 main_while1b_v260 ((transpose S1x4x256x512 [0, 1, 3, 2] · transposes_S1x4x512x256_S1x4x256x512_0_1_3_2) : Arr F S1x4x512x256 .f32 → Arr F S1x4x256x512 .f32),
    binary main_while1b_v253 main_while1b_v260 main_while1b_v261 (addf : Arr F S1x4x256x512 .f32 → Arr F S1x4x256x512 .f32 → Arr F S1x4x256x512 .f32) ]
theorem bodyB6_sub : (bodyB6 : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩
theorem bodyB6_fresh : (bodyB6 : List (HloOp τ sig (Elt F))).Forall fun op => op.fresh = ∅ := forall_fresh_of_map rfl

set_option maxHeartbeats 40000000 in
abbrev bodyB7 : List (HloOp τ sig (Elt F)) :=
  [ TRef.unary (.of main_while1b_v258 : TRef sig ⟨S1x64x4x256, .f32⟩) (.of main_while1b_call12_v0 : TRef sig ⟨S1x1x64x4x256, .f32⟩) (broadcastInDim S1x1x64x4x256 ![1, 2, 3, 4] bcast_S1x64x4x256_S1x1x64x4x256_1_2_3_4),
    TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.nullary (.of main_while1b_call12_c_2 : TRef sig ⟨S_, .i32⟩) (constantI S_ 32 0#32),
    TRef.binaryIndexed (.of main_v174_10 : TRef sig ⟨S256x1x64x4x256, .f32⟩) (.of main_while1b_call12_v0 : TRef sig ⟨S1x1x64x4x256, .f32⟩) ![(.of main_while1b_v240 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩), (.of main_while1b_call12_c_2 : TRef sig ⟨S_, .i32⟩)] (.of main_while1b_v262 : TRef sig ⟨S256x1x64x4x256, .f32⟩) (fun x u i => Host.dynamicUpdateSlice x u (fun k => (i k (Shape.Idx.first h_S_)).toInt) updateFits_S256x1x64x4x256_S1x1x64x4x256) ]
theorem bodyB7_sub : (bodyB7 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem bodyB7_fresh : (bodyB7 : List (HloOp τ sig (Elt F))).Forall fun op => op.fresh = ∅ := forall_fresh_of_map rfl

set_option maxHeartbeats 40000000 in
abbrev bodyB8 : List (HloOp τ sig (Elt F)) :=
  [ TRef.unary (.of main_while1b_v251 : TRef sig ⟨S1x64x4x256, .f32⟩) (.of main_while1b_call13_v0 : TRef sig ⟨S1x1x64x4x256, .f32⟩) (broadcastInDim S1x1x64x4x256 ![1, 2, 3, 4] bcast_S1x64x4x256_S1x1x64x4x256_1_2_3_4),
    TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.nullary (.of main_while1b_call13_c_2 : TRef sig ⟨S_, .i32⟩) (constantI S_ 32 0#32),
    TRef.binaryIndexed (.of main_v174_11 : TRef sig ⟨S256x1x64x4x256, .f32⟩) (.of main_while1b_call13_v0 : TRef sig ⟨S1x1x64x4x256, .f32⟩) ![(.of main_while1b_v240 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩), (.of main_while1b_call13_c_2 : TRef sig ⟨S_, .i32⟩)] (.of main_while1b_v263 : TRef sig ⟨S256x1x64x4x256, .f32⟩) (fun x u i => Host.dynamicUpdateSlice x u (fun k => (i k (Shape.Idx.first h_S_)).toInt) updateFits_S256x1x64x4x256_S1x1x64x4x256) ]
theorem bodyB8_sub : (bodyB8 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem bodyB8_fresh : (bodyB8 : List (HloOp τ sig (Elt F))).Forall fun op => op.fresh = ∅ := forall_fresh_of_map rfl

set_option maxHeartbeats 40000000 in
abbrev bodyB9 : List (HloOp τ sig (Elt F)) :=
  [ TRef.unary (.of main_while1b_v247 : TRef sig ⟨S1x64x4x512, .f32⟩) (.of main_while1b_call14_v0 : TRef sig ⟨S1x1x64x4x512, .f32⟩) (broadcastInDim S1x1x64x4x512 ![1, 2, 3, 4] bcast_S1x64x4x512_S1x1x64x4x512_1_2_3_4),
    TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.nullary (.of main_while1b_call14_c_2 : TRef sig ⟨S_, .i32⟩) (constantI S_ 32 0#32),
    TRef.binaryIndexed (.of main_v174_12 : TRef sig ⟨S256x1x64x4x512, .f32⟩) (.of main_while1b_call14_v0 : TRef sig ⟨S1x1x64x4x512, .f32⟩) ![(.of main_while1b_v240 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩), (.of main_while1b_call14_c_2 : TRef sig ⟨S_, .i32⟩)] (.of main_while1b_v264 : TRef sig ⟨S256x1x64x4x512, .f32⟩) (fun x u i => Host.dynamicUpdateSlice x u (fun k => (i k (Shape.Idx.first h_S_)).toInt) updateFits_S256x1x64x4x512_S1x1x64x4x512) ]
theorem bodyB9_sub : (bodyB9 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem bodyB9_fresh : (bodyB9 : List (HloOp τ sig (Elt F))).Forall fun op => op.fresh = ∅ := forall_fresh_of_map rfl

set_option maxHeartbeats 40000000 in
abbrev bodyB10 : List (HloOp τ sig (Elt F)) :=
  [ nullary main_while1b_c_47 (constantI S_ 32 1#32),
    binary main_v174_8 main_while1b_c_47 main_while1b_v265 (addi : Arr F S_ .i32 → Arr F S_ .i32 → Arr F S_ .i32),
    unary main_while1b_v265 main_v174_8 id,
    unary main_while1b_v261 main_v174_9 id,
    unary main_while1b_v262 main_v174_10 id,
    unary main_while1b_v263 main_v174_11 id,
    unary main_while1b_v264 main_v174_12 id ]
theorem bodyB10_sub : (bodyB10 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
theorem bodyB10_fresh : (bodyB10 : List (HloOp τ sig (Elt F))).Forall fun op => op.fresh = ∅ := forall_fresh_of_map rfl

/-! ## The printed functions as chains of the stretches -/

theorem main_part0_chain (c : Dev nD) : main_part0 (F := F) c = (Pipeline.chainK
  [  ]
  (seq pre0) : Prog (TpuEff nD τ sig (Elt F) (HostLoop.Sig (Pipeline.Sig Λ₀ (Fin 0) fun p => (pcfgs (F := F) p).Adm) 2) .tc) PUnit) := by
  chain_rfl

theorem main_part1_chain (c : Dev nD) : main_part1 (F := F) c = (Pipeline.chainK
  [  ]
  (seq pre1) : Prog (TpuEff nD τ sig (Elt F) (HostLoop.Sig (Pipeline.Sig Λ₀ (Fin 0) fun p => (pcfgs (F := F) p).Adm) 2) .tc) PUnit) := by
  chain_rfl

theorem main_part2_chain (c : Dev nD) : main_part2 (F := F) c = (Pipeline.chainK
  [ seq pre2,
    HostLoop.enter 0 ]
  (seq mid0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem main_part3_chain (c : Dev nD) : main_part3 (F := F) c = (Pipeline.chainK
  [ seq mid1,
    seq mid2,
    seq mid3,
    HostLoop.enter 1 ]
  (seq post0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_part4_chain (c : Dev nD) : main_part4 (F := F) c = (Pipeline.chain
  [ seq post1 ] : Prog (TpuEff nD τ sig (Elt F) (HostLoop.Sig (Pipeline.Sig Λ₀ (Fin 0) fun p => (pcfgs (F := F) p).Adm) 2) .tc) PUnit) := by
  rewrite [StableHlo.chain_seq_cons]
  chain_rfl

theorem main_chain_windows (c : Dev nD) : main (F := F) c = (Pipeline.chain
  [ seq pre0,
    seq pre1,
    seq pre2,
    HostLoop.enter 0,
    seq mid0,
    seq mid1,
    seq mid2,
    seq mid3,
    HostLoop.enter 1,
    seq post0,
    seq post1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

theorem bodyA_chain : main_while0_body (F := F) = (Pipeline.chain
  [ seq bodyA0,
    seq bodyA1,
    seq bodyA2,
    seq bodyA3,
    seq bodyA4,
    seq bodyA5,
    seq bodyA6,
    seq bodyA7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, StableHlo.chain_seq_cons, Pipeline.chain_cons, Pipeline.chain_cons, Pipeline.chain_cons, StableHlo.chain_seq_cons]
  chain_rfl

theorem bodyB_chain : main_while1_body (F := F) = (Pipeline.chain
  [ seq bodyB0,
    seq bodyB1,
    seq bodyB2,
    seq bodyB3,
    seq bodyB4,
    seq bodyB5,
    seq bodyB6,
    seq bodyB7,
    seq bodyB8,
    seq bodyB9,
    seq bodyB10 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

end Cert.ReferenceIdeal.Ret
-- ==== Proof.RefRun.lean ====
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! # The reference's run

Every weakly fair execution of the reference ends with each tensor value's buffer at the fold `WEnd` of its operations:
the first stretch, 256 trips of the forward scan, the middle stretch, 256 trips of the reverse scan, the last stretch. -/

@[expose] public section

set_option maxRecDepth 4096

noncomputable section

namespace Cert.ReferenceIdeal.Ret

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal.Gen

variable {F : FTy → Type} [FloatOps F]

abbrev preI : List (List (HloOp τ sig (Elt F))) := [pre0, pre1, pre2]
theorem preI_plain : Plain (preI (F := F)) := (.cons pre0_sub (hf := List.forall_iff_forall_mem.mp pre0_fresh) (.cons pre1_sub (hf := List.forall_iff_forall_mem.mp pre1_fresh) (.cons pre2_sub (hf := List.forall_iff_forall_mem.mp pre2_fresh) (.nil))))
abbrev midI : List (List (HloOp τ sig (Elt F))) := [mid0, mid1, mid2, mid3]
theorem midI_plain : Plain (midI (F := F)) := (.cons mid0_sub (hf := List.forall_iff_forall_mem.mp mid0_fresh) (.cons mid1_sub (hf := List.forall_iff_forall_mem.mp mid1_fresh) (.cons mid2_sub (hf := List.forall_iff_forall_mem.mp mid2_fresh) (.cons mid3_sub (hf := List.forall_iff_forall_mem.mp mid3_fresh) (.nil)))))
abbrev postI : List (List (HloOp τ sig (Elt F))) := [post0, post1]
theorem postI_plain : Plain (postI (F := F)) := (.cons post0_sub (hf := List.forall_iff_forall_mem.mp post0_fresh) (.cons post1_sub (hf := List.forall_iff_forall_mem.mp post1_fresh) (.nil)))
abbrev bodyAI : List (List (HloOp τ sig (Elt F))) := [bodyA0, bodyA1, bodyA2, bodyA3, bodyA4, bodyA5, bodyA6, bodyA7]
theorem bodyAI_plain : Plain (bodyAI (F := F)) := (.cons bodyA0_sub (hf := List.forall_iff_forall_mem.mp bodyA0_fresh) (.cons bodyA1_sub (hf := List.forall_iff_forall_mem.mp bodyA1_fresh) (.cons bodyA2_sub (hf := List.forall_iff_forall_mem.mp bodyA2_fresh) (.cons bodyA3_sub (hf := List.forall_iff_forall_mem.mp bodyA3_fresh) (.cons bodyA4_sub (hf := List.forall_iff_forall_mem.mp bodyA4_fresh) (.cons bodyA5_sub (hf := List.forall_iff_forall_mem.mp bodyA5_fresh) (.cons bodyA6_sub (hf := List.forall_iff_forall_mem.mp bodyA6_fresh) (.cons bodyA7_sub (hf := List.forall_iff_forall_mem.mp bodyA7_fresh) (.nil)))))))))
abbrev bodyBI : List (List (HloOp τ sig (Elt F))) := [bodyB0, bodyB1, bodyB2, bodyB3, bodyB4, bodyB5, bodyB6, bodyB7, bodyB8, bodyB9, bodyB10]
theorem bodyBI_plain : Plain (bodyBI (F := F)) := (.cons bodyB0_sub (hf := List.forall_iff_forall_mem.mp bodyB0_fresh) (.cons bodyB1_sub (hf := List.forall_iff_forall_mem.mp bodyB1_fresh) (.cons bodyB2_sub (hf := List.forall_iff_forall_mem.mp bodyB2_fresh) (.cons bodyB3_sub (hf := List.forall_iff_forall_mem.mp bodyB3_fresh) (.cons bodyB4_sub (hf := List.forall_iff_forall_mem.mp bodyB4_fresh) (.cons bodyB5_sub (hf := List.forall_iff_forall_mem.mp bodyB5_fresh) (.cons bodyB6_sub (hf := List.forall_iff_forall_mem.mp bodyB6_fresh) (.cons bodyB7_sub (hf := List.forall_iff_forall_mem.mp bodyB7_fresh) (.cons bodyB8_sub (hf := List.forall_iff_forall_mem.mp bodyB8_fresh) (.cons bodyB9_sub (hf := List.forall_iff_forall_mem.mp bodyB9_fresh) (.cons bodyB10_sub (hf := List.forall_iff_forall_mem.mp bodyB10_fresh) (.nil))))))))))))

/-- The operations of the two loops' conditions. -/
abbrev condA : List (HloOp τ sig (Elt F)) :=
  [ nullary main_while0c_c_43 (constantI S_ 32 256#32), binary main_v133_6 main_while0c_c_43 main_while0c_v239 (cmpi .slt) ]
abbrev condB : List (HloOp τ sig (Elt F)) :=
  [ nullary main_while1c_c_45 (constantI S_ 32 256#32), binary main_v174_8 main_while1c_c_45 main_while1c_v239 (cmpi .slt) ]

abbrev pre0_W : List (Ref sig .tc) := [main_v0, main_v1, main_v2, main_v3, main_v4, main_v5, main_v6, main_v7, main_v8, main_cst, main_v9, main_v10, main_cst_0, main_v11, main_v12, main_v13, main_cst_1, main_v14, main_v15, main_cst_2, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_cst_3, main_v41, main_v42, main_cst_4, main_v43, main_v44, main_v45, main_cst_5, main_v46, main_v47, main_cst_6, main_v48, main_v49, main_v50, main_v51]
theorem pre0_writes : (pre0 : List (HloOp τ sig (Elt F))).Forall fun op => op.writes ⊆ (pre0_W.map (Proc.devRef (τ := τ) .tc)).toFinset :=
  forall_writes_sub_of_map rfl
abbrev pre1_W : List (Ref sig .tc) := [main_v52, main_v53, main_v54, main_v55, main_v56, main_v57, main_v58, main_v59, main_v60, main_v61, main_v62, main_v63, main_v64, main_v65, main_v66, main_v67, main_v68, main_v69, main_v70, main_cst_7, main_v71, main_v72, main_v73, main_v74, main_v75, main_v76, main_v77, main_cst_8, main_v78, main_v79, main_cst_9, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_cst_10, main_v105, main_v106, main_v107]
theorem pre1_writes : (pre1 : List (HloOp τ sig (Elt F))).Forall fun op => op.writes ⊆ (pre1_W.map (Proc.devRef (τ := τ) .tc)).toFinset :=
  forall_writes_sub_of_map rfl
abbrev pre2_W : List (Ref sig .tc) := [main_v108, main_v109, main_v110, main_v111, main_v112, main_cst_11, main_v113, main_v114, main_v115, main_v116, main_v117, main_v118, main_v119, main_cst_12, main_v120, main_v121, main_v122, main_cst_13, main_v123, main_v124, main_v125, main_v126, main_v127, main_v128, main_v129, main_cst_14, main_v130, main_cst_15, main_v131, main_cst_16, main_v132, main_c, main_v133_0, main_v133_1, main_v133_2, main_v133_3, main_v133_4, main_v133_5, main_v133_6, main_v133_7, main_v133_8, main_v133_9, main_v133_10]
theorem pre2_writes : (pre2 : List (HloOp τ sig (Elt F))).Forall fun op => op.writes ⊆ (pre2_W.map (Proc.devRef (τ := τ) .tc)).toFinset :=
  forall_writes_sub_of_map rfl
abbrev mid0_W : List (Ref sig .tc) := [main_v134, main_v135, main_v136, main_v137, main_v138, main_v139, main_cst_17, main_v140, main_v141, main_cst_18, main_v142, main_v143, main_v144, main_v145, main_v146, main_cst_19]
theorem mid0_writes : (mid0 : List (HloOp τ sig (Elt F))).Forall fun op => op.writes ⊆ (mid0_W.map (Proc.devRef (τ := τ) .tc)).toFinset :=
  forall_writes_sub_of_map rfl
abbrev mid1_W : List (Ref sig .tc) := [main_v147, main_v148, main_cst_20, main_v149, main_v150, main_v151, main_v152, main_cst_21, main_v153, main_v154, main_v155, main_v156, main_v157, main_v158, main_v159, main_v160, main_v161]
theorem mid1_writes : (mid1 : List (HloOp τ sig (Elt F))).Forall fun op => op.writes ⊆ (mid1_W.map (Proc.devRef (τ := τ) .tc)).toFinset :=
  forall_writes_sub_of_map rfl
abbrev mid2_W : List (Ref sig .tc) := [main_call6_v0, main_call6_v1, main_call6_cst, main_call6_v2, main_call6_v3, main_call6_cst_0, main_call6_v4, main_call6_v5, main_v162]
theorem mid2_writes : (mid2 : List (HloOp τ sig (Elt F))).Forall fun op => op.writes ⊆ (mid2_W.map (Proc.devRef (τ := τ) .tc)).toFinset :=
  forall_writes_sub_of_map rfl
abbrev mid3_W : List (Ref sig .tc) := [main_v163, main_v164, main_v165, main_v166, main_cst_22, main_v167, main_v168, main_v169, main_cst_23, main_v170, main_cst_24, main_v171, main_cst_25, main_v172, main_cst_26, main_v173, main_c_27, main_v174_0, main_v174_1, main_v174_2, main_v174_3, main_v174_4, main_v174_5, main_v174_6, main_v174_7, main_v174_8, main_v174_9, main_v174_10, main_v174_11, main_v174_12]
theorem mid3_writes : (mid3 : List (HloOp τ sig (Elt F))).Forall fun op => op.writes ⊆ (mid3_W.map (Proc.devRef (τ := τ) .tc)).toFinset :=
  forall_writes_sub_of_map rfl
abbrev post0_W : List (Ref sig .tc) := [main_v175, main_v176, main_v177, main_v178, main_v179, main_v180, main_v181, main_v182, main_v183, main_v184, main_v185]
theorem post0_writes : (post0 : List (HloOp τ sig (Elt F))).Forall fun op => op.writes ⊆ (post0_W.map (Proc.devRef (τ := τ) .tc)).toFinset :=
  forall_writes_sub_of_map rfl
abbrev post1_W : List (Ref sig .tc) := [main_v186, main_v187, main_v188, main_v189, main_v190, main_v191, main_v192, main_v193, main_v194, main_cst_28, main_v195, main_v196, main_v197, main_v198, main_v199, main_v200, main_v201, main_v202, main_v203, main_v204, main_v205, main_v206, main_v207, main_v208, main_v209, main_cst_29, main_v210, main_cst_30, main_v211, main_v212, main_v213, main_v214, main_v215, main_v216, main_v217, main_v218, main_v219, main_v220, main_v221, main_v222, main_v223, main_v224, main_v225, main_v226, main_cst_31, main_v227, main_cst_32, main_v228, main_v229, main_v230, main_v231, main_v232, main_v233, main_v234, main_v235, main_v236, main_v237, main_v238]
theorem post1_writes : (post1 : List (HloOp τ sig (Elt F))).Forall fun op => op.writes ⊆ (post1_W.map (Proc.devRef (τ := τ) .tc)).toFinset :=
  forall_writes_sub_of_map rfl
abbrev bodyA0_W : List (Ref sig .tc) := [main_while0b_call0_c, main_while0b_call0_c_0, main_while0b_call0_c_1, main_while0b_call0_c_2, main_while0b_call0_v0, main_while0b_v239]
theorem bodyA0_writes : (bodyA0 : List (HloOp τ sig (Elt F))).Forall fun op => op.writes ⊆ (bodyA0_W.map (Proc.devRef (τ := τ) .tc)).toFinset :=
  forall_writes_sub_of_map rfl
abbrev bodyA1_W : List (Ref sig .tc) := [main_while0b_call1_c, main_while0b_call1_c_0, main_while0b_call1_c_1, main_while0b_call1_c_2, main_while0b_call1_v0, main_while0b_v240]
theorem bodyA1_writes : (bodyA1 : List (HloOp τ sig (Elt F))).Forall fun op => op.writes ⊆ (bodyA1_W.map (Proc.devRef (τ := τ) .tc)).toFinset :=
  forall_writes_sub_of_map rfl
abbrev bodyA2_W : List (Ref sig .tc) := [main_while0b_call2_c, main_while0b_call2_c_0, main_while0b_call2_c_1, main_while0b_call2_c_2, main_while0b_call2_v0, main_while0b_v241]
theorem bodyA2_writes : (bodyA2 : List (HloOp τ sig (Elt F))).Forall fun op => op.writes ⊆ (bodyA2_W.map (Proc.devRef (τ := τ) .tc)).toFinset :=
  forall_writes_sub_of_map rfl
abbrev bodyA3_W : List (Ref sig .tc) := [main_while0b_v242, main_while0b_v243, main_while0b_v244, main_while0b_v245, main_while0b_v246, main_while0b_v247, main_while0b_v248, main_while0b_v249, main_while0b_v250, main_while0b_v251]
theorem bodyA3_writes : (bodyA3 : List (HloOp τ sig (Elt F))).Forall fun op => op.writes ⊆ (bodyA3_W.map (Proc.devRef (τ := τ) .tc)).toFinset :=
  forall_writes_sub_of_map rfl
abbrev bodyA4_W : List (Ref sig .tc) := [main_while0b_call3_v0, main_while0b_call3_c, main_while0b_call3_c_0, main_while0b_call3_c_1, main_while0b_call3_c_2, main_while0b_v252]
theorem bodyA4_writes : (bodyA4 : List (HloOp τ sig (Elt F))).Forall fun op => op.writes ⊆ (bodyA4_W.map (Proc.devRef (τ := τ) .tc)).toFinset :=
  forall_writes_sub_of_map rfl
abbrev bodyA5_W : List (Ref sig .tc) := [main_while0b_call4_v0, main_while0b_call4_c, main_while0b_call4_c_0, main_while0b_call4_c_1, main_while0b_call4_c_2, main_while0b_v253]
theorem bodyA5_writes : (bodyA5 : List (HloOp τ sig (Elt F))).Forall fun op => op.writes ⊆ (bodyA5_W.map (Proc.devRef (τ := τ) .tc)).toFinset :=
  forall_writes_sub_of_map rfl
abbrev bodyA6_W : List (Ref sig .tc) := [main_while0b_call5_v0, main_while0b_call5_c, main_while0b_call5_c_0, main_while0b_call5_c_1, main_while0b_call5_c_2, main_while0b_v254]
theorem bodyA6_writes : (bodyA6 : List (HloOp τ sig (Elt F))).Forall fun op => op.writes ⊆ (bodyA6_W.map (Proc.devRef (τ := τ) .tc)).toFinset :=
  forall_writes_sub_of_map rfl
abbrev bodyA7_W : List (Ref sig .tc) := [main_while0b_c_43, main_while0b_v255, main_v133_6, main_v133_7, main_v133_8, main_v133_9, main_v133_10]
theorem bodyA7_writes : (bodyA7 : List (HloOp τ sig (Elt F))).Forall fun op => op.writes ⊆ (bodyA7_W.map (Proc.devRef (τ := τ) .tc)).toFinset :=
  forall_writes_sub_of_map rfl
abbrev bodyB0_W : List (Ref sig .tc) := [main_while1b_c_45, main_while1b_v239, main_while1b_c_46, main_while1b_v240]
theorem bodyB0_writes : (bodyB0 : List (HloOp τ sig (Elt F))).Forall fun op => op.writes ⊆ (bodyB0_W.map (Proc.devRef (τ := τ) .tc)).toFinset :=
  forall_writes_sub_of_map rfl
abbrev bodyB1_W : List (Ref sig .tc) := [main_while1b_call7_c, main_while1b_call7_c_0, main_while1b_call7_c_1, main_while1b_call7_c_2, main_while1b_call7_v0, main_while1b_v241]
theorem bodyB1_writes : (bodyB1 : List (HloOp τ sig (Elt F))).Forall fun op => op.writes ⊆ (bodyB1_W.map (Proc.devRef (τ := τ) .tc)).toFinset :=
  forall_writes_sub_of_map rfl
abbrev bodyB2_W : List (Ref sig .tc) := [main_while1b_call8_c, main_while1b_call8_c_0, main_while1b_call8_c_1, main_while1b_call8_c_2, main_while1b_call8_v0, main_while1b_v242]
theorem bodyB2_writes : (bodyB2 : List (HloOp τ sig (Elt F))).Forall fun op => op.writes ⊆ (bodyB2_W.map (Proc.devRef (τ := τ) .tc)).toFinset :=
  forall_writes_sub_of_map rfl
abbrev bodyB3_W : List (Ref sig .tc) := [main_while1b_call9_c, main_while1b_call9_c_0, main_while1b_call9_c_1, main_while1b_call9_c_2, main_while1b_call9_v0, main_while1b_v243]
theorem bodyB3_writes : (bodyB3 : List (HloOp τ sig (Elt F))).Forall fun op => op.writes ⊆ (bodyB3_W.map (Proc.devRef (τ := τ) .tc)).toFinset :=
  forall_writes_sub_of_map rfl
abbrev bodyB4_W : List (Ref sig .tc) := [main_while1b_call10_c, main_while1b_call10_c_0, main_while1b_call10_c_1, main_while1b_call10_c_2, main_while1b_call10_v0, main_while1b_v244]
theorem bodyB4_writes : (bodyB4 : List (HloOp τ sig (Elt F))).Forall fun op => op.writes ⊆ (bodyB4_W.map (Proc.devRef (τ := τ) .tc)).toFinset :=
  forall_writes_sub_of_map rfl
abbrev bodyB5_W : List (Ref sig .tc) := [main_while1b_call11_c, main_while1b_call11_c_0, main_while1b_call11_c_1, main_while1b_call11_c_2, main_while1b_call11_v0, main_while1b_v245]
theorem bodyB5_writes : (bodyB5 : List (HloOp τ sig (Elt F))).Forall fun op => op.writes ⊆ (bodyB5_W.map (Proc.devRef (τ := τ) .tc)).toFinset :=
  forall_writes_sub_of_map rfl
abbrev bodyB6_W : List (Ref sig .tc) := [main_while1b_v246, main_while1b_v247, main_while1b_v248, main_while1b_v249, main_while1b_v250, main_while1b_v251, main_while1b_v252, main_while1b_v253, main_while1b_v254, main_while1b_v255, main_while1b_v256, main_while1b_v257, main_while1b_v258, main_while1b_v259, main_while1b_v260, main_while1b_v261]
theorem bodyB6_writes : (bodyB6 : List (HloOp τ sig (Elt F))).Forall fun op => op.writes ⊆ (bodyB6_W.map (Proc.devRef (τ := τ) .tc)).toFinset :=
  forall_writes_sub_of_map rfl
abbrev bodyB7_W : List (Ref sig .tc) := [main_while1b_call12_v0, main_while1b_call12_c, main_while1b_call12_c_0, main_while1b_call12_c_1, main_while1b_call12_c_2, main_while1b_v262]
theorem bodyB7_writes : (bodyB7 : List (HloOp τ sig (Elt F))).Forall fun op => op.writes ⊆ (bodyB7_W.map (Proc.devRef (τ := τ) .tc)).toFinset :=
  forall_writes_sub_of_map rfl
abbrev bodyB8_W : List (Ref sig .tc) := [main_while1b_call13_v0, main_while1b_call13_c, main_while1b_call13_c_0, main_while1b_call13_c_1, main_while1b_call13_c_2, main_while1b_v263]
theorem bodyB8_writes : (bodyB8 : List (HloOp τ sig (Elt F))).Forall fun op => op.writes ⊆ (bodyB8_W.map (Proc.devRef (τ := τ) .tc)).toFinset :=
  forall_writes_sub_of_map rfl
abbrev bodyB9_W : List (Ref sig .tc) := [main_while1b_call14_v0, main_while1b_call14_c, main_while1b_call14_c_0, main_while1b_call14_c_1, main_while1b_call14_c_2, main_while1b_v264]
theorem bodyB9_writes : (bodyB9 : List (HloOp τ sig (Elt F))).Forall fun op => op.writes ⊆ (bodyB9_W.map (Proc.devRef (τ := τ) .tc)).toFinset :=
  forall_writes_sub_of_map rfl
abbrev bodyB10_W : List (Ref sig .tc) := [main_while1b_c_47, main_while1b_v265, main_v174_8, main_v174_9, main_v174_10, main_v174_11, main_v174_12]
theorem bodyB10_writes : (bodyB10 : List (HloOp τ sig (Elt F))).Forall fun op => op.writes ⊆ (bodyB10_W.map (Proc.devRef (τ := τ) .tc)).toFinset :=
  forall_writes_sub_of_map rfl
abbrev condA_W : List (Ref sig .tc) := [main_while0c_c_43, main_while0c_v239]
theorem condA_writes : (condA : List (HloOp τ sig (Elt F))).Forall fun op => op.writes ⊆ (condA_W.map (Proc.devRef (τ := τ) .tc)).toFinset :=
  forall_writes_sub_of_map rfl
abbrev condB_W : List (Ref sig .tc) := [main_while1c_c_45, main_while1c_v239]
theorem condB_writes : (condB : List (HloOp τ sig (Elt F))).Forall fun op => op.writes ⊆ (condB_W.map (Proc.devRef (τ := τ) .tc)).toFinset :=
  forall_writes_sub_of_map rfl

variable (m : (ℓ : Loc nD τ sig) → Buf (Elt F) ℓ) (ρ : Dev nD → PrngReg)

/-- The contents at the forward scan's entry, before its `k`-th trip, and at its exit; -/
def W0 (c : Dev nD) : Valuation τ sig (Elt F) := afterL preI (launchContents m c)
def WA (k : ℕ) (c : Dev nD) : Valuation τ sig (Elt F) := atTrip condA bodyAI (W0 m) k c
def W1 (c : Dev nD) : Valuation τ sig (Elt F) := after condA (WA m 256 c)
/-- the same of the reverse scan; and at the program's end. -/
def W2 (c : Dev nD) : Valuation τ sig (Elt F) := afterL midI (W1 m c)
def WB (k : ℕ) (c : Dev nD) : Valuation τ sig (Elt F) := atTrip condB bodyBI (W2 m) k c
def W3 (c : Dev nD) : Valuation τ sig (Elt F) := after condB (WB m 256 c)
def WEnd (c : Dev nD) : Valuation τ sig (Elt F) := afterL postI (W3 m c)

theorem WA_zero (c : Dev nD) : WA m 0 c = W0 m c := rfl
theorem WA_succ (k : ℕ) (c : Dev nD) : WA m (k + 1) c = afterL bodyAI (after condA (WA m k c)) := rfl
theorem WB_zero (c : Dev nD) : WB m 0 c = W2 m c := rfl
theorem WB_succ (k : ℕ) (c : Dev nD) : WB m (k + 1) c = afterL bodyBI (after condB (WB m k c)) := rfl

/-! ## The trip counters -/

theorem ctrA_cond (V : Valuation τ sig (Elt F)) : after condA V (Proc.devRef .tc main_v133_6) = V (Proc.devRef .tc main_v133_6) :=
  after_of_writes_sub condA V condA_writes (by decide +kernel)
theorem ctr_bodyA0 (V : Valuation τ sig (Elt F)) : after bodyA0 V (Proc.devRef .tc main_v133_6) = V (Proc.devRef .tc main_v133_6) :=
  after_of_writes_sub bodyA0 V bodyA0_writes (by decide +kernel)
theorem ctr_bodyA1 (V : Valuation τ sig (Elt F)) : after bodyA1 V (Proc.devRef .tc main_v133_6) = V (Proc.devRef .tc main_v133_6) :=
  after_of_writes_sub bodyA1 V bodyA1_writes (by decide +kernel)
theorem ctr_bodyA2 (V : Valuation τ sig (Elt F)) : after bodyA2 V (Proc.devRef .tc main_v133_6) = V (Proc.devRef .tc main_v133_6) :=
  after_of_writes_sub bodyA2 V bodyA2_writes (by decide +kernel)
theorem ctr_bodyA3 (V : Valuation τ sig (Elt F)) : after bodyA3 V (Proc.devRef .tc main_v133_6) = V (Proc.devRef .tc main_v133_6) :=
  after_of_writes_sub bodyA3 V bodyA3_writes (by decide +kernel)
theorem ctr_bodyA4 (V : Valuation τ sig (Elt F)) : after bodyA4 V (Proc.devRef .tc main_v133_6) = V (Proc.devRef .tc main_v133_6) :=
  after_of_writes_sub bodyA4 V bodyA4_writes (by decide +kernel)
theorem ctr_bodyA5 (V : Valuation τ sig (Elt F)) : after bodyA5 V (Proc.devRef .tc main_v133_6) = V (Proc.devRef .tc main_v133_6) :=
  after_of_writes_sub bodyA5 V bodyA5_writes (by decide +kernel)
theorem ctr_bodyA6 (V : Valuation τ sig (Elt F)) : after bodyA6 V (Proc.devRef .tc main_v133_6) = V (Proc.devRef .tc main_v133_6) :=
  after_of_writes_sub bodyA6 V bodyA6_writes (by decide +kernel)
set_option maxRecDepth 100000 in
theorem ctrA_step (V : Valuation τ sig (Elt F)) :
    after bodyA7 V (Proc.devRef .tc main_v133_6) = addi (V (Proc.devRef .tc main_v133_6)) (constantI S_ 32 1#32) := by
  after_results
  rfl
set_option maxRecDepth 100000 in
theorem ctrA_entry (c : Dev nD) : W0 m c (Proc.devRef .tc main_v133_6) = fun _ => (0#32 : BitVec 32) := by
  unfold W0
  simp only [afterL_cons, afterL_nil]
  after_reads_simp
  rfl
theorem WA_ctr (c : Dev nD) : ∀ k, WA m k c (Proc.devRef .tc main_v133_6) = fun _ => Scf.iv 0#32 1#32 k
  | 0 => by rw [WA_zero, ctrA_entry, Scf.iv_zero]
  | k + 1 => by
    rw [WA_succ]
    simp only [afterL_cons, afterL_nil]
    rw [ctrA_step, ctr_bodyA6, ctr_bodyA5, ctr_bodyA4, ctr_bodyA3, ctr_bodyA2, ctr_bodyA1, ctr_bodyA0, ctrA_cond, WA_ctr c k, Scf.iv_succ]
    rfl

theorem ctrB_cond (V : Valuation τ sig (Elt F)) : after condB V (Proc.devRef .tc main_v174_8) = V (Proc.devRef .tc main_v174_8) :=
  after_of_writes_sub condB V condB_writes (by decide +kernel)
theorem ctr_bodyB0 (V : Valuation τ sig (Elt F)) : after bodyB0 V (Proc.devRef .tc main_v174_8) = V (Proc.devRef .tc main_v174_8) :=
  after_of_writes_sub bodyB0 V bodyB0_writes (by decide +kernel)
theorem ctr_bodyB1 (V : Valuation τ sig (Elt F)) : after bodyB1 V (Proc.devRef .tc main_v174_8) = V (Proc.devRef .tc main_v174_8) :=
  after_of_writes_sub bodyB1 V bodyB1_writes (by decide +kernel)
theorem ctr_bodyB2 (V : Valuation τ sig (Elt F)) : after bodyB2 V (Proc.devRef .tc main_v174_8) = V (Proc.devRef .tc main_v174_8) :=
  after_of_writes_sub bodyB2 V bodyB2_writes (by decide +kernel)
theorem ctr_bodyB3 (V : Valuation τ sig (Elt F)) : after bodyB3 V (Proc.devRef .tc main_v174_8) = V (Proc.devRef .tc main_v174_8) :=
  after_of_writes_sub bodyB3 V bodyB3_writes (by decide +kernel)
theorem ctr_bodyB4 (V : Valuation τ sig (Elt F)) : after bodyB4 V (Proc.devRef .tc main_v174_8) = V (Proc.devRef .tc main_v174_8) :=
  after_of_writes_sub bodyB4 V bodyB4_writes (by decide +kernel)
theorem ctr_bodyB5 (V : Valuation τ sig (Elt F)) : after bodyB5 V (Proc.devRef .tc main_v174_8) = V (Proc.devRef .tc main_v174_8) :=
  after_of_writes_sub bodyB5 V bodyB5_writes (by decide +kernel)
theorem ctr_bodyB6 (V : Valuation τ sig (Elt F)) : after bodyB6 V (Proc.devRef .tc main_v174_8) = V (Proc.devRef .tc main_v174_8) :=
  after_of_writes_sub bodyB6 V bodyB6_writes (by decide +kernel)
theorem ctr_bodyB7 (V : Valuation τ sig (Elt F)) : after bodyB7 V (Proc.devRef .tc main_v174_8) = V (Proc.devRef .tc main_v174_8) :=
  after_of_writes_sub bodyB7 V bodyB7_writes (by decide +kernel)
theorem ctr_bodyB8 (V : Valuation τ sig (Elt F)) : after bodyB8 V (Proc.devRef .tc main_v174_8) = V (Proc.devRef .tc main_v174_8) :=
  after_of_writes_sub bodyB8 V bodyB8_writes (by decide +kernel)
theorem ctr_bodyB9 (V : Valuation τ sig (Elt F)) : after bodyB9 V (Proc.devRef .tc main_v174_8) = V (Proc.devRef .tc main_v174_8) :=
  after_of_writes_sub bodyB9 V bodyB9_writes (by decide +kernel)
set_option maxRecDepth 100000 in
theorem ctrB_step (V : Valuation τ sig (Elt F)) :
    after bodyB10 V (Proc.devRef .tc main_v174_8) = addi (V (Proc.devRef .tc main_v174_8)) (constantI S_ 32 1#32) := by
  after_results
  rfl
set_option maxRecDepth 100000 in
theorem ctrB_entry (c : Dev nD) : W2 m c (Proc.devRef .tc main_v174_8) = fun _ => (0#32 : BitVec 32) := by
  unfold W2
  simp only [afterL_cons, afterL_nil]
  after_reads_simp
  rfl
theorem WB_ctr (c : Dev nD) : ∀ k, WB m k c (Proc.devRef .tc main_v174_8) = fun _ => Scf.iv 0#32 1#32 k
  | 0 => by rw [WB_zero, ctrB_entry, Scf.iv_zero]
  | k + 1 => by
    rw [WB_succ]
    simp only [afterL_cons, afterL_nil]
    rw [ctrB_step, ctr_bodyB9, ctr_bodyB8, ctr_bodyB7, ctr_bodyB6, ctr_bodyB5, ctr_bodyB4, ctr_bodyB3, ctr_bodyB2, ctr_bodyB1, ctr_bodyB0, ctrB_cond, WB_ctr c k, Scf.iv_succ]
    rfl

set_option backward.isDefEq.respectTransparency.types false in
/-- The condition of loop 0, at trip `k` of 256. -/
theorem specA : CondSpec (pcfgs (F := F)) defs₀ loops (main_while0_cond (F := F)) condA bodyAI (W0 m) 256 := by
  intro k hk c bd
  have hctr := WA_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (WA m k c) main_v133_6 HostLoop.idx0)
        (HloOp.result _ (WA m k c) main_while0c_c_43 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option backward.isDefEq.respectTransparency.types false in
/-- The condition of loop 1, at trip `k` of 256. -/
theorem specB : CondSpec (pcfgs (F := F)) defs₀ loops (main_while1_cond (F := F)) condB bodyBI (W2 m) 256 := by
  intro k hk c bd
  have hctr := WB_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (WB m k c) main_v174_8 HostLoop.idx0)
        (HloOp.result _ (WB m k c) main_while1c_c_45 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

/-! ## The run -/

local notation "𝕄" => MT nD τ sig Unit (Elt F) ℕ (Option PUnit) ℕ

/-- What a core holds beside the buffers: the events it owes. -/
def owesAny (c : Dev nD) : sProp 𝕄 := iprop(∃ W, owes (c.tc : Thread nD τ) (0 : CellTallies nD τ sig Unit) W)

theorem framed {l : Fin 2} {cond : Prog (TpuEff nD τ sig (Elt F) (HostLoop.Sig (Pipeline.Sig Λ₀ (Fin 0) fun p => (pcfgs (F := F) p).Adm) 2) .tc) (Elt F .i1)}
    {ops : List (HloOp τ sig (Elt F))} {body : List (List (HloOp τ sig (Elt F)))} {W : Dev nD → Valuation τ sig (Elt F)}
    (h : CondSpec (pcfgs (F := F)) defs₀ loops cond ops body W 256) :
    LoopCond (pcfgs (F := F)) defs₀ Variants.none loops owesAny cond ops body W 256 := by
  intro k hk c bd
  have h1 := h k hk c bd
  refine BIBase.Entails.trans (Q := iprop((boundary (c : Thread nD τ) ∗ held (c : Thread nD τ) (ucRefs τ sig) (atTrip ops body W k c)) ∗ owesAny c)) ?_
    (((sep_mono_left h1).trans (wp_frame_r _ _ _)).trans (wp_mono _ _ _ fun v => ?_))
  · iintro ⟨Hb, Hh, Ho⟩
    isplitl [Hb Hh]
    · isplitl [Hb] <;> iassumption
    · iexact Ho
  · iintro ⟨⟨%hv, Hb, Hh⟩, Ho⟩
    isplitr
    · ipureintro; exact hv
    isplitl [Hb]
    · iexact Hb
    isplitl [Hh] <;> iassumption

def noAdm (p : Fin 0) : (pcfgs (F := F) p).Adm := p.elim0
def noTk (j : Fin 0) : Pipeline.Ticket (Ix := Unit) (Name := ℕ) (U := Option PUnit) (Lvl := ℕ) (nD := nD) (τ := τ) (pcfgs (F := F)) noAdm := j.elim0

abbrev seg := Pipeline.CSeg (Ix := Unit) (Name := ℕ) (U := Option PUnit) (Lvl := ℕ) (nD := nD) (τ := τ) (pcfgs (F := F)) noAdm
  defs₀ Variants.none (fun _ => ∅) (fun _ _ => 0) loops noTk

/-- The three stretches' segments and the two loops'. -/
def segs : List (seg (F := F)) :=
  segsOf _ _ _ _ _ _ _ _ owesAny preI preI_plain (launchContents m)
  ++ loopSeg _ _ _ _ _ _ _ _ 0 main_while0_cond main_while0_body rfl condA bodyAI bodyAI_plain
      (by rw [bodyA_chain]; rfl) 256 (W0 m) owesAny (framed (l := 0) (specA m))
  :: (segsOf _ _ _ _ _ _ _ _ owesAny midI midI_plain (W1 m)
  ++ loopSeg _ _ _ _ _ _ _ _ 1 main_while1_cond main_while1_body rfl condB bodyBI bodyBI_plain
      (by rw [bodyB_chain]; rfl) 256 (W2 m) owesAny (framed (l := 1) (specB m))
  :: segsOf _ _ _ _ _ _ _ _ owesAny postI postI_plain (W3 m))

theorem segs_prog (c : Dev nD) : main (F := F) c = Pipeline.chain ((segs m).map Pipeline.CSeg.prog) := by
  rw [main_chain_windows]
  unfold segs
  rw [List.map_append, List.map_cons, List.map_append, List.map_cons, segsOf_prog, segsOf_prog, segsOf_prog]
  rfl

theorem segs_chains : Pipeline.CSeg.Chains
    (fun c => iprop(held (c : Thread nD τ) (ucRefs τ sig) (launchContents m c) ∗ owesAny c)) (segs m)
    (fun c => iprop(held (c : Thread nD τ) (ucRefs τ sig) (WEnd m c) ∗ owesAny c)) :=
  Pipeline.CSeg.Chains.append (segsOf_chains _ _ _ _ _ _ _ _ owesAny preI preI_plain (launchContents m))
    ⟨fun _ => .rfl, Pipeline.CSeg.Chains.append (segsOf_chains _ _ _ _ _ _ _ _ owesAny midI midI_plain (W1 m))
      ⟨fun _ => .rfl, segsOf_chains _ _ _ _ _ _ _ _ owesAny postI postI_plain (W3 m)⟩⟩

theorem tc_unscoped : ∀ x : SemLoc sig, x.isScoped .tc = true := by decide

/-- The reference ends with every tensor value's buffer at `WEnd` and every semaphore at zero. -/
theorem run [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = WEnd m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none (fun _ => ∅) (fun _ _ => 0) loops noTk m ρ main
    (segs m)
    (fun c Q => by
      rw [segs_prog m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owesAny c))
    (Tₙ := fun c => iprop(held (c : Thread nD τ) (ucRefs τ sig) (WEnd m c)))
    (hch := segs_chains m)
    (hinit := by
      refine Pipeline.initEach _ _ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]
      · iexact Hh
      · unfold owesAny; iexists ∅; iexact HO)
    (QY := fun c s => ∀ b ∈ ucRefs τ sig, s.mem ((c : Dev nD), b) = WEnd m c b)
    (hfin := fun c s' => by
      unfold held
      iintro ⟨Hh, HSI⟩
      ihave Hr := (pointsTo_read_all (ucRefs τ sig) (fun b => ((c : Dev nD), b)) (fun b => WEnd m c b) s') $$ [Hh HSI]
      · isplitl [Hh] <;> iassumption
      icases Hr with ⟨%h, HSI⟩
      imodintro
      isplitr
      · ipureintro; exact h
      iexact HSI)
    (hQ := fun s h hs => ⟨fun c b hb => h c _ (devRef_mem_ucRefs b hb), by
      exact funext fun g => hs g (.inr (tc_unscoped g.2))⟩)

/-! ## The arguments -/

/-- A buffer that no operation of a list of stretches writes keeps its contents. -/
theorem afterL_keep (r : Ref sig .tc) : ∀ (I : List (List (HloOp τ sig (Elt F)))) (V : Valuation τ sig (Elt F)),
    (∀ ops ∈ I, ∀ V, after ops V (Proc.devRef .tc r) = V (Proc.devRef .tc r)) → afterL I V (Proc.devRef .tc r) = V (Proc.devRef .tc r)
  | [], _, _ => rfl
  | ops :: I, V, h => by
    rw [afterL_cons, afterL_keep r I _ fun o ho => h o (List.mem_cons_of_mem _ ho), h ops List.mem_cons_self]

def argRefs : List (Ref sig .tc) := [main_arg0, main_arg1, main_arg2, main_arg3]

theorem keep_pre0 (r : Ref sig .tc) (hr : r ∈ argRefs) (V : Valuation τ sig (Elt F)) : after pre0 V (Proc.devRef .tc r) = V (Proc.devRef .tc r) :=
  after_of_writes_sub pre0 V pre0_writes ((by decide +kernel : ∀ r ∈ argRefs, r ∉ pre0_W) r hr)
theorem keep_pre1 (r : Ref sig .tc) (hr : r ∈ argRefs) (V : Valuation τ sig (Elt F)) : after pre1 V (Proc.devRef .tc r) = V (Proc.devRef .tc r) :=
  after_of_writes_sub pre1 V pre1_writes ((by decide +kernel : ∀ r ∈ argRefs, r ∉ pre1_W) r hr)
theorem keep_pre2 (r : Ref sig .tc) (hr : r ∈ argRefs) (V : Valuation τ sig (Elt F)) : after pre2 V (Proc.devRef .tc r) = V (Proc.devRef .tc r) :=
  after_of_writes_sub pre2 V pre2_writes ((by decide +kernel : ∀ r ∈ argRefs, r ∉ pre2_W) r hr)
theorem keep_mid0 (r : Ref sig .tc) (hr : r ∈ argRefs) (V : Valuation τ sig (Elt F)) : after mid0 V (Proc.devRef .tc r) = V (Proc.devRef .tc r) :=
  after_of_writes_sub mid0 V mid0_writes ((by decide +kernel : ∀ r ∈ argRefs, r ∉ mid0_W) r hr)
theorem keep_mid1 (r : Ref sig .tc) (hr : r ∈ argRefs) (V : Valuation τ sig (Elt F)) : after mid1 V (Proc.devRef .tc r) = V (Proc.devRef .tc r) :=
  after_of_writes_sub mid1 V mid1_writes ((by decide +kernel : ∀ r ∈ argRefs, r ∉ mid1_W) r hr)
theorem keep_mid2 (r : Ref sig .tc) (hr : r ∈ argRefs) (V : Valuation τ sig (Elt F)) : after mid2 V (Proc.devRef .tc r) = V (Proc.devRef .tc r) :=
  after_of_writes_sub mid2 V mid2_writes ((by decide +kernel : ∀ r ∈ argRefs, r ∉ mid2_W) r hr)
theorem keep_mid3 (r : Ref sig .tc) (hr : r ∈ argRefs) (V : Valuation τ sig (Elt F)) : after mid3 V (Proc.devRef .tc r) = V (Proc.devRef .tc r) :=
  after_of_writes_sub mid3 V mid3_writes ((by decide +kernel : ∀ r ∈ argRefs, r ∉ mid3_W) r hr)
theorem keep_post0 (r : Ref sig .tc) (hr : r ∈ argRefs) (V : Valuation τ sig (Elt F)) : after post0 V (Proc.devRef .tc r) = V (Proc.devRef .tc r) :=
  after_of_writes_sub post0 V post0_writes ((by decide +kernel : ∀ r ∈ argRefs, r ∉ post0_W) r hr)
theorem keep_post1 (r : Ref sig .tc) (hr : r ∈ argRefs) (V : Valuation τ sig (Elt F)) : after post1 V (Proc.devRef .tc r) = V (Proc.devRef .tc r) :=
  after_of_writes_sub post1 V post1_writes ((by decide +kernel : ∀ r ∈ argRefs, r ∉ post1_W) r hr)
theorem keep_bodyA0 (r : Ref sig .tc) (hr : r ∈ argRefs) (V : Valuation τ sig (Elt F)) : after bodyA0 V (Proc.devRef .tc r) = V (Proc.devRef .tc r) :=
  after_of_writes_sub bodyA0 V bodyA0_writes ((by decide +kernel : ∀ r ∈ argRefs, r ∉ bodyA0_W) r hr)
theorem keep_bodyA1 (r : Ref sig .tc) (hr : r ∈ argRefs) (V : Valuation τ sig (Elt F)) : after bodyA1 V (Proc.devRef .tc r) = V (Proc.devRef .tc r) :=
  after_of_writes_sub bodyA1 V bodyA1_writes ((by decide +kernel : ∀ r ∈ argRefs, r ∉ bodyA1_W) r hr)
theorem keep_bodyA2 (r : Ref sig .tc) (hr : r ∈ argRefs) (V : Valuation τ sig (Elt F)) : after bodyA2 V (Proc.devRef .tc r) = V (Proc.devRef .tc r) :=
  after_of_writes_sub bodyA2 V bodyA2_writes ((by decide +kernel : ∀ r ∈ argRefs, r ∉ bodyA2_W) r hr)
theorem keep_bodyA3 (r : Ref sig .tc) (hr : r ∈ argRefs) (V : Valuation τ sig (Elt F)) : after bodyA3 V (Proc.devRef .tc r) = V (Proc.devRef .tc r) :=
  after_of_writes_sub bodyA3 V bodyA3_writes ((by decide +kernel : ∀ r ∈ argRefs, r ∉ bodyA3_W) r hr)
theorem keep_bodyA4 (r : Ref sig .tc) (hr : r ∈ argRefs) (V : Valuation τ sig (Elt F)) : after bodyA4 V (Proc.devRef .tc r) = V (Proc.devRef .tc r) :=
  after_of_writes_sub bodyA4 V bodyA4_writes ((by decide +kernel : ∀ r ∈ argRefs, r ∉ bodyA4_W) r hr)
theorem keep_bodyA5 (r : Ref sig .tc) (hr : r ∈ argRefs) (V : Valuation τ sig (Elt F)) : after bodyA5 V (Proc.devRef .tc r) = V (Proc.devRef .tc r) :=
  after_of_writes_sub bodyA5 V bodyA5_writes ((by decide +kernel : ∀ r ∈ argRefs, r ∉ bodyA5_W) r hr)
theorem keep_bodyA6 (r : Ref sig .tc) (hr : r ∈ argRefs) (V : Valuation τ sig (Elt F)) : after bodyA6 V (Proc.devRef .tc r) = V (Proc.devRef .tc r) :=
  after_of_writes_sub bodyA6 V bodyA6_writes ((by decide +kernel : ∀ r ∈ argRefs, r ∉ bodyA6_W) r hr)
theorem keep_bodyA7 (r : Ref sig .tc) (hr : r ∈ argRefs) (V : Valuation τ sig (Elt F)) : after bodyA7 V (Proc.devRef .tc r) = V (Proc.devRef .tc r) :=
  after_of_writes_sub bodyA7 V bodyA7_writes ((by decide +kernel : ∀ r ∈ argRefs, r ∉ bodyA7_W) r hr)
theorem keep_bodyB0 (r : Ref sig .tc) (hr : r ∈ argRefs) (V : Valuation τ sig (Elt F)) : after bodyB0 V (Proc.devRef .tc r) = V (Proc.devRef .tc r) :=
  after_of_writes_sub bodyB0 V bodyB0_writes ((by decide +kernel : ∀ r ∈ argRefs, r ∉ bodyB0_W) r hr)
theorem keep_bodyB1 (r : Ref sig .tc) (hr : r ∈ argRefs) (V : Valuation τ sig (Elt F)) : after bodyB1 V (Proc.devRef .tc r) = V (Proc.devRef .tc r) :=
  after_of_writes_sub bodyB1 V bodyB1_writes ((by decide +kernel : ∀ r ∈ argRefs, r ∉ bodyB1_W) r hr)
theorem keep_bodyB2 (r : Ref sig .tc) (hr : r ∈ argRefs) (V : Valuation τ sig (Elt F)) : after bodyB2 V (Proc.devRef .tc r) = V (Proc.devRef .tc r) :=
  after_of_writes_sub bodyB2 V bodyB2_writes ((by decide +kernel : ∀ r ∈ argRefs, r ∉ bodyB2_W) r hr)
theorem keep_bodyB3 (r : Ref sig .tc) (hr : r ∈ argRefs) (V : Valuation τ sig (Elt F)) : after bodyB3 V (Proc.devRef .tc r) = V (Proc.devRef .tc r) :=
  after_of_writes_sub bodyB3 V bodyB3_writes ((by decide +kernel : ∀ r ∈ argRefs, r ∉ bodyB3_W) r hr)
theorem keep_bodyB4 (r : Ref sig .tc) (hr : r ∈ argRefs) (V : Valuation τ sig (Elt F)) : after bodyB4 V (Proc.devRef .tc r) = V (Proc.devRef .tc r) :=
  after_of_writes_sub bodyB4 V bodyB4_writes ((by decide +kernel : ∀ r ∈ argRefs, r ∉ bodyB4_W) r hr)
theorem keep_bodyB5 (r : Ref sig .tc) (hr : r ∈ argRefs) (V : Valuation τ sig (Elt F)) : after bodyB5 V (Proc.devRef .tc r) = V (Proc.devRef .tc r) :=
  after_of_writes_sub bodyB5 V bodyB5_writes ((by decide +kernel : ∀ r ∈ argRefs, r ∉ bodyB5_W) r hr)
theorem keep_bodyB6 (r : Ref sig .tc) (hr : r ∈ argRefs) (V : Valuation τ sig (Elt F)) : after bodyB6 V (Proc.devRef .tc r) = V (Proc.devRef .tc r) :=
  after_of_writes_sub bodyB6 V bodyB6_writes ((by decide +kernel : ∀ r ∈ argRefs, r ∉ bodyB6_W) r hr)
theorem keep_bodyB7 (r : Ref sig .tc) (hr : r ∈ argRefs) (V : Valuation τ sig (Elt F)) : after bodyB7 V (Proc.devRef .tc r) = V (Proc.devRef .tc r) :=
  after_of_writes_sub bodyB7 V bodyB7_writes ((by decide +kernel : ∀ r ∈ argRefs, r ∉ bodyB7_W) r hr)
theorem keep_bodyB8 (r : Ref sig .tc) (hr : r ∈ argRefs) (V : Valuation τ sig (Elt F)) : after bodyB8 V (Proc.devRef .tc r) = V (Proc.devRef .tc r) :=
  after_of_writes_sub bodyB8 V bodyB8_writes ((by decide +kernel : ∀ r ∈ argRefs, r ∉ bodyB8_W) r hr)
theorem keep_bodyB9 (r : Ref sig .tc) (hr : r ∈ argRefs) (V : Valuation τ sig (Elt F)) : after bodyB9 V (Proc.devRef .tc r) = V (Proc.devRef .tc r) :=
  after_of_writes_sub bodyB9 V bodyB9_writes ((by decide +kernel : ∀ r ∈ argRefs, r ∉ bodyB9_W) r hr)
theorem keep_bodyB10 (r : Ref sig .tc) (hr : r ∈ argRefs) (V : Valuation τ sig (Elt F)) : after bodyB10 V (Proc.devRef .tc r) = V (Proc.devRef .tc r) :=
  after_of_writes_sub bodyB10 V bodyB10_writes ((by decide +kernel : ∀ r ∈ argRefs, r ∉ bodyB10_W) r hr)
theorem keep_condA (r : Ref sig .tc) (hr : r ∈ argRefs) (V : Valuation τ sig (Elt F)) : after condA V (Proc.devRef .tc r) = V (Proc.devRef .tc r) :=
  after_of_writes_sub condA V condA_writes ((by decide +kernel : ∀ r ∈ argRefs, r ∉ condA_W) r hr)
theorem keep_condB (r : Ref sig .tc) (hr : r ∈ argRefs) (V : Valuation τ sig (Elt F)) : after condB V (Proc.devRef .tc r) = V (Proc.devRef .tc r) :=
  after_of_writes_sub condB V condB_writes ((by decide +kernel : ∀ r ∈ argRefs, r ∉ condB_W) r hr)
theorem keep_preI (r : Ref sig .tc) (hr : r ∈ argRefs) (V : Valuation τ sig (Elt F)) : afterL preI V (Proc.devRef .tc r) = V (Proc.devRef .tc r) := by
  simp only [afterL_cons, afterL_nil]
  rw [keep_pre2 r hr, keep_pre1 r hr, keep_pre0 r hr]
theorem keep_midI (r : Ref sig .tc) (hr : r ∈ argRefs) (V : Valuation τ sig (Elt F)) : afterL midI V (Proc.devRef .tc r) = V (Proc.devRef .tc r) := by
  simp only [afterL_cons, afterL_nil]
  rw [keep_mid3 r hr, keep_mid2 r hr, keep_mid1 r hr, keep_mid0 r hr]
theorem keep_postI (r : Ref sig .tc) (hr : r ∈ argRefs) (V : Valuation τ sig (Elt F)) : afterL postI V (Proc.devRef .tc r) = V (Proc.devRef .tc r) := by
  simp only [afterL_cons, afterL_nil]
  rw [keep_post1 r hr, keep_post0 r hr]
theorem keep_bodyAI (r : Ref sig .tc) (hr : r ∈ argRefs) (V : Valuation τ sig (Elt F)) : afterL bodyAI V (Proc.devRef .tc r) = V (Proc.devRef .tc r) := by
  simp only [afterL_cons, afterL_nil]
  rw [keep_bodyA7 r hr, keep_bodyA6 r hr, keep_bodyA5 r hr, keep_bodyA4 r hr, keep_bodyA3 r hr, keep_bodyA2 r hr, keep_bodyA1 r hr, keep_bodyA0 r hr]
theorem keep_bodyBI (r : Ref sig .tc) (hr : r ∈ argRefs) (V : Valuation τ sig (Elt F)) : afterL bodyBI V (Proc.devRef .tc r) = V (Proc.devRef .tc r) := by
  simp only [afterL_cons, afterL_nil]
  rw [keep_bodyB10 r hr, keep_bodyB9 r hr, keep_bodyB8 r hr, keep_bodyB7 r hr, keep_bodyB6 r hr, keep_bodyB5 r hr, keep_bodyB4 r hr, keep_bodyB3 r hr, keep_bodyB2 r hr, keep_bodyB1 r hr, keep_bodyB0 r hr]

theorem keep_WA (r : Ref sig .tc) (hr : r ∈ argRefs) (c : Dev nD) : ∀ k, WA m k c (Proc.devRef .tc r) = W0 m c (Proc.devRef .tc r)
  | 0 => rfl
  | k + 1 => by rw [WA_succ, keep_bodyAI r hr, keep_condA r hr, keep_WA r hr c k]
theorem keep_WB (r : Ref sig .tc) (hr : r ∈ argRefs) (c : Dev nD) : ∀ k, WB m k c (Proc.devRef .tc r) = W2 m c (Proc.devRef .tc r)
  | 0 => rfl
  | k + 1 => by rw [WB_succ, keep_bodyBI r hr, keep_condB r hr, keep_WB r hr c k]
/-- The arguments end as they began. -/
theorem WEnd_arg (r : Ref sig .tc) (hr : r ∈ argRefs) (c : Dev nD) : WEnd m c (Proc.devRef .tc r) = m ((c : Thread nD τ).loc r) := by
  unfold WEnd W3
  rw [keep_postI r hr, keep_condB r hr, keep_WB m r hr]
  unfold W2 W1
  rw [keep_midI r hr, keep_condA r hr, keep_WA m r hr]
  unfold W0
  rw [keep_preI r hr]

theorem frame [∀ e, Nonempty (Elt F e)] : θ_run (defs (F := F)) (onTc (τ := τ) (main (F := F))) ⟨m, fun _ => 0, ρ⟩
    (fun r => (∀ (c : Dev nD), ∀ b ∈ argRefs, r.2.mem ((c.tc : Thread nD τ).loc b) = m ((c.tc : Thread nD τ).loc b)) ∧ r.2.sem = fun _ => 0) :=
  (θ_run (defs (F := F)) _ _).mono (fun r h => ⟨fun c b hb => (h.1 c b ((by decide +kernel : ∀ b ∈ argRefs, (Proc.devRef .tc b : DevRef τ sig).isScoped = false) b hb)).trans
    (WEnd_arg m b hb c), h.2⟩) (run m ρ)

end Cert.ReferenceIdeal.Ret
-- ==== Proof.RefGet.lean ====
module

public import proofs.«01_k».proof.Proof.RefRun
public import proofs.«01_k».proof.Proof.Line

/-! # The reference's values by name -/

@[expose] public section

set_option maxRecDepth 16384

noncomputable section

namespace Cert.ReferenceIdeal.Ret

open Idealize.ShloMosaic Idealize.ShloMosaic.StableHlo
open Idealize.ShloMosaic.TcCoe
open Cert.ReferenceIdeal.Gen Cert.Line

variable {F : FTy → Type} [FloatOps F] (W : Valuation τ sig (Elt F))

def g_v0 : FVec F S16384x1024 .f32 := W (Proc.devRef .tc main_v0)
def g_arg0 : FVec F S16384x6144 .f32 := W (Proc.devRef .tc main_arg0)
def g_v1 : FVec F S1x16384x1024 .f32 := W (Proc.devRef .tc main_v1)
def g_v2 : FVec F S16384x1024 .f32 := W (Proc.devRef .tc main_v2)
def g_v3 : FVec F S1x16384x1024 .f32 := W (Proc.devRef .tc main_v3)
def g_v4 : FVec F S16384x2048 .f32 := W (Proc.devRef .tc main_v4)
def g_v5 : FVec F S1x16384x2048 .f32 := W (Proc.devRef .tc main_v5)
def g_v6 : IVec S1x16384 32 := W (Proc.devRef .tc main_v6)
def g_arg2 : IVec S16384 32 := W (Proc.devRef .tc main_arg2)
def g_v7 : FVec F S1x16384x4x256 .f32 := W (Proc.devRef .tc main_v7)
def g_v8 : FVec F S128 .f32 := W (Proc.devRef .tc main_v8)
def g_cst : FVec F S_ .f32 := W (Proc.devRef .tc main_cst)
def g_v9 : FVec F S128 .f32 := W (Proc.devRef .tc main_v9)
def g_v10 : FVec F S128 .f32 := W (Proc.devRef .tc main_v10)
def g_cst_0 : FVec F S_ .f32 := W (Proc.devRef .tc main_cst_0)
def g_v11 : FVec F S128 .f32 := W (Proc.devRef .tc main_v11)
def g_v12 : FVec F S128 .f32 := W (Proc.devRef .tc main_v12)
def g_v13 : FVec F S128 .f32 := W (Proc.devRef .tc main_v13)
def g_cst_1 : FVec F S_ .f32 := W (Proc.devRef .tc main_cst_1)
def g_v14 : FVec F S128 .f32 := W (Proc.devRef .tc main_v14)
def g_v15 : FVec F S128 .f32 := W (Proc.devRef .tc main_v15)
def g_cst_2 : FVec F S_ .f32 := W (Proc.devRef .tc main_cst_2)
def g_v16 : FVec F S128 .f32 := W (Proc.devRef .tc main_v16)
def g_v17 : FVec F S128 .f32 := W (Proc.devRef .tc main_v17)
def g_v18 : FVec F S1x16384 .f32 := W (Proc.devRef .tc main_v18)
def g_v19 : FVec F S1x16384x1x1 .f32 := W (Proc.devRef .tc main_v19)
def g_v20 : FVec F S1x1x1x128 .f32 := W (Proc.devRef .tc main_v20)
def g_v21 : FVec F S1x16384x1x128 .f32 := W (Proc.devRef .tc main_v21)
def g_v22 : FVec F S1x16384x1x128 .f32 := W (Proc.devRef .tc main_v22)
def g_v23 : FVec F S1x16384x1x128 .f32 := W (Proc.devRef .tc main_v23)
def g_v24 : FVec F S1x16384x1x128 .f32 := W (Proc.devRef .tc main_v24)
def g_v25 : FVec F S1x16384x1x128 .f32 := W (Proc.devRef .tc main_v25)
def g_v26 : FVec F S1x16384x4x128 .f32 := W (Proc.devRef .tc main_v26)
def g_v27 : FVec F S1x16384x4x128 .f32 := W (Proc.devRef .tc main_v27)
def g_v28 : FVec F S1x16384x4x128 .f32 := W (Proc.devRef .tc main_v28)
def g_v29 : FVec F S1x16384x4x128 .f32 := W (Proc.devRef .tc main_v29)
def g_v30 : FVec F S1x16384x4x128 .f32 := W (Proc.devRef .tc main_v30)
def g_v31 : FVec F S1x16384x4x128 .f32 := W (Proc.devRef .tc main_v31)
def g_v32 : FVec F S1x16384x4x128 .f32 := W (Proc.devRef .tc main_v32)
def g_v33 : FVec F S1x16384x4x128 .f32 := W (Proc.devRef .tc main_v33)
def g_v34 : FVec F S1x16384x4x128 .f32 := W (Proc.devRef .tc main_v34)
def g_v35 : FVec F S1x16384x4x128 .f32 := W (Proc.devRef .tc main_v35)
def g_v36 : FVec F S1x16384x4x128 .f32 := W (Proc.devRef .tc main_v36)
def g_v37 : FVec F S1x16384x4x128 .f32 := W (Proc.devRef .tc main_v37)
def g_v38 : FVec F S1x16384x4x256 .f32 := W (Proc.devRef .tc main_v38)
def g_v39 : FVec F S1x16384x4x256 .f32 := W (Proc.devRef .tc main_v39)
def g_v40 : FVec F S128 .f32 := W (Proc.devRef .tc main_v40)
def g_cst_3 : FVec F S_ .f32 := W (Proc.devRef .tc main_cst_3)
def g_v41 : FVec F S128 .f32 := W (Proc.devRef .tc main_v41)
def g_v42 : FVec F S128 .f32 := W (Proc.devRef .tc main_v42)
def g_cst_4 : FVec F S_ .f32 := W (Proc.devRef .tc main_cst_4)
def g_v43 : FVec F S128 .f32 := W (Proc.devRef .tc main_v43)
def g_v44 : FVec F S128 .f32 := W (Proc.devRef .tc main_v44)
def g_v45 : FVec F S128 .f32 := W (Proc.devRef .tc main_v45)
def g_cst_5 : FVec F S_ .f32 := W (Proc.devRef .tc main_cst_5)
def g_v46 : FVec F S128 .f32 := W (Proc.devRef .tc main_v46)
def g_v47 : FVec F S128 .f32 := W (Proc.devRef .tc main_v47)
def g_cst_6 : FVec F S_ .f32 := W (Proc.devRef .tc main_cst_6)
def g_v48 : FVec F S128 .f32 := W (Proc.devRef .tc main_v48)
def g_v49 : FVec F S128 .f32 := W (Proc.devRef .tc main_v49)
def g_v50 : FVec F S1x16384 .f32 := W (Proc.devRef .tc main_v50)
def g_v51 : FVec F S1x16384x1x1 .f32 := W (Proc.devRef .tc main_v51)
def g_v52 : FVec F S1x1x1x128 .f32 := W (Proc.devRef .tc main_v52)
def g_v53 : FVec F S1x16384x1x128 .f32 := W (Proc.devRef .tc main_v53)
def g_v54 : FVec F S1x16384x1x128 .f32 := W (Proc.devRef .tc main_v54)
def g_v55 : FVec F S1x16384x1x128 .f32 := W (Proc.devRef .tc main_v55)
def g_v56 : FVec F S1x16384x1x128 .f32 := W (Proc.devRef .tc main_v56)
def g_v57 : FVec F S1x16384x1x128 .f32 := W (Proc.devRef .tc main_v57)
def g_v58 : FVec F S1x16384x4x128 .f32 := W (Proc.devRef .tc main_v58)
def g_v59 : FVec F S1x16384x4x128 .f32 := W (Proc.devRef .tc main_v59)
def g_v60 : FVec F S1x16384x4x128 .f32 := W (Proc.devRef .tc main_v60)
def g_v61 : FVec F S1x16384x4x128 .f32 := W (Proc.devRef .tc main_v61)
def g_v62 : FVec F S1x16384x4x128 .f32 := W (Proc.devRef .tc main_v62)
def g_v63 : FVec F S1x16384x4x128 .f32 := W (Proc.devRef .tc main_v63)
def g_v64 : FVec F S1x16384x4x128 .f32 := W (Proc.devRef .tc main_v64)
def g_v65 : FVec F S1x16384x4x128 .f32 := W (Proc.devRef .tc main_v65)
def g_v66 : FVec F S1x16384x4x128 .f32 := W (Proc.devRef .tc main_v66)
def g_v67 : FVec F S1x16384x4x128 .f32 := W (Proc.devRef .tc main_v67)
def g_v68 : FVec F S1x16384x4x128 .f32 := W (Proc.devRef .tc main_v68)
def g_v69 : FVec F S1x16384x4x128 .f32 := W (Proc.devRef .tc main_v69)
def g_v70 : FVec F S1x16384x4x256 .f32 := W (Proc.devRef .tc main_v70)
def g_cst_7 : FVec F S_ .f32 := W (Proc.devRef .tc main_cst_7)
def g_v71 : FVec F S1x16384x4x256 .f32 := W (Proc.devRef .tc main_v71)
def g_v72 : FVec F S1x16384x4x256 .f32 := W (Proc.devRef .tc main_v72)
def g_v73 : FVec F S1x16384x4x512 .f32 := W (Proc.devRef .tc main_v73)
def g_v74 : FVec F S1x256x64x4x256 .f32 := W (Proc.devRef .tc main_v74)
def g_v75 : FVec F S1x256x64x4x256 .f32 := W (Proc.devRef .tc main_v75)
def g_v76 : FVec F S1x256x64x4x512 .f32 := W (Proc.devRef .tc main_v76)
def g_v77 : FVec F S4 .f32 := W (Proc.devRef .tc main_v77)
def g_cst_8 : FVec F S_ .f32 := W (Proc.devRef .tc main_cst_8)
def g_v78 : FVec F S4 .f32 := W (Proc.devRef .tc main_v78)
def g_v79 : FVec F S4 .f32 := W (Proc.devRef .tc main_v79)
def g_cst_9 : FVec F S_ .f32 := W (Proc.devRef .tc main_cst_9)
def g_v80 : FVec F S4 .f32 := W (Proc.devRef .tc main_v80)
def g_v81 : FVec F S4 .f32 := W (Proc.devRef .tc main_v81)
def g_v82 : FVec F S4 .f32 := W (Proc.devRef .tc main_v82)
def g_v83 : FVec F S4 .f32 := W (Proc.devRef .tc main_v83)
def g_v84 : FVec F S4 .f32 := W (Proc.devRef .tc main_v84)
def g_v85 : FVec F S64 .f32 := W (Proc.devRef .tc main_v85)
def g_v86 : FVec F S64x1 .f32 := W (Proc.devRef .tc main_v86)
def g_v87 : FVec F S1x64 .f32 := W (Proc.devRef .tc main_v87)
def g_v88 : FVec F S64x64 .f32 := W (Proc.devRef .tc main_v88)
def g_v89 : FVec F S64x64 .f32 := W (Proc.devRef .tc main_v89)
def g_v90 : FVec F S64x64 .f32 := W (Proc.devRef .tc main_v90)
def g_v91 : FVec F S64x64 .f32 := W (Proc.devRef .tc main_v91)
def g_v92 : FVec F S4x1x1 .f32 := W (Proc.devRef .tc main_v92)
def g_v93 : FVec F S1x64x64 .f32 := W (Proc.devRef .tc main_v93)
def g_v94 : FVec F S4x64x64 .f32 := W (Proc.devRef .tc main_v94)
def g_v95 : FVec F S4x64x64 .f32 := W (Proc.devRef .tc main_v95)
def g_v96 : FVec F S4x64x64 .f32 := W (Proc.devRef .tc main_v96)
def g_v97 : FVec F S4x64x64 .f32 := W (Proc.devRef .tc main_v97)
def g_v98 : FVec F S1x256x4x64x64 .f32 := W (Proc.devRef .tc main_v98)
def g_v99 : FVec F S1x1x4x64x64 .f32 := W (Proc.devRef .tc main_v99)
def g_v100 : FVec F S1x256x4x64x64 .f32 := W (Proc.devRef .tc main_v100)
def g_v101 : FVec F S1x256x4x64x64 .f32 := W (Proc.devRef .tc main_v101)
def g_v102 : FVec F S1x256x4x512x64 .f32 := W (Proc.devRef .tc main_v102)
def g_v103 : FVec F S1x256x64x4x512 .f32 := W (Proc.devRef .tc main_v103)
def g_v104 : FVec F S1x4 .f32 := W (Proc.devRef .tc main_v104)
def g_cst_10 : FVec F S_ .f32 := W (Proc.devRef .tc main_cst_10)
def g_v105 : FVec F S64 .f32 := W (Proc.devRef .tc main_v105)
def g_v106 : FVec F S64 .f32 := W (Proc.devRef .tc main_v106)
def g_v107 : FVec F S64x1 .f32 := W (Proc.devRef .tc main_v107)
def g_v108 : FVec F S64x4 .f32 := W (Proc.devRef .tc main_v108)
def g_v109 : FVec F S64x4 .f32 := W (Proc.devRef .tc main_v109)
def g_v110 : FVec F S64x4 .f32 := W (Proc.devRef .tc main_v110)
def g_v111 : FVec F S64x4 .f32 := W (Proc.devRef .tc main_v111)
def g_v112 : FVec F S1x4 .f32 := W (Proc.devRef .tc main_v112)
def g_cst_11 : FVec F S_ .f32 := W (Proc.devRef .tc main_cst_11)
def g_v113 : FVec F S64 .f32 := W (Proc.devRef .tc main_v113)
def g_v114 : FVec F S64 .f32 := W (Proc.devRef .tc main_v114)
def g_v115 : FVec F S64x1 .f32 := W (Proc.devRef .tc main_v115)
def g_v116 : FVec F S64x4 .f32 := W (Proc.devRef .tc main_v116)
def g_v117 : FVec F S64x4 .f32 := W (Proc.devRef .tc main_v117)
def g_v118 : FVec F S64x4 .f32 := W (Proc.devRef .tc main_v118)
def g_v119 : FVec F S64x4 .f32 := W (Proc.devRef .tc main_v119)
def g_cst_12 : FVec F S_ .f32 := W (Proc.devRef .tc main_cst_12)
def g_v120 : FVec F S4 .f32 := W (Proc.devRef .tc main_v120)
def g_v121 : FVec F S4 .f32 := W (Proc.devRef .tc main_v121)
def g_v122 : FVec F S4 .f32 := W (Proc.devRef .tc main_v122)
def g_cst_13 : FVec F S_ .f32 := W (Proc.devRef .tc main_cst_13)
def g_v123 : FVec F S1x4x256x512 .f32 := W (Proc.devRef .tc main_v123)
def g_v124 : FVec F S256x1x64x4x256 .f32 := W (Proc.devRef .tc main_v124)
def g_v125 : FVec F S256x1x64x4x256 .f32 := W (Proc.devRef .tc main_v125)
def g_v126 : FVec F S256x1x64x4x512 .f32 := W (Proc.devRef .tc main_v126)
def g_v127 : FVec F S1x64x4x1 .f32 := W (Proc.devRef .tc main_v127)
def g_v128 : FVec F S1x4x1x1 .f32 := W (Proc.devRef .tc main_v128)
def g_v129 : FVec F S1x64x4x1 .f32 := W (Proc.devRef .tc main_v129)
def g_c : IVec S_ 32 := W (Proc.devRef .tc main_c)
def g_v133_0 : FVec F S256x1x64x4x256 .f32 := W (Proc.devRef .tc main_v133_0)
def g_v133_1 : FVec F S256x1x64x4x256 .f32 := W (Proc.devRef .tc main_v133_1)
def g_v133_2 : FVec F S256x1x64x4x512 .f32 := W (Proc.devRef .tc main_v133_2)
def g_v133_3 : FVec F S1x4x1x1 .f32 := W (Proc.devRef .tc main_v133_3)
def g_v133_4 : FVec F S1x64x4x1 .f32 := W (Proc.devRef .tc main_v133_4)
def g_v133_5 : FVec F S1x64x4x1 .f32 := W (Proc.devRef .tc main_v133_5)
def g_v133_6 : IVec S_ 32 := W (Proc.devRef .tc main_v133_6)
def g_v133_7 : FVec F S1x4x256x512 .f32 := W (Proc.devRef .tc main_v133_7)
def g_v133_8 : FVec F S256x1x64x4x512 .f32 := W (Proc.devRef .tc main_v133_8)
def g_v133_9 : FVec F S256x1x4x256x512 .f32 := W (Proc.devRef .tc main_v133_9)
def g_v133_10 : FVec F S256x1x64x4x256 .f32 := W (Proc.devRef .tc main_v133_10)
def g_a_call0_c : IVec S_ 32 := W (Proc.devRef .tc main_while0b_call0_c)
def g_a_call0_c_0 : IVec S_ 32 := W (Proc.devRef .tc main_while0b_call0_c_0)
def g_a_call0_c_1 : IVec S_ 32 := W (Proc.devRef .tc main_while0b_call0_c_1)
def g_a_call0_c_2 : IVec S_ 32 := W (Proc.devRef .tc main_while0b_call0_c_2)
def g_a_call0_v0 : FVec F S1x1x64x4x256 .f32 := W (Proc.devRef .tc main_while0b_call0_v0)
def g_a_v239 : FVec F S1x64x4x256 .f32 := W (Proc.devRef .tc main_while0b_v239)
def g_a_call1_c : IVec S_ 32 := W (Proc.devRef .tc main_while0b_call1_c)
def g_a_call1_c_0 : IVec S_ 32 := W (Proc.devRef .tc main_while0b_call1_c_0)
def g_a_call1_c_1 : IVec S_ 32 := W (Proc.devRef .tc main_while0b_call1_c_1)
def g_a_call1_c_2 : IVec S_ 32 := W (Proc.devRef .tc main_while0b_call1_c_2)
def g_a_call1_v0 : FVec F S1x1x64x4x256 .f32 := W (Proc.devRef .tc main_while0b_call1_v0)
def g_a_v240 : FVec F S1x64x4x256 .f32 := W (Proc.devRef .tc main_while0b_v240)
def g_a_call2_c : IVec S_ 32 := W (Proc.devRef .tc main_while0b_call2_c)
def g_a_call2_c_0 : IVec S_ 32 := W (Proc.devRef .tc main_while0b_call2_c_0)
def g_a_call2_c_1 : IVec S_ 32 := W (Proc.devRef .tc main_while0b_call2_c_1)
def g_a_call2_c_2 : IVec S_ 32 := W (Proc.devRef .tc main_while0b_call2_c_2)
def g_a_call2_v0 : FVec F S1x1x64x4x512 .f32 := W (Proc.devRef .tc main_while0b_call2_v0)
def g_a_v241 : FVec F S1x64x4x512 .f32 := W (Proc.devRef .tc main_while0b_v241)
def g_a_v242 : FVec F S1x4x512x64 .f32 := W (Proc.devRef .tc main_while0b_v242)
def g_a_v243 : FVec F S1x64x4x512 .f32 := W (Proc.devRef .tc main_while0b_v243)
def g_a_v244 : FVec F S1x64x4x512 .f32 := W (Proc.devRef .tc main_while0b_v244)
def g_a_v245 : FVec F S1x64x4x512 .f32 := W (Proc.devRef .tc main_while0b_v245)
def g_a_v246 : FVec F S1x4x256x512 .f32 := W (Proc.devRef .tc main_while0b_v246)
def g_a_v247 : FVec F S1x4x256x512 .f32 := W (Proc.devRef .tc main_while0b_v247)
def g_a_v248 : FVec F S1x64x4x256 .f32 := W (Proc.devRef .tc main_while0b_v248)
def g_a_v249 : FVec F S1x64x4x256 .f32 := W (Proc.devRef .tc main_while0b_v249)
def g_a_v250 : FVec F S1x4x256x512 .f32 := W (Proc.devRef .tc main_while0b_v250)
def g_a_v251 : FVec F S1x4x256x512 .f32 := W (Proc.devRef .tc main_while0b_v251)
def g_a_call3_v0 : FVec F S1x1x64x4x512 .f32 := W (Proc.devRef .tc main_while0b_call3_v0)
def g_a_call3_c : IVec S_ 32 := W (Proc.devRef .tc main_while0b_call3_c)
def g_a_call3_c_0 : IVec S_ 32 := W (Proc.devRef .tc main_while0b_call3_c_0)
def g_a_call3_c_1 : IVec S_ 32 := W (Proc.devRef .tc main_while0b_call3_c_1)
def g_a_call3_c_2 : IVec S_ 32 := W (Proc.devRef .tc main_while0b_call3_c_2)
def g_a_v252 : FVec F S256x1x64x4x512 .f32 := W (Proc.devRef .tc main_while0b_v252)
def g_a_call4_v0 : FVec F S1x1x4x256x512 .f32 := W (Proc.devRef .tc main_while0b_call4_v0)
def g_a_call4_c : IVec S_ 32 := W (Proc.devRef .tc main_while0b_call4_c)
def g_a_call4_c_0 : IVec S_ 32 := W (Proc.devRef .tc main_while0b_call4_c_0)
def g_a_call4_c_1 : IVec S_ 32 := W (Proc.devRef .tc main_while0b_call4_c_1)
def g_a_call4_c_2 : IVec S_ 32 := W (Proc.devRef .tc main_while0b_call4_c_2)
def g_a_v253 : FVec F S256x1x4x256x512 .f32 := W (Proc.devRef .tc main_while0b_v253)
def g_a_call5_v0 : FVec F S1x1x64x4x256 .f32 := W (Proc.devRef .tc main_while0b_call5_v0)
def g_a_call5_c : IVec S_ 32 := W (Proc.devRef .tc main_while0b_call5_c)
def g_a_call5_c_0 : IVec S_ 32 := W (Proc.devRef .tc main_while0b_call5_c_0)
def g_a_call5_c_1 : IVec S_ 32 := W (Proc.devRef .tc main_while0b_call5_c_1)
def g_a_call5_c_2 : IVec S_ 32 := W (Proc.devRef .tc main_while0b_call5_c_2)
def g_a_v254 : FVec F S256x1x64x4x256 .f32 := W (Proc.devRef .tc main_while0b_v254)
def g_a_c_43 : IVec S_ 32 := W (Proc.devRef .tc main_while0b_c_43)
def g_a_v255 : IVec S_ 32 := W (Proc.devRef .tc main_while0b_v255)
def g_v134 : FVec F S1x256x64x4x512 .f32 := W (Proc.devRef .tc main_v134)
def g_v135 : FVec F S1x256x64x4x512 .f32 := W (Proc.devRef .tc main_v135)
def g_v136 : FVec F S1x16384x2048 .f32 := W (Proc.devRef .tc main_v136)
def g_v137 : FVec F S16384x2048 .f32 := W (Proc.devRef .tc main_v137)
def g_v138 : FVec F S1x16384x2048 .f32 := W (Proc.devRef .tc main_v138)
def g_v139 : FVec F S1x16384x4x512 .f32 := W (Proc.devRef .tc main_v139)
def g_cst_17 : FVec F S_ .f32 := W (Proc.devRef .tc main_cst_17)
def g_v140 : FVec F S1x16384x4 .f32 := W (Proc.devRef .tc main_v140)
def g_v141 : FVec F S1x16384x4x1 .f32 := W (Proc.devRef .tc main_v141)
def g_cst_18 : FVec F S_ .f32 := W (Proc.devRef .tc main_cst_18)
def g_v142 : FVec F S1x16384x4x1 .f32 := W (Proc.devRef .tc main_v142)
def g_v143 : FVec F S1x16384x4x1 .f32 := W (Proc.devRef .tc main_v143)
def g_v144 : FVec F S1x16384x4x512 .f32 := W (Proc.devRef .tc main_v144)
def g_v145 : FVec F S1x16384x4x512 .f32 := W (Proc.devRef .tc main_v145)
def g_v146 : FVec F S1x16384x4x512 .f32 := W (Proc.devRef .tc main_v146)
def g_cst_19 : FVec F S_ .f32 := W (Proc.devRef .tc main_cst_19)
def g_v147 : FVec F S1x16384x4 .f32 := W (Proc.devRef .tc main_v147)
def g_v148 : FVec F S1x16384x4x1 .f32 := W (Proc.devRef .tc main_v148)
def g_cst_20 : FVec F S_ .f32 := W (Proc.devRef .tc main_cst_20)
def g_v149 : FVec F S1x16384x4x1 .f32 := W (Proc.devRef .tc main_v149)
def g_v150 : FVec F S1x16384x4x1 .f32 := W (Proc.devRef .tc main_v150)
def g_v151 : FVec F S1x16384x4x512 .f32 := W (Proc.devRef .tc main_v151)
def g_v152 : FVec F S1x16384x4x512 .f32 := W (Proc.devRef .tc main_v152)
def g_cst_21 : FVec F S_ .f32 := W (Proc.devRef .tc main_cst_21)
def g_v153 : FVec F S1x16384x4x1 .f32 := W (Proc.devRef .tc main_v153)
def g_v154 : FVec F S1x16384x4x1 .f32 := W (Proc.devRef .tc main_v154)
def g_v155 : FVec F S1x16384x4x1 .f32 := W (Proc.devRef .tc main_v155)
def g_v156 : FVec F S1x16384x4x512 .f32 := W (Proc.devRef .tc main_v156)
def g_v157 : FVec F S1x16384x4x512 .f32 := W (Proc.devRef .tc main_v157)
def g_v158 : FVec F S1x16384x2048 .f32 := W (Proc.devRef .tc main_v158)
def g_v159 : FVec F S1x1x2048 .f32 := W (Proc.devRef .tc main_v159)
def g_arg1 : FVec F S2048 .f32 := W (Proc.devRef .tc main_arg1)
def g_v160 : FVec F S1x16384x2048 .f32 := W (Proc.devRef .tc main_v160)
def g_v161 : FVec F S1x16384x2048 .f32 := W (Proc.devRef .tc main_v161)
def g_call6_v0 : FVec F S1x16384x2048 .f32 := W (Proc.devRef .tc main_call6_v0)
def g_call6_v1 : FVec F S1x16384x2048 .f32 := W (Proc.devRef .tc main_call6_v1)
def g_call6_cst : FVec F S_ .f32 := W (Proc.devRef .tc main_call6_cst)
def g_call6_v2 : FVec F S1x16384x2048 .f32 := W (Proc.devRef .tc main_call6_v2)
def g_call6_v3 : FVec F S1x16384x2048 .f32 := W (Proc.devRef .tc main_call6_v3)
def g_call6_cst_0 : FVec F S_ .f32 := W (Proc.devRef .tc main_call6_cst_0)
def g_call6_v4 : FVec F S1x16384x2048 .f32 := W (Proc.devRef .tc main_call6_v4)
def g_call6_v5 : FVec F S1x16384x2048 .f32 := W (Proc.devRef .tc main_call6_v5)
def g_v162 : FVec F S1x16384x2048 .f32 := W (Proc.devRef .tc main_v162)
def g_v163 : FVec F S1x16384x2048 .f32 := W (Proc.devRef .tc main_v163)
def g_v164 : FVec F S1x16384x2048 .bf16 := W (Proc.devRef .tc main_v164)
def g_v165 : FVec F S16384x2048 .f32 := W (Proc.devRef .tc main_v165)
def g_arg3 : FVec F S16384x2048 .bf16 := W (Proc.devRef .tc main_arg3)
def g_v166 : FVec F S1x16384x2048 .f32 := W (Proc.devRef .tc main_v166)
def g_v168 : FVec F S1x256x64x4x512 .f32 := W (Proc.devRef .tc main_v168)
def g_v169 : FVec F S256x1x64x4x512 .f32 := W (Proc.devRef .tc main_v169)
def g_cst_23 : FVec F S_ .f32 := W (Proc.devRef .tc main_cst_23)
def g_v170 : FVec F S1x4x256x512 .f32 := W (Proc.devRef .tc main_v170)
def g_c_27 : IVec S_ 32 := W (Proc.devRef .tc main_c_27)
def g_v174_0 : FVec F S256x1x64x4x512 .f32 := W (Proc.devRef .tc main_v174_0)
def g_v174_1 : FVec F S256x1x64x4x256 .f32 := W (Proc.devRef .tc main_v174_1)
def g_v174_2 : FVec F S256x1x4x256x512 .f32 := W (Proc.devRef .tc main_v174_2)
def g_v174_3 : FVec F S256x1x64x4x512 .f32 := W (Proc.devRef .tc main_v174_3)
def g_v174_4 : FVec F S256x1x64x4x256 .f32 := W (Proc.devRef .tc main_v174_4)
def g_v174_5 : FVec F S1x64x4x1 .f32 := W (Proc.devRef .tc main_v174_5)
def g_v174_6 : FVec F S1x4x1x1 .f32 := W (Proc.devRef .tc main_v174_6)
def g_v174_7 : FVec F S1x64x4x1 .f32 := W (Proc.devRef .tc main_v174_7)
def g_v174_8 : IVec S_ 32 := W (Proc.devRef .tc main_v174_8)
def g_v174_9 : FVec F S1x4x256x512 .f32 := W (Proc.devRef .tc main_v174_9)
def g_v174_10 : FVec F S256x1x64x4x256 .f32 := W (Proc.devRef .tc main_v174_10)
def g_v174_11 : FVec F S256x1x64x4x256 .f32 := W (Proc.devRef .tc main_v174_11)
def g_v174_12 : FVec F S256x1x64x4x512 .f32 := W (Proc.devRef .tc main_v174_12)
def g_b_c_45 : IVec S_ 32 := W (Proc.devRef .tc main_while1b_c_45)
def g_b_v239 : IVec S_ 32 := W (Proc.devRef .tc main_while1b_v239)
def g_b_c_46 : IVec S_ 32 := W (Proc.devRef .tc main_while1b_c_46)
def g_b_v240 : IVec S_ 32 := W (Proc.devRef .tc main_while1b_v240)
def g_b_call7_c : IVec S_ 32 := W (Proc.devRef .tc main_while1b_call7_c)
def g_b_call7_c_0 : IVec S_ 32 := W (Proc.devRef .tc main_while1b_call7_c_0)
def g_b_call7_c_1 : IVec S_ 32 := W (Proc.devRef .tc main_while1b_call7_c_1)
def g_b_call7_c_2 : IVec S_ 32 := W (Proc.devRef .tc main_while1b_call7_c_2)
def g_b_call7_v0 : FVec F S1x1x64x4x512 .f32 := W (Proc.devRef .tc main_while1b_call7_v0)
def g_b_v241 : FVec F S1x64x4x512 .f32 := W (Proc.devRef .tc main_while1b_v241)
def g_b_call8_c : IVec S_ 32 := W (Proc.devRef .tc main_while1b_call8_c)
def g_b_call8_c_0 : IVec S_ 32 := W (Proc.devRef .tc main_while1b_call8_c_0)
def g_b_call8_c_1 : IVec S_ 32 := W (Proc.devRef .tc main_while1b_call8_c_1)
def g_b_call8_c_2 : IVec S_ 32 := W (Proc.devRef .tc main_while1b_call8_c_2)
def g_b_call8_v0 : FVec F S1x1x64x4x256 .f32 := W (Proc.devRef .tc main_while1b_call8_v0)
def g_b_v242 : FVec F S1x64x4x256 .f32 := W (Proc.devRef .tc main_while1b_v242)
def g_b_call9_c : IVec S_ 32 := W (Proc.devRef .tc main_while1b_call9_c)
def g_b_call9_c_0 : IVec S_ 32 := W (Proc.devRef .tc main_while1b_call9_c_0)
def g_b_call9_c_1 : IVec S_ 32 := W (Proc.devRef .tc main_while1b_call9_c_1)
def g_b_call9_c_2 : IVec S_ 32 := W (Proc.devRef .tc main_while1b_call9_c_2)
def g_b_call9_v0 : FVec F S1x1x4x256x512 .f32 := W (Proc.devRef .tc main_while1b_call9_v0)
def g_b_v243 : FVec F S1x4x256x512 .f32 := W (Proc.devRef .tc main_while1b_v243)
def g_b_call10_c : IVec S_ 32 := W (Proc.devRef .tc main_while1b_call10_c)
def g_b_call10_c_0 : IVec S_ 32 := W (Proc.devRef .tc main_while1b_call10_c_0)
def g_b_call10_c_1 : IVec S_ 32 := W (Proc.devRef .tc main_while1b_call10_c_1)
def g_b_call10_c_2 : IVec S_ 32 := W (Proc.devRef .tc main_while1b_call10_c_2)
def g_b_call10_v0 : FVec F S1x1x64x4x512 .f32 := W (Proc.devRef .tc main_while1b_call10_v0)
def g_b_v244 : FVec F S1x64x4x512 .f32 := W (Proc.devRef .tc main_while1b_v244)
def g_b_call11_c : IVec S_ 32 := W (Proc.devRef .tc main_while1b_call11_c)
def g_b_call11_c_0 : IVec S_ 32 := W (Proc.devRef .tc main_while1b_call11_c_0)
def g_b_call11_c_1 : IVec S_ 32 := W (Proc.devRef .tc main_while1b_call11_c_1)
def g_b_call11_c_2 : IVec S_ 32 := W (Proc.devRef .tc main_while1b_call11_c_2)
def g_b_call11_v0 : FVec F S1x1x64x4x256 .f32 := W (Proc.devRef .tc main_while1b_call11_v0)
def g_b_v245 : FVec F S1x64x4x256 .f32 := W (Proc.devRef .tc main_while1b_v245)
def g_b_v246 : FVec F S1x4x512x64 .f32 := W (Proc.devRef .tc main_while1b_v246)
def g_b_v247 : FVec F S1x64x4x512 .f32 := W (Proc.devRef .tc main_while1b_v247)
def g_b_v248 : FVec F S1x4x256x64 .f32 := W (Proc.devRef .tc main_while1b_v248)
def g_b_v249 : FVec F S1x64x4x256 .f32 := W (Proc.devRef .tc main_while1b_v249)
def g_b_v250 : FVec F S1x64x4x256 .f32 := W (Proc.devRef .tc main_while1b_v250)
def g_b_v251 : FVec F S1x64x4x256 .f32 := W (Proc.devRef .tc main_while1b_v251)
def g_b_v252 : FVec F S1x4x256x512 .f32 := W (Proc.devRef .tc main_while1b_v252)
def g_b_v253 : FVec F S1x4x256x512 .f32 := W (Proc.devRef .tc main_while1b_v253)
def g_b_v254 : FVec F S1x64x4x512 .f32 := W (Proc.devRef .tc main_while1b_v254)
def g_b_v255 : FVec F S1x64x4x512 .f32 := W (Proc.devRef .tc main_while1b_v255)
def g_b_v256 : FVec F S1x4x512x64 .f32 := W (Proc.devRef .tc main_while1b_v256)
def g_b_v257 : FVec F S1x4x64x256 .f32 := W (Proc.devRef .tc main_while1b_v257)
def g_b_v258 : FVec F S1x64x4x256 .f32 := W (Proc.devRef .tc main_while1b_v258)
def g_b_v259 : FVec F S1x4x512x256 .f32 := W (Proc.devRef .tc main_while1b_v259)
def g_b_v260 : FVec F S1x4x256x512 .f32 := W (Proc.devRef .tc main_while1b_v260)
def g_b_v261 : FVec F S1x4x256x512 .f32 := W (Proc.devRef .tc main_while1b_v261)
def g_b_call12_v0 : FVec F S1x1x64x4x256 .f32 := W (Proc.devRef .tc main_while1b_call12_v0)
def g_b_call12_c : IVec S_ 32 := W (Proc.devRef .tc main_while1b_call12_c)
def g_b_call12_c_0 : IVec S_ 32 := W (Proc.devRef .tc main_while1b_call12_c_0)
def g_b_call12_c_1 : IVec S_ 32 := W (Proc.devRef .tc main_while1b_call12_c_1)
def g_b_call12_c_2 : IVec S_ 32 := W (Proc.devRef .tc main_while1b_call12_c_2)
def g_b_v262 : FVec F S256x1x64x4x256 .f32 := W (Proc.devRef .tc main_while1b_v262)
def g_b_call13_v0 : FVec F S1x1x64x4x256 .f32 := W (Proc.devRef .tc main_while1b_call13_v0)
def g_b_call13_c : IVec S_ 32 := W (Proc.devRef .tc main_while1b_call13_c)
def g_b_call13_c_0 : IVec S_ 32 := W (Proc.devRef .tc main_while1b_call13_c_0)
def g_b_call13_c_1 : IVec S_ 32 := W (Proc.devRef .tc main_while1b_call13_c_1)
def g_b_call13_c_2 : IVec S_ 32 := W (Proc.devRef .tc main_while1b_call13_c_2)
def g_b_v263 : FVec F S256x1x64x4x256 .f32 := W (Proc.devRef .tc main_while1b_v263)
def g_b_call14_v0 : FVec F S1x1x64x4x512 .f32 := W (Proc.devRef .tc main_while1b_call14_v0)
def g_b_call14_c : IVec S_ 32 := W (Proc.devRef .tc main_while1b_call14_c)
def g_b_call14_c_0 : IVec S_ 32 := W (Proc.devRef .tc main_while1b_call14_c_0)
def g_b_call14_c_1 : IVec S_ 32 := W (Proc.devRef .tc main_while1b_call14_c_1)
def g_b_call14_c_2 : IVec S_ 32 := W (Proc.devRef .tc main_while1b_call14_c_2)
def g_b_v264 : FVec F S256x1x64x4x512 .f32 := W (Proc.devRef .tc main_while1b_v264)
def g_b_c_47 : IVec S_ 32 := W (Proc.devRef .tc main_while1b_c_47)
def g_b_v265 : IVec S_ 32 := W (Proc.devRef .tc main_while1b_v265)
def g_v175 : FVec F S1x256x64x4x512 .f32 := W (Proc.devRef .tc main_v175)
def g_v176 : FVec F S1x256x64x4x256 .f32 := W (Proc.devRef .tc main_v176)
def g_v177 : FVec F S1x256x64x4x256 .f32 := W (Proc.devRef .tc main_v177)
def g_v178 : FVec F S1x256x4x512x64 .f32 := W (Proc.devRef .tc main_v178)
def g_v179 : FVec F S1x256x4x64x64 .f32 := W (Proc.devRef .tc main_v179)
def g_v180 : FVec F S1x256x4x512x64 .f32 := W (Proc.devRef .tc main_v180)
def g_v181 : FVec F S1x256x64x4x512 .f32 := W (Proc.devRef .tc main_v181)
def g_v182 : FVec F S1x256x64x4x512 .f32 := W (Proc.devRef .tc main_v182)
def g_v183 : FVec F S1x256x4x64x64 .f32 := W (Proc.devRef .tc main_v183)
def g_v184 : FVec F S1x256x4x64x64 .f32 := W (Proc.devRef .tc main_v184)
def g_v185 : FVec F S1x256x4x64x256 .f32 := W (Proc.devRef .tc main_v185)
def g_v186 : FVec F S1x256x64x4x256 .f32 := W (Proc.devRef .tc main_v186)
def g_v187 : FVec F S1x256x64x4x256 .f32 := W (Proc.devRef .tc main_v187)
def g_v188 : FVec F S1x256x4x64x256 .f32 := W (Proc.devRef .tc main_v188)
def g_v189 : FVec F S1x256x64x4x256 .f32 := W (Proc.devRef .tc main_v189)
def g_v190 : FVec F S1x256x64x4x256 .f32 := W (Proc.devRef .tc main_v190)
def g_v191 : FVec F S1x16384x4x512 .f32 := W (Proc.devRef .tc main_v191)
def g_v192 : FVec F S1x16384x4x256 .f32 := W (Proc.devRef .tc main_v192)
def g_v193 : FVec F S1x16384x4x256 .f32 := W (Proc.devRef .tc main_v193)
def g_v194 : FVec F S1x16384x2048 .f32 := W (Proc.devRef .tc main_v194)
def g_cst_28 : FVec F S_ .f32 := W (Proc.devRef .tc main_cst_28)
def g_v195 : FVec F S1x16384x4x256 .f32 := W (Proc.devRef .tc main_v195)
def g_v196 : FVec F S1x16384x4x256 .f32 := W (Proc.devRef .tc main_v196)
def g_v197 : FVec F S1x16384x4x128 .f32 := W (Proc.devRef .tc main_v197)
def g_v198 : FVec F S1x16384x4x128 .f32 := W (Proc.devRef .tc main_v198)
def g_v199 : FVec F S1x16384x4x128 .f32 := W (Proc.devRef .tc main_v199)
def g_v200 : FVec F S1x16384x4x128 .f32 := W (Proc.devRef .tc main_v200)
def g_v201 : FVec F S1x16384x4x128 .f32 := W (Proc.devRef .tc main_v201)
def g_v202 : FVec F S1x16384x4x128 .f32 := W (Proc.devRef .tc main_v202)
def g_v203 : FVec F S1x16384x4x128 .f32 := W (Proc.devRef .tc main_v203)
def g_v204 : FVec F S1x16384x4x128 .f32 := W (Proc.devRef .tc main_v204)
def g_v205 : FVec F S1x16384x4x128 .f32 := W (Proc.devRef .tc main_v205)
def g_v206 : FVec F S1x16384x4x128 .f32 := W (Proc.devRef .tc main_v206)
def g_v207 : FVec F S1x16384x4x128 .f32 := W (Proc.devRef .tc main_v207)
def g_v208 : FVec F S1x16384x4x128 .f32 := W (Proc.devRef .tc main_v208)
def g_v209 : FVec F S1x16384x4x128 .f32 := W (Proc.devRef .tc main_v209)
def g_cst_29 : FVec F S_ .f32 := W (Proc.devRef .tc main_cst_29)
def g_v210 : FVec F S1x16384x4x256 .f32 := W (Proc.devRef .tc main_v210)
def g_cst_30 : FVec F S_ .f32 := W (Proc.devRef .tc main_cst_30)
def g_v211 : FVec F S1x16384x4x256 .f32 := W (Proc.devRef .tc main_v211)
def g_v212 : FVec F S1x16384x4x256 .f32 := W (Proc.devRef .tc main_v212)
def g_v213 : FVec F S1x16384x1024 .f32 := W (Proc.devRef .tc main_v213)
def g_v214 : FVec F S1x16384x4x128 .f32 := W (Proc.devRef .tc main_v214)
def g_v215 : FVec F S1x16384x4x128 .f32 := W (Proc.devRef .tc main_v215)
def g_v216 : FVec F S1x16384x4x128 .f32 := W (Proc.devRef .tc main_v216)
def g_v217 : FVec F S1x16384x4x128 .f32 := W (Proc.devRef .tc main_v217)
def g_v218 : FVec F S1x16384x4x128 .f32 := W (Proc.devRef .tc main_v218)
def g_v219 : FVec F S1x16384x4x128 .f32 := W (Proc.devRef .tc main_v219)
def g_v220 : FVec F S1x16384x4x128 .f32 := W (Proc.devRef .tc main_v220)
def g_v221 : FVec F S1x16384x4x128 .f32 := W (Proc.devRef .tc main_v221)
def g_v222 : FVec F S1x16384x4x128 .f32 := W (Proc.devRef .tc main_v222)
def g_v223 : FVec F S1x16384x4x128 .f32 := W (Proc.devRef .tc main_v223)
def g_v224 : FVec F S1x16384x4x128 .f32 := W (Proc.devRef .tc main_v224)
def g_v225 : FVec F S1x16384x4x128 .f32 := W (Proc.devRef .tc main_v225)
def g_v226 : FVec F S1x16384x4x128 .f32 := W (Proc.devRef .tc main_v226)
def g_cst_31 : FVec F S_ .f32 := W (Proc.devRef .tc main_cst_31)
def g_v227 : FVec F S1x16384x4x256 .f32 := W (Proc.devRef .tc main_v227)
def g_cst_32 : FVec F S_ .f32 := W (Proc.devRef .tc main_cst_32)
def g_v228 : FVec F S1x16384x4x256 .f32 := W (Proc.devRef .tc main_v228)
def g_v229 : FVec F S1x16384x4x256 .f32 := W (Proc.devRef .tc main_v229)
def g_v230 : FVec F S1x16384x1024 .f32 := W (Proc.devRef .tc main_v230)
def g_v231 : FVec F S16384x2048 .bf16 := W (Proc.devRef .tc main_v231)
def g_v232 : FVec F S16384x2048 .f32 := W (Proc.devRef .tc main_v232)
def g_v233 : FVec F S16384x1024 .f32 := W (Proc.devRef .tc main_v233)
def g_v234 : FVec F S16384x1024 .bf16 := W (Proc.devRef .tc main_v234)
def g_v235 : FVec F S16384x1024 .f32 := W (Proc.devRef .tc main_v235)
def g_v236 : FVec F S16384x1024 .bf16 := W (Proc.devRef .tc main_v236)
def g_v237 : FVec F S16384x2048 .f32 := W (Proc.devRef .tc main_v237)
def g_v238 : FVec F S16384x2048 .bf16 := W (Proc.devRef .tc main_v238)

end Cert.ReferenceIdeal.Ret
-- ==== Proof.RefEqsMid.lean ====
module

public import proofs.«01_k».proof.Proof.RefGet

/-! # The equations of the reference's middle stretch -/

@[expose] public section

set_option maxRecDepth 16384

noncomputable section

namespace Cert.ReferenceIdeal.Ret

open Idealize.ShloMosaic Idealize.ShloMosaic.StableHlo
open Idealize.ShloMosaic.TcCoe
open Cert.ReferenceIdeal.Gen Cert.Line

variable {F : FTy → Type} [FloatOps F] (V : Valuation τ sig (Elt F))

def midL : List (HloOp τ sig (Elt F)) := mid0 ++ (mid1 ++ (mid2 ++ (mid3)))
abbrev mid_Ws : List (Ref sig .tc) := [main_v134, main_v135, main_v136, main_v137, main_v138, main_v139, main_cst_17, main_v140, main_v141, main_cst_18, main_v142, main_v143, main_v144, main_v145, main_v146, main_cst_19, main_v147, main_v148, main_cst_20, main_v149, main_v150, main_v151, main_v152, main_cst_21, main_v153, main_v154, main_v155, main_v156, main_v157, main_v158, main_v159, main_v160, main_v161, main_call6_v0, main_call6_v1, main_call6_cst, main_call6_v2, main_call6_v3, main_call6_cst_0, main_call6_v4, main_call6_v5, main_v162, main_v163, main_v164, main_v165, main_v166, main_cst_22, main_v167, main_v168, main_v169, main_cst_23, main_v170, main_cst_24, main_v171, main_cst_25, main_v172, main_cst_26, main_v173, main_c_27, main_v174_0, main_v174_1, main_v174_2, main_v174_3, main_v174_4, main_v174_5, main_v174_6, main_v174_7, main_v174_8, main_v174_9, main_v174_10, main_v174_11, main_v174_12]
attribute [local irreducible] after

theorem mid_map : (midL : List (HloOp τ sig (Elt F))).map HloOp.writes = mid_Ws.map fun w => {Proc.devRef (τ := τ) .tc w} := rfl
theorem mid_after : after midL V = afterL midI (V) := by
  unfold midL; simp only [after_append, afterL_cons, afterL_nil]

theorem mid_v134 : g_v134 (after midL V)
    = transpose S1x256x64x4x512 [1, 0, 2, 3, 4] (g_v133_8 V) transposes_S256x1x64x4x512_S1x256x64x4x512_1_0_2_3_4 :=
  eq1 mid_map 0 rfl (inV mid_map 0 V)

theorem mid_v135 : g_v135 (after midL V)
    = addf (g_v103 V) (g_v134 (after midL V)) :=
  eq2 mid_map 1 rfl (inV mid_map 1 V) (inA mid_map 1 V)

theorem mid_v136 : g_v136 (after midL V)
    = shapeCast S1x16384x2048 (g_v135 (after midL V)) shapeCasts_S1x256x64x4x512_S1x16384x2048 :=
  eqR mid_map 2 rfl (inA mid_map 2 V)

theorem mid_v137 : g_v137 (after midL V)
    = extractStridedSlice S16384x2048 ![0, 4096] (g_arg0 V) slices_S16384x6144_S16384x2048_0_4096 :=
  eq1 mid_map 3 rfl (inV mid_map 3 V)

theorem mid_v138 : g_v138 (after midL V)
    = broadcastInDim S1x16384x2048 ![1, 2] bcast_S16384x2048_S1x16384x2048_1_2 (g_v137 (after midL V)) :=
  eq1 mid_map 4 rfl (inA mid_map 4 V)

theorem mid_v139 : g_v139 (after midL V)
    = shapeCast S1x16384x4x512 (g_v136 (after midL V)) shapeCasts_S1x16384x2048_S1x16384x4x512 :=
  eqR mid_map 5 rfl (inA mid_map 5 V)

theorem mid_cst_17 : g_cst_17 (after midL V)
    = constant S_ .f32 0x00000000#32 :=
  eq0 mid_map 6 rfl V

theorem mid_v140 : g_v140 (after midL V)
    = Host.reduceAdd (g_v139 (after midL V)) (g_cst_17 (after midL V)) reducesTo_S1x16384x4x512_S1x16384x4_d3 h_S_ :=
  eq2 mid_map 7 rfl (inA mid_map 7 V) (inA mid_map 7 V)

theorem mid_v141 : g_v141 (after midL V)
    = broadcastInDim S1x16384x4x1 ![0, 1, 2] bcast_S1x16384x4_S1x16384x4x1_0_1_2 (g_v140 (after midL V)) :=
  eq1 mid_map 8 rfl (inA mid_map 8 V)

theorem mid_cst_18 : g_cst_18 (after midL V)
    = constant S_ .f32 0x44000000#32 :=
  eq0 mid_map 9 rfl V

theorem mid_v142 : g_v142 (after midL V)
    = broadcastInDim S1x16384x4x1 ![] bcast_S_S1x16384x4x1 (g_cst_18 (after midL V)) :=
  eq1 mid_map 10 rfl (inA mid_map 10 V)

theorem mid_v143 : g_v143 (after midL V)
    = Host.divf (g_v141 (after midL V)) (g_v142 (after midL V)) :=
  eq2 mid_map 11 rfl (inA mid_map 11 V) (inA mid_map 11 V)

theorem mid_v144 : g_v144 (after midL V)
    = broadcastInDim S1x16384x4x512 ![0, 1, 2, 3] bcast_S1x16384x4x1_S1x16384x4x512_0_1_2_3 (g_v143 (after midL V)) :=
  eq1 mid_map 12 rfl (inA mid_map 12 V)

theorem mid_v145 : g_v145 (after midL V)
    = subf (g_v139 (after midL V)) (g_v144 (after midL V)) :=
  eq2 mid_map 13 rfl (inA mid_map 13 V) (inA mid_map 13 V)

theorem mid_v146 : g_v146 (after midL V)
    = mulf (g_v145 (after midL V)) (g_v145 (after midL V)) :=
  eq2 mid_map 14 rfl (inA mid_map 14 V) (inA mid_map 14 V)

theorem mid_cst_19 : g_cst_19 (after midL V)
    = constant S_ .f32 0x00000000#32 :=
  eq0 mid_map 15 rfl V

theorem mid_v147 : g_v147 (after midL V)
    = Host.reduceAdd (g_v146 (after midL V)) (g_cst_19 (after midL V)) reducesTo_S1x16384x4x512_S1x16384x4_d3 h_S_ :=
  eq2 mid_map 16 rfl (inA mid_map 16 V) (inA mid_map 16 V)

theorem mid_v148 : g_v148 (after midL V)
    = broadcastInDim S1x16384x4x1 ![0, 1, 2] bcast_S1x16384x4_S1x16384x4x1_0_1_2 (g_v147 (after midL V)) :=
  eq1 mid_map 17 rfl (inA mid_map 17 V)

theorem mid_cst_20 : g_cst_20 (after midL V)
    = constant S_ .f32 0x44000000#32 :=
  eq0 mid_map 18 rfl V

theorem mid_v149 : g_v149 (after midL V)
    = broadcastInDim S1x16384x4x1 ![] bcast_S_S1x16384x4x1 (g_cst_20 (after midL V)) :=
  eq1 mid_map 19 rfl (inA mid_map 19 V)

theorem mid_v150 : g_v150 (after midL V)
    = Host.divf (g_v148 (after midL V)) (g_v149 (after midL V)) :=
  eq2 mid_map 20 rfl (inA mid_map 20 V) (inA mid_map 20 V)

theorem mid_v151 : g_v151 (after midL V)
    = broadcastInDim S1x16384x4x512 ![0, 1, 2, 3] bcast_S1x16384x4x1_S1x16384x4x512_0_1_2_3 (g_v143 (after midL V)) :=
  eq1 mid_map 21 rfl (inA mid_map 21 V)

theorem mid_v152 : g_v152 (after midL V)
    = subf (g_v139 (after midL V)) (g_v151 (after midL V)) :=
  eq2 mid_map 22 rfl (inA mid_map 22 V) (inA mid_map 22 V)

theorem mid_cst_21 : g_cst_21 (after midL V)
    = constant S_ .f32 0x3727C5AC#32 :=
  eq0 mid_map 23 rfl V

theorem mid_v153 : g_v153 (after midL V)
    = broadcastInDim S1x16384x4x1 ![] bcast_S_S1x16384x4x1 (g_cst_21 (after midL V)) :=
  eq1 mid_map 24 rfl (inA mid_map 24 V)

theorem mid_v154 : g_v154 (after midL V)
    = addf (g_v150 (after midL V)) (g_v153 (after midL V)) :=
  eq2 mid_map 25 rfl (inA mid_map 25 V) (inA mid_map 25 V)

theorem mid_v155 : g_v155 (after midL V)
    = Host.rsqrt (g_v154 (after midL V)) :=
  eq1 mid_map 26 rfl (inA mid_map 26 V)

theorem mid_v156 : g_v156 (after midL V)
    = broadcastInDim S1x16384x4x512 ![0, 1, 2, 3] bcast_S1x16384x4x1_S1x16384x4x512_0_1_2_3 (g_v155 (after midL V)) :=
  eq1 mid_map 27 rfl (inA mid_map 27 V)

theorem mid_v157 : g_v157 (after midL V)
    = mulf (g_v152 (after midL V)) (g_v156 (after midL V)) :=
  eq2 mid_map 28 rfl (inA mid_map 28 V) (inA mid_map 28 V)

theorem mid_v158 : g_v158 (after midL V)
    = shapeCast S1x16384x2048 (g_v157 (after midL V)) shapeCasts_S1x16384x4x512_S1x16384x2048 :=
  eqR mid_map 29 rfl (inA mid_map 29 V)

theorem mid_v159 : g_v159 (after midL V)
    = broadcastInDim S1x1x2048 ![2] bcast_S2048_S1x1x2048_2 (g_arg1 V) :=
  eq1 mid_map 30 rfl (inV mid_map 30 V)

theorem mid_v160 : g_v160 (after midL V)
    = broadcastInDim S1x16384x2048 ![0, 1, 2] bcast_S1x1x2048_S1x16384x2048_0_1_2 (g_v159 (after midL V)) :=
  eq1 mid_map 31 rfl (inA mid_map 31 V)

theorem mid_v161 : g_v161 (after midL V)
    = mulf (g_v158 (after midL V)) (g_v160 (after midL V)) :=
  eq2 mid_map 32 rfl (inA mid_map 32 V) (inA mid_map 32 V)

theorem mid_call6_v0 : g_call6_v0 (after midL V)
    = Host.negf (g_v138 (after midL V)) :=
  eq1 mid_map 33 rfl (inA mid_map 33 V)

theorem mid_call6_v1 : g_call6_v1 (after midL V)
    = Host.exp (g_call6_v0 (after midL V)) :=
  eq1 mid_map 34 rfl (inA mid_map 34 V)

theorem mid_call6_cst : g_call6_cst (after midL V)
    = constant S_ .f32 0x3F800000#32 :=
  eq0 mid_map 35 rfl V

theorem mid_call6_v2 : g_call6_v2 (after midL V)
    = broadcastInDim S1x16384x2048 ![] bcast_S_S1x16384x2048 (g_call6_cst (after midL V)) :=
  eq1 mid_map 36 rfl (inA mid_map 36 V)

theorem mid_call6_v3 : g_call6_v3 (after midL V)
    = addf (g_call6_v2 (after midL V)) (g_call6_v1 (after midL V)) :=
  eq2 mid_map 37 rfl (inA mid_map 37 V) (inA mid_map 37 V)

theorem mid_call6_cst_0 : g_call6_cst_0 (after midL V)
    = constant S_ .f32 0x3F800000#32 :=
  eq0 mid_map 38 rfl V

theorem mid_call6_v4 : g_call6_v4 (after midL V)
    = broadcastInDim S1x16384x2048 ![] bcast_S_S1x16384x2048 (g_call6_cst_0 (after midL V)) :=
  eq1 mid_map 39 rfl (inA mid_map 39 V)

theorem mid_call6_v5 : g_call6_v5 (after midL V)
    = Host.divf (g_call6_v4 (after midL V)) (g_call6_v3 (after midL V)) :=
  eq2 mid_map 40 rfl (inA mid_map 40 V) (inA mid_map 40 V)

theorem mid_v162 : g_v162 (after midL V)
    = mulf (g_v138 (after midL V)) (g_call6_v5 (after midL V)) :=
  eq2 mid_map 41 rfl (inA mid_map 41 V) (inA mid_map 41 V)

theorem mid_v163 : g_v163 (after midL V)
    = mulf (g_v162 (after midL V)) (g_v161 (after midL V)) :=
  eq2 mid_map 42 rfl (inA mid_map 42 V) (inA mid_map 42 V)

theorem mid_v164 : g_v164 (after midL V)
    = truncf .bf16 (g_v163 (after midL V)) bitsLt_bf16_f32 :=
  eq1 mid_map 43 rfl (inA mid_map 43 V)

theorem mid_v165 : g_v165 (after midL V)
    = extf .f32 (g_arg3 V) bitsLt_bf16_f32 :=
  eq1 mid_map 44 rfl (inV mid_map 44 V)

theorem mid_v166 : g_v166 (after midL V)
    = broadcastInDim S1x16384x2048 ![1, 2] bcast_S16384x2048_S1x16384x2048_1_2 (g_v165 (after midL V)) :=
  eq1 mid_map 45 rfl (inA mid_map 45 V)

theorem mid_v168 : g_v168 (after midL V)
    = shapeCast S1x256x64x4x512 (g_v166 (after midL V)) shapeCasts_S1x16384x2048_S1x256x64x4x512 :=
  eqR mid_map 48 rfl (inA mid_map 48 V)

theorem mid_v169 : g_v169 (after midL V)
    = transpose S256x1x64x4x512 [1, 0, 2, 3, 4] (g_v168 (after midL V)) transposes_S1x256x64x4x512_S256x1x64x4x512_1_0_2_3_4 :=
  eq1 mid_map 49 rfl (inA mid_map 49 V)

theorem mid_cst_23 : g_cst_23 (after midL V)
    = constant S_ .f32 0x00000000#32 :=
  eq0 mid_map 50 rfl V

theorem mid_v170 : g_v170 (after midL V)
    = broadcastInDim S1x4x256x512 ![] bcast_S_S1x4x256x512 (g_cst_23 (after midL V)) :=
  eq1 mid_map 51 rfl (inA mid_map 51 V)

theorem mid_c_27 : g_c_27 (after midL V)
    = constantI S_ 32 0#32 :=
  eq0 mid_map 58 rfl V

theorem mid_v174_0 : g_v174_0 (after midL V)
    = (g_v169 (after midL V)) :=
  eq1 mid_map 59 rfl (inA mid_map 59 V)

theorem mid_v174_1 : g_v174_1 (after midL V)
    = (g_v124 V) :=
  eq1 mid_map 60 rfl (inV mid_map 60 V)

theorem mid_v174_2 : g_v174_2 (after midL V)
    = (g_v133_9 V) :=
  eq1 mid_map 61 rfl (inV mid_map 61 V)

theorem mid_v174_3 : g_v174_3 (after midL V)
    = (g_v126 V) :=
  eq1 mid_map 62 rfl (inV mid_map 62 V)

theorem mid_v174_4 : g_v174_4 (after midL V)
    = (g_v133_10 V) :=
  eq1 mid_map 63 rfl (inV mid_map 63 V)

theorem mid_v174_5 : g_v174_5 (after midL V)
    = (g_v127 V) :=
  eq1 mid_map 64 rfl (inV mid_map 64 V)

theorem mid_v174_6 : g_v174_6 (after midL V)
    = (g_v128 V) :=
  eq1 mid_map 65 rfl (inV mid_map 65 V)

theorem mid_v174_7 : g_v174_7 (after midL V)
    = (g_v129 V) :=
  eq1 mid_map 66 rfl (inV mid_map 66 V)

theorem mid_v174_8 : g_v174_8 (after midL V)
    = (g_c_27 (after midL V)) :=
  eq1 mid_map 67 rfl (inA mid_map 67 V)

theorem mid_v174_9 : g_v174_9 (after midL V)
    = (g_v170 (after midL V)) :=
  eq1 mid_map 68 rfl (inA mid_map 68 V)

end Cert.ReferenceIdeal.Ret
-- ==== Proof.RefMid.lean ====
module

public import proofs.«01_k».proof.Proof.RefEqsMid
public import proofs.«01_k».proof.Proof.Gate

/-! # The reference's output, normalised and gated -/

@[expose] public section

set_option maxRecDepth 16384

noncomputable section

namespace Cert.ReferenceIdeal.Ret

open Idealize.ShloMosaic Cert.ReferenceIdeal.Gen Idealize.ShloMosaic.TcCoe Idealize.ShloMosaic.StableHlo Cert.Retention

variable (V : Valuation τ sig (Elt Ideal)) (P Y : ℕ → ℕ → ℝ)
  (hP : ∀ (i : Fin 16384) (j : Fin 6144), g_arg0 V (ix2 i j) = ((P i j : ℝ) : EReal))
  (hY : ∀ (i : Fin 16384) (e : Fin 2048), g_v136 (after midL V) (ix3 0 i e) = ((Y i e : ℝ) : EReal))

theorem v136_val (i : Fin 16384) (e : Fin 2048) : g_v136 (after midL V) (ix3 0 i e)
    = g_v103 V (ix5 0 ⟨i / 64, by omega⟩ ⟨i % 64, by omega⟩ ⟨e / 512, by omega⟩ ⟨e % 512, by omega⟩)
      + g_v133_8 V (ix5 ⟨i / 64, by omega⟩ 0 ⟨i % 64, by omega⟩ ⟨e / 512, by omega⟩ ⟨e % 512, by omega⟩) := by
  simp only [mid_v136, mid_v135, mid_v134]
  pointwise []

include hY in
theorem v157_val (i : Fin 16384) (h : Fin 4) (e : Fin 512) : g_v157 (after midL V) (ix4 0 i h e)
    = ((norm (fun x => Y i (h * 512 + x)) e : ℝ) : EReal) := by
  simp only [mid_v157, mid_v152, mid_v139, mid_v151, mid_v143, mid_v141, mid_v140, mid_cst_17, mid_v142, mid_cst_18, mid_v156, mid_v155, mid_v154, mid_v150, mid_v148, mid_v147, mid_v146, mid_v145, mid_v144, mid_cst_19, mid_v149, mid_cst_20, mid_v153, mid_cst_21]
  pointwise []
  simp only [hY]
  rw [mean_real (fun x => Y i (h * 512 + x))]
  simp only [← EReal.coe_sub]
  rw [variance_real (fun x => Y i (h * 512 + x)), root_real, ← EReal.coe_mul]
  rfl

include hY hP in
theorem v164_val (i : Fin 16384) (e : Fin 2048) : g_v164 (after midL V) (ix3 0 i e)
    = gated (P i (4096 + e)) (fun x => Y i (e / 512 * 512 + x)) (e % 512) (g_arg1 V (ix1 e)) := by
  simp only [mid_v164, mid_v163, mid_v162, mid_v138, mid_v137, mid_call6_v5, mid_call6_v4, mid_call6_cst_0, mid_call6_v3, mid_call6_v2, mid_call6_cst, mid_call6_v1, mid_call6_v0, mid_v161, mid_v158, mid_v160, mid_v159]
  pointwise []
  rw [v157_val V Y hY, hP, silu_real]
  rfl

theorem v168_val (n : Fin 256) (r : Fin 64) (h : Fin 4) (e : Fin 512) : g_v168 (after midL V) (ix5 0 n r h e)
    = g_arg3 V (ix2 ⟨n * 64 + r, by omega⟩ ⟨h * 512 + e, by omega⟩) := by
  simp only [mid_v168, mid_v166, mid_v165]
  pointwise []
theorem v169_val (n : Fin 256) (r : Fin 64) (h : Fin 4) (e : Fin 512) : g_v169 (after midL V) (ix5 n 0 r h e)
    = g_v168 (after midL V) (ix5 0 n r h e) := by
  simp only [mid_v169]
  pointwise []
theorem v170_val (h : Fin 4) (d : Fin 256) (e : Fin 512) : g_v170 (after midL V) (ix4 0 h d e) = 0 := by
  simp only [mid_v170, mid_cst_23]
  pointwise []

end Cert.ReferenceIdeal.Ret
-- ==== Proof.RefEqsPost.lean ====
module

public import proofs.«01_k».proof.Proof.RefGet

/-! # The equations of the reference's last stretch -/

@[expose] public section

set_option maxRecDepth 16384

noncomputable section

namespace Cert.ReferenceIdeal.Ret

open Idealize.ShloMosaic Idealize.ShloMosaic.StableHlo
open Idealize.ShloMosaic.TcCoe
open Cert.ReferenceIdeal.Gen Cert.Line

variable {F : FTy → Type} [FloatOps F] (V : Valuation τ sig (Elt F))

def postL : List (HloOp τ sig (Elt F)) := post0 ++ (post1)
abbrev post_Ws : List (Ref sig .tc) := [main_v175, main_v176, main_v177, main_v178, main_v179, main_v180, main_v181, main_v182, main_v183, main_v184, main_v185, main_v186, main_v187, main_v188, main_v189, main_v190, main_v191, main_v192, main_v193, main_v194, main_cst_28, main_v195, main_v196, main_v197, main_v198, main_v199, main_v200, main_v201, main_v202, main_v203, main_v204, main_v205, main_v206, main_v207, main_v208, main_v209, main_cst_29, main_v210, main_cst_30, main_v211, main_v212, main_v213, main_v214, main_v215, main_v216, main_v217, main_v218, main_v219, main_v220, main_v221, main_v222, main_v223, main_v224, main_v225, main_v226, main_cst_31, main_v227, main_cst_32, main_v228, main_v229, main_v230, main_v231, main_v232, main_v233, main_v234, main_v235, main_v236, main_v237, main_v238]
attribute [local irreducible] after

theorem post_map : (postL : List (HloOp τ sig (Elt F))).map HloOp.writes = post_Ws.map fun w => {Proc.devRef (τ := τ) .tc w} := rfl
theorem post_after : after postL V = afterL postI (V) := by
  unfold postL; simp only [after_append, afterL_cons, afterL_nil]

theorem post_v175 : g_v175 (after postL V)
    = transpose S1x256x64x4x512 [1, 0, 2, 3, 4] (g_v174_12 V) transposes_S256x1x64x4x512_S1x256x64x4x512_1_0_2_3_4 :=
  eq1 post_map 0 rfl (inV post_map 0 V)

theorem post_v176 : g_v176 (after postL V)
    = transpose S1x256x64x4x256 [1, 0, 2, 3, 4] (g_v174_11 V) transposes_S256x1x64x4x256_S1x256x64x4x256_1_0_2_3_4 :=
  eq1 post_map 1 rfl (inV post_map 1 V)

theorem post_v177 : g_v177 (after postL V)
    = transpose S1x256x64x4x256 [1, 0, 2, 3, 4] (g_v174_10 V) transposes_S256x1x64x4x256_S1x256x64x4x256_1_0_2_3_4 :=
  eq1 post_map 2 rfl (inV post_map 2 V)

theorem post_v178 : g_v178 (after postL V)
    = transpose S1x256x4x512x64 [0, 1, 3, 4, 2] (g_v168 V) transposes_S1x256x64x4x512_S1x256x4x512x64_0_1_3_4_2 :=
  eq1 post_map 3 rfl (inV post_map 3 V)

theorem post_v179 : g_v179 (after postL V)
    = Host.dotGeneral dot_S1x256x4x512x64_S1x256x64x4x512_S1x256x4x64x64_3_4_4_2_012_013 none (g_v178 (after postL V)) (g_v76 V) :=
  eq2 post_map 4 rfl (inA post_map 4 V) (inV post_map 4 V)

theorem post_v180 : g_v180 (after postL V)
    = Host.dotGeneral dot_S1x256x4x512x64_S1x256x4x64x64_S1x256x4x512x64_4_3_3_4_012_012 none (g_v178 (after postL V)) (g_v101 V) :=
  eq2 post_map 5 rfl (inA post_map 5 V) (inV post_map 5 V)

theorem post_v181 : g_v181 (after postL V)
    = transpose S1x256x64x4x512 [0, 1, 4, 2, 3] (g_v180 (after postL V)) transposes_S1x256x4x512x64_S1x256x64x4x512_0_1_4_2_3 :=
  eq1 post_map 6 rfl (inA post_map 6 V)

theorem post_v182 : g_v182 (after postL V)
    = addf (g_v175 (after postL V)) (g_v181 (after postL V)) :=
  eq2 post_map 7 rfl (inA post_map 7 V) (inA post_map 7 V)

theorem post_v183 : g_v183 (after postL V)
    = broadcastInDim S1x256x4x64x64 ![0, 1, 2, 3, 4] bcast_S1x1x4x64x64_S1x256x4x64x64_0_1_2_3_4 (g_v99 V) :=
  eq1 post_map 8 rfl (inV post_map 8 V)

theorem post_v184 : g_v184 (after postL V)
    = mulf (g_v179 (after postL V)) (g_v183 (after postL V)) :=
  eq2 post_map 9 rfl (inA post_map 9 V) (inA post_map 9 V)

theorem post_v185 : g_v185 (after postL V)
    = Host.dotGeneral dot_S1x256x4x64x64_S1x256x64x4x256_S1x256x4x64x256_3_2_4_4_012_013 none (g_v184 (after postL V)) (g_v74 V) :=
  eq2 post_map 10 rfl (inA post_map 10 V) (inV post_map 10 V)

theorem post_v186 : g_v186 (after postL V)
    = transpose S1x256x64x4x256 [0, 1, 3, 2, 4] (g_v185 (after postL V)) transposes_S1x256x4x64x256_S1x256x64x4x256_0_1_3_2_4 :=
  eq1 post_map 11 rfl (inA post_map 11 V)

theorem post_v187 : g_v187 (after postL V)
    = addf (g_v176 (after postL V)) (g_v186 (after postL V)) :=
  eq2 post_map 12 rfl (inA post_map 12 V) (inA post_map 12 V)

theorem post_v188 : g_v188 (after postL V)
    = Host.dotGeneral dot_S1x256x4x64x64_S1x256x64x4x256_S1x256x4x64x256_4_2_3_4_012_013 none (g_v184 (after postL V)) (g_v75 V) :=
  eq2 post_map 13 rfl (inA post_map 13 V) (inV post_map 13 V)

theorem post_v189 : g_v189 (after postL V)
    = transpose S1x256x64x4x256 [0, 1, 3, 2, 4] (g_v188 (after postL V)) transposes_S1x256x4x64x256_S1x256x64x4x256_0_1_3_2_4 :=
  eq1 post_map 14 rfl (inA post_map 14 V)

theorem post_v190 : g_v190 (after postL V)
    = addf (g_v177 (after postL V)) (g_v189 (after postL V)) :=
  eq2 post_map 15 rfl (inA post_map 15 V) (inA post_map 15 V)

theorem post_v191 : g_v191 (after postL V)
    = shapeCast S1x16384x4x512 (g_v182 (after postL V)) shapeCasts_S1x256x64x4x512_S1x16384x4x512 :=
  eqR post_map 16 rfl (inA post_map 16 V)

theorem post_v192 : g_v192 (after postL V)
    = shapeCast S1x16384x4x256 (g_v187 (after postL V)) shapeCasts_S1x256x64x4x256_S1x16384x4x256 :=
  eqR post_map 17 rfl (inA post_map 17 V)

theorem post_v193 : g_v193 (after postL V)
    = shapeCast S1x16384x4x256 (g_v190 (after postL V)) shapeCasts_S1x256x64x4x256_S1x16384x4x256 :=
  eqR post_map 18 rfl (inA post_map 18 V)

theorem post_v194 : g_v194 (after postL V)
    = shapeCast S1x16384x2048 (g_v191 (after postL V)) shapeCasts_S1x16384x4x512_S1x16384x2048 :=
  eqR post_map 19 rfl (inA post_map 19 V)

theorem post_cst_28 : g_cst_28 (after postL V)
    = constant S_ .f32 0x3D800000#32 :=
  eq0 post_map 20 rfl V

theorem post_v195 : g_v195 (after postL V)
    = broadcastInDim S1x16384x4x256 ![] bcast_S_S1x16384x4x256 (g_cst_28 (after postL V)) :=
  eq1 post_map 21 rfl (inA post_map 21 V)

theorem post_v196 : g_v196 (after postL V)
    = mulf (g_v192 (after postL V)) (g_v195 (after postL V)) :=
  eq2 post_map 22 rfl (inA post_map 22 V) (inA post_map 22 V)

theorem post_v197 : g_v197 (after postL V)
    = extractStridedSlice S1x16384x4x128 ![0, 0, 0, 0] (g_v196 (after postL V)) slices_S1x16384x4x256_S1x16384x4x128_0_0_0_0 :=
  eq1 post_map 23 rfl (inA post_map 23 V)

theorem post_v198 : g_v198 (after postL V)
    = extractStridedSlice S1x16384x4x128 ![0, 0, 0, 128] (g_v196 (after postL V)) slices_S1x16384x4x256_S1x16384x4x128_0_0_0_128 :=
  eq1 post_map 24 rfl (inA post_map 24 V)

theorem post_v199 : g_v199 (after postL V)
    = broadcastInDim S1x16384x4x128 ![0, 1, 2, 3] bcast_S1x16384x1x128_S1x16384x4x128_0_1_2_3 (g_v56 V) :=
  eq1 post_map 25 rfl (inV post_map 25 V)

theorem post_v200 : g_v200 (after postL V)
    = mulf (g_v198 (after postL V)) (g_v199 (after postL V)) :=
  eq2 post_map 26 rfl (inA post_map 26 V) (inA post_map 26 V)

theorem post_v201 : g_v201 (after postL V)
    = broadcastInDim S1x16384x4x128 ![0, 1, 2, 3] bcast_S1x16384x1x128_S1x16384x4x128_0_1_2_3 (g_v57 V) :=
  eq1 post_map 27 rfl (inV post_map 27 V)

theorem post_v202 : g_v202 (after postL V)
    = mulf (g_v198 (after postL V)) (g_v201 (after postL V)) :=
  eq2 post_map 28 rfl (inA post_map 28 V) (inA post_map 28 V)

theorem post_v203 : g_v203 (after postL V)
    = Host.negf (g_v197 (after postL V)) :=
  eq1 post_map 29 rfl (inA post_map 29 V)

theorem post_v204 : g_v204 (after postL V)
    = broadcastInDim S1x16384x4x128 ![0, 1, 2, 3] bcast_S1x16384x1x128_S1x16384x4x128_0_1_2_3 (g_v57 V) :=
  eq1 post_map 30 rfl (inV post_map 30 V)

theorem post_v205 : g_v205 (after postL V)
    = mulf (g_v203 (after postL V)) (g_v204 (after postL V)) :=
  eq2 post_map 31 rfl (inA post_map 31 V) (inA post_map 31 V)

theorem post_v206 : g_v206 (after postL V)
    = addf (g_v200 (after postL V)) (g_v205 (after postL V)) :=
  eq2 post_map 32 rfl (inA post_map 32 V) (inA post_map 32 V)

theorem post_v207 : g_v207 (after postL V)
    = broadcastInDim S1x16384x4x128 ![0, 1, 2, 3] bcast_S1x16384x1x128_S1x16384x4x128_0_1_2_3 (g_v56 V) :=
  eq1 post_map 33 rfl (inV post_map 33 V)

theorem post_v208 : g_v208 (after postL V)
    = mulf (g_v197 (after postL V)) (g_v207 (after postL V)) :=
  eq2 post_map 34 rfl (inA post_map 34 V) (inA post_map 34 V)

theorem post_v209 : g_v209 (after postL V)
    = addf (g_v202 (after postL V)) (g_v208 (after postL V)) :=
  eq2 post_map 35 rfl (inA post_map 35 V) (inA post_map 35 V)

theorem post_cst_29 : g_cst_29 (after postL V)
    = constant S_ .f32 0x00000000#32 :=
  eq0 post_map 36 rfl V

theorem post_v210 : g_v210 (after postL V)
    = pad S1x16384x4x256 ![0, 0, 0, 128] ![0, 0, 0, 0] ![0, 0, 0, 0] (g_v206 (after postL V)) (g_cst_29 (after postL V)) pads_S1x16384x4x128_S1x16384x4x256_000_000_000_12800 h_S_ :=
  eq2 post_map 37 rfl (inA post_map 37 V) (inA post_map 37 V)

theorem post_cst_30 : g_cst_30 (after postL V)
    = constant S_ .f32 0x00000000#32 :=
  eq0 post_map 38 rfl V

theorem post_v211 : g_v211 (after postL V)
    = pad S1x16384x4x256 ![0, 0, 0, 0] ![0, 0, 0, 128] ![0, 0, 0, 0] (g_v209 (after postL V)) (g_cst_30 (after postL V)) pads_S1x16384x4x128_S1x16384x4x256_000_000_000_01280 h_S_ :=
  eq2 post_map 39 rfl (inA post_map 39 V) (inA post_map 39 V)

theorem post_v212 : g_v212 (after postL V)
    = addf (g_v210 (after postL V)) (g_v211 (after postL V)) :=
  eq2 post_map 40 rfl (inA post_map 40 V) (inA post_map 40 V)

theorem post_v213 : g_v213 (after postL V)
    = shapeCast S1x16384x1024 (g_v212 (after postL V)) shapeCasts_S1x16384x4x256_S1x16384x1024 :=
  eqR post_map 41 rfl (inA post_map 41 V)

theorem post_v214 : g_v214 (after postL V)
    = extractStridedSlice S1x16384x4x128 ![0, 0, 0, 0] (g_v193 (after postL V)) slices_S1x16384x4x256_S1x16384x4x128_0_0_0_0 :=
  eq1 post_map 42 rfl (inA post_map 42 V)

theorem post_v215 : g_v215 (after postL V)
    = extractStridedSlice S1x16384x4x128 ![0, 0, 0, 128] (g_v193 (after postL V)) slices_S1x16384x4x256_S1x16384x4x128_0_0_0_128 :=
  eq1 post_map 43 rfl (inA post_map 43 V)

theorem post_v216 : g_v216 (after postL V)
    = broadcastInDim S1x16384x4x128 ![0, 1, 2, 3] bcast_S1x16384x1x128_S1x16384x4x128_0_1_2_3 (g_v24 V) :=
  eq1 post_map 44 rfl (inV post_map 44 V)

theorem post_v217 : g_v217 (after postL V)
    = mulf (g_v215 (after postL V)) (g_v216 (after postL V)) :=
  eq2 post_map 45 rfl (inA post_map 45 V) (inA post_map 45 V)

theorem post_v218 : g_v218 (after postL V)
    = broadcastInDim S1x16384x4x128 ![0, 1, 2, 3] bcast_S1x16384x1x128_S1x16384x4x128_0_1_2_3 (g_v25 V) :=
  eq1 post_map 46 rfl (inV post_map 46 V)

theorem post_v219 : g_v219 (after postL V)
    = mulf (g_v215 (after postL V)) (g_v218 (after postL V)) :=
  eq2 post_map 47 rfl (inA post_map 47 V) (inA post_map 47 V)

theorem post_v220 : g_v220 (after postL V)
    = Host.negf (g_v214 (after postL V)) :=
  eq1 post_map 48 rfl (inA post_map 48 V)

theorem post_v221 : g_v221 (after postL V)
    = broadcastInDim S1x16384x4x128 ![0, 1, 2, 3] bcast_S1x16384x1x128_S1x16384x4x128_0_1_2_3 (g_v25 V) :=
  eq1 post_map 49 rfl (inV post_map 49 V)

theorem post_v222 : g_v222 (after postL V)
    = mulf (g_v220 (after postL V)) (g_v221 (after postL V)) :=
  eq2 post_map 50 rfl (inA post_map 50 V) (inA post_map 50 V)

theorem post_v223 : g_v223 (after postL V)
    = addf (g_v217 (after postL V)) (g_v222 (after postL V)) :=
  eq2 post_map 51 rfl (inA post_map 51 V) (inA post_map 51 V)

theorem post_v224 : g_v224 (after postL V)
    = broadcastInDim S1x16384x4x128 ![0, 1, 2, 3] bcast_S1x16384x1x128_S1x16384x4x128_0_1_2_3 (g_v24 V) :=
  eq1 post_map 52 rfl (inV post_map 52 V)

theorem post_v225 : g_v225 (after postL V)
    = mulf (g_v214 (after postL V)) (g_v224 (after postL V)) :=
  eq2 post_map 53 rfl (inA post_map 53 V) (inA post_map 53 V)

theorem post_v226 : g_v226 (after postL V)
    = addf (g_v219 (after postL V)) (g_v225 (after postL V)) :=
  eq2 post_map 54 rfl (inA post_map 54 V) (inA post_map 54 V)

theorem post_cst_31 : g_cst_31 (after postL V)
    = constant S_ .f32 0x00000000#32 :=
  eq0 post_map 55 rfl V

theorem post_v227 : g_v227 (after postL V)
    = pad S1x16384x4x256 ![0, 0, 0, 128] ![0, 0, 0, 0] ![0, 0, 0, 0] (g_v223 (after postL V)) (g_cst_31 (after postL V)) pads_S1x16384x4x128_S1x16384x4x256_000_000_000_12800 h_S_ :=
  eq2 post_map 56 rfl (inA post_map 56 V) (inA post_map 56 V)

theorem post_cst_32 : g_cst_32 (after postL V)
    = constant S_ .f32 0x00000000#32 :=
  eq0 post_map 57 rfl V

theorem post_v228 : g_v228 (after postL V)
    = pad S1x16384x4x256 ![0, 0, 0, 0] ![0, 0, 0, 128] ![0, 0, 0, 0] (g_v226 (after postL V)) (g_cst_32 (after postL V)) pads_S1x16384x4x128_S1x16384x4x256_000_000_000_01280 h_S_ :=
  eq2 post_map 58 rfl (inA post_map 58 V) (inA post_map 58 V)

theorem post_v229 : g_v229 (after postL V)
    = addf (g_v227 (after postL V)) (g_v228 (after postL V)) :=
  eq2 post_map 59 rfl (inA post_map 59 V) (inA post_map 59 V)

theorem post_v230 : g_v230 (after postL V)
    = shapeCast S1x16384x1024 (g_v229 (after postL V)) shapeCasts_S1x16384x4x256_S1x16384x1024 :=
  eqR post_map 60 rfl (inA post_map 60 V)

theorem post_v231 : g_v231 (after postL V)
    = shapeCast S16384x2048 (g_v164 V) shapeCasts_S1x16384x2048_S16384x2048 :=
  eqR post_map 61 rfl (inV post_map 61 V)

theorem post_v232 : g_v232 (after postL V)
    = shapeCast S16384x2048 (g_v136 V) shapeCasts_S1x16384x2048_S16384x2048 :=
  eqR post_map 62 rfl (inV post_map 62 V)

theorem post_v233 : g_v233 (after postL V)
    = shapeCast S16384x1024 (g_v230 (after postL V)) shapeCasts_S1x16384x1024_S16384x1024 :=
  eqR post_map 63 rfl (inA post_map 63 V)

theorem post_v234 : g_v234 (after postL V)
    = truncf .bf16 (g_v233 (after postL V)) bitsLt_bf16_f32 :=
  eq1 post_map 64 rfl (inA post_map 64 V)

theorem post_v235 : g_v235 (after postL V)
    = shapeCast S16384x1024 (g_v213 (after postL V)) shapeCasts_S1x16384x1024_S16384x1024 :=
  eqR post_map 65 rfl (inA post_map 65 V)

theorem post_v236 : g_v236 (after postL V)
    = truncf .bf16 (g_v235 (after postL V)) bitsLt_bf16_f32 :=
  eq1 post_map 66 rfl (inA post_map 66 V)

theorem post_v237 : g_v237 (after postL V)
    = shapeCast S16384x2048 (g_v194 (after postL V)) shapeCasts_S1x16384x2048_S16384x2048 :=
  eqR post_map 67 rfl (inA post_map 67 V)

theorem post_v238 : g_v238 (after postL V)
    = truncf .bf16 (g_v237 (after postL V)) bitsLt_bf16_f32 :=
  eq1 post_map 68 rfl (inA post_map 68 V)

end Cert.ReferenceIdeal.Ret
-- ==== Proof.RefEqsTripB.lean ====
module

public import proofs.«01_k».proof.Proof.RefGet

/-! # The equations of the reference's reverse scan's trip -/

@[expose] public section

set_option maxRecDepth 16384

noncomputable section

namespace Cert.ReferenceIdeal.Ret

open Idealize.ShloMosaic Idealize.ShloMosaic.StableHlo
open Idealize.ShloMosaic.TcCoe
open Cert.ReferenceIdeal.Gen Cert.Line

variable {F : FTy → Type} [FloatOps F] (V : Valuation τ sig (Elt F))

def tripBL : List (HloOp τ sig (Elt F)) := condB ++ (bodyB0 ++ (bodyB1 ++ (bodyB2 ++ (bodyB3 ++ (bodyB4 ++ (bodyB5 ++ (bodyB6 ++ (bodyB7 ++ (bodyB8 ++ (bodyB9 ++ (bodyB10)))))))))))
abbrev tripB_Ws : List (Ref sig .tc) := [main_while1c_c_45, main_while1c_v239, main_while1b_c_45, main_while1b_v239, main_while1b_c_46, main_while1b_v240, main_while1b_call7_c, main_while1b_call7_c_0, main_while1b_call7_c_1, main_while1b_call7_c_2, main_while1b_call7_v0, main_while1b_v241, main_while1b_call8_c, main_while1b_call8_c_0, main_while1b_call8_c_1, main_while1b_call8_c_2, main_while1b_call8_v0, main_while1b_v242, main_while1b_call9_c, main_while1b_call9_c_0, main_while1b_call9_c_1, main_while1b_call9_c_2, main_while1b_call9_v0, main_while1b_v243, main_while1b_call10_c, main_while1b_call10_c_0, main_while1b_call10_c_1, main_while1b_call10_c_2, main_while1b_call10_v0, main_while1b_v244, main_while1b_call11_c, main_while1b_call11_c_0, main_while1b_call11_c_1, main_while1b_call11_c_2, main_while1b_call11_v0, main_while1b_v245, main_while1b_v246, main_while1b_v247, main_while1b_v248, main_while1b_v249, main_while1b_v250, main_while1b_v251, main_while1b_v252, main_while1b_v253, main_while1b_v254, main_while1b_v255, main_while1b_v256, main_while1b_v257, main_while1b_v258, main_while1b_v259, main_while1b_v260, main_while1b_v261, main_while1b_call12_v0, main_while1b_call12_c, main_while1b_call12_c_0, main_while1b_call12_c_1, main_while1b_call12_c_2, main_while1b_v262, main_while1b_call13_v0, main_while1b_call13_c, main_while1b_call13_c_0, main_while1b_call13_c_1, main_while1b_call13_c_2, main_while1b_v263, main_while1b_call14_v0, main_while1b_call14_c, main_while1b_call14_c_0, main_while1b_call14_c_1, main_while1b_call14_c_2, main_while1b_v264, main_while1b_c_47, main_while1b_v265, main_v174_8, main_v174_9, main_v174_10, main_v174_11, main_v174_12]
attribute [local irreducible] after

theorem tripB_map : (tripBL : List (HloOp τ sig (Elt F))).map HloOp.writes = tripB_Ws.map fun w => {Proc.devRef (τ := τ) .tc w} := rfl
theorem tripB_after : after tripBL V = afterL bodyBI (after condB V) := by
  unfold tripBL; simp only [after_append, afterL_cons, afterL_nil]

theorem tripB_b_c_45 : g_b_c_45 (after tripBL V)
    = constantI S_ 32 256#32 :=
  eq0 tripB_map 2 rfl V

theorem tripB_b_v239 : g_b_v239 (after tripBL V)
    = subi (g_b_c_45 (after tripBL V)) (g_v174_8 V) :=
  eq2 tripB_map 3 rfl (inA tripB_map 3 V) (inV tripB_map 3 V)

theorem tripB_b_c_46 : g_b_c_46 (after tripBL V)
    = constantI S_ 32 1#32 :=
  eq0 tripB_map 4 rfl V

theorem tripB_b_v240 : g_b_v240 (after tripBL V)
    = subi (g_b_v239 (after tripBL V)) (g_b_c_46 (after tripBL V)) :=
  eq2 tripB_map 5 rfl (inA tripB_map 5 V) (inA tripB_map 5 V)

theorem tripB_b_call7_c : g_b_call7_c (after tripBL V)
    = constantI S_ 32 0#32 :=
  eq0 tripB_map 6 rfl V

theorem tripB_b_call7_c_0 : g_b_call7_c_0 (after tripBL V)
    = constantI S_ 32 0#32 :=
  eq0 tripB_map 7 rfl V

theorem tripB_b_call7_c_1 : g_b_call7_c_1 (after tripBL V)
    = constantI S_ 32 0#32 :=
  eq0 tripB_map 8 rfl V

theorem tripB_b_call7_c_2 : g_b_call7_c_2 (after tripBL V)
    = constantI S_ 32 0#32 :=
  eq0 tripB_map 9 rfl V

theorem tripB_b_call7_v0 : g_b_call7_v0 (after tripBL V)
    = Host.dynamicSlice S1x1x64x4x512 (g_v174_0 V) (fun k => ((![(g_b_v240 (after tripBL V)), (g_b_call7_c (after tripBL V)), (g_b_call7_c_0 (after tripBL V)), (g_b_call7_c_1 (after tripBL V)), (g_b_call7_c_2 (after tripBL V))] : Fin 5 → IVec S_ 32) k (Shape.Idx.first h_S_)).toInt) sliceFits_S256x1x64x4x512_S1x1x64x4x512 :=
  eqUI tripB_map 10 (v := ![(g_b_v240 (after tripBL V)), (g_b_call7_c (after tripBL V)), (g_b_call7_c_0 (after tripBL V)), (g_b_call7_c_1 (after tripBL V)), (g_b_call7_c_2 (after tripBL V))]) rfl (inV tripB_map 10 V) (by intro k; fin_cases k; exact (inA tripB_map 10 (x := main_while1b_v240) V); exact (inA tripB_map 10 (x := main_while1b_call7_c) V); exact (inA tripB_map 10 (x := main_while1b_call7_c_0) V); exact (inA tripB_map 10 (x := main_while1b_call7_c_1) V); exact (inA tripB_map 10 (x := main_while1b_call7_c_2) V))

theorem tripB_b_v241 : g_b_v241 (after tripBL V)
    = shapeCast S1x64x4x512 (g_b_call7_v0 (after tripBL V)) shapeCasts_S1x1x64x4x512_S1x64x4x512 :=
  eqR tripB_map 11 rfl (inA tripB_map 11 V)

theorem tripB_b_call8_c : g_b_call8_c (after tripBL V)
    = constantI S_ 32 0#32 :=
  eq0 tripB_map 12 rfl V

theorem tripB_b_call8_c_0 : g_b_call8_c_0 (after tripBL V)
    = constantI S_ 32 0#32 :=
  eq0 tripB_map 13 rfl V

theorem tripB_b_call8_c_1 : g_b_call8_c_1 (after tripBL V)
    = constantI S_ 32 0#32 :=
  eq0 tripB_map 14 rfl V

theorem tripB_b_call8_c_2 : g_b_call8_c_2 (after tripBL V)
    = constantI S_ 32 0#32 :=
  eq0 tripB_map 15 rfl V

theorem tripB_b_call8_v0 : g_b_call8_v0 (after tripBL V)
    = Host.dynamicSlice S1x1x64x4x256 (g_v174_1 V) (fun k => ((![(g_b_v240 (after tripBL V)), (g_b_call8_c (after tripBL V)), (g_b_call8_c_0 (after tripBL V)), (g_b_call8_c_1 (after tripBL V)), (g_b_call8_c_2 (after tripBL V))] : Fin 5 → IVec S_ 32) k (Shape.Idx.first h_S_)).toInt) sliceFits_S256x1x64x4x256_S1x1x64x4x256 :=
  eqUI tripB_map 16 (v := ![(g_b_v240 (after tripBL V)), (g_b_call8_c (after tripBL V)), (g_b_call8_c_0 (after tripBL V)), (g_b_call8_c_1 (after tripBL V)), (g_b_call8_c_2 (after tripBL V))]) rfl (inV tripB_map 16 V) (by intro k; fin_cases k; exact (inA tripB_map 16 (x := main_while1b_v240) V); exact (inA tripB_map 16 (x := main_while1b_call8_c) V); exact (inA tripB_map 16 (x := main_while1b_call8_c_0) V); exact (inA tripB_map 16 (x := main_while1b_call8_c_1) V); exact (inA tripB_map 16 (x := main_while1b_call8_c_2) V))

theorem tripB_b_v242 : g_b_v242 (after tripBL V)
    = shapeCast S1x64x4x256 (g_b_call8_v0 (after tripBL V)) shapeCasts_S1x1x64x4x256_S1x64x4x256 :=
  eqR tripB_map 17 rfl (inA tripB_map 17 V)

theorem tripB_b_call9_c : g_b_call9_c (after tripBL V)
    = constantI S_ 32 0#32 :=
  eq0 tripB_map 18 rfl V

theorem tripB_b_call9_c_0 : g_b_call9_c_0 (after tripBL V)
    = constantI S_ 32 0#32 :=
  eq0 tripB_map 19 rfl V

theorem tripB_b_call9_c_1 : g_b_call9_c_1 (after tripBL V)
    = constantI S_ 32 0#32 :=
  eq0 tripB_map 20 rfl V

theorem tripB_b_call9_c_2 : g_b_call9_c_2 (after tripBL V)
    = constantI S_ 32 0#32 :=
  eq0 tripB_map 21 rfl V

theorem tripB_b_call9_v0 : g_b_call9_v0 (after tripBL V)
    = Host.dynamicSlice S1x1x4x256x512 (g_v174_2 V) (fun k => ((![(g_b_v240 (after tripBL V)), (g_b_call9_c (after tripBL V)), (g_b_call9_c_0 (after tripBL V)), (g_b_call9_c_1 (after tripBL V)), (g_b_call9_c_2 (after tripBL V))] : Fin 5 → IVec S_ 32) k (Shape.Idx.first h_S_)).toInt) sliceFits_S256x1x4x256x512_S1x1x4x256x512 :=
  eqUI tripB_map 22 (v := ![(g_b_v240 (after tripBL V)), (g_b_call9_c (after tripBL V)), (g_b_call9_c_0 (after tripBL V)), (g_b_call9_c_1 (after tripBL V)), (g_b_call9_c_2 (after tripBL V))]) rfl (inV tripB_map 22 V) (by intro k; fin_cases k; exact (inA tripB_map 22 (x := main_while1b_v240) V); exact (inA tripB_map 22 (x := main_while1b_call9_c) V); exact (inA tripB_map 22 (x := main_while1b_call9_c_0) V); exact (inA tripB_map 22 (x := main_while1b_call9_c_1) V); exact (inA tripB_map 22 (x := main_while1b_call9_c_2) V))

theorem tripB_b_v243 : g_b_v243 (after tripBL V)
    = shapeCast S1x4x256x512 (g_b_call9_v0 (after tripBL V)) shapeCasts_S1x1x4x256x512_S1x4x256x512 :=
  eqR tripB_map 23 rfl (inA tripB_map 23 V)

theorem tripB_b_call10_c : g_b_call10_c (after tripBL V)
    = constantI S_ 32 0#32 :=
  eq0 tripB_map 24 rfl V

theorem tripB_b_call10_c_0 : g_b_call10_c_0 (after tripBL V)
    = constantI S_ 32 0#32 :=
  eq0 tripB_map 25 rfl V

theorem tripB_b_call10_c_1 : g_b_call10_c_1 (after tripBL V)
    = constantI S_ 32 0#32 :=
  eq0 tripB_map 26 rfl V

theorem tripB_b_call10_c_2 : g_b_call10_c_2 (after tripBL V)
    = constantI S_ 32 0#32 :=
  eq0 tripB_map 27 rfl V

theorem tripB_b_call10_v0 : g_b_call10_v0 (after tripBL V)
    = Host.dynamicSlice S1x1x64x4x512 (g_v174_3 V) (fun k => ((![(g_b_v240 (after tripBL V)), (g_b_call10_c (after tripBL V)), (g_b_call10_c_0 (after tripBL V)), (g_b_call10_c_1 (after tripBL V)), (g_b_call10_c_2 (after tripBL V))] : Fin 5 → IVec S_ 32) k (Shape.Idx.first h_S_)).toInt) sliceFits_S256x1x64x4x512_S1x1x64x4x512 :=
  eqUI tripB_map 28 (v := ![(g_b_v240 (after tripBL V)), (g_b_call10_c (after tripBL V)), (g_b_call10_c_0 (after tripBL V)), (g_b_call10_c_1 (after tripBL V)), (g_b_call10_c_2 (after tripBL V))]) rfl (inV tripB_map 28 V) (by intro k; fin_cases k; exact (inA tripB_map 28 (x := main_while1b_v240) V); exact (inA tripB_map 28 (x := main_while1b_call10_c) V); exact (inA tripB_map 28 (x := main_while1b_call10_c_0) V); exact (inA tripB_map 28 (x := main_while1b_call10_c_1) V); exact (inA tripB_map 28 (x := main_while1b_call10_c_2) V))

theorem tripB_b_v244 : g_b_v244 (after tripBL V)
    = shapeCast S1x64x4x512 (g_b_call10_v0 (after tripBL V)) shapeCasts_S1x1x64x4x512_S1x64x4x512 :=
  eqR tripB_map 29 rfl (inA tripB_map 29 V)

theorem tripB_b_call11_c : g_b_call11_c (after tripBL V)
    = constantI S_ 32 0#32 :=
  eq0 tripB_map 30 rfl V

theorem tripB_b_call11_c_0 : g_b_call11_c_0 (after tripBL V)
    = constantI S_ 32 0#32 :=
  eq0 tripB_map 31 rfl V

theorem tripB_b_call11_c_1 : g_b_call11_c_1 (after tripBL V)
    = constantI S_ 32 0#32 :=
  eq0 tripB_map 32 rfl V

theorem tripB_b_call11_c_2 : g_b_call11_c_2 (after tripBL V)
    = constantI S_ 32 0#32 :=
  eq0 tripB_map 33 rfl V

theorem tripB_b_call11_v0 : g_b_call11_v0 (after tripBL V)
    = Host.dynamicSlice S1x1x64x4x256 (g_v174_4 V) (fun k => ((![(g_b_v240 (after tripBL V)), (g_b_call11_c (after tripBL V)), (g_b_call11_c_0 (after tripBL V)), (g_b_call11_c_1 (after tripBL V)), (g_b_call11_c_2 (after tripBL V))] : Fin 5 → IVec S_ 32) k (Shape.Idx.first h_S_)).toInt) sliceFits_S256x1x64x4x256_S1x1x64x4x256 :=
  eqUI tripB_map 34 (v := ![(g_b_v240 (after tripBL V)), (g_b_call11_c (after tripBL V)), (g_b_call11_c_0 (after tripBL V)), (g_b_call11_c_1 (after tripBL V)), (g_b_call11_c_2 (after tripBL V))]) rfl (inV tripB_map 34 V) (by intro k; fin_cases k; exact (inA tripB_map 34 (x := main_while1b_v240) V); exact (inA tripB_map 34 (x := main_while1b_call11_c) V); exact (inA tripB_map 34 (x := main_while1b_call11_c_0) V); exact (inA tripB_map 34 (x := main_while1b_call11_c_1) V); exact (inA tripB_map 34 (x := main_while1b_call11_c_2) V))

theorem tripB_b_v245 : g_b_v245 (after tripBL V)
    = shapeCast S1x64x4x256 (g_b_call11_v0 (after tripBL V)) shapeCasts_S1x1x64x4x256_S1x64x4x256 :=
  eqR tripB_map 35 rfl (inA tripB_map 35 V)

theorem tripB_b_v246 : g_b_v246 (after tripBL V)
    = Host.dotGeneral dot_S1x4x256x512_S1x64x4x256_S1x4x512x64_2_3_3_1_01_02 none (g_v174_9 V) (g_b_v245 (after tripBL V)) :=
  eq2 tripB_map 36 rfl (inV tripB_map 36 V) (inA tripB_map 36 V)

theorem tripB_b_v247 : g_b_v247 (after tripBL V)
    = transpose S1x64x4x512 [0, 3, 1, 2] (g_b_v246 (after tripBL V)) transposes_S1x4x512x64_S1x64x4x512_0_3_1_2 :=
  eq1 tripB_map 37 rfl (inA tripB_map 37 V)

theorem tripB_b_v248 : g_b_v248 (after tripBL V)
    = Host.dotGeneral dot_S1x4x256x512_S1x64x4x512_S1x4x256x64_3_3_2_1_01_02 none (g_v174_9 V) (g_b_v244 (after tripBL V)) :=
  eq2 tripB_map 38 rfl (inV tripB_map 38 V) (inA tripB_map 38 V)

theorem tripB_b_v249 : g_b_v249 (after tripBL V)
    = transpose S1x64x4x256 [0, 3, 1, 2] (g_b_v248 (after tripBL V)) transposes_S1x4x256x64_S1x64x4x256_0_3_1_2 :=
  eq1 tripB_map 39 rfl (inA tripB_map 39 V)

theorem tripB_b_v250 : g_b_v250 (after tripBL V)
    = broadcastInDim S1x64x4x256 ![0, 1, 2, 3] bcast_S1x64x4x1_S1x64x4x256_0_1_2_3 (g_v174_7 V) :=
  eq1 tripB_map 40 rfl (inV tripB_map 40 V)

theorem tripB_b_v251 : g_b_v251 (after tripBL V)
    = mulf (g_b_v249 (after tripBL V)) (g_b_v250 (after tripBL V)) :=
  eq2 tripB_map 41 rfl (inA tripB_map 41 V) (inA tripB_map 41 V)

theorem tripB_b_v252 : g_b_v252 (after tripBL V)
    = broadcastInDim S1x4x256x512 ![0, 1, 2, 3] bcast_S1x4x1x1_S1x4x256x512_0_1_2_3 (g_v174_6 V) :=
  eq1 tripB_map 42 rfl (inV tripB_map 42 V)

theorem tripB_b_v253 : g_b_v253 (after tripBL V)
    = mulf (g_v174_9 V) (g_b_v252 (after tripBL V)) :=
  eq2 tripB_map 43 rfl (inV tripB_map 43 V) (inA tripB_map 43 V)

theorem tripB_b_v254 : g_b_v254 (after tripBL V)
    = broadcastInDim S1x64x4x512 ![0, 1, 2, 3] bcast_S1x64x4x1_S1x64x4x512_0_1_2_3 (g_v174_5 V) :=
  eq1 tripB_map 44 rfl (inV tripB_map 44 V)

theorem tripB_b_v255 : g_b_v255 (after tripBL V)
    = mulf (g_b_v241 (after tripBL V)) (g_b_v254 (after tripBL V)) :=
  eq2 tripB_map 45 rfl (inA tripB_map 45 V) (inA tripB_map 45 V)

theorem tripB_b_v256 : g_b_v256 (after tripBL V)
    = transpose S1x4x512x64 [0, 2, 3, 1] (g_b_v255 (after tripBL V)) transposes_S1x64x4x512_S1x4x512x64_0_2_3_1 :=
  eq1 tripB_map 46 rfl (inA tripB_map 46 V)

theorem tripB_b_v257 : g_b_v257 (after tripBL V)
    = Host.dotGeneral dot_S1x4x512x64_S1x4x256x512_S1x4x64x256_2_3_3_2_01_01 none (g_b_v256 (after tripBL V)) (g_b_v243 (after tripBL V)) :=
  eq2 tripB_map 47 rfl (inA tripB_map 47 V) (inA tripB_map 47 V)

theorem tripB_b_v258 : g_b_v258 (after tripBL V)
    = transpose S1x64x4x256 [0, 2, 1, 3] (g_b_v257 (after tripBL V)) transposes_S1x4x64x256_S1x64x4x256_0_2_1_3 :=
  eq1 tripB_map 48 rfl (inA tripB_map 48 V)

theorem tripB_b_v259 : g_b_v259 (after tripBL V)
    = Host.dotGeneral dot_S1x4x512x64_S1x64x4x256_S1x4x512x256_3_1_2_3_01_02 none (g_b_v256 (after tripBL V)) (g_b_v242 (after tripBL V)) :=
  eq2 tripB_map 49 rfl (inA tripB_map 49 V) (inA tripB_map 49 V)

theorem tripB_b_v260 : g_b_v260 (after tripBL V)
    = transpose S1x4x256x512 [0, 1, 3, 2] (g_b_v259 (after tripBL V)) transposes_S1x4x512x256_S1x4x256x512_0_1_3_2 :=
  eq1 tripB_map 50 rfl (inA tripB_map 50 V)

theorem tripB_b_v261 : g_b_v261 (after tripBL V)
    = addf (g_b_v253 (after tripBL V)) (g_b_v260 (after tripBL V)) :=
  eq2 tripB_map 51 rfl (inA tripB_map 51 V) (inA tripB_map 51 V)

theorem tripB_b_call12_v0 : g_b_call12_v0 (after tripBL V)
    = broadcastInDim S1x1x64x4x256 ![1, 2, 3, 4] bcast_S1x64x4x256_S1x1x64x4x256_1_2_3_4 (g_b_v258 (after tripBL V)) :=
  eq1 tripB_map 52 rfl (inA tripB_map 52 V)

theorem tripB_b_call12_c : g_b_call12_c (after tripBL V)
    = constantI S_ 32 0#32 :=
  eq0 tripB_map 53 rfl V

theorem tripB_b_call12_c_0 : g_b_call12_c_0 (after tripBL V)
    = constantI S_ 32 0#32 :=
  eq0 tripB_map 54 rfl V

theorem tripB_b_call12_c_1 : g_b_call12_c_1 (after tripBL V)
    = constantI S_ 32 0#32 :=
  eq0 tripB_map 55 rfl V

theorem tripB_b_call12_c_2 : g_b_call12_c_2 (after tripBL V)
    = constantI S_ 32 0#32 :=
  eq0 tripB_map 56 rfl V

theorem tripB_b_v262 : g_b_v262 (after tripBL V)
    = Host.dynamicUpdateSlice (g_v174_10 V) (g_b_call12_v0 (after tripBL V)) (fun k => ((![(g_b_v240 (after tripBL V)), (g_b_call12_c (after tripBL V)), (g_b_call12_c_0 (after tripBL V)), (g_b_call12_c_1 (after tripBL V)), (g_b_call12_c_2 (after tripBL V))] : Fin 5 → IVec S_ 32) k (Shape.Idx.first h_S_)).toInt) updateFits_S256x1x64x4x256_S1x1x64x4x256 :=
  eqBI tripB_map 57 (v := ![(g_b_v240 (after tripBL V)), (g_b_call12_c (after tripBL V)), (g_b_call12_c_0 (after tripBL V)), (g_b_call12_c_1 (after tripBL V)), (g_b_call12_c_2 (after tripBL V))]) rfl (inV tripB_map 57 V) (inA tripB_map 57 V) (by intro k; fin_cases k; exact (inA tripB_map 57 (x := main_while1b_v240) V); exact (inA tripB_map 57 (x := main_while1b_call12_c) V); exact (inA tripB_map 57 (x := main_while1b_call12_c_0) V); exact (inA tripB_map 57 (x := main_while1b_call12_c_1) V); exact (inA tripB_map 57 (x := main_while1b_call12_c_2) V))

theorem tripB_b_call13_v0 : g_b_call13_v0 (after tripBL V)
    = broadcastInDim S1x1x64x4x256 ![1, 2, 3, 4] bcast_S1x64x4x256_S1x1x64x4x256_1_2_3_4 (g_b_v251 (after tripBL V)) :=
  eq1 tripB_map 58 rfl (inA tripB_map 58 V)

theorem tripB_b_call13_c : g_b_call13_c (after tripBL V)
    = constantI S_ 32 0#32 :=
  eq0 tripB_map 59 rfl V

theorem tripB_b_call13_c_0 : g_b_call13_c_0 (after tripBL V)
    = constantI S_ 32 0#32 :=
  eq0 tripB_map 60 rfl V

theorem tripB_b_call13_c_1 : g_b_call13_c_1 (after tripBL V)
    = constantI S_ 32 0#32 :=
  eq0 tripB_map 61 rfl V

theorem tripB_b_call13_c_2 : g_b_call13_c_2 (after tripBL V)
    = constantI S_ 32 0#32 :=
  eq0 tripB_map 62 rfl V

theorem tripB_b_v263 : g_b_v263 (after tripBL V)
    = Host.dynamicUpdateSlice (g_v174_11 V) (g_b_call13_v0 (after tripBL V)) (fun k => ((![(g_b_v240 (after tripBL V)), (g_b_call13_c (after tripBL V)), (g_b_call13_c_0 (after tripBL V)), (g_b_call13_c_1 (after tripBL V)), (g_b_call13_c_2 (after tripBL V))] : Fin 5 → IVec S_ 32) k (Shape.Idx.first h_S_)).toInt) updateFits_S256x1x64x4x256_S1x1x64x4x256 :=
  eqBI tripB_map 63 (v := ![(g_b_v240 (after tripBL V)), (g_b_call13_c (after tripBL V)), (g_b_call13_c_0 (after tripBL V)), (g_b_call13_c_1 (after tripBL V)), (g_b_call13_c_2 (after tripBL V))]) rfl (inV tripB_map 63 V) (inA tripB_map 63 V) (by intro k; fin_cases k; exact (inA tripB_map 63 (x := main_while1b_v240) V); exact (inA tripB_map 63 (x := main_while1b_call13_c) V); exact (inA tripB_map 63 (x := main_while1b_call13_c_0) V); exact (inA tripB_map 63 (x := main_while1b_call13_c_1) V); exact (inA tripB_map 63 (x := main_while1b_call13_c_2) V))

theorem tripB_b_call14_v0 : g_b_call14_v0 (after tripBL V)
    = broadcastInDim S1x1x64x4x512 ![1, 2, 3, 4] bcast_S1x64x4x512_S1x1x64x4x512_1_2_3_4 (g_b_v247 (after tripBL V)) :=
  eq1 tripB_map 64 rfl (inA tripB_map 64 V)

theorem tripB_b_call14_c : g_b_call14_c (after tripBL V)
    = constantI S_ 32 0#32 :=
  eq0 tripB_map 65 rfl V

theorem tripB_b_call14_c_0 : g_b_call14_c_0 (after tripBL V)
    = constantI S_ 32 0#32 :=
  eq0 tripB_map 66 rfl V

theorem tripB_b_call14_c_1 : g_b_call14_c_1 (after tripBL V)
    = constantI S_ 32 0#32 :=
  eq0 tripB_map 67 rfl V

theorem tripB_b_call14_c_2 : g_b_call14_c_2 (after tripBL V)
    = constantI S_ 32 0#32 :=
  eq0 tripB_map 68 rfl V

theorem tripB_b_v264 : g_b_v264 (after tripBL V)
    = Host.dynamicUpdateSlice (g_v174_12 V) (g_b_call14_v0 (after tripBL V)) (fun k => ((![(g_b_v240 (after tripBL V)), (g_b_call14_c (after tripBL V)), (g_b_call14_c_0 (after tripBL V)), (g_b_call14_c_1 (after tripBL V)), (g_b_call14_c_2 (after tripBL V))] : Fin 5 → IVec S_ 32) k (Shape.Idx.first h_S_)).toInt) updateFits_S256x1x64x4x512_S1x1x64x4x512 :=
  eqBI tripB_map 69 (v := ![(g_b_v240 (after tripBL V)), (g_b_call14_c (after tripBL V)), (g_b_call14_c_0 (after tripBL V)), (g_b_call14_c_1 (after tripBL V)), (g_b_call14_c_2 (after tripBL V))]) rfl (inV tripB_map 69 V) (inA tripB_map 69 V) (by intro k; fin_cases k; exact (inA tripB_map 69 (x := main_while1b_v240) V); exact (inA tripB_map 69 (x := main_while1b_call14_c) V); exact (inA tripB_map 69 (x := main_while1b_call14_c_0) V); exact (inA tripB_map 69 (x := main_while1b_call14_c_1) V); exact (inA tripB_map 69 (x := main_while1b_call14_c_2) V))

theorem tripB_b_c_47 : g_b_c_47 (after tripBL V)
    = constantI S_ 32 1#32 :=
  eq0 tripB_map 70 rfl V

theorem tripB_b_v265 : g_b_v265 (after tripBL V)
    = addi (g_v174_8 V) (g_b_c_47 (after tripBL V)) :=
  eq2 tripB_map 71 rfl (inV tripB_map 71 V) (inA tripB_map 71 V)

theorem tripB_v174_8 : g_v174_8 (after tripBL V)
    = (g_b_v265 (after tripBL V)) :=
  eq1 tripB_map 72 rfl (inA tripB_map 72 V)

theorem tripB_v174_9 : g_v174_9 (after tripBL V)
    = (g_b_v261 (after tripBL V)) :=
  eq1 tripB_map 73 rfl (inA tripB_map 73 V)

theorem tripB_v174_10 : g_v174_10 (after tripBL V)
    = (g_b_v262 (after tripBL V)) :=
  eq1 tripB_map 74 rfl (inA tripB_map 74 V)

theorem tripB_v174_11 : g_v174_11 (after tripBL V)
    = (g_b_v263 (after tripBL V)) :=
  eq1 tripB_map 75 rfl (inA tripB_map 75 V)

theorem tripB_v174_12 : g_v174_12 (after tripBL V)
    = (g_b_v264 (after tripBL V)) :=
  eq1 tripB_map 76 rfl (inA tripB_map 76 V)

end Cert.ReferenceIdeal.Ret
-- ==== Proof.RefEqsTripA.lean ====
module

public import proofs.«01_k».proof.Proof.RefGet

/-! # The equations of the reference's forward scan's trip -/

@[expose] public section

set_option maxRecDepth 16384

noncomputable section

namespace Cert.ReferenceIdeal.Ret

open Idealize.ShloMosaic Idealize.ShloMosaic.StableHlo
open Idealize.ShloMosaic.TcCoe
open Cert.ReferenceIdeal.Gen Cert.Line

variable {F : FTy → Type} [FloatOps F] (V : Valuation τ sig (Elt F))

def tripAL : List (HloOp τ sig (Elt F)) := condA ++ (bodyA0 ++ (bodyA1 ++ (bodyA2 ++ (bodyA3 ++ (bodyA4 ++ (bodyA5 ++ (bodyA6 ++ (bodyA7))))))))
abbrev tripA_Ws : List (Ref sig .tc) := [main_while0c_c_43, main_while0c_v239, main_while0b_call0_c, main_while0b_call0_c_0, main_while0b_call0_c_1, main_while0b_call0_c_2, main_while0b_call0_v0, main_while0b_v239, main_while0b_call1_c, main_while0b_call1_c_0, main_while0b_call1_c_1, main_while0b_call1_c_2, main_while0b_call1_v0, main_while0b_v240, main_while0b_call2_c, main_while0b_call2_c_0, main_while0b_call2_c_1, main_while0b_call2_c_2, main_while0b_call2_v0, main_while0b_v241, main_while0b_v242, main_while0b_v243, main_while0b_v244, main_while0b_v245, main_while0b_v246, main_while0b_v247, main_while0b_v248, main_while0b_v249, main_while0b_v250, main_while0b_v251, main_while0b_call3_v0, main_while0b_call3_c, main_while0b_call3_c_0, main_while0b_call3_c_1, main_while0b_call3_c_2, main_while0b_v252, main_while0b_call4_v0, main_while0b_call4_c, main_while0b_call4_c_0, main_while0b_call4_c_1, main_while0b_call4_c_2, main_while0b_v253, main_while0b_call5_v0, main_while0b_call5_c, main_while0b_call5_c_0, main_while0b_call5_c_1, main_while0b_call5_c_2, main_while0b_v254, main_while0b_c_43, main_while0b_v255, main_v133_6, main_v133_7, main_v133_8, main_v133_9, main_v133_10]
attribute [local irreducible] after

theorem tripA_map : (tripAL : List (HloOp τ sig (Elt F))).map HloOp.writes = tripA_Ws.map fun w => {Proc.devRef (τ := τ) .tc w} := rfl
theorem tripA_after : after tripAL V = afterL bodyAI (after condA V) := by
  unfold tripAL; simp only [after_append, afterL_cons, afterL_nil]

theorem tripA_a_call0_c : g_a_call0_c (after tripAL V)
    = constantI S_ 32 0#32 :=
  eq0 tripA_map 2 rfl V

theorem tripA_a_call0_c_0 : g_a_call0_c_0 (after tripAL V)
    = constantI S_ 32 0#32 :=
  eq0 tripA_map 3 rfl V

theorem tripA_a_call0_c_1 : g_a_call0_c_1 (after tripAL V)
    = constantI S_ 32 0#32 :=
  eq0 tripA_map 4 rfl V

theorem tripA_a_call0_c_2 : g_a_call0_c_2 (after tripAL V)
    = constantI S_ 32 0#32 :=
  eq0 tripA_map 5 rfl V

theorem tripA_a_call0_v0 : g_a_call0_v0 (after tripAL V)
    = Host.dynamicSlice S1x1x64x4x256 (g_v133_0 V) (fun k => ((![(g_v133_6 V), (g_a_call0_c (after tripAL V)), (g_a_call0_c_0 (after tripAL V)), (g_a_call0_c_1 (after tripAL V)), (g_a_call0_c_2 (after tripAL V))] : Fin 5 → IVec S_ 32) k (Shape.Idx.first h_S_)).toInt) sliceFits_S256x1x64x4x256_S1x1x64x4x256 :=
  eqUI tripA_map 6 (v := ![(g_v133_6 V), (g_a_call0_c (after tripAL V)), (g_a_call0_c_0 (after tripAL V)), (g_a_call0_c_1 (after tripAL V)), (g_a_call0_c_2 (after tripAL V))]) rfl (inV tripA_map 6 V) (by intro k; fin_cases k; exact (inV tripA_map 6 (x := main_v133_6) V); exact (inA tripA_map 6 (x := main_while0b_call0_c) V); exact (inA tripA_map 6 (x := main_while0b_call0_c_0) V); exact (inA tripA_map 6 (x := main_while0b_call0_c_1) V); exact (inA tripA_map 6 (x := main_while0b_call0_c_2) V))

theorem tripA_a_v239 : g_a_v239 (after tripAL V)
    = shapeCast S1x64x4x256 (g_a_call0_v0 (after tripAL V)) shapeCasts_S1x1x64x4x256_S1x64x4x256 :=
  eqR tripA_map 7 rfl (inA tripA_map 7 V)

theorem tripA_a_call1_c : g_a_call1_c (after tripAL V)
    = constantI S_ 32 0#32 :=
  eq0 tripA_map 8 rfl V

theorem tripA_a_call1_c_0 : g_a_call1_c_0 (after tripAL V)
    = constantI S_ 32 0#32 :=
  eq0 tripA_map 9 rfl V

theorem tripA_a_call1_c_1 : g_a_call1_c_1 (after tripAL V)
    = constantI S_ 32 0#32 :=
  eq0 tripA_map 10 rfl V

theorem tripA_a_call1_c_2 : g_a_call1_c_2 (after tripAL V)
    = constantI S_ 32 0#32 :=
  eq0 tripA_map 11 rfl V

theorem tripA_a_call1_v0 : g_a_call1_v0 (after tripAL V)
    = Host.dynamicSlice S1x1x64x4x256 (g_v133_1 V) (fun k => ((![(g_v133_6 V), (g_a_call1_c (after tripAL V)), (g_a_call1_c_0 (after tripAL V)), (g_a_call1_c_1 (after tripAL V)), (g_a_call1_c_2 (after tripAL V))] : Fin 5 → IVec S_ 32) k (Shape.Idx.first h_S_)).toInt) sliceFits_S256x1x64x4x256_S1x1x64x4x256 :=
  eqUI tripA_map 12 (v := ![(g_v133_6 V), (g_a_call1_c (after tripAL V)), (g_a_call1_c_0 (after tripAL V)), (g_a_call1_c_1 (after tripAL V)), (g_a_call1_c_2 (after tripAL V))]) rfl (inV tripA_map 12 V) (by intro k; fin_cases k; exact (inV tripA_map 12 (x := main_v133_6) V); exact (inA tripA_map 12 (x := main_while0b_call1_c) V); exact (inA tripA_map 12 (x := main_while0b_call1_c_0) V); exact (inA tripA_map 12 (x := main_while0b_call1_c_1) V); exact (inA tripA_map 12 (x := main_while0b_call1_c_2) V))

theorem tripA_a_v240 : g_a_v240 (after tripAL V)
    = shapeCast S1x64x4x256 (g_a_call1_v0 (after tripAL V)) shapeCasts_S1x1x64x4x256_S1x64x4x256 :=
  eqR tripA_map 13 rfl (inA tripA_map 13 V)

theorem tripA_a_call2_c : g_a_call2_c (after tripAL V)
    = constantI S_ 32 0#32 :=
  eq0 tripA_map 14 rfl V

theorem tripA_a_call2_c_0 : g_a_call2_c_0 (after tripAL V)
    = constantI S_ 32 0#32 :=
  eq0 tripA_map 15 rfl V

theorem tripA_a_call2_c_1 : g_a_call2_c_1 (after tripAL V)
    = constantI S_ 32 0#32 :=
  eq0 tripA_map 16 rfl V

theorem tripA_a_call2_c_2 : g_a_call2_c_2 (after tripAL V)
    = constantI S_ 32 0#32 :=
  eq0 tripA_map 17 rfl V

theorem tripA_a_call2_v0 : g_a_call2_v0 (after tripAL V)
    = Host.dynamicSlice S1x1x64x4x512 (g_v133_2 V) (fun k => ((![(g_v133_6 V), (g_a_call2_c (after tripAL V)), (g_a_call2_c_0 (after tripAL V)), (g_a_call2_c_1 (after tripAL V)), (g_a_call2_c_2 (after tripAL V))] : Fin 5 → IVec S_ 32) k (Shape.Idx.first h_S_)).toInt) sliceFits_S256x1x64x4x512_S1x1x64x4x512 :=
  eqUI tripA_map 18 (v := ![(g_v133_6 V), (g_a_call2_c (after tripAL V)), (g_a_call2_c_0 (after tripAL V)), (g_a_call2_c_1 (after tripAL V)), (g_a_call2_c_2 (after tripAL V))]) rfl (inV tripA_map 18 V) (by intro k; fin_cases k; exact (inV tripA_map 18 (x := main_v133_6) V); exact (inA tripA_map 18 (x := main_while0b_call2_c) V); exact (inA tripA_map 18 (x := main_while0b_call2_c_0) V); exact (inA tripA_map 18 (x := main_while0b_call2_c_1) V); exact (inA tripA_map 18 (x := main_while0b_call2_c_2) V))

theorem tripA_a_v241 : g_a_v241 (after tripAL V)
    = shapeCast S1x64x4x512 (g_a_call2_v0 (after tripAL V)) shapeCasts_S1x1x64x4x512_S1x64x4x512 :=
  eqR tripA_map 19 rfl (inA tripA_map 19 V)

theorem tripA_a_v242 : g_a_v242 (after tripAL V)
    = Host.dotGeneral dot_S1x4x256x512_S1x64x4x256_S1x4x512x64_2_3_3_1_01_02 none (g_v133_7 V) (g_a_v239 (after tripAL V)) :=
  eq2 tripA_map 20 rfl (inV tripA_map 20 V) (inA tripA_map 20 V)

theorem tripA_a_v243 : g_a_v243 (after tripAL V)
    = transpose S1x64x4x512 [0, 3, 1, 2] (g_a_v242 (after tripAL V)) transposes_S1x4x512x64_S1x64x4x512_0_3_1_2 :=
  eq1 tripA_map 21 rfl (inA tripA_map 21 V)

theorem tripA_a_v244 : g_a_v244 (after tripAL V)
    = broadcastInDim S1x64x4x512 ![0, 1, 2, 3] bcast_S1x64x4x1_S1x64x4x512_0_1_2_3 (g_v133_5 V) :=
  eq1 tripA_map 22 rfl (inV tripA_map 22 V)

theorem tripA_a_v245 : g_a_v245 (after tripAL V)
    = mulf (g_a_v243 (after tripAL V)) (g_a_v244 (after tripAL V)) :=
  eq2 tripA_map 23 rfl (inA tripA_map 23 V) (inA tripA_map 23 V)

theorem tripA_a_v246 : g_a_v246 (after tripAL V)
    = broadcastInDim S1x4x256x512 ![0, 1, 2, 3] bcast_S1x4x1x1_S1x4x256x512_0_1_2_3 (g_v133_3 V) :=
  eq1 tripA_map 24 rfl (inV tripA_map 24 V)

theorem tripA_a_v247 : g_a_v247 (after tripAL V)
    = mulf (g_v133_7 V) (g_a_v246 (after tripAL V)) :=
  eq2 tripA_map 25 rfl (inV tripA_map 25 V) (inA tripA_map 25 V)

theorem tripA_a_v248 : g_a_v248 (after tripAL V)
    = broadcastInDim S1x64x4x256 ![0, 1, 2, 3] bcast_S1x64x4x1_S1x64x4x256_0_1_2_3 (g_v133_4 V) :=
  eq1 tripA_map 26 rfl (inV tripA_map 26 V)

theorem tripA_a_v249 : g_a_v249 (after tripAL V)
    = mulf (g_a_v240 (after tripAL V)) (g_a_v248 (after tripAL V)) :=
  eq2 tripA_map 27 rfl (inA tripA_map 27 V) (inA tripA_map 27 V)

theorem tripA_a_v250 : g_a_v250 (after tripAL V)
    = Host.dotGeneral dot_S1x64x4x256_S1x64x4x512_S1x4x256x512_1_1_3_3_02_02 none (g_a_v249 (after tripAL V)) (g_a_v241 (after tripAL V)) :=
  eq2 tripA_map 28 rfl (inA tripA_map 28 V) (inA tripA_map 28 V)

theorem tripA_a_v251 : g_a_v251 (after tripAL V)
    = addf (g_a_v247 (after tripAL V)) (g_a_v250 (after tripAL V)) :=
  eq2 tripA_map 29 rfl (inA tripA_map 29 V) (inA tripA_map 29 V)

theorem tripA_a_call3_v0 : g_a_call3_v0 (after tripAL V)
    = broadcastInDim S1x1x64x4x512 ![1, 2, 3, 4] bcast_S1x64x4x512_S1x1x64x4x512_1_2_3_4 (g_a_v245 (after tripAL V)) :=
  eq1 tripA_map 30 rfl (inA tripA_map 30 V)

theorem tripA_a_call3_c : g_a_call3_c (after tripAL V)
    = constantI S_ 32 0#32 :=
  eq0 tripA_map 31 rfl V

theorem tripA_a_call3_c_0 : g_a_call3_c_0 (after tripAL V)
    = constantI S_ 32 0#32 :=
  eq0 tripA_map 32 rfl V

theorem tripA_a_call3_c_1 : g_a_call3_c_1 (after tripAL V)
    = constantI S_ 32 0#32 :=
  eq0 tripA_map 33 rfl V

theorem tripA_a_call3_c_2 : g_a_call3_c_2 (after tripAL V)
    = constantI S_ 32 0#32 :=
  eq0 tripA_map 34 rfl V

theorem tripA_a_v252 : g_a_v252 (after tripAL V)
    = Host.dynamicUpdateSlice (g_v133_8 V) (g_a_call3_v0 (after tripAL V)) (fun k => ((![(g_v133_6 V), (g_a_call3_c (after tripAL V)), (g_a_call3_c_0 (after tripAL V)), (g_a_call3_c_1 (after tripAL V)), (g_a_call3_c_2 (after tripAL V))] : Fin 5 → IVec S_ 32) k (Shape.Idx.first h_S_)).toInt) updateFits_S256x1x64x4x512_S1x1x64x4x512 :=
  eqBI tripA_map 35 (v := ![(g_v133_6 V), (g_a_call3_c (after tripAL V)), (g_a_call3_c_0 (after tripAL V)), (g_a_call3_c_1 (after tripAL V)), (g_a_call3_c_2 (after tripAL V))]) rfl (inV tripA_map 35 V) (inA tripA_map 35 V) (by intro k; fin_cases k; exact (inV tripA_map 35 (x := main_v133_6) V); exact (inA tripA_map 35 (x := main_while0b_call3_c) V); exact (inA tripA_map 35 (x := main_while0b_call3_c_0) V); exact (inA tripA_map 35 (x := main_while0b_call3_c_1) V); exact (inA tripA_map 35 (x := main_while0b_call3_c_2) V))

theorem tripA_a_call4_v0 : g_a_call4_v0 (after tripAL V)
    = broadcastInDim S1x1x4x256x512 ![1, 2, 3, 4] bcast_S1x4x256x512_S1x1x4x256x512_1_2_3_4 (g_v133_7 V) :=
  eq1 tripA_map 36 rfl (inV tripA_map 36 V)

theorem tripA_a_call4_c : g_a_call4_c (after tripAL V)
    = constantI S_ 32 0#32 :=
  eq0 tripA_map 37 rfl V

theorem tripA_a_call4_c_0 : g_a_call4_c_0 (after tripAL V)
    = constantI S_ 32 0#32 :=
  eq0 tripA_map 38 rfl V

theorem tripA_a_call4_c_1 : g_a_call4_c_1 (after tripAL V)
    = constantI S_ 32 0#32 :=
  eq0 tripA_map 39 rfl V

theorem tripA_a_call4_c_2 : g_a_call4_c_2 (after tripAL V)
    = constantI S_ 32 0#32 :=
  eq0 tripA_map 40 rfl V

theorem tripA_a_v253 : g_a_v253 (after tripAL V)
    = Host.dynamicUpdateSlice (g_v133_9 V) (g_a_call4_v0 (after tripAL V)) (fun k => ((![(g_v133_6 V), (g_a_call4_c (after tripAL V)), (g_a_call4_c_0 (after tripAL V)), (g_a_call4_c_1 (after tripAL V)), (g_a_call4_c_2 (after tripAL V))] : Fin 5 → IVec S_ 32) k (Shape.Idx.first h_S_)).toInt) updateFits_S256x1x4x256x512_S1x1x4x256x512 :=
  eqBI tripA_map 41 (v := ![(g_v133_6 V), (g_a_call4_c (after tripAL V)), (g_a_call4_c_0 (after tripAL V)), (g_a_call4_c_1 (after tripAL V)), (g_a_call4_c_2 (after tripAL V))]) rfl (inV tripA_map 41 V) (inA tripA_map 41 V) (by intro k; fin_cases k; exact (inV tripA_map 41 (x := main_v133_6) V); exact (inA tripA_map 41 (x := main_while0b_call4_c) V); exact (inA tripA_map 41 (x := main_while0b_call4_c_0) V); exact (inA tripA_map 41 (x := main_while0b_call4_c_1) V); exact (inA tripA_map 41 (x := main_while0b_call4_c_2) V))

theorem tripA_a_call5_v0 : g_a_call5_v0 (after tripAL V)
    = broadcastInDim S1x1x64x4x256 ![1, 2, 3, 4] bcast_S1x64x4x256_S1x1x64x4x256_1_2_3_4 (g_a_v249 (after tripAL V)) :=
  eq1 tripA_map 42 rfl (inA tripA_map 42 V)

theorem tripA_a_call5_c : g_a_call5_c (after tripAL V)
    = constantI S_ 32 0#32 :=
  eq0 tripA_map 43 rfl V

theorem tripA_a_call5_c_0 : g_a_call5_c_0 (after tripAL V)
    = constantI S_ 32 0#32 :=
  eq0 tripA_map 44 rfl V

theorem tripA_a_call5_c_1 : g_a_call5_c_1 (after tripAL V)
    = constantI S_ 32 0#32 :=
  eq0 tripA_map 45 rfl V

theorem tripA_a_call5_c_2 : g_a_call5_c_2 (after tripAL V)
    = constantI S_ 32 0#32 :=
  eq0 tripA_map 46 rfl V

theorem tripA_a_v254 : g_a_v254 (after tripAL V)
    = Host.dynamicUpdateSlice (g_v133_10 V) (g_a_call5_v0 (after tripAL V)) (fun k => ((![(g_v133_6 V), (g_a_call5_c (after tripAL V)), (g_a_call5_c_0 (after tripAL V)), (g_a_call5_c_1 (after tripAL V)), (g_a_call5_c_2 (after tripAL V))] : Fin 5 → IVec S_ 32) k (Shape.Idx.first h_S_)).toInt) updateFits_S256x1x64x4x256_S1x1x64x4x256 :=
  eqBI tripA_map 47 (v := ![(g_v133_6 V), (g_a_call5_c (after tripAL V)), (g_a_call5_c_0 (after tripAL V)), (g_a_call5_c_1 (after tripAL V)), (g_a_call5_c_2 (after tripAL V))]) rfl (inV tripA_map 47 V) (inA tripA_map 47 V) (by intro k; fin_cases k; exact (inV tripA_map 47 (x := main_v133_6) V); exact (inA tripA_map 47 (x := main_while0b_call5_c) V); exact (inA tripA_map 47 (x := main_while0b_call5_c_0) V); exact (inA tripA_map 47 (x := main_while0b_call5_c_1) V); exact (inA tripA_map 47 (x := main_while0b_call5_c_2) V))

theorem tripA_a_c_43 : g_a_c_43 (after tripAL V)
    = constantI S_ 32 1#32 :=
  eq0 tripA_map 48 rfl V

theorem tripA_a_v255 : g_a_v255 (after tripAL V)
    = addi (g_v133_6 V) (g_a_c_43 (after tripAL V)) :=
  eq2 tripA_map 49 rfl (inV tripA_map 49 V) (inA tripA_map 49 V)

theorem tripA_v133_6 : g_v133_6 (after tripAL V)
    = (g_a_v255 (after tripAL V)) :=
  eq1 tripA_map 50 rfl (inA tripA_map 50 V)

theorem tripA_v133_7 : g_v133_7 (after tripAL V)
    = (g_a_v251 (after tripAL V)) :=
  eq1 tripA_map 51 rfl (inA tripA_map 51 V)

theorem tripA_v133_8 : g_v133_8 (after tripAL V)
    = (g_a_v252 (after tripAL V)) :=
  eq1 tripA_map 52 rfl (inA tripA_map 52 V)

theorem tripA_v133_9 : g_v133_9 (after tripAL V)
    = (g_a_v253 (after tripAL V)) :=
  eq1 tripA_map 53 rfl (inA tripA_map 53 V)

theorem tripA_v133_10 : g_v133_10 (after tripAL V)
    = (g_a_v254 (after tripAL V)) :=
  eq1 tripA_map 54 rfl (inA tripA_map 54 V)

end Cert.ReferenceIdeal.Ret
-- ==== Proof.RefEqsPre.lean ====
module

public import proofs.«01_k».proof.Proof.RefGet

/-! # The equations of the reference's first stretch -/

@[expose] public section

set_option maxRecDepth 16384

noncomputable section

namespace Cert.ReferenceIdeal.Ret

open Idealize.ShloMosaic Idealize.ShloMosaic.StableHlo
open Idealize.ShloMosaic.TcCoe
open Cert.ReferenceIdeal.Gen Cert.Line

variable {F : FTy → Type} [FloatOps F] (V : Valuation τ sig (Elt F))

def preL : List (HloOp τ sig (Elt F)) := pre0 ++ (pre1 ++ (pre2))
abbrev pre_Ws : List (Ref sig .tc) := [main_v0, main_v1, main_v2, main_v3, main_v4, main_v5, main_v6, main_v7, main_v8, main_cst, main_v9, main_v10, main_cst_0, main_v11, main_v12, main_v13, main_cst_1, main_v14, main_v15, main_cst_2, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_cst_3, main_v41, main_v42, main_cst_4, main_v43, main_v44, main_v45, main_cst_5, main_v46, main_v47, main_cst_6, main_v48, main_v49, main_v50, main_v51, main_v52, main_v53, main_v54, main_v55, main_v56, main_v57, main_v58, main_v59, main_v60, main_v61, main_v62, main_v63, main_v64, main_v65, main_v66, main_v67, main_v68, main_v69, main_v70, main_cst_7, main_v71, main_v72, main_v73, main_v74, main_v75, main_v76, main_v77, main_cst_8, main_v78, main_v79, main_cst_9, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_cst_10, main_v105, main_v106, main_v107, main_v108, main_v109, main_v110, main_v111, main_v112, main_cst_11, main_v113, main_v114, main_v115, main_v116, main_v117, main_v118, main_v119, main_cst_12, main_v120, main_v121, main_v122, main_cst_13, main_v123, main_v124, main_v125, main_v126, main_v127, main_v128, main_v129, main_cst_14, main_v130, main_cst_15, main_v131, main_cst_16, main_v132, main_c, main_v133_0, main_v133_1, main_v133_2, main_v133_3, main_v133_4, main_v133_5, main_v133_6, main_v133_7, main_v133_8, main_v133_9, main_v133_10]
attribute [local irreducible] after

theorem pre_map : (preL : List (HloOp τ sig (Elt F))).map HloOp.writes = pre_Ws.map fun w => {Proc.devRef (τ := τ) .tc w} := rfl
theorem pre_after : after preL V = afterL preI (V) := by
  unfold preL; simp only [after_append, afterL_cons, afterL_nil]

theorem pre_v0 : g_v0 (after preL V)
    = extractStridedSlice S16384x1024 ![0, 0] (g_arg0 V) slices_S16384x6144_S16384x1024_0_0 :=
  eq1 pre_map 0 rfl (inV pre_map 0 V)

theorem pre_v1 : g_v1 (after preL V)
    = broadcastInDim S1x16384x1024 ![1, 2] bcast_S16384x1024_S1x16384x1024_1_2 (g_v0 (after preL V)) :=
  eq1 pre_map 1 rfl (inA pre_map 1 V)

theorem pre_v2 : g_v2 (after preL V)
    = extractStridedSlice S16384x1024 ![0, 1024] (g_arg0 V) slices_S16384x6144_S16384x1024_0_1024 :=
  eq1 pre_map 2 rfl (inV pre_map 2 V)

theorem pre_v3 : g_v3 (after preL V)
    = broadcastInDim S1x16384x1024 ![1, 2] bcast_S16384x1024_S1x16384x1024_1_2 (g_v2 (after preL V)) :=
  eq1 pre_map 3 rfl (inA pre_map 3 V)

theorem pre_v4 : g_v4 (after preL V)
    = extractStridedSlice S16384x2048 ![0, 2048] (g_arg0 V) slices_S16384x6144_S16384x2048_0_2048 :=
  eq1 pre_map 4 rfl (inV pre_map 4 V)

theorem pre_v5 : g_v5 (after preL V)
    = broadcastInDim S1x16384x2048 ![1, 2] bcast_S16384x2048_S1x16384x2048_1_2 (g_v4 (after preL V)) :=
  eq1 pre_map 5 rfl (inA pre_map 5 V)

theorem pre_v6 : g_v6 (after preL V)
    = broadcastInDim S1x16384 ![1] bcast_S16384_S1x16384_1 (g_arg2 V) :=
  eq1 pre_map 6 rfl (inV pre_map 6 V)

theorem pre_v7 : g_v7 (after preL V)
    = shapeCast S1x16384x4x256 (g_v1 (after preL V)) shapeCasts_S1x16384x1024_S1x16384x4x256 :=
  eqR pre_map 7 rfl (inA pre_map 7 V)

theorem pre_v8 : g_v8 (after preL V)
    = sitofp .f32 (iotaInDim S128 32 0) :=
  eq0 pre_map 8 rfl V

theorem pre_cst : g_cst (after preL V)
    = constant S_ .f32 0x40000000#32 :=
  eq0 pre_map 9 rfl V

theorem pre_v9 : g_v9 (after preL V)
    = broadcastInDim S128 ![] bcast_S_S128 (g_cst (after preL V)) :=
  eq1 pre_map 10 rfl (inA pre_map 10 V)

theorem pre_v10 : g_v10 (after preL V)
    = mulf (g_v9 (after preL V)) (g_v8 (after preL V)) :=
  eq2 pre_map 11 rfl (inA pre_map 11 V) (inA pre_map 11 V)

theorem pre_cst_0 : g_cst_0 (after preL V)
    = constant S_ .f32 0x00000000#32 :=
  eq0 pre_map 12 rfl V

theorem pre_v11 : g_v11 (after preL V)
    = broadcastInDim S128 ![] bcast_S_S128 (g_cst_0 (after preL V)) :=
  eq1 pre_map 13 rfl (inA pre_map 13 V)

theorem pre_v12 : g_v12 (after preL V)
    = addf (g_v11 (after preL V)) (g_v10 (after preL V)) :=
  eq2 pre_map 14 rfl (inA pre_map 14 V) (inA pre_map 14 V)

theorem pre_v13 : g_v13 (after preL V)
    = Host.negf (g_v12 (after preL V)) :=
  eq1 pre_map 15 rfl (inA pre_map 15 V)

theorem pre_cst_1 : g_cst_1 (after preL V)
    = constant S_ .f32 0x43800000#32 :=
  eq0 pre_map 16 rfl V

theorem pre_v14 : g_v14 (after preL V)
    = broadcastInDim S128 ![] bcast_S_S128 (g_cst_1 (after preL V)) :=
  eq1 pre_map 17 rfl (inA pre_map 17 V)

theorem pre_v15 : g_v15 (after preL V)
    = Host.divf (g_v13 (after preL V)) (g_v14 (after preL V)) :=
  eq2 pre_map 18 rfl (inA pre_map 18 V) (inA pre_map 18 V)

theorem pre_cst_2 : g_cst_2 (after preL V)
    = constant S_ .f32 0x461C4000#32 :=
  eq0 pre_map 19 rfl V

theorem pre_v16 : g_v16 (after preL V)
    = broadcastInDim S128 ![] bcast_S_S128 (g_cst_2 (after preL V)) :=
  eq1 pre_map 20 rfl (inA pre_map 20 V)

theorem pre_v17 : g_v17 (after preL V)
    = Host.powf (g_v16 (after preL V)) (g_v15 (after preL V)) :=
  eq2 pre_map 21 rfl (inA pre_map 21 V) (inA pre_map 21 V)

theorem pre_v18 : g_v18 (after preL V)
    = sitofp .f32 (g_v6 (after preL V)) :=
  eq1 pre_map 22 rfl (inA pre_map 22 V)

theorem pre_v19 : g_v19 (after preL V)
    = broadcastInDim S1x16384x1x1 ![0, 1] bcast_S1x16384_S1x16384x1x1_0_1 (g_v18 (after preL V)) :=
  eq1 pre_map 23 rfl (inA pre_map 23 V)

theorem pre_v20 : g_v20 (after preL V)
    = broadcastInDim S1x1x1x128 ![3] bcast_S128_S1x1x1x128_3 (g_v17 (after preL V)) :=
  eq1 pre_map 24 rfl (inA pre_map 24 V)

theorem pre_v21 : g_v21 (after preL V)
    = broadcastInDim S1x16384x1x128 ![0, 1, 2, 3] bcast_S1x16384x1x1_S1x16384x1x128_0_1_2_3 (g_v19 (after preL V)) :=
  eq1 pre_map 25 rfl (inA pre_map 25 V)

theorem pre_v22 : g_v22 (after preL V)
    = broadcastInDim S1x16384x1x128 ![0, 1, 2, 3] bcast_S1x1x1x128_S1x16384x1x128_0_1_2_3 (g_v20 (after preL V)) :=
  eq1 pre_map 26 rfl (inA pre_map 26 V)

theorem pre_v23 : g_v23 (after preL V)
    = mulf (g_v21 (after preL V)) (g_v22 (after preL V)) :=
  eq2 pre_map 27 rfl (inA pre_map 27 V) (inA pre_map 27 V)

theorem pre_v24 : g_v24 (after preL V)
    = Host.cos (g_v23 (after preL V)) :=
  eq1 pre_map 28 rfl (inA pre_map 28 V)

theorem pre_v25 : g_v25 (after preL V)
    = Host.sin (g_v23 (after preL V)) :=
  eq1 pre_map 29 rfl (inA pre_map 29 V)

theorem pre_v26 : g_v26 (after preL V)
    = extractStridedSlice S1x16384x4x128 ![0, 0, 0, 0] (g_v7 (after preL V)) slices_S1x16384x4x256_S1x16384x4x128_0_0_0_0 :=
  eq1 pre_map 30 rfl (inA pre_map 30 V)

theorem pre_v27 : g_v27 (after preL V)
    = extractStridedSlice S1x16384x4x128 ![0, 0, 0, 128] (g_v7 (after preL V)) slices_S1x16384x4x256_S1x16384x4x128_0_0_0_128 :=
  eq1 pre_map 31 rfl (inA pre_map 31 V)

theorem pre_v28 : g_v28 (after preL V)
    = broadcastInDim S1x16384x4x128 ![0, 1, 2, 3] bcast_S1x16384x1x128_S1x16384x4x128_0_1_2_3 (g_v24 (after preL V)) :=
  eq1 pre_map 32 rfl (inA pre_map 32 V)

theorem pre_v29 : g_v29 (after preL V)
    = mulf (g_v26 (after preL V)) (g_v28 (after preL V)) :=
  eq2 pre_map 33 rfl (inA pre_map 33 V) (inA pre_map 33 V)

theorem pre_v30 : g_v30 (after preL V)
    = broadcastInDim S1x16384x4x128 ![0, 1, 2, 3] bcast_S1x16384x1x128_S1x16384x4x128_0_1_2_3 (g_v25 (after preL V)) :=
  eq1 pre_map 34 rfl (inA pre_map 34 V)

theorem pre_v31 : g_v31 (after preL V)
    = mulf (g_v27 (after preL V)) (g_v30 (after preL V)) :=
  eq2 pre_map 35 rfl (inA pre_map 35 V) (inA pre_map 35 V)

theorem pre_v32 : g_v32 (after preL V)
    = subf (g_v29 (after preL V)) (g_v31 (after preL V)) :=
  eq2 pre_map 36 rfl (inA pre_map 36 V) (inA pre_map 36 V)

theorem pre_v33 : g_v33 (after preL V)
    = broadcastInDim S1x16384x4x128 ![0, 1, 2, 3] bcast_S1x16384x1x128_S1x16384x4x128_0_1_2_3 (g_v25 (after preL V)) :=
  eq1 pre_map 37 rfl (inA pre_map 37 V)

theorem pre_v34 : g_v34 (after preL V)
    = mulf (g_v26 (after preL V)) (g_v33 (after preL V)) :=
  eq2 pre_map 38 rfl (inA pre_map 38 V) (inA pre_map 38 V)

theorem pre_v35 : g_v35 (after preL V)
    = broadcastInDim S1x16384x4x128 ![0, 1, 2, 3] bcast_S1x16384x1x128_S1x16384x4x128_0_1_2_3 (g_v24 (after preL V)) :=
  eq1 pre_map 39 rfl (inA pre_map 39 V)

theorem pre_v36 : g_v36 (after preL V)
    = mulf (g_v27 (after preL V)) (g_v35 (after preL V)) :=
  eq2 pre_map 40 rfl (inA pre_map 40 V) (inA pre_map 40 V)

theorem pre_v37 : g_v37 (after preL V)
    = addf (g_v34 (after preL V)) (g_v36 (after preL V)) :=
  eq2 pre_map 41 rfl (inA pre_map 41 V) (inA pre_map 41 V)

theorem pre_v38 : g_v38 (after preL V)
    = concatenate S1x16384x4x256 3 [⟨S1x16384x4x128, (g_v32 (after preL V))⟩, ⟨S1x16384x4x128, (g_v37 (after preL V))⟩] concatenates_S1x16384x4x128_S1x16384x4x128_S1x16384x4x256_d3 :=
  eq2 pre_map 42 rfl (inA pre_map 42 V) (inA pre_map 42 V)

theorem pre_v39 : g_v39 (after preL V)
    = shapeCast S1x16384x4x256 (g_v3 (after preL V)) shapeCasts_S1x16384x1024_S1x16384x4x256 :=
  eqR pre_map 43 rfl (inA pre_map 43 V)

theorem pre_v40 : g_v40 (after preL V)
    = sitofp .f32 (iotaInDim S128 32 0) :=
  eq0 pre_map 44 rfl V

theorem pre_cst_3 : g_cst_3 (after preL V)
    = constant S_ .f32 0x40000000#32 :=
  eq0 pre_map 45 rfl V

theorem pre_v41 : g_v41 (after preL V)
    = broadcastInDim S128 ![] bcast_S_S128 (g_cst_3 (after preL V)) :=
  eq1 pre_map 46 rfl (inA pre_map 46 V)

theorem pre_v42 : g_v42 (after preL V)
    = mulf (g_v41 (after preL V)) (g_v40 (after preL V)) :=
  eq2 pre_map 47 rfl (inA pre_map 47 V) (inA pre_map 47 V)

theorem pre_cst_4 : g_cst_4 (after preL V)
    = constant S_ .f32 0x00000000#32 :=
  eq0 pre_map 48 rfl V

theorem pre_v43 : g_v43 (after preL V)
    = broadcastInDim S128 ![] bcast_S_S128 (g_cst_4 (after preL V)) :=
  eq1 pre_map 49 rfl (inA pre_map 49 V)

theorem pre_v44 : g_v44 (after preL V)
    = addf (g_v43 (after preL V)) (g_v42 (after preL V)) :=
  eq2 pre_map 50 rfl (inA pre_map 50 V) (inA pre_map 50 V)

theorem pre_v45 : g_v45 (after preL V)
    = Host.negf (g_v44 (after preL V)) :=
  eq1 pre_map 51 rfl (inA pre_map 51 V)

theorem pre_cst_5 : g_cst_5 (after preL V)
    = constant S_ .f32 0x43800000#32 :=
  eq0 pre_map 52 rfl V

theorem pre_v46 : g_v46 (after preL V)
    = broadcastInDim S128 ![] bcast_S_S128 (g_cst_5 (after preL V)) :=
  eq1 pre_map 53 rfl (inA pre_map 53 V)

theorem pre_v47 : g_v47 (after preL V)
    = Host.divf (g_v45 (after preL V)) (g_v46 (after preL V)) :=
  eq2 pre_map 54 rfl (inA pre_map 54 V) (inA pre_map 54 V)

theorem pre_cst_6 : g_cst_6 (after preL V)
    = constant S_ .f32 0x461C4000#32 :=
  eq0 pre_map 55 rfl V

theorem pre_v48 : g_v48 (after preL V)
    = broadcastInDim S128 ![] bcast_S_S128 (g_cst_6 (after preL V)) :=
  eq1 pre_map 56 rfl (inA pre_map 56 V)

theorem pre_v49 : g_v49 (after preL V)
    = Host.powf (g_v48 (after preL V)) (g_v47 (after preL V)) :=
  eq2 pre_map 57 rfl (inA pre_map 57 V) (inA pre_map 57 V)

theorem pre_v50 : g_v50 (after preL V)
    = sitofp .f32 (g_v6 (after preL V)) :=
  eq1 pre_map 58 rfl (inA pre_map 58 V)

theorem pre_v51 : g_v51 (after preL V)
    = broadcastInDim S1x16384x1x1 ![0, 1] bcast_S1x16384_S1x16384x1x1_0_1 (g_v50 (after preL V)) :=
  eq1 pre_map 59 rfl (inA pre_map 59 V)

theorem pre_v52 : g_v52 (after preL V)
    = broadcastInDim S1x1x1x128 ![3] bcast_S128_S1x1x1x128_3 (g_v49 (after preL V)) :=
  eq1 pre_map 60 rfl (inA pre_map 60 V)

theorem pre_v53 : g_v53 (after preL V)
    = broadcastInDim S1x16384x1x128 ![0, 1, 2, 3] bcast_S1x16384x1x1_S1x16384x1x128_0_1_2_3 (g_v51 (after preL V)) :=
  eq1 pre_map 61 rfl (inA pre_map 61 V)

theorem pre_v54 : g_v54 (after preL V)
    = broadcastInDim S1x16384x1x128 ![0, 1, 2, 3] bcast_S1x1x1x128_S1x16384x1x128_0_1_2_3 (g_v52 (after preL V)) :=
  eq1 pre_map 62 rfl (inA pre_map 62 V)

theorem pre_v55 : g_v55 (after preL V)
    = mulf (g_v53 (after preL V)) (g_v54 (after preL V)) :=
  eq2 pre_map 63 rfl (inA pre_map 63 V) (inA pre_map 63 V)

theorem pre_v56 : g_v56 (after preL V)
    = Host.cos (g_v55 (after preL V)) :=
  eq1 pre_map 64 rfl (inA pre_map 64 V)

theorem pre_v57 : g_v57 (after preL V)
    = Host.sin (g_v55 (after preL V)) :=
  eq1 pre_map 65 rfl (inA pre_map 65 V)

theorem pre_v58 : g_v58 (after preL V)
    = extractStridedSlice S1x16384x4x128 ![0, 0, 0, 0] (g_v39 (after preL V)) slices_S1x16384x4x256_S1x16384x4x128_0_0_0_0 :=
  eq1 pre_map 66 rfl (inA pre_map 66 V)

theorem pre_v59 : g_v59 (after preL V)
    = extractStridedSlice S1x16384x4x128 ![0, 0, 0, 128] (g_v39 (after preL V)) slices_S1x16384x4x256_S1x16384x4x128_0_0_0_128 :=
  eq1 pre_map 67 rfl (inA pre_map 67 V)

theorem pre_v60 : g_v60 (after preL V)
    = broadcastInDim S1x16384x4x128 ![0, 1, 2, 3] bcast_S1x16384x1x128_S1x16384x4x128_0_1_2_3 (g_v56 (after preL V)) :=
  eq1 pre_map 68 rfl (inA pre_map 68 V)

theorem pre_v61 : g_v61 (after preL V)
    = mulf (g_v58 (after preL V)) (g_v60 (after preL V)) :=
  eq2 pre_map 69 rfl (inA pre_map 69 V) (inA pre_map 69 V)

theorem pre_v62 : g_v62 (after preL V)
    = broadcastInDim S1x16384x4x128 ![0, 1, 2, 3] bcast_S1x16384x1x128_S1x16384x4x128_0_1_2_3 (g_v57 (after preL V)) :=
  eq1 pre_map 70 rfl (inA pre_map 70 V)

theorem pre_v63 : g_v63 (after preL V)
    = mulf (g_v59 (after preL V)) (g_v62 (after preL V)) :=
  eq2 pre_map 71 rfl (inA pre_map 71 V) (inA pre_map 71 V)

theorem pre_v64 : g_v64 (after preL V)
    = subf (g_v61 (after preL V)) (g_v63 (after preL V)) :=
  eq2 pre_map 72 rfl (inA pre_map 72 V) (inA pre_map 72 V)

theorem pre_v65 : g_v65 (after preL V)
    = broadcastInDim S1x16384x4x128 ![0, 1, 2, 3] bcast_S1x16384x1x128_S1x16384x4x128_0_1_2_3 (g_v57 (after preL V)) :=
  eq1 pre_map 73 rfl (inA pre_map 73 V)

theorem pre_v66 : g_v66 (after preL V)
    = mulf (g_v58 (after preL V)) (g_v65 (after preL V)) :=
  eq2 pre_map 74 rfl (inA pre_map 74 V) (inA pre_map 74 V)

theorem pre_v67 : g_v67 (after preL V)
    = broadcastInDim S1x16384x4x128 ![0, 1, 2, 3] bcast_S1x16384x1x128_S1x16384x4x128_0_1_2_3 (g_v56 (after preL V)) :=
  eq1 pre_map 75 rfl (inA pre_map 75 V)

theorem pre_v68 : g_v68 (after preL V)
    = mulf (g_v59 (after preL V)) (g_v67 (after preL V)) :=
  eq2 pre_map 76 rfl (inA pre_map 76 V) (inA pre_map 76 V)

theorem pre_v69 : g_v69 (after preL V)
    = addf (g_v66 (after preL V)) (g_v68 (after preL V)) :=
  eq2 pre_map 77 rfl (inA pre_map 77 V) (inA pre_map 77 V)

theorem pre_v70 : g_v70 (after preL V)
    = concatenate S1x16384x4x256 3 [⟨S1x16384x4x128, (g_v64 (after preL V))⟩, ⟨S1x16384x4x128, (g_v69 (after preL V))⟩] concatenates_S1x16384x4x128_S1x16384x4x128_S1x16384x4x256_d3 :=
  eq2 pre_map 78 rfl (inA pre_map 78 V) (inA pre_map 78 V)

theorem pre_cst_7 : g_cst_7 (after preL V)
    = constant S_ .f32 0x3D800000#32 :=
  eq0 pre_map 79 rfl V

theorem pre_v71 : g_v71 (after preL V)
    = broadcastInDim S1x16384x4x256 ![] bcast_S_S1x16384x4x256 (g_cst_7 (after preL V)) :=
  eq1 pre_map 80 rfl (inA pre_map 80 V)

theorem pre_v72 : g_v72 (after preL V)
    = mulf (g_v70 (after preL V)) (g_v71 (after preL V)) :=
  eq2 pre_map 81 rfl (inA pre_map 81 V) (inA pre_map 81 V)

theorem pre_v73 : g_v73 (after preL V)
    = shapeCast S1x16384x4x512 (g_v5 (after preL V)) shapeCasts_S1x16384x2048_S1x16384x4x512 :=
  eqR pre_map 82 rfl (inA pre_map 82 V)

theorem pre_v74 : g_v74 (after preL V)
    = shapeCast S1x256x64x4x256 (g_v38 (after preL V)) shapeCasts_S1x16384x4x256_S1x256x64x4x256 :=
  eqR pre_map 83 rfl (inA pre_map 83 V)

theorem pre_v75 : g_v75 (after preL V)
    = shapeCast S1x256x64x4x256 (g_v72 (after preL V)) shapeCasts_S1x16384x4x256_S1x256x64x4x256 :=
  eqR pre_map 84 rfl (inA pre_map 84 V)

theorem pre_v76 : g_v76 (after preL V)
    = shapeCast S1x256x64x4x512 (g_v73 (after preL V)) shapeCasts_S1x16384x4x512_S1x256x64x4x512 :=
  eqR pre_map 85 rfl (inA pre_map 85 V)

theorem pre_v77 : g_v77 (after preL V)
    = sitofp .f32 (iotaInDim S4 32 0) :=
  eq0 pre_map 86 rfl V

theorem pre_cst_8 : g_cst_8 (after preL V)
    = constant S_ .f32 0xC0A00000#32 :=
  eq0 pre_map 87 rfl V

theorem pre_v78 : g_v78 (after preL V)
    = broadcastInDim S4 ![] bcast_S_S4 (g_cst_8 (after preL V)) :=
  eq1 pre_map 88 rfl (inA pre_map 88 V)

theorem pre_v79 : g_v79 (after preL V)
    = subf (g_v78 (after preL V)) (g_v77 (after preL V)) :=
  eq2 pre_map 89 rfl (inA pre_map 89 V) (inA pre_map 89 V)

theorem pre_cst_9 : g_cst_9 (after preL V)
    = constant S_ .f32 0x3F317218#32 :=
  eq0 pre_map 90 rfl V

theorem pre_v80 : g_v80 (after preL V)
    = broadcastInDim S4 ![] bcast_S_S4 (g_cst_9 (after preL V)) :=
  eq1 pre_map 91 rfl (inA pre_map 91 V)

theorem pre_v81 : g_v81 (after preL V)
    = mulf (g_v80 (after preL V)) (g_v79 (after preL V)) :=
  eq2 pre_map 92 rfl (inA pre_map 92 V) (inA pre_map 92 V)

theorem pre_v82 : g_v82 (after preL V)
    = Host.exp (g_v81 (after preL V)) :=
  eq1 pre_map 93 rfl (inA pre_map 93 V)

theorem pre_v83 : g_v83 (after preL V)
    = Host.negf (g_v82 (after preL V)) :=
  eq1 pre_map 94 rfl (inA pre_map 94 V)

theorem pre_v84 : g_v84 (after preL V)
    = Host.log1p (g_v83 (after preL V)) :=
  eq1 pre_map 95 rfl (inA pre_map 95 V)

theorem pre_v85 : g_v85 (after preL V)
    = sitofp .f32 (iotaInDim S64 32 0) :=
  eq0 pre_map 96 rfl V

theorem pre_v86 : g_v86 (after preL V)
    = broadcastInDim S64x1 ![0] bcast_S64_S64x1_0 (g_v85 (after preL V)) :=
  eq1 pre_map 97 rfl (inA pre_map 97 V)

theorem pre_v87 : g_v87 (after preL V)
    = broadcastInDim S1x64 ![1] bcast_S64_S1x64_1 (g_v85 (after preL V)) :=
  eq1 pre_map 98 rfl (inA pre_map 98 V)

theorem pre_v88 : g_v88 (after preL V)
    = broadcastInDim S64x64 ![0, 1] bcast_S64x1_S64x64_0_1 (g_v86 (after preL V)) :=
  eq1 pre_map 99 rfl (inA pre_map 99 V)

theorem pre_v89 : g_v89 (after preL V)
    = broadcastInDim S64x64 ![0, 1] bcast_S1x64_S64x64_0_1 (g_v87 (after preL V)) :=
  eq1 pre_map 100 rfl (inA pre_map 100 V)

theorem pre_v90 : g_v90 (after preL V)
    = subf (g_v88 (after preL V)) (g_v89 (after preL V)) :=
  eq2 pre_map 101 rfl (inA pre_map 101 V) (inA pre_map 101 V)

theorem pre_v91 : g_v91 (after preL V)
    = Host.absf (g_v90 (after preL V)) :=
  eq1 pre_map 102 rfl (inA pre_map 102 V)

theorem pre_v92 : g_v92 (after preL V)
    = broadcastInDim S4x1x1 ![0] bcast_S4_S4x1x1_0 (g_v84 (after preL V)) :=
  eq1 pre_map 103 rfl (inA pre_map 103 V)

theorem pre_v93 : g_v93 (after preL V)
    = broadcastInDim S1x64x64 ![1, 2] bcast_S64x64_S1x64x64_1_2 (g_v91 (after preL V)) :=
  eq1 pre_map 104 rfl (inA pre_map 104 V)

theorem pre_v94 : g_v94 (after preL V)
    = broadcastInDim S4x64x64 ![0, 1, 2] bcast_S4x1x1_S4x64x64_0_1_2 (g_v92 (after preL V)) :=
  eq1 pre_map 105 rfl (inA pre_map 105 V)

theorem pre_v95 : g_v95 (after preL V)
    = broadcastInDim S4x64x64 ![0, 1, 2] bcast_S1x64x64_S4x64x64_0_1_2 (g_v93 (after preL V)) :=
  eq1 pre_map 106 rfl (inA pre_map 106 V)

theorem pre_v96 : g_v96 (after preL V)
    = mulf (g_v94 (after preL V)) (g_v95 (after preL V)) :=
  eq2 pre_map 107 rfl (inA pre_map 107 V) (inA pre_map 107 V)

theorem pre_v97 : g_v97 (after preL V)
    = Host.exp (g_v96 (after preL V)) :=
  eq1 pre_map 108 rfl (inA pre_map 108 V)

theorem pre_v98 : g_v98 (after preL V)
    = Host.dotGeneral dot_S1x256x64x4x256_S1x256x64x4x256_S1x256x4x64x64_4_4_2_2_013_013 none (g_v74 (after preL V)) (g_v75 (after preL V)) :=
  eq2 pre_map 109 rfl (inA pre_map 109 V) (inA pre_map 109 V)

theorem pre_v99 : g_v99 (after preL V)
    = broadcastInDim S1x1x4x64x64 ![2, 3, 4] bcast_S4x64x64_S1x1x4x64x64_2_3_4 (g_v97 (after preL V)) :=
  eq1 pre_map 110 rfl (inA pre_map 110 V)

theorem pre_v100 : g_v100 (after preL V)
    = broadcastInDim S1x256x4x64x64 ![0, 1, 2, 3, 4] bcast_S1x1x4x64x64_S1x256x4x64x64_0_1_2_3_4 (g_v99 (after preL V)) :=
  eq1 pre_map 111 rfl (inA pre_map 111 V)

theorem pre_v101 : g_v101 (after preL V)
    = mulf (g_v98 (after preL V)) (g_v100 (after preL V)) :=
  eq2 pre_map 112 rfl (inA pre_map 112 V) (inA pre_map 112 V)

theorem pre_v102 : g_v102 (after preL V)
    = Host.dotGeneral dot_S1x256x64x4x512_S1x256x4x64x64_S1x256x4x512x64_2_4_4_3_013_012 none (g_v76 (after preL V)) (g_v101 (after preL V)) :=
  eq2 pre_map 113 rfl (inA pre_map 113 V) (inA pre_map 113 V)

theorem pre_v103 : g_v103 (after preL V)
    = transpose S1x256x64x4x512 [0, 1, 4, 2, 3] (g_v102 (after preL V)) transposes_S1x256x4x512x64_S1x256x64x4x512_0_1_4_2_3 :=
  eq1 pre_map 114 rfl (inA pre_map 114 V)

theorem pre_v104 : g_v104 (after preL V)
    = broadcastInDim S1x4 ![1] bcast_S4_S1x4_1 (g_v84 (after preL V)) :=
  eq1 pre_map 115 rfl (inA pre_map 115 V)

theorem pre_cst_10 : g_cst_10 (after preL V)
    = constant S_ .f32 0x3F800000#32 :=
  eq0 pre_map 116 rfl V

theorem pre_v105 : g_v105 (after preL V)
    = broadcastInDim S64 ![] bcast_S_S64 (g_cst_10 (after preL V)) :=
  eq1 pre_map 117 rfl (inA pre_map 117 V)

theorem pre_v106 : g_v106 (after preL V)
    = addf (g_v85 (after preL V)) (g_v105 (after preL V)) :=
  eq2 pre_map 118 rfl (inA pre_map 118 V) (inA pre_map 118 V)

theorem pre_v107 : g_v107 (after preL V)
    = broadcastInDim S64x1 ![0] bcast_S64_S64x1_0 (g_v106 (after preL V)) :=
  eq1 pre_map 119 rfl (inA pre_map 119 V)

theorem pre_v108 : g_v108 (after preL V)
    = broadcastInDim S64x4 ![0, 1] bcast_S1x4_S64x4_0_1 (g_v104 (after preL V)) :=
  eq1 pre_map 120 rfl (inA pre_map 120 V)

theorem pre_v109 : g_v109 (after preL V)
    = broadcastInDim S64x4 ![0, 1] bcast_S64x1_S64x4_0_1 (g_v107 (after preL V)) :=
  eq1 pre_map 121 rfl (inA pre_map 121 V)

theorem pre_v110 : g_v110 (after preL V)
    = mulf (g_v108 (after preL V)) (g_v109 (after preL V)) :=
  eq2 pre_map 122 rfl (inA pre_map 122 V) (inA pre_map 122 V)

theorem pre_v111 : g_v111 (after preL V)
    = Host.exp (g_v110 (after preL V)) :=
  eq1 pre_map 123 rfl (inA pre_map 123 V)

theorem pre_v112 : g_v112 (after preL V)
    = broadcastInDim S1x4 ![1] bcast_S4_S1x4_1 (g_v84 (after preL V)) :=
  eq1 pre_map 124 rfl (inA pre_map 124 V)

theorem pre_cst_11 : g_cst_11 (after preL V)
    = constant S_ .f32 0x427C0000#32 :=
  eq0 pre_map 125 rfl V

theorem pre_v113 : g_v113 (after preL V)
    = broadcastInDim S64 ![] bcast_S_S64 (g_cst_11 (after preL V)) :=
  eq1 pre_map 126 rfl (inA pre_map 126 V)

theorem pre_v114 : g_v114 (after preL V)
    = subf (g_v113 (after preL V)) (g_v85 (after preL V)) :=
  eq2 pre_map 127 rfl (inA pre_map 127 V) (inA pre_map 127 V)

theorem pre_v115 : g_v115 (after preL V)
    = broadcastInDim S64x1 ![0] bcast_S64_S64x1_0 (g_v114 (after preL V)) :=
  eq1 pre_map 128 rfl (inA pre_map 128 V)

theorem pre_v116 : g_v116 (after preL V)
    = broadcastInDim S64x4 ![0, 1] bcast_S1x4_S64x4_0_1 (g_v112 (after preL V)) :=
  eq1 pre_map 129 rfl (inA pre_map 129 V)

theorem pre_v117 : g_v117 (after preL V)
    = broadcastInDim S64x4 ![0, 1] bcast_S64x1_S64x4_0_1 (g_v115 (after preL V)) :=
  eq1 pre_map 130 rfl (inA pre_map 130 V)

theorem pre_v118 : g_v118 (after preL V)
    = mulf (g_v116 (after preL V)) (g_v117 (after preL V)) :=
  eq2 pre_map 131 rfl (inA pre_map 131 V) (inA pre_map 131 V)

theorem pre_v119 : g_v119 (after preL V)
    = Host.exp (g_v118 (after preL V)) :=
  eq1 pre_map 132 rfl (inA pre_map 132 V)

theorem pre_cst_12 : g_cst_12 (after preL V)
    = constant S_ .f32 0x42800000#32 :=
  eq0 pre_map 133 rfl V

theorem pre_v120 : g_v120 (after preL V)
    = broadcastInDim S4 ![] bcast_S_S4 (g_cst_12 (after preL V)) :=
  eq1 pre_map 134 rfl (inA pre_map 134 V)

theorem pre_v121 : g_v121 (after preL V)
    = mulf (g_v84 (after preL V)) (g_v120 (after preL V)) :=
  eq2 pre_map 135 rfl (inA pre_map 135 V) (inA pre_map 135 V)

theorem pre_v122 : g_v122 (after preL V)
    = Host.exp (g_v121 (after preL V)) :=
  eq1 pre_map 136 rfl (inA pre_map 136 V)

theorem pre_cst_13 : g_cst_13 (after preL V)
    = constant S_ .f32 0x00000000#32 :=
  eq0 pre_map 137 rfl V

theorem pre_v123 : g_v123 (after preL V)
    = broadcastInDim S1x4x256x512 ![] bcast_S_S1x4x256x512 (g_cst_13 (after preL V)) :=
  eq1 pre_map 138 rfl (inA pre_map 138 V)

theorem pre_v124 : g_v124 (after preL V)
    = transpose S256x1x64x4x256 [1, 0, 2, 3, 4] (g_v74 (after preL V)) transposes_S1x256x64x4x256_S256x1x64x4x256_1_0_2_3_4 :=
  eq1 pre_map 139 rfl (inA pre_map 139 V)

theorem pre_v125 : g_v125 (after preL V)
    = transpose S256x1x64x4x256 [1, 0, 2, 3, 4] (g_v75 (after preL V)) transposes_S1x256x64x4x256_S256x1x64x4x256_1_0_2_3_4 :=
  eq1 pre_map 140 rfl (inA pre_map 140 V)

theorem pre_v126 : g_v126 (after preL V)
    = transpose S256x1x64x4x512 [1, 0, 2, 3, 4] (g_v76 (after preL V)) transposes_S1x256x64x4x512_S256x1x64x4x512_1_0_2_3_4 :=
  eq1 pre_map 141 rfl (inA pre_map 141 V)

theorem pre_v127 : g_v127 (after preL V)
    = broadcastInDim S1x64x4x1 ![1, 2] bcast_S64x4_S1x64x4x1_1_2 (g_v111 (after preL V)) :=
  eq1 pre_map 142 rfl (inA pre_map 142 V)

theorem pre_v128 : g_v128 (after preL V)
    = broadcastInDim S1x4x1x1 ![1] bcast_S4_S1x4x1x1_1 (g_v122 (after preL V)) :=
  eq1 pre_map 143 rfl (inA pre_map 143 V)

theorem pre_v129 : g_v129 (after preL V)
    = broadcastInDim S1x64x4x1 ![1, 2] bcast_S64x4_S1x64x4x1_1_2 (g_v119 (after preL V)) :=
  eq1 pre_map 144 rfl (inA pre_map 144 V)

theorem pre_c : g_c (after preL V)
    = constantI S_ 32 0#32 :=
  eq0 pre_map 151 rfl V

theorem pre_v133_0 : g_v133_0 (after preL V)
    = (g_v124 (after preL V)) :=
  eq1 pre_map 152 rfl (inA pre_map 152 V)

theorem pre_v133_1 : g_v133_1 (after preL V)
    = (g_v125 (after preL V)) :=
  eq1 pre_map 153 rfl (inA pre_map 153 V)

theorem pre_v133_2 : g_v133_2 (after preL V)
    = (g_v126 (after preL V)) :=
  eq1 pre_map 154 rfl (inA pre_map 154 V)

theorem pre_v133_3 : g_v133_3 (after preL V)
    = (g_v128 (after preL V)) :=
  eq1 pre_map 155 rfl (inA pre_map 155 V)

theorem pre_v133_4 : g_v133_4 (after preL V)
    = (g_v129 (after preL V)) :=
  eq1 pre_map 156 rfl (inA pre_map 156 V)

theorem pre_v133_5 : g_v133_5 (after preL V)
    = (g_v127 (after preL V)) :=
  eq1 pre_map 157 rfl (inA pre_map 157 V)

theorem pre_v133_6 : g_v133_6 (after preL V)
    = (g_c (after preL V)) :=
  eq1 pre_map 158 rfl (inA pre_map 158 V)

theorem pre_v133_7 : g_v133_7 (after preL V)
    = (g_v123 (after preL V)) :=
  eq1 pre_map 159 rfl (inA pre_map 159 V)

end Cert.ReferenceIdeal.Ret
-- ==== Proof.RefPre.lean ====
module

public import proofs.«01_k».proof.Proof.RefEqsPre
public import proofs.«01_k».proof.Proof.Tables

/-! # The reference's tables, queries, keys and values as real numbers -/

@[expose] public section

set_option maxRecDepth 16384

noncomputable section

namespace Cert.ReferenceIdeal.Ret

open Idealize.ShloMosaic Cert.ReferenceIdeal.Gen Idealize.ShloMosaic.TcCoe Idealize.ShloMosaic.StableHlo Cert.Retention

variable (V : Valuation τ sig (Elt Ideal)) (P : ℕ → ℕ → ℝ) (pos : ℕ → ℤ)
  (hP : ∀ (i : Fin 16384) (j : Fin 6144), g_arg0 V (ix2 i j) = ((P i j : ℝ) : EReal))
  (hpos : ∀ i : Fin 16384, (g_arg2 V (ix1 i)).toInt = pos i)

section
include hpos
theorem v24_val (i : Fin 16384) (d : Fin 128) : g_v24 (after preL V) (ix4 0 i 0 d) = ((cosine pos i d : ℝ) : EReal) := by
  simp only [pre_v24, pre_v23, pre_v21, pre_v19, pre_v18, pre_v6, pre_v22, pre_v20, pre_v17, pre_v16, pre_cst_2, pre_v15, pre_v13, pre_v12, pre_v11, pre_cst_0, pre_v10, pre_v9, pre_cst, pre_v8, pre_v14, pre_cst_1]
  pointwise []
  rw [angle_eq _ _ d.isLt, hpos, Ideal.cos_coe]; rfl
theorem v25_val (i : Fin 16384) (d : Fin 128) : g_v25 (after preL V) (ix4 0 i 0 d) = ((sine pos i d : ℝ) : EReal) := by
  simp only [pre_v25, pre_v23, pre_v21, pre_v19, pre_v18, pre_v6, pre_v22, pre_v20, pre_v17, pre_v16, pre_cst_2, pre_v15, pre_v13, pre_v12, pre_v11, pre_cst_0, pre_v10, pre_v9, pre_cst, pre_v8, pre_v14, pre_cst_1]
  pointwise []
  rw [angle_eq _ _ d.isLt, hpos, Ideal.sin_coe]; rfl
theorem v56_val (i : Fin 16384) (d : Fin 128) : g_v56 (after preL V) (ix4 0 i 0 d) = ((cosine pos i d : ℝ) : EReal) := by
  simp only [pre_v56, pre_v55, pre_v53, pre_v51, pre_v50, pre_v6, pre_v54, pre_v52, pre_v49, pre_v48, pre_cst_6, pre_v47, pre_v45, pre_v44, pre_v43, pre_cst_4, pre_v42, pre_v41, pre_cst_3, pre_v40, pre_v46, pre_cst_5]
  pointwise []
  rw [angle_eq _ _ d.isLt, hpos, Ideal.cos_coe]; rfl
theorem v57_val (i : Fin 16384) (d : Fin 128) : g_v57 (after preL V) (ix4 0 i 0 d) = ((sine pos i d : ℝ) : EReal) := by
  simp only [pre_v57, pre_v55, pre_v53, pre_v51, pre_v50, pre_v6, pre_v54, pre_v52, pre_v49, pre_v48, pre_cst_6, pre_v47, pre_v45, pre_v44, pre_v43, pre_cst_4, pre_v42, pre_v41, pre_cst_3, pre_v40, pre_v46, pre_cst_5]
  pointwise []
  rw [angle_eq _ _ d.isLt, hpos, Ideal.sin_coe]; rfl
end

section
include hP hpos
theorem v38_val (i : Fin 16384) (h : Fin 4) (d : Fin 256) : g_v38 (after preL V) (ix4 0 i h d)
    = ((query P (cosine pos) (sine pos) h i d : ℝ) : EReal) := by
  simp only [pre_v38, pre_v32, pre_v29, pre_v26, pre_v7, pre_v1, pre_v0, pre_v28, pre_v31, pre_v27, pre_v30, pre_v37, pre_v34, pre_v33, pre_v36, pre_v35]
  pointwise []
  simp only [hP, v24_val V pos hpos, v25_val V pos hpos]
  unfold query rope
  rw [Nat.mul_comm 256 (h : ℕ)]
  split <;> norm_cast
theorem v70_val (i : Fin 16384) (h : Fin 4) (d : Fin 256) : g_v70 (after preL V) (ix4 0 i h d)
    = ((rope (fun d => P i (1024 + 256 * h + d)) (cosine pos i) (sine pos i) d : ℝ) : EReal) := by
  simp only [pre_v70, pre_v64, pre_v61, pre_v58, pre_v39, pre_v3, pre_v2, pre_v60, pre_v63, pre_v59, pre_v62, pre_v69, pre_v66, pre_v65, pre_v68, pre_v67]
  pointwise []
  simp only [hP, v56_val V pos hpos, v57_val V pos hpos]
  unfold rope
  rw [Nat.mul_comm 256 (h : ℕ)]
  simp only [Nat.add_assoc]
  split <;> norm_cast
theorem v72_val (i : Fin 16384) (h : Fin 4) (d : Fin 256) : g_v72 (after preL V) (ix4 0 i h d)
    = ((key P (cosine pos) (sine pos) h i d : ℝ) : EReal) := by
  simp only [pre_v72, pre_v71, pre_cst_7]
  pointwise []
  rw [v70_val V P pos hP hpos, sixteenth, ← EReal.coe_mul]; rfl
theorem v74_val (n : Fin 256) (r : Fin 64) (h : Fin 4) (d : Fin 256) : g_v74 (after preL V) (ix5 0 n r h d)
    = ((query P (cosine pos) (sine pos) h (64 * n + r) d : ℝ) : EReal) := by
  simp only [pre_v74]
  pointwise []
  rw [v38_val V P pos hP hpos, Nat.mul_comm 64 (n : ℕ)]
theorem v75_val (n : Fin 256) (r : Fin 64) (h : Fin 4) (d : Fin 256) : g_v75 (after preL V) (ix5 0 n r h d)
    = ((key P (cosine pos) (sine pos) h (64 * n + r) d : ℝ) : EReal) := by
  simp only [pre_v75]
  pointwise []
  rw [v72_val V P pos hP hpos, Nat.mul_comm 64 (n : ℕ)]
theorem v124_val (n : Fin 256) (r : Fin 64) (h : Fin 4) (d : Fin 256) : g_v124 (after preL V) (ix5 n 0 r h d)
    = ((query P (cosine pos) (sine pos) h (64 * n + r) d : ℝ) : EReal) := by
  rw [← v74_val V P pos hP hpos]
  simp only [pre_v124]
  pointwise []
theorem v125_val (n : Fin 256) (r : Fin 64) (h : Fin 4) (d : Fin 256) : g_v125 (after preL V) (ix5 n 0 r h d)
    = ((key P (cosine pos) (sine pos) h (64 * n + r) d : ℝ) : EReal) := by
  rw [← v75_val V P pos hP hpos]
  simp only [pre_v125]
  pointwise []
end

section
include hP
theorem v76_val (n : Fin 256) (r : Fin 64) (h : Fin 4) (e : Fin 512) : g_v76 (after preL V) (ix5 0 n r h e)
    = ((value P h (64 * n + r) e : ℝ) : EReal) := by
  simp only [pre_v76, pre_v73, pre_v5, pre_v4]
  pointwise []
  rw [hP]
  unfold value
  rw [Nat.mul_comm 64 (n : ℕ), Nat.mul_comm 512 (h : ℕ), Nat.add_assoc]
theorem v126_val (n : Fin 256) (r : Fin 64) (h : Fin 4) (e : Fin 512) : g_v126 (after preL V) (ix5 n 0 r h e)
    = ((value P h (64 * n + r) e : ℝ) : EReal) := by
  rw [← v76_val V P hP]
  simp only [pre_v126]
  pointwise []
end

theorem v84_val (h : Fin 4) : g_v84 (after preL V) (ix1 h) = ((rate h : ℝ) : EReal) := by
  simp only [pre_v84, pre_v83, pre_v82, pre_v81, pre_v80, pre_cst_9, pre_v79, pre_v78, pre_cst_8, pre_v77]
  pointwise []
  exact rate_eq _ h.isLt
theorem v99_val (h : Fin 4) (i j : Fin 64) : g_v99 (after preL V) (ix5 0 0 h i j) = ((decay (rate h) i j : ℝ) : EReal) := by
  simp only [pre_v99, pre_v97, pre_v96, pre_v94, pre_v92, pre_v95, pre_v93, pre_v91, pre_v90, pre_v88, pre_v86, pre_v85, pre_v89, pre_v87]
  pointwise []
  rw [v84_val, word_real _ (by omega), word_real _ (by omega), ← EReal.coe_sub, abs_real, ← EReal.coe_mul, Ideal.exp_coe]
  unfold decay
  rw [if_pos (by omega)]
theorem v127_val (h : Fin 4) (r : Fin 64) : g_v127 (after preL V) (ix4 0 r h 0) = ((Real.exp (rate h * ((r : ℕ) + 1)) : ℝ) : EReal) := by
  simp only [pre_v127, pre_v111, pre_v110, pre_v108, pre_v104, pre_v109, pre_v107, pre_v106, pre_v85, pre_v105, pre_cst_10]
  pointwise []
  rw [v84_val, word_real _ (by omega), one_real, ← EReal.coe_add, ← EReal.coe_mul, Ideal.exp_coe]
theorem v128_val (h : Fin 4) : g_v128 (after preL V) (ix4 0 h 0 0) = ((Real.exp (rate h * (64 : ℕ)) : ℝ) : EReal) := by
  simp only [pre_v128, pre_v122, pre_v121, pre_v120, pre_cst_12]
  pointwise []
  rw [v84_val, c_64, ← EReal.coe_mul, Ideal.exp_coe]
theorem v129_val (h : Fin 4) (r : Fin 64) : g_v129 (after preL V) (ix4 0 r h 0)
    = ((Real.exp (rate h * ((64 : ℕ) - 1 - (r : ℕ))) : ℝ) : EReal) := by
  simp only [pre_v129, pre_v119, pre_v118, pre_v116, pre_v112, pre_v117, pre_v115, pre_v114, pre_v113, pre_cst_11, pre_v85]
  pointwise []
  rw [v84_val, c_63, word_real _ (by omega), ← EReal.coe_sub, ← EReal.coe_mul, Ideal.exp_coe]
theorem v123_val (h : Fin 4) (d : Fin 256) (e : Fin 512) : g_v123 (after preL V) (ix4 0 h d e) = 0 := by
  simp only [pre_v123, pre_cst_13]
  pointwise []

section
include hP hpos
theorem v101_val (n : Fin 256) (h : Fin 4) (r x : Fin 64) : g_v101 (after preL V) (ix5 0 n h r x)
    = (((∑ d ∈ Finset.range 256, query P (cosine pos) (sine pos) h (64 * n + r) d * key P (cosine pos) (sine pos) h (64 * n + x) d)
      * decay (rate h) r x : ℝ) : EReal) := by
  simp only [pre_v101, pre_v98, pre_v100]
  pointwise []
  simp only [v74_val V P pos hP hpos, v75_val V P pos hP hpos, v99_val, ← EReal.coe_mul, csum]
  simp only [Finset.sum_range]
theorem v103_val (n : Fin 256) (h : Fin 4) (r : Fin 64) (e : Fin 512) : g_v103 (after preL V) (ix5 0 n r h e)
    = ((∑ x ∈ Finset.range 64, (∑ d ∈ Finset.range 256, query P (cosine pos) (sine pos) h (64 * n + r) d * key P (cosine pos) (sine pos) h (64 * n + x) d)
      * decay (rate h) r x * value P h (64 * n + x) e : ℝ) : EReal) := by
  simp only [pre_v103, pre_v102]
  pointwise []
  simp only [v76_val V P hP, v101_val V P pos hP hpos, ← EReal.coe_mul, csum]
  rw [Finset.sum_range]
  exact congrArg _ (Finset.sum_congr rfl fun x _ => mul_comm _ _)
end

end Cert.ReferenceIdeal.Ret
-- ==== Proof.RefLoopA.lean ====
module

public import proofs.«01_k».proof.Proof.RefEqsTripA
public import proofs.«01_k».proof.Proof.RefPre

/-! # The reference's forward scan -/

@[expose] public section

set_option maxRecDepth 16384

noncomputable section

namespace Cert.ReferenceIdeal.Ret

open Idealize.ShloMosaic Cert.ReferenceIdeal.Gen Idealize.ShloMosaic.TcCoe Idealize.ShloMosaic.StableHlo Cert.Retention

theorem word_int (k : ℕ) (h : k < 256) : (BitVec.ofNat 32 k).toInt = (k : ℤ) := by
  have e : (BitVec.ofNat 32 k).toNat = k := by rw [BitVec.toNat_ofNat]; omega
  rw [BitVec.toInt_eq_toNat_of_lt (by rw [e]; omega), e]

/-! ## The corner a slice starts at -/

section
variable (w z1 z2 z3 z4 : IVec S_ 32)
/-- The words an index of a stack is given by. -/
abbrev corner : Fin 5 → ℤ := fun a => ((![w, z1, z2, z3, z4] : Fin 5 → IVec S_ 32) a (Shape.Idx.first h_S_)).toInt

theorem startQ_0 (k : ℕ) (hk : w ix0 = BitVec.ofNat 32 k) (hlt : k < 256) (ht) :
    Host.clampedStart S256x1x64x4x256 S1x1x64x4x256 ht (corner w z1 z2 z3 z4) 0 = k := by
  refine Host.clampedStart_of_le ht _ 0 k ?_ (by show k + 1 ≤ 256; omega)
  show (w _).toInt = k
  rw [show w (Shape.Idx.first h_S_) = w ix0 from congrArg w (Subsingleton.elim _ _), hk, word_int k hlt]
theorem startQ_1 (ht) : Host.clampedStart S256x1x64x4x256 S1x1x64x4x256 ht (corner w z1 z2 z3 z4) 1 = 0 := by
  have h := Host.clampedStart_le (s := S256x1x64x4x256) (t := S1x1x64x4x256) ht (corner w z1 z2 z3 z4) 1 (Nat.le_refl 1)
  change _ + 1 ≤ 1 at h
  omega
theorem startQ_2 (ht) : Host.clampedStart S256x1x64x4x256 S1x1x64x4x256 ht (corner w z1 z2 z3 z4) 2 = 0 := by
  have h := Host.clampedStart_le (s := S256x1x64x4x256) (t := S1x1x64x4x256) ht (corner w z1 z2 z3 z4) 2 (Nat.le_refl 64)
  change _ + 64 ≤ 64 at h
  omega
theorem startQ_3 (ht) : Host.clampedStart S256x1x64x4x256 S1x1x64x4x256 ht (corner w z1 z2 z3 z4) 3 = 0 := by
  have h := Host.clampedStart_le (s := S256x1x64x4x256) (t := S1x1x64x4x256) ht (corner w z1 z2 z3 z4) 3 (Nat.le_refl 4)
  change _ + 4 ≤ 4 at h
  omega
theorem startQ_4 (ht) : Host.clampedStart S256x1x64x4x256 S1x1x64x4x256 ht (corner w z1 z2 z3 z4) 4 = 0 := by
  have h := Host.clampedStart_le (s := S256x1x64x4x256) (t := S1x1x64x4x256) ht (corner w z1 z2 z3 z4) 4 (Nat.le_refl 256)
  change _ + 256 ≤ 256 at h
  omega
theorem startR_0 (k : ℕ) (hk : w ix0 = BitVec.ofNat 32 k) (hlt : k < 256) (ht) :
    Host.clampedStart S256x1x64x4x512 S1x1x64x4x512 ht (corner w z1 z2 z3 z4) 0 = k := by
  refine Host.clampedStart_of_le ht _ 0 k ?_ (by show k + 1 ≤ 256; omega)
  show (w _).toInt = k
  rw [show w (Shape.Idx.first h_S_) = w ix0 from congrArg w (Subsingleton.elim _ _), hk, word_int k hlt]
theorem startR_1 (ht) : Host.clampedStart S256x1x64x4x512 S1x1x64x4x512 ht (corner w z1 z2 z3 z4) 1 = 0 := by
  have h := Host.clampedStart_le (s := S256x1x64x4x512) (t := S1x1x64x4x512) ht (corner w z1 z2 z3 z4) 1 (Nat.le_refl 1)
  change _ + 1 ≤ 1 at h
  omega
theorem startR_2 (ht) : Host.clampedStart S256x1x64x4x512 S1x1x64x4x512 ht (corner w z1 z2 z3 z4) 2 = 0 := by
  have h := Host.clampedStart_le (s := S256x1x64x4x512) (t := S1x1x64x4x512) ht (corner w z1 z2 z3 z4) 2 (Nat.le_refl 64)
  change _ + 64 ≤ 64 at h
  omega
theorem startR_3 (ht) : Host.clampedStart S256x1x64x4x512 S1x1x64x4x512 ht (corner w z1 z2 z3 z4) 3 = 0 := by
  have h := Host.clampedStart_le (s := S256x1x64x4x512) (t := S1x1x64x4x512) ht (corner w z1 z2 z3 z4) 3 (Nat.le_refl 4)
  change _ + 4 ≤ 4 at h
  omega
theorem startR_4 (ht) : Host.clampedStart S256x1x64x4x512 S1x1x64x4x512 ht (corner w z1 z2 z3 z4) 4 = 0 := by
  have h := Host.clampedStart_le (s := S256x1x64x4x512) (t := S1x1x64x4x512) ht (corner w z1 z2 z3 z4) 4 (Nat.le_refl 512)
  change _ + 512 ≤ 512 at h
  omega
theorem startT_0 (k : ℕ) (hk : w ix0 = BitVec.ofNat 32 k) (hlt : k < 256) (ht) :
    Host.clampedStart S256x1x4x256x512 S1x1x4x256x512 ht (corner w z1 z2 z3 z4) 0 = k := by
  refine Host.clampedStart_of_le ht _ 0 k ?_ (by show k + 1 ≤ 256; omega)
  show (w _).toInt = k
  rw [show w (Shape.Idx.first h_S_) = w ix0 from congrArg w (Subsingleton.elim _ _), hk, word_int k hlt]
theorem startT_1 (ht) : Host.clampedStart S256x1x4x256x512 S1x1x4x256x512 ht (corner w z1 z2 z3 z4) 1 = 0 := by
  have h := Host.clampedStart_le (s := S256x1x4x256x512) (t := S1x1x4x256x512) ht (corner w z1 z2 z3 z4) 1 (Nat.le_refl 1)
  change _ + 1 ≤ 1 at h
  omega
theorem startT_2 (ht) : Host.clampedStart S256x1x4x256x512 S1x1x4x256x512 ht (corner w z1 z2 z3 z4) 2 = 0 := by
  have h := Host.clampedStart_le (s := S256x1x4x256x512) (t := S1x1x4x256x512) ht (corner w z1 z2 z3 z4) 2 (Nat.le_refl 4)
  change _ + 4 ≤ 4 at h
  omega
theorem startT_3 (ht) : Host.clampedStart S256x1x4x256x512 S1x1x4x256x512 ht (corner w z1 z2 z3 z4) 3 = 0 := by
  have h := Host.clampedStart_le (s := S256x1x4x256x512) (t := S1x1x4x256x512) ht (corner w z1 z2 z3 z4) 3 (Nat.le_refl 256)
  change _ + 256 ≤ 256 at h
  omega
theorem startT_4 (ht) : Host.clampedStart S256x1x4x256x512 S1x1x4x256x512 ht (corner w z1 z2 z3 z4) 4 = 0 := by
  have h := Host.clampedStart_le (s := S256x1x4x256x512) (t := S1x1x4x256x512) ht (corner w z1 z2 z3 z4) 4 (Nat.le_refl 512)
  change _ + 512 ≤ 512 at h
  omega
end

variable (V : Valuation τ sig (Elt Ideal)) (P C S : ℕ → ℕ → ℝ) (g : ℕ → ℝ)

/-- What the trips of the scan read: the blocks and the tables. -/
structure StacksA : Prop where
  q : ∀ (n : Fin 256) (r : Fin 64) (h : Fin 4) (d : Fin 256), g_v133_0 V (ix5 n 0 r h d) = ((query P C S h (64 * n + r) d : ℝ) : EReal)
  k : ∀ (n : Fin 256) (r : Fin 64) (h : Fin 4) (d : Fin 256), g_v133_1 V (ix5 n 0 r h d) = ((key P C S h (64 * n + r) d : ℝ) : EReal)
  v : ∀ (n : Fin 256) (r : Fin 64) (h : Fin 4) (e : Fin 512), g_v133_2 V (ix5 n 0 r h e) = ((value P h (64 * n + r) e : ℝ) : EReal)
  gt : ∀ h : Fin 4, g_v133_3 V (ix4 0 h 0 0) = ((Real.exp (g h * (64 : ℕ)) : ℝ) : EReal)
  zeta : ∀ (h : Fin 4) (r : Fin 64), g_v133_4 V (ix4 0 r h 0) = ((Real.exp (g h * ((64 : ℕ) - 1 - (r : ℕ))) : ℝ) : EReal)
  xi : ∀ (h : Fin 4) (r : Fin 64), g_v133_5 V (ix4 0 r h 0) = ((Real.exp (g h * ((r : ℕ) + 1)) : ℝ) : EReal)

/-- The state before block `k`. -/
def before (h d e k : ℕ) : ℝ := state 64 (g h) (fun j => key P C S h j d * value P h j e) k

/-- The scan after `k` trips: the counter, the state, and the blocks of output, states and decayed keys stored. -/
structure TripsA (k : ℕ) : Prop where
  ctr : g_v133_6 V ix0 = BitVec.ofNat 32 k
  st : ∀ (h : Fin 4) (d : Fin 256) (e : Fin 512), g_v133_7 V (ix4 0 h d e) = ((before P C S g h d e k : ℝ) : EReal)
  ys : ∀ (n : Fin 256) (_ : n.val < k) (r : Fin 64) (h : Fin 4) (e : Fin 512), g_v133_8 V (ix5 n 0 r h e)
    = (((∑ d ∈ Finset.range 256, before P C S g h d e n * query P C S h (64 * n + r) d) * Real.exp (g h * ((r : ℕ) + 1)) : ℝ) : EReal)
  ss : ∀ (n : Fin 256) (_ : n.val < k) (h : Fin 4) (d : Fin 256) (e : Fin 512), g_v133_9 V (ix5 n 0 h d e)
    = ((before P C S g h d e n : ℝ) : EReal)
  ks : ∀ (n : Fin 256) (_ : n.val < k) (r : Fin 64) (h : Fin 4) (d : Fin 256), g_v133_10 V (ix5 n 0 r h d)
    = ((key P C S h (64 * n + r) d * Real.exp (g h * ((64 : ℕ) - 1 - (r : ℕ))) : ℝ) : EReal)

theorem keep_tripA {x : Ref sig .tc} (hx : x ∉ tripA_Ws) : after tripAL V (Proc.devRef .tc x) = V (Proc.devRef .tc x) :=
  after_unwritten _ tripA_map hx V

variable {V P C S g} (K : StacksA V P C S g)
include K

theorem StacksA.trip : StacksA (after tripAL V) P C S g where
  q n r h d := (congrFun (keep_tripA V (x := main_v133_0) (by decide +kernel)) _).trans (K.q n r h d)
  k n r h d := (congrFun (keep_tripA V (x := main_v133_1) (by decide +kernel)) _).trans (K.k n r h d)
  v n r h e := (congrFun (keep_tripA V (x := main_v133_2) (by decide +kernel)) _).trans (K.v n r h e)
  gt h := (congrFun (keep_tripA V (x := main_v133_3) (by decide +kernel)) _).trans (K.gt h)
  zeta h r := (congrFun (keep_tripA V (x := main_v133_4) (by decide +kernel)) _).trans (K.zeta h r)
  xi h r := (congrFun (keep_tripA V (x := main_v133_5) (by decide +kernel)) _).trans (K.xi h r)

variable {k : ℕ} (T : TripsA V P C S g k) (hk : k < 256)
include T hk

theorem block_q (r : Fin 64) (h : Fin 4) (d : Fin 256) : g_a_v239 (after tripAL V) (ix4 0 r h d) = ((query P C S h (64 * k + r) d : ℝ) : EReal) := by
  simp only [tripA_a_v239, tripA_a_call0_v0, tripA_a_call0_c, tripA_a_call0_c_0, tripA_a_call0_c_1, tripA_a_call0_c_2]
  pointwise []
  simp only [startQ_0 _ _ _ _ _ k T.ctr hk, startQ_1, startQ_2, startQ_3, startQ_4, Nat.zero_add]
  exact K.q ⟨k, hk⟩ r h d
theorem block_k (r : Fin 64) (h : Fin 4) (d : Fin 256) : g_a_v240 (after tripAL V) (ix4 0 r h d) = ((key P C S h (64 * k + r) d : ℝ) : EReal) := by
  simp only [tripA_a_v240, tripA_a_call1_v0, tripA_a_call1_c, tripA_a_call1_c_0, tripA_a_call1_c_1, tripA_a_call1_c_2]
  pointwise []
  simp only [startQ_0 _ _ _ _ _ k T.ctr hk, startQ_1, startQ_2, startQ_3, startQ_4, Nat.zero_add]
  exact K.k ⟨k, hk⟩ r h d
theorem block_v (r : Fin 64) (h : Fin 4) (e : Fin 512) : g_a_v241 (after tripAL V) (ix4 0 r h e) = ((value P h (64 * k + r) e : ℝ) : EReal) := by
  simp only [tripA_a_v241, tripA_a_call2_v0, tripA_a_call2_c, tripA_a_call2_c_0, tripA_a_call2_c_1, tripA_a_call2_c_2]
  pointwise []
  simp only [startR_0 _ _ _ _ _ k T.ctr hk, startR_1, startR_2, startR_3, startR_4, Nat.zero_add]
  exact K.v ⟨k, hk⟩ r h e
theorem block_kz (r : Fin 64) (h : Fin 4) (d : Fin 256) : g_a_v249 (after tripAL V) (ix4 0 r h d)
    = ((key P C S h (64 * k + r) d * Real.exp (g h * ((64 : ℕ) - 1 - (r : ℕ))) : ℝ) : EReal) := by
  simp only [tripA_a_v249, tripA_a_v248]
  pointwise []
  rw [block_k K T hk, K.zeta, ← EReal.coe_mul]
theorem block_y (r : Fin 64) (h : Fin 4) (e : Fin 512) : g_a_v245 (after tripAL V) (ix4 0 r h e)
    = (((∑ d ∈ Finset.range 256, before P C S g h d e k * query P C S h (64 * k + r) d) * Real.exp (g h * ((r : ℕ) + 1)) : ℝ) : EReal) := by
  simp only [tripA_a_v245, tripA_a_v243, tripA_a_v242, tripA_a_v244]
  pointwise []
  simp only [block_q K T hk, K.xi, T.st, ← EReal.coe_mul, csum]
  simp only [Finset.sum_range]

theorem TripsA.trip : TripsA (after tripAL V) P C S g (k + 1) where
  ctr := by
    simp only [tripA_v133_6, tripA_a_v255, tripA_a_c_43]
    pointwise []
    rw [T.ctr]
    show BitVec.ofNat 32 k + 1#32 = _
    rw [← BitVec.ofNat_add]
  st h d e := by
    simp only [tripA_v133_7, tripA_a_v251, tripA_a_v247, tripA_a_v246, tripA_a_v250]
    pointwise []
    simp only [block_kz K T hk, block_v K T hk, K.gt, T.st, ← EReal.coe_mul, csum, ← EReal.coe_add]
    unfold before
    rw [state, Finset.sum_range]
    refine congrArg _ (congrArg _ (Finset.sum_congr rfl fun x _ => ?_))
    ring
  ys n hn r h e := by
    simp only [tripA_v133_8, tripA_a_v252, tripA_a_call3_v0, tripA_a_call3_c, tripA_a_call3_c_0, tripA_a_call3_c_1, tripA_a_call3_c_2]
    pointwise []
    simp only [startR_0 _ _ _ _ _ k T.ctr hk, startR_1, startR_2, startR_3, startR_4, Nat.zero_le, Nat.sub_zero, and_true, Nat.zero_add, Nat.lt_one_iff]
    split
    · rename_i hh
      have e : n.val = k := by omega
      subst e
      exact block_y K T hk r h e
    · rename_i hh
      exact T.ys n (by omega) r h e
  ss n hn h d e := by
    simp only [tripA_v133_9, tripA_a_v253, tripA_a_call4_v0, tripA_a_call4_c, tripA_a_call4_c_0, tripA_a_call4_c_1, tripA_a_call4_c_2]
    pointwise []
    simp only [startT_0 _ _ _ _ _ k T.ctr hk, startT_1, startT_2, startT_3, startT_4, Nat.zero_le, Nat.sub_zero, and_true, Nat.zero_add, Nat.lt_one_iff]
    split
    · rename_i hh
      have e : n.val = k := by omega
      subst e
      exact T.st h d e
    · rename_i hh
      exact T.ss n (by omega) h d e
  ks n hn r h d := by
    simp only [tripA_v133_10, tripA_a_v254, tripA_a_call5_v0, tripA_a_call5_c, tripA_a_call5_c_0, tripA_a_call5_c_1, tripA_a_call5_c_2]
    pointwise []
    simp only [startQ_0 _ _ _ _ _ k T.ctr hk, startQ_1, startQ_2, startQ_3, startQ_4, Nat.zero_le, Nat.sub_zero, and_true, Nat.zero_add, Nat.lt_one_iff]
    split
    · rename_i hh
      have e : n.val = k := by omega
      subst e
      exact block_kz K T hk r h d
    · rename_i hh
      exact T.ks n (by omega) r h d

end Cert.ReferenceIdeal.Ret
-- ==== Proof.RefLoopB.lean ====
module

public import proofs.«01_k».proof.Proof.RefEqsTripB
public import proofs.«01_k».proof.Proof.RefLoopA

/-! # The reference's reverse scan -/

@[expose] public section

set_option maxRecDepth 16384

noncomputable section

namespace Cert.ReferenceIdeal.Ret

open Idealize.ShloMosaic Cert.ReferenceIdeal.Gen Idealize.ShloMosaic.TcCoe Idealize.ShloMosaic.StableHlo Cert.Retention

theorem word_back : ∀ k : Fin 256, IntOp.subi (IntOp.subi 256#32 (BitVec.ofNat 32 k)) 1#32 = BitVec.ofNat 32 (255 - k) := by decide +kernel

variable (V : Valuation τ sig (Elt Ideal)) (P U C S : ℕ → ℕ → ℝ) (g : ℕ → ℝ)

/-- What the trips of the reverse scan read: the blocks, the states of the forward scan and the tables. -/
structure StacksB : Prop where
  u : ∀ (n : Fin 256) (r : Fin 64) (h : Fin 4) (e : Fin 512), g_v174_0 V (ix5 n 0 r h e) = ((grad U h (64 * n + r) e : ℝ) : EReal)
  q : ∀ (n : Fin 256) (r : Fin 64) (h : Fin 4) (d : Fin 256), g_v174_1 V (ix5 n 0 r h d) = ((query P C S h (64 * n + r) d : ℝ) : EReal)
  s : ∀ (n : Fin 256) (h : Fin 4) (d : Fin 256) (e : Fin 512), g_v174_2 V (ix5 n 0 h d e) = ((before P C S g h d e n : ℝ) : EReal)
  v : ∀ (n : Fin 256) (r : Fin 64) (h : Fin 4) (e : Fin 512), g_v174_3 V (ix5 n 0 r h e) = ((value P h (64 * n + r) e : ℝ) : EReal)
  kz : ∀ (n : Fin 256) (r : Fin 64) (h : Fin 4) (d : Fin 256), g_v174_4 V (ix5 n 0 r h d)
    = ((key P C S h (64 * n + r) d * Real.exp (g h * ((64 : ℕ) - 1 - (r : ℕ))) : ℝ) : EReal)
  xi : ∀ (h : Fin 4) (r : Fin 64), g_v174_5 V (ix4 0 r h 0) = ((Real.exp (g h * ((r : ℕ) + 1)) : ℝ) : EReal)
  gt : ∀ h : Fin 4, g_v174_6 V (ix4 0 h 0 0) = ((Real.exp (g h * (64 : ℕ)) : ℝ) : EReal)
  zeta : ∀ (h : Fin 4) (r : Fin 64), g_v174_7 V (ix4 0 r h 0) = ((Real.exp (g h * ((64 : ℕ) - 1 - (r : ℕ))) : ℝ) : EReal)

/-- The state after `k` trips. -/
def behind (h d e k : ℕ) : ℝ := back 64 256 (g h) (fun i => query P C S h i d * grad U h i e) k

/-- The scan after `k` trips: the counter, the state, and the blocks of the three gradients stored. -/
structure TripsB (k : ℕ) : Prop where
  ctr : g_v174_8 V ix0 = BitVec.ofNat 32 k
  st : ∀ (h : Fin 4) (d : Fin 256) (e : Fin 512), g_v174_9 V (ix4 0 h d e) = ((behind P U C S g h d e k : ℝ) : EReal)
  dq : ∀ (n : Fin 256) (_ : 256 ≤ n.val + k) (r : Fin 64) (h : Fin 4) (d : Fin 256), g_v174_10 V (ix5 n 0 r h d)
    = ((∑ e ∈ Finset.range 512, grad U h (64 * n + r) e * Real.exp (g h * ((r : ℕ) + 1)) * before P C S g h d e n : ℝ) : EReal)
  dk : ∀ (n : Fin 256) (_ : 256 ≤ n.val + k) (r : Fin 64) (h : Fin 4) (d : Fin 256), g_v174_11 V (ix5 n 0 r h d)
    = (((∑ e ∈ Finset.range 512, behind P U C S g h d e (255 - n) * value P h (64 * n + r) e) * Real.exp (g h * ((64 : ℕ) - 1 - (r : ℕ))) : ℝ) : EReal)
  dv : ∀ (n : Fin 256) (_ : 256 ≤ n.val + k) (r : Fin 64) (h : Fin 4) (e : Fin 512), g_v174_12 V (ix5 n 0 r h e)
    = ((∑ d ∈ Finset.range 256, behind P U C S g h d e (255 - n) * (key P C S h (64 * n + r) d * Real.exp (g h * ((64 : ℕ) - 1 - (r : ℕ)))) : ℝ) : EReal)

theorem keep_tripB {x : Ref sig .tc} (hx : x ∉ tripB_Ws) : after tripBL V (Proc.devRef .tc x) = V (Proc.devRef .tc x) :=
  after_unwritten _ tripB_map hx V

variable {V P U C S g} (K : StacksB V P U C S g)
include K

theorem StacksB.trip : StacksB (after tripBL V) P U C S g where
  u n r h e := (congrFun (keep_tripB V (x := main_v174_0) (by decide +kernel)) _).trans (K.u n r h e)
  q n r h d := (congrFun (keep_tripB V (x := main_v174_1) (by decide +kernel)) _).trans (K.q n r h d)
  s n h d e := (congrFun (keep_tripB V (x := main_v174_2) (by decide +kernel)) _).trans (K.s n h d e)
  v n r h e := (congrFun (keep_tripB V (x := main_v174_3) (by decide +kernel)) _).trans (K.v n r h e)
  kz n r h d := (congrFun (keep_tripB V (x := main_v174_4) (by decide +kernel)) _).trans (K.kz n r h d)
  xi h r := (congrFun (keep_tripB V (x := main_v174_5) (by decide +kernel)) _).trans (K.xi h r)
  gt h := (congrFun (keep_tripB V (x := main_v174_6) (by decide +kernel)) _).trans (K.gt h)
  zeta h r := (congrFun (keep_tripB V (x := main_v174_7) (by decide +kernel)) _).trans (K.zeta h r)

variable {k : ℕ} (T : TripsB V P U C S g k) (hk : k < 256)
include T hk

omit K in
theorem block_ix : g_b_v240 (after tripBL V) ix0 = BitVec.ofNat 32 (255 - k) := by
  simp only [tripB_b_v240, tripB_b_v239, tripB_b_c_45, tripB_b_c_46]
  pointwise []
  rw [T.ctr]
  exact word_back ⟨k, hk⟩

theorem back_u (r : Fin 64) (h : Fin 4) (e : Fin 512) : g_b_v241 (after tripBL V) (ix4 0 r h e) = ((grad U h (64 * (255 - k) + r) e : ℝ) : EReal) := by
  simp only [tripB_b_v241, tripB_b_call7_v0, tripB_b_call7_c, tripB_b_call7_c_0, tripB_b_call7_c_1, tripB_b_call7_c_2]
  pointwise []
  simp only [startR_0 _ _ _ _ _ (255 - k) (block_ix T hk) (by omega), startR_1, startR_2, startR_3, startR_4, Nat.zero_add]
  exact K.u ⟨255 - k, by omega⟩ r h e
theorem back_q (r : Fin 64) (h : Fin 4) (d : Fin 256) : g_b_v242 (after tripBL V) (ix4 0 r h d) = ((query P C S h (64 * (255 - k) + r) d : ℝ) : EReal) := by
  simp only [tripB_b_v242, tripB_b_call8_v0, tripB_b_call8_c, tripB_b_call8_c_0, tripB_b_call8_c_1, tripB_b_call8_c_2]
  pointwise []
  simp only [startQ_0 _ _ _ _ _ (255 - k) (block_ix T hk) (by omega), startQ_1, startQ_2, startQ_3, startQ_4, Nat.zero_add]
  exact K.q ⟨255 - k, by omega⟩ r h d
theorem back_v (r : Fin 64) (h : Fin 4) (e : Fin 512) : g_b_v244 (after tripBL V) (ix4 0 r h e) = ((value P h (64 * (255 - k) + r) e : ℝ) : EReal) := by
  simp only [tripB_b_v244, tripB_b_call10_v0, tripB_b_call10_c, tripB_b_call10_c_0, tripB_b_call10_c_1, tripB_b_call10_c_2]
  pointwise []
  simp only [startR_0 _ _ _ _ _ (255 - k) (block_ix T hk) (by omega), startR_1, startR_2, startR_3, startR_4, Nat.zero_add]
  exact K.v ⟨255 - k, by omega⟩ r h e
theorem back_kz (r : Fin 64) (h : Fin 4) (d : Fin 256) : g_b_v245 (after tripBL V) (ix4 0 r h d) = ((key P C S h (64 * (255 - k) + r) d * Real.exp (g h * ((64 : ℕ) - 1 - (r : ℕ))) : ℝ) : EReal) := by
  simp only [tripB_b_v245, tripB_b_call11_v0, tripB_b_call11_c, tripB_b_call11_c_0, tripB_b_call11_c_1, tripB_b_call11_c_2]
  pointwise []
  simp only [startQ_0 _ _ _ _ _ (255 - k) (block_ix T hk) (by omega), startQ_1, startQ_2, startQ_3, startQ_4, Nat.zero_add]
  exact K.kz ⟨255 - k, by omega⟩ r h d
theorem back_s (h : Fin 4) (d : Fin 256) (e : Fin 512) : g_b_v243 (after tripBL V) (ix4 0 h d e) = ((before P C S g h d e (255 - k) : ℝ) : EReal) := by
  simp only [tripB_b_v243, tripB_b_call9_v0, tripB_b_call9_c, tripB_b_call9_c_0, tripB_b_call9_c_1, tripB_b_call9_c_2]
  pointwise []
  simp only [startT_0 _ _ _ _ _ (255 - k) (block_ix T hk) (by omega), startT_1, startT_2, startT_3, startT_4, Nat.zero_add]
  exact K.s ⟨255 - k, by omega⟩ h d e
theorem back_dv (r : Fin 64) (h : Fin 4) (e : Fin 512) : g_b_v247 (after tripBL V) (ix4 0 r h e)
    = ((∑ d ∈ Finset.range 256, behind P U C S g h d e k * (key P C S h (64 * (255 - k) + r) d * Real.exp (g h * ((64 : ℕ) - 1 - (r : ℕ)))) : ℝ) : EReal) := by
  simp only [tripB_b_v247, tripB_b_v246]
  pointwise []
  simp only [back_kz K T hk, T.st, ← EReal.coe_mul, csum]
  simp only [Finset.sum_range]
theorem back_dk (r : Fin 64) (h : Fin 4) (d : Fin 256) : g_b_v251 (after tripBL V) (ix4 0 r h d)
    = (((∑ e ∈ Finset.range 512, behind P U C S g h d e k * value P h (64 * (255 - k) + r) e) * Real.exp (g h * ((64 : ℕ) - 1 - (r : ℕ))) : ℝ) : EReal) := by
  simp only [tripB_b_v251, tripB_b_v249, tripB_b_v248, tripB_b_v250]
  pointwise []
  simp only [back_v K T hk, T.st, K.zeta, ← EReal.coe_mul, csum]
  simp only [Finset.sum_range]
theorem back_dq (r : Fin 64) (h : Fin 4) (d : Fin 256) : g_b_v258 (after tripBL V) (ix4 0 r h d)
    = ((∑ e ∈ Finset.range 512, grad U h (64 * (255 - k) + r) e * Real.exp (g h * ((r : ℕ) + 1)) * before P C S g h d e (255 - k) : ℝ) : EReal) := by
  simp only [tripB_b_v258, tripB_b_v257, tripB_b_v256, tripB_b_v255, tripB_b_v254]
  pointwise []
  simp only [back_u K T hk, back_s K T hk, K.xi, ← EReal.coe_mul, csum]
  simp only [Finset.sum_range]
theorem trip_dq (n : Fin 256) (hn : 256 ≤ n.val + (k + 1)) (r : Fin 64) (h : Fin 4) (d : Fin 256) : g_v174_10 (after tripBL V) (ix5 n 0 r h d)
    = ((∑ e ∈ Finset.range 512, grad U h (64 * n + r) e * Real.exp (g h * ((r : ℕ) + 1)) * before P C S g h d e n : ℝ) : EReal) := by
  simp only [tripB_v174_10, tripB_b_v262, tripB_b_call12_v0, tripB_b_call12_c, tripB_b_call12_c_0, tripB_b_call12_c_1, tripB_b_call12_c_2]
  pointwise []
  simp only [startQ_0 _ _ _ _ _ (255 - k) (block_ix T hk) (by omega), startQ_1, startQ_2, startQ_3, startQ_4, Nat.zero_le, Nat.sub_zero, and_true, Nat.zero_add, Nat.lt_one_iff]
  split
  · rename_i hh
    obtain rfl : k = 255 - n.val := by omega
    have ee : 255 - (255 - n.val) = n.val := by omega
    have b := back_dq K T hk r h d
    rw [ee] at b
    exact b
  · rename_i hh
    exact T.dq n (by omega) r h d

theorem trip_dk (n : Fin 256) (hn : 256 ≤ n.val + (k + 1)) (r : Fin 64) (h : Fin 4) (d : Fin 256) : g_v174_11 (after tripBL V) (ix5 n 0 r h d)
    = (((∑ e ∈ Finset.range 512, behind P U C S g h d e (255 - n) * value P h (64 * n + r) e) * Real.exp (g h * ((64 : ℕ) - 1 - (r : ℕ))) : ℝ) : EReal) := by
  simp only [tripB_v174_11, tripB_b_v263, tripB_b_call13_v0, tripB_b_call13_c, tripB_b_call13_c_0, tripB_b_call13_c_1, tripB_b_call13_c_2]
  pointwise []
  simp only [startQ_0 _ _ _ _ _ (255 - k) (block_ix T hk) (by omega), startQ_1, startQ_2, startQ_3, startQ_4, Nat.zero_le, Nat.sub_zero, and_true, Nat.zero_add, Nat.lt_one_iff]
  split
  · rename_i hh
    obtain rfl : k = 255 - n.val := by omega
    have ee : 255 - (255 - n.val) = n.val := by omega
    have b := back_dk K T hk r h d
    rw [ee] at b
    exact b
  · rename_i hh
    exact T.dk n (by omega) r h d

theorem trip_dv (n : Fin 256) (hn : 256 ≤ n.val + (k + 1)) (r : Fin 64) (h : Fin 4) (e : Fin 512) : g_v174_12 (after tripBL V) (ix5 n 0 r h e)
    = ((∑ d ∈ Finset.range 256, behind P U C S g h d e (255 - n) * (key P C S h (64 * n + r) d * Real.exp (g h * ((64 : ℕ) - 1 - (r : ℕ)))) : ℝ) : EReal) := by
  simp only [tripB_v174_12, tripB_b_v264, tripB_b_call14_v0, tripB_b_call14_c, tripB_b_call14_c_0, tripB_b_call14_c_1, tripB_b_call14_c_2]
  pointwise []
  simp only [startR_0 _ _ _ _ _ (255 - k) (block_ix T hk) (by omega), startR_1, startR_2, startR_3, startR_4, Nat.zero_le, Nat.sub_zero, and_true, Nat.zero_add, Nat.lt_one_iff]
  split
  · rename_i hh
    obtain rfl : k = 255 - n.val := by omega
    have ee : 255 - (255 - n.val) = n.val := by omega
    have b := back_dv K T hk r h e
    rw [ee] at b
    exact b
  · rename_i hh
    exact T.dv n (by omega) r h e

theorem TripsB.trip : TripsB (after tripBL V) P U C S g (k + 1) where
  ctr := by
    simp only [tripB_v174_8, tripB_b_v265, tripB_b_c_47]
    pointwise []
    rw [T.ctr]
    show BitVec.ofNat 32 k + 1#32 = _
    rw [← BitVec.ofNat_add]
  st h d e := by
    simp only [tripB_v174_9, tripB_b_v261, tripB_b_v253, tripB_b_v252, tripB_b_v260, tripB_b_v259, tripB_b_v256, tripB_b_v255, tripB_b_v254]
    pointwise []
    simp only [back_u K T hk, back_q K T hk, K.gt, K.xi, T.st, ← EReal.coe_mul, csum, ← EReal.coe_add]
    unfold behind
    rw [back, Finset.sum_range]
    refine congrArg _ (congrArg _ (Finset.sum_congr rfl fun x _ => ?_))
    show _ = query P C S h (64 * (256 - 1 - k) + x) d * grad U h (64 * (256 - 1 - k) + x) e * _
    ring
  dq := trip_dq K T hk
  dk := trip_dk K T hk
  dv := trip_dv K T hk

end Cert.ReferenceIdeal.Ret
-- ==== Proof.RefPost.lean ====
module

public import proofs.«01_k».proof.Proof.RefEqsPost
public import proofs.«01_k».proof.Proof.RefLoopB

/-! # The reference's gradients -/

@[expose] public section

set_option maxRecDepth 16384

noncomputable section

namespace Cert.ReferenceIdeal.Ret

open Idealize.ShloMosaic Cert.ReferenceIdeal.Gen Idealize.ShloMosaic.TcCoe Idealize.ShloMosaic.StableHlo Cert.Retention

variable (V : Valuation τ sig (Elt Ideal)) (P U C S : ℕ → ℕ → ℝ) (g : ℕ → ℝ)

/-- What the operations after the reverse scan read. -/
structure Ends : Prop where
  dq : ∀ (n : Fin 256) (r : Fin 64) (h : Fin 4) (d : Fin 256), g_v174_10 V (ix5 n 0 r h d)
    = ((∑ e ∈ Finset.range 512, grad U h (64 * n + r) e * Real.exp (g h * ((r : ℕ) + 1)) * before P C S g h d e n : ℝ) : EReal)
  dk : ∀ (n : Fin 256) (r : Fin 64) (h : Fin 4) (d : Fin 256), g_v174_11 V (ix5 n 0 r h d)
    = (((∑ e ∈ Finset.range 512, behind P U C S g h d e (255 - n) * value P h (64 * n + r) e) * Real.exp (g h * ((64 : ℕ) - 1 - (r : ℕ))) : ℝ) : EReal)
  dv : ∀ (n : Fin 256) (r : Fin 64) (h : Fin 4) (e : Fin 512), g_v174_12 V (ix5 n 0 r h e)
    = ((∑ d ∈ Finset.range 256, behind P U C S g h d e (255 - n) * (key P C S h (64 * n + r) d * Real.exp (g h * ((64 : ℕ) - 1 - (r : ℕ)))) : ℝ) : EReal)
  u : ∀ (n : Fin 256) (r : Fin 64) (h : Fin 4) (e : Fin 512), g_v168 V (ix5 0 n r h e) = ((grad U h (64 * n + r) e : ℝ) : EReal)
  q : ∀ (n : Fin 256) (r : Fin 64) (h : Fin 4) (d : Fin 256), g_v74 V (ix5 0 n r h d) = ((query P C S h (64 * n + r) d : ℝ) : EReal)
  k : ∀ (n : Fin 256) (r : Fin 64) (h : Fin 4) (d : Fin 256), g_v75 V (ix5 0 n r h d) = ((key P C S h (64 * n + r) d : ℝ) : EReal)
  v : ∀ (n : Fin 256) (r : Fin 64) (h : Fin 4) (e : Fin 512), g_v76 V (ix5 0 n r h e) = ((value P h (64 * n + r) e : ℝ) : EReal)
  dm : ∀ (h : Fin 4) (i j : Fin 64), g_v99 V (ix5 0 0 h i j) = ((decay (g h) i j : ℝ) : EReal)
  a : ∀ (n : Fin 256) (h : Fin 4) (r x : Fin 64), g_v101 V (ix5 0 n h r x)
    = (((∑ d ∈ Finset.range 256, query P C S h (64 * n + r) d * key P C S h (64 * n + x) d) * decay (g h) r x : ℝ) : EReal)
  cq : ∀ (i : Fin 16384) (d : Fin 128), g_v24 V (ix4 0 i 0 d) = ((C i d : ℝ) : EReal)
  sq : ∀ (i : Fin 16384) (d : Fin 128), g_v25 V (ix4 0 i 0 d) = ((S i d : ℝ) : EReal)
  ck : ∀ (i : Fin 16384) (d : Fin 128), g_v56 V (ix4 0 i 0 d) = ((C i d : ℝ) : EReal)
  sk : ∀ (i : Fin 16384) (d : Fin 128), g_v57 V (ix4 0 i 0 d) = ((S i d : ℝ) : EReal)

variable {V P U C S g} (K : Ends V P U C S g)
include K

theorem v182_val (n : Fin 256) (r : Fin 64) (h : Fin 4) (e : Fin 512) : g_v182 (after postL V) (ix5 0 n r h e)
    = ((gradV P U C S g h (64 * n + r) e : ℝ) : EReal) := by
  simp only [post_v182, post_v175, post_v181, post_v180, post_v178]
  pointwise []
  simp only [K.dv, K.u, K.a, ← EReal.coe_mul, csum, ← EReal.coe_add]
  refine congrArg _ (Eq.trans ?_ (spread_block (g h) (B := 64) (N := 256) (by norm_num) 256 (query P C S h) (key P C S h) (grad U h)
    n.isLt r.isLt e))
  rw [add_comm, Finset.sum_range (n := 64), Finset.mul_sum]
  refine congrArg₂ _ (Finset.sum_congr rfl fun x _ => mul_comm _ _) (Finset.sum_congr rfl fun d _ => ?_)
  unfold behind
  ring

theorem v184_val (n : Fin 256) (h : Fin 4) (r x : Fin 64) : g_v184 (after postL V) (ix5 0 n h r x)
    = (((∑ e ∈ Finset.range 512, grad U h (64 * n + r) e * value P h (64 * n + x) e) * decay (g h) r x : ℝ) : EReal) := by
  simp only [post_v184, post_v179, post_v178, post_v183]
  pointwise []
  simp only [K.u, K.v, K.dm, ← EReal.coe_mul, csum]
  simp only [Finset.sum_range]

theorem v187_val (n : Fin 256) (r : Fin 64) (h : Fin 4) (d : Fin 256) : g_v187 (after postL V) (ix5 0 n r h d)
    = ((spread (g h) 16384 512 (grad U h) (value P h) (query P C S h) (64 * n + r) d : ℝ) : EReal) := by
  simp only [post_v187, post_v176, post_v186, post_v185]
  pointwise []
  simp only [v184_val K, K.dk, K.q, ← EReal.coe_mul, csum, ← EReal.coe_add]
  refine congrArg _ (Eq.trans ?_ (spread_block (g h) (B := 64) (N := 256) (by norm_num) 512 (grad U h) (value P h) (query P C S h)
    n.isLt r.isLt d))
  rw [add_comm, Finset.sum_range (n := 64)]
  refine congrArg₂ _ rfl ((mul_comm _ _).trans (congrArg _ (Finset.sum_congr rfl fun e _ => ?_)))
  unfold behind
  rw [show (fun i => grad U h i e * query P C S h i d) = (fun i => query P C S h i d * grad U h i e) from funext fun i => mul_comm _ _]
  exact mul_comm _ _

theorem v190_val (n : Fin 256) (r : Fin 64) (h : Fin 4) (d : Fin 256) : g_v190 (after postL V) (ix5 0 n r h d)
    = ((attend (g h) 16384 512 (grad U h) (value P h) (key P C S h) (64 * n + r) d : ℝ) : EReal) := by
  simp only [post_v190, post_v177, post_v189, post_v188]
  pointwise []
  simp only [v184_val K, K.dq, K.k, ← EReal.coe_mul, csum, ← EReal.coe_add]
  refine congrArg _ (Eq.trans ?_ (attend_block (g h) (B := 64) (N := 256) (by norm_num) 512 (grad U h) (value P h) (key P C S h)
    n.isLt r.isLt d))
  rw [add_comm, Finset.sum_range (n := 64), Finset.mul_sum]
  refine congrArg₂ _ rfl (Finset.sum_congr rfl fun e _ => ?_)
  unfold before
  rw [show (fun j => value P h j e * key P C S h j d) = (fun j => key P C S h j d * value P h j e) from funext fun j => mul_comm _ _]
  ring

theorem v196_val (i : Fin 16384) (h : Fin 4) (d : Fin 256) : g_v196 (after postL V) (ix4 0 i h d)
    = ((spread (g h) 16384 512 (grad U h) (value P h) (query P C S h) i d * (1 / 16) : ℝ) : EReal) := by
  simp only [post_v196, post_v192, post_v195, post_cst_28]
  pointwise []
  rw [v187_val K, sixteenth, ← EReal.coe_mul, Nat.div_add_mod]

theorem v193_val (i : Fin 16384) (h : Fin 4) (d : Fin 256) : g_v193 (after postL V) (ix4 0 i h d)
    = ((attend (g h) 16384 512 (grad U h) (value P h) (key P C S h) i d : ℝ) : EReal) := by
  simp only [post_v193]
  pointwise []
  rw [v190_val K, Nat.div_add_mod]

theorem v212_val (i : Fin 16384) (h : Fin 4) (d : Fin 256) : g_v212 (after postL V) (ix4 0 i h d)
    = ((gradK P U C S g h i d : ℝ) : EReal) := by
  simp only [post_v212, post_v210, post_v206, post_v200, post_v198, post_v199, post_v205, post_v203, post_v197, post_v204, post_cst_29, post_v211, post_v209, post_v202, post_v201, post_v208, post_v207, post_cst_30]
  pointwise []
  simp only [v196_val K, K.ck, K.sk]
  unfold gradK unrope
  by_cases hd : d.val < 128
  · rw [dif_neg (by omega), dif_pos hd, if_pos hd, zero_add, ← EReal.coe_mul, ← EReal.coe_mul, ← EReal.coe_add]
    exact congrArg _ (add_comm _ _)
  · rw [dif_pos (by omega), dif_neg hd, if_neg hd, add_zero, ← EReal.coe_neg, ← EReal.coe_mul, ← EReal.coe_mul, ← EReal.coe_add]
    exact congrArg _ (by ring)

theorem v229_val (i : Fin 16384) (h : Fin 4) (d : Fin 256) : g_v229 (after postL V) (ix4 0 i h d)
    = ((gradQ P U C S g h i d : ℝ) : EReal) := by
  simp only [post_v229, post_v227, post_v223, post_v217, post_v215, post_v216, post_v222, post_v220, post_v214, post_v221, post_cst_31, post_v228, post_v226, post_v219, post_v218, post_v225, post_v224, post_cst_32]
  pointwise []
  simp only [v193_val K, K.cq, K.sq]
  unfold gradQ unrope
  by_cases hd : d.val < 128
  · rw [dif_neg (by omega), dif_pos hd, if_pos hd, zero_add, ← EReal.coe_mul, ← EReal.coe_mul, ← EReal.coe_add]
    exact congrArg _ (add_comm _ _)
  · rw [dif_pos (by omega), dif_neg hd, if_neg hd, add_zero, ← EReal.coe_neg, ← EReal.coe_mul, ← EReal.coe_mul, ← EReal.coe_add]
    exact congrArg _ (by ring)

theorem v234_val (i : Fin 16384) (e : Fin 1024) : g_v234 (after postL V) (ix2 i e) = ((gradQ P U C S g (e / 256) i (e % 256) : ℝ) : EReal) := by
  simp only [post_v234, post_v233, post_v230]
  pointwise []
  rw [v229_val K]
theorem v236_val (i : Fin 16384) (e : Fin 1024) : g_v236 (after postL V) (ix2 i e) = ((gradK P U C S g (e / 256) i (e % 256) : ℝ) : EReal) := by
  simp only [post_v236, post_v235, post_v213]
  pointwise []
  rw [v212_val K]
theorem v238_val (i : Fin 16384) (e : Fin 2048) : g_v238 (after postL V) (ix2 i e) = ((gradV P U C S g (e / 512) i (e % 512) : ℝ) : EReal) := by
  simp only [post_v238, post_v237, post_v194, post_v191]
  pointwise []
  rw [v182_val K, Nat.div_add_mod]

omit K in
theorem v232_val (i : Fin 16384) (e : Fin 2048) : g_v232 (after postL V) (ix2 i e) = g_v136 V (ix3 0 i e) := by
  simp only [post_v232]
  pointwise []
omit K in
theorem v231_val (i : Fin 16384) (e : Fin 2048) : g_v231 (after postL V) (ix2 i e) = g_v164 V (ix3 0 i e) := by
  simp only [post_v231]
  pointwise []

end Cert.ReferenceIdeal.Ret
-- ==== Proof.RefVal.lean ====
module

public import proofs.«01_k».proof.Proof.RefMid
public import proofs.«01_k».proof.Proof.RefPost

/-! # The reference's results as real numbers -/

@[expose] public section

set_option maxRecDepth 16384

noncomputable section

namespace Cert.ReferenceIdeal.Ret

open Idealize.ShloMosaic Cert.ReferenceIdeal.Gen Idealize.ShloMosaic.TcCoe Idealize.ShloMosaic.StableHlo Cert.Retention

variable (m : (ℓ : Loc nD τ sig) → Buf (Elt Ideal) ℓ) (c : Dev nD) (P U : ℕ → ℕ → ℝ) (pos : ℕ → ℤ)
  (hP : ∀ (i : Fin 16384) (j : Fin 6144), m ((c : Thread nD τ).loc main_arg0) (ix2 i j) = ((P i j : ℝ) : EReal))
  (hpos : ∀ i : Fin 16384, (m ((c : Thread nD τ).loc main_arg2) (ix1 i)).toInt = pos i)
  (hU : ∀ (i : Fin 16384) (j : Fin 2048), m ((c : Thread nD τ).loc main_arg3) (ix2 i j) = ((U i j : ℝ) : EReal))

/-! ## What each stage keeps -/

theorem W0_eq : W0 m c = after preL (launchContents m c) := (pre_after _).symm
theorem WA_step (k : ℕ) : WA m (k + 1) c = after tripAL (WA m k c) := (WA_succ m k c).trans (tripA_after _).symm
theorem W2_eq : W2 m c = after midL (W1 m c) := (mid_after _).symm
theorem WB_step (k : ℕ) : WB m (k + 1) c = after tripBL (WB m k c) := (WB_succ m k c).trans (tripB_after _).symm
theorem WEnd_eq : WEnd m c = after postL (W3 m c) := (post_after _).symm

theorem W1_keep {x : Ref sig .tc} (hx : x ∉ condA_W) : W1 m c (Proc.devRef .tc x) = WA m 256 c (Proc.devRef .tc x) :=
  after_unwritten condA_W rfl hx _
theorem W3_keep {x : Ref sig .tc} (hx : x ∉ condB_W) : W3 m c (Proc.devRef .tc x) = WB m 256 c (Proc.devRef .tc x) :=
  after_unwritten condB_W rfl hx _
theorem WA_keep {x : Ref sig .tc} (hx : x ∉ tripA_Ws) : ∀ k, WA m k c (Proc.devRef .tc x) = W0 m c (Proc.devRef .tc x)
  | 0 => rfl
  | k + 1 => by rw [WA_step, keep_tripA _ hx, WA_keep hx k]
theorem WB_keep {x : Ref sig .tc} (hx : x ∉ tripB_Ws) : ∀ k, WB m k c (Proc.devRef .tc x) = W2 m c (Proc.devRef .tc x)
  | 0 => rfl
  | k + 1 => by rw [WB_step, keep_tripB _ hx, WB_keep hx k]
theorem W2_keep {x : Ref sig .tc} (hx : x ∉ mid_Ws) : W2 m c (Proc.devRef .tc x) = W1 m c (Proc.devRef .tc x) := by
  rw [W2_eq]; exact after_unwritten _ mid_map hx _
theorem W0_keep {x : Ref sig .tc} (hx : x ∉ pre_Ws) : W0 m c (Proc.devRef .tc x) = m ((c : Thread nD τ).loc x) := by
  rw [W0_eq]; exact after_unwritten _ pre_map hx _
/-- From the start to the first scan's exit, from the first scan's entry to its exit, and on to the second scan's exit. -/
theorem W1_pre {x : Ref sig .tc} (h1 : x ∉ condA_W) (h2 : x ∉ tripA_Ws) : W1 m c (Proc.devRef .tc x) = W0 m c (Proc.devRef .tc x) :=
  (W1_keep m c h1).trans (WA_keep m c h2 256)
theorem W3_mid {x : Ref sig .tc} (h1 : x ∉ condB_W) (h2 : x ∉ tripB_Ws) : W3 m c (Proc.devRef .tc x) = W2 m c (Proc.devRef .tc x) :=
  (W3_keep m c h1).trans (WB_keep m c h2 256)
theorem W3_pre {x : Ref sig .tc} (h1 : x ∉ condB_W) (h2 : x ∉ tripB_Ws) (h3 : x ∉ mid_Ws) (h4 : x ∉ condA_W) (h5 : x ∉ tripA_Ws) :
    W3 m c (Proc.devRef .tc x) = W0 m c (Proc.devRef .tc x) :=
  (W3_mid m c h1 h2).trans <| (W2_keep m c h3).trans (W1_pre m c h4 h5)

/-! ## The scans -/

section
include hP hpos

theorem stacksA0 : StacksA (W0 m c) P (cosine pos) (sine pos) rate := by
  rw [W0_eq]
  have hP' : ∀ (i : Fin 16384) (j : Fin 6144), g_arg0 (launchContents m c) (ix2 i j) = ((P i j : ℝ) : EReal) := hP
  have hpos' : ∀ i : Fin 16384, (g_arg2 (launchContents m c) (ix1 i)).toInt = pos i := hpos
  exact {
    q := fun n r h d => by rw [pre_v133_0]; exact v124_val _ P pos hP' hpos' n r h d
    k := fun n r h d => by rw [pre_v133_1]; exact v125_val _ P pos hP' hpos' n r h d
    v := fun n r h e => by rw [pre_v133_2]; exact v126_val _ P hP' n r h e
    gt := fun h => by rw [pre_v133_3]; exact v128_val _ h
    zeta := fun h r => by rw [pre_v133_4]; exact v129_val _ h r
    xi := fun h r => by rw [pre_v133_5]; exact v127_val _ h r }

theorem stacksA : ∀ k, StacksA (WA m k c) P (cosine pos) (sine pos) rate
  | 0 => stacksA0 m c P pos hP hpos
  | k + 1 => by rw [WA_step]; exact (stacksA k).trip

theorem tripsA : ∀ k, k ≤ 256 → TripsA (WA m k c) P (cosine pos) (sine pos) rate k
  | 0, _ => {
      ctr := by rw [WA_zero, W0_eq, pre_v133_6, pre_c]; rfl
      st := fun h d e => by
        rw [WA_zero, W0_eq, pre_v133_7]
        exact (v123_val _ h d e).trans EReal.coe_zero.symm
      ys := fun n hn => absurd hn (Nat.not_lt_zero _)
      ss := fun n hn => absurd hn (Nat.not_lt_zero _)
      ks := fun n hn => absurd hn (Nat.not_lt_zero _) }
  | k + 1, hk => by
    rw [WA_step]
    exact (tripsA k (by omega)).trip (stacksA m c P pos hP hpos k) (by omega)

/-- The output's rows. -/
theorem out_rows (i : Fin 16384) (e : Fin 2048) : g_v136 (W2 m c) (ix3 0 i e)
    = ((out P (cosine pos) (sine pos) rate (e / 512) i (e % 512) : ℝ) : EReal) := by
  have hP' : ∀ (i : Fin 16384) (j : Fin 6144), g_arg0 (launchContents m c) (ix2 i j) = ((P i j : ℝ) : EReal) := hP
  have hpos' : ∀ i : Fin 16384, (g_arg2 (launchContents m c) (ix1 i)).toInt = pos i := hpos
  have e1 : g_v103 (W1 m c) = g_v103 (after preL (launchContents m c)) := by
    rw [← W0_eq]; exact W1_pre m c (x := main_v103) (by decide +kernel) (by decide +kernel)
  have e2 : g_v133_8 (W1 m c) = g_v133_8 (WA m 256 c) := W1_keep m c (x := main_v133_8) (by decide +kernel)
  rw [W2_eq, v136_val, e1, e2, v103_val _ P pos hP' hpos', (tripsA m c P pos hP hpos 256 le_rfl).ys _ (by simp; omega), ← EReal.coe_add]
  have b := attend_block (rate (e / 512)) (B := 64) (N := 256) (by norm_num) 256 (query P (cosine pos) (sine pos) (e / 512))
    (key P (cosine pos) (sine pos) (e / 512)) (value P (e / 512)) (n := i / 64) (r := i % 64) (by omega) (by omega) (e % 512)
  rw [Nat.div_add_mod] at b
  refine congrArg _ (Eq.trans ?_ b)
  show _ + (∑ d ∈ Finset.range 256, before P (cosine pos) (sine pos) rate (e / 512) d (e % 512) (i / 64) * query P (cosine pos) (sine pos) (e / 512) (64 * (i / 64) + i % 64) d)
    * Real.exp (rate (e / 512) * ((i % 64 : ℕ) + 1)) = _
  simp only [Nat.div_add_mod]
  refine congrArg₂ _ rfl ((mul_comm _ _).trans (congrArg _ (Finset.sum_congr rfl fun d _ => mul_comm _ _)))
end

theorem arg_W1 {x : Ref sig .tc} (h1 : x ∉ condA_W) (h2 : x ∉ tripA_Ws) (h3 : x ∉ pre_Ws) : W1 m c (Proc.devRef .tc x) = m ((c : Thread nD τ).loc x) :=
  (W1_pre m c h1 h2).trans (W0_keep m c h3)

include hU in
theorem grad_rows (n : Fin 256) (r : Fin 64) (h : Fin 4) (e : Fin 512) : g_v168 (W2 m c) (ix5 0 n r h e) = ((grad U h (64 * n + r) e : ℝ) : EReal) := by
  have e1 : g_arg3 (W1 m c) = m ((c : Thread nD τ).loc main_arg3) := arg_W1 m c (by decide +kernel) (by decide +kernel) (by decide +kernel)
  rw [W2_eq, v168_val, e1, hU]
  unfold grad
  rw [Nat.mul_comm 64 (n : ℕ), Nat.mul_comm 512 (h : ℕ)]

section
include hP hpos hU

theorem stacksB0 : StacksB (W2 m c) P U (cosine pos) (sine pos) rate := by
  have T := tripsA m c P pos hP hpos 256 le_rfl
  have K := stacksA m c P pos hP hpos 256
  have G := grad_rows m c U hU
  have p := fun {x : Ref sig .tc} (h1 : x ∉ condA_W) (h2 : x ∉ tripA_Ws) => W1_pre m c h1 h2
  have hP' : ∀ (i : Fin 16384) (j : Fin 6144), g_arg0 (launchContents m c) (ix2 i j) = ((P i j : ℝ) : EReal) := hP
  have hpos' : ∀ i : Fin 16384, (g_arg2 (launchContents m c) (ix1 i)).toInt = pos i := hpos
  rw [W2_eq] at G ⊢
  exact {
    u := fun n r h e => by rw [mid_v174_0, v169_val]; exact G n r h e
    q := fun n r h d => by
      rw [mid_v174_1, (show g_v124 (W1 m c) = g_v124 (after preL (launchContents m c)) by rw [← W0_eq]; exact p (x := main_v124) (by decide +kernel) (by decide +kernel))]; exact v124_val _ P pos hP' hpos' n r h d
    s := fun n h d e => by
      rw [mid_v174_2, show g_v133_9 (W1 m c) = g_v133_9 (WA m 256 c) from W1_keep m c (x := main_v133_9) (by decide +kernel)]
      exact T.ss n n.isLt h d e
    v := fun n r h e => by
      rw [mid_v174_3, (show g_v126 (W1 m c) = g_v126 (after preL (launchContents m c)) by rw [← W0_eq]; exact p (x := main_v126) (by decide +kernel) (by decide +kernel))]; exact v126_val _ P hP' n r h e
    kz := fun n r h d => by
      rw [mid_v174_4, show g_v133_10 (W1 m c) = g_v133_10 (WA m 256 c) from W1_keep m c (x := main_v133_10) (by decide +kernel)]
      exact T.ks n n.isLt r h d
    xi := fun h r => by
      rw [mid_v174_5, (show g_v127 (W1 m c) = g_v127 (after preL (launchContents m c)) by rw [← W0_eq]; exact p (x := main_v127) (by decide +kernel) (by decide +kernel))]; exact v127_val _ h r
    gt := fun h => by
      rw [mid_v174_6, (show g_v128 (W1 m c) = g_v128 (after preL (launchContents m c)) by rw [← W0_eq]; exact p (x := main_v128) (by decide +kernel) (by decide +kernel))]; exact v128_val _ h
    zeta := fun h r => by
      rw [mid_v174_7, (show g_v129 (W1 m c) = g_v129 (after preL (launchContents m c)) by rw [← W0_eq]; exact p (x := main_v129) (by decide +kernel) (by decide +kernel))]; exact v129_val _ h r }

theorem stacksB : ∀ k, StacksB (WB m k c) P U (cosine pos) (sine pos) rate
  | 0 => stacksB0 m c P U pos hP hpos hU
  | k + 1 => by rw [WB_step]; exact (stacksB k).trip

theorem tripsB : ∀ k, k ≤ 256 → TripsB (WB m k c) P U (cosine pos) (sine pos) rate k
  | 0, _ => {
      ctr := by rw [WB_zero, W2_eq, mid_v174_8, mid_c_27]; rfl
      st := fun h d e => by
        rw [WB_zero, W2_eq, mid_v174_9]
        exact (v170_val _ h d e).trans EReal.coe_zero.symm
      dq := fun n hn => absurd n.isLt (by omega)
      dk := fun n hn => absurd n.isLt (by omega)
      dv := fun n hn => absurd n.isLt (by omega) }
  | k + 1, hk => by
    rw [WB_step]
    exact (tripsB k (by omega)).trip (stacksB m c P U pos hP hpos hU k) (by omega)

theorem ends : Ends (W3 m c) P U (cosine pos) (sine pos) rate := by
  have T := tripsB m c P U pos hP hpos hU 256 le_rfl
  have G := grad_rows m c U hU
  have p := fun {x : Ref sig .tc} (h1 : x ∉ condB_W) (h2 : x ∉ tripB_Ws) (h3 : x ∉ mid_Ws) (h4 : x ∉ condA_W) (h5 : x ∉ tripA_Ws) => W3_pre m c h1 h2 h3 h4 h5
  have hP' : ∀ (i : Fin 16384) (j : Fin 6144), g_arg0 (launchContents m c) (ix2 i j) = ((P i j : ℝ) : EReal) := hP
  have hpos' : ∀ i : Fin 16384, (g_arg2 (launchContents m c) (ix1 i)).toInt = pos i := hpos
  exact {
    dq := fun n r h d => by
      rw [show g_v174_10 (W3 m c) = g_v174_10 (WB m 256 c) from W3_keep m c (x := main_v174_10) (by decide +kernel)]
      exact T.dq n (by omega) r h d
    dk := fun n r h d => by
      rw [show g_v174_11 (W3 m c) = g_v174_11 (WB m 256 c) from W3_keep m c (x := main_v174_11) (by decide +kernel)]
      exact T.dk n (by omega) r h d
    dv := fun n r h e => by
      rw [show g_v174_12 (W3 m c) = g_v174_12 (WB m 256 c) from W3_keep m c (x := main_v174_12) (by decide +kernel)]
      exact T.dv n (by omega) r h e
    u := fun n r h e => by
      rw [show g_v168 (W3 m c) = g_v168 (W2 m c) from W3_mid m c (x := main_v168) (by decide +kernel) (by decide +kernel)]
      exact G n r h e
    q := fun n r h d => by
      rw [(show g_v74 (W3 m c) = g_v74 (after preL (launchContents m c)) by rw [← W0_eq]; exact p (x := main_v74) (by decide +kernel) (by decide +kernel) (by decide +kernel) (by decide +kernel) (by decide +kernel))]; exact v74_val _ P pos hP' hpos' n r h d
    k := fun n r h d => by
      rw [(show g_v75 (W3 m c) = g_v75 (after preL (launchContents m c)) by rw [← W0_eq]; exact p (x := main_v75) (by decide +kernel) (by decide +kernel) (by decide +kernel) (by decide +kernel) (by decide +kernel))]; exact v75_val _ P pos hP' hpos' n r h d
    v := fun n r h e => by
      rw [(show g_v76 (W3 m c) = g_v76 (after preL (launchContents m c)) by rw [← W0_eq]; exact p (x := main_v76) (by decide +kernel) (by decide +kernel) (by decide +kernel) (by decide +kernel) (by decide +kernel))]; exact v76_val _ P hP' n r h e
    dm := fun h i j => by
      rw [(show g_v99 (W3 m c) = g_v99 (after preL (launchContents m c)) by rw [← W0_eq]; exact p (x := main_v99) (by decide +kernel) (by decide +kernel) (by decide +kernel) (by decide +kernel) (by decide +kernel))]; exact v99_val _  h i j
    a := fun n h r x => by
      rw [(show g_v101 (W3 m c) = g_v101 (after preL (launchContents m c)) by rw [← W0_eq]; exact p (x := main_v101) (by decide +kernel) (by decide +kernel) (by decide +kernel) (by decide +kernel) (by decide +kernel))]; exact v101_val _ P pos hP' hpos' n h r x
    cq := fun i d => by
      rw [(show g_v24 (W3 m c) = g_v24 (after preL (launchContents m c)) by rw [← W0_eq]; exact p (x := main_v24) (by decide +kernel) (by decide +kernel) (by decide +kernel) (by decide +kernel) (by decide +kernel))]; exact v24_val _ pos hpos' i d
    sq := fun i d => by
      rw [(show g_v25 (W3 m c) = g_v25 (after preL (launchContents m c)) by rw [← W0_eq]; exact p (x := main_v25) (by decide +kernel) (by decide +kernel) (by decide +kernel) (by decide +kernel) (by decide +kernel))]; exact v25_val _ pos hpos' i d
    ck := fun i d => by
      rw [(show g_v56 (W3 m c) = g_v56 (after preL (launchContents m c)) by rw [← W0_eq]; exact p (x := main_v56) (by decide +kernel) (by decide +kernel) (by decide +kernel) (by decide +kernel) (by decide +kernel))]; exact v56_val _ pos hpos' i d
    sk := fun i d => by
      rw [(show g_v57 (W3 m c) = g_v57 (after preL (launchContents m c)) by rw [← W0_eq]; exact p (x := main_v57) (by decide +kernel) (by decide +kernel) (by decide +kernel) (by decide +kernel) (by decide +kernel))]; exact v57_val _ pos hpos' i d }

/-! ## The results -/

theorem end_dq : WEnd m c (Proc.devRef .tc main_v234) = fun i : S16384x1024.Idx => ((gradQ P U (cosine pos) (sine pos) rate ((i 1).val / 256) (i 0).val ((i 1).val % 256) : ℝ) : EReal) := by
  rw [WEnd_eq]
  funext i
  idx_vars i
  exact v234_val (ends m c P U pos hP hpos hU) i0 i1
theorem end_dk : WEnd m c (Proc.devRef .tc main_v236) = fun i : S16384x1024.Idx => ((gradK P U (cosine pos) (sine pos) rate ((i 1).val / 256) (i 0).val ((i 1).val % 256) : ℝ) : EReal) := by
  rw [WEnd_eq]
  funext i
  idx_vars i
  exact v236_val (ends m c P U pos hP hpos hU) i0 i1
theorem end_dv : WEnd m c (Proc.devRef .tc main_v238) = fun i : S16384x2048.Idx => ((gradV P U (cosine pos) (sine pos) rate ((i 1).val / 512) (i 0).val ((i 1).val % 512) : ℝ) : EReal) := by
  rw [WEnd_eq]
  funext i
  idx_vars i
  exact v238_val (ends m c P U pos hP hpos hU) i0 i1
end

section
include hP hpos
theorem end_y : WEnd m c (Proc.devRef .tc main_v232) = fun i : S16384x2048.Idx => ((out P (cosine pos) (sine pos) rate ((i 1).val / 512) (i 0).val ((i 1).val % 512) : ℝ) : EReal) := by
  rw [WEnd_eq]
  funext i
  idx_vars i
  refine (v232_val i0 i1).trans ?_
  rw [show g_v136 (W3 m c) = g_v136 (W2 m c) from W3_mid m c (x := main_v136) (by decide +kernel) (by decide +kernel)]
  exact out_rows m c P pos hP hpos i0 i1
theorem end_gated : WEnd m c (Proc.devRef .tc main_v231) = fun i : S16384x2048.Idx =>
    gated (P (i 0).val (4096 + (i 1).val)) (fun x => out P (cosine pos) (sine pos) rate ((i 1).val / 512) (i 0).val x) ((i 1).val % 512)
      (m ((c : Thread nD τ).loc main_arg1) (ix1 (i 1))) := by
  rw [WEnd_eq]
  funext i
  idx_vars i
  refine (v231_val i0 i1).trans ?_
  have e0 : g_arg0 (W1 m c) = m ((c : Thread nD τ).loc main_arg0) := arg_W1 m c (by decide +kernel) (by decide +kernel) (by decide +kernel)
  have e1 : g_arg1 (W1 m c) = m ((c : Thread nD τ).loc main_arg1) := arg_W1 m c (by decide +kernel) (by decide +kernel) (by decide +kernel)
  have hy := out_rows m c P pos hP hpos
  rw [W2_eq] at hy
  rw [show g_v164 (W3 m c) = g_v164 (W2 m c) from W3_mid m c (x := main_v164) (by decide +kernel) (by decide +kernel), W2_eq,
    v164_val (W1 m c) P (fun i e => out P (cosine pos) (sine pos) rate (e / 512) i (e % 512)) (by rw [e0]; exact hP) hy, e1]
  show gated _ (fun x => out P (cosine pos) (sine pos) rate ((i1.val / 512 * 512 + x) / 512) i0 ((i1.val / 512 * 512 + x) % 512)) _ _ = _
  exact gated_congr _ (fun x hx => by rw [show (i1.val / 512 * 512 + x) / 512 = i1.val / 512 by omega, show (i1.val / 512 * 512 + x) % 512 = x by omega]) (by omega) _
end

end Cert.ReferenceIdeal.Ret
-- ==== Proof.Finite.lean ====
module

public import proofs.«01_k».proof.Proof.Gen.Pre_finite
public import Idealize.ShloMosaic.Lib.ReduceAll
public import Idealize.ShloMosaic.Lib.Pointwise

/-! # What the precondition says: the entries of proj and dy are real numbers -/

@[expose] public section

set_option maxRecDepth 16384

noncomputable section

namespace Cert.Pre_finite.Ret

open Idealize.ShloMosaic Cert.Pre_finite

/-- A number whose size is below infinity is real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe x => rfl

theorem and_one : ∀ a b : BitVec 1, IntOp.andi a b = 1#1 → a = 1#1 ∧ b = 1#1 := by decide

instance : Subsingleton S_.Idx := ⟨fun i j => funext fun k => k.elim0⟩

variable (a0 : FVec Ideal S16384x6144 .f32) (a1 : FVec Ideal S2048 .f32) (a2 : IVec S16384 32) (a3 : FVec Ideal S16384x2048 .bf16)
  (h : fn (F := Ideal) a0 a1 a2 a3 = fun _ => 1#1)
include h

theorem both : (∀ i, cmpf .olt (Host.absf a0) (broadcastInDim S16384x6144 ![] Facts.bcast_S_S16384x6144 (constant S_ .f32 0x7F800000#32)) i = 1#1)
    ∧ ∀ i, cmpf .olt (Host.absf (extf .f32 a3 Facts.bitsLt_bf16_f32)) (broadcastInDim S16384x2048 ![] Facts.bcast_S_S16384x2048 (constant S_ .f32 0x7F800000#32)) i = 1#1 := by
  have e := congrFun h (fun k => k.elim0)
  unfold fn at e
  obtain ⟨e0, e3⟩ := and_one _ _ e
  exact ⟨fun i => Host.reduce_andi_all _ _ _ _ _ e0 i, fun i => Host.reduce_andi_all _ _ _ _ _ e3 i⟩

theorem proj_real (i : S16384x6144.Idx) : a0 i = (((a0 i).toReal : ℝ) : EReal) := real_of_lt _ ((both a0 a1 a2 a3 h).1 i)
theorem dy_real (i : S16384x2048.Idx) : a3 i = (((a3 i).toReal : ℝ) : EReal) := real_of_lt _ ((both a0 a1 a2 a3 h).2 i)

end Cert.Pre_finite.Ret
-- ==== Proof.Products.lean ====
module

public import proofs.«01_k».proof.Defs
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.KernelDa.Frame
public import proofs.«01_k».proof.Proof.Gen.KernelDaIdeal.Value
public import proofs.«01_k».proof.Proof.Gen.ReferenceDaIdeal.Run
public import proofs.«01_k».proof.Proof.Gen.KernelDx.Frame
public import proofs.«01_k».proof.Proof.Gen.KernelDxIdeal.Value
public import proofs.«01_k».proof.Proof.Gen.ReferenceDxIdeal.Run
public import Idealize.ShloMosaic.Lib.Pointwise
public import Idealize.ShloMosaic.Lib.Pipeline.ValueKit

/-! # The FFN's products by rows, and their gradients by the rows -/

@[expose] public section

set_option maxRecDepth 16384

noncomputable section

open Idealize.ShloMosaic Idealize.SL.Sem
open Idealize.ShloMosaic.TcCoe
open Idealize.ShloMosaic.Pipeline (Dat)

/-- A sum over `p + q` places, in two parts. -/
theorem Cert.Products.sum_parts {n p q : ℕ} (h : n = p + q) (f : Fin n → EReal) :
    ∑ x, f x = ∑ i : Fin p, f ⟨i.val, by omega⟩ + ∑ i : Fin q, f ⟨p + i.val, by omega⟩ := by
  subst h; exact Fin.sum_univ_add f

/-! ## The product with w_up -/

namespace Cert.KernelUpIdeal.Prod
open Cert.KernelUpIdeal.Gen

theorem idx : ∀ t : Fin cfg0.N, win0_0.index t = ![t.val, 0] ∧ win0_1.index t = ![0, 0] ∧ win0_2.index t = ![t.val, 0] := by
  decide +kernel

theorem frame_kernel : quiescent_KernelUp := fun m g _ => KernelUp.Gen.frame m g
theorem frame_ideal : quiescent_KernelUpIdeal := fun m g _ => Gen.frame m g
theorem frame_reference : quiescent_ReferenceUpIdeal := fun m g _ => (θ_run _ _ _).mono
  (fun r h => ⟨fun c => (h c).2, sem_eq_zero_of_no_sems (by decide) r.2⟩) (ReferenceUpIdeal.Value.run m g)

theorem algebraic : algebraic_KernelUpIdeal_ReferenceUpIdeal := by
  intro m g m' g' _ h
  refine ⟨_, Value.run_blocks m g, (θ_run _ _ _).mono (fun r hr c => ⟨?_, (hr c).2⟩) (ReferenceUpIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelUpIdeal.Prod

/-! ## The product with w_down -/

namespace Cert.KernelDownIdeal.Prod
open Cert.KernelDownIdeal.Gen

theorem idx : ∀ t : Fin cfg0.N, win0_0.index t = ![t.val, 0] ∧ win0_1.index t = ![0, 0] ∧ win0_2.index t = ![t.val, 0] := by
  decide +kernel

theorem frame_kernel : quiescent_KernelDown := fun m g _ => KernelDown.Gen.frame m g
theorem frame_ideal : quiescent_KernelDownIdeal := fun m g _ => Gen.frame m g
theorem frame_reference : quiescent_ReferenceDownIdeal := fun m g _ => (θ_run _ _ _).mono
  (fun r h => ⟨fun c => (h c).2, sem_eq_zero_of_no_sems (by decide) r.2⟩) (ReferenceDownIdeal.Value.run m g)

theorem algebraic : algebraic_KernelDownIdeal_ReferenceDownIdeal := by
  intro m g m' g' _ h
  refine ⟨_, Value.run_blocks m g, (θ_run _ _ _).mono (fun r hr c => ⟨?_, (hr c).2⟩) (ReferenceDownIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelDownIdeal.Prod

/-! ## The gradient by the rows of the product with w_down -/

namespace Cert.KernelDaIdeal.Prod
open Cert.KernelDaIdeal.Gen

theorem idx : ∀ t : Fin cfg0.N, win0_0.index t = ![t.val, 0] ∧ win0_1.index t = ![0, 0] ∧ win0_2.index t = ![t.val, 0] := by
  decide +kernel

theorem frame_kernel : quiescent_KernelDa := fun m g _ => KernelDa.Gen.frame m g
theorem frame_ideal : quiescent_KernelDaIdeal := fun m g _ => Gen.frame m g
theorem frame_reference : quiescent_ReferenceDaIdeal := fun m g _ => (θ_run _ _ _).mono
  (fun r h => ⟨fun c => (h c).2, sem_eq_zero_of_no_sems (by decide) r.2⟩) (ReferenceDaIdeal.Value.run m g)

theorem algebraic : algebraic_KernelDaIdeal_ReferenceDaIdeal := by
  intro m g m' g' _ h
  refine ⟨_, Value.run_blocks m g, (θ_run _ _ _).mono (fun r hr c => ⟨?_, (hr c).2⟩) (ReferenceDaIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelDaIdeal.Prod

/-! ## The gradient by the rows of the product with w_up -/

namespace Cert.KernelDxIdeal.Prod
open Cert.KernelDxIdeal.Gen

theorem idx : ∀ t : Fin cfg0.N, win0_0.index t = ![t.val, 0] ∧ win0_1.index t = ![t.val, 0] ∧ win0_2.index t = ![0, 0] ∧ win0_3.index t = ![0, 1]
    ∧ win0_4.index t = ![t.val, 0] := by
  decide +kernel

theorem frame_kernel : quiescent_KernelDx := fun m g _ => KernelDx.Gen.frame m g
theorem frame_ideal : quiescent_KernelDxIdeal := fun m g _ => Gen.frame m g
theorem frame_reference : quiescent_ReferenceDxIdeal := fun m g _ => (θ_run _ _ _).mono
  (fun r h => ⟨fun c => (h c).2, sem_eq_zero_of_no_sems (by decide) r.2⟩) (ReferenceDxIdeal.Value.run m g)

theorem algebraic : algebraic_KernelDxIdeal_ReferenceDxIdeal := by
  intro m g m' g' _ h
  refine ⟨_, Value.run_blocks m g, (θ_run _ _ _).mono (fun r hr c => ⟨?_, (hr c).2⟩) (ReferenceDxIdeal.Value.run m' g')⟩
  rw [(hr c).1, (h c).1, (h c).2.1, (h c).2.2]
  refine ((dats m 0 c).arrAt_eq_of_covers 4 _ (by decide +kernel) fun t hf y => ?_).symm
  blk_simp
  rw [after0_4]; frame_out
  idx_vars y
  unfold_payloads
  pointwise []
  blk_point [iblk, V, idx t]

end Cert.KernelDxIdeal.Prod

end
-- ==== Proof.RetentionProducts.lean ====
module

public import proofs.«01_k».proof.Defs
public import proofs.«01_k».proof.Proof.Gen.KernelRetIn.Frame
public import proofs.«01_k».proof.Proof.Gen.KernelRetInIdeal.Value
public import proofs.«01_k».proof.Proof.Gen.ReferenceRetInIdeal.Run
public import proofs.«01_k».proof.Proof.Gen.KernelRetOut.Frame
public import proofs.«01_k».proof.Proof.Gen.KernelRetOutIdeal.Value
public import proofs.«01_k».proof.Proof.Gen.ReferenceRetOutIdeal.Run
public import proofs.«01_k».proof.Proof.Gen.KernelRetDgated.Frame
public import proofs.«01_k».proof.Proof.Gen.KernelRetDgatedIdeal.Value
public import proofs.«01_k».proof.Proof.Gen.ReferenceRetDgatedIdeal.Run
public import proofs.«01_k».proof.Proof.Gen.KernelRetDx.Frame
public import proofs.«01_k».proof.Proof.Gen.KernelRetDxIdeal.Value
public import proofs.«01_k».proof.Proof.Gen.ReferenceRetDxIdeal.Run
public import proofs.«01_k».proof.Proof.Products
public import Idealize.ShloMosaic.Lib.Pointwise
public import Idealize.ShloMosaic.Lib.Pipeline.ValueKit

/-! # Retention's products, and their gradients by the rows -/

@[expose] public section

set_option maxRecDepth 16384

noncomputable section

open Idealize.ShloMosaic Idealize.SL.Sem
open Idealize.ShloMosaic.TcCoe
open Idealize.ShloMosaic.Pipeline (Dat)

/-! ## Retention's product with w_in -/

namespace Cert.KernelRetInIdeal.Prod
open Cert.KernelRetInIdeal.Gen

theorem idx : ∀ t : Fin cfg0.N, win0_0.index t = ![t.val, 0] ∧ win0_1.index t = ![0, 0] ∧ win0_2.index t = ![t.val, 0] := by
  decide +kernel

theorem frame_kernel : quiescent_KernelRetIn := fun m g _ => KernelRetIn.Gen.frame m g
theorem frame_ideal : quiescent_KernelRetInIdeal := fun m g _ => Gen.frame m g
theorem frame_reference : quiescent_ReferenceRetInIdeal := fun m g _ => (θ_run _ _ _).mono
  (fun r h => ⟨fun c => (h c).2, sem_eq_zero_of_no_sems (by decide) r.2⟩) (ReferenceRetInIdeal.Value.run m g)

theorem algebraic : algebraic_KernelRetInIdeal_ReferenceRetInIdeal := by
  intro m g m' g' _ h
  refine ⟨_, Value.run_blocks m g, (θ_run _ _ _).mono (fun r hr c => ⟨?_, (hr c).2⟩) (ReferenceRetInIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelRetInIdeal.Prod

/-! ## Retention's product with w_out -/

namespace Cert.KernelRetOutIdeal.Prod
open Cert.KernelRetOutIdeal.Gen

theorem idx : ∀ t : Fin cfg0.N, win0_0.index t = ![t.val, 0] ∧ win0_1.index t = ![0, 0] ∧ win0_2.index t = ![t.val, 0] := by
  decide +kernel

theorem frame_kernel : quiescent_KernelRetOut := fun m g _ => KernelRetOut.Gen.frame m g
theorem frame_ideal : quiescent_KernelRetOutIdeal := fun m g _ => Gen.frame m g
theorem frame_reference : quiescent_ReferenceRetOutIdeal := fun m g _ => (θ_run _ _ _).mono
  (fun r h => ⟨fun c => (h c).2, sem_eq_zero_of_no_sems (by decide) r.2⟩) (ReferenceRetOutIdeal.Value.run m g)

theorem algebraic : algebraic_KernelRetOutIdeal_ReferenceRetOutIdeal := by
  intro m g m' g' _ h
  refine ⟨_, Value.run_blocks m g, (θ_run _ _ _).mono (fun r hr c => ⟨?_, (hr c).2⟩) (ReferenceRetOutIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelRetOutIdeal.Prod

/-! ## The gradient by the rows of retention's product with w_out -/

namespace Cert.KernelRetDgatedIdeal.Prod
open Cert.KernelRetDgatedIdeal.Gen

theorem idx : ∀ t : Fin cfg0.N, win0_0.index t = ![t.val / 2, 0] ∧ win0_1.index t = ![t.val % 2, 0] ∧ win0_2.index t = ![t.val / 2, t.val % 2] := by
  decide +kernel

theorem frame_kernel : quiescent_KernelRetDgated := fun m g _ => KernelRetDgated.Gen.frame m g
theorem frame_ideal : quiescent_KernelRetDgatedIdeal := fun m g _ => Gen.frame m g
theorem frame_reference : quiescent_ReferenceRetDgatedIdeal := fun m g _ => (θ_run _ _ _).mono
  (fun r h => ⟨fun c => (h c).2, sem_eq_zero_of_no_sems (by decide) r.2⟩) (ReferenceRetDgatedIdeal.Value.run m g)

theorem algebraic : algebraic_KernelRetDgatedIdeal_ReferenceRetDgatedIdeal := by
  intro m g m' g' _ h
  refine ⟨_, Value.run_blocks m g, (θ_run _ _ _).mono (fun r hr c => ⟨?_, (hr c).2⟩) (ReferenceRetDgatedIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelRetDgatedIdeal.Prod

/-! ## The gradient by the rows of retention's product with w_in -/

namespace Cert.KernelRetDxIdeal.Prod
open Cert.KernelRetDxIdeal.Gen

theorem idx : ∀ t : Fin cfg0.N, win0_0.index t = ![t.val / 2, 0] ∧ win0_1.index t = ![t.val / 2, 0] ∧ win0_2.index t = ![t.val / 2, 0] ∧ win0_3.index t = ![t.val / 2, 0]
    ∧ win0_4.index t = ![t.val % 2, 0] ∧ win0_5.index t = ![t.val % 2, 1] ∧ win0_6.index t = ![t.val % 2, 1] ∧ win0_7.index t = ![t.val % 2, 2]
    ∧ win0_8.index t = ![t.val / 2, t.val % 2] := by
  decide +kernel

theorem frame_kernel : quiescent_KernelRetDx := fun m g _ => KernelRetDx.Gen.frame m g
theorem frame_ideal : quiescent_KernelRetDxIdeal := fun m g _ => Gen.frame m g
theorem frame_reference : quiescent_ReferenceRetDxIdeal := fun m g _ => (θ_run _ _ _).mono
  (fun r h => ⟨fun c => (h c).2, sem_eq_zero_of_no_sems (by decide) r.2⟩) (ReferenceRetDxIdeal.Value.run m g)

set_option maxHeartbeats 4000000 in
theorem algebraic : algebraic_KernelRetDxIdeal_ReferenceRetDxIdeal := by
  intro m g m' g' _ h
  refine ⟨_, Value.run_blocks m g, (θ_run _ _ _).mono (fun r hr c => ⟨?_, (hr c).2⟩) (ReferenceRetDxIdeal.Value.run m' g')⟩
  rw [(hr c).1, (h c).1, (h c).2.1, (h c).2.2.1, (h c).2.2.2.1, (h c).2.2.2.2]
  refine ((dats m 0 c).arrAt_eq_of_covers 8 _ (by decide +kernel) fun t hf y => ?_).symm
  blk_simp
  rw [after0_8]; frame_out
  idx_vars y
  unfold_payloads
  pointwise []
  refine Eq.trans (congrArg₂ (· + ·) (Eq.trans (congrArg₂ (· + ·) (Eq.trans (congrArg₂ (· + ·) ?_ ?_) (Cert.Products.sum_parts (p := 1024) (q := 1024) rfl _).symm) ?_) (Cert.Products.sum_parts (p := 2048) (q := 2048) rfl _).symm) ?_) (Cert.Products.sum_parts (p := 4096) (q := 2048) rfl _).symm
  all_goals
    refine Finset.sum_congr rfl fun k _ => ?_
    dsimp only
    split_ifs
    all_goals first | omega | blk_point [iblk, V, idx t]

end Cert.KernelRetDxIdeal.Prod

end
-- ==== Proof.RecurrenceProducts.lean ====
module

public import proofs.«01_k».proof.Defs
public import proofs.«01_k».proof.Proof.Gen.KernelLruIn.Frame
public import proofs.«01_k».proof.Proof.Gen.KernelLruInIdeal.Value
public import proofs.«01_k».proof.Proof.Gen.ReferenceLruInIdeal.Run
public import proofs.«01_k».proof.Proof.Gen.KernelLruOut.Frame
public import proofs.«01_k».proof.Proof.Gen.KernelLruOutIdeal.Value
public import proofs.«01_k».proof.Proof.Gen.ReferenceLruOutIdeal.Run
public import proofs.«01_k».proof.Proof.Gen.KernelDmix.Frame
public import proofs.«01_k».proof.Proof.Gen.KernelDmixIdeal.Value
public import proofs.«01_k».proof.Proof.Gen.ReferenceDmixIdeal.Run
public import proofs.«01_k».proof.Proof.Gen.KernelLruDx.Frame
public import proofs.«01_k».proof.Proof.Gen.KernelLruDxIdeal.Value
public import proofs.«01_k».proof.Proof.Gen.ReferenceLruDxIdeal.Run
public import Idealize.ShloMosaic.Lib.Pointwise
public import Idealize.ShloMosaic.Lib.Pipeline.ValueKit

/-! # The recurrence's products, and their gradients by the rows -/

@[expose] public section

set_option maxRecDepth 16384

noncomputable section

open Idealize.ShloMosaic Idealize.SL.Sem
open Idealize.ShloMosaic.TcCoe
open Idealize.ShloMosaic.Pipeline (Dat)

/-! ## The recurrence's product with w_in -/

namespace Cert.KernelLruInIdeal.Prod
open Cert.KernelLruInIdeal.Gen

theorem idx : ∀ t : Fin cfg0.N, win0_0.index t = ![t.val, 0] ∧ win0_1.index t = ![0, 0] ∧ win0_2.index t = ![t.val, 0] := by
  decide +kernel

theorem frame_kernel : quiescent_KernelLruIn := fun m g _ => KernelLruIn.Gen.frame m g
theorem frame_ideal : quiescent_KernelLruInIdeal := fun m g _ => Gen.frame m g
theorem frame_reference : quiescent_ReferenceLruInIdeal := fun m g _ => (θ_run _ _ _).mono
  (fun r h => ⟨fun c => (h c).2, sem_eq_zero_of_no_sems (by decide) r.2⟩) (ReferenceLruInIdeal.Value.run m g)

theorem algebraic : algebraic_KernelLruInIdeal_ReferenceLruInIdeal := by
  intro m g m' g' _ h
  refine ⟨_, Value.run_blocks m g, (θ_run _ _ _).mono (fun r hr c => ⟨?_, (hr c).2⟩) (ReferenceLruInIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelLruInIdeal.Prod

/-! ## The recurrence's product with w_out -/

namespace Cert.KernelLruOutIdeal.Prod
open Cert.KernelLruOutIdeal.Gen

theorem idx : ∀ t : Fin cfg0.N, win0_0.index t = ![t.val, 0] ∧ win0_1.index t = ![0, 0] ∧ win0_2.index t = ![t.val, 0] := by
  decide +kernel

theorem frame_kernel : quiescent_KernelLruOut := fun m g _ => KernelLruOut.Gen.frame m g
theorem frame_ideal : quiescent_KernelLruOutIdeal := fun m g _ => Gen.frame m g
theorem frame_reference : quiescent_ReferenceLruOutIdeal := fun m g _ => (θ_run _ _ _).mono
  (fun r h => ⟨fun c => (h c).2, sem_eq_zero_of_no_sems (by decide) r.2⟩) (ReferenceLruOutIdeal.Value.run m g)

theorem algebraic : algebraic_KernelLruOutIdeal_ReferenceLruOutIdeal := by
  intro m g m' g' _ h
  refine ⟨_, Value.run_blocks m g, (θ_run _ _ _).mono (fun r hr c => ⟨?_, (hr c).2⟩) (ReferenceLruOutIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelLruOutIdeal.Prod

/-! ## The gradient by the rows of the recurrence's, and of the attention's, product with w_out -/

namespace Cert.KernelDmixIdeal.Prod
open Cert.KernelDmixIdeal.Gen

theorem idx : ∀ t : Fin cfg0.N, win0_0.index t = ![t.val, 0] ∧ win0_1.index t = ![0, 0] ∧ win0_2.index t = ![t.val, 0] := by
  decide +kernel

theorem frame_kernel : quiescent_KernelDmix := fun m g _ => KernelDmix.Gen.frame m g
theorem frame_ideal : quiescent_KernelDmixIdeal := fun m g _ => Gen.frame m g
theorem frame_reference : quiescent_ReferenceDmixIdeal := fun m g _ => (θ_run _ _ _).mono
  (fun r h => ⟨fun c => (h c).2, sem_eq_zero_of_no_sems (by decide) r.2⟩) (ReferenceDmixIdeal.Value.run m g)

theorem algebraic : algebraic_KernelDmixIdeal_ReferenceDmixIdeal := by
  intro m g m' g' _ h
  refine ⟨_, Value.run_blocks m g, (θ_run _ _ _).mono (fun r hr c => ⟨?_, (hr c).2⟩) (ReferenceDmixIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelDmixIdeal.Prod

/-! ## The gradient by the rows of the recurrence's product with w_in -/

namespace Cert.KernelLruDxIdeal.Prod
open Cert.KernelLruDxIdeal.Gen

theorem idx : ∀ t : Fin cfg0.N, win0_0.index t = ![t.val, 0] ∧ win0_1.index t = ![t.val, 0] ∧ win0_2.index t = ![0, 0] ∧ win0_3.index t = ![0, 1]
    ∧ win0_4.index t = ![t.val, 0] := by
  decide +kernel

theorem frame_kernel : quiescent_KernelLruDx := fun m g _ => KernelLruDx.Gen.frame m g
theorem frame_ideal : quiescent_KernelLruDxIdeal := fun m g _ => Gen.frame m g
theorem frame_reference : quiescent_ReferenceLruDxIdeal := fun m g _ => (θ_run _ _ _).mono
  (fun r h => ⟨fun c => (h c).2, sem_eq_zero_of_no_sems (by decide) r.2⟩) (ReferenceLruDxIdeal.Value.run m g)

theorem algebraic : algebraic_KernelLruDxIdeal_ReferenceLruDxIdeal := by
  intro m g m' g' _ h
  refine ⟨_, Value.run_blocks m g, (θ_run _ _ _).mono (fun r hr c => ⟨?_, (hr c).2⟩) (ReferenceLruDxIdeal.Value.run m' g')⟩
  rw [(hr c).1, (h c).1, (h c).2.1, (h c).2.2]
  refine ((dats m 0 c).arrAt_eq_of_covers 4 _ (by decide +kernel) fun t hf y => ?_).symm
  blk_simp
  rw [after0_4]; frame_out
  idx_vars y
  unfold_payloads
  pointwise []
  blk_point [iblk, V, idx t]

end Cert.KernelLruDxIdeal.Prod

end
-- ==== Proof.AttentionProducts.lean ====
module

public import proofs.«01_k».proof.Defs
public import proofs.«01_k».proof.Proof.Gen.KernelMlaIn.Frame
public import proofs.«01_k».proof.Proof.Gen.KernelMlaInIdeal.Value
public import proofs.«01_k».proof.Proof.Gen.ReferenceMlaInIdeal.Run
public import proofs.«01_k».proof.Proof.Gen.KernelMlaUq.Frame
public import proofs.«01_k».proof.Proof.Gen.KernelMlaUqIdeal.Value
public import proofs.«01_k».proof.Proof.Gen.ReferenceMlaUqIdeal.Run
public import proofs.«01_k».proof.Proof.Gen.KernelMlaUkv.Frame
public import proofs.«01_k».proof.Proof.Gen.KernelMlaUkvIdeal.Value
public import proofs.«01_k».proof.Proof.Gen.ReferenceMlaUkvIdeal.Run
public import proofs.«01_k».proof.Proof.Gen.KernelMlaOut.Frame
public import proofs.«01_k».proof.Proof.Gen.KernelMlaOutIdeal.Value
public import proofs.«01_k».proof.Proof.Gen.ReferenceMlaOutIdeal.Run
public import proofs.«01_k».proof.Proof.Gen.KernelMlaDqn.Frame
public import proofs.«01_k».proof.Proof.Gen.KernelMlaDqnIdeal.Value
public import proofs.«01_k».proof.Proof.Gen.ReferenceMlaDqnIdeal.Run
public import proofs.«01_k».proof.Proof.Gen.KernelMlaDkvn.Frame
public import proofs.«01_k».proof.Proof.Gen.KernelMlaDkvnIdeal.Value
public import proofs.«01_k».proof.Proof.Gen.ReferenceMlaDkvnIdeal.Run
public import Idealize.ShloMosaic.Lib.Pointwise
public import Idealize.ShloMosaic.Lib.Pipeline.ValueKit

/-! # Latent attention's products, and their gradients by the rows -/

@[expose] public section

set_option maxRecDepth 16384

noncomputable section

open Idealize.ShloMosaic Idealize.SL.Sem
open Idealize.ShloMosaic.TcCoe
open Idealize.ShloMosaic.Pipeline (Dat)

/-! ## The attention's product with w_in, of which the kernel pads the last part -/

namespace Cert.KernelMlaInIdeal.Prod
open Cert.KernelMlaInIdeal.Gen

theorem idx : ∀ t : Fin cfg0.N, win0_0.index t = ![t.val, 0] ∧ win0_1.index t = ![0, 0] ∧ win0_2.index t = ![t.val, 0] := by
  decide +kernel

theorem frame_kernel : quiescent_KernelMlaIn := fun m g _ => KernelMlaIn.Gen.frame m g
theorem frame_ideal : quiescent_KernelMlaInIdeal := fun m g _ => Gen.frame m g
theorem frame_reference : quiescent_ReferenceMlaInIdeal := fun m g _ => (θ_run _ _ _).mono
  (fun r h => ⟨fun c => (h c).2, sem_eq_zero_of_no_sems (by decide) r.2⟩) (ReferenceMlaInIdeal.Value.run m g)

theorem algebraic : algebraic_KernelMlaInIdeal_ReferenceMlaInIdeal := by
  intro m g m' g' _ h
  refine ⟨_, Value.run_blocks m g, (θ_run _ _ _).mono (fun r hr c => ⟨?_, (hr c).2⟩) (ReferenceMlaInIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelMlaInIdeal.Prod

/-! ## The attention's product with w_uq, whose heads the kernel pads -/

namespace Cert.KernelMlaUqIdeal.Prod
open Cert.KernelMlaUqIdeal.Gen

theorem idx : ∀ t : Fin cfg0.N, win0_0.index t = ![t.val / 2, 0] ∧ win0_1.index t = ![0, t.val % 2] ∧ win0_2.index t = ![t.val / 2, t.val % 2] := by
  decide +kernel

theorem frame_kernel : quiescent_KernelMlaUq := fun m g _ => KernelMlaUq.Gen.frame m g
theorem frame_ideal : quiescent_KernelMlaUqIdeal := fun m g _ => Gen.frame m g
theorem frame_reference : quiescent_ReferenceMlaUqIdeal := fun m g _ => (θ_run _ _ _).mono
  (fun r h => ⟨fun c => (h c).2, sem_eq_zero_of_no_sems (by decide) r.2⟩) (ReferenceMlaUqIdeal.Value.run m g)

theorem algebraic : algebraic_KernelMlaUqIdeal_ReferenceMlaUqIdeal := by
  intro m g m' g' _ h
  refine ⟨_, Value.run_blocks m g, (θ_run _ _ _).mono (fun r hr c => ⟨?_, (hr c).2⟩) (ReferenceMlaUqIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelMlaUqIdeal.Prod

/-! ## The attention's product with w_ukv, whose heads the kernel pads -/

namespace Cert.KernelMlaUkvIdeal.Prod
open Cert.KernelMlaUkvIdeal.Gen

theorem idx : ∀ t : Fin cfg0.N, win0_0.index t = ![t.val / 3, 0] ∧ win0_1.index t = ![0, t.val % 3] ∧ win0_2.index t = ![t.val / 3, t.val % 3] := by
  decide +kernel

theorem frame_kernel : quiescent_KernelMlaUkv := fun m g _ => KernelMlaUkv.Gen.frame m g
theorem frame_ideal : quiescent_KernelMlaUkvIdeal := fun m g _ => Gen.frame m g
theorem frame_reference : quiescent_ReferenceMlaUkvIdeal := fun m g _ => (θ_run _ _ _).mono
  (fun r h => ⟨fun c => (h c).2, sem_eq_zero_of_no_sems (by decide) r.2⟩) (ReferenceMlaUkvIdeal.Value.run m g)

theorem algebraic : algebraic_KernelMlaUkvIdeal_ReferenceMlaUkvIdeal := by
  intro m g m' g' _ h
  refine ⟨_, Value.run_blocks m g, (θ_run _ _ _).mono (fun r hr c => ⟨?_, (hr c).2⟩) (ReferenceMlaUkvIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelMlaUkvIdeal.Prod

/-! ## The attention's product with w_out -/

namespace Cert.KernelMlaOutIdeal.Prod
open Cert.KernelMlaOutIdeal.Gen

theorem idx : ∀ t : Fin cfg0.N, win0_0.index t = ![t.val, 0] ∧ win0_1.index t = ![0, 0] ∧ win0_2.index t = ![t.val, 0] := by
  decide +kernel

theorem frame_kernel : quiescent_KernelMlaOut := fun m g _ => KernelMlaOut.Gen.frame m g
theorem frame_ideal : quiescent_KernelMlaOutIdeal := fun m g _ => Gen.frame m g
theorem frame_reference : quiescent_ReferenceMlaOutIdeal := fun m g _ => (θ_run _ _ _).mono
  (fun r h => ⟨fun c => (h c).2, sem_eq_zero_of_no_sems (by decide) r.2⟩) (ReferenceMlaOutIdeal.Value.run m g)

theorem algebraic : algebraic_KernelMlaOutIdeal_ReferenceMlaOutIdeal := by
  intro m g m' g' _ h
  refine ⟨_, Value.run_blocks m g, (θ_run _ _ _).mono (fun r hr c => ⟨?_, (hr c).2⟩) (ReferenceMlaOutIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelMlaOutIdeal.Prod

/-! ## The gradient by the rows of the attention's product with w_uq -/

namespace Cert.KernelMlaDqnIdeal.Prod
open Cert.KernelMlaDqnIdeal.Gen

theorem idx : ∀ t : Fin cfg0.N, win0_0.index t = ![t.val, 0] ∧ win0_1.index t = ![0, 0] ∧ win0_2.index t = ![t.val, 0] := by
  decide +kernel

theorem frame_kernel : quiescent_KernelMlaDqn := fun m g _ => KernelMlaDqn.Gen.frame m g
theorem frame_ideal : quiescent_KernelMlaDqnIdeal := fun m g _ => Gen.frame m g
theorem frame_reference : quiescent_ReferenceMlaDqnIdeal := fun m g _ => (θ_run _ _ _).mono
  (fun r h => ⟨fun c => (h c).2, sem_eq_zero_of_no_sems (by decide) r.2⟩) (ReferenceMlaDqnIdeal.Value.run m g)

theorem algebraic : algebraic_KernelMlaDqnIdeal_ReferenceMlaDqnIdeal := by
  intro m g m' g' _ h
  refine ⟨_, Value.run_blocks m g, (θ_run _ _ _).mono (fun r hr c => ⟨?_, (hr c).2⟩) (ReferenceMlaDqnIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelMlaDqnIdeal.Prod

/-! ## The gradient by the rows of the attention's product with w_ukv -/

namespace Cert.KernelMlaDkvnIdeal.Prod
open Cert.KernelMlaDkvnIdeal.Gen

theorem idx : ∀ t : Fin cfg0.N, win0_0.index t = ![t.val, 0] ∧ win0_1.index t = ![0, 0] ∧ win0_2.index t = ![t.val, 0] := by
  decide +kernel

theorem frame_kernel : quiescent_KernelMlaDkvn := fun m g _ => KernelMlaDkvn.Gen.frame m g
theorem frame_ideal : quiescent_KernelMlaDkvnIdeal := fun m g _ => Gen.frame m g
theorem frame_reference : quiescent_ReferenceMlaDkvnIdeal := fun m g _ => (θ_run _ _ _).mono
  (fun r h => ⟨fun c => (h c).2, sem_eq_zero_of_no_sems (by decide) r.2⟩) (ReferenceMlaDkvnIdeal.Value.run m g)

theorem algebraic : algebraic_KernelMlaDkvnIdeal_ReferenceMlaDkvnIdeal := by
  intro m g m' g' _ h
  refine ⟨_, Value.run_blocks m g, (θ_run _ _ _).mono (fun r hr c => ⟨?_, (hr c).2⟩) (ReferenceMlaDkvnIdeal.Value.run m' g')⟩
  rw [(hr c).1, (h c).1, (h c).2]
  refine ((dats m 0 c).arrAt_eq_of_covers 2 _ (by decide +kernel) fun t hf y => ?_).symm
  blk_simp
  rw [after0_2]; frame_out
  idx_vars y
  unfold_payloads
  pointwise []
  blk_point [iblk, V, idx t]

end Cert.KernelMlaDkvnIdeal.Prod

end
-- ==== Proof.ProductGrads.lean ====
module

public import proofs.«01_k».proof.Defs
public import proofs.«01_k».proof.Proof.Gen.KernelDwdown.Frame
public import proofs.«01_k».proof.Proof.Gen.KernelDwdownIdeal.Value
public import proofs.«01_k».proof.Proof.Gen.ReferenceDwdownIdeal.Run
public import proofs.«01_k».proof.Proof.Gen.KernelDwgate.Frame
public import proofs.«01_k».proof.Proof.Gen.KernelDwgateIdeal.Value
public import proofs.«01_k».proof.Proof.Gen.ReferenceDwgateIdeal.Run
public import proofs.«01_k».proof.Proof.Gen.KernelDwup.Frame
public import proofs.«01_k».proof.Proof.Gen.KernelDwupIdeal.Value
public import proofs.«01_k».proof.Proof.Gen.ReferenceDwupIdeal.Run
public import Idealize.ShloMosaic.Lib.Pointwise
public import Idealize.ShloMosaic.Lib.Pipeline.ValueKit

/-! # The gradients of the FFN's products by the weights -/

@[expose] public section

set_option maxRecDepth 16384

noncomputable section

open Idealize.ShloMosaic Idealize.SL.Sem
open Idealize.ShloMosaic.TcCoe
open Idealize.ShloMosaic.Pipeline (Dat)

/-! ## The gradient by w_down -/

namespace Cert.KernelDwdownIdeal.Prod
open Cert.KernelDwdownIdeal.Gen

theorem idx : ∀ t : Fin cfg0.N, win0_0.index t = ![t.val % 16, t.val / 16]
    ∧ win0_1.index t = ![t.val % 16, 0]
    ∧ win0_2.index t = ![0, t.val / 16, 0]
    ∧ win0_3.index t = ![0, t.val / 16, 0] := by
  decide +kernel

theorem frame_kernel : quiescent_KernelDwdown := fun m g _ => KernelDwdown.Gen.frame m g
theorem frame_ideal : quiescent_KernelDwdownIdeal := fun m g _ => Gen.frame m g
theorem frame_reference : quiescent_ReferenceDwdownIdeal := fun m g _ => (θ_run _ _ _).mono
  (fun r h => ⟨fun c => (h c).2.2, sem_eq_zero_of_no_sems (by decide) r.2⟩) (ReferenceDwdownIdeal.Value.run m g)

theorem pay1 (y : S1x1408x1024.Idx) : k0_pay1 (F := Ideal) y = 0 := by
  idx_vars y; unfold_payloads; pointwise []

theorem pay2 (v : FVec Ideal S1x1408x1024 .f32) (a : FVec Ideal S1024x1408 .bf16) (b : FVec Ideal S1024x1024 .f32) (y : S1x1408x1024.Idx) :
    k0_pay2 (F := Ideal) v a b y = v y + ∑ k : Fin 1024, a (ix2 k (y 1)) * b (ix2 k (y 2)) := by
  idx_vars y; obtain rfl := Subsingleton.elim y0 0; unfold_payloads; pointwise []

theorem pay3 (v : FVec Ideal S1x1408x1024 .f32) (y : S1x1408x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x2816 .bf16 := m (c.tc.loc main_arg0)
abbrev right : FVec Ideal S16384x1024 .f32 := m (c.tc.loc main_arg1)

/-- A point's two blocks, and the product of their columns. -/
abbrev xs (t : Fin cfg0.N) : FVec Ideal S1024x1408 .bf16 := iblk m c 0 t
abbrev ds (t : Fin cfg0.N) : FVec Ideal S1024x1024 .f32 := iblk m c 1 t
abbrev term (t : Fin cfg0.N) (y : S1x1408x1024.Idx) : EReal := ∑ k : Fin 1024, xs m c t (ix2 k (y 1)) * ds m c t (ix2 k (y 2))

/-- The sum that a run of 16 points ends with, and its rounded copy. -/
theorem acc (t : Fin cfg0.N) (h : t.val % 16 = 15) (y : S1x1408x1024.Idx) : (outsAt0 m c t.val t.isLt).1 y
    = ∑ s : Fin 16, term m c ⟨16 * (t.val / 16) + s.val, Pipeline.run_point_lt_of_flush t h s⟩ y := by
  rw [Pipeline.eq_sum_fin_of_reset_step_apply_of_flush (fun n h => (outsAt0 m c n h).1) 16 (fun _ => 0) (term m c) ?_ ?_ t h y, zero_add]
  · intro t h0 y
    rw [outsAt0_A m c t h0 (by omega)]; frame_out; rw [pay2, pay1]
  · intro t h0 y
    by_cases h1 : t.val % 16 = 15
    · rw [outsAt0_C m c t h0 h1]; frame_out; rw [pay2]
    · rw [outsAt0_B m c t h0 h1]; frame_out; rw [pay2]
theorem rounded (t : Fin cfg0.N) (h : t.val % 16 = 15) (y : S1x1408x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 16 = 15) (y0 : Fin 1) (y1 : Fin 1408) (y2 : Fin 1024) (p : Fin 2816) (q : Fin 1024) (hp : p.val = 1408 * (t.val / 16) + y1.val) (hq : q.val = y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelDwdownIdeal_ReferenceDwdownIdeal := by
  intro m g m' g' _ h
  refine ⟨_, _, Value.run_blocks m g, (θ_run _ _ _).mono (fun r hr c => ⟨?_, ?_, (hr c).2.2⟩) (ReferenceDwdownIdeal.Value.run m' g')⟩
  · rw [(hr c).1, (h c).1, (h c).2.1, (h c).2.2.1]
    refine ((dats m 0 c).arrAt_eq_of_coversWhere_of_agree 2 _ (fun β => β (0 : Fin 3) = 0) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => β (0 : Fin 3) = 0) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelDwdownIdeal.Prod

/-! ## The gradient by the gate's half of w_up -/

namespace Cert.KernelDwgateIdeal.Prod
open Cert.KernelDwgateIdeal.Gen

theorem idx : ∀ t : Fin cfg0.N, win0_0.index t = ![t.val % 16, 0]
    ∧ win0_1.index t = ![t.val % 16, t.val / 16]
    ∧ win0_2.index t = ![0, 0, t.val / 16]
    ∧ win0_3.index t = ![0, 0, t.val / 16] := by
  decide +kernel

theorem frame_kernel : quiescent_KernelDwgate := fun m g _ => KernelDwgate.Gen.frame m g
theorem frame_ideal : quiescent_KernelDwgateIdeal := fun m g _ => Gen.frame m g
theorem frame_reference : quiescent_ReferenceDwgateIdeal := fun m g _ => (θ_run _ _ _).mono
  (fun r h => ⟨fun c => (h c).2.2, sem_eq_zero_of_no_sems (by decide) r.2⟩) (ReferenceDwgateIdeal.Value.run m g)

theorem pay1 (y : S1x1024x1408.Idx) : k0_pay1 (F := Ideal) y = 0 := by
  idx_vars y; unfold_payloads; pointwise []

theorem pay2 (v : FVec Ideal S1x1024x1408 .f32) (a : FVec Ideal S1024x1024 .f32) (b : FVec Ideal S1024x1408 .bf16) (y : S1x1024x1408.Idx) :
    k0_pay2 (F := Ideal) v a b y = v y + ∑ k : Fin 1024, a (ix2 k (y 1)) * b (ix2 k (y 2)) := by
  idx_vars y; obtain rfl := Subsingleton.elim y0 0; unfold_payloads; pointwise []

theorem pay3 (v : FVec Ideal S1x1024x1408 .f32) (y : S1x1024x1408.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x2816 .bf16 := m (c.tc.loc main_arg1)

/-- A point's two blocks, and the product of their columns. -/
abbrev xs (t : Fin cfg0.N) : FVec Ideal S1024x1024 .f32 := iblk m c 0 t
abbrev ds (t : Fin cfg0.N) : FVec Ideal S1024x1408 .bf16 := iblk m c 1 t
abbrev term (t : Fin cfg0.N) (y : S1x1024x1408.Idx) : EReal := ∑ k : Fin 1024, xs m c t (ix2 k (y 1)) * ds m c t (ix2 k (y 2))

/-- The sum that a run of 16 points ends with, and its rounded copy. -/
theorem acc (t : Fin cfg0.N) (h : t.val % 16 = 15) (y : S1x1024x1408.Idx) : (outsAt0 m c t.val t.isLt).1 y
    = ∑ s : Fin 16, term m c ⟨16 * (t.val / 16) + s.val, Pipeline.run_point_lt_of_flush t h s⟩ y := by
  rw [Pipeline.eq_sum_fin_of_reset_step_apply_of_flush (fun n h => (outsAt0 m c n h).1) 16 (fun _ => 0) (term m c) ?_ ?_ t h y, zero_add]
  · intro t h0 y
    rw [outsAt0_A m c t h0 (by omega)]; frame_out; rw [pay2, pay1]
  · intro t h0 y
    by_cases h1 : t.val % 16 = 15
    · rw [outsAt0_C m c t h0 h1]; frame_out; rw [pay2]
    · rw [outsAt0_B m c t h0 h1]; frame_out; rw [pay2]
theorem rounded (t : Fin cfg0.N) (h : t.val % 16 = 15) (y : S1x1024x1408.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 16 = 15) (y0 : Fin 1) (y1 : Fin 1024) (y2 : Fin 1408) (p : Fin 1024) (q : Fin 2816) (hp : p.val = y1.val) (hq : q.val = 1408 * (t.val / 16) + y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelDwgateIdeal_ReferenceDwgateIdeal := by
  intro m g m' g' _ h
  refine ⟨_, _, Value.run_blocks m g, (θ_run _ _ _).mono (fun r hr c => ⟨?_, ?_, (hr c).2.2⟩) (ReferenceDwgateIdeal.Value.run m' g')⟩
  · rw [(hr c).1, (h c).1, (h c).2.1, (h c).2.2.1]
    refine ((dats m 0 c).arrAt_eq_of_coversWhere_of_agree 2 _ (fun β => β (0 : Fin 3) = 0 ∧ β (2 : Fin 3) < 2) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_pos (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => β (0 : Fin 3) = 0 ∧ β (2 : Fin 3) < 2) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_pos (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelDwgateIdeal.Prod

/-! ## The gradient by the other half of w_up -/

namespace Cert.KernelDwupIdeal.Prod
open Cert.KernelDwupIdeal.Gen

theorem idx : ∀ t : Fin cfg0.N, win0_0.index t = ![t.val % 16, 0]
    ∧ win0_1.index t = ![t.val % 16, t.val / 16]
    ∧ win0_2.index t = ![0, 0, t.val / 16 + 2]
    ∧ win0_3.index t = ![0, 0, t.val / 16 + 2] := by
  decide +kernel

theorem frame_kernel : quiescent_KernelDwup := fun m g _ => KernelDwup.Gen.frame m g
theorem frame_ideal : quiescent_KernelDwupIdeal := fun m g _ => Gen.frame m g
theorem frame_reference : quiescent_ReferenceDwupIdeal := fun m g _ => (θ_run _ _ _).mono
  (fun r h => ⟨fun c => (h c).2.2, sem_eq_zero_of_no_sems (by decide) r.2⟩) (ReferenceDwupIdeal.Value.run m g)

theorem pay1 (y : S1x1024x1408.Idx) : k0_pay1 (F := Ideal) y = 0 := by
  idx_vars y; unfold_payloads; pointwise []

theorem pay2 (v : FVec Ideal S1x1024x1408 .f32) (a : FVec Ideal S1024x1024 .f32) (b : FVec Ideal S1024x1408 .bf16) (y : S1x1024x1408.Idx) :
    k0_pay2 (F := Ideal) v a b y = v y + ∑ k : Fin 1024, a (ix2 k (y 1)) * b (ix2 k (y 2)) := by
  idx_vars y; obtain rfl := Subsingleton.elim y0 0; unfold_payloads; pointwise []

theorem pay3 (v : FVec Ideal S1x1024x1408 .f32) (y : S1x1024x1408.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x2816 .bf16 := m (c.tc.loc main_arg1)

/-- A point's two blocks, and the product of their columns. -/
abbrev xs (t : Fin cfg0.N) : FVec Ideal S1024x1024 .f32 := iblk m c 0 t
abbrev ds (t : Fin cfg0.N) : FVec Ideal S1024x1408 .bf16 := iblk m c 1 t
abbrev term (t : Fin cfg0.N) (y : S1x1024x1408.Idx) : EReal := ∑ k : Fin 1024, xs m c t (ix2 k (y 1)) * ds m c t (ix2 k (y 2))

/-- The sum that a run of 16 points ends with, and its rounded copy. -/
theorem acc (t : Fin cfg0.N) (h : t.val % 16 = 15) (y : S1x1024x1408.Idx) : (outsAt0 m c t.val t.isLt).1 y
    = ∑ s : Fin 16, term m c ⟨16 * (t.val / 16) + s.val, Pipeline.run_point_lt_of_flush t h s⟩ y := by
  rw [Pipeline.eq_sum_fin_of_reset_step_apply_of_flush (fun n h => (outsAt0 m c n h).1) 16 (fun _ => 0) (term m c) ?_ ?_ t h y, zero_add]
  · intro t h0 y
    rw [outsAt0_A m c t h0 (by omega)]; frame_out; rw [pay2, pay1]
  · intro t h0 y
    by_cases h1 : t.val % 16 = 15
    · rw [outsAt0_C m c t h0 h1]; frame_out; rw [pay2]
    · rw [outsAt0_B m c t h0 h1]; frame_out; rw [pay2]
theorem rounded (t : Fin cfg0.N) (h : t.val % 16 = 15) (y : S1x1024x1408.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 16 = 15) (y0 : Fin 1) (y1 : Fin 1024) (y2 : Fin 1408) (p : Fin 1024) (q : Fin 2816) (hp : p.val = y1.val) (hq : q.val = 1408 * (t.val / 16) + y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelDwupIdeal_ReferenceDwupIdeal := by
  intro m g m' g' _ h
  refine ⟨_, _, Value.run_blocks m g, (θ_run _ _ _).mono (fun r hr c => ⟨?_, ?_, (hr c).2.2⟩) (ReferenceDwupIdeal.Value.run m' g')⟩
  · rw [(hr c).1, (h c).1, (h c).2.1, (h c).2.2.1]
    refine ((dats m 0 c).arrAt_eq_of_coversWhere_of_agree 2 _ (fun β => β (0 : Fin 3) = 0 ∧ 2 ≤ β (2 : Fin 3)) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_pos (by omega), dif_neg (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => β (0 : Fin 3) = 0 ∧ 2 ≤ β (2 : Fin 3)) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_pos (by omega), dif_neg (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelDwupIdeal.Prod

end
-- ==== Proof.RetentionProductGrads.lean ====
module

public import proofs.«01_k».proof.Defs
public import proofs.«01_k».proof.Proof.Gen.KernelRetDwk.Frame
public import proofs.«01_k».proof.Proof.Gen.KernelRetDwkIdeal.Value
public import proofs.«01_k».proof.Proof.Gen.ReferenceRetDwkIdeal.Run
public import proofs.«01_k».proof.Proof.Gen.KernelRetDwv.Frame
public import proofs.«01_k».proof.Proof.Gen.KernelRetDwvIdeal.Value
public import proofs.«01_k».proof.Proof.Gen.ReferenceRetDwvIdeal.Run
public import proofs.«01_k».proof.Proof.Gen.KernelRetDwg.Frame
public import proofs.«01_k».proof.Proof.Gen.KernelRetDwgIdeal.Value
public import proofs.«01_k».proof.Proof.Gen.ReferenceRetDwgIdeal.Run
public import Idealize.ShloMosaic.Lib.Pointwise
public import Idealize.ShloMosaic.Lib.Pipeline.ValueKit

/-! # The gradients of retention's products by the weights -/

@[expose] public section

set_option maxRecDepth 16384

noncomputable section

open Idealize.ShloMosaic Idealize.SL.Sem
open Idealize.ShloMosaic.TcCoe
open Idealize.ShloMosaic.Pipeline (Dat)

/-! ## The gradient by the part of retention's w_in that makes the keys -/

namespace Cert.KernelRetDwkIdeal.Prod
open Cert.KernelRetDwkIdeal.Gen

theorem idx : ∀ t : Fin cfg0.N, win0_0.index t = ![t.val % 32, 0]
    ∧ win0_1.index t = ![t.val % 32, 0]
    ∧ win0_2.index t = ![0, 0, 1]
    ∧ win0_3.index t = ![0, 0, 1] := by
  decide +kernel

theorem frame_kernel : quiescent_KernelRetDwk := fun m g _ => KernelRetDwk.Gen.frame m g
theorem frame_ideal : quiescent_KernelRetDwkIdeal := fun m g _ => Gen.frame m g
theorem frame_reference : quiescent_ReferenceRetDwkIdeal := fun m g _ => (θ_run _ _ _).mono
  (fun r h => ⟨fun c => (h c).2.2, sem_eq_zero_of_no_sems (by decide) r.2⟩) (ReferenceRetDwkIdeal.Value.run m g)

theorem pay1 (y : S1x1024x1024.Idx) : k0_pay1 (F := Ideal) y = 0 := by
  idx_vars y; unfold_payloads; pointwise []

theorem pay2 (v : FVec Ideal S1x1024x1024 .f32) (a : FVec Ideal S512x1024 .f32) (b : FVec Ideal S512x1024 .bf16) (y : S1x1024x1024.Idx) :
    k0_pay2 (F := Ideal) v a b y = v y + ∑ k : Fin 512, a (ix2 k (y 1)) * b (ix2 k (y 2)) := by
  idx_vars y; obtain rfl := Subsingleton.elim y0 0; unfold_payloads; pointwise []

theorem pay3 (v : FVec Ideal S1x1024x1024 .f32) (y : S1x1024x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x1024 .bf16 := m (c.tc.loc main_arg1)

/-- A point's two blocks, and the product of their columns. -/
abbrev xs (t : Fin cfg0.N) : FVec Ideal S512x1024 .f32 := iblk m c 0 t
abbrev ds (t : Fin cfg0.N) : FVec Ideal S512x1024 .bf16 := iblk m c 1 t
abbrev term (t : Fin cfg0.N) (y : S1x1024x1024.Idx) : EReal := ∑ k : Fin 512, xs m c t (ix2 k (y 1)) * ds m c t (ix2 k (y 2))

/-- The sum that a run of 32 points ends with, and its rounded copy. -/
theorem acc (t : Fin cfg0.N) (h : t.val % 32 = 31) (y : S1x1024x1024.Idx) : (outsAt0 m c t.val t.isLt).1 y
    = ∑ s : Fin 32, term m c ⟨32 * (t.val / 32) + s.val, Pipeline.run_point_lt_of_flush t h s⟩ y := by
  rw [Pipeline.eq_sum_fin_of_reset_step_apply_of_flush (fun n h => (outsAt0 m c n h).1) 32 (fun _ => 0) (term m c) ?_ ?_ t h y, zero_add]
  · intro t h0 y
    rw [outsAt0_A m c t h0 (by omega)]; frame_out; rw [pay2, pay1]
  · intro t h0 y
    by_cases h1 : t.val % 32 = 31
    · rw [outsAt0_C m c t h0 h1]; frame_out; rw [pay2]
    · rw [outsAt0_B m c t h0 h1]; frame_out; rw [pay2]
theorem rounded (t : Fin cfg0.N) (h : t.val % 32 = 31) (y : S1x1024x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 32 = 31) (y0 : Fin 1) (y1 : Fin 1024) (y2 : Fin 1024) (p : Fin 1024) (q : Fin 1024) (hp : p.val = y1.val) (hq : q.val = y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelRetDwkIdeal_ReferenceRetDwkIdeal := by
  intro m g m' g' _ h
  refine ⟨_, _, Value.run_blocks m g, (θ_run _ _ _).mono (fun r hr c => ⟨?_, ?_, (hr c).2.2⟩) (ReferenceRetDwkIdeal.Value.run m' g')⟩
  · rw [(hr c).1, (h c).1, (h c).2.1, (h c).2.2.1]
    refine ((dats m 0 c).arrAt_eq_of_coversWhere_of_agree 2 _ (fun β => 1 ≤ β (2 : Fin 3) ∧ β (2 : Fin 3) < 2) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_neg (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => 1 ≤ β (2 : Fin 3) ∧ β (2 : Fin 3) < 2) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_neg (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelRetDwkIdeal.Prod

/-! ## The gradient by the part of retention's w_in that makes the values -/

namespace Cert.KernelRetDwvIdeal.Prod
open Cert.KernelRetDwvIdeal.Gen

theorem idx : ∀ t : Fin cfg0.N, win0_0.index t = ![t.val % 32, 0]
    ∧ win0_1.index t = ![t.val % 32, t.val / 32]
    ∧ win0_2.index t = ![0, 0, t.val / 32 + 2]
    ∧ win0_3.index t = ![0, 0, t.val / 32 + 2] := by
  decide +kernel

theorem frame_kernel : quiescent_KernelRetDwv := fun m g _ => KernelRetDwv.Gen.frame m g
theorem frame_ideal : quiescent_KernelRetDwvIdeal := fun m g _ => Gen.frame m g
theorem frame_reference : quiescent_ReferenceRetDwvIdeal := fun m g _ => (θ_run _ _ _).mono
  (fun r h => ⟨fun c => (h c).2.2, sem_eq_zero_of_no_sems (by decide) r.2⟩) (ReferenceRetDwvIdeal.Value.run m g)

theorem pay1 (y : S1x1024x1024.Idx) : k0_pay1 (F := Ideal) y = 0 := by
  idx_vars y; unfold_payloads; pointwise []

theorem pay2 (v : FVec Ideal S1x1024x1024 .f32) (a : FVec Ideal S512x1024 .f32) (b : FVec Ideal S512x1024 .bf16) (y : S1x1024x1024.Idx) :
    k0_pay2 (F := Ideal) v a b y = v y + ∑ k : Fin 512, a (ix2 k (y 1)) * b (ix2 k (y 2)) := by
  idx_vars y; obtain rfl := Subsingleton.elim y0 0; unfold_payloads; pointwise []

theorem pay3 (v : FVec Ideal S1x1024x1024 .f32) (y : S1x1024x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x2048 .bf16 := m (c.tc.loc main_arg1)

/-- A point's two blocks, and the product of their columns. -/
abbrev xs (t : Fin cfg0.N) : FVec Ideal S512x1024 .f32 := iblk m c 0 t
abbrev ds (t : Fin cfg0.N) : FVec Ideal S512x1024 .bf16 := iblk m c 1 t
abbrev term (t : Fin cfg0.N) (y : S1x1024x1024.Idx) : EReal := ∑ k : Fin 512, xs m c t (ix2 k (y 1)) * ds m c t (ix2 k (y 2))

/-- The sum that a run of 32 points ends with, and its rounded copy. -/
theorem acc (t : Fin cfg0.N) (h : t.val % 32 = 31) (y : S1x1024x1024.Idx) : (outsAt0 m c t.val t.isLt).1 y
    = ∑ s : Fin 32, term m c ⟨32 * (t.val / 32) + s.val, Pipeline.run_point_lt_of_flush t h s⟩ y := by
  rw [Pipeline.eq_sum_fin_of_reset_step_apply_of_flush (fun n h => (outsAt0 m c n h).1) 32 (fun _ => 0) (term m c) ?_ ?_ t h y, zero_add]
  · intro t h0 y
    rw [outsAt0_A m c t h0 (by omega)]; frame_out; rw [pay2, pay1]
  · intro t h0 y
    by_cases h1 : t.val % 32 = 31
    · rw [outsAt0_C m c t h0 h1]; frame_out; rw [pay2]
    · rw [outsAt0_B m c t h0 h1]; frame_out; rw [pay2]
theorem rounded (t : Fin cfg0.N) (h : t.val % 32 = 31) (y : S1x1024x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 32 = 31) (y0 : Fin 1) (y1 : Fin 1024) (y2 : Fin 1024) (p : Fin 1024) (q : Fin 2048) (hp : p.val = y1.val) (hq : q.val = 1024 * (t.val / 32) + y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelRetDwvIdeal_ReferenceRetDwvIdeal := by
  intro m g m' g' _ h
  refine ⟨_, _, Value.run_blocks m g, (θ_run _ _ _).mono (fun r hr c => ⟨?_, ?_, (hr c).2.2⟩) (ReferenceRetDwvIdeal.Value.run m' g')⟩
  · rw [(hr c).1, (h c).1, (h c).2.1, (h c).2.2.1]
    refine ((dats m 0 c).arrAt_eq_of_coversWhere_of_agree 2 _ (fun β => 2 ≤ β (2 : Fin 3) ∧ β (2 : Fin 3) < 4) (by decide +kernel) (fun t hf y => ?_) (fun j hj => ?_)).symm
    · blk_simp
      rw [after0_2]
      have h := (flush0_2 t).mp hf
      idx_vars y
      pointwise []
      blk_simp [idx t]
      have ht : t.val < 64 := t.isLt
      rw [dif_neg (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => 2 ≤ β (2 : Fin 3) ∧ β (2 : Fin 3) < 4) (by decide +kernel) (fun t hf y => ?_) (fun j hj => ?_)).symm
    · blk_simp
      rw [after0_3]
      have h := (flush0_3 t).mp hf
      rw [rounded m c t h]
      idx_vars y
      pointwise []
      blk_simp [idx t]
      have ht : t.val < 64 := t.isLt
      rw [dif_neg (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelRetDwvIdeal.Prod

/-! ## The gradient by the part of retention's w_in that makes the gate -/

namespace Cert.KernelRetDwgIdeal.Prod
open Cert.KernelRetDwgIdeal.Gen

theorem idx : ∀ t : Fin cfg0.N, win0_0.index t = ![t.val % 32, 0]
    ∧ win0_1.index t = ![t.val % 32, t.val / 32]
    ∧ win0_2.index t = ![0, 0, t.val / 32 + 4]
    ∧ win0_3.index t = ![0, 0, t.val / 32 + 4] := by
  decide +kernel

theorem frame_kernel : quiescent_KernelRetDwg := fun m g _ => KernelRetDwg.Gen.frame m g
theorem frame_ideal : quiescent_KernelRetDwgIdeal := fun m g _ => Gen.frame m g
theorem frame_reference : quiescent_ReferenceRetDwgIdeal := fun m g _ => (θ_run _ _ _).mono
  (fun r h => ⟨fun c => (h c).2.2, sem_eq_zero_of_no_sems (by decide) r.2⟩) (ReferenceRetDwgIdeal.Value.run m g)

theorem pay1 (y : S1x1024x1024.Idx) : k0_pay1 (F := Ideal) y = 0 := by
  idx_vars y; unfold_payloads; pointwise []

theorem pay2 (v : FVec Ideal S1x1024x1024 .f32) (a : FVec Ideal S512x1024 .f32) (b : FVec Ideal S512x1024 .bf16) (y : S1x1024x1024.Idx) :
    k0_pay2 (F := Ideal) v a b y = v y + ∑ k : Fin 512, a (ix2 k (y 1)) * b (ix2 k (y 2)) := by
  idx_vars y; obtain rfl := Subsingleton.elim y0 0; unfold_payloads; pointwise []

theorem pay3 (v : FVec Ideal S1x1024x1024 .f32) (y : S1x1024x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x2048 .bf16 := m (c.tc.loc main_arg1)

/-- A point's two blocks, and the product of their columns. -/
abbrev xs (t : Fin cfg0.N) : FVec Ideal S512x1024 .f32 := iblk m c 0 t
abbrev ds (t : Fin cfg0.N) : FVec Ideal S512x1024 .bf16 := iblk m c 1 t
abbrev term (t : Fin cfg0.N) (y : S1x1024x1024.Idx) : EReal := ∑ k : Fin 512, xs m c t (ix2 k (y 1)) * ds m c t (ix2 k (y 2))

/-- The sum that a run of 32 points ends with, and its rounded copy. -/
theorem acc (t : Fin cfg0.N) (h : t.val % 32 = 31) (y : S1x1024x1024.Idx) : (outsAt0 m c t.val t.isLt).1 y
    = ∑ s : Fin 32, term m c ⟨32 * (t.val / 32) + s.val, Pipeline.run_point_lt_of_flush t h s⟩ y := by
  rw [Pipeline.eq_sum_fin_of_reset_step_apply_of_flush (fun n h => (outsAt0 m c n h).1) 32 (fun _ => 0) (term m c) ?_ ?_ t h y, zero_add]
  · intro t h0 y
    rw [outsAt0_A m c t h0 (by omega)]; frame_out; rw [pay2, pay1]
  · intro t h0 y
    by_cases h1 : t.val % 32 = 31
    · rw [outsAt0_C m c t h0 h1]; frame_out; rw [pay2]
    · rw [outsAt0_B m c t h0 h1]; frame_out; rw [pay2]
theorem rounded (t : Fin cfg0.N) (h : t.val % 32 = 31) (y : S1x1024x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 32 = 31) (y0 : Fin 1) (y1 : Fin 1024) (y2 : Fin 1024) (p : Fin 1024) (q : Fin 2048) (hp : p.val = y1.val) (hq : q.val = 1024 * (t.val / 32) + y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelRetDwgIdeal_ReferenceRetDwgIdeal := by
  intro m g m' g' _ h
  refine ⟨_, _, Value.run_blocks m g, (θ_run _ _ _).mono (fun r hr c => ⟨?_, ?_, (hr c).2.2⟩) (ReferenceRetDwgIdeal.Value.run m' g')⟩
  · rw [(hr c).1, (h c).1, (h c).2.1, (h c).2.2.1]
    refine ((dats m 0 c).arrAt_eq_of_coversWhere_of_agree 2 _ (fun β => 4 ≤ β (2 : Fin 3)) (by decide +kernel) (fun t hf y => ?_) (fun j hj => ?_)).symm
    · blk_simp
      rw [after0_2]
      have h := (flush0_2 t).mp hf
      idx_vars y
      pointwise []
      blk_simp [idx t]
      have ht : t.val < 64 := t.isLt
      rw [dif_neg (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => 4 ≤ β (2 : Fin 3)) (by decide +kernel) (fun t hf y => ?_) (fun j hj => ?_)).symm
    · blk_simp
      rw [after0_3]
      have h := (flush0_3 t).mp hf
      rw [rounded m c t h]
      idx_vars y
      pointwise []
      blk_simp [idx t]
      have ht : t.val < 64 := t.isLt
      rw [dif_neg (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelRetDwgIdeal.Prod

end
-- ==== Proof.RecurrenceProductGrads.lean ====
module

public import proofs.«01_k».proof.Defs
public import proofs.«01_k».proof.Proof.Gen.KernelLruDwout.Frame
public import proofs.«01_k».proof.Proof.Gen.KernelLruDwoutIdeal.Value
public import proofs.«01_k».proof.Proof.Gen.ReferenceLruDwoutIdeal.Run
public import proofs.«01_k».proof.Proof.Gen.KernelLruDwg.Frame
public import proofs.«01_k».proof.Proof.Gen.KernelLruDwgIdeal.Value
public import proofs.«01_k».proof.Proof.Gen.ReferenceLruDwgIdeal.Run
public import proofs.«01_k».proof.Proof.Gen.KernelLruDwr.Frame
public import proofs.«01_k».proof.Proof.Gen.KernelLruDwrIdeal.Value
public import proofs.«01_k».proof.Proof.Gen.ReferenceLruDwrIdeal.Run
public import Idealize.ShloMosaic.Lib.Pointwise
public import Idealize.ShloMosaic.Lib.Pipeline.ValueKit

/-! # The gradients of the recurrence's products by the weights -/

@[expose] public section

set_option maxRecDepth 16384

noncomputable section

open Idealize.ShloMosaic Idealize.SL.Sem
open Idealize.ShloMosaic.TcCoe
open Idealize.ShloMosaic.Pipeline (Dat)

/-! ## The gradient by the recurrence's w_out -/

namespace Cert.KernelLruDwoutIdeal.Prod
open Cert.KernelLruDwoutIdeal.Gen

theorem idx : ∀ t : Fin cfg0.N, win0_0.index t = ![t.val % 32, 0]
    ∧ win0_1.index t = ![t.val % 32, 0]
    ∧ win0_2.index t = ![0, 0, 0]
    ∧ win0_3.index t = ![0, 0, 0] := by
  decide +kernel

theorem frame_kernel : quiescent_KernelLruDwout := fun m g _ => KernelLruDwout.Gen.frame m g
theorem frame_ideal : quiescent_KernelLruDwoutIdeal := fun m g _ => Gen.frame m g
theorem frame_reference : quiescent_ReferenceLruDwoutIdeal := fun m g _ => (θ_run _ _ _).mono
  (fun r h => ⟨fun c => (h c).2.2, sem_eq_zero_of_no_sems (by decide) r.2⟩) (ReferenceLruDwoutIdeal.Value.run m g)

theorem pay1 (y : S1x1024x1024.Idx) : k0_pay1 (F := Ideal) y = 0 := by
  idx_vars y; unfold_payloads; pointwise []

theorem pay2 (v : FVec Ideal S1x1024x1024 .f32) (a : FVec Ideal S512x1024 .bf16) (b : FVec Ideal S512x1024 .f32) (y : S1x1024x1024.Idx) :
    k0_pay2 (F := Ideal) v a b y = v y + ∑ k : Fin 512, a (ix2 k (y 1)) * b (ix2 k (y 2)) := by
  idx_vars y; obtain rfl := Subsingleton.elim y0 0; unfold_payloads; pointwise []

theorem pay3 (v : FVec Ideal S1x1024x1024 .f32) (y : S1x1024x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .bf16 := m (c.tc.loc main_arg0)
abbrev right : FVec Ideal S16384x1024 .f32 := m (c.tc.loc main_arg1)

/-- A point's two blocks, and the product of their columns. -/
abbrev xs (t : Fin cfg0.N) : FVec Ideal S512x1024 .bf16 := iblk m c 0 t
abbrev ds (t : Fin cfg0.N) : FVec Ideal S512x1024 .f32 := iblk m c 1 t
abbrev term (t : Fin cfg0.N) (y : S1x1024x1024.Idx) : EReal := ∑ k : Fin 512, xs m c t (ix2 k (y 1)) * ds m c t (ix2 k (y 2))

/-- The sum that a run of 32 points ends with, and its rounded copy. -/
theorem acc (t : Fin cfg0.N) (h : t.val % 32 = 31) (y : S1x1024x1024.Idx) : (outsAt0 m c t.val t.isLt).1 y
    = ∑ s : Fin 32, term m c ⟨32 * (t.val / 32) + s.val, Pipeline.run_point_lt_of_flush t h s⟩ y := by
  rw [Pipeline.eq_sum_fin_of_reset_step_apply_of_flush (fun n h => (outsAt0 m c n h).1) 32 (fun _ => 0) (term m c) ?_ ?_ t h y, zero_add]
  · intro t h0 y
    rw [outsAt0_A m c t h0 (by omega)]; frame_out; rw [pay2, pay1]
  · intro t h0 y
    by_cases h1 : t.val % 32 = 31
    · rw [outsAt0_C m c t h0 h1]; frame_out; rw [pay2]
    · rw [outsAt0_B m c t h0 h1]; frame_out; rw [pay2]
theorem rounded (t : Fin cfg0.N) (h : t.val % 32 = 31) (y : S1x1024x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 32 = 31) (y0 : Fin 1) (y1 : Fin 1024) (y2 : Fin 1024) (p : Fin 1024) (q : Fin 1024) (hp : p.val = y1.val) (hq : q.val = y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelLruDwoutIdeal_ReferenceLruDwoutIdeal := by
  intro m g m' g' _ h
  refine ⟨_, _, Value.run_blocks m g, (θ_run _ _ _).mono (fun r hr c => ⟨?_, ?_, (hr c).2.2⟩) (ReferenceLruDwoutIdeal.Value.run m' g')⟩
  · rw [(hr c).1, (h c).1, (h c).2.1, (h c).2.2.1]
    refine ((dats m 0 c).arrAt_eq_of_coversWhere_of_agree 2 _ (fun β => β (0 : Fin 3) = 0) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => β (0 : Fin 3) = 0) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelLruDwoutIdeal.Prod

/-! ## The gradient by the gate's half of the recurrence's w_in -/

namespace Cert.KernelLruDwgIdeal.Prod
open Cert.KernelLruDwgIdeal.Gen

theorem idx : ∀ t : Fin cfg0.N, win0_0.index t = ![t.val % 32, 0]
    ∧ win0_1.index t = ![t.val % 32, 0]
    ∧ win0_2.index t = ![0, 0, 0]
    ∧ win0_3.index t = ![0, 0, 0] := by
  decide +kernel

theorem frame_kernel : quiescent_KernelLruDwg := fun m g _ => KernelLruDwg.Gen.frame m g
theorem frame_ideal : quiescent_KernelLruDwgIdeal := fun m g _ => Gen.frame m g
theorem frame_reference : quiescent_ReferenceLruDwgIdeal := fun m g _ => (θ_run _ _ _).mono
  (fun r h => ⟨fun c => (h c).2.2, sem_eq_zero_of_no_sems (by decide) r.2⟩) (ReferenceLruDwgIdeal.Value.run m g)

theorem pay1 (y : S1x1024x1024.Idx) : k0_pay1 (F := Ideal) y = 0 := by
  idx_vars y; unfold_payloads; pointwise []

theorem pay2 (v : FVec Ideal S1x1024x1024 .f32) (a : FVec Ideal S512x1024 .f32) (b : FVec Ideal S512x1024 .bf16) (y : S1x1024x1024.Idx) :
    k0_pay2 (F := Ideal) v a b y = v y + ∑ k : Fin 512, a (ix2 k (y 1)) * b (ix2 k (y 2)) := by
  idx_vars y; obtain rfl := Subsingleton.elim y0 0; unfold_payloads; pointwise []

theorem pay3 (v : FVec Ideal S1x1024x1024 .f32) (y : S1x1024x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x1024 .bf16 := m (c.tc.loc main_arg1)

/-- A point's two blocks, and the product of their columns. -/
abbrev xs (t : Fin cfg0.N) : FVec Ideal S512x1024 .f32 := iblk m c 0 t
abbrev ds (t : Fin cfg0.N) : FVec Ideal S512x1024 .bf16 := iblk m c 1 t
abbrev term (t : Fin cfg0.N) (y : S1x1024x1024.Idx) : EReal := ∑ k : Fin 512, xs m c t (ix2 k (y 1)) * ds m c t (ix2 k (y 2))

/-- The sum that a run of 32 points ends with, and its rounded copy. -/
theorem acc (t : Fin cfg0.N) (h : t.val % 32 = 31) (y : S1x1024x1024.Idx) : (outsAt0 m c t.val t.isLt).1 y
    = ∑ s : Fin 32, term m c ⟨32 * (t.val / 32) + s.val, Pipeline.run_point_lt_of_flush t h s⟩ y := by
  rw [Pipeline.eq_sum_fin_of_reset_step_apply_of_flush (fun n h => (outsAt0 m c n h).1) 32 (fun _ => 0) (term m c) ?_ ?_ t h y, zero_add]
  · intro t h0 y
    rw [outsAt0_A m c t h0 (by omega)]; frame_out; rw [pay2, pay1]
  · intro t h0 y
    by_cases h1 : t.val % 32 = 31
    · rw [outsAt0_C m c t h0 h1]; frame_out; rw [pay2]
    · rw [outsAt0_B m c t h0 h1]; frame_out; rw [pay2]
theorem rounded (t : Fin cfg0.N) (h : t.val % 32 = 31) (y : S1x1024x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 32 = 31) (y0 : Fin 1) (y1 : Fin 1024) (y2 : Fin 1024) (p : Fin 1024) (q : Fin 1024) (hp : p.val = y1.val) (hq : q.val = y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelLruDwgIdeal_ReferenceLruDwgIdeal := by
  intro m g m' g' _ h
  refine ⟨_, _, Value.run_blocks m g, (θ_run _ _ _).mono (fun r hr c => ⟨?_, ?_, (hr c).2.2⟩) (ReferenceLruDwgIdeal.Value.run m' g')⟩
  · rw [(hr c).1, (h c).1, (h c).2.1, (h c).2.2.1]
    refine ((dats m 0 c).arrAt_eq_of_coversWhere_of_agree 2 _ (fun β => β (0 : Fin 3) = 0 ∧ β (2 : Fin 3) < 1) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_pos (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => β (0 : Fin 3) = 0 ∧ β (2 : Fin 3) < 1) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_pos (by omega), dif_pos (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelLruDwgIdeal.Prod

/-! ## The gradient by the other half of the recurrence's w_in -/

namespace Cert.KernelLruDwrIdeal.Prod
open Cert.KernelLruDwrIdeal.Gen

theorem idx : ∀ t : Fin cfg0.N, win0_0.index t = ![t.val % 32, 0]
    ∧ win0_1.index t = ![t.val % 32, 0]
    ∧ win0_2.index t = ![0, 0, 1]
    ∧ win0_3.index t = ![0, 0, 1] := by
  decide +kernel

theorem frame_kernel : quiescent_KernelLruDwr := fun m g _ => KernelLruDwr.Gen.frame m g
theorem frame_ideal : quiescent_KernelLruDwrIdeal := fun m g _ => Gen.frame m g
theorem frame_reference : quiescent_ReferenceLruDwrIdeal := fun m g _ => (θ_run _ _ _).mono
  (fun r h => ⟨fun c => (h c).2.2, sem_eq_zero_of_no_sems (by decide) r.2⟩) (ReferenceLruDwrIdeal.Value.run m g)

theorem pay1 (y : S1x1024x1024.Idx) : k0_pay1 (F := Ideal) y = 0 := by
  idx_vars y; unfold_payloads; pointwise []

theorem pay2 (v : FVec Ideal S1x1024x1024 .f32) (a : FVec Ideal S512x1024 .f32) (b : FVec Ideal S512x1024 .bf16) (y : S1x1024x1024.Idx) :
    k0_pay2 (F := Ideal) v a b y = v y + ∑ k : Fin 512, a (ix2 k (y 1)) * b (ix2 k (y 2)) := by
  idx_vars y; obtain rfl := Subsingleton.elim y0 0; unfold_payloads; pointwise []

theorem pay3 (v : FVec Ideal S1x1024x1024 .f32) (y : S1x1024x1024.Idx) : k0_pay3 (F := Ideal) v y = v y := by
  idx_vars y; obtain rfl := Subsingleton.elim y0 0; unfold_payloads; pointwise []

variable (m : (ℓ : Loc nD τ sig) → Buf (Elt Ideal) ℓ) (c : Dev nD)

/-- The two operands. -/
abbrev left : FVec Ideal S16384x1024 .f32 := m (c.tc.loc main_arg0)
abbrev right : FVec Ideal S16384x1024 .bf16 := m (c.tc.loc main_arg1)

/-- A point's two blocks, and the product of their columns. -/
abbrev xs (t : Fin cfg0.N) : FVec Ideal S512x1024 .f32 := iblk m c 0 t
abbrev ds (t : Fin cfg0.N) : FVec Ideal S512x1024 .bf16 := iblk m c 1 t
abbrev term (t : Fin cfg0.N) (y : S1x1024x1024.Idx) : EReal := ∑ k : Fin 512, xs m c t (ix2 k (y 1)) * ds m c t (ix2 k (y 2))

/-- The sum that a run of 32 points ends with, and its rounded copy. -/
theorem acc (t : Fin cfg0.N) (h : t.val % 32 = 31) (y : S1x1024x1024.Idx) : (outsAt0 m c t.val t.isLt).1 y
    = ∑ s : Fin 32, term m c ⟨32 * (t.val / 32) + s.val, Pipeline.run_point_lt_of_flush t h s⟩ y := by
  rw [Pipeline.eq_sum_fin_of_reset_step_apply_of_flush (fun n h => (outsAt0 m c n h).1) 32 (fun _ => 0) (term m c) ?_ ?_ t h y, zero_add]
  · intro t h0 y
    rw [outsAt0_A m c t h0 (by omega)]; frame_out; rw [pay2, pay1]
  · intro t h0 y
    by_cases h1 : t.val % 32 = 31
    · rw [outsAt0_C m c t h0 h1]; frame_out; rw [pay2]
    · rw [outsAt0_B m c t h0 h1]; frame_out; rw [pay2]
theorem rounded (t : Fin cfg0.N) (h : t.val % 32 = 31) (y : S1x1024x1024.Idx) : (outsAt0 m c t.val t.isLt).2 y = (outsAt0 m c t.val t.isLt).1 y := by
  rw [outsAt0_C m c t (by omega) h]; frame_out; rw [pay3]

/-- Row `p` and column `q` of the gradient are in the block that ends at `t`. -/
theorem total (t : Fin cfg0.N) (h : t.val % 32 = 31) (y0 : Fin 1) (y1 : Fin 1024) (y2 : Fin 1024) (p : Fin 1024) (q : Fin 1024) (hp : p.val = y1.val) (hq : q.val = y2.val) :
    (outsAt0 m c t.val t.isLt).1 (ix3 y0 y1 y2) = ∑ x : Fin 16384, right m c (ix2 x q) * left m c (ix2 x p) := by
  refine (acc m c t h _).trans (Fin.sum_mul_add_congr fun s k hl => ?_)
  rw [mul_comm]
  blk_point [iblk, V, idx ⟨_, Pipeline.run_point_lt_of_flush t h s⟩]

theorem algebraic : algebraic_KernelLruDwrIdeal_ReferenceLruDwrIdeal := by
  intro m g m' g' _ h
  refine ⟨_, _, Value.run_blocks m g, (θ_run _ _ _).mono (fun r hr c => ⟨?_, ?_, (hr c).2.2⟩) (ReferenceLruDwrIdeal.Value.run m' g')⟩
  · rw [(hr c).1, (h c).1, (h c).2.1, (h c).2.2.1]
    refine ((dats m 0 c).arrAt_eq_of_coversWhere_of_agree 2 _ (fun β => β (0 : Fin 3) = 0 ∧ 1 ≤ β (2 : Fin 3)) (by decide +kernel) (fun t hf y => ?_) (fun j hj => ?_)).symm
    · blk_simp
      rw [after0_2]
      have h := (flush0_2 t).mp hf
      idx_vars y
      pointwise []
      blk_simp [idx t]
      have ht : t.val < 32 := t.isLt
      rw [dif_pos (by omega), dif_neg (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 2 = m (c.tc.loc main_arg2) := by rw [A_eq]; entry_read; rfl
      rw [e]
      pointwise []
      split_ifs
      all_goals first | omega | blk_point []
  · rw [(hr c).2.1, (h c).1, (h c).2.1, (h c).2.2.2]
    refine ((dats m 0 c).arrAt_eq_of_coversWhere_of_agree 3 _ (fun β => β (0 : Fin 3) = 0 ∧ 1 ≤ β (2 : Fin 3)) (by decide +kernel) (fun t hf y => ?_) (fun j hj => ?_)).symm
    · blk_simp
      rw [after0_3]
      have h := (flush0_3 t).mp hf
      rw [rounded m c t h]
      idx_vars y
      pointwise []
      blk_simp [idx t]
      have ht : t.val < 32 := t.isLt
      rw [dif_pos (by omega), dif_neg (by omega)]
      refine total m c t h _ _ _ _ _ ?_ ?_
      all_goals first | (blk_simp [idx t]; done) | (blk_simp [idx t]; omega) | (dsimp only; omega)
    · blk_simp [Pipeline.Window.cell_apply] at hj ⊢
      idx_vars j
      have e : (dats m 0 c).A 3 = m (c.tc.loc main_arg3) := by rw [A_eq]; entry_read; rfl
      rw [e]
      pointwise []
      split_ifs
      all_goals first | omega | blk_point []

end Cert.KernelLruDwrIdeal.Prod

end
-- ==== Proof.lean ====
/-
The claims of `proofs.«01_k».proof.Defs`: the frames of the kernel, of its ideal text and of the reference, and the equality of
the two ideal programs' results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KerRes
public import proofs.«01_k».proof.Proof.RefVal
public import proofs.«01_k».proof.Proof.Finite
public import proofs.«01_k».proof.Proof.Products
public import proofs.«01_k».proof.Proof.RetentionProducts
public import proofs.«01_k».proof.Proof.RecurrenceProducts
public import proofs.«01_k».proof.Proof.AttentionProducts
public import proofs.«01_k».proof.Proof.ProductGrads
public import proofs.«01_k».proof.Proof.RetentionProductGrads
public import proofs.«01_k».proof.Proof.RecurrenceProductGrads
public import Idealize.ShloMosaic.Adequacy
public import Idealize.ShloMosaic.Init

@[expose] public section

noncomputable section

namespace Cert.Proof

open Idealize.ShloMosaic Idealize.SL.Sem Cert.Kernel

/-- The frame of the ideal program's text over the bit patterns. -/
def framed : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The kernel's text is the ideal program's, so their frames say the same. -/
theorem same : Cert.quiescent_Kernel (hKernel := Cert.Kernel.Gen.facts) = framed := by chain_rfl

/-- The kernel's frame. -/
theorem frame_kernel : Cert.quiescent_Kernel (hKernel := Cert.Kernel.Gen.facts) :=
  same.mpr fun m ρ _ => Cert.KernelIdeal.Ret.frame (F := Bits) m ρ

theorem frame_ideal : Cert.quiescent_KernelIdeal (hKernelIdeal := Cert.KernelIdeal.Gen.facts) := fun m ρ _ => Cert.KernelIdeal.Ret.frame m ρ

theorem frame_reference : Cert.quiescent_ReferenceIdeal (hReferenceIdeal := Cert.ReferenceIdeal.Gen.facts) := fun m ρ _ =>
  (θ_run (Cert.ReferenceIdeal.defs (F := Ideal)) _ _).mono (fun r h => ⟨fun c => ⟨h.1 c _ (by decide), h.1 c _ (by decide), h.1 c _ (by decide), h.1 c _ (by decide)⟩, h.2⟩)
    (Cert.ReferenceIdeal.Ret.frame (F := Ideal) m ρ)

section
variable (m : (ℓ : Loc Cert.KernelIdeal.nD Cert.KernelIdeal.τ Cert.KernelIdeal.sig) → Buf (Elt Ideal) ℓ) (c : Dev Cert.KernelIdeal.nD)

/-- The real entries of proj and dy, and the positions, as the kernel's memory has them. -/
def proj (i j : ℕ) : ℝ :=
  if h : i < 16384 ∧ j < 6144 then
    EReal.toReal (m ((c.tc : Thread Cert.KernelIdeal.nD Cert.KernelIdeal.τ).loc Cert.KernelIdeal.main_arg0) (ix2 ⟨i, h.1⟩ ⟨j, h.2⟩))
  else 0
def dy (i j : ℕ) : ℝ :=
  if h : i < 16384 ∧ j < 2048 then
    EReal.toReal (m ((c.tc : Thread Cert.KernelIdeal.nD Cert.KernelIdeal.τ).loc Cert.KernelIdeal.main_arg3) (ix2 ⟨i, h.1⟩ ⟨j, h.2⟩))
  else 0
def positions (i : ℕ) : ℤ :=
  if h : i < 16384 then (m ((c.tc : Thread Cert.KernelIdeal.nD Cert.KernelIdeal.τ).loc Cert.KernelIdeal.main_arg2) (ix1 ⟨i, h⟩)).toInt else 0

theorem positions_at (i : Fin 16384) :
    (m ((c.tc : Thread Cert.KernelIdeal.nD Cert.KernelIdeal.τ).loc Cert.KernelIdeal.main_arg2) (ix1 i)).toInt = positions m c i := by
  unfold positions; rw [dif_pos i.isLt]

variable (hpre : Cert.Pre_KernelIdeal_finite (hPre_finite := Cert.Pre_finite.Gen.facts) m)
include hpre
theorem proj_at (i : Fin 16384) (j : Fin 6144) :
    m ((c.tc : Thread Cert.KernelIdeal.nD Cert.KernelIdeal.τ).loc Cert.KernelIdeal.main_arg0) (ix2 i j) = ((proj m c i j : ℝ) : EReal) := by
  unfold proj; rw [dif_pos ⟨i.isLt, j.isLt⟩]
  exact Cert.Pre_finite.Ret.proj_real _ _ _ _ (hpre c) (ix2 i j)
theorem dy_at (i : Fin 16384) (j : Fin 2048) :
    m ((c.tc : Thread Cert.KernelIdeal.nD Cert.KernelIdeal.τ).loc Cert.KernelIdeal.main_arg3) (ix2 i j) = ((dy m c i j : ℝ) : EReal) := by
  unfold dy; rw [dif_pos ⟨i.isLt, j.isLt⟩]
  exact Cert.Pre_finite.Ret.dy_real _ _ _ _ (hpre c) (ix2 i j)
end

/-- Both programs leave the same five results. -/
theorem results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hP' : ∀ (c : Dev Cert.KernelIdeal.nD) (i : Fin 16384) (j : Fin 6144),
      m' ((c.tc : Thread Cert.ReferenceIdeal.nD Cert.ReferenceIdeal.τ).loc Cert.ReferenceIdeal.main_arg0) (ix2 i j) = ((proj m c i j : ℝ) : EReal) :=
    fun c i j => (congrFun (hargs c).1 (ix2 i j)).trans (proj_at m c hpre i j)
  have hpos' : ∀ (c : Dev Cert.KernelIdeal.nD) (i : Fin 16384),
      (m' ((c.tc : Thread Cert.ReferenceIdeal.nD Cert.ReferenceIdeal.τ).loc Cert.ReferenceIdeal.main_arg2) (ix1 i)).toInt = positions m c i :=
    fun c i => (congrArg BitVec.toInt (congrFun (hargs c).2.2.1 (ix1 i))).trans (positions_at m c i)
  have hU' : ∀ (c : Dev Cert.KernelIdeal.nD) (i : Fin 16384) (j : Fin 2048),
      m' ((c.tc : Thread Cert.ReferenceIdeal.nD Cert.ReferenceIdeal.τ).loc Cert.ReferenceIdeal.main_arg3) (ix2 i j) = ((dy m c i j : ℝ) : EReal) :=
    fun c i j => (congrFun (hargs c).2.2.2 (ix2 i j)).trans (dy_at m c hpre i j)
  refine ⟨fun c => Cert.KernelIdeal.Ret.Out1 m c (Proc.devRef .tc Cert.KernelIdeal.main_v73_0), fun c => Cert.KernelIdeal.Ret.Out1 m c (Proc.devRef .tc Cert.KernelIdeal.main_v73_1),
    fun c => Cert.KernelIdeal.Ret.Out1 m c (Proc.devRef .tc Cert.KernelIdeal.main_v74_0), fun c => Cert.KernelIdeal.Ret.Out1 m c (Proc.devRef .tc Cert.KernelIdeal.main_v74_1),
    fun c => Cert.KernelIdeal.Ret.Out1 m c (Proc.devRef .tc Cert.KernelIdeal.main_v74_2), ?_, ?_⟩
  · refine (θ_run (Cert.KernelIdeal.defs (F := Ideal)) _ _).mono (fun r h c => ?_) (Cert.KernelIdeal.Ret.run (F := Ideal) m g)
    have hb := fun (b : Ref Cert.KernelIdeal.sig .tc) hb => h.1 c (Proc.devRef .tc b) (Cert.KernelIdeal.Ret.mem_uc b hb)
    exact ⟨hb _ (by decide), hb _ (by decide), hb _ (by decide), hb _ (by decide), hb _ (by decide),
      (hb _ (by decide)).trans (Cert.KernelIdeal.Ret.args_kept m c _ (by decide)), (hb _ (by decide)).trans (Cert.KernelIdeal.Ret.args_kept m c _ (by decide)),
      (hb _ (by decide)).trans (Cert.KernelIdeal.Ret.args_kept m c _ (by decide)), (hb _ (by decide)).trans (Cert.KernelIdeal.Ret.args_kept m c _ (by decide))⟩
  · refine (θ_run (Cert.ReferenceIdeal.defs (F := Ideal)) _ _).mono (fun r h c => ?_) (Cert.ReferenceIdeal.Ret.run (F := Ideal) m' g')
    have hb := fun (b : Ref Cert.ReferenceIdeal.sig .tc) hb => h.1 c b hb
    refine ⟨(hb _ (by decide)).trans ?_, (hb _ (by decide)).trans ?_, (hb _ (by decide)).trans ?_, (hb _ (by decide)).trans ?_, (hb _ (by decide)).trans ?_,
      (hb _ (by decide)).trans (Cert.ReferenceIdeal.Ret.WEnd_arg m' _ (by decide) c), (hb _ (by decide)).trans (Cert.ReferenceIdeal.Ret.WEnd_arg m' _ (by decide) c),
      (hb _ (by decide)).trans (Cert.ReferenceIdeal.Ret.WEnd_arg m' _ (by decide) c), (hb _ (by decide)).trans (Cert.ReferenceIdeal.Ret.WEnd_arg m' _ (by decide) c)⟩
    · refine (Cert.ReferenceIdeal.Ret.end_gated m' c (proj m c) (positions m c) (hP' c) (hpos' c)).trans
        (Eq.trans (funext fun i => congrArg _ (congrFun (hargs c).2.1 (ix1 (i 1)))) (Cert.KernelIdeal.Ret.out_gated m c (proj m c) (positions m c) (proj_at m c hpre) (positions_at m c)).symm)
    · exact (Cert.ReferenceIdeal.Ret.end_y m' c (proj m c) (positions m c) (hP' c) (hpos' c)).trans
        (Cert.KernelIdeal.Ret.out_y m c (proj m c) (positions m c) (proj_at m c hpre) (positions_at m c)).symm
    · exact (Cert.ReferenceIdeal.Ret.end_dq m' c (proj m c) (dy m c) (positions m c) (hP' c) (hpos' c) (hU' c)).trans
        (Cert.KernelIdeal.Ret.out_dq m c (proj m c) (dy m c) (positions m c) (proj_at m c hpre) (positions_at m c) (dy_at m c hpre)).symm
    · exact (Cert.ReferenceIdeal.Ret.end_dk m' c (proj m c) (dy m c) (positions m c) (hP' c) (hpos' c) (hU' c)).trans
        (Cert.KernelIdeal.Ret.out_dk m c (proj m c) (dy m c) (positions m c) (proj_at m c hpre) (positions_at m c) (dy_at m c hpre)).symm
    · exact (Cert.ReferenceIdeal.Ret.end_dv m' c (proj m c) (dy m c) (positions m c) (hP' c) (hpos' c) (hU' c)).trans
        (Cert.KernelIdeal.Ret.out_dv m c (proj m c) (dy m c) (positions m c) (proj_at m c hpre) (positions_at m c) (dy_at m c hpre)).symm

theorem claim : Cert.Claim := ⟨Cert.Kernel.Gen.facts, Cert.KernelIdeal.Gen.facts, Cert.ReferenceIdeal.Gen.facts,
  KernelUp.Gen.facts, KernelUpIdeal.Gen.facts, ReferenceUpIdeal.Gen.facts,
  KernelDown.Gen.facts, KernelDownIdeal.Gen.facts, ReferenceDownIdeal.Gen.facts,
  KernelDa.Gen.facts, KernelDaIdeal.Gen.facts, ReferenceDaIdeal.Gen.facts,
  KernelDx.Gen.facts, KernelDxIdeal.Gen.facts, ReferenceDxIdeal.Gen.facts,
  KernelDwdown.Gen.facts, KernelDwdownIdeal.Gen.facts, ReferenceDwdownIdeal.Gen.facts,
  KernelDwgate.Gen.facts, KernelDwgateIdeal.Gen.facts, ReferenceDwgateIdeal.Gen.facts,
  KernelDwup.Gen.facts, KernelDwupIdeal.Gen.facts, ReferenceDwupIdeal.Gen.facts,
  KernelRetIn.Gen.facts, KernelRetInIdeal.Gen.facts, ReferenceRetInIdeal.Gen.facts,
  KernelRetOut.Gen.facts, KernelRetOutIdeal.Gen.facts, ReferenceRetOutIdeal.Gen.facts,
  KernelRetDgated.Gen.facts, KernelRetDgatedIdeal.Gen.facts, ReferenceRetDgatedIdeal.Gen.facts,
  KernelRetDx.Gen.facts, KernelRetDxIdeal.Gen.facts, ReferenceRetDxIdeal.Gen.facts,
  KernelLruIn.Gen.facts, KernelLruInIdeal.Gen.facts, ReferenceLruInIdeal.Gen.facts,
  KernelLruOut.Gen.facts, KernelLruOutIdeal.Gen.facts, ReferenceLruOutIdeal.Gen.facts,
  KernelDmix.Gen.facts, KernelDmixIdeal.Gen.facts, ReferenceDmixIdeal.Gen.facts,
  KernelLruDx.Gen.facts, KernelLruDxIdeal.Gen.facts, ReferenceLruDxIdeal.Gen.facts,
  KernelMlaIn.Gen.facts, KernelMlaInIdeal.Gen.facts, ReferenceMlaInIdeal.Gen.facts,
  KernelMlaUq.Gen.facts, KernelMlaUqIdeal.Gen.facts, ReferenceMlaUqIdeal.Gen.facts,
  KernelMlaUkv.Gen.facts, KernelMlaUkvIdeal.Gen.facts, ReferenceMlaUkvIdeal.Gen.facts,
  KernelMlaOut.Gen.facts, KernelMlaOutIdeal.Gen.facts, ReferenceMlaOutIdeal.Gen.facts,
  KernelMlaDqn.Gen.facts, KernelMlaDqnIdeal.Gen.facts, ReferenceMlaDqnIdeal.Gen.facts,
  KernelMlaDkvn.Gen.facts, KernelMlaDkvnIdeal.Gen.facts, ReferenceMlaDkvnIdeal.Gen.facts,
  KernelRetDwk.Gen.facts, KernelRetDwkIdeal.Gen.facts, ReferenceRetDwkIdeal.Gen.facts,
  KernelRetDwv.Gen.facts, KernelRetDwvIdeal.Gen.facts, ReferenceRetDwvIdeal.Gen.facts,
  KernelRetDwg.Gen.facts, KernelRetDwgIdeal.Gen.facts, ReferenceRetDwgIdeal.Gen.facts,
  KernelLruDwout.Gen.facts, KernelLruDwoutIdeal.Gen.facts, ReferenceLruDwoutIdeal.Gen.facts,
  KernelLruDwg.Gen.facts, KernelLruDwgIdeal.Gen.facts, ReferenceLruDwgIdeal.Gen.facts,
  KernelLruDwr.Gen.facts, KernelLruDwrIdeal.Gen.facts, ReferenceLruDwrIdeal.Gen.facts, Cert.Pre_finite.Gen.facts,
  frame_kernel, frame_ideal, fun m ρ _ => frame_ideal m ρ trivial, frame_reference, fun m ρ _ => frame_reference m ρ trivial,
  KernelUpIdeal.Prod.frame_kernel, KernelUpIdeal.Prod.frame_ideal, KernelUpIdeal.Prod.frame_reference,
  KernelDownIdeal.Prod.frame_kernel, KernelDownIdeal.Prod.frame_ideal, KernelDownIdeal.Prod.frame_reference,
  KernelDaIdeal.Prod.frame_kernel, KernelDaIdeal.Prod.frame_ideal, KernelDaIdeal.Prod.frame_reference,
  KernelDxIdeal.Prod.frame_kernel, KernelDxIdeal.Prod.frame_ideal, KernelDxIdeal.Prod.frame_reference,
  KernelDwdownIdeal.Prod.frame_kernel, KernelDwdownIdeal.Prod.frame_ideal, KernelDwdownIdeal.Prod.frame_reference,
  KernelDwgateIdeal.Prod.frame_kernel, KernelDwgateIdeal.Prod.frame_ideal, KernelDwgateIdeal.Prod.frame_reference,
  KernelDwupIdeal.Prod.frame_kernel, KernelDwupIdeal.Prod.frame_ideal, KernelDwupIdeal.Prod.frame_reference,
  KernelRetInIdeal.Prod.frame_kernel, KernelRetInIdeal.Prod.frame_ideal, KernelRetInIdeal.Prod.frame_reference,
  KernelRetOutIdeal.Prod.frame_kernel, KernelRetOutIdeal.Prod.frame_ideal, KernelRetOutIdeal.Prod.frame_reference,
  KernelRetDgatedIdeal.Prod.frame_kernel, KernelRetDgatedIdeal.Prod.frame_ideal, KernelRetDgatedIdeal.Prod.frame_reference,
  KernelRetDxIdeal.Prod.frame_kernel, KernelRetDxIdeal.Prod.frame_ideal, KernelRetDxIdeal.Prod.frame_reference,
  KernelLruInIdeal.Prod.frame_kernel, KernelLruInIdeal.Prod.frame_ideal, KernelLruInIdeal.Prod.frame_reference,
  KernelLruOutIdeal.Prod.frame_kernel, KernelLruOutIdeal.Prod.frame_ideal, KernelLruOutIdeal.Prod.frame_reference,
  KernelDmixIdeal.Prod.frame_kernel, KernelDmixIdeal.Prod.frame_ideal, KernelDmixIdeal.Prod.frame_reference,
  KernelLruDxIdeal.Prod.frame_kernel, KernelLruDxIdeal.Prod.frame_ideal, KernelLruDxIdeal.Prod.frame_reference,
  KernelMlaInIdeal.Prod.frame_kernel, KernelMlaInIdeal.Prod.frame_ideal, KernelMlaInIdeal.Prod.frame_reference,
  KernelMlaUqIdeal.Prod.frame_kernel, KernelMlaUqIdeal.Prod.frame_ideal, KernelMlaUqIdeal.Prod.frame_reference,
  KernelMlaUkvIdeal.Prod.frame_kernel, KernelMlaUkvIdeal.Prod.frame_ideal, KernelMlaUkvIdeal.Prod.frame_reference,
  KernelMlaOutIdeal.Prod.frame_kernel, KernelMlaOutIdeal.Prod.frame_ideal, KernelMlaOutIdeal.Prod.frame_reference,
  KernelMlaDqnIdeal.Prod.frame_kernel, KernelMlaDqnIdeal.Prod.frame_ideal, KernelMlaDqnIdeal.Prod.frame_reference,
  KernelMlaDkvnIdeal.Prod.frame_kernel, KernelMlaDkvnIdeal.Prod.frame_ideal, KernelMlaDkvnIdeal.Prod.frame_reference,
  KernelRetDwkIdeal.Prod.frame_kernel, KernelRetDwkIdeal.Prod.frame_ideal, KernelRetDwkIdeal.Prod.frame_reference,
  KernelRetDwvIdeal.Prod.frame_kernel, KernelRetDwvIdeal.Prod.frame_ideal, KernelRetDwvIdeal.Prod.frame_reference,
  KernelRetDwgIdeal.Prod.frame_kernel, KernelRetDwgIdeal.Prod.frame_ideal, KernelRetDwgIdeal.Prod.frame_reference,
  KernelLruDwoutIdeal.Prod.frame_kernel, KernelLruDwoutIdeal.Prod.frame_ideal, KernelLruDwoutIdeal.Prod.frame_reference,
  KernelLruDwgIdeal.Prod.frame_kernel, KernelLruDwgIdeal.Prod.frame_ideal, KernelLruDwgIdeal.Prod.frame_reference,
  KernelLruDwrIdeal.Prod.frame_kernel, KernelLruDwrIdeal.Prod.frame_ideal, KernelLruDwrIdeal.Prod.frame_reference,
  trivial, results, trivial, KernelUpIdeal.Prod.algebraic,
  trivial, KernelDownIdeal.Prod.algebraic,
  trivial, KernelDaIdeal.Prod.algebraic,
  trivial, KernelDxIdeal.Prod.algebraic,
  trivial, KernelDwdownIdeal.Prod.algebraic,
  trivial, KernelDwgateIdeal.Prod.algebraic,
  trivial, KernelDwupIdeal.Prod.algebraic,
  trivial, KernelRetInIdeal.Prod.algebraic,
  trivial, KernelRetOutIdeal.Prod.algebraic,
  trivial, KernelRetDgatedIdeal.Prod.algebraic,
  trivial, KernelRetDxIdeal.Prod.algebraic,
  trivial, KernelLruInIdeal.Prod.algebraic,
  trivial, KernelLruOutIdeal.Prod.algebraic,
  trivial, KernelDmixIdeal.Prod.algebraic,
  trivial, KernelLruDxIdeal.Prod.algebraic,
  trivial, KernelMlaInIdeal.Prod.algebraic,
  trivial, KernelMlaUqIdeal.Prod.algebraic,
  trivial, KernelMlaUkvIdeal.Prod.algebraic,
  trivial, KernelMlaOutIdeal.Prod.algebraic,
  trivial, KernelMlaDqnIdeal.Prod.algebraic,
  trivial, KernelMlaDkvnIdeal.Prod.algebraic,
  trivial, KernelRetDwkIdeal.Prod.algebraic,
  trivial, KernelRetDwvIdeal.Prod.algebraic,
  trivial, KernelRetDwgIdeal.Prod.algebraic,
  trivial, KernelLruDwoutIdeal.Prod.algebraic,
  trivial, KernelLruDwgIdeal.Prod.algebraic,
  trivial, KernelLruDwrIdeal.Prod.algebraic⟩

end Cert.Proof

end
